-- ==== Defs.lean ====
def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormIdeal_prenorm_finite [hPre_prenorm_finite : Cert.Pre_prenorm_finite.Facts] (m : (ℓ : Loc Cert.PrenormIdeal.nD Cert.PrenormIdeal.τ Cert.PrenormIdeal.sig) → Buf (Elt Ideal) ℓ) : Prop :=
  ∀ c : Dev Cert.PrenormIdeal.nD,
    (Cert.Pre_prenorm_finite.fn (F := Ideal) (m ((c.tc : Thread Cert.PrenormIdeal.nD Cert.PrenormIdeal.τ).loc Cert.PrenormIdeal.main_arg0)) (m ((c.tc : Thread Cert.PrenormIdeal.nD Cert.PrenormIdeal.τ).loc Cert.PrenormIdeal.main_arg1)) (m ((c.tc : Thread Cert.PrenormIdeal.nD Cert.PrenormIdeal.τ).loc Cert.PrenormIdeal.main_arg2)) (m ((c.tc : Thread Cert.PrenormIdeal.nD Cert.PrenormIdeal.τ).loc Cert.PrenormIdeal.main_arg3)) (m ((c.tc : Thread Cert.PrenormIdeal.nD Cert.PrenormIdeal.τ).loc Cert.PrenormIdeal.main_arg4)) (m ((c.tc : Thread Cert.PrenormIdeal.nD Cert.PrenormIdeal.τ).loc Cert.PrenormIdeal.main_arg5)) (m ((c.tc : Thread Cert.PrenormIdeal.nD Cert.PrenormIdeal.τ).loc Cert.PrenormIdeal.main_arg6)) (m ((c.tc : Thread Cert.PrenormIdeal.nD Cert.PrenormIdeal.τ).loc Cert.PrenormIdeal.main_arg7)) (m ((c.tc : Thread Cert.PrenormIdeal.nD Cert.PrenormIdeal.τ).loc Cert.PrenormIdeal.main_arg8)) (m ((c.tc : Thread Cert.PrenormIdeal.nD Cert.PrenormIdeal.τ).loc Cert.PrenormIdeal.main_arg9)) (m ((c.tc : Thread Cert.PrenormIdeal.nD Cert.PrenormIdeal.τ).loc Cert.PrenormIdeal.main_arg10))) = (fun _ => 1#1)

def Pre_PrenormRefIdeal (m : (ℓ : Loc Cert.PrenormRefIdeal.nD Cert.PrenormRefIdeal.τ Cert.PrenormRefIdeal.sig) → Buf (Elt Ideal) ℓ) : Prop :=
  True

def Pre_PrenormRefIdeal_prenorm_finite [hPre_prenorm_finite : Cert.Pre_prenorm_finite.Facts] (m : (ℓ : Loc Cert.PrenormRefIdeal.nD Cert.PrenormRefIdeal.τ Cert.PrenormRefIdeal.sig) → Buf (Elt Ideal) ℓ) : Prop :=
  ∀ c : Dev Cert.PrenormRefIdeal.nD,
    (Cert.Pre_prenorm_finite.fn (F := Ideal) (m ((c.tc : Thread Cert.PrenormRefIdeal.nD Cert.PrenormRefIdeal.τ).loc Cert.PrenormRefIdeal.main_arg0)) (m ((c.tc : Thread Cert.PrenormRefIdeal.nD Cert.PrenormRefIdeal.τ).loc Cert.PrenormRefIdeal.main_arg1)) (m ((c.tc : Thread Cert.PrenormRefIdeal.nD Cert.PrenormRefIdeal.τ).loc Cert.PrenormRefIdeal.main_arg2)) (m ((c.tc : Thread Cert.PrenormRefIdeal.nD Cert.PrenormRefIdeal.τ).loc Cert.PrenormRefIdeal.main_arg3)) (m ((c.tc : Thread Cert.PrenormRefIdeal.nD Cert.PrenormRefIdeal.τ).loc Cert.PrenormRefIdeal.main_arg4)) (m ((c.tc : Thread Cert.PrenormRefIdeal.nD Cert.PrenormRefIdeal.τ).loc Cert.PrenormRefIdeal.main_arg5)) (m ((c.tc : Thread Cert.PrenormRefIdeal.nD Cert.PrenormRefIdeal.τ).loc Cert.PrenormRefIdeal.main_arg6)) (m ((c.tc : Thread Cert.PrenormRefIdeal.nD Cert.PrenormRefIdeal.τ).loc Cert.PrenormRefIdeal.main_arg7)) (m ((c.tc : Thread Cert.PrenormRefIdeal.nD Cert.PrenormRefIdeal.τ).loc Cert.PrenormRefIdeal.main_arg8)) (m ((c.tc : Thread Cert.PrenormRefIdeal.nD Cert.PrenormRefIdeal.τ).loc Cert.PrenormRefIdeal.main_arg9)) (m ((c.tc : Thread Cert.PrenormRefIdeal.nD Cert.PrenormRefIdeal.τ).loc Cert.PrenormRefIdeal.main_arg10))) = (fun _ => 1#1)

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetRefIdeal (m : (ℓ : Loc Cert.ForgetRefIdeal.nD Cert.ForgetRefIdeal.τ Cert.ForgetRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchIdeal_branch_finite [hPre_branch_finite : Cert.Pre_branch_finite.Facts] (m : (ℓ : Loc Cert.BranchIdeal.nD Cert.BranchIdeal.τ Cert.BranchIdeal.sig) → Buf (Elt Ideal) ℓ) : Prop :=
  ∀ c : Dev Cert.BranchIdeal.nD,
    (Cert.Pre_branch_finite.fn (F := Ideal) (m ((c.tc : Thread Cert.BranchIdeal.nD Cert.BranchIdeal.τ).loc Cert.BranchIdeal.main_arg0)) (m ((c.tc : Thread Cert.BranchIdeal.nD Cert.BranchIdeal.τ).loc Cert.BranchIdeal.main_arg1)) (m ((c.tc : Thread Cert.BranchIdeal.nD Cert.BranchIdeal.τ).loc Cert.BranchIdeal.main_arg2)) (m ((c.tc : Thread Cert.BranchIdeal.nD Cert.BranchIdeal.τ).loc Cert.BranchIdeal.main_arg3)) (m ((c.tc : Thread Cert.BranchIdeal.nD Cert.BranchIdeal.τ).loc Cert.BranchIdeal.main_arg4)) (m ((c.tc : Thread Cert.BranchIdeal.nD Cert.BranchIdeal.τ).loc Cert.BranchIdeal.main_arg5)) (m ((c.tc : Thread Cert.BranchIdeal.nD Cert.BranchIdeal.τ).loc Cert.BranchIdeal.main_arg6))) = (fun _ => 1#1)

def Pre_BranchRefIdeal (m : (ℓ : Loc Cert.BranchRefIdeal.nD Cert.BranchRefIdeal.τ Cert.BranchRefIdeal.sig) → Buf (Elt Ideal) ℓ) : Prop :=
  True

def Pre_BranchRefIdeal_branch_finite [hPre_branch_finite : Cert.Pre_branch_finite.Facts] (m : (ℓ : Loc Cert.BranchRefIdeal.nD Cert.BranchRefIdeal.τ Cert.BranchRefIdeal.sig) → Buf (Elt Ideal) ℓ) : Prop :=
  ∀ c : Dev Cert.BranchRefIdeal.nD,
    (Cert.Pre_branch_finite.fn (F := Ideal) (m ((c.tc : Thread Cert.BranchRefIdeal.nD Cert.BranchRefIdeal.τ).loc Cert.BranchRefIdeal.main_arg0)) (m ((c.tc : Thread Cert.BranchRefIdeal.nD Cert.BranchRefIdeal.τ).loc Cert.BranchRefIdeal.main_arg1)) (m ((c.tc : Thread Cert.BranchRefIdeal.nD Cert.BranchRefIdeal.τ).loc Cert.BranchRefIdeal.main_arg2)) (m ((c.tc : Thread Cert.BranchRefIdeal.nD Cert.BranchRefIdeal.τ).loc Cert.BranchRefIdeal.main_arg3)) (m ((c.tc : Thread Cert.BranchRefIdeal.nD Cert.BranchRefIdeal.τ).loc Cert.BranchRefIdeal.main_arg4)) (m ((c.tc : Thread Cert.BranchRefIdeal.nD Cert.BranchRefIdeal.τ).loc Cert.BranchRefIdeal.main_arg5)) (m ((c.tc : Thread Cert.BranchRefIdeal.nD Cert.BranchRefIdeal.τ).loc Cert.BranchRefIdeal.main_arg6))) = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7)) (m ((c.tc : Thread Cert.HeadIdeal.nD Cert.HeadIdeal.τ).loc Cert.HeadIdeal.main_arg8))) = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7)) (m ((c.tc : Thread Cert.HeadRefIdeal.nD Cert.HeadRefIdeal.τ).loc Cert.HeadRefIdeal.main_arg8))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_Lru (m : (ℓ : Loc Cert.Lru.nD Cert.Lru.τ Cert.Lru.sig) → Buf (Elt Bits) ℓ) : Prop :=
  True

def Pre_LruIdeal (m : (ℓ : Loc Cert.LruIdeal.nD Cert.LruIdeal.τ Cert.LruIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Residual (m : (ℓ : Loc Cert.Residual.nD Cert.Residual.τ Cert.Residual.sig) → Buf (Elt Bits) ℓ) : Prop :=
  True

def Pre_ResidualIdeal (m : (ℓ : Loc Cert.ResidualIdeal.nD Cert.ResidualIdeal.τ Cert.ResidualIdeal.sig) → Buf (Elt Ideal) ℓ) : Prop :=
  True

def Pre_ResidualRefIdeal (m : (ℓ : Loc Cert.ResidualRefIdeal.nD Cert.ResidualRefIdeal.τ Cert.ResidualRefIdeal.sig) → Buf (Elt Ideal) ℓ) : Prop :=
  True

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3)
      ∧ r.2.mem ((c.tc : Thread Cert.Prenorm.nD Cert.Prenorm.τ).loc Cert.Prenorm.main_arg4) = m ((c.tc : Thread Cert.Prenorm.nD Cert.Prenorm.τ).loc Cert.Prenorm.main_arg4)
      ∧ r.2.mem ((c.tc : Thread Cert.Prenorm.nD Cert.Prenorm.τ).loc Cert.Prenorm.main_arg5) = m ((c.tc : Thread Cert.Prenorm.nD Cert.Prenorm.τ).loc Cert.Prenorm.main_arg5)
      ∧ r.2.mem ((c.tc : Thread Cert.Prenorm.nD Cert.Prenorm.τ).loc Cert.Prenorm.main_arg6) = m ((c.tc : Thread Cert.Prenorm.nD Cert.Prenorm.τ).loc Cert.Prenorm.main_arg6)
      ∧ r.2.mem ((c.tc : Thread Cert.Prenorm.nD Cert.Prenorm.τ).loc Cert.Prenorm.main_arg7) = m ((c.tc : Thread Cert.Prenorm.nD Cert.Prenorm.τ).loc Cert.Prenorm.main_arg7)
      ∧ r.2.mem ((c.tc : Thread Cert.Prenorm.nD Cert.Prenorm.τ).loc Cert.Prenorm.main_arg8) = m ((c.tc : Thread Cert.Prenorm.nD Cert.Prenorm.τ).loc Cert.Prenorm.main_arg8)
      ∧ r.2.mem ((c.tc : Thread Cert.Prenorm.nD Cert.Prenorm.τ).loc Cert.Prenorm.main_arg9) = m ((c.tc : Thread Cert.Prenorm.nD Cert.Prenorm.τ).loc Cert.Prenorm.main_arg9)
      ∧ r.2.mem ((c.tc : Thread Cert.Prenorm.nD Cert.Prenorm.τ).loc Cert.Prenorm.main_arg10) = m ((c.tc : Thread Cert.Prenorm.nD Cert.Prenorm.τ).loc Cert.Prenorm.main_arg10))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4)
      ∧ r.2.mem ((c.tc : Thread Cert.PrenormIdeal.nD Cert.PrenormIdeal.τ).loc Cert.PrenormIdeal.main_arg5) = m ((c.tc : Thread Cert.PrenormIdeal.nD Cert.PrenormIdeal.τ).loc Cert.PrenormIdeal.main_arg5)
      ∧ r.2.mem ((c.tc : Thread Cert.PrenormIdeal.nD Cert.PrenormIdeal.τ).loc Cert.PrenormIdeal.main_arg6) = m ((c.tc : Thread Cert.PrenormIdeal.nD Cert.PrenormIdeal.τ).loc Cert.PrenormIdeal.main_arg6)
      ∧ r.2.mem ((c.tc : Thread Cert.PrenormIdeal.nD Cert.PrenormIdeal.τ).loc Cert.PrenormIdeal.main_arg7) = m ((c.tc : Thread Cert.PrenormIdeal.nD Cert.PrenormIdeal.τ).loc Cert.PrenormIdeal.main_arg7)
      ∧ r.2.mem ((c.tc : Thread Cert.PrenormIdeal.nD Cert.PrenormIdeal.τ).loc Cert.PrenormIdeal.main_arg8) = m ((c.tc : Thread Cert.PrenormIdeal.nD Cert.PrenormIdeal.τ).loc Cert.PrenormIdeal.main_arg8)
      ∧ r.2.mem ((c.tc : Thread Cert.PrenormIdeal.nD Cert.PrenormIdeal.τ).loc Cert.PrenormIdeal.main_arg9) = m ((c.tc : Thread Cert.PrenormIdeal.nD Cert.PrenormIdeal.τ).loc Cert.PrenormIdeal.main_arg9)
      ∧ r.2.mem ((c.tc : Thread Cert.PrenormIdeal.nD Cert.PrenormIdeal.τ).loc Cert.PrenormIdeal.main_arg10) = m ((c.tc : Thread Cert.PrenormIdeal.nD Cert.PrenormIdeal.τ).loc Cert.PrenormIdeal.main_arg10))
      ∧ r.2.sem = fun _ => 0)

def quiescent_PrenormIdeal_pre_prenorm_finite [hPrenormIdeal : Cert.PrenormIdeal.Facts] [hPre_prenorm_finite : Cert.Pre_prenorm_finite.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal_prenorm_finite m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
      ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4)
      ∧ r.2.mem ((c.tc : Thread Cert.PrenormIdeal.nD Cert.PrenormIdeal.τ).loc Cert.PrenormIdeal.main_arg5) = m ((c.tc : Thread Cert.PrenormIdeal.nD Cert.PrenormIdeal.τ).loc Cert.PrenormIdeal.main_arg5)
      ∧ r.2.mem ((c.tc : Thread Cert.PrenormIdeal.nD Cert.PrenormIdeal.τ).loc Cert.PrenormIdeal.main_arg6) = m ((c.tc : Thread Cert.PrenormIdeal.nD Cert.PrenormIdeal.τ).loc Cert.PrenormIdeal.main_arg6)
      ∧ r.2.mem ((c.tc : Thread Cert.PrenormIdeal.nD Cert.PrenormIdeal.τ).loc Cert.PrenormIdeal.main_arg7) = m ((c.tc : Thread Cert.PrenormIdeal.nD Cert.PrenormIdeal.τ).loc Cert.PrenormIdeal.main_arg7)
      ∧ r.2.mem ((c.tc : Thread Cert.PrenormIdeal.nD Cert.PrenormIdeal.τ).loc Cert.PrenormIdeal.main_arg8) = m ((c.tc : Thread Cert.PrenormIdeal.nD Cert.PrenormIdeal.τ).loc Cert.PrenormIdeal.main_arg8)
      ∧ r.2.mem ((c.tc : Thread Cert.PrenormIdeal.nD Cert.PrenormIdeal.τ).loc Cert.PrenormIdeal.main_arg9) = m ((c.tc : Thread Cert.PrenormIdeal.nD Cert.PrenormIdeal.τ).loc Cert.PrenormIdeal.main_arg9)
      ∧ r.2.mem ((c.tc : Thread Cert.PrenormIdeal.nD Cert.PrenormIdeal.τ).loc Cert.PrenormIdeal.main_arg10) = m ((c.tc : Thread Cert.PrenormIdeal.nD Cert.PrenormIdeal.τ).loc Cert.PrenormIdeal.main_arg10))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3)
      ∧ r.2.mem ((c.tc : Thread Cert.PrenormRefIdeal.nD Cert.PrenormRefIdeal.τ).loc Cert.PrenormRefIdeal.main_arg4) = m ((c.tc : Thread Cert.PrenormRefIdeal.nD Cert.PrenormRefIdeal.τ).loc Cert.PrenormRefIdeal.main_arg4)
      ∧ r.2.mem ((c.tc : Thread Cert.PrenormRefIdeal.nD Cert.PrenormRefIdeal.τ).loc Cert.PrenormRefIdeal.main_arg5) = m ((c.tc : Thread Cert.PrenormRefIdeal.nD Cert.PrenormRefIdeal.τ).loc Cert.PrenormRefIdeal.main_arg5)
      ∧ r.2.mem ((c.tc : Thread Cert.PrenormRefIdeal.nD Cert.PrenormRefIdeal.τ).loc Cert.PrenormRefIdeal.main_arg6) = m ((c.tc : Thread Cert.PrenormRefIdeal.nD Cert.PrenormRefIdeal.τ).loc Cert.PrenormRefIdeal.main_arg6)
      ∧ r.2.mem ((c.tc : Thread Cert.PrenormRefIdeal.nD Cert.PrenormRefIdeal.τ).loc Cert.PrenormRefIdeal.main_arg7) = m ((c.tc : Thread Cert.PrenormRefIdeal.nD Cert.PrenormRefIdeal.τ).loc Cert.PrenormRefIdeal.main_arg7)
      ∧ r.2.mem ((c.tc : Thread Cert.PrenormRefIdeal.nD Cert.PrenormRefIdeal.τ).loc Cert.PrenormRefIdeal.main_arg8) = m ((c.tc : Thread Cert.PrenormRefIdeal.nD Cert.PrenormRefIdeal.τ).loc Cert.PrenormRefIdeal.main_arg8)
      ∧ r.2.mem ((c.tc : Thread Cert.PrenormRefIdeal.nD Cert.PrenormRefIdeal.τ).loc Cert.PrenormRefIdeal.main_arg9) = m ((c.tc : Thread Cert.PrenormRefIdeal.nD Cert.PrenormRefIdeal.τ).loc Cert.PrenormRefIdeal.main_arg9)
      ∧ r.2.mem ((c.tc : Thread Cert.PrenormRefIdeal.nD Cert.PrenormRefIdeal.τ).loc Cert.PrenormRefIdeal.main_arg10) = m ((c.tc : Thread Cert.PrenormRefIdeal.nD Cert.PrenormRefIdeal.τ).loc Cert.PrenormRefIdeal.main_arg10))
      ∧ r.2.sem = fun _ => 0)

def quiescent_PrenormRefIdeal_pre_prenorm_finite [hPrenormRefIdeal : Cert.PrenormRefIdeal.Facts] [hPre_prenorm_finite : Cert.Pre_prenorm_finite.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal_prenorm_finite m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3)
      ∧ r.2.mem ((c.tc : Thread Cert.PrenormRefIdeal.nD Cert.PrenormRefIdeal.τ).loc Cert.PrenormRefIdeal.main_arg4) = m ((c.tc : Thread Cert.PrenormRefIdeal.nD Cert.PrenormRefIdeal.τ).loc Cert.PrenormRefIdeal.main_arg4)
      ∧ r.2.mem ((c.tc : Thread Cert.PrenormRefIdeal.nD Cert.PrenormRefIdeal.τ).loc Cert.PrenormRefIdeal.main_arg5) = m ((c.tc : Thread Cert.PrenormRefIdeal.nD Cert.PrenormRefIdeal.τ).loc Cert.PrenormRefIdeal.main_arg5)
      ∧ r.2.mem ((c.tc : Thread Cert.PrenormRefIdeal.nD Cert.PrenormRefIdeal.τ).loc Cert.PrenormRefIdeal.main_arg6) = m ((c.tc : Thread Cert.PrenormRefIdeal.nD Cert.PrenormRefIdeal.τ).loc Cert.PrenormRefIdeal.main_arg6)
      ∧ r.2.mem ((c.tc : Thread Cert.PrenormRefIdeal.nD Cert.PrenormRefIdeal.τ).loc Cert.PrenormRefIdeal.main_arg7) = m ((c.tc : Thread Cert.PrenormRefIdeal.nD Cert.PrenormRefIdeal.τ).loc Cert.PrenormRefIdeal.main_arg7)
      ∧ r.2.mem ((c.tc : Thread Cert.PrenormRefIdeal.nD Cert.PrenormRefIdeal.τ).loc Cert.PrenormRefIdeal.main_arg8) = m ((c.tc : Thread Cert.PrenormRefIdeal.nD Cert.PrenormRefIdeal.τ).loc Cert.PrenormRefIdeal.main_arg8)
      ∧ r.2.mem ((c.tc : Thread Cert.PrenormRefIdeal.nD Cert.PrenormRefIdeal.τ).loc Cert.PrenormRefIdeal.main_arg9) = m ((c.tc : Thread Cert.PrenormRefIdeal.nD Cert.PrenormRefIdeal.τ).loc Cert.PrenormRefIdeal.main_arg9)
      ∧ r.2.mem ((c.tc : Thread Cert.PrenormRefIdeal.nD Cert.PrenormRefIdeal.τ).loc Cert.PrenormRefIdeal.main_arg10) = m ((c.tc : Thread Cert.PrenormRefIdeal.nD Cert.PrenormRefIdeal.τ).loc Cert.PrenormRefIdeal.main_arg10))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2)
      ∧ r.2.mem ((c.tc : Thread Cert.Forget.nD Cert.Forget.τ).loc Cert.Forget.main_arg3) = m ((c.tc : Thread Cert.Forget.nD Cert.Forget.τ).loc Cert.Forget.main_arg3))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
      ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ r.2.sem = fun _ => 0)

def quiescent_ForgetRefIdeal [hForgetRefIdeal : Cert.ForgetRefIdeal.Facts] : Prop :=
  ∀ (m : (ℓ : Loc Cert.ForgetRefIdeal.nD Cert.ForgetRefIdeal.τ Cert.ForgetRefIdeal.sig) → Buf (Elt Ideal) ℓ) (g : Dev Cert.ForgetRefIdeal.nD → PrngReg), Pre_ForgetRefIdeal m →
    θ_run (Cert.ForgetRefIdeal.defs (F := Ideal)) (onTc (τ := Cert.ForgetRefIdeal.τ) (Cert.ForgetRefIdeal.main (F := Ideal))) ⟨m, fun _ => 0, g⟩ (fun r => (∀ c : Dev Cert.ForgetRefIdeal.nD,
      r.2.mem ((c.tc : Thread Cert.ForgetRefIdeal.nD Cert.ForgetRefIdeal.τ).loc Cert.ForgetRefIdeal.main_arg0) = m ((c.tc : Thread Cert.ForgetRefIdeal.nD Cert.ForgetRefIdeal.τ).loc Cert.ForgetRefIdeal.main_arg0)
      ∧ r.2.mem ((c.tc : Thread Cert.ForgetRefIdeal.nD Cert.ForgetRefIdeal.τ).loc Cert.ForgetRefIdeal.main_arg1) = m ((c.tc : Thread Cert.ForgetRefIdeal.nD Cert.ForgetRefIdeal.τ).loc Cert.ForgetRefIdeal.main_arg1)
      ∧ r.2.mem ((c.tc : Thread Cert.ForgetRefIdeal.nD Cert.ForgetRefIdeal.τ).loc Cert.ForgetRefIdeal.main_arg2) = m ((c.tc : Thread Cert.ForgetRefIdeal.nD Cert.ForgetRefIdeal.τ).loc Cert.ForgetRefIdeal.main_arg2)
      ∧ r.2.mem ((c.tc : Thread Cert.ForgetRefIdeal.nD Cert.ForgetRefIdeal.τ).loc Cert.ForgetRefIdeal.main_arg3) = m ((c.tc : Thread Cert.ForgetRefIdeal.nD Cert.ForgetRefIdeal.τ).loc Cert.ForgetRefIdeal.main_arg3))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1)
      ∧ r.2.mem ((c.tc : Thread Cert.Branch.nD Cert.Branch.τ).loc Cert.Branch.main_arg2) = m ((c.tc : Thread Cert.Branch.nD Cert.Branch.τ).loc Cert.Branch.main_arg2)
      ∧ r.2.mem ((c.tc : Thread Cert.Branch.nD Cert.Branch.τ).loc Cert.Branch.main_arg3) = m ((c.tc : Thread Cert.Branch.nD Cert.Branch.τ).loc Cert.Branch.main_arg3)
      ∧ r.2.mem ((c.tc : Thread Cert.Branch.nD Cert.Branch.τ).loc Cert.Branch.main_arg4) = m ((c.tc : Thread Cert.Branch.nD Cert.Branch.τ).loc Cert.Branch.main_arg4)
      ∧ r.2.mem ((c.tc : Thread Cert.Branch.nD Cert.Branch.τ).loc Cert.Branch.main_arg5) = m ((c.tc : Thread Cert.Branch.nD Cert.Branch.τ).loc Cert.Branch.main_arg5)
      ∧ r.2.mem ((c.tc : Thread Cert.Branch.nD Cert.Branch.τ).loc Cert.Branch.main_arg6) = m ((c.tc : Thread Cert.Branch.nD Cert.Branch.τ).loc Cert.Branch.main_arg6))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchIdeal_pre_branch_finite [hBranchIdeal : Cert.BranchIdeal.Facts] [hPre_branch_finite : Cert.Pre_branch_finite.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal_branch_finite m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
      ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
      ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
      ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
      ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
      ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_BranchRefIdeal_pre_branch_finite [hBranchRefIdeal : Cert.BranchRefIdeal.Facts] [hPre_branch_finite : Cert.Pre_branch_finite.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal_branch_finite m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1)
      ∧ r.2.mem ((c.tc : Thread Cert.BranchRefIdeal.nD Cert.BranchRefIdeal.τ).loc Cert.BranchRefIdeal.main_arg2) = m ((c.tc : Thread Cert.BranchRefIdeal.nD Cert.BranchRefIdeal.τ).loc Cert.BranchRefIdeal.main_arg2)
      ∧ r.2.mem ((c.tc : Thread Cert.BranchRefIdeal.nD Cert.BranchRefIdeal.τ).loc Cert.BranchRefIdeal.main_arg3) = m ((c.tc : Thread Cert.BranchRefIdeal.nD Cert.BranchRefIdeal.τ).loc Cert.BranchRefIdeal.main_arg3)
      ∧ r.2.mem ((c.tc : Thread Cert.BranchRefIdeal.nD Cert.BranchRefIdeal.τ).loc Cert.BranchRefIdeal.main_arg4) = m ((c.tc : Thread Cert.BranchRefIdeal.nD Cert.BranchRefIdeal.τ).loc Cert.BranchRefIdeal.main_arg4)
      ∧ r.2.mem ((c.tc : Thread Cert.BranchRefIdeal.nD Cert.BranchRefIdeal.τ).loc Cert.BranchRefIdeal.main_arg5) = m ((c.tc : Thread Cert.BranchRefIdeal.nD Cert.BranchRefIdeal.τ).loc Cert.BranchRefIdeal.main_arg5)
      ∧ r.2.mem ((c.tc : Thread Cert.BranchRefIdeal.nD Cert.BranchRefIdeal.τ).loc Cert.BranchRefIdeal.main_arg6) = m ((c.tc : Thread Cert.BranchRefIdeal.nD Cert.BranchRefIdeal.τ).loc Cert.BranchRefIdeal.main_arg6))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7)
      ∧ r.2.mem ((c.tc : Thread Cert.Head.nD Cert.Head.τ).loc Cert.Head.main_arg8) = m ((c.tc : Thread Cert.Head.nD Cert.Head.τ).loc Cert.Head.main_arg8))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
      ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7)
      ∧ r.2.mem ((c.tc : Thread Cert.HeadRefIdeal.nD Cert.HeadRefIdeal.τ).loc Cert.HeadRefIdeal.main_arg8) = m ((c.tc : Thread Cert.HeadRefIdeal.nD Cert.HeadRefIdeal.τ).loc Cert.HeadRefIdeal.main_arg8))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Lru [hLru : Cert.Lru.Facts] : Prop :=
  ∀ (m : (ℓ : Loc Cert.Lru.nD Cert.Lru.τ Cert.Lru.sig) → Buf (Elt Bits) ℓ) (g : Dev Cert.Lru.nD → PrngReg), Pre_Lru m →
    θ_run (Cert.Lru.defs (F := Bits)) (onTc (τ := Cert.Lru.τ) (Cert.Lru.main (F := Bits))) ⟨m, fun _ => 0, g⟩ (fun r => (∀ c : Dev Cert.Lru.nD,
      r.2.mem ((c.tc : Thread Cert.Lru.nD Cert.Lru.τ).loc Cert.Lru.main_arg0) = m ((c.tc : Thread Cert.Lru.nD Cert.Lru.τ).loc Cert.Lru.main_arg0)
      ∧ r.2.mem ((c.tc : Thread Cert.Lru.nD Cert.Lru.τ).loc Cert.Lru.main_arg1) = m ((c.tc : Thread Cert.Lru.nD Cert.Lru.τ).loc Cert.Lru.main_arg1)
      ∧ r.2.mem ((c.tc : Thread Cert.Lru.nD Cert.Lru.τ).loc Cert.Lru.main_arg2) = m ((c.tc : Thread Cert.Lru.nD Cert.Lru.τ).loc Cert.Lru.main_arg2)
      ∧ r.2.mem ((c.tc : Thread Cert.Lru.nD Cert.Lru.τ).loc Cert.Lru.main_arg3) = m ((c.tc : Thread Cert.Lru.nD Cert.Lru.τ).loc Cert.Lru.main_arg3)
      ∧ r.2.mem ((c.tc : Thread Cert.Lru.nD Cert.Lru.τ).loc Cert.Lru.main_arg4) = m ((c.tc : Thread Cert.Lru.nD Cert.Lru.τ).loc Cert.Lru.main_arg4)
      ∧ r.2.mem ((c.tc : Thread Cert.Lru.nD Cert.Lru.τ).loc Cert.Lru.main_arg5) = m ((c.tc : Thread Cert.Lru.nD Cert.Lru.τ).loc Cert.Lru.main_arg5)
      ∧ r.2.mem ((c.tc : Thread Cert.Lru.nD Cert.Lru.τ).loc Cert.Lru.main_arg6) = m ((c.tc : Thread Cert.Lru.nD Cert.Lru.τ).loc Cert.Lru.main_arg6)
      ∧ r.2.mem ((c.tc : Thread Cert.Lru.nD Cert.Lru.τ).loc Cert.Lru.main_arg7) = m ((c.tc : Thread Cert.Lru.nD Cert.Lru.τ).loc Cert.Lru.main_arg7)
      ∧ r.2.mem ((c.tc : Thread Cert.Lru.nD Cert.Lru.τ).loc Cert.Lru.main_arg8) = m ((c.tc : Thread Cert.Lru.nD Cert.Lru.τ).loc Cert.Lru.main_arg8))
      ∧ r.2.sem = fun _ => 0)

def quiescent_LruIdeal [hLruIdeal : Cert.LruIdeal.Facts] : Prop :=
  ∀ (m : (ℓ : Loc Cert.LruIdeal.nD Cert.LruIdeal.τ Cert.LruIdeal.sig) → Buf (Elt Ideal) ℓ) (g : Dev Cert.LruIdeal.nD → PrngReg), Pre_LruIdeal m →
    θ_run (Cert.LruIdeal.defs (F := Ideal)) (onTc (τ := Cert.LruIdeal.τ) (Cert.LruIdeal.main (F := Ideal))) ⟨m, fun _ => 0, g⟩ (fun r => (∀ c : Dev Cert.LruIdeal.nD,
      r.2.mem ((c.tc : Thread Cert.LruIdeal.nD Cert.LruIdeal.τ).loc Cert.LruIdeal.main_arg0) = m ((c.tc : Thread Cert.LruIdeal.nD Cert.LruIdeal.τ).loc Cert.LruIdeal.main_arg0)
      ∧ r.2.mem ((c.tc : Thread Cert.LruIdeal.nD Cert.LruIdeal.τ).loc Cert.LruIdeal.main_arg1) = m ((c.tc : Thread Cert.LruIdeal.nD Cert.LruIdeal.τ).loc Cert.LruIdeal.main_arg1)
      ∧ r.2.mem ((c.tc : Thread Cert.LruIdeal.nD Cert.LruIdeal.τ).loc Cert.LruIdeal.main_arg2) = m ((c.tc : Thread Cert.LruIdeal.nD Cert.LruIdeal.τ).loc Cert.LruIdeal.main_arg2)
      ∧ r.2.mem ((c.tc : Thread Cert.LruIdeal.nD Cert.LruIdeal.τ).loc Cert.LruIdeal.main_arg3) = m ((c.tc : Thread Cert.LruIdeal.nD Cert.LruIdeal.τ).loc Cert.LruIdeal.main_arg3)
      ∧ r.2.mem ((c.tc : Thread Cert.LruIdeal.nD Cert.LruIdeal.τ).loc Cert.LruIdeal.main_arg4) = m ((c.tc : Thread Cert.LruIdeal.nD Cert.LruIdeal.τ).loc Cert.LruIdeal.main_arg4)
      ∧ r.2.mem ((c.tc : Thread Cert.LruIdeal.nD Cert.LruIdeal.τ).loc Cert.LruIdeal.main_arg5) = m ((c.tc : Thread Cert.LruIdeal.nD Cert.LruIdeal.τ).loc Cert.LruIdeal.main_arg5)
      ∧ r.2.mem ((c.tc : Thread Cert.LruIdeal.nD Cert.LruIdeal.τ).loc Cert.LruIdeal.main_arg6) = m ((c.tc : Thread Cert.LruIdeal.nD Cert.LruIdeal.τ).loc Cert.LruIdeal.main_arg6)
      ∧ r.2.mem ((c.tc : Thread Cert.LruIdeal.nD Cert.LruIdeal.τ).loc Cert.LruIdeal.main_arg7) = m ((c.tc : Thread Cert.LruIdeal.nD Cert.LruIdeal.τ).loc Cert.LruIdeal.main_arg7)
      ∧ r.2.mem ((c.tc : Thread Cert.LruIdeal.nD Cert.LruIdeal.τ).loc Cert.LruIdeal.main_arg8) = m ((c.tc : Thread Cert.LruIdeal.nD Cert.LruIdeal.τ).loc Cert.LruIdeal.main_arg8))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Residual [hResidual : Cert.Residual.Facts] : Prop :=
  ∀ (m : (ℓ : Loc Cert.Residual.nD Cert.Residual.τ Cert.Residual.sig) → Buf (Elt Bits) ℓ) (g : Dev Cert.Residual.nD → PrngReg), Pre_Residual m →
    θ_run (Cert.Residual.defs (F := Bits)) (onTc (τ := Cert.Residual.τ) (Cert.Residual.main (F := Bits))) ⟨m, fun _ => 0, g⟩ (fun r => (∀ c : Dev Cert.Residual.nD,
      r.2.mem ((c.tc : Thread Cert.Residual.nD Cert.Residual.τ).loc Cert.Residual.main_arg0) = m ((c.tc : Thread Cert.Residual.nD Cert.Residual.τ).loc Cert.Residual.main_arg0)
      ∧ r.2.mem ((c.tc : Thread Cert.Residual.nD Cert.Residual.τ).loc Cert.Residual.main_arg1) = m ((c.tc : Thread Cert.Residual.nD Cert.Residual.τ).loc Cert.Residual.main_arg1)
      ∧ r.2.mem ((c.tc : Thread Cert.Residual.nD Cert.Residual.τ).loc Cert.Residual.main_arg2) = m ((c.tc : Thread Cert.Residual.nD Cert.Residual.τ).loc Cert.Residual.main_arg2)
      ∧ r.2.mem ((c.tc : Thread Cert.Residual.nD Cert.Residual.τ).loc Cert.Residual.main_arg3) = m ((c.tc : Thread Cert.Residual.nD Cert.Residual.τ).loc Cert.Residual.main_arg3)
      ∧ r.2.mem ((c.tc : Thread Cert.Residual.nD Cert.Residual.τ).loc Cert.Residual.main_arg4) = m ((c.tc : Thread Cert.Residual.nD Cert.Residual.τ).loc Cert.Residual.main_arg4)
      ∧ r.2.mem ((c.tc : Thread Cert.Residual.nD Cert.Residual.τ).loc Cert.Residual.main_arg5) = m ((c.tc : Thread Cert.Residual.nD Cert.Residual.τ).loc Cert.Residual.main_arg5)
      ∧ r.2.mem ((c.tc : Thread Cert.Residual.nD Cert.Residual.τ).loc Cert.Residual.main_arg6) = m ((c.tc : Thread Cert.Residual.nD Cert.Residual.τ).loc Cert.Residual.main_arg6)
      ∧ r.2.mem ((c.tc : Thread Cert.Residual.nD Cert.Residual.τ).loc Cert.Residual.main_arg7) = m ((c.tc : Thread Cert.Residual.nD Cert.Residual.τ).loc Cert.Residual.main_arg7))
      ∧ r.2.sem = fun _ => 0)

def quiescent_ResidualIdeal [hResidualIdeal : Cert.ResidualIdeal.Facts] : Prop :=
  ∀ (m : (ℓ : Loc Cert.ResidualIdeal.nD Cert.ResidualIdeal.τ Cert.ResidualIdeal.sig) → Buf (Elt Ideal) ℓ) (g : Dev Cert.ResidualIdeal.nD → PrngReg), Pre_ResidualIdeal m →
    θ_run (Cert.ResidualIdeal.defs (F := Ideal)) (onTc (τ := Cert.ResidualIdeal.τ) (Cert.ResidualIdeal.main (F := Ideal))) ⟨m, fun _ => 0, g⟩ (fun r => (∀ c : Dev Cert.ResidualIdeal.nD,
      r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
      ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
      ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
      ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
      ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
      ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5)
      ∧ r.2.mem ((c.tc : Thread Cert.ResidualIdeal.nD Cert.ResidualIdeal.τ).loc Cert.ResidualIdeal.main_arg6) = m ((c.tc : Thread Cert.ResidualIdeal.nD Cert.ResidualIdeal.τ).loc Cert.ResidualIdeal.main_arg6)
      ∧ r.2.mem ((c.tc : Thread Cert.ResidualIdeal.nD Cert.ResidualIdeal.τ).loc Cert.ResidualIdeal.main_arg7) = m ((c.tc : Thread Cert.ResidualIdeal.nD Cert.ResidualIdeal.τ).loc Cert.ResidualIdeal.main_arg7))
      ∧ r.2.sem = fun _ => 0)

def quiescent_ResidualRefIdeal [hResidualRefIdeal : Cert.ResidualRefIdeal.Facts] : Prop :=
  ∀ (m : (ℓ : Loc Cert.ResidualRefIdeal.nD Cert.ResidualRefIdeal.τ Cert.ResidualRefIdeal.sig) → Buf (Elt Ideal) ℓ) (g : Dev Cert.ResidualRefIdeal.nD → PrngReg), Pre_ResidualRefIdeal m →
    θ_run (Cert.ResidualRefIdeal.defs (F := Ideal)) (onTc (τ := Cert.ResidualRefIdeal.τ) (Cert.ResidualRefIdeal.main (F := Ideal))) ⟨m, fun _ => 0, g⟩ (fun r => (∀ c : Dev Cert.ResidualRefIdeal.nD,
      r.2.mem ((c.tc : Thread Cert.ResidualRefIdeal.nD Cert.ResidualRefIdeal.τ).loc Cert.ResidualRefIdeal.main_arg0) = m ((c.tc : Thread Cert.ResidualRefIdeal.nD Cert.ResidualRefIdeal.τ).loc Cert.ResidualRefIdeal.main_arg0)
      ∧ r.2.mem ((c.tc : Thread Cert.ResidualRefIdeal.nD Cert.ResidualRefIdeal.τ).loc Cert.ResidualRefIdeal.main_arg1) = m ((c.tc : Thread Cert.ResidualRefIdeal.nD Cert.ResidualRefIdeal.τ).loc Cert.ResidualRefIdeal.main_arg1)
      ∧ r.2.mem ((c.tc : Thread Cert.ResidualRefIdeal.nD Cert.ResidualRefIdeal.τ).loc Cert.ResidualRefIdeal.main_arg2) = m ((c.tc : Thread Cert.ResidualRefIdeal.nD Cert.ResidualRefIdeal.τ).loc Cert.ResidualRefIdeal.main_arg2)
      ∧ r.2.mem ((c.tc : Thread Cert.ResidualRefIdeal.nD Cert.ResidualRefIdeal.τ).loc Cert.ResidualRefIdeal.main_arg3) = m ((c.tc : Thread Cert.ResidualRefIdeal.nD Cert.ResidualRefIdeal.τ).loc Cert.ResidualRefIdeal.main_arg3)
      ∧ r.2.mem ((c.tc : Thread Cert.ResidualRefIdeal.nD Cert.ResidualRefIdeal.τ).loc Cert.ResidualRefIdeal.main_arg4) = m ((c.tc : Thread Cert.ResidualRefIdeal.nD Cert.ResidualRefIdeal.τ).loc Cert.ResidualRefIdeal.main_arg4)
      ∧ r.2.mem ((c.tc : Thread Cert.ResidualRefIdeal.nD Cert.ResidualRefIdeal.τ).loc Cert.ResidualRefIdeal.main_arg5) = m ((c.tc : Thread Cert.ResidualRefIdeal.nD Cert.ResidualRefIdeal.τ).loc Cert.ResidualRefIdeal.main_arg5)
      ∧ r.2.mem ((c.tc : Thread Cert.ResidualRefIdeal.nD Cert.ResidualRefIdeal.τ).loc Cert.ResidualRefIdeal.main_arg6) = m ((c.tc : Thread Cert.ResidualRefIdeal.nD Cert.ResidualRefIdeal.τ).loc Cert.ResidualRefIdeal.main_arg6)
      ∧ r.2.mem ((c.tc : Thread Cert.ResidualRefIdeal.nD Cert.ResidualRefIdeal.τ).loc Cert.ResidualRefIdeal.main_arg7) = m ((c.tc : Thread Cert.ResidualRefIdeal.nD Cert.ResidualRefIdeal.τ).loc Cert.ResidualRefIdeal.main_arg7))
      ∧ r.2.sem = fun _ => 0)

def preserves_Prenorm_PrenormIdeal : Prop :=
  True

def algebraic_PrenormIdeal_PrenormRefIdeal_pre_prenorm_finite [hPrenormIdeal : Cert.PrenormIdeal.Facts] [hPrenormRefIdeal : Cert.PrenormRefIdeal.Facts] [hPre_prenorm_finite : Cert.Pre_prenorm_finite.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal_prenorm_finite m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)
      ∧ m' ((c.tc : Thread Cert.PrenormRefIdeal.nD Cert.PrenormRefIdeal.τ).loc Cert.PrenormRefIdeal.main_arg4) = m ((c.tc : Thread Cert.PrenormIdeal.nD Cert.PrenormIdeal.τ).loc Cert.PrenormIdeal.main_arg4)
      ∧ m' ((c.tc : Thread Cert.PrenormRefIdeal.nD Cert.PrenormRefIdeal.τ).loc Cert.PrenormRefIdeal.main_arg5) = m ((c.tc : Thread Cert.PrenormIdeal.nD Cert.PrenormIdeal.τ).loc Cert.PrenormIdeal.main_arg5)
      ∧ m' ((c.tc : Thread Cert.PrenormRefIdeal.nD Cert.PrenormRefIdeal.τ).loc Cert.PrenormRefIdeal.main_arg6) = m ((c.tc : Thread Cert.PrenormIdeal.nD Cert.PrenormIdeal.τ).loc Cert.PrenormIdeal.main_arg6)
      ∧ m' ((c.tc : Thread Cert.PrenormRefIdeal.nD Cert.PrenormRefIdeal.τ).loc Cert.PrenormRefIdeal.main_arg7) = m ((c.tc : Thread Cert.PrenormIdeal.nD Cert.PrenormIdeal.τ).loc Cert.PrenormIdeal.main_arg7)
      ∧ m' ((c.tc : Thread Cert.PrenormRefIdeal.nD Cert.PrenormRefIdeal.τ).loc Cert.PrenormRefIdeal.main_arg8) = m ((c.tc : Thread Cert.PrenormIdeal.nD Cert.PrenormIdeal.τ).loc Cert.PrenormIdeal.main_arg8)
      ∧ m' ((c.tc : Thread Cert.PrenormRefIdeal.nD Cert.PrenormRefIdeal.τ).loc Cert.PrenormRefIdeal.main_arg9) = m ((c.tc : Thread Cert.PrenormIdeal.nD Cert.PrenormIdeal.τ).loc Cert.PrenormIdeal.main_arg9)
      ∧ m' ((c.tc : Thread Cert.PrenormRefIdeal.nD Cert.PrenormRefIdeal.τ).loc Cert.PrenormRefIdeal.main_arg10) = m ((c.tc : Thread Cert.PrenormIdeal.nD Cert.PrenormIdeal.τ).loc Cert.PrenormIdeal.main_arg10)) →
    ∃ (v0 : (c : Dev Cert.PrenormIdeal.nD) → Buf (Elt Ideal) ((c.tc : Thread Cert.PrenormIdeal.nD Cert.PrenormIdeal.τ).loc Cert.PrenormIdeal.main_v23_0)) (v1 : (c : Dev Cert.PrenormIdeal.nD) → Buf (Elt Ideal) ((c.tc : Thread Cert.PrenormIdeal.nD Cert.PrenormIdeal.τ).loc Cert.PrenormIdeal.main_v23_1)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v23_0) = v0 c
          ∧ r.2.mem ((c.tc : Thread Cert.PrenormIdeal.nD Cert.PrenormIdeal.τ).loc Cert.PrenormIdeal.main_v23_1) = v1 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3)
          ∧ r.2.mem ((c.tc : Thread Cert.PrenormIdeal.nD Cert.PrenormIdeal.τ).loc Cert.PrenormIdeal.main_arg4) = m ((c.tc : Thread Cert.PrenormIdeal.nD Cert.PrenormIdeal.τ).loc Cert.PrenormIdeal.main_arg4)
          ∧ r.2.mem ((c.tc : Thread Cert.PrenormIdeal.nD Cert.PrenormIdeal.τ).loc Cert.PrenormIdeal.main_arg5) = m ((c.tc : Thread Cert.PrenormIdeal.nD Cert.PrenormIdeal.τ).loc Cert.PrenormIdeal.main_arg5)
          ∧ r.2.mem ((c.tc : Thread Cert.PrenormIdeal.nD Cert.PrenormIdeal.τ).loc Cert.PrenormIdeal.main_arg6) = m ((c.tc : Thread Cert.PrenormIdeal.nD Cert.PrenormIdeal.τ).loc Cert.PrenormIdeal.main_arg6)
          ∧ r.2.mem ((c.tc : Thread Cert.PrenormIdeal.nD Cert.PrenormIdeal.τ).loc Cert.PrenormIdeal.main_arg7) = m ((c.tc : Thread Cert.PrenormIdeal.nD Cert.PrenormIdeal.τ).loc Cert.PrenormIdeal.main_arg7)
          ∧ r.2.mem ((c.tc : Thread Cert.PrenormIdeal.nD Cert.PrenormIdeal.τ).loc Cert.PrenormIdeal.main_arg8) = m ((c.tc : Thread Cert.PrenormIdeal.nD Cert.PrenormIdeal.τ).loc Cert.PrenormIdeal.main_arg8)
          ∧ r.2.mem ((c.tc : Thread Cert.PrenormIdeal.nD Cert.PrenormIdeal.τ).loc Cert.PrenormIdeal.main_arg9) = m ((c.tc : Thread Cert.PrenormIdeal.nD Cert.PrenormIdeal.τ).loc Cert.PrenormIdeal.main_arg9)
          ∧ r.2.mem ((c.tc : Thread Cert.PrenormIdeal.nD Cert.PrenormIdeal.τ).loc Cert.PrenormIdeal.main_arg10) = m ((c.tc : Thread Cert.PrenormIdeal.nD Cert.PrenormIdeal.τ).loc Cert.PrenormIdeal.main_arg10))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v43) = v0 c
          ∧ r.2.mem ((c.tc : Thread Cert.PrenormRefIdeal.nD Cert.PrenormRefIdeal.τ).loc Cert.PrenormRefIdeal.main_v44) = v1 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3)
          ∧ r.2.mem ((c.tc : Thread Cert.PrenormRefIdeal.nD Cert.PrenormRefIdeal.τ).loc Cert.PrenormRefIdeal.main_arg4) = m' ((c.tc : Thread Cert.PrenormRefIdeal.nD Cert.PrenormRefIdeal.τ).loc Cert.PrenormRefIdeal.main_arg4)
          ∧ r.2.mem ((c.tc : Thread Cert.PrenormRefIdeal.nD Cert.PrenormRefIdeal.τ).loc Cert.PrenormRefIdeal.main_arg5) = m' ((c.tc : Thread Cert.PrenormRefIdeal.nD Cert.PrenormRefIdeal.τ).loc Cert.PrenormRefIdeal.main_arg5)
          ∧ r.2.mem ((c.tc : Thread Cert.PrenormRefIdeal.nD Cert.PrenormRefIdeal.τ).loc Cert.PrenormRefIdeal.main_arg6) = m' ((c.tc : Thread Cert.PrenormRefIdeal.nD Cert.PrenormRefIdeal.τ).loc Cert.PrenormRefIdeal.main_arg6)
          ∧ r.2.mem ((c.tc : Thread Cert.PrenormRefIdeal.nD Cert.PrenormRefIdeal.τ).loc Cert.PrenormRefIdeal.main_arg7) = m' ((c.tc : Thread Cert.PrenormRefIdeal.nD Cert.PrenormRefIdeal.τ).loc Cert.PrenormRefIdeal.main_arg7)
          ∧ r.2.mem ((c.tc : Thread Cert.PrenormRefIdeal.nD Cert.PrenormRefIdeal.τ).loc Cert.PrenormRefIdeal.main_arg8) = m' ((c.tc : Thread Cert.PrenormRefIdeal.nD Cert.PrenormRefIdeal.τ).loc Cert.PrenormRefIdeal.main_arg8)
          ∧ r.2.mem ((c.tc : Thread Cert.PrenormRefIdeal.nD Cert.PrenormRefIdeal.τ).loc Cert.PrenormRefIdeal.main_arg9) = m' ((c.tc : Thread Cert.PrenormRefIdeal.nD Cert.PrenormRefIdeal.τ).loc Cert.PrenormRefIdeal.main_arg9)
          ∧ r.2.mem ((c.tc : Thread Cert.PrenormRefIdeal.nD Cert.PrenormRefIdeal.τ).loc Cert.PrenormRefIdeal.main_arg10) = m' ((c.tc : Thread Cert.PrenormRefIdeal.nD Cert.PrenormRefIdeal.τ).loc Cert.PrenormRefIdeal.main_arg10))

def preserves_Forget_ForgetIdeal : Prop :=
  True

def algebraic_ForgetIdeal_ForgetRefIdeal [hForgetIdeal : Cert.ForgetIdeal.Facts] [hForgetRefIdeal : Cert.ForgetRefIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetRefIdeal.nD Cert.ForgetRefIdeal.τ Cert.ForgetRefIdeal.sig) → Buf (Elt Ideal) ℓ) (g' : Dev Cert.ForgetRefIdeal.nD → PrngReg), Pre_ForgetIdeal m →
    (∀ c : Dev Cert.ForgetIdeal.nD,
      m' ((c.tc : Thread Cert.ForgetRefIdeal.nD Cert.ForgetRefIdeal.τ).loc Cert.ForgetRefIdeal.main_arg0) = m ((c.tc : Thread Cert.ForgetIdeal.nD Cert.ForgetIdeal.τ).loc Cert.ForgetIdeal.main_arg0)
      ∧ m' ((c.tc : Thread Cert.ForgetRefIdeal.nD Cert.ForgetRefIdeal.τ).loc Cert.ForgetRefIdeal.main_arg1) = m ((c.tc : Thread Cert.ForgetIdeal.nD Cert.ForgetIdeal.τ).loc Cert.ForgetIdeal.main_arg1)
      ∧ m' ((c.tc : Thread Cert.ForgetRefIdeal.nD Cert.ForgetRefIdeal.τ).loc Cert.ForgetRefIdeal.main_arg2) = m ((c.tc : Thread Cert.ForgetIdeal.nD Cert.ForgetIdeal.τ).loc Cert.ForgetIdeal.main_arg2)
      ∧ m' ((c.tc : Thread Cert.ForgetRefIdeal.nD Cert.ForgetRefIdeal.τ).loc Cert.ForgetRefIdeal.main_arg3) = m ((c.tc : Thread Cert.ForgetIdeal.nD Cert.ForgetIdeal.τ).loc Cert.ForgetIdeal.main_arg3)) →
    ∃ (v0 : (c : Dev Cert.ForgetIdeal.nD) → Buf (Elt Ideal) ((c.tc : Thread Cert.ForgetIdeal.nD Cert.ForgetIdeal.τ).loc Cert.ForgetIdeal.main_v11_0)) (v1 : (c : Dev Cert.ForgetIdeal.nD) → Buf (Elt Ideal) ((c.tc : Thread Cert.ForgetIdeal.nD Cert.ForgetIdeal.τ).loc Cert.ForgetIdeal.main_v11_1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v11_0) = v0 c
          ∧ r.2.mem ((c.tc : Thread Cert.ForgetIdeal.nD Cert.ForgetIdeal.τ).loc Cert.ForgetIdeal.main_v11_1) = v1 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2)
          ∧ r.2.mem ((c.tc : Thread Cert.ForgetIdeal.nD Cert.ForgetIdeal.τ).loc Cert.ForgetIdeal.main_arg3) = m ((c.tc : Thread Cert.ForgetIdeal.nD Cert.ForgetIdeal.τ).loc Cert.ForgetIdeal.main_arg3))
      ∧ θ_run (Cert.ForgetRefIdeal.defs (F := Ideal)) (onTc (τ := Cert.ForgetRefIdeal.τ) (Cert.ForgetRefIdeal.main (F := Ideal))) ⟨m', fun _ => 0, g'⟩ (fun r => ∀ c : Dev Cert.ForgetRefIdeal.nD,
          r.2.mem ((c.tc : Thread Cert.ForgetRefIdeal.nD Cert.ForgetRefIdeal.τ).loc Cert.ForgetRefIdeal.main_v18) = v0 c
          ∧ r.2.mem ((c.tc : Thread Cert.ForgetRefIdeal.nD Cert.ForgetRefIdeal.τ).loc Cert.ForgetRefIdeal.main_v17) = v1 c
          ∧ r.2.mem ((c.tc : Thread Cert.ForgetRefIdeal.nD Cert.ForgetRefIdeal.τ).loc Cert.ForgetRefIdeal.main_arg0) = m' ((c.tc : Thread Cert.ForgetRefIdeal.nD Cert.ForgetRefIdeal.τ).loc Cert.ForgetRefIdeal.main_arg0)
          ∧ r.2.mem ((c.tc : Thread Cert.ForgetRefIdeal.nD Cert.ForgetRefIdeal.τ).loc Cert.ForgetRefIdeal.main_arg1) = m' ((c.tc : Thread Cert.ForgetRefIdeal.nD Cert.ForgetRefIdeal.τ).loc Cert.ForgetRefIdeal.main_arg1)
          ∧ r.2.mem ((c.tc : Thread Cert.ForgetRefIdeal.nD Cert.ForgetRefIdeal.τ).loc Cert.ForgetRefIdeal.main_arg2) = m' ((c.tc : Thread Cert.ForgetRefIdeal.nD Cert.ForgetRefIdeal.τ).loc Cert.ForgetRefIdeal.main_arg2)
          ∧ r.2.mem ((c.tc : Thread Cert.ForgetRefIdeal.nD Cert.ForgetRefIdeal.τ).loc Cert.ForgetRefIdeal.main_arg3) = m' ((c.tc : Thread Cert.ForgetRefIdeal.nD Cert.ForgetRefIdeal.τ).loc Cert.ForgetRefIdeal.main_arg3))

def preserves_Branch_BranchIdeal : Prop :=
  True

def algebraic_BranchIdeal_BranchRefIdeal_pre_branch_finite [hBranchIdeal : Cert.BranchIdeal.Facts] [hBranchRefIdeal : Cert.BranchRefIdeal.Facts] [hPre_branch_finite : Cert.Pre_branch_finite.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal_branch_finite m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)
      ∧ m' ((c.tc : Thread Cert.BranchRefIdeal.nD Cert.BranchRefIdeal.τ).loc Cert.BranchRefIdeal.main_arg2) = m ((c.tc : Thread Cert.BranchIdeal.nD Cert.BranchIdeal.τ).loc Cert.BranchIdeal.main_arg2)
      ∧ m' ((c.tc : Thread Cert.BranchRefIdeal.nD Cert.BranchRefIdeal.τ).loc Cert.BranchRefIdeal.main_arg3) = m ((c.tc : Thread Cert.BranchIdeal.nD Cert.BranchIdeal.τ).loc Cert.BranchIdeal.main_arg3)
      ∧ m' ((c.tc : Thread Cert.BranchRefIdeal.nD Cert.BranchRefIdeal.τ).loc Cert.BranchRefIdeal.main_arg4) = m ((c.tc : Thread Cert.BranchIdeal.nD Cert.BranchIdeal.τ).loc Cert.BranchIdeal.main_arg4)
      ∧ m' ((c.tc : Thread Cert.BranchRefIdeal.nD Cert.BranchRefIdeal.τ).loc Cert.BranchRefIdeal.main_arg5) = m ((c.tc : Thread Cert.BranchIdeal.nD Cert.BranchIdeal.τ).loc Cert.BranchIdeal.main_arg5)
      ∧ m' ((c.tc : Thread Cert.BranchRefIdeal.nD Cert.BranchRefIdeal.τ).loc Cert.BranchRefIdeal.main_arg6) = m ((c.tc : Thread Cert.BranchIdeal.nD Cert.BranchIdeal.τ).loc Cert.BranchIdeal.main_arg6)) →
    ∃ (v0 : (c : Dev Cert.BranchIdeal.nD) → Buf (Elt Ideal) ((c.tc : Thread Cert.BranchIdeal.nD Cert.BranchIdeal.τ).loc Cert.BranchIdeal.main_v9_0)) (v1 : (c : Dev Cert.BranchIdeal.nD) → Buf (Elt Ideal) ((c.tc : Thread Cert.BranchIdeal.nD Cert.BranchIdeal.τ).loc Cert.BranchIdeal.main_v9_1)) (v2 : (c : Dev Cert.BranchIdeal.nD) → Buf (Elt Ideal) ((c.tc : Thread Cert.BranchIdeal.nD Cert.BranchIdeal.τ).loc Cert.BranchIdeal.main_v9_2)) (v3 : (c : Dev Cert.BranchIdeal.nD) → Buf (Elt Ideal) ((c.tc : Thread Cert.BranchIdeal.nD Cert.BranchIdeal.τ).loc Cert.BranchIdeal.main_v9_3)) (v4 : (c : Dev Cert.BranchIdeal.nD) → Buf (Elt Ideal) ((c.tc : Thread Cert.BranchIdeal.nD Cert.BranchIdeal.τ).loc Cert.BranchIdeal.main_v9_4)) (v5 : (c : Dev Cert.BranchIdeal.nD) → Buf (Elt Ideal) ((c.tc : Thread Cert.BranchIdeal.nD Cert.BranchIdeal.τ).loc Cert.BranchIdeal.main_v9_5)) (v6 : (c : Dev Cert.BranchIdeal.nD) → Buf (Elt Ideal) ((c.tc : Thread Cert.BranchIdeal.nD Cert.BranchIdeal.τ).loc Cert.BranchIdeal.main_v9_6)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v9_0) = v0 c
          ∧ r.2.mem ((c.tc : Thread Cert.BranchIdeal.nD Cert.BranchIdeal.τ).loc Cert.BranchIdeal.main_v9_1) = v1 c
          ∧ r.2.mem ((c.tc : Thread Cert.BranchIdeal.nD Cert.BranchIdeal.τ).loc Cert.BranchIdeal.main_v9_2) = v2 c
          ∧ r.2.mem ((c.tc : Thread Cert.BranchIdeal.nD Cert.BranchIdeal.τ).loc Cert.BranchIdeal.main_v9_3) = v3 c
          ∧ r.2.mem ((c.tc : Thread Cert.BranchIdeal.nD Cert.BranchIdeal.τ).loc Cert.BranchIdeal.main_v9_4) = v4 c
          ∧ r.2.mem ((c.tc : Thread Cert.BranchIdeal.nD Cert.BranchIdeal.τ).loc Cert.BranchIdeal.main_v9_5) = v5 c
          ∧ r.2.mem ((c.tc : Thread Cert.BranchIdeal.nD Cert.BranchIdeal.τ).loc Cert.BranchIdeal.main_v9_6) = v6 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1)
          ∧ r.2.mem ((c.tc : Thread Cert.BranchIdeal.nD Cert.BranchIdeal.τ).loc Cert.BranchIdeal.main_arg2) = m ((c.tc : Thread Cert.BranchIdeal.nD Cert.BranchIdeal.τ).loc Cert.BranchIdeal.main_arg2)
          ∧ r.2.mem ((c.tc : Thread Cert.BranchIdeal.nD Cert.BranchIdeal.τ).loc Cert.BranchIdeal.main_arg3) = m ((c.tc : Thread Cert.BranchIdeal.nD Cert.BranchIdeal.τ).loc Cert.BranchIdeal.main_arg3)
          ∧ r.2.mem ((c.tc : Thread Cert.BranchIdeal.nD Cert.BranchIdeal.τ).loc Cert.BranchIdeal.main_arg4) = m ((c.tc : Thread Cert.BranchIdeal.nD Cert.BranchIdeal.τ).loc Cert.BranchIdeal.main_arg4)
          ∧ r.2.mem ((c.tc : Thread Cert.BranchIdeal.nD Cert.BranchIdeal.τ).loc Cert.BranchIdeal.main_arg5) = m ((c.tc : Thread Cert.BranchIdeal.nD Cert.BranchIdeal.τ).loc Cert.BranchIdeal.main_arg5)
          ∧ r.2.mem ((c.tc : Thread Cert.BranchIdeal.nD Cert.BranchIdeal.τ).loc Cert.BranchIdeal.main_arg6) = m ((c.tc : Thread Cert.BranchIdeal.nD Cert.BranchIdeal.τ).loc Cert.BranchIdeal.main_arg6))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v97) = v0 c
          ∧ r.2.mem ((c.tc : Thread Cert.BranchRefIdeal.nD Cert.BranchRefIdeal.τ).loc Cert.BranchRefIdeal.main_v99) = v1 c
          ∧ r.2.mem ((c.tc : Thread Cert.BranchRefIdeal.nD Cert.BranchRefIdeal.τ).loc Cert.BranchRefIdeal.main_v100) = v2 c
          ∧ r.2.mem ((c.tc : Thread Cert.BranchRefIdeal.nD Cert.BranchRefIdeal.τ).loc Cert.BranchRefIdeal.main_v69) = v3 c
          ∧ r.2.mem ((c.tc : Thread Cert.BranchRefIdeal.nD Cert.BranchRefIdeal.τ).loc Cert.BranchRefIdeal.main_v101) = v4 c
          ∧ r.2.mem ((c.tc : Thread Cert.BranchRefIdeal.nD Cert.BranchRefIdeal.τ).loc Cert.BranchRefIdeal.main_v102) = v5 c
          ∧ r.2.mem ((c.tc : Thread Cert.BranchRefIdeal.nD Cert.BranchRefIdeal.τ).loc Cert.BranchRefIdeal.main_v103) = v6 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1)
          ∧ r.2.mem ((c.tc : Thread Cert.BranchRefIdeal.nD Cert.BranchRefIdeal.τ).loc Cert.BranchRefIdeal.main_arg2) = m' ((c.tc : Thread Cert.BranchRefIdeal.nD Cert.BranchRefIdeal.τ).loc Cert.BranchRefIdeal.main_arg2)
          ∧ r.2.mem ((c.tc : Thread Cert.BranchRefIdeal.nD Cert.BranchRefIdeal.τ).loc Cert.BranchRefIdeal.main_arg3) = m' ((c.tc : Thread Cert.BranchRefIdeal.nD Cert.BranchRefIdeal.τ).loc Cert.BranchRefIdeal.main_arg3)
          ∧ r.2.mem ((c.tc : Thread Cert.BranchRefIdeal.nD Cert.BranchRefIdeal.τ).loc Cert.BranchRefIdeal.main_arg4) = m' ((c.tc : Thread Cert.BranchRefIdeal.nD Cert.BranchRefIdeal.τ).loc Cert.BranchRefIdeal.main_arg4)
          ∧ r.2.mem ((c.tc : Thread Cert.BranchRefIdeal.nD Cert.BranchRefIdeal.τ).loc Cert.BranchRefIdeal.main_arg5) = m' ((c.tc : Thread Cert.BranchRefIdeal.nD Cert.BranchRefIdeal.τ).loc Cert.BranchRefIdeal.main_arg5)
          ∧ r.2.mem ((c.tc : Thread Cert.BranchRefIdeal.nD Cert.BranchRefIdeal.τ).loc Cert.BranchRefIdeal.main_arg6) = m' ((c.tc : Thread Cert.BranchRefIdeal.nD Cert.BranchRefIdeal.τ).loc Cert.BranchRefIdeal.main_arg6))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)
      ∧ m' ((c.tc : Thread Cert.HeadRefIdeal.nD Cert.HeadRefIdeal.τ).loc Cert.HeadRefIdeal.main_arg8) = m ((c.tc : Thread Cert.HeadIdeal.nD Cert.HeadIdeal.τ).loc Cert.HeadIdeal.main_arg8)) →
    ∃ (v0 : (c : Dev Cert.HeadIdeal.nD) → Buf (Elt Ideal) ((c.tc : Thread Cert.HeadIdeal.nD Cert.HeadIdeal.τ).loc Cert.HeadIdeal.main_v22_0)) (v1 : (c : Dev Cert.HeadIdeal.nD) → Buf (Elt Ideal) ((c.tc : Thread Cert.HeadIdeal.nD Cert.HeadIdeal.τ).loc Cert.HeadIdeal.main_v22_1)) (v2 : (c : Dev Cert.HeadIdeal.nD) → Buf (Elt Ideal) ((c.tc : Thread Cert.HeadIdeal.nD Cert.HeadIdeal.τ).loc Cert.HeadIdeal.main_v22_2)) (v3 : (c : Dev Cert.HeadIdeal.nD) → Buf (Elt Ideal) ((c.tc : Thread Cert.HeadIdeal.nD Cert.HeadIdeal.τ).loc Cert.HeadIdeal.main_v22_3)) (v4 : (c : Dev Cert.HeadIdeal.nD) → Buf (Elt Ideal) ((c.tc : Thread Cert.HeadIdeal.nD Cert.HeadIdeal.τ).loc Cert.HeadIdeal.main_v22_4)) (v5 : (c : Dev Cert.HeadIdeal.nD) → Buf (Elt Ideal) ((c.tc : Thread Cert.HeadIdeal.nD Cert.HeadIdeal.τ).loc Cert.HeadIdeal.main_v22_5)) (v6 : (c : Dev Cert.HeadIdeal.nD) → Buf (Elt Ideal) ((c.tc : Thread Cert.HeadIdeal.nD Cert.HeadIdeal.τ).loc Cert.HeadIdeal.main_v22_6)) (v7 : (c : Dev Cert.HeadIdeal.nD) → Buf (Elt Ideal) ((c.tc : Thread Cert.HeadIdeal.nD Cert.HeadIdeal.τ).loc Cert.HeadIdeal.main_v22_7)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v22_0) = v0 c
          ∧ r.2.mem ((c.tc : Thread Cert.HeadIdeal.nD Cert.HeadIdeal.τ).loc Cert.HeadIdeal.main_v22_1) = v1 c
          ∧ r.2.mem ((c.tc : Thread Cert.HeadIdeal.nD Cert.HeadIdeal.τ).loc Cert.HeadIdeal.main_v22_2) = v2 c
          ∧ r.2.mem ((c.tc : Thread Cert.HeadIdeal.nD Cert.HeadIdeal.τ).loc Cert.HeadIdeal.main_v22_3) = v3 c
          ∧ r.2.mem ((c.tc : Thread Cert.HeadIdeal.nD Cert.HeadIdeal.τ).loc Cert.HeadIdeal.main_v22_4) = v4 c
          ∧ r.2.mem ((c.tc : Thread Cert.HeadIdeal.nD Cert.HeadIdeal.τ).loc Cert.HeadIdeal.main_v22_5) = v5 c
          ∧ r.2.mem ((c.tc : Thread Cert.HeadIdeal.nD Cert.HeadIdeal.τ).loc Cert.HeadIdeal.main_v22_6) = v6 c
          ∧ r.2.mem ((c.tc : Thread Cert.HeadIdeal.nD Cert.HeadIdeal.τ).loc Cert.HeadIdeal.main_v22_7) = v7 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7)
          ∧ r.2.mem ((c.tc : Thread Cert.HeadIdeal.nD Cert.HeadIdeal.τ).loc Cert.HeadIdeal.main_arg8) = m ((c.tc : Thread Cert.HeadIdeal.nD Cert.HeadIdeal.τ).loc Cert.HeadIdeal.main_arg8))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v122) = v0 c
          ∧ r.2.mem ((c.tc : Thread Cert.HeadRefIdeal.nD Cert.HeadRefIdeal.τ).loc Cert.HeadRefIdeal.main_v123) = v1 c
          ∧ r.2.mem ((c.tc : Thread Cert.HeadRefIdeal.nD Cert.HeadRefIdeal.τ).loc Cert.HeadRefIdeal.main_v124) = v2 c
          ∧ r.2.mem ((c.tc : Thread Cert.HeadRefIdeal.nD Cert.HeadRefIdeal.τ).loc Cert.HeadRefIdeal.main_v81) = v3 c
          ∧ r.2.mem ((c.tc : Thread Cert.HeadRefIdeal.nD Cert.HeadRefIdeal.τ).loc Cert.HeadRefIdeal.main_v125) = v4 c
          ∧ r.2.mem ((c.tc : Thread Cert.HeadRefIdeal.nD Cert.HeadRefIdeal.τ).loc Cert.HeadRefIdeal.main_v126) = v5 c
          ∧ r.2.mem ((c.tc : Thread Cert.HeadRefIdeal.nD Cert.HeadRefIdeal.τ).loc Cert.HeadRefIdeal.main_v127) = v6 c
          ∧ r.2.mem ((c.tc : Thread Cert.HeadRefIdeal.nD Cert.HeadRefIdeal.τ).loc Cert.HeadRefIdeal.main_v128) = v7 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7)
          ∧ r.2.mem ((c.tc : Thread Cert.HeadRefIdeal.nD Cert.HeadRefIdeal.τ).loc Cert.HeadRefIdeal.main_arg8) = m' ((c.tc : Thread Cert.HeadRefIdeal.nD Cert.HeadRefIdeal.τ).loc Cert.HeadRefIdeal.main_arg8))

def preserves_Attn_AttnIdeal : Prop :=
  IdealRules.named_const.Statement Cert.AttnIdeal.κ "mask" .f32 0xF149F2CA#32 ⊥
  ∧ IdealRules.named_const.Statement Cert.AttnIdeal.κ "scale" .f32 0x3DB504F3#32 (((Real.sqrt 128)⁻¹ : ℝ) : EReal)
  ∧ IdealRules.named_const.Statement Cert.AttnIdeal.κ "ln2" .f32 0x3F317218#32 ((Real.log 2 : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v119_0)) (v1 : (c : Dev Cert.AttnIdeal.nD) → Buf (Elt Ideal) ((c.tc : Thread Cert.AttnIdeal.nD Cert.AttnIdeal.τ).loc Cert.AttnIdeal.main_v119_1)) (v2 : (c : Dev Cert.AttnIdeal.nD) → Buf (Elt Ideal) ((c.tc : Thread Cert.AttnIdeal.nD Cert.AttnIdeal.τ).loc Cert.AttnIdeal.main_v119_2)) (v3 : (c : Dev Cert.AttnIdeal.nD) → Buf (Elt Ideal) ((c.tc : Thread Cert.AttnIdeal.nD Cert.AttnIdeal.τ).loc Cert.AttnIdeal.main_v119_3)) (v4 : (c : Dev Cert.AttnIdeal.nD) → Buf (Elt Ideal) ((c.tc : Thread Cert.AttnIdeal.nD Cert.AttnIdeal.τ).loc Cert.AttnIdeal.main_v119_4)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v119_0) = v0 c
          ∧ r.2.mem ((c.tc : Thread Cert.AttnIdeal.nD Cert.AttnIdeal.τ).loc Cert.AttnIdeal.main_v119_1) = v1 c
          ∧ r.2.mem ((c.tc : Thread Cert.AttnIdeal.nD Cert.AttnIdeal.τ).loc Cert.AttnIdeal.main_v119_2) = v2 c
          ∧ r.2.mem ((c.tc : Thread Cert.AttnIdeal.nD Cert.AttnIdeal.τ).loc Cert.AttnIdeal.main_v119_3) = v3 c
          ∧ r.2.mem ((c.tc : Thread Cert.AttnIdeal.nD Cert.AttnIdeal.τ).loc Cert.AttnIdeal.main_v119_4) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v104) = v0 c
          ∧ r.2.mem ((c.tc : Thread Cert.AttnRefIdeal.nD Cert.AttnRefIdeal.τ).loc Cert.AttnRefIdeal.main_v106) = v1 c
          ∧ r.2.mem ((c.tc : Thread Cert.AttnRefIdeal.nD Cert.AttnRefIdeal.τ).loc Cert.AttnRefIdeal.main_v108) = v2 c
          ∧ r.2.mem ((c.tc : Thread Cert.AttnRefIdeal.nD Cert.AttnRefIdeal.τ).loc Cert.AttnRefIdeal.main_v109) = v3 c
          ∧ r.2.mem ((c.tc : Thread Cert.AttnRefIdeal.nD Cert.AttnRefIdeal.τ).loc Cert.AttnRefIdeal.main_v91) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Lru_LruIdeal : Prop :=
  True

def preserves_AttnFwd_AttnFwdIdeal : Prop :=
  IdealRules.named_const.Statement Cert.AttnFwdIdeal.κ "mask" .f32 0xF149F2CA#32 ⊥
  ∧ IdealRules.named_const.Statement Cert.AttnFwdIdeal.κ "log2e" .f32 0x3FB8AA3B#32 (((Real.log 2)⁻¹ : ℝ) : EReal)

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v48_0)) (v1 : (c : Dev Cert.AttnFwdIdeal.nD) → Buf (Elt Ideal) ((c.tc : Thread Cert.AttnFwdIdeal.nD Cert.AttnFwdIdeal.τ).loc Cert.AttnFwdIdeal.main_v48_1)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v48_0) = v0 c
          ∧ r.2.mem ((c.tc : Thread Cert.AttnFwdIdeal.nD Cert.AttnFwdIdeal.τ).loc Cert.AttnFwdIdeal.main_v48_1) = v1 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v40) = v0 c
          ∧ r.2.mem ((c.tc : Thread Cert.AttnFwdRefIdeal.nD Cert.AttnFwdRefIdeal.τ).loc Cert.AttnFwdRefIdeal.main_v57) = v1 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_Proj_ProjIdeal : Prop :=
  IdealRules.named_const.Statement Cert.ProjIdeal.κ "qscale" .f32 0x3E0293EE#32 (((Real.sqrt 128)⁻¹ * (Real.log 2)⁻¹ : ℝ) : EReal)

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v5_0)) (v1 : (c : Dev Cert.ProjIdeal.nD) → Buf (Elt Ideal) ((c.tc : Thread Cert.ProjIdeal.nD Cert.ProjIdeal.τ).loc Cert.ProjIdeal.main_v5_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v5_0) = v0 c
          ∧ r.2.mem ((c.tc : Thread Cert.ProjIdeal.nD Cert.ProjIdeal.τ).loc Cert.ProjIdeal.main_v5_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_v27) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Residual_ResidualIdeal : Prop :=
  True

def algebraic_ResidualIdeal_ResidualRefIdeal [hResidualIdeal : Cert.ResidualIdeal.Facts] [hResidualRefIdeal : Cert.ResidualRefIdeal.Facts] : Prop :=
  ∀ (m : (ℓ : Loc Cert.ResidualIdeal.nD Cert.ResidualIdeal.τ Cert.ResidualIdeal.sig) → Buf (Elt Ideal) ℓ) (g : Dev Cert.ResidualIdeal.nD → PrngReg)
    (m' : (ℓ : Loc Cert.ResidualRefIdeal.nD Cert.ResidualRefIdeal.τ Cert.ResidualRefIdeal.sig) → Buf (Elt Ideal) ℓ) (g' : Dev Cert.ResidualRefIdeal.nD → PrngReg), Pre_ResidualIdeal m →
    (∀ c : Dev Cert.ResidualIdeal.nD,
      m' ((c.tc : Thread Cert.ResidualRefIdeal.nD Cert.ResidualRefIdeal.τ).loc Cert.ResidualRefIdeal.main_arg0) = m ((c.tc : Thread Cert.ResidualIdeal.nD Cert.ResidualIdeal.τ).loc Cert.ResidualIdeal.main_arg0)
      ∧ m' ((c.tc : Thread Cert.ResidualRefIdeal.nD Cert.ResidualRefIdeal.τ).loc Cert.ResidualRefIdeal.main_arg1) = m ((c.tc : Thread Cert.ResidualIdeal.nD Cert.ResidualIdeal.τ).loc Cert.ResidualIdeal.main_arg1)
      ∧ m' ((c.tc : Thread Cert.ResidualRefIdeal.nD Cert.ResidualRefIdeal.τ).loc Cert.ResidualRefIdeal.main_arg2) = m ((c.tc : Thread Cert.ResidualIdeal.nD Cert.ResidualIdeal.τ).loc Cert.ResidualIdeal.main_arg2)
      ∧ m' ((c.tc : Thread Cert.ResidualRefIdeal.nD Cert.ResidualRefIdeal.τ).loc Cert.ResidualRefIdeal.main_arg3) = m ((c.tc : Thread Cert.ResidualIdeal.nD Cert.ResidualIdeal.τ).loc Cert.ResidualIdeal.main_arg3)
      ∧ m' ((c.tc : Thread Cert.ResidualRefIdeal.nD Cert.ResidualRefIdeal.τ).loc Cert.ResidualRefIdeal.main_arg4) = m ((c.tc : Thread Cert.ResidualIdeal.nD Cert.ResidualIdeal.τ).loc Cert.ResidualIdeal.main_arg4)
      ∧ m' ((c.tc : Thread Cert.ResidualRefIdeal.nD Cert.ResidualRefIdeal.τ).loc Cert.ResidualRefIdeal.main_arg5) = m ((c.tc : Thread Cert.ResidualIdeal.nD Cert.ResidualIdeal.τ).loc Cert.ResidualIdeal.main_arg5)
      ∧ m' ((c.tc : Thread Cert.ResidualRefIdeal.nD Cert.ResidualRefIdeal.τ).loc Cert.ResidualRefIdeal.main_arg6) = m ((c.tc : Thread Cert.ResidualIdeal.nD Cert.ResidualIdeal.τ).loc Cert.ResidualIdeal.main_arg6)
      ∧ m' ((c.tc : Thread Cert.ResidualRefIdeal.nD Cert.ResidualRefIdeal.τ).loc Cert.ResidualRefIdeal.main_arg7) = m ((c.tc : Thread Cert.ResidualIdeal.nD Cert.ResidualIdeal.τ).loc Cert.ResidualIdeal.main_arg7)) →
    ∃ (v0 : (c : Dev Cert.ResidualIdeal.nD) → Buf (Elt Ideal) ((c.tc : Thread Cert.ResidualIdeal.nD Cert.ResidualIdeal.τ).loc Cert.ResidualIdeal.main_v10_0)) (v1 : (c : Dev Cert.ResidualIdeal.nD) → Buf (Elt Ideal) ((c.tc : Thread Cert.ResidualIdeal.nD Cert.ResidualIdeal.τ).loc Cert.ResidualIdeal.main_v10_1)) (v2 : (c : Dev Cert.ResidualIdeal.nD) → Buf (Elt Ideal) ((c.tc : Thread Cert.ResidualIdeal.nD Cert.ResidualIdeal.τ).loc Cert.ResidualIdeal.main_v10_2)) (v3 : (c : Dev Cert.ResidualIdeal.nD) → Buf (Elt Ideal) ((c.tc : Thread Cert.ResidualIdeal.nD Cert.ResidualIdeal.τ).loc Cert.ResidualIdeal.main_v10_3)),
      θ_run (Cert.ResidualIdeal.defs (F := Ideal)) (onTc (τ := Cert.ResidualIdeal.τ) (Cert.ResidualIdeal.main (F := Ideal))) ⟨m, fun _ => 0, g⟩ (fun r => ∀ c : Dev Cert.ResidualIdeal.nD,
          r.2.mem ((c.tc : Thread Cert.ResidualIdeal.nD Cert.ResidualIdeal.τ).loc Cert.ResidualIdeal.main_v10_0) = v0 c
          ∧ r.2.mem ((c.tc : Thread Cert.ResidualIdeal.nD Cert.ResidualIdeal.τ).loc Cert.ResidualIdeal.main_v10_1) = v1 c
          ∧ r.2.mem ((c.tc : Thread Cert.ResidualIdeal.nD Cert.ResidualIdeal.τ).loc Cert.ResidualIdeal.main_v10_2) = v2 c
          ∧ r.2.mem ((c.tc : Thread Cert.ResidualIdeal.nD Cert.ResidualIdeal.τ).loc Cert.ResidualIdeal.main_v10_3) = v3 c
          ∧ r.2.mem ((c.tc : Thread Cert.ResidualIdeal.nD Cert.ResidualIdeal.τ).loc Cert.ResidualIdeal.main_arg0) = m ((c.tc : Thread Cert.ResidualIdeal.nD Cert.ResidualIdeal.τ).loc Cert.ResidualIdeal.main_arg0)
          ∧ r.2.mem ((c.tc : Thread Cert.ResidualIdeal.nD Cert.ResidualIdeal.τ).loc Cert.ResidualIdeal.main_arg1) = m ((c.tc : Thread Cert.ResidualIdeal.nD Cert.ResidualIdeal.τ).loc Cert.ResidualIdeal.main_arg1)
          ∧ r.2.mem ((c.tc : Thread Cert.ResidualIdeal.nD Cert.ResidualIdeal.τ).loc Cert.ResidualIdeal.main_arg2) = m ((c.tc : Thread Cert.ResidualIdeal.nD Cert.ResidualIdeal.τ).loc Cert.ResidualIdeal.main_arg2)
          ∧ r.2.mem ((c.tc : Thread Cert.ResidualIdeal.nD Cert.ResidualIdeal.τ).loc Cert.ResidualIdeal.main_arg3) = m ((c.tc : Thread Cert.ResidualIdeal.nD Cert.ResidualIdeal.τ).loc Cert.ResidualIdeal.main_arg3)
          ∧ r.2.mem ((c.tc : Thread Cert.ResidualIdeal.nD Cert.ResidualIdeal.τ).loc Cert.ResidualIdeal.main_arg4) = m ((c.tc : Thread Cert.ResidualIdeal.nD Cert.ResidualIdeal.τ).loc Cert.ResidualIdeal.main_arg4)
          ∧ r.2.mem ((c.tc : Thread Cert.ResidualIdeal.nD Cert.ResidualIdeal.τ).loc Cert.ResidualIdeal.main_arg5) = m ((c.tc : Thread Cert.ResidualIdeal.nD Cert.ResidualIdeal.τ).loc Cert.ResidualIdeal.main_arg5)
          ∧ r.2.mem ((c.tc : Thread Cert.ResidualIdeal.nD Cert.ResidualIdeal.τ).loc Cert.ResidualIdeal.main_arg6) = m ((c.tc : Thread Cert.ResidualIdeal.nD Cert.ResidualIdeal.τ).loc Cert.ResidualIdeal.main_arg6)
          ∧ r.2.mem ((c.tc : Thread Cert.ResidualIdeal.nD Cert.ResidualIdeal.τ).loc Cert.ResidualIdeal.main_arg7) = m ((c.tc : Thread Cert.ResidualIdeal.nD Cert.ResidualIdeal.τ).loc Cert.ResidualIdeal.main_arg7))
      ∧ θ_run (Cert.ResidualRefIdeal.defs (F := Ideal)) (onTc (τ := Cert.ResidualRefIdeal.τ) (Cert.ResidualRefIdeal.main (F := Ideal))) ⟨m', fun _ => 0, g'⟩ (fun r => ∀ c : Dev Cert.ResidualRefIdeal.nD,
          r.2.mem ((c.tc : Thread Cert.ResidualRefIdeal.nD Cert.ResidualRefIdeal.τ).loc Cert.ResidualRefIdeal.main_v53) = v0 c
          ∧ r.2.mem ((c.tc : Thread Cert.ResidualRefIdeal.nD Cert.ResidualRefIdeal.τ).loc Cert.ResidualRefIdeal.main_v36) = v1 c
          ∧ r.2.mem ((c.tc : Thread Cert.ResidualRefIdeal.nD Cert.ResidualRefIdeal.τ).loc Cert.ResidualRefIdeal.main_v52) = v2 c
          ∧ r.2.mem ((c.tc : Thread Cert.ResidualRefIdeal.nD Cert.ResidualRefIdeal.τ).loc Cert.ResidualRefIdeal.main_v54) = v3 c
          ∧ r.2.mem ((c.tc : Thread Cert.ResidualRefIdeal.nD Cert.ResidualRefIdeal.τ).loc Cert.ResidualRefIdeal.main_arg0) = m' ((c.tc : Thread Cert.ResidualRefIdeal.nD Cert.ResidualRefIdeal.τ).loc Cert.ResidualRefIdeal.main_arg0)
          ∧ r.2.mem ((c.tc : Thread Cert.ResidualRefIdeal.nD Cert.ResidualRefIdeal.τ).loc Cert.ResidualRefIdeal.main_arg1) = m' ((c.tc : Thread Cert.ResidualRefIdeal.nD Cert.ResidualRefIdeal.τ).loc Cert.ResidualRefIdeal.main_arg1)
          ∧ r.2.mem ((c.tc : Thread Cert.ResidualRefIdeal.nD Cert.ResidualRefIdeal.τ).loc Cert.ResidualRefIdeal.main_arg2) = m' ((c.tc : Thread Cert.ResidualRefIdeal.nD Cert.ResidualRefIdeal.τ).loc Cert.ResidualRefIdeal.main_arg2)
          ∧ r.2.mem ((c.tc : Thread Cert.ResidualRefIdeal.nD Cert.ResidualRefIdeal.τ).loc Cert.ResidualRefIdeal.main_arg3) = m' ((c.tc : Thread Cert.ResidualRefIdeal.nD Cert.ResidualRefIdeal.τ).loc Cert.ResidualRefIdeal.main_arg3)
          ∧ r.2.mem ((c.tc : Thread Cert.ResidualRefIdeal.nD Cert.ResidualRefIdeal.τ).loc Cert.ResidualRefIdeal.main_arg4) = m' ((c.tc : Thread Cert.ResidualRefIdeal.nD Cert.ResidualRefIdeal.τ).loc Cert.ResidualRefIdeal.main_arg4)
          ∧ r.2.mem ((c.tc : Thread Cert.ResidualRefIdeal.nD Cert.ResidualRefIdeal.τ).loc Cert.ResidualRefIdeal.main_arg5) = m' ((c.tc : Thread Cert.ResidualRefIdeal.nD Cert.ResidualRefIdeal.τ).loc Cert.ResidualRefIdeal.main_arg5)
          ∧ r.2.mem ((c.tc : Thread Cert.ResidualRefIdeal.nD Cert.ResidualRefIdeal.τ).loc Cert.ResidualRefIdeal.main_arg6) = m' ((c.tc : Thread Cert.ResidualRefIdeal.nD Cert.ResidualRefIdeal.τ).loc Cert.ResidualRefIdeal.main_arg6)
          ∧ r.2.mem ((c.tc : Thread Cert.ResidualRefIdeal.nD Cert.ResidualRefIdeal.τ).loc Cert.ResidualRefIdeal.main_arg7) = m' ((c.tc : Thread Cert.ResidualRefIdeal.nD Cert.ResidualRefIdeal.τ).loc Cert.ResidualRefIdeal.main_arg7))

def Claim : Prop :=
  ∃ (hPrenorm : Cert.Prenorm.Facts) (hPrenormIdeal : Cert.PrenormIdeal.Facts) (hPrenormRefIdeal : Cert.PrenormRefIdeal.Facts) (hForget : Cert.Forget.Facts) (hForgetIdeal : Cert.ForgetIdeal.Facts) (hForgetRefIdeal : Cert.ForgetRefIdeal.Facts) (hBranch : Cert.Branch.Facts) (hBranchIdeal : Cert.BranchIdeal.Facts) (hBranchRefIdeal : Cert.BranchRefIdeal.Facts) (hHead : Cert.Head.Facts) (hHeadIdeal : Cert.HeadIdeal.Facts) (hHeadRefIdeal : Cert.HeadRefIdeal.Facts) (hAttn : Cert.Attn.Facts) (hAttnIdeal : Cert.AttnIdeal.Facts) (hAttnRefIdeal : Cert.AttnRefIdeal.Facts) (hLru : Cert.Lru.Facts) (hLruIdeal : Cert.LruIdeal.Facts) (hAttnFwd : Cert.AttnFwd.Facts) (hAttnFwdIdeal : Cert.AttnFwdIdeal.Facts) (hAttnFwdRefIdeal : Cert.AttnFwdRefIdeal.Facts) (hProj : Cert.Proj.Facts) (hProjIdeal : Cert.ProjIdeal.Facts) (hProjRefIdeal : Cert.ProjRefIdeal.Facts) (hResidual : Cert.Residual.Facts) (hResidualIdeal : Cert.ResidualIdeal.Facts) (hResidualRefIdeal : Cert.ResidualRefIdeal.Facts) (hPre_prenorm_finite : Cert.Pre_prenorm_finite.Facts) (hPre_branch_finite : Cert.Pre_branch_finite.Facts) (hPre_head_finite : Cert.Pre_head_finite.Facts) (hPre_attn_finite : Cert.Pre_attn_finite.Facts) (hPre_attn_fwd_finite : Cert.Pre_attn_fwd_finite.Facts),
    quiescent_Prenorm (hPrenorm := hPrenorm)
    ∧ quiescent_PrenormIdeal (hPrenormIdeal := hPrenormIdeal)
    ∧ quiescent_PrenormIdeal_pre_prenorm_finite (hPrenormIdeal := hPrenormIdeal) (hPre_prenorm_finite := hPre_prenorm_finite)
    ∧ quiescent_PrenormRefIdeal (hPrenormRefIdeal := hPrenormRefIdeal)
    ∧ quiescent_PrenormRefIdeal_pre_prenorm_finite (hPrenormRefIdeal := hPrenormRefIdeal) (hPre_prenorm_finite := hPre_prenorm_finite)
    ∧ quiescent_Forget (hForget := hForget)
    ∧ quiescent_ForgetIdeal (hForgetIdeal := hForgetIdeal)
    ∧ quiescent_ForgetRefIdeal (hForgetRefIdeal := hForgetRefIdeal)
    ∧ quiescent_Branch (hBranch := hBranch)
    ∧ quiescent_BranchIdeal (hBranchIdeal := hBranchIdeal)
    ∧ quiescent_BranchIdeal_pre_branch_finite (hBranchIdeal := hBranchIdeal) (hPre_branch_finite := hPre_branch_finite)
    ∧ quiescent_BranchRefIdeal (hBranchRefIdeal := hBranchRefIdeal)
    ∧ quiescent_BranchRefIdeal_pre_branch_finite (hBranchRefIdeal := hBranchRefIdeal) (hPre_branch_finite := hPre_branch_finite)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Lru (hLru := hLru)
    ∧ quiescent_LruIdeal (hLruIdeal := hLruIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_Proj (hProj := hProj)
    ∧ quiescent_ProjIdeal (hProjIdeal := hProjIdeal)
    ∧ quiescent_ProjRefIdeal (hProjRefIdeal := hProjRefIdeal)
    ∧ quiescent_Residual (hResidual := hResidual)
    ∧ quiescent_ResidualIdeal (hResidualIdeal := hResidualIdeal)
    ∧ quiescent_ResidualRefIdeal (hResidualRefIdeal := hResidualRefIdeal)
    ∧ preserves_Prenorm_PrenormIdeal
    ∧ algebraic_PrenormIdeal_PrenormRefIdeal_pre_prenorm_finite (hPrenormIdeal := hPrenormIdeal) (hPrenormRefIdeal := hPrenormRefIdeal) (hPre_prenorm_finite := hPre_prenorm_finite)
    ∧ preserves_Forget_ForgetIdeal
    ∧ algebraic_ForgetIdeal_ForgetRefIdeal (hForgetIdeal := hForgetIdeal) (hForgetRefIdeal := hForgetRefIdeal)
    ∧ preserves_Branch_BranchIdeal
    ∧ algebraic_BranchIdeal_BranchRefIdeal_pre_branch_finite (hBranchIdeal := hBranchIdeal) (hBranchRefIdeal := hBranchRefIdeal) (hPre_branch_finite := hPre_branch_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Lru_LruIdeal
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_Proj_ProjIdeal
    ∧ algebraic_ProjIdeal_ProjRefIdeal (hProjIdeal := hProjIdeal) (hProjRefIdeal := hProjRefIdeal)
    ∧ preserves_Residual_ResidualIdeal
    ∧ algebraic_ResidualIdeal_ResidualRefIdeal (hResidualIdeal := hResidualIdeal) (hResidualRefIdeal := hResidualRefIdeal)
-- ==== Pre_attn_finite.lean ====
abbrev S4096x6152 : Shape := ⟨2, ![4096, 6152]⟩
abbrev S1x8 : Shape := ⟨2, ![1, 8]⟩
abbrev S4096x1024 : Shape := ⟨2, ![4096, 1024]⟩
abbrev S_ : Shape := ⟨0, ![]⟩

class Facts : Prop where
  bcast_S_S4096x6152 : S_.BroadcastsInDim S4096x6152 (![] : Fin 0 → Fin S4096x6152.rank)
  reducesTo_S4096x6152_S_d0_1 : S4096x6152.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x6152 .f32) (main_arg1 : FVec F S1x8 .f32) (main_arg2 : FVec F S4096x1024 .bf16) : IVec S_ 1 :=
  let main_v0 : FVec F S4096x6152 .f32 := Host.absf main_arg0
  let main_cst : FVec F S_ .f32 := constant S_ .f32 0x7F800000#32
  let main_v1 : FVec F S4096x6152 .f32 := broadcastInDim S4096x6152 ![] bcast_S_S4096x6152 main_cst
  let main_v2 : IVec S4096x6152 1 := cmpf .olt main_v0 main_v1
  let main_c : IVec S_ 1 := constantI S_ 1 1#1
  let main_v3 : IVec S_ 1 := (fun x v => Host.reduce IntOp.andi x v reducesTo_S4096x6152_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : FVec F S4096x1024 .bf16 := Host.absf main_arg2
  let main_cst_2 : FVec F S_ .bf16 := constant S_ .bf16 0x7F80#16
  let main_v9 : FVec F S4096x1024 .bf16 := broadcastInDim S4096x1024 ![] bcast_S_S4096x1024 main_cst_2
  let main_v10 : IVec S4096x1024 1 := cmpf .olt main_v8 main_v9
  let main_c_3 : IVec S_ 1 := constantI S_ 1 1#1
  let main_v11 : IVec S_ 1 := (fun x v => Host.reduce IntOp.andi x v reducesTo_S4096x1024_S_d0_1 h_S_) main_v10 main_c_3
  let main_v12 : IVec S_ 1 := andi main_v3 main_v7
  let main_v13 : IVec S_ 1 := andi main_v12 main_v11
  main_v13
-- ==== Pre_attn_fwd_finite.lean ====
abbrev S4096x6152 : Shape := ⟨2, ![4096, 6152]⟩
abbrev S1x8 : Shape := ⟨2, ![1, 8]⟩
abbrev S_ : Shape := ⟨0, ![]⟩

class Facts : Prop where
  bcast_S_S4096x6152 : S_.BroadcastsInDim S4096x6152 (![] : Fin 0 → Fin S4096x6152.rank)
  reducesTo_S4096x6152_S_d0_1 : S4096x6152.ReducesTo [0, 1] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S4096x6152 .f32) (main_arg1 : FVec F S1x8 .f32) : IVec S_ 1 :=
  let main_v0 : FVec F S4096x6152 .f32 := Host.absf main_arg0
  let main_cst : FVec F S_ .f32 := constant S_ .f32 0x7F800000#32
  let main_v1 : FVec F S4096x6152 .f32 := broadcastInDim S4096x6152 ![] bcast_S_S4096x6152 main_cst
  let main_v2 : IVec S4096x6152 1 := cmpf .olt main_v0 main_v1
  let main_c : IVec S_ 1 := constantI S_ 1 1#1
  let main_v3 : IVec S_ 1 := (fun x v => Host.reduce IntOp.andi x v reducesTo_S4096x6152_S_d0_1 h_S_) main_v2 main_c
  let main_v4 : FVec F S1x8 .f32 := Host.absf main_arg1
  let main_cst_0 : FVec F S_ .f32 := constant S_ .f32 0x7F800000#32
  let main_v5 : FVec F S1x8 .f32 := broadcastInDim S1x8 ![] bcast_S_S1x8 main_cst_0
  let main_v6 : IVec S1x8 1 := cmpf .olt main_v4 main_v5
  let main_c_1 : IVec S_ 1 := constantI S_ 1 1#1
  let main_v7 : IVec S_ 1 := (fun x v => Host.reduce IntOp.andi x v reducesTo_S1x8_S_d0_1 h_S_) main_v6 main_c_1
  let main_v8 : IVec S_ 1 := andi main_v3 main_v7
  main_v8
-- ==== Pre_branch_finite.lean ====
abbrev S4096x1024 : Shape := ⟨2, ![4096, 1024]⟩
abbrev S4096x6152 : Shape := ⟨2, ![4096, 6152]⟩
abbrev S1x2048x1024 : Shape := ⟨3, ![1, 2048, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x6152 : S_.BroadcastsInDim S4096x6152 (![] : Fin 0 → Fin S4096x6152.rank)
  reducesTo_S4096x6152_S_d0_1 : S4096x6152.ReducesTo [0, 1] S_
  bcast_S_S1x2048x1024 : S_.BroadcastsInDim S1x2048x1024 (![] : Fin 0 → Fin S1x2048x1024.rank)
  reducesTo_S1x2048x1024_S_d0_1_2 : S1x2048x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x2048x1024 .f32) (main_arg5 : FVec F S1x1024 .f32) (main_arg6 : FVec F S1x1024 .f32) (main_v3 : IVec S_ 1) (main_v7 : IVec S_ 1) (main_v11 : IVec S_ 1) (main_v15 : IVec S_ 1) : IVec S_ 1 :=
  let main_v16 : FVec F S1x2048x1024 .f32 := Host.absf main_arg4
  let main_cst_6 : FVec F S_ .f32 := constant S_ .f32 0x7F800000#32
  let main_v17 : FVec F S1x2048x1024 .f32 := broadcastInDim S1x2048x1024 ![] bcast_S_S1x2048x1024 main_cst_6
  let main_v18 : IVec S1x2048x1024 1 := cmpf .olt main_v16 main_v17
  let main_c_7 : IVec S_ 1 := constantI S_ 1 1#1
  let main_v19 : IVec S_ 1 := (fun x v => Host.reduce IntOp.andi x v reducesTo_S1x2048x1024_S_d0_1_2 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S4096x1024 .f32) (main_arg1 : FVec F S4096x1024 .f32) (main_arg2 : FVec F S4096x6152 .f32) (main_arg3 : FVec F S4096x1024 .bf16) (main_arg4 : FVec F S1x2048x1024 .f32) (main_arg5 : FVec F S1x1024 .f32) (main_arg6 : FVec F S1x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S4096x6152 .f32 := Host.absf main_arg2
  let main_cst_2 : FVec F S_ .f32 := constant S_ .f32 0x7F800000#32
  let main_v9 : FVec F S4096x6152 .f32 := broadcastInDim S4096x6152 ![] bcast_S_S4096x6152 main_cst_2
  let main_v10 : IVec S4096x6152 1 := cmpf .olt main_v8 main_v9
  let main_c_3 : IVec S_ 1 := constantI S_ 1 1#1
  let main_v11 : IVec S_ 1 := (fun x v => Host.reduce IntOp.andi x v reducesTo_S4096x6152_S_d0_1 h_S_) main_v10 main_c_3
  let main_v12 : FVec F S4096x1024 .bf16 := Host.absf main_arg3
  let main_cst_4 : FVec F S_ .bf16 := constant S_ .bf16 0x7F80#16
  let main_v13 : FVec F S4096x1024 .bf16 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_v3 main_v7 main_v11 main_v15
-- ==== Pre_head_finite.lean ====
abbrev S1x4096x1024 : Shape := ⟨3, ![1, 4096, 1024]⟩
abbrev S1x1x4096x256 : Shape := ⟨4, ![1, 1, 4096, 256]⟩
abbrev S4096x1024 : Shape := ⟨2, ![4096, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1x4096x256 : S_.BroadcastsInDim S1x1x4096x256 (![] : Fin 0 → Fin S1x1x4096x256.rank)
  reducesTo_S1x1x4096x256_S_d0_1_2_3 : S1x1x4096x256.ReducesTo [0, 1, 2, 3] S_
  bcast_S_S4096x1024 : S_.BroadcastsInDim S4096x1024 (![] : Fin 0 → Fin S4096x1024.rank)
  reducesTo_S4096x1024_S_d0_1 : S4096x1024.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x256x1024 : S_.BroadcastsInDim S1x256x1024 (![] : Fin 0 → Fin S1x256x1024.rank)
  reducesTo_S1x256x1024_S_d0_1_2 : S1x256x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part2 {F : FTy → Type} [FloatOps F] (main_arg8 : FVec F S1x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024 .f32 := Host.absf main_arg8
  let main_cst_14 : FVec F S_ .f32 := constant S_ .f32 0x7F800000#32
  let main_v33 : FVec F S1x1024 .f32 := broadcastInDim S1x1024 ![] bcast_S_S1x1024 main_cst_14
  let main_v34 : IVec S1x1024 1 := cmpf .olt main_v32 main_v33
  let main_c_15 : IVec S_ 1 := constantI S_ 1 1#1
  let main_v35 : IVec S_ 1 := (fun x v => Host.reduce IntOp.andi x v reducesTo_S1x1024_S_d0_1 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S1x1024x1024 .f32) (main_arg5 : FVec F S1x256x1024 .f32) (main_arg6 : FVec F S1x1024 .f32) (main_arg7 : FVec F S1x1024 .f32) (main_arg8 : FVec F S1x1024 .f32) (main_v3 : IVec S_ 1) (main_v7 : IVec S_ 1) (main_v11 : IVec S_ 1) (main_v15 : IVec S_ 1) : IVec S_ 1 :=
  let main_v16 : FVec F S1x1024x1024 .f32 := Host.absf main_arg4
  let main_cst_6 : FVec F S_ .f32 := constant S_ .f32 0x7F800000#32
  let main_v17 : FVec F S1x1024x1024 .f32 := broadcastInDim S1x1024x1024 ![] bcast_S_S1x1024x1024 main_cst_6
  let main_v18 : IVec S1x1024x1024 1 := cmpf .olt main_v16 main_v17
  let main_c_7 : IVec S_ 1 := constantI S_ 1 1#1
  let main_v19 : IVec S_ 1 := (fun x v => Host.reduce IntOp.andi x v reducesTo_S1x1024x1024_S_d0_1_2 h_S_) main_v18 main_c_7
  let main_v20 : FVec F S1x256x1024 .f32 := Host.absf main_arg5
  let main_cst_8 : FVec F S_ .f32 := constant S_ .f32 0x7F800000#32
  let main_v21 : FVec F S1x256x1024 .f32 := broadcastInDim S1x256x1024 ![] bcast_S_S1x256x1024 main_cst_8
  let main_v22 : IVec S1x256x1024 1 := cmpf .olt main_v20 main_v21
  let main_c_9 : IVec S_ 1 := constantI S_ 1 1#1
  let main_v23 : IVec S_ 1 := (fun x v => Host.reduce IntOp.andi x v reducesTo_S1x256x1024_S_d0_1_2 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_v3 main_v7 main_v11 main_v15 main_v19 main_v23 main_v27 main_v31

def fn {F : FTy → Type} [FloatOps F] (main_arg0 : FVec F S1x4096x1024 .f32) (main_arg1 : FVec F S1x1x4096x256 .f32) (main_arg2 : FVec F S1x4096x1024 .f32) (main_arg3 : FVec F S4096x1024 .f32) (main_arg4 : FVec F S1x1024x1024 .f32) (main_arg5 : FVec F S1x256x1024 .f32) (main_arg6 : FVec F S1x1024 .f32) (main_arg7 : FVec F S1x1024 .f32) (main_arg8 : FVec F S1x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1x4096x256 .f32 := Host.absf main_arg1
  let main_cst_0 : FVec F S_ .f32 := constant S_ .f32 0x7F800000#32
  let main_v5 : FVec F S1x1x4096x256 .f32 := broadcastInDim S1x1x4096x256 ![] bcast_S_S1x1x4096x256 main_cst_0
  let main_v6 : IVec S1x1x4096x256 1 := cmpf .olt main_v4 main_v5
  let main_c_1 : IVec S_ 1 := constantI S_ 1 1#1
  let main_v7 : IVec S_ 1 := (fun x v => Host.reduce IntOp.andi x v reducesTo_S1x1x4096x256_S_d0_1_2_3 h_S_) main_v6 main_c_1
  let main_v8 : FVec F S1x4096x1024 .f32 := Host.absf main_arg2
  let main_cst_2 : FVec F S_ .f32 := constant S_ .f32 0x7F800000#32
  let main_v9 : FVec F S1x4096x1024 .f32 := broadcastInDim S1x4096x1024 ![] bcast_S_S1x4096x1024 main_cst_2
  let main_v10 : IVec S1x4096x1024 1 := cmpf .olt main_v8 main_v9
  let main_c_3 : IVec S_ 1 := constantI S_ 1 1#1
  let main_v11 : IVec S_ 1 := (fun x v => Host.reduce IntOp.andi x v reducesTo_S1x4096x1024_S_d0_1_2 h_S_) main_v10 main_c_3
  let main_v12 : FVec F S4096x1024 .f32 := Host.absf main_arg3
  let main_cst_4 : FVec F S_ .f32 := constant S_ .f32 0x7F800000#32
  let main_v13 : FVec F S4096x1024 .f32 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg4 main_arg5 main_arg6 main_arg7 main_arg8 main_v3 main_v7 main_v11 main_v15
-- ==== Pre_prenorm_finite.lean ====
abbrev S1x4096x1024 : Shape := ⟨3, ![1, 4096, 1024]⟩
abbrev S1x1024x6152 : Shape := ⟨3, ![1, 1024, 6152]⟩
abbrev S1x1024 : Shape := ⟨2, ![1, 1024]⟩
abbrev S4096x1024 : Shape := ⟨2, ![4096, 1024]⟩
abbrev S4096x8 : Shape := ⟨2, ![4096, 8]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S1x1024x6152 : S_.BroadcastsInDim S1x1024x6152 (![] : Fin 0 → Fin S1x1024x6152.rank)
  reducesTo_S1x1024x6152_S_d0_1_2 : S1x1024x6152.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096x8 : S_.BroadcastsInDim S4096x8 (![] : Fin 0 → Fin S4096x8.rank)
  reducesTo_S4096x8_S_d0_1 : S4096x8.ReducesTo [0, 1] S_

variable [Facts]

def fn_part2 {F : FTy → Type} [FloatOps F] (main_arg9 : FVec F S4096x1024 .bf16) (main_arg10 : FVec F S4096x8 .bf16) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S4096x1024 .bf16 := Host.absf main_arg9
  let main_cst_14 : FVec F S_ .bf16 := constant S_ .bf16 0x7F80#16
  let main_v33 : FVec F S4096x1024 .bf16 := broadcastInDim S4096x1024 ![] bcast_S_S4096x1024 main_cst_14
  let main_v34 : IVec S4096x1024 1 := cmpf .olt main_v32 main_v33
  let main_c_15 : IVec S_ 1 := constantI S_ 1 1#1
  let main_v35 : IVec S_ 1 := (fun x v => Host.reduce IntOp.andi x v reducesTo_S4096x1024_S_d0_1 h_S_) main_v34 main_c_15
  let main_v36 : FVec F S4096x8 .bf16 := Host.absf main_arg10
  let main_cst_16 : FVec F S_ .bf16 := constant S_ .bf16 0x7F80#16
  let main_v37 : FVec F S4096x8 .bf16 := broadcastInDim S4096x8 ![] bcast_S_S4096x8 main_cst_16
  let main_v38 : IVec S4096x8 1 := cmpf .olt main_v36 main_v37
  let main_c_17 : IVec S_ 1 := constantI S_ 1 1#1
  let main_v39 : IVec S_ 1 := (fun x v => Host.reduce IntOp.andi x v reducesTo_S4096x8_S_d0_1 h_S_) main_v38 main_c_17
  let main_v40 : IVec S_ 1 := andi main_v3 main_v7
  let main_v41 : IVec S_ 1 := andi main_v40 main_v11
  let main_v42 : IVec S_ 1 := andi main_v41 main_v15
  let main_v43 : IVec S_ 1 := andi main_v42 main_v19
  let main_v44 : IVec S_ 1 := andi main_v43 main_v23
  let main_v45 : IVec S_ 1 := andi main_v44 main_v27
  let main_v46 : IVec S_ 1 := andi main_v45 main_v31
  let main_v47 : IVec S_ 1 := andi main_v46 main_v35
  let main_v48 : IVec S_ 1 := andi main_v47 main_v39
  main_v48

def fn_part1 {F : FTy → Type} [FloatOps F] (main_arg5 : FVec F S4096x1024 .bf16) (main_arg6 : FVec F S4096x1024 .bf16) (main_arg7 : FVec F S4096x1024 .bf16) (main_arg8 : FVec F S4096x1024 .bf16) (main_arg9 : FVec F S4096x1024 .bf16) (main_arg10 : FVec F S4096x8 .bf16) (main_v3 : IVec S_ 1) (main_v7 : IVec S_ 1) (main_v11 : IVec S_ 1) (main_v15 : IVec S_ 1) : IVec S_ 1 :=
  let main_v16 : FVec F S4096x1024 .bf16 := Host.absf main_arg5
  let main_cst_6 : FVec F S_ .bf16 := constant S_ .bf16 0x7F80#16
  let main_v17 : FVec F S4096x1024 .bf16 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : FVec F S4096x1024 .bf16 := Host.absf main_arg6
  let main_cst_8 : FVec F S_ .bf16 := constant S_ .bf16 0x7F80#16
  let main_v21 : FVec F S4096x1024 .bf16 := broadcastInDim S4096x1024 ![] bcast_S_S4096x1024 main_cst_8
  let main_v22 : IVec S4096x1024 1 := cmpf .olt main_v20 main_v21
  let main_c_9 : IVec S_ 1 := constantI S_ 1 1#1
  let main_v23 : IVec S_ 1 := (fun x v => Host.reduce IntOp.andi x v reducesTo_S4096x1024_S_d0_1 h_S_) main_v22 main_c_9
  let main_v24 : FVec F S4096x1024 .bf16 := Host.absf main_arg7
  let main_cst_10 : FVec F S_ .bf16 := constant S_ .bf16 0x7F80#16
  let main_v25 : FVec F S4096x1024 .bf16 := broadcastInDim S4096x1024 ![] bcast_S_S4096x1024 main_cst_10
  let main_v26 : IVec S4096x1024 1 := cmpf .olt main_v24 main_v25
  let main_c_11 : IVec S_ 1 := constantI S_ 1 1#1
  let main_v27 : IVec S_ 1 := (fun x v => Host.reduce IntOp.andi x v reducesTo_S4096x1024_S_d0_1 h_S_) main_v26 main_c_11
  let main_v28 : FVec F S4096x1024 .bf16 := Host.absf main_arg8
  let main_cst_12 : FVec F S_ .bf16 := constant S_ .bf16 0x7F80#16
  let main_v29 : FVec F S4096x1024 .bf16 := broadcastInDim S4096x1024 ![] bcast_S_S4096x1024 main_cst_12
  let main_v30 : IVec S4096x1024 1 := cmpf .olt main_v28 main_v29
  let main_c_13 : IVec S_ 1 := constantI S_ 1 1#1
  let main_v31 : IVec S_ 1 := (fun x v => Host.reduce IntOp.andi x v reducesTo_S4096x1024_S_d0_1 h_S_) main_v30 main_c_13
  fn_part2 (F := F) main_arg9 main_arg10 main_v3 main_v7 main_v11 main_v15 main_v19 main_v23 main_v27 main_v31

def fn {F : FTy → Type} [FloatOps F] (main_arg0 : FVec F S1x4096x1024 .f32) (main_arg1 : FVec F S1x1024x6152 .f32) (main_arg2 : FVec F S1x1024 .f32) (main_arg3 : FVec F S4096x1024 .f32) (main_arg4 : FVec F S4096x1024 .bf16) (main_arg5 : FVec F S4096x1024 .bf16) (main_arg6 : FVec F S4096x1024 .bf16) (main_arg7 : FVec F S4096x1024 .bf16) (main_arg8 : FVec F S4096x1024 .bf16) (main_arg9 : FVec F S4096x1024 .bf16) (main_arg10 : FVec F S4096x8 .bf16) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S1x1024x6152 .f32 := Host.absf main_arg1
  let main_cst_0 : FVec F S_ .f32 := constant S_ .f32 0x7F800000#32
  let main_v5 : FVec F S1x1024x6152 .f32 := broadcastInDim S1x1024x6152 ![] bcast_S_S1x1024x6152 main_cst_0
  let main_v6 : IVec S1x1024x6152 1 := cmpf .olt main_v4 main_v5
  let main_c_1 : IVec S_ 1 := constantI S_ 1 1#1
  let main_v7 : IVec S_ 1 := (fun x v => Host.reduce IntOp.andi x v reducesTo_S1x1024x6152_S_d0_1_2 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S4096x1024 .bf16 := Host.absf main_arg4
  let main_cst_4 : FVec F S_ .bf16 := constant S_ .bf16 0x7F80#16
  let main_v13 : FVec F S4096x1024 .bf16 := broadcastInDim S4096x1024 ![] bcast_S_S4096x1024 main_cst_4
  let main_v14 : IVec S4096x1024 1 := cmpf .olt main_v12 main_v13
  let main_c_5 : IVec S_ 1 := constantI S_ 1 1#1
  let main_v15 : IVec S_ 1 := (fun x v => Host.reduce IntOp.andi x v reducesTo_S4096x1024_S_d0_1 h_S_) main_v14 main_c_5
  fn_part1 (F := F) main_arg5 main_arg6 main_arg7 main_arg8 main_arg9 main_arg10 main_v3 main_v7 main_v11 main_v15
-- ==== Prenorm.lean ====
abbrev S1x4096x1024 : Shape := ⟨3, ![1, 4096, 1024]⟩
abbrev S1x1024x6152 : Shape := ⟨3, ![1, 1024, 6152]⟩
abbrev S1x1024 : Shape := ⟨2, ![1, 1024]⟩
abbrev S4096x1024 : Shape := ⟨2, ![4096, 1024]⟩
abbrev S4096x8 : Shape := ⟨2, ![4096, 8]⟩
abbrev S1024x6152 : Shape := ⟨2, ![1024, 6152]⟩
abbrev S6152x1024 : Shape := ⟨2, ![6152, 1024]⟩
abbrev S3072x1024 : Shape := ⟨2, ![3072, 1024]⟩
abbrev S8x1024 : Shape := ⟨2, ![8, 1024]⟩
abbrev S1024x8 : Shape := ⟨2, ![1024, 8]⟩
abbrev S1024x8x1 : Shape := ⟨3, ![1024, 8, 1]⟩
abbrev S_ : Shape := ⟨0, ![]⟩
abbrev S1024x8x8 : Shape := ⟨3, ![1024, 8, 8]⟩
abbrev S1024x64 : Shape := ⟨2, ![1024, 64]⟩
abbrev S1024x128 : Shape := ⟨2, ![1024, 128]⟩
abbrev S128x1024 : Shape := ⟨2, ![128, 1024]⟩
abbrev S3200x1024 : Shape := ⟨2, ![3200, 1024]⟩
abbrev S4096x3072 : Shape := ⟨2, ![4096, 3072]⟩
abbrev S4096x8x1 : Shape := ⟨3, ![4096, 8, 1]⟩
abbrev S4096x8x8 : Shape := ⟨3, ![4096, 8, 8]⟩
abbrev S4096x64 : Shape := ⟨2, ![4096, 64]⟩
abbrev S4096x128 : Shape := ⟨2, ![4096, 128]⟩
abbrev S8x128 : Shape := ⟨2, ![8, 128]⟩
abbrev S512x1024 : Shape := ⟨2, ![512, 1024]⟩
abbrev S512x128 : Shape := ⟨2, ![512, 128]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 45
  | .vmem => 20
  | .smem => 0
  | _ => 0

abbrev bufTy : (tb : Table) → Fin (tcTables nBuf tb) → BufTy
  | .hbm, ⟨0, _⟩ => ⟨S1x4096x1024, .f32⟩
  | .hbm, ⟨1, _⟩ => ⟨S1x1024x6152, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x8, .bf16⟩
  | .hbm, ⟨11, _⟩ => ⟨S1024x6152, .f32⟩
  | .hbm, ⟨12, _⟩ => ⟨S6152x1024, .f32⟩
  | .hbm, ⟨13, _⟩ => ⟨S6152x1024, .bf16⟩
  | .hbm, ⟨14, _⟩ => ⟨S3072x1024, .bf16⟩
  | .hbm, ⟨15, _⟩ => ⟨S8x1024, .bf16⟩
  | .hbm, ⟨16, _⟩ => ⟨S1024x8, .bf16⟩
  | .hbm, ⟨17, _⟩ => ⟨S1024x8x1, .bf16⟩
  | .hbm, ⟨18, _⟩ => ⟨S_, .i32⟩
  | .hbm, ⟨19, _⟩ => ⟨S_, .bf16⟩
  | .hbm, ⟨20, _⟩ => ⟨S1024x8x8, .bf16⟩
  | .hbm, ⟨21, _⟩ => ⟨S1024x64, .bf16⟩
  | .hbm, ⟨22, _⟩ => ⟨S_, .i32⟩
  | .hbm, ⟨23, _⟩ => ⟨S_, .bf16⟩
  | .hbm, ⟨24, _⟩ => ⟨S1024x128, .bf16⟩
  | .hbm, ⟨25, _⟩ => ⟨S128x1024, .bf16⟩
  | .hbm, ⟨26, _⟩ => ⟨S3200x1024, .bf16⟩
  | .hbm, ⟨27, _⟩ => ⟨S4096x3072, .bf16⟩
  | .hbm, ⟨28, _⟩ => ⟨S4096x3072, .f32⟩
  | .hbm, ⟨29, _⟩ => ⟨S3072x1024, .bf16⟩
  | .hbm, ⟨30, _⟩ => ⟨S3072x1024, .f32⟩
  | .hbm, ⟨31, _⟩ => ⟨S4096x1024, .f32⟩
  | .hbm, ⟨32, _⟩ => ⟨S4096x1024, .f32⟩
  | .hbm, ⟨33, _⟩ => ⟨S4096x8x1, .bf16⟩
  | .hbm, ⟨34, _⟩ => ⟨S_, .i32⟩
  | .hbm, ⟨35, _⟩ => ⟨S_, .bf16⟩
  | .hbm, ⟨36, _⟩ => ⟨S4096x8x8, .bf16⟩
  | .hbm, ⟨37, _⟩ => ⟨S4096x64, .bf16⟩
  | .hbm, ⟨38, _⟩ => ⟨S_, .i32⟩
  | .hbm, ⟨39, _⟩ => ⟨S_, .bf16⟩
  | .hbm, ⟨40, _⟩ => ⟨S4096x128, .bf16⟩
  | .hbm, ⟨41, _⟩ => ⟨S_, .f32⟩
  | .hbm, ⟨42, _⟩ => ⟨S8x128, .f32⟩
  | .hbm, ⟨43, _⟩ => ⟨S4096x1024, .f32⟩
  | .hbm, ⟨44, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x128, .bf16⟩
  | .local _ .vmem, ⟨11, _⟩ => ⟨S512x128, .bf16⟩
  | .local _ .vmem, ⟨12, _⟩ => ⟨S3200x1024, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S8x128, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_call2_v0 : Ref sig .tc := ⟨.hbm, 35, rfl⟩
abbrev main_v19 : Ref sig .tc := ⟨.hbm, 36, rfl⟩
abbrev main_v20 : Ref sig .tc := ⟨.hbm, 37, rfl⟩
abbrev main_c_2 : Ref sig .tc := ⟨.hbm, 38, rfl⟩
abbrev main_call3_v0 : Ref sig .tc := ⟨.hbm, 39, rfl⟩
abbrev main_v21 : Ref sig .tc := ⟨.hbm, 40, rfl⟩
abbrev main_cst : Ref sig .tc := ⟨.hbm, 41, rfl⟩
abbrev main_v22 : Ref sig .tc := ⟨.hbm, 42, rfl⟩
abbrev main_v23_0 : Ref sig .tc := ⟨.hbm, 43, rfl⟩
abbrev main_v23_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3200x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== PrenormRefIdeal.lean ====
abbrev S1x4096x1024 : Shape := ⟨3, ![1, 4096, 1024]⟩
abbrev S1x1024x6152 : Shape := ⟨3, ![1, 1024, 6152]⟩
abbrev S1x1024 : Shape := ⟨2, ![1, 1024]⟩
abbrev S4096x1024 : Shape := ⟨2, ![4096, 1024]⟩
abbrev S4096x8 : Shape := ⟨2, ![4096, 8]⟩
abbrev S4096x6152 : Shape := ⟨2, ![4096, 6152]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x6152 : Shape := ⟨2, ![1024, 6152]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024x6152, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S4096x1024, .bf16⟩
  | .hbm, ⟨6, _⟩ => ⟨S4096x1024, .bf16⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x8, .bf16⟩
  | .hbm, ⟨11, _⟩ => ⟨S4096x6152, .bf16⟩
  | .hbm, ⟨12, _⟩ => ⟨S4096x6152, .f32⟩
  | .hbm, ⟨13, _⟩ => ⟨S4096x1024, .f32⟩
  | .hbm, ⟨14, _⟩ => ⟨S1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S1024x6152, .f32⟩
  | .hbm, ⟨36, _⟩ => ⟨S4096x6152, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S4096x1024, .f32⟩
  | .hbm, ⟨47, _⟩ => ⟨S_, .f32⟩
  | .hbm, ⟨48, _⟩ => ⟨S4096, .f32⟩
  | .hbm, ⟨49, _⟩ => ⟨S4096x1, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Forget.lean ====
abbrev S4x64x1024 : Shape := ⟨3, ![4, 64, 1024]⟩
abbrev S8x4096x128 : Shape := ⟨3, ![8, 4096, 128]⟩
abbrev S4096x6152 : Shape := ⟨2, ![4096, 6152]⟩
abbrev S1x8 : Shape := ⟨2, ![1, 8]⟩
abbrev S4096x3072 : Shape := ⟨2, ![4096, 3072]⟩
abbrev S4096x8 : Shape := ⟨2, ![4096, 8]⟩
abbrev S4096x8x1 : Shape := ⟨3, ![4096, 8, 1]⟩
abbrev S_ : Shape := ⟨0, ![]⟩
abbrev S4096x8x8 : Shape := ⟨3, ![4096, 8, 8]⟩
abbrev S4096x64 : Shape := ⟨2, ![4096, 64]⟩
abbrev S4096x128 : Shape := ⟨2, ![4096, 128]⟩
abbrev S4096x3200 : Shape := ⟨2, ![4096, 3200]⟩
abbrev S1x8x1 : Shape := ⟨3, ![1, 8, 1]⟩
abbrev S1x8x8 : Shape := ⟨3, ![1, 8, 8]⟩
abbrev S1x64 : Shape := ⟨2, ![1, 64]⟩
abbrev S1x128 : Shape := ⟨2, ![1, 128]⟩
abbrev S1x64x1024 : Shape := ⟨3, ![1, 64, 1024]⟩
abbrev S8x1024x128 : Shape := ⟨3, ![8, 1024, 128]⟩
abbrev S1024x128 : Shape := ⟨2, ![1024, 128]⟩
abbrev S8x128 : Shape := ⟨2, ![8, 128]⟩
abbrev S64x1024 : Shape := ⟨2, ![64, 1024]⟩
abbrev S128x1024 : Shape := ⟨2, ![128, 1024]⟩
abbrev S1x1024x128 : Shape := ⟨3, ![1, 1024, 128]⟩
abbrev S1024 : Shape := ⟨1, ![1024]⟩
abbrev S1024x1 : Shape := ⟨2, ![1024, 1]⟩
abbrev S128 : Shape := ⟨1, ![128]⟩

abbrev nBuf : Space → Nat
  | .hbm => 25
  | .vmem => 12
  | .smem => 0
  | _ => 0

abbrev bufTy : (tb : Table) → Fin (tcTables nBuf tb) → BufTy
  | .hbm, ⟨0, _⟩ => ⟨S4x64x1024, .f32⟩
  | .hbm, ⟨1, _⟩ => ⟨S8x4096x128, .f32⟩
  | .hbm, ⟨2, _⟩ => ⟨S4096x6152, .f32⟩
  | .hbm, ⟨3, _⟩ => ⟨S1x8, .f32⟩
  | .hbm, ⟨4, _⟩ => ⟨S4096x3072, .f32⟩
  | .hbm, ⟨5, _⟩ => ⟨S4096x8, .f32⟩
  | .hbm, ⟨6, _⟩ => ⟨S4096x8x1, .f32⟩
  | .hbm, ⟨7, _⟩ => ⟨S_, .i32⟩
  | .hbm, ⟨8, _⟩ => ⟨S_, .f32⟩
  | .hbm, ⟨9, _⟩ => ⟨S4096x8x8, .f32⟩
  | .hbm, ⟨10, _⟩ => ⟨S4096x64, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x3200, .f32⟩
  | .hbm, ⟨15, _⟩ => ⟨S1x8x1, .f32⟩
  | .hbm, ⟨16, _⟩ => ⟨S_, .i32⟩
  | .hbm, ⟨17, _⟩ => ⟨S_, .f32⟩
  | .hbm, ⟨18, _⟩ => ⟨S1x8x8, .f32⟩
  | .hbm, ⟨19, _⟩ => ⟨S1x64, .f32⟩
  | .hbm, ⟨20, _⟩ => ⟨S_, .i32⟩
  | .hbm, ⟨21, _⟩ => ⟨S_, .f32⟩
  | .hbm, ⟨22, _⟩ => ⟨S1x128, .f32⟩
  | .hbm, ⟨23, _⟩ => ⟨S4096x128, .bf16⟩
  | .hbm, ⟨24, _⟩ => ⟨S1x128, .f32⟩
  | .local _ .vmem, ⟨0, _⟩ => ⟨S1x64x1024, .f32⟩
  | .local _ .vmem, ⟨1, _⟩ => ⟨S1x64x1024, .f32⟩
  | .local _ .vmem, ⟨2, _⟩ => ⟨S8x1024x128, .f32⟩
  | .local _ .vmem, ⟨3, _⟩ => ⟨S8x1024x128, .f32⟩
  | .local _ .vmem, ⟨4, _⟩ => ⟨S1024x128, .f32⟩
  | .local _ .vmem, ⟨5, _⟩ => ⟨S1024x128, .f32⟩
  | .local _ .vmem, ⟨6, _⟩ => ⟨S1x128, .f32⟩
  | .local _ .vmem, ⟨7, _⟩ => ⟨S1024x128, .bf16⟩
  | .local _ .vmem, ⟨8, _⟩ => ⟨S1024x128, .bf16⟩
  | .local _ .vmem, ⟨9, _⟩ => ⟨S1x128, .f32⟩
  | .local _ .vmem, ⟨10, _⟩ => ⟨S1024x128, .f32⟩
  | .local _ .vmem, ⟨11, _⟩ => ⟨S8x128, .f32⟩
  | _, _ => ⟨S4x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call2_v0 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call3_v0 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 2 → Nat :=
  let arg0 : BitVec 32 := BitVec.ofNat 32 (i 0).val
  let c3_i32 : BitVec 32 := 3#32
  let v0 : BitVec 32 := Scalar.subi c3_i32 arg0
  let c24_i32 : BitVec 32 := 24#32
  let c0_i32 : BitVec 32 := 0#32
  ![v0.toNat, c24_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let v0 : BitVec 32 := Scalar.subi c3_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ForgetRefIdeal.lean ====
abbrev S4x64x1024 : Shape := ⟨3, ![4, 64, 1024]⟩
abbrev S8x4096x128 : Shape := ⟨3, ![8, 4096, 128]⟩
abbrev S4096x6152 : Shape := ⟨2, ![4096, 6152]⟩
abbrev S1x8 : Shape := ⟨2, ![1, 8]⟩
abbrev S_ : Shape := ⟨0, ![]⟩
abbrev S8x4096 : Shape := ⟨2, ![8, 4096]⟩
abbrev S4096x8 : Shape := ⟨2, ![4096, 8]⟩
abbrev S4096x128 : Shape := ⟨2, ![4096, 128]⟩
abbrev S4x1024x64 : Shape := ⟨3, ![4, 1024, 64]⟩
abbrev S4096x64 : Shape := ⟨2, ![4096, 64]⟩
abbrev S1x128 : Shape := ⟨2, ![1, 128]⟩
abbrev S128 : Shape := ⟨1, ![128]⟩

abbrev nBuf : Space → Nat
  | .hbm => 83
  | .vmem => 0
  | .smem => 0
  | _ => 0

abbrev bufTy : (tb : Table) → Fin (tcTables nBuf tb) → BufTy
  | .hbm, ⟨0, _⟩ => ⟨S4x64x1024, .f32⟩
  | .hbm, ⟨1, _⟩ => ⟨S8x4096x128, .f32⟩
  | .hbm, ⟨2, _⟩ => ⟨S4096x6152, .f32⟩
  | .hbm, ⟨3, _⟩ => ⟨S1x8, .f32⟩
  | .hbm, ⟨4, _⟩ => ⟨S_, .f32⟩
  | .hbm, ⟨5, _⟩ => ⟨S8x4096, .f32⟩
  | .hbm, ⟨6, _⟩ => ⟨S4096x8, .f32⟩
  | .hbm, ⟨7, _⟩ => ⟨S_, .f32⟩
  | .hbm, ⟨8, _⟩ => ⟨S4096x128, .f32⟩
  | .hbm, ⟨9, _⟩ => ⟨S4x1024x64, .f32⟩
  | .hbm, ⟨10, _⟩ => ⟨S4096x64, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x128, .f32⟩
  | .hbm, ⟨15, _⟩ => ⟨S4096x8, .f32⟩
  | .hbm, ⟨16, _⟩ => ⟨S_, .f32⟩
  | .hbm, ⟨17, _⟩ => ⟨S4096x128, .f32⟩
  | .hbm, ⟨18, _⟩ => ⟨S_, .f32⟩
  | .hbm, ⟨19, _⟩ => ⟨S1x128, .f32⟩
  | .hbm, ⟨20, _⟩ => ⟨S4096x128, .f32⟩
  | .hbm, ⟨21, _⟩ => ⟨S4096x128, .f32⟩
  | .hbm, ⟨22, _⟩ => ⟨S4096x128, .f32⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S4096x128, .f32⟩
  | .hbm, ⟨28, _⟩ => ⟨S4096x128, .i1⟩
  | .hbm, ⟨29, _⟩ => ⟨S4096x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S4096x128, .f32⟩
  | .hbm, ⟨36, _⟩ => ⟨S4096x128, .f32⟩
  | .hbm, ⟨37, _⟩ => ⟨S_, .f32⟩
  | .hbm, ⟨38, _⟩ => ⟨S4096x128, .f32⟩
  | .hbm, ⟨39, _⟩ => ⟨S4096x128, .i1⟩
  | .hbm, ⟨40, _⟩ => ⟨S_, .f32⟩
  | .hbm, ⟨41, _⟩ => ⟨S4096x128, .f32⟩
  | .hbm, ⟨42, _⟩ => ⟨S4096x128, .f32⟩
  | .hbm, ⟨43, _⟩ => ⟨S_, .f32⟩
  | .hbm, ⟨44, _⟩ => ⟨S4096x128, .f32⟩
  | .hbm, ⟨45, _⟩ => ⟨S4096x128, .i1⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4096x128, .f32⟩
  | .hbm, ⟨51, _⟩ => ⟨S_, .f32⟩
  | .hbm, ⟨52, _⟩ => ⟨S_, .f32⟩
  | .hbm, ⟨53, _⟩ => ⟨S_, .i1⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S4096x128, .f32⟩
  | .hbm, ⟨59, _⟩ => ⟨S4096x128, .i1⟩
  | .hbm, ⟨60, _⟩ => ⟨S_, .f32⟩
  | .hbm, ⟨61, _⟩ => ⟨S4096x128, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S4096x128, .f32⟩
  | .hbm, ⟨66, _⟩ => ⟨S_, .f32⟩
  | .hbm, ⟨67, _⟩ => ⟨S4096x128, .f32⟩
  | .hbm, ⟨68, _⟩ => ⟨S4096x128, .f32⟩
  | .hbm, ⟨69, _⟩ => ⟨S4096x128, .f32⟩
  | .hbm, ⟨70, _⟩ => ⟨S_, .f32⟩
  | .hbm, ⟨71, _⟩ => ⟨S_, .f32⟩
  | .hbm, ⟨72, _⟩ => ⟨S4096x128, .f32⟩
  | .hbm, ⟨73, _⟩ => ⟨S_, .f32⟩
  | .hbm, ⟨74, _⟩ => ⟨S_, .f32⟩
  | .hbm, ⟨75, _⟩ => ⟨S4096x128, .f32⟩
  | .hbm, ⟨76, _⟩ => ⟨S4096x128, .f32⟩
  | .hbm, ⟨77, _⟩ => ⟨S4096x128, .f32⟩
  | .hbm, ⟨78, _⟩ => ⟨S4096x128, .f32⟩
  | .hbm, ⟨79, _⟩ => ⟨S_, .f32⟩
  | .hbm, ⟨80, _⟩ => ⟨S128, .f32⟩
  | .hbm, ⟨81, _⟩ => ⟨S1x128, .f32⟩
  | .hbm, ⟨82, _⟩ => ⟨S4096x128, .bf16⟩
  | _, _ => ⟨S4x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call1_v0 : Ref sig .tc := ⟨.hbm, 22, rfl⟩
abbrev main_call1_call0_cst : Ref sig .tc := ⟨.hbm, 23, rfl⟩
abbrev main_call1_call0_v0 : Ref sig .tc := ⟨.hbm, 24, rfl⟩
abbrev main_call1_call0_v1 : Ref sig .tc := ⟨.hbm, 25, rfl⟩
abbrev main_call1_call0_v2 : Ref sig .tc := ⟨.hbm, 26, rfl⟩
abbrev main_call1_call0_v3 : Ref sig .tc := ⟨.hbm, 27, rfl⟩
abbrev main_call1_call0_v4 : Ref sig .tc := ⟨.hbm, 28, rfl⟩
abbrev main_call1_call0_v5 : Ref sig .tc := ⟨.hbm, 29, rfl⟩
abbrev main_call1_call0_v6 : Ref sig .tc := ⟨.hbm, 30, rfl⟩
abbrev main_call1_call0_v7 : Ref sig .tc := ⟨.hbm, 31, rfl⟩
abbrev main_call1_call0_v8 : Ref sig .tc := ⟨.hbm, 32, rfl⟩
abbrev main_call1_call0_v9 : Ref sig .tc := ⟨.hbm, 33, rfl⟩
abbrev main_call1_call0_v10 : Ref sig .tc := ⟨.hbm, 34, rfl⟩
abbrev main_call1_call0_v11 : Ref sig .tc := ⟨.hbm, 35, rfl⟩
abbrev main_call1_v1_0 : Ref sig .tc := ⟨.hbm, 36, rfl⟩
abbrev main_call1_call0_cst_0 : Ref sig .tc := ⟨.hbm, 37, rfl⟩
abbrev main_call1_call0_v13 : Ref sig .tc := ⟨.hbm, 38, rfl⟩
abbrev main_call1_call0_v14 : Ref sig .tc := ⟨.hbm, 39, rfl⟩
abbrev main_call1_call0_cst_1 : Ref sig .tc := ⟨.hbm, 40, rfl⟩
abbrev main_call1_call0_v15 : Ref sig .tc := ⟨.hbm, 41, rfl⟩
abbrev main_call1_call0_v16 : Ref sig .tc := ⟨.hbm, 42, rfl⟩
abbrev main_call1_call0_cst_2 : Ref sig .tc := ⟨.hbm, 43, rfl⟩
abbrev main_call1_call0_v17 : Ref sig .tc := ⟨.hbm, 44, rfl⟩
abbrev main_call1_call0_v18 : Ref sig .tc := ⟨.hbm, 45, rfl⟩
abbrev main_call1_call0_cst_3 : Ref sig .tc := ⟨.hbm, 46, rfl⟩
abbrev main_call1_call0_v19 : Ref sig .tc := ⟨.hbm, 47, rfl⟩
abbrev main_call1_call0_v20 : Ref sig .tc := ⟨.hbm, 48, rfl⟩
abbrev main_call1_call0_v21 : Ref sig .tc := ⟨.hbm, 49, rfl⟩
abbrev main_v12_1 : Ref sig .tc := ⟨.hbm, 50, rfl⟩
abbrev main_call1_call0_cst_4 : Ref sig .tc := ⟨.hbm, 51, rfl⟩
abbrev main_call1_call0_cst_5 : Ref sig .tc := ⟨.hbm, 52, rfl⟩
abbrev main_call1_call0_v23 : Ref sig .tc := ⟨.hbm, 53, rfl⟩
abbrev main_call1_call0_cst_6 : Ref sig .tc := ⟨.hbm, 54, rfl⟩
abbrev main_call1_call0_cst_7 : Ref sig .tc := ⟨.hbm, 55, rfl⟩
abbrev main_call1_call0_v24 : Ref sig .tc := ⟨.hbm, 56, rfl⟩
abbrev main_call1_call0_cst_8 : Ref sig .tc := ⟨.hbm, 57, rfl⟩
abbrev main_call1_call0_v25 : Ref sig .tc := ⟨.hbm, 58, rfl⟩
abbrev main_call1_call0_v26 : Ref sig .tc := ⟨.hbm, 59, rfl⟩
abbrev main_call1_call0_cst_9 : Ref sig .tc := ⟨.hbm, 60, rfl⟩
abbrev main_call1_call0_v27 : Ref sig .tc := ⟨.hbm, 61, rfl⟩
abbrev main_call1_call0_v28 : Ref sig .tc := ⟨.hbm, 62, rfl⟩
abbrev main_call1_call0_v29 : Ref sig .tc := ⟨.hbm, 63, rfl⟩
abbrev main_call1_call0_v30 : Ref sig .tc := ⟨.hbm, 64, rfl⟩
abbrev main_call1_call0_v31 : Ref sig .tc := ⟨.hbm, 65, rfl⟩
abbrev main_call1_call0_cst_10 : Ref sig .tc := ⟨.hbm, 66, rfl⟩
abbrev main_call1_call0_v32 : Ref sig .tc := ⟨.hbm, 67, rfl⟩
abbrev main_v12_2 : Ref sig .tc := ⟨.hbm, 68, rfl⟩
abbrev main_v12_0 : Ref sig .tc := ⟨.hbm, 69, rfl⟩
abbrev main_call2_call0_cst : Ref sig .tc := ⟨.hbm, 70, rfl⟩
abbrev main_call2_call0_v0 : Ref sig .tc := ⟨.hbm, 71, rfl⟩
abbrev main_v13 : Ref sig .tc := ⟨.hbm, 72, rfl⟩
abbrev main_call3_call0_cst : Ref sig .tc := ⟨.hbm, 73, rfl⟩
abbrev main_call3_call0_v0 : Ref sig .tc := ⟨.hbm, 74, rfl⟩
abbrev main_v14 : Ref sig .tc := ⟨.hbm, 75, rfl⟩
abbrev main_call4_v0 : Ref sig .tc := ⟨.hbm, 76, rfl⟩
abbrev main_call4_v1 : Ref sig .tc := ⟨.hbm, 77, rfl⟩
abbrev main_v15 : Ref sig .tc := ⟨.hbm, 78, rfl⟩
abbrev main_cst_3 : Ref sig .tc := ⟨.hbm, 79, rfl⟩
abbrev main_v16 : Ref sig .tc := ⟨.hbm, 80, rfl⟩
abbrev main_v17 : Ref sig .tc := ⟨.hbm, 81, rfl⟩
abbrev main_v18 : Ref sig .tc := ⟨.hbm, 82, rfl⟩

abbrev nD : Nat := 1
abbrev τ : Topo := Topo.v7x

variable {F : FTy → Type} [FloatOps F]
-- ==== Branch.lean ====
abbrev S4096x1024 : Shape := ⟨2, ![4096, 1024]⟩
abbrev S4096x6152 : Shape := ⟨2, ![4096, 6152]⟩
abbrev S1x2048x1024 : Shape := ⟨3, ![1, 2048, 1024]⟩
abbrev S1x1024 : Shape := ⟨2, ![1, 1024]⟩
abbrev S4096x3072 : Shape := ⟨2, ![4096, 3072]⟩
abbrev S4096x8 : Shape := ⟨2, ![4096, 8]⟩
abbrev S4096x8x1 : Shape := ⟨3, ![4096, 8, 1]⟩
abbrev S_ : Shape := ⟨0, ![]⟩
abbrev S4096x8x8 : Shape := ⟨3, ![4096, 8, 8]⟩
abbrev S4096x64 : Shape := ⟨2, ![4096, 64]⟩
abbrev S4096x128 : Shape := ⟨2, ![4096, 128]⟩
abbrev S4096x3200 : Shape := ⟨2, ![4096, 3200]⟩
abbrev S2048x1024 : Shape := ⟨2, ![2048, 1024]⟩
abbrev S8x4096x128 : Shape := ⟨3, ![8, 4096, 128]⟩
abbrev S256x1024 : Shape := ⟨2, ![256, 1024]⟩
abbrev S8x256x128 : Shape := ⟨3, ![8, 256, 128]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S256x128 : Shape := ⟨2, ![256, 128]⟩
abbrev S1x256x128 : Shape := ⟨3, ![1, 256, 128]⟩

abbrev nBuf : Space → Nat
  | .hbm => 27
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x6152, .f32⟩
  | .hbm, ⟨3, _⟩ => ⟨S4096x1024, .bf16⟩
  | .hbm, ⟨4, _⟩ => ⟨S1x2048x1024, .f32⟩
  | .hbm, ⟨5, _⟩ => ⟨S1x1024, .f32⟩
  | .hbm, ⟨6, _⟩ => ⟨S1x1024, .f32⟩
  | .hbm, ⟨7, _⟩ => ⟨S4096x3072, .f32⟩
  | .hbm, ⟨8, _⟩ => ⟨S4096x8, .f32⟩
  | .hbm, ⟨9, _⟩ => ⟨S4096x8x1, .f32⟩
  | .hbm, ⟨10, _⟩ => ⟨S_, .i32⟩
  | .hbm, ⟨11, _⟩ => ⟨S_, .f32⟩
  | .hbm, ⟨12, _⟩ => ⟨S4096x8x8, .f32⟩
  | .hbm, ⟨13, _⟩ => ⟨S4096x64, .f32⟩
  | .hbm, ⟨14, _⟩ => ⟨S_, .i32⟩
  | .hbm, ⟨15, _⟩ => ⟨S_, .f32⟩
  | .hbm, ⟨16, _⟩ => ⟨S4096x128, .f32⟩
  | .hbm, ⟨17, _⟩ => ⟨S4096x3200, .f32⟩
  | .hbm, ⟨18, _⟩ => ⟨S2048x1024, .f32⟩
  | .hbm, ⟨19, _⟩ => ⟨S2048x1024, .bf16⟩
  | .hbm, ⟨20, _⟩ => ⟨S4096x1024, .bf16⟩
  | .hbm, ⟨21, _⟩ => ⟨S8x4096x128, .f32⟩
  | .hbm, ⟨22, _⟩ => ⟨S4096x1024, .bf16⟩
  | .hbm, ⟨23, _⟩ => ⟨S4096x1024, .f32⟩
  | .hbm, ⟨24, _⟩ => ⟨S4096x1024, .bf16⟩
  | .hbm, ⟨25, _⟩ => ⟨S1x1024, .f32⟩
  | .hbm, ⟨26, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S2048x1024, .bf16⟩
  | .local _ .vmem, ⟨11, _⟩ => ⟨S1x1024, .f32⟩
  | .local _ .vmem, ⟨12, _⟩ => ⟨S1x1024, .f32⟩
  | .local _ .vmem, ⟨13, _⟩ => ⟨S256x1024, .bf16⟩
  | .local _ .vmem, ⟨14, _⟩ => ⟨S256x1024, .bf16⟩
  | .local _ .vmem, ⟨15, _⟩ => ⟨S8x256x128, .f32⟩
  | .local _ .vmem, ⟨16, _⟩ => ⟨S8x256x128, .f32⟩
  | .local _ .vmem, ⟨17, _⟩ => ⟨S256x1024, .bf16⟩
  | .local _ .vmem, ⟨18, _⟩ => ⟨S256x1024, .bf16⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== BranchRefIdeal.lean ====
abbrev S4096x1024 : Shape := ⟨2, ![4096, 1024]⟩
abbrev S4096x6152 : Shape := ⟨2, ![4096, 6152]⟩
abbrev S1x2048x1024 : Shape := ⟨3, ![1, 2048, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S2048x1024 : Shape := ⟨2, ![2048, 1024]⟩
abbrev S4096x8x128 : Shape := ⟨3, ![4096, 8, 128]⟩
abbrev S4096x8 : Shape := ⟨2, ![4096, 8]⟩
abbrev S8x4096 : Shape := ⟨2, ![8, 4096]⟩
abbrev S8x4096x1 : Shape := ⟨3, ![8, 4096, 1]⟩
abbrev S8x4096x128 : Shape := ⟨3, ![8, 4096, 128]⟩

abbrev nBuf : Space → Nat
  | .hbm => 160
  | .vmem => 0
  | .smem => 0
  | _ => 0

abbrev hbmTy0_0 (i : Nat) : BufTy := match i % 128 with
  | 0 => ⟨S4096x1024, .f32⟩
  | 1 => ⟨S4096x1024, .f32⟩
  | 2 => ⟨S4096x6152, .f32⟩
  | 3 => ⟨S4096x1024, .bf16⟩
  | 4 => ⟨S1x2048x1024, .f32⟩
  | 5 => ⟨S1x1024, .f32⟩
  | 6 => ⟨S1x1024, .f32⟩
  | 7 => ⟨S4096x1024, .f32⟩
  | 8 => ⟨S4096x1024, .f32⟩
  | 9 => ⟨S1024, .f32⟩
  | 10 => ⟨S1024, .f32⟩
  | 11 => ⟨S4096x1024, .f32⟩
  | 12 => ⟨S_, .f32⟩
  | 13 => ⟨S4096, .f32⟩
  | 14 => ⟨S4096x1, .f32⟩
  | 15 => ⟨S_, .f32⟩
  | 16 => ⟨S4096x1, .f32⟩
  | 17 => ⟨S4096x1, .f32⟩
  | 18 => ⟨S_, .f32⟩
  | 19 => ⟨S4096x1, .f32⟩
  | 20 => ⟨S4096x1, .f32⟩
  | 21 => ⟨S4096x1, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S1x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S_, .f32⟩
  | 47 => ⟨S4096, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096x1, .f32⟩
  | 54 => ⟨S4096x1, .f32⟩
  | 55 => ⟨S4096x1, .f32⟩
  | 56 => ⟨S4096x1, .f32⟩
  | 57 => ⟨S_, .f32⟩
  | 58 => ⟨S4096x1, .f32⟩
  | 59 => ⟨S4096x1, .f32⟩
  | 60 => ⟨S4096x1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x2048, .f32⟩
  | 80 => ⟨S2048x1024, .f32⟩
  | 81 => ⟨S4096x1024, .f32⟩
  | 82 => ⟨S4096x1024, .f32⟩
  | 83 => ⟨S4096x2048, .f32⟩
  | 84 => ⟨S4096x1024, .f32⟩
  | 85 => ⟨S4096x1024, .f32⟩
  | 86 => ⟨S4096x1024, .f32⟩
  | 87 => ⟨S4096x1024, .f32⟩
  | 88 => ⟨S4096x1024, .f32⟩
  | 89 => ⟨S4096x1024, .f32⟩
  | 90 => ⟨S4096x1024, .f32⟩
  | 91 => ⟨S4096x1024, .f32⟩
  | 92 => ⟨S4096x1024, .f32⟩
  | 93 => ⟨S_, .f32⟩
  | 94 => ⟨S1024, .f32⟩
  | 95 => ⟨S1x1024, .f32⟩
  | 96 => ⟨S4096x1024, .f32⟩
  | 97 => ⟨S4096x1024, .f32⟩
  | 98 => ⟨S_, .f32⟩
  | 99 => ⟨S1024, .f32⟩
  | 100 => ⟨S4096x1024, .f32⟩
  | 101 => ⟨S_, .f32⟩
  | 102 => ⟨S4096, .f32⟩
  | 103 => ⟨S4096x1, .f32⟩
  | 104 => ⟨S4096x1024, .f32⟩
  | 105 => ⟨S4096x1024, .f32⟩
  | 106 => ⟨S4096x1, .f32⟩
  | 107 => ⟨S_, .f32⟩
  | 108 => ⟨S4096x1, .f32⟩
  | 109 => ⟨S4096x1, .f32⟩
  | 110 => ⟨S_, .f32⟩
  | 111 => ⟨S4096, .f32⟩
  | 112 => ⟨S4096x1024, .f32⟩
  | 113 => ⟨S4096x1024, .f32⟩
  | 114 => ⟨S4096x1024, .f32⟩
  | 115 => ⟨S4096x1024, .f32⟩
  | 116 => ⟨S4096x1024, .f32⟩
  | 117 => ⟨S4096x1024, .f32⟩
  | 118 => ⟨S4096x1024, .f32⟩
  | 119 => ⟨S4096x1024, .f32⟩
  | 120 => ⟨S4096x1024, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S_, .f32⟩
  | 2 => ⟨S1024, .f32⟩
  | 3 => ⟨S4096x1024, .f32⟩
  | 4 => ⟨S_, .f32⟩
  | 5 => ⟨S4096, .f32⟩
  | 6 => ⟨S4096x1, .f32⟩
  | 7 => ⟨S4096x1024, .f32⟩
  | 8 => ⟨S4096x1024, .f32⟩
  | 9 => ⟨S4096x1, .f32⟩
  | 10 => ⟨S_, .f32⟩
  | 11 => ⟨S4096x1, .f32⟩
  | 12 => ⟨S4096x1, .f32⟩
  | 13 => ⟨S_, .f32⟩
  | 14 => ⟨S4096, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x8x128, .f32⟩
  | 22 => ⟨S_, .f32⟩
  | 23 => ⟨S4096x8, .f32⟩
  | 24 => ⟨S8x4096, .f32⟩
  | 25 => ⟨S4096x1024, .bf16⟩
  | 26 => ⟨S8x4096x1, .f32⟩
  | 27 => ⟨S8x4096x128, .f32⟩
  | 28 => ⟨S4096x1024, .bf16⟩
  | 29 => ⟨S4096x1024, .bf16⟩
  | 30 => ⟨S1x1024, .f32⟩
  | 31 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v20_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v20_1 : Ref sig .tc := ⟨.hbm, 42, rfl⟩
abbrev main_v20_0 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_v38_2 : Ref sig .tc := ⟨.hbm, 72, rfl⟩
abbrev main_call1_cst_1 : Ref sig .tc := ⟨.hbm, 73, rfl⟩
abbrev main_call1_v6 : Ref sig .tc := ⟨.hbm, 74, rfl⟩
abbrev main_call1_v7 : Ref sig .tc := ⟨.hbm, 75, rfl⟩
abbrev main_v38_1 : Ref sig .tc := ⟨.hbm, 76, rfl⟩
abbrev main_v38_0 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_v49 : Ref sig .tc := ⟨.hbm, 91, rfl⟩
abbrev main_v50 : Ref sig .tc := ⟨.hbm, 92, rfl⟩
abbrev main_cst_7 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_cst_8 : Ref sig .tc := ⟨.hbm, 98, rfl⟩
abbrev main_v55 : Ref sig .tc := ⟨.hbm, 99, rfl⟩
abbrev main_v56 : Ref sig .tc := ⟨.hbm, 100, rfl⟩
abbrev main_cst_9 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_cst_10 : Ref sig .tc := ⟨.hbm, 107, rfl⟩
abbrev main_v62 : Ref sig .tc := ⟨.hbm, 108, rfl⟩
abbrev main_v63 : Ref sig .tc := ⟨.hbm, 109, rfl⟩
abbrev main_cst_11 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_call3_v0 : Ref sig .tc := ⟨.hbm, 119, rfl⟩
abbrev main_call3_v1 : Ref sig .tc := ⟨.hbm, 120, rfl⟩
abbrev main_call3_v2 : Ref sig .tc := ⟨.hbm, 121, rfl⟩
abbrev main_v72 : Ref sig .tc := ⟨.hbm, 122, rfl⟩
abbrev main_v73 : Ref sig .tc := ⟨.hbm, 123, rfl⟩
abbrev main_cst_12 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_13 : Ref sig .tc := ⟨.hbm, 129, rfl⟩
abbrev main_v78 : Ref sig .tc := ⟨.hbm, 130, rfl⟩
abbrev main_v79 : Ref sig .tc := ⟨.hbm, 131, rfl⟩
abbrev main_cst_14 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_cst_15 : Ref sig .tc := ⟨.hbm, 138, rfl⟩
abbrev main_v85 : Ref sig .tc := ⟨.hbm, 139, rfl⟩
abbrev main_v86 : Ref sig .tc := ⟨.hbm, 140, rfl⟩
abbrev main_cst_16 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_cst_17 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩

abbrev nD : Nat := 1
abbrev τ : Topo := Topo.v7x

variable {F : FTy → Type} [FloatOps F]
-- ==== Head.lean ====
abbrev S1x4096x1024 : Shape := ⟨3, ![1, 4096, 1024]⟩
abbrev S1x1x4096x256 : Shape := ⟨4, ![1, 1, 4096, 256]⟩
abbrev S4096x1024 : Shape := ⟨2, ![4096, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S1024x1024 : Shape := ⟨2, ![1024, 1024]⟩
abbrev S256x1024 : Shape := ⟨2, ![256, 1024]⟩
abbrev S1x1 : Shape := ⟨2, ![1, 1]⟩
abbrev S256x256 : Shape := ⟨2, ![256, 256]⟩
abbrev S256 : Shape := ⟨1, ![256]⟩
abbrev S256x1 : Shape := ⟨2, ![256, 1]⟩
abbrev S1 : Shape := ⟨1, ![1]⟩

abbrev nBuf : Space → Nat
  | .hbm => 42
  | .vmem => 25
  | .smem => 0
  | _ => 0

abbrev bufTy : (tb : Table) → Fin (tcTables nBuf tb) → BufTy
  | .hbm, ⟨0, _⟩ => ⟨S1x4096x1024, .f32⟩
  | .hbm, ⟨1, _⟩ => ⟨S1x1x4096x256, .f32⟩
  | .hbm, ⟨2, _⟩ => ⟨S1x4096x1024, .f32⟩
  | .hbm, ⟨3, _⟩ => ⟨S4096x1024, .f32⟩
  | .hbm, ⟨4, _⟩ => ⟨S1x1024x1024, .f32⟩
  | .hbm, ⟨5, _⟩ => ⟨S1x256x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x1024, .f32⟩
  | .hbm, ⟨10, _⟩ => ⟨S1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x256, .f32⟩
  | .hbm, ⟨29, _⟩ => ⟨S4096x1024, .f32⟩
  | .hbm, ⟨30, _⟩ => ⟨S1024x1024, .f32⟩
  | .hbm, ⟨31, _⟩ => ⟨S1024x1024, .bf16⟩
  | .hbm, ⟨32, _⟩ => ⟨S256x1024, .f32⟩
  | .hbm, ⟨33, _⟩ => ⟨S256x1024, .bf16⟩
  | .hbm, ⟨34, _⟩ => ⟨S1x1, .f32⟩
  | .hbm, ⟨35, _⟩ => ⟨S4096x1024, .bf16⟩
  | .hbm, ⟨36, _⟩ => ⟨S4096x1024, .bf16⟩
  | .hbm, ⟨37, _⟩ => ⟨S4096x1024, .f32⟩
  | .hbm, ⟨38, _⟩ => ⟨S4096x1024, .bf16⟩
  | .hbm, ⟨39, _⟩ => ⟨S1x1024, .f32⟩
  | .hbm, ⟨40, _⟩ => ⟨S1x1024, .f32⟩
  | .hbm, ⟨41, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x256, .f32⟩
  | .local _ .vmem, ⟨3, _⟩ => ⟨S256x256, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1024x1024, .bf16⟩
  | .local _ .vmem, ⟨9, _⟩ => ⟨S256x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev main_v22_4 : Ref sig .tc := ⟨.hbm, 38, rfl⟩
abbrev main_v22_5 : Ref sig .tc := ⟨.hbm, 39, rfl⟩
abbrev main_v22_6 : Ref sig .tc := ⟨.hbm, 40, rfl⟩
abbrev main_v22_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== HeadRefIdeal.lean ====
abbrev S1x4096x1024 : Shape := ⟨3, ![1, 4096, 1024]⟩
abbrev S1x1x4096x256 : Shape := ⟨4, ![1, 1, 4096, 256]⟩
abbrev S4096x1024 : Shape := ⟨2, ![4096, 1024]⟩
abbrev S1x1024x1024 : Shape := ⟨3, ![1, 1024, 1024]⟩
abbrev S1x256x1024 : Shape := ⟨3, ![1, 256, 1024]⟩
abbrev S1x1024 : Shape := ⟨2, ![1, 1024]⟩
abbrev S4096x256 : Shape := ⟨2, ![4096, 256]⟩
abbrev S256x1024 : Shape := ⟨2, ![256, 1024]⟩
abbrev S_ : Shape := ⟨0, ![]⟩
abbrev S1024 : Shape := ⟨1, ![1024]⟩
abbrev S4096 : Shape := ⟨1, ![4096]⟩
abbrev S4096x1 : Shape := ⟨2, ![4096, 1]⟩
abbrev S1024x1024 : Shape := ⟨2, ![1024, 1024]⟩
abbrev S1x1 : Shape := ⟨2, ![1, 1]⟩

abbrev nBuf : Space → Nat
  | .hbm => 170
  | .vmem => 0
  | .smem => 0
  | _ => 0

abbrev hbmTy0_0 (i : Nat) : BufTy := match i % 128 with
  | 0 => ⟨S1x4096x1024, .f32⟩
  | 1 => ⟨S1x1x4096x256, .f32⟩
  | 2 => ⟨S1x4096x1024, .f32⟩
  | 3 => ⟨S4096x1024, .f32⟩
  | 4 => ⟨S1x1024x1024, .f32⟩
  | 5 => ⟨S1x256x1024, .f32⟩
  | 6 => ⟨S1x1024, .f32⟩
  | 7 => ⟨S1x1024, .f32⟩
  | 8 => ⟨S1x1024, .f32⟩
  | 9 => ⟨S4096x1024, .f32⟩
  | 10 => ⟨S4096x256, .f32⟩
  | 11 => ⟨S256x1024, .f32⟩
  | 12 => ⟨S4096x1024, .f32⟩
  | 13 => ⟨S_, .f32⟩
  | 14 => ⟨S4096x1024, .f32⟩
  | 15 => ⟨S1024, .f32⟩
  | 16 => ⟨S1024, .f32⟩
  | 17 => ⟨S1024, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S1x1024, .f32⟩
  | 36 => ⟨S4096x1024, .f32⟩
  | 37 => ⟨S4096x1024, .f32⟩
  | 38 => ⟨S4096x1024, .f32⟩
  | 39 => ⟨S4096x1024, .f32⟩
  | 40 => ⟨S_, .f32⟩
  | 41 => ⟨S4096, .f32⟩
  | 42 => ⟨S4096x1, .f32⟩
  | 43 => ⟨S_, .f32⟩
  | 44 => ⟨S4096x1, .f32⟩
  | 45 => ⟨S4096x1, .f32⟩
  | 46 => ⟨S_, .f32⟩
  | 47 => ⟨S4096x1, .f32⟩
  | 48 => ⟨S4096x1, .f32⟩
  | 49 => ⟨S4096x1, .f32⟩
  | 50 => ⟨S4096x1, .f32⟩
  | 51 => ⟨S_, .f32⟩
  | 52 => ⟨S4096x1, .f32⟩
  | 53 => ⟨S4096x1, .f32⟩
  | 54 => ⟨S4096x1024, .f32⟩
  | 55 => ⟨S4096x1024, .f32⟩
  | 56 => ⟨S1x1024, .f32⟩
  | 57 => ⟨S4096x1024, .f32⟩
  | 58 => ⟨S4096x1024, .f32⟩
  | 59 => ⟨S1024x1024, .f32⟩
  | 60 => ⟨S4096x1024, .f32⟩
  | 61 => ⟨S4096x1024, .f32⟩
  | 62 => ⟨S1x1024, .f32⟩
  | 63 => ⟨S4096x1024, .f32⟩
  | 64 => ⟨S4096x1024, .f32⟩
  | 65 => ⟨S4096x1024, .f32⟩
  | 66 => ⟨S4096x1024, .f32⟩
  | 67 => ⟨S_, .f32⟩
  | 68 => ⟨S4096x1024, .f32⟩
  | 69 => ⟨S4096x1024, .f32⟩
  | 70 => ⟨S_, .f32⟩
  | 71 => ⟨S4096x1024, .f32⟩
  | 72 => ⟨S4096x1024, .f32⟩
  | 73 => ⟨S_, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S_, .f32⟩
  | 86 => ⟨S4096, .f32⟩
  | 87 => ⟨S_, .f32⟩
  | 88 => ⟨S4096, .f32⟩
  | 89 => ⟨S4096, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S4096, .f32⟩
  | 98 => ⟨S_, .f32⟩
  | 99 => ⟨S4096, .f32⟩
  | 100 => ⟨S4096, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S_, .f32⟩
  | 107 => ⟨S1024, .f32⟩
  | 108 => ⟨S1x1024, .f32⟩
  | 109 => ⟨S_, .f32⟩
  | 110 => ⟨S1024, .f32⟩
  | 111 => ⟨S4096x1024, .f32⟩
  | 112 => ⟨S4096x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S1024, .f32⟩
  | 121 => ⟨S4096x1024, .f32⟩
  | 122 => ⟨S_, .f32⟩
  | 123 => ⟨S4096, .f32⟩
  | 124 => ⟨S4096x1, .f32⟩
  | 125 => ⟨S4096x1024, .f32⟩
  | 126 => ⟨S4096x1024, .f32⟩
  | 127 => ⟨S4096x1, .f32⟩
  | _ => ⟨S1x4096x1024, .f32⟩

abbrev hbmTy0_1 (i : Nat) : BufTy := match i % 128 with
  | 0 => ⟨S_, .f32⟩
  | 1 => ⟨S4096x1, .f32⟩
  | 2 => ⟨S4096x1, .f32⟩
  | 3 => ⟨S_, .f32⟩
  | 4 => ⟨S4096, .f32⟩
  | 5 => ⟨S4096x1024, .f32⟩
  | 6 => ⟨S4096x1024, .f32⟩
  | 7 => ⟨S4096x1024, .f32⟩
  | 8 => ⟨S4096x1024, .f32⟩
  | 9 => ⟨S4096x1024, .f32⟩
  | 10 => ⟨S4096x1024, .f32⟩
  | 11 => ⟨S_, .f32⟩
  | 12 => ⟨S1024, .f32⟩
  | 13 => ⟨S1x1024, .f32⟩
  | 14 => ⟨S4096x1024, .f32⟩
  | 15 => ⟨S4096x1024, .f32⟩
  | 16 => ⟨S_, .f32⟩
  | 17 => ⟨S1024, .f32⟩
  | 18 => ⟨S4096x1024, .f32⟩
  | 19 => ⟨S_, .f32⟩
  | 20 => ⟨S4096, .f32⟩
  | 21 => ⟨S4096x1, .f32⟩
  | 22 => ⟨S4096x1024, .f32⟩
  | 23 => ⟨S4096x1024, .f32⟩
  | 24 => ⟨S4096x1, .f32⟩
  | 25 => ⟨S_, .f32⟩
  | 26 => ⟨S4096x1, .f32⟩
  | 27 => ⟨S4096x1, .f32⟩
  | 28 => ⟨S_, .f32⟩
  | 29 => ⟨S4096, .f32⟩
  | 30 => ⟨S4096x1024, .f32⟩
  | 31 => ⟨S4096x1024, .f32⟩
  | 32 => ⟨S4096x1024, .f32⟩
  | 33 => ⟨S4096x1024, .f32⟩
  | 34 => ⟨S4096x1024, .f32⟩
  | 35 => ⟨S1x1, .f32⟩
  | 36 => ⟨S4096x1024, .bf16⟩
  | 37 => ⟨S4096x1024, .bf16⟩
  | 38 => ⟨S4096x1024, .bf16⟩
  | 39 => ⟨S1x1024, .f32⟩
  | 40 => ⟨S1x1024, .f32⟩
  | 41 => ⟨S1x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_cst_13 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_cst_15 : Ref sig .tc := ⟨.hbm, 92, rfl⟩
abbrev main_v67 : Ref sig .tc := ⟨.hbm, 93, rfl⟩
abbrev main_cst_16 : Ref sig .tc := ⟨.hbm, 94, rfl⟩
abbrev main_cst_17 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_19 : Ref sig .tc := ⟨.hbm, 106, rfl⟩
abbrev main_v77 : Ref sig .tc := ⟨.hbm, 107, rfl⟩
abbrev main_v78 : Ref sig .tc := ⟨.hbm, 108, rfl⟩
abbrev main_cst_20 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_21 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_22 : Ref sig .tc := ⟨.hbm, 119, rfl⟩
abbrev main_v87 : Ref sig .tc := ⟨.hbm, 120, rfl⟩
abbrev main_v88 : Ref sig .tc := ⟨.hbm, 121, rfl⟩
abbrev main_cst_23 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_24 : Ref sig .tc := ⟨.hbm, 128, rfl⟩
abbrev main_v94 : Ref sig .tc := ⟨.hbm, 129, rfl⟩
abbrev main_v95 : Ref sig .tc := ⟨.hbm, 130, rfl⟩
abbrev main_cst_25 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_26 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_27 : Ref sig .tc := ⟨.hbm, 144, rfl⟩
abbrev main_v107 : Ref sig .tc := ⟨.hbm, 145, rfl⟩
abbrev main_v108 : Ref sig .tc := ⟨.hbm, 146, rfl⟩
abbrev main_cst_28 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_29 : Ref sig .tc := ⟨.hbm, 153, rfl⟩
abbrev main_v114 : Ref sig .tc := ⟨.hbm, 154, rfl⟩
abbrev main_v115 : Ref sig .tc := ⟨.hbm, 155, rfl⟩
abbrev main_cst_30 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩

abbrev nD : Nat := 1
abbrev τ : Topo := Topo.v7x

variable {F : FTy → Type} [FloatOps F]
-- ==== Attn.lean ====
abbrev S4096x6152 : Shape := ⟨2, ![4096, 6152]⟩
abbrev S1x8 : Shape := ⟨2, ![1, 8]⟩
abbrev S4096x1024 : Shape := ⟨2, ![4096, 1024]⟩
abbrev S_ : Shape := ⟨0, ![]⟩
abbrev S4096x2048 : Shape := ⟨2, ![4096, 2048]⟩
abbrev S4096x3072 : Shape := ⟨2, ![4096, 3072]⟩
abbrev S4096x8 : Shape := ⟨2, ![4096, 8]⟩
abbrev S8 : Shape := ⟨1, ![8]⟩
abbrev S8x4096 : Shape := ⟨2, ![8, 4096]⟩
abbrev S8x4096x1 : Shape := ⟨3, ![8, 4096, 1]⟩
abbrev S8x4096x128 : Shape := ⟨3, ![8, 4096, 128]⟩
abbrev S4096x128 : Shape := ⟨2, ![4096, 128]⟩
abbrev S4096x8x128 : Shape := ⟨3, ![4096, 8, 128]⟩
abbrev S8x4096x4096 : Shape := ⟨3, ![8, 4096, 4096]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128 : Shape := ⟨2, ![8, 128]⟩
abbrev S4x64x1024 : Shape := ⟨3, ![4, 64, 1024]⟩
abbrev S1024x128 : Shape := ⟨2, ![1024, 128]⟩
abbrev S1x1024x128 : Shape := ⟨3, ![1, 1024, 128]⟩
abbrev S1x4096x128 : Shape := ⟨3, ![1, 4096, 128]⟩
abbrev S1x8x1024 : Shape := ⟨3, ![1, 8, 1024]⟩
abbrev S1024x256 : Shape := ⟨2, ![1024, 256]⟩
abbrev S8x1024 : Shape := ⟨2, ![8, 1024]⟩
abbrev S512x128 : Shape := ⟨2, ![512, 128]⟩
abbrev S1x512x128 : Shape := ⟨3, ![1, 512, 128]⟩
abbrev S512x256 : Shape := ⟨2, ![512, 256]⟩
abbrev S512x512 : Shape := ⟨2, ![512, 512]⟩
abbrev S64x8x512 : Shape := ⟨3, ![64, 8, 512]⟩
abbrev S8x512 : Shape := ⟨2, ![8, 512]⟩
abbrev S512x1024 : Shape := ⟨2, ![512, 1024]⟩
abbrev S64x8x1024 : Shape := ⟨3, ![64, 8, 1024]⟩
abbrev S1024x1024 : Shape := ⟨2, ![1024, 1024]⟩
abbrev S128x8x1024 : Shape := ⟨3, ![128, 8, 1024]⟩
abbrev S1024 : Shape := ⟨1, ![1024]⟩
abbrev S1x1024 : Shape := ⟨2, ![1, 1024]⟩

abbrev nBuf : Space → Nat
  | .hbm => 182
  | .vmem => 26
  | .smem => 0
  | _ => 0

abbrev hbmTy0_0 (i : Nat) : BufTy := match i % 128 with
  | 0 => ⟨S4096x6152, .f32⟩
  | 1 => ⟨S1x8, .f32⟩
  | 2 => ⟨S4096x1024, .bf16⟩
  | 3 => ⟨S_, .f32⟩
  | 4 => ⟨S_, .f32⟩
  | 5 => ⟨S_, .f32⟩
  | 6 => ⟨S_, .f32⟩
  | 7 => ⟨S4096x1024, .f32⟩
  | 8 => ⟨S_, .f32⟩
  | 9 => ⟨S4096x1024, .f32⟩
  | 10 => ⟨S4096x1024, .f32⟩
  | 11 => ⟨S4096x2048, .f32⟩
  | 12 => ⟨S4096x3072, .f32⟩
  | 13 => ⟨S4096x3072, .bf16⟩
  | 14 => ⟨S4096x8, .f32⟩
  | 15 => ⟨S8, .f32⟩
  | 16 => ⟨S1x8, .f32⟩
  | 17 => ⟨S4096x8, .f32⟩
  | 18 => ⟨S4096x8, .f32⟩
  | 19 => ⟨S4096x8, .f32⟩
  | 20 => ⟨S_, .f32⟩
  | 21 => ⟨S4096x8, .f32⟩
  | 22 => ⟨S4096x8, .f32⟩
  | 23 => ⟨S4096x8, .f32⟩
  | 24 => ⟨S4096x8, .f32⟩
  | 25 => ⟨S4096x8, .i1⟩
  | 26 => ⟨S4096x8, .f32⟩
  | 27 => ⟨S4096x8, .f32⟩
  | 28 => ⟨S4096x8, .f32⟩
  | 29 => ⟨S4096x8, .f32⟩
  | 30 => ⟨S4096x8, .f32⟩
  | 31 => ⟨S4096x8, .f32⟩
  | 32 => ⟨S4096x8, .f32⟩
  | 33 => ⟨S4096x8, .f32⟩
  | 34 => ⟨S4096x8, .f32⟩
  | 35 => ⟨S_, .f32⟩
  | 36 => ⟨S_, .f32⟩
  | 37 => ⟨S4096x8, .f32⟩
  | 38 => ⟨S8x4096, .f32⟩
  | 39 => ⟨S8x4096x1, .f32⟩
  | 40 => ⟨S_, .f32⟩
  | 41 => ⟨S8x4096x1, .f32⟩
  | 42 => ⟨S8x4096x1, .f32⟩
  | 43 => ⟨S8x4096x128, .f32⟩
  | 44 => ⟨S4096x128, .i32⟩
  | 45 => ⟨S8x4096x128, .bf16⟩
  | 46 => ⟨S8x4096x128, .f32⟩
  | 47 => ⟨S8x4096x128, .f32⟩
  | 48 => ⟨S8x4096x128, .bf16⟩
  | 49 => ⟨S8x4096x128, .f32⟩
  | 50 => ⟨S8x4096x128, .f32⟩
  | 51 => ⟨S8x4096x128, .f32⟩
  | 52 => ⟨S8x4096x128, .bf16⟩
  | 53 => ⟨S8x4096x128, .f32⟩
  | 54 => ⟨S_, .i32⟩
  | 55 => ⟨S4096x128, .i32⟩
  | 56 => ⟨S4096x128, .i1⟩
  | 57 => ⟨S_, .i32⟩
  | 58 => ⟨S4096x128, .i32⟩
  | 59 => ⟨S4096x128, .i1⟩
  | 60 => ⟨S4096x128, .i1⟩
  | 61 => ⟨S_, .f32⟩
  | 62 => ⟨S_, .f32⟩
  | 63 => ⟨S4096x128, .f32⟩
  | 64 => ⟨S4096x128, .f32⟩
  | 65 => ⟨S4096x128, .f32⟩
  | 66 => ⟨S_, .i32⟩
  | 67 => ⟨S4096x128, .i32⟩
  | 68 => ⟨S4096x128, .i1⟩
  | 69 => ⟨S4096x128, .f32⟩
  | 70 => ⟨S8x4096x128, .i1⟩
  | 71 => ⟨S8x4096x128, .f32⟩
  | 72 => ⟨S8x4096x128, .f32⟩
  | 73 => ⟨S_, .i32⟩
  | 74 => ⟨S4096x128, .i32⟩
  | 75 => ⟨S4096x128, .i1⟩
  | 76 => ⟨S8x4096x128, .i1⟩
  | 77 => ⟨S8x4096x128, .f32⟩
  | 78 => ⟨S_, .i32⟩
  | 79 => ⟨S4096x128, .i32⟩
  | 80 => ⟨S4096x128, .i1⟩
  | 81 => ⟨S8x4096x128, .i1⟩
  | 82 => ⟨S8x4096x128, .f32⟩
  | 83 => ⟨S8x4096x128, .bf16⟩
  | 84 => ⟨S4096x1024, .f32⟩
  | 85 => ⟨S4096x8x128, .f32⟩
  | 86 => ⟨S4096x1024, .f32⟩
  | 87 => ⟨S4096x8x128, .f32⟩
  | 88 => ⟨S4096x1024, .f32⟩
  | 89 => ⟨S4096x8x128, .f32⟩
  | 90 => ⟨S8x4096x4096, .f32⟩
  | 91 => ⟨S8x4096x4096, .f32⟩
  | 92 => ⟨S8x4096x4096, .f32⟩
  | 93 => ⟨S8x1x4096, .f32⟩
  | 94 => ⟨S8x4096x4096, .f32⟩
  | 95 => ⟨S8x4096x4096, .f32⟩
  | 96 => ⟨S4096, .i32⟩
  | 97 => ⟨S1x4096, .i32⟩
  | 98 => ⟨S4096, .i32⟩
  | 99 => ⟨S4096x1, .i32⟩
  | 100 => ⟨S4096x4096, .i32⟩
  | 101 => ⟨S4096x4096, .i32⟩
  | 102 => ⟨S4096x4096, .i1⟩
  | 103 => ⟨S_, .f32⟩
  | 104 => ⟨S_, .f32⟩
  | 105 => ⟨S8x4096x4096, .i1⟩
  | 106 => ⟨S8x4096x4096, .f32⟩
  | 107 => ⟨S8x4096x4096, .f32⟩
  | 108 => ⟨S_, .f32⟩
  | 109 => ⟨S8x4096, .f32⟩
  | 110 => ⟨S8x4096x1, .f32⟩
  | 111 => ⟨S8x4096x4096, .f32⟩
  | 112 => ⟨S8x4096x4096, .f32⟩
  | 113 => ⟨S8x4096x4096, .f32⟩
  | 114 => ⟨S_, .f32⟩
  | 115 => ⟨S8x4096, .f32⟩
  | 116 => ⟨S8x4096x128, .f32⟩
  | 117 => ⟨S8x4096x1, .f32⟩
  | 118 => ⟨S8x4096x128, .f32⟩
  | 119 => ⟨S8x4096x128, .f32⟩
  | 120 => ⟨S8x4096, .f32⟩
  | 121 => ⟨S8x4096, .f32⟩
  | 122 => ⟨S_, .f32⟩
  | 123 => ⟨S8x4096, .f32⟩
  | 124 => ⟨S8x4096, .f32⟩
  | 125 => ⟨S8x4096x1, .f32⟩
  | 126 => ⟨S8x4096x128, .f32⟩
  | 127 => ⟨S4096x128, .i32⟩
  | _ => ⟨S4096x6152, .f32⟩

abbrev hbmTy0_1 (i : Nat) : BufTy := match i % 128 with
  | 0 => ⟨S8x4096x128, .bf16⟩
  | 1 => ⟨S8x4096x128, .f32⟩
  | 2 => ⟨S8x4096x128, .f32⟩
  | 3 => ⟨S8x4096x128, .bf16⟩
  | 4 => ⟨S8x4096x128, .f32⟩
  | 5 => ⟨S8x4096x128, .f32⟩
  | 6 => ⟨S8x4096x128, .f32⟩
  | 7 => ⟨S8x4096x128, .bf16⟩
  | 8 => ⟨S8x4096x128, .f32⟩
  | 9 => ⟨S_, .i32⟩
  | 10 => ⟨S4096x128, .i32⟩
  | 11 => ⟨S4096x128, .i1⟩
  | 12 => ⟨S_, .i32⟩
  | 13 => ⟨S4096x128, .i32⟩
  | 14 => ⟨S4096x128, .i1⟩
  | 15 => ⟨S4096x128, .i1⟩
  | 16 => ⟨S_, .f32⟩
  | 17 => ⟨S_, .f32⟩
  | 18 => ⟨S4096x128, .f32⟩
  | 19 => ⟨S4096x128, .f32⟩
  | 20 => ⟨S4096x128, .f32⟩
  | 21 => ⟨S_, .i32⟩
  | 22 => ⟨S4096x128, .i32⟩
  | 23 => ⟨S4096x128, .i1⟩
  | 24 => ⟨S4096x128, .f32⟩
  | 25 => ⟨S8x4096x128, .i1⟩
  | 26 => ⟨S8x4096x128, .f32⟩
  | 27 => ⟨S8x4096x128, .f32⟩
  | 28 => ⟨S_, .i32⟩
  | 29 => ⟨S4096x128, .i32⟩
  | 30 => ⟨S4096x128, .i1⟩
  | 31 => ⟨S8x4096x128, .i1⟩
  | 32 => ⟨S8x4096x128, .f32⟩
  | 33 => ⟨S_, .i32⟩
  | 34 => ⟨S4096x128, .i32⟩
  | 35 => ⟨S4096x128, .i1⟩
  | 36 => ⟨S8x4096x128, .i1⟩
  | 37 => ⟨S8x4096x128, .f32⟩
  | 38 => ⟨S8x4096x128, .bf16⟩
  | 39 => ⟨S4096x1024, .f32⟩
  | 40 => ⟨S4096x8x128, .f32⟩
  | 41 => ⟨S8x4096x128, .f32⟩
  | 42 => ⟨S8x4096x128, .f32⟩
  | 43 => ⟨S_, .f32⟩
  | 44 => ⟨S8x4096, .f32⟩
  | 45 => ⟨S8x4096x1, .f32⟩
  | 46 => ⟨S8x4096x128, .f32⟩
  | 47 => ⟨S_, .f32⟩
  | 48 => ⟨S8x128, .f32⟩
  | 49 => ⟨S4096x1024, .bf16⟩
  | 50 => ⟨S4096x1024, .bf16⟩
  | 51 => ⟨S4096x1024, .bf16⟩
  | 52 => ⟨S4x64x1024, .f32⟩
  | 53 => ⟨S8x4096x128, .f32⟩
  | _ => ⟨S4096x6152, .f32⟩

abbrev hbmTy (i : Nat) : BufTy := match i / 128 with
  | 0 => hbmTy0_0 i
  | 1 => hbmTy0_1 i
  | _ => ⟨S4096x6152, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1x1024x128, .bf16⟩
  | .local _ .vmem, ⟨5, _⟩ => ⟨S1x1024x128, .bf16⟩
  | .local _ .vmem, ⟨6, _⟩ => ⟨S4096x128, .bf16⟩
  | .local _ .vmem, ⟨7, _⟩ => ⟨S4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S4096x128, .bf16⟩
  | .local _ .vmem, ⟨11, _⟩ => ⟨S4096x128, .bf16⟩
  | .local _ .vmem, ⟨12, _⟩ => ⟨S1x4096x128, .f32⟩
  | .local _ .vmem, ⟨13, _⟩ => ⟨S1x4096x128, .f32⟩
  | .local _ .vmem, ⟨14, _⟩ => ⟨S8x128, .f32⟩
  | .local _ .vmem, ⟨15, _⟩ => ⟨S4096x128, .bf16⟩
  | .local _ .vmem, ⟨16, _⟩ => ⟨S4096x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x128, .bf16⟩
  | .local _ .vmem, ⟨21, _⟩ => ⟨S1x8x1024, .f32⟩
  | .local _ .vmem, ⟨22, _⟩ => ⟨S1x8x1024, .f32⟩
  | .local _ .vmem, ⟨23, _⟩ => ⟨S1x4096x128, .f32⟩
  | .local _ .vmem, ⟨24, _⟩ => ⟨S1x4096x128, .f32⟩
  | .local _ .vmem, ⟨25, _⟩ => ⟨S4096x128, .f32⟩
  | _, _ => ⟨S4096x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_call0_cst : Ref sig .tc := ⟨.hbm, 20, rfl⟩
abbrev main_call0_call0_v0 : Ref sig .tc := ⟨.hbm, 21, rfl⟩
abbrev main_call0_call0_v1 : Ref sig .tc := ⟨.hbm, 22, rfl⟩
abbrev main_call0_call0_v2 : Ref sig .tc := ⟨.hbm, 23, rfl⟩
abbrev main_call0_call0_v3 : Ref sig .tc := ⟨.hbm, 24, rfl⟩
abbrev main_call0_call0_v4 : Ref sig .tc := ⟨.hbm, 25, rfl⟩
abbrev main_call0_call0_v5 : Ref sig .tc := ⟨.hbm, 26, rfl⟩
abbrev main_call0_call0_v6 : Ref sig .tc := ⟨.hbm, 27, rfl⟩
abbrev main_call0_call0_v7 : Ref sig .tc := ⟨.hbm, 28, rfl⟩
abbrev main_call0_call0_v8 : Ref sig .tc := ⟨.hbm, 29, rfl⟩
abbrev main_call0_call0_v9 : Ref sig .tc := ⟨.hbm, 30, rfl⟩
abbrev main_call0_call0_v10 : Ref sig .tc := ⟨.hbm, 31, rfl⟩
abbrev main_call0_call0_v11 : Ref sig .tc := ⟨.hbm, 32, rfl⟩
abbrev main_call0_v1 : Ref sig .tc := ⟨.hbm, 33, rfl⟩
abbrev main_v14 : Ref sig .tc := ⟨.hbm, 34, rfl⟩
abbrev main_call1_call0_cst : Ref sig .tc := ⟨.hbm, 35, rfl⟩
abbrev main_call1_call0_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c : Ref sig .tc := ⟨.hbm, 54, rfl⟩
abbrev main_v32 : Ref sig .tc := ⟨.hbm, 55, rfl⟩
abbrev main_v33 : Ref sig .tc := ⟨.hbm, 56, rfl⟩
abbrev main_c_1 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_2 : Ref sig .tc := ⟨.hbm, 61, rfl⟩
abbrev main_cst_3 : Ref sig .tc := ⟨.hbm, 62, rfl⟩
abbrev main_call2_v0 : Ref sig .tc := ⟨.hbm, 63, rfl⟩
abbrev main_call2_v1 : Ref sig .tc := ⟨.hbm, 64, rfl⟩
abbrev main_v37 : Ref sig .tc := ⟨.hbm, 65, rfl⟩
abbrev main_c_4 : Ref sig .tc := ⟨.hbm, 66, rfl⟩
abbrev main_v38 : Ref sig .tc := ⟨.hbm, 67, rfl⟩
abbrev main_v39 : Ref sig .tc := ⟨.hbm, 68, rfl⟩
abbrev main_call3_v0 : Ref sig .tc := ⟨.hbm, 69, rfl⟩
abbrev main_call3_v1 : Ref sig .tc := ⟨.hbm, 70, rfl⟩
abbrev main_call3_v2 : Ref sig .tc := ⟨.hbm, 71, rfl⟩
abbrev main_v40 : Ref sig .tc := ⟨.hbm, 72, rfl⟩
abbrev main_c_5 : Ref sig .tc := ⟨.hbm, 73, rfl⟩
abbrev main_v41 : Ref sig .tc := ⟨.hbm, 74, rfl⟩
abbrev main_v42 : Ref sig .tc := ⟨.hbm, 75, rfl⟩
abbrev main_call4_v0 : Ref sig .tc := ⟨.hbm, 76, rfl⟩
abbrev main_v43 : Ref sig .tc := ⟨.hbm, 77, rfl⟩
abbrev main_c_6 : Ref sig .tc := ⟨.hbm, 78, rfl⟩
abbrev main_v44 : Ref sig .tc := ⟨.hbm, 79, rfl⟩
abbrev main_v45 : Ref sig .tc := ⟨.hbm, 80, rfl⟩
abbrev main_call5_v0 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_7 : Ref sig .tc := ⟨.hbm, 103, rfl⟩
abbrev main_call6_v0 : Ref sig .tc := ⟨.hbm, 104, rfl⟩
abbrev main_call6_v1 : Ref sig .tc := ⟨.hbm, 105, rfl⟩
abbrev main_call6_v2 : Ref sig .tc := ⟨.hbm, 106, rfl⟩
abbrev main_v67 : Ref sig .tc := ⟨.hbm, 107, rfl⟩
abbrev main_cst_8 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_cst_9 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_c_10 : Ref sig .tc := ⟨.hbm, 137, rfl⟩
abbrev main_v95 : Ref sig .tc := ⟨.hbm, 138, rfl⟩
abbrev main_v96 : Ref sig .tc := ⟨.hbm, 139, rfl⟩
abbrev main_c_11 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_12 : Ref sig .tc := ⟨.hbm, 144, rfl⟩
abbrev main_cst_13 : Ref sig .tc := ⟨.hbm, 145, rfl⟩
abbrev main_call7_v0 : Ref sig .tc := ⟨.hbm, 146, rfl⟩
abbrev main_call7_v1 : Ref sig .tc := ⟨.hbm, 147, rfl⟩
abbrev main_v100 : Ref sig .tc := ⟨.hbm, 148, rfl⟩
abbrev main_c_14 : Ref sig .tc := ⟨.hbm, 149, rfl⟩
abbrev main_v101 : Ref sig .tc := ⟨.hbm, 150, rfl⟩
abbrev main_v102 : Ref sig .tc := ⟨.hbm, 151, rfl⟩
abbrev main_call8_v0 : Ref sig .tc := ⟨.hbm, 152, rfl⟩
abbrev main_call8_v1 : Ref sig .tc := ⟨.hbm, 153, rfl⟩
abbrev main_call8_v2 : Ref sig .tc := ⟨.hbm, 154, rfl⟩
abbrev main_v103 : Ref sig .tc := ⟨.hbm, 155, rfl⟩
abbrev main_c_15 : Ref sig .tc := ⟨.hbm, 156, rfl⟩
abbrev main_v104 : Ref sig .tc := ⟨.hbm, 157, rfl⟩
abbrev main_v105 : Ref sig .tc := ⟨.hbm, 158, rfl⟩
abbrev main_call9_v0 : Ref sig .tc := ⟨.hbm, 159, rfl⟩
abbrev main_v106 : Ref sig .tc := ⟨.hbm, 160, rfl⟩
abbrev main_c_16 : Ref sig .tc := ⟨.hbm, 161, rfl⟩
abbrev main_v107 : Ref sig .tc := ⟨.hbm, 162, rfl⟩
abbrev main_v108 : Ref sig .tc := ⟨.hbm, 163, rfl⟩
abbrev main_call10_v0 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_17 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_18 : Ref sig .tc := ⟨.hbm, 175, rfl⟩
abbrev main_v118 : Ref sig .tc := ⟨.hbm, 176, rfl⟩
abbrev main_v119_0 : Ref sig .tc := ⟨.hbm, 177, rfl⟩
abbrev main_v119_1 : Ref sig .tc := ⟨.hbm, 178, rfl⟩
abbrev main_v119_2 : Ref sig .tc := ⟨.hbm, 179, rfl⟩
abbrev main_v119_3 : Ref sig .tc := ⟨.hbm, 180, rfl⟩
abbrev main_v119_4 : Ref sig .tc := ⟨.hbm, 181, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v15 : BitVec 32 := Scalar.muli arg1 c1024_i32
  let c0_i32_9 : BitVec 32 := 0#32
  let v16 : BitVec 32 := Scalar.addi v15 c0_i32_9
  v16
def k0_off1 (i : grid0.Coords) (c0_i32_9 : BitVec 32) : Fin 2 → Nat :=
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v18 : Index := Scalar.indexCast v17
  let c0_10 : Index := 0#32
  ![v18.toNat, 0]
def k0_off2 (i : grid0.Coords) (c0_i32_9 : BitVec 32) : Fin 3 → Nat :=
  let c0_12 : Index := 0#32
  let arg1 : BitVec 32 := BitVec.ofNat 32 (i 1).val
  let c1024_i32 : BitVec 32 := 1024#32
  let v15 : BitVec 32 := Scalar.muli arg1 c1024_i32
  let v16 : BitVec 32 := Scalar.addi v15 c0_i32_9
  let v17 : BitVec 32 := v16
  let v23 : Index := Scalar.indexCast v17
  let c0_13 : Index := 0#32
  ![0, v23.toNat, 0]
def k0_mult2 (i : grid0.Coords) : BitVec 32 :=
  let arg1 : BitVec 32 := BitVec.ofNat 32 (i 1).val
  let c1024_i32_41 : BitVec 32 := 1024#32
  let v129 : BitVec 32 := Scalar.muli arg1 c1024_i32_41
  let c512_i32 : BitVec 32 := 512#32
  let v130 : BitVec 32 := Scalar.addi v129 c512_i32
  v130
@[reducible] def k0_t1_loop (i : grid0.Coords) : Scf.Loop 32 :=
  let arg1 : BitVec 32 := BitVec.ofNat 32 (i 1).val
  let c1_i32 : BitVec 32 := 1#32
  let v258 : BitVec 32 := Scalar.addi arg1 c1_i32
  let c4_i32 : BitVec 32 := 4#32
  let v259 : BitVec 32 := Scalar.subi c4_i32 v258
  let c1_i32_70 : BitVec 32 := 1#32
  let v261 : BitVec 32 := Scalar.divsi v259 c1_i32_70
  let v262 : BitVec 32 := Scalar.muli v261 c1_i32_70
  let v263 : BitVec 32 := Scalar.addi v258 v262
  let c1_i32_71 : BitVec 32 := 1#32
  ⟨v258, v263, c1_i32_71⟩
def k0_mult3 (i : grid0.Coords) (k0_t1 : Fin (k0_t1_loop i).trips) : BitVec 32 :=
  let arg1 : BitVec 32 := BitVec.ofNat 32 (i 1).val
  let c1_i32 : BitVec 32 := 1#32
  let v258 : BitVec 32 := Scalar.addi arg1 c1_i32
  let c1_i32_71 : BitVec 32 := 1#32
  let arg16 : BitVec 32 := Scf.iv v258 c1_i32_71 k0_t1
  let c1024_i32_83 : BitVec 32 := 1024#32
  let v282 : BitVec 32 := Scalar.muli arg16 c1024_i32_83
  let c0_i32_84 : BitVec 32 := 0#32
  let v283 : BitVec 32 := Scalar.addi v282 c0_i32_84
  v283
def k0_off3 (i : grid0.Coords) (k0_t1 : Fin (k0_t1_loop i).trips) : Fin 2 → Nat :=
  let arg1 : BitVec 32 := BitVec.ofNat 32 (i 1).val
  let c1_i32 : BitVec 32 := 1#32
  let v258 : BitVec 32 := Scalar.addi arg1 c1_i32
  let c1_i32_71 : BitVec 32 := 1#32
  let arg16 : BitVec 32 := Scf.iv v258 c1_i32_71 k0_t1
  let c1024_i32_83 : BitVec 32 := 1024#32
  let v282 : BitVec 32 := Scalar.muli arg16 c1024_i32_83
  let c0_i32_84 : BitVec 32 := 0#32
  let v283 : BitVec 32 := Scalar.addi v282 c0_i32_84
  let v284 : BitVec 32 := v283
  let v285 : Index := Scalar.indexCast v284
  let c0_85 : Index := 0#32
  ![v285.toNat, 0]
def k0_off4 (i : grid0.Coords) (k0_t1 : Fin (k0_t1_loop i).trips) : Fin 3 → Nat :=
  let c0_87 : Index := 0#32
  let arg1 : BitVec 32 := BitVec.ofNat 32 (i 1).val
  let c1_i32 : BitVec 32 := 1#32
  let v258 : BitVec 32 := Scalar.addi arg1 c1_i32
  let c1_i32_71 : BitVec 32 := 1#32
  let arg16 : BitVec 32 := Scf.iv v258 c1_i32_71 k0_t1
  let c1024_i32_83 : BitVec 32 := 1024#32
  let v282 : BitVec 32 := Scalar.muli arg16 c1024_i32_83
  let c0_i32_84 : BitVec 32 := 0#32
  let v283 : BitVec 32 := Scalar.addi v282 c0_i32_84
  let v284 : BitVec 32 := v283
  let v290 : Index := Scalar.indexCast v284
  let c0_88 : Index := 0#32
  ![0, v290.toNat, 0]
@[reducible] def k0_t2_loop (i : grid0.Coords) : Scf.Loop 32 :=
  let arg1 : BitVec 32 := BitVec.ofNat 32 (i 1).val
  let c1_i32 : BitVec 32 := 1#32
  let v258 : BitVec 32 := Scalar.addi arg1 c1_i32
  let c4_i32 : BitVec 32 := 4#32
  let v259 : BitVec 32 := Scalar.subi c4_i32 v258
  let c1_i32_70 : BitVec 32 := 1#32
  let v261 : BitVec 32 := Scalar.divsi v259 c1_i32_70
  let v262 : BitVec 32 := Scalar.muli v261 c1_i32_70
  let v263 : BitVec 32 := Scalar.addi v258 v262
  let v260 : BitVec 32 := Scalar.addi v258 v259
  let c1_i32_72 : BitVec 32 := 1#32
  ⟨v263, v260, c1_i32_72⟩
def k0_mult4 (i : grid0.Coords) (k0_t2 : Fin (k0_t2_loop i).trips) : BitVec 32 :=
  let arg1 : BitVec 32 := BitVec.ofNat 32 (i 1).val
  let c1_i32 : BitVec 32 := 1#32
  let v258 : BitVec 32 := Scalar.addi arg1 c1_i32
  let c4_i32 : BitVec 32 := 4#32
  let v259 : BitVec 32 := Scalar.subi c4_i32 v258
  let c1_i32_70 : BitVec 32 := 1#32
  let v261 : BitVec 32 := Scalar.divsi v259 c1_i32_70
  let v262 : BitVec 32 := Scalar.muli v261 c1_i32_70
  let v263 : BitVec 32 := Scalar.addi v258 v262
  let c1_i32_72 : BitVec 32 := 1#32
  let arg16 : BitVec 32 := Scf.iv v263 c1_i32_72 k0_t2
  let c1024_i32_83 : BitVec 32 := 1024#32
  let v282 : BitVec 32 := Scalar.muli arg16 c1024_i32_83
  let c0_i32_84 : BitVec 32 := 0#32
  let v283 : BitVec 32 := Scalar.addi v282 c0_i32_84
  v283
def k0_off5 (i : grid0.Coords) (k0_t2 : Fin (k0_t2_loop i).trips) : Fin 2 → Nat :=
  let arg1 : BitVec 32 := BitVec.ofNat 32 (i 1).val
  let c1_i32 : BitVec 32 := 1#32
  let v258 : BitVec 32 := Scalar.addi arg1 c1_i32
  let c4_i32 : BitVec 32 := 4#32
  let v259 : BitVec 32 := Scalar.subi c4_i32 v258
  let c1_i32_70 : BitVec 32 := 1#32
  let v261 : BitVec 32 := Scalar.divsi v259 c1_i32_70
  let v262 : BitVec 32 := Scalar.muli v261 c1_i32_70
  let v263 : BitVec 32 := Scalar.addi v258 v262
  let c1_i32_72 : BitVec 32 := 1#32
  let arg16 : BitVec 32 := Scf.iv v263 c1_i32_72 k0_t2
  let c1024_i32_83 : BitVec 32 := 1024#32
  let v282 : BitVec 32 := Scalar.muli arg16 c1024_i32_83
  let c0_i32_84 : BitVec 32 := 0#32
  let v283 : BitVec 32 := Scalar.addi v282 c0_i32_84
  let v284 : BitVec 32 := v283
  let v285 : Index := Scalar.indexCast v284
  let c0_85 : Index := 0#32
  ![v285.toNat, 0]
def k0_off6 (i : grid0.Coords) (k0_t2 : Fin (k0_t2_loop i).trips) : Fin 3 → Nat :=
  let c0_87 : Index := 0#32
  let arg1 : BitVec 32 := BitVec.ofNat 32 (i 1).val
  let c1_i32 : BitVec 32 := 1#32
  let v258 : BitVec 32 := Scalar.addi arg1 c1_i32
  let c4_i32 : BitVec 32 := 4#32
  let v259 : BitVec 32 := Scalar.subi c4_i32 v258
  let c1_i32_70 : BitVec 32 := 1#32
  let v261 : BitVec 32 := Scalar.divsi v259 c1_i32_70
  let v262 : BitVec 32 := Scalar.muli v261 c1_i32_70
  let v263 : BitVec 32 := Scalar.addi v258 v262
  let c1_i32_72 : BitVec 32 := 1#32
  let arg16 : BitVec 32 := Scf.iv v263 c1_i32_72 k0_t2
  let c1024_i32_83 : BitVec 32 := 1024#32
  let v282 : BitVec 32 := Scalar.muli arg16 c1024_i32_83
  let c0_i32_84 : BitVec 32 := 0#32
  let v283 : BitVec 32 := Scalar.addi v282 c0_i32_84
  let v284 : BitVec 32 := v283
  let v290 : Index := Scalar.indexCast v284
  let c0_88 : Index := 0#32
  ![0, v290.toNat, 0]
def k0_cond2 (i : grid0.Coords) : BitVec 1 :=
  let arg1 : BitVec 32 := BitVec.ofNat 32 (i 1).val
  let c3_i32 : BitVec 32 := 3#32
  let v279 : BitVec 1 := Scalar.cmpi .eq arg1 c3_i32
  let v280 : BitVec 32 := Scalar.extui v279
  let c0_i32_82 : BitVec 32 := 0#32
  let v281 : BitVec 1 := Scalar.cmpi .ne v280 c0_i32_82
  v281

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4096x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== AttnIdeal.lean ====
variable {F : FTy → Type} [FloatOps F] [Named F]
def κ : String → Option EReal := fun
  | "ln2" => some ((Real.log 2 : ℝ) : EReal)
  | "mask" => some ⊥
  | "scale" => some (((Real.sqrt 128)⁻¹ : ℝ) : EReal)
  | _ => none
-- ==== AttnRefIdeal.lean ====
abbrev S4096x6152 : Shape := ⟨2, ![4096, 6152]⟩
abbrev S1x8 : Shape := ⟨2, ![1, 8]⟩
abbrev S4096x1024 : Shape := ⟨2, ![4096, 1024]⟩
abbrev S4096x8 : Shape := ⟨2, ![4096, 8]⟩
abbrev S8 : Shape := ⟨1, ![8]⟩
abbrev S_ : Shape := ⟨0, ![]⟩
abbrev S8x4096 : Shape := ⟨2, ![8, 4096]⟩
abbrev S4096x8x128 : Shape := ⟨3, ![4096, 8, 128]⟩
abbrev S8x4096x1 : Shape := ⟨3, ![8, 4096, 1]⟩
abbrev S8x4096x128 : Shape := ⟨3, ![8, 4096, 128]⟩
abbrev S8x4096x4096 : Shape := ⟨3, ![8, 4096, 4096]⟩
abbrev S8x4096x1x128 : Shape := ⟨4, ![8, 4096, 1, 128]⟩
abbrev S8x1x32x128 : Shape := ⟨4, ![8, 1, 32, 128]⟩
abbrev S8x4096x32x128 : Shape := ⟨4, ![8, 4096, 32, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x128x4096 : Shape := ⟨3, ![8, 128, 4096]⟩
abbrev S8x32x128 : Shape := ⟨3, ![8, 32, 128]⟩
abbrev S8x4x1024 : Shape := ⟨3, ![8, 4, 1024]⟩
abbrev S4x8x1024 : Shape := ⟨3, ![4, 8, 1024]⟩
abbrev S4x8x1x1024 : Shape := ⟨4, ![4, 8, 1, 1024]⟩
abbrev S4x8x8x1024 : Shape := ⟨4, ![4, 8, 8, 1024]⟩
abbrev S4x64x1024 : Shape := ⟨3, ![4, 64, 1024]⟩

abbrev nBuf : Space → Nat
  | .hbm => 154
  | .vmem => 0
  | .smem => 0
  | _ => 0

abbrev hbmTy0_0 (i : Nat) : BufTy := match i % 128 with
  | 0 => ⟨S4096x6152, .f32⟩
  | 1 => ⟨S1x8, .f32⟩
  | 2 => ⟨S4096x1024, .bf16⟩
  | 3 => ⟨S4096x8, .f32⟩
  | 4 => ⟨S8, .f32⟩
  | 5 => ⟨S1x8, .f32⟩
  | 6 => ⟨S4096x8, .f32⟩
  | 7 => ⟨S4096x8, .f32⟩
  | 8 => ⟨S4096x8, .f32⟩
  | 9 => ⟨S_, .f32⟩
  | 10 => ⟨S4096x8, .f32⟩
  | 11 => ⟨S4096x8, .f32⟩
  | 12 => ⟨S4096x8, .f32⟩
  | 13 => ⟨S4096x8, .f32⟩
  | 14 => ⟨S4096x8, .i1⟩
  | 15 => ⟨S4096x8, .f32⟩
  | 16 => ⟨S4096x8, .f32⟩
  | 17 => ⟨S4096x8, .f32⟩
  | 18 => ⟨S4096x8, .f32⟩
  | 19 => ⟨S4096x8, .f32⟩
  | 20 => ⟨S4096x8, .f32⟩
  | 21 => ⟨S4096x8, .f32⟩
  | 22 => ⟨S4096x8, .f32⟩
  | 23 => ⟨S4096x8, .f32⟩
  | 24 => ⟨S_, .f32⟩
  | 25 => ⟨S_, .f32⟩
  | 26 => ⟨S4096x8, .f32⟩
  | 27 => ⟨S8x4096, .f32⟩
  | 28 => ⟨S4096x1024, .f32⟩
  | 29 => ⟨S4096x8x128, .f32⟩
  | 30 => ⟨S4096x1024, .f32⟩
  | 31 => ⟨S4096x8x128, .f32⟩
  | 32 => ⟨S4096x1024, .f32⟩
  | 33 => ⟨S4096x8x128, .f32⟩
  | 34 => ⟨S8x4096x1, .f32⟩
  | 35 => ⟨S8x4096x128, .f32⟩
  | 36 => ⟨S8x4096x4096, .f32⟩
  | 37 => ⟨S_, .f32⟩
  | 38 => ⟨S_, .f32⟩
  | 39 => ⟨S8x4096x4096, .f32⟩
  | 40 => ⟨S8x4096x4096, .f32⟩
  | 41 => ⟨S8x4096x1x128, .f32⟩
  | 42 => ⟨S8x1x32x128, .f32⟩
  | 43 => ⟨S8x4096x32x128, .f32⟩
  | 44 => ⟨S8x4096x32x128, .f32⟩
  | 45 => ⟨S8x4096x32x128, .f32⟩
  | 46 => ⟨S8x4096x4096, .f32⟩
  | 47 => ⟨S8x4096x4096, .f32⟩
  | 48 => ⟨S4096, .i32⟩
  | 49 => ⟨S1x4096, .i32⟩
  | 50 => ⟨S4096, .i32⟩
  | 51 => ⟨S4096x1, .i32⟩
  | 52 => ⟨S4096x4096, .i32⟩
  | 53 => ⟨S4096x4096, .i32⟩
  | 54 => ⟨S4096x4096, .i1⟩
  | 55 => ⟨S_, .f32⟩
  | 56 => ⟨S_, .f32⟩
  | 57 => ⟨S8x4096x4096, .i1⟩
  | 58 => ⟨S8x4096x4096, .f32⟩
  | 59 => ⟨S8x4096x4096, .f32⟩
  | 60 => ⟨S_, .f32⟩
  | 61 => ⟨S8x4096x4096, .f32⟩
  | 62 => ⟨S_, .f32⟩
  | 63 => ⟨S8x4096, .f32⟩
  | 64 => ⟨S8x4096x1, .f32⟩
  | 65 => ⟨S8x4096x4096, .f32⟩
  | 66 => ⟨S8x4096x4096, .i1⟩
  | 67 => ⟨S8x4096x4096, .f32⟩
  | 68 => ⟨S_, .f32⟩
  | 69 => ⟨S8x4096, .f32⟩
  | 70 => ⟨S_, .f32⟩
  | 71 => ⟨S8x4096, .f32⟩
  | 72 => ⟨S8x4096, .f32⟩
  | 73 => ⟨S_, .f32⟩
  | 74 => ⟨S8x4096, .f32⟩
  | 75 => ⟨S8x4096, .i1⟩
  | 76 => ⟨S_, .f32⟩
  | 77 => ⟨S8x4096, .f32⟩
  | 78 => ⟨S8x4096, .i1⟩
  | 79 => ⟨S_, .f32⟩
  | 80 => ⟨S8x4096, .f32⟩
  | 81 => ⟨S_, .f32⟩
  | 82 => ⟨S8x4096, .f32⟩
  | 83 => ⟨S_, .f32⟩
  | 84 => ⟨S8x4096, .f32⟩
  | 85 => ⟨S8x4096, .f32⟩
  | 86 => ⟨S8x4096, .f32⟩
  | 87 => ⟨S8x4096x1, .f32⟩
  | 88 => ⟨S8x4096x4096, .f32⟩
  | 89 => ⟨S8x4096x4096, .f32⟩
  | 90 => ⟨S8x4096x4096, .f32⟩
  | 91 => ⟨S_, .f32⟩
  | 92 => ⟨S8x4096, .f32⟩
  | 93 => ⟨S8x4096x1, .f32⟩
  | 94 => ⟨S8x4096x4096, .f32⟩
  | 95 => ⟨S8x4096x4096, .f32⟩
  | 96 => ⟨S8x4096x1, .f32⟩
  | 97 => ⟨S_, .f32⟩
  | 98 => ⟨S8x4096x1, .f32⟩
  | 99 => ⟨S8x4096x1, .f32⟩
  | 100 => ⟨S8x128x4096, .f32⟩
  | 101 => ⟨S4096x8x128, .f32⟩
  | 102 => ⟨S4096x1024, .f32⟩
  | 103 => ⟨S4096x8x128, .f32⟩
  | 104 => ⟨S8x128x4096, .f32⟩
  | 105 => ⟨S8x4096x4096, .f32⟩
  | 106 => ⟨S8x128x4096, .f32⟩
  | 107 => ⟨S4096x8x128, .f32⟩
  | 108 => ⟨S8x4096x4096, .f32⟩
  | 109 => ⟨S8x4096x4096, .f32⟩
  | 110 => ⟨S8x4096x4096, .f32⟩
  | 111 => ⟨S_, .f32⟩
  | 112 => ⟨S8x4096, .f32⟩
  | 113 => ⟨S8x4096x1, .f32⟩
  | 114 => ⟨S8x4096x1, .f32⟩
  | 115 => ⟨S8x4096x4096, .f32⟩
  | 116 => ⟨S8x4096x4096, .f32⟩
  | 117 => ⟨S_, .f32⟩
  | 118 => ⟨S8x4096, .f32⟩
  | 119 => ⟨S8x4096x4096, .f32⟩
  | 120 => ⟨S8x4096x4096, .f32⟩
  | 121 => ⟨S8x4096x4096, .f32⟩
  | 122 => ⟨S_, .f32⟩
  | 123 => ⟨S8x4096x4096, .f32⟩
  | 124 => ⟨S8x4096x4096, .f32⟩
  | 125 => ⟨S8x4096x32x128, .f32⟩
  | 126 => ⟨S_, .f32⟩
  | 127 => ⟨S8x4096x128, .f32⟩
  | _ => ⟨S4096x6152, .f32⟩

abbrev hbmTy0_1 (i : Nat) : BufTy := match i % 128 with
  | 0 => ⟨S8x4096x1x128, .f32⟩
  | 1 => ⟨S8x4096x32x128, .f32⟩
  | 2 => ⟨S_, .f32⟩
  | 3 => ⟨S8x32x128, .f32⟩
  | 4 => ⟨S8x1x32x128, .f32⟩
  | 5 => ⟨S8x4096, .f32⟩
  | 6 => ⟨S_, .f32⟩
  | 7 => ⟨S8x4096x128, .f32⟩
  | 8 => ⟨S8x4096x4096, .f32⟩
  | 9 => ⟨S8x4096x4096, .f32⟩
  | 10 => ⟨S8x4096x128, .f32⟩
  | 11 => ⟨S4096x8x128, .f32⟩
  | 12 => ⟨S8x4096x128, .f32⟩
  | 13 => ⟨S4096x8x128, .f32⟩
  | 14 => ⟨S8x4x1024, .f32⟩
  | 15 => ⟨S4x8x1024, .f32⟩
  | 16 => ⟨S4x8x1x1024, .f32⟩
  | 17 => ⟨S4x8x1x1024, .f32⟩
  | 18 => ⟨S4x8x8x1024, .f32⟩
  | 19 => ⟨S4096x1024, .f32⟩
  | 20 => ⟨S4096x1024, .bf16⟩
  | 21 => ⟨S4096x1024, .f32⟩
  | 22 => ⟨S4096x1024, .bf16⟩
  | 23 => ⟨S4096x1024, .f32⟩
  | 24 => ⟨S4096x1024, .bf16⟩
  | 25 => ⟨S4x64x1024, .f32⟩
  | _ => ⟨S4096x6152, .f32⟩

abbrev hbmTy (i : Nat) : BufTy := match i / 128 with
  | 0 => hbmTy0_0 i
  | 1 => hbmTy0_1 i
  | _ => ⟨S4096x6152, .f32⟩

abbrev bufTy : (tb : Table) → Fin (tcTables nBuf tb) → BufTy
  | .hbm, ⟨i, _⟩ => hbmTy i
  | _, _ => ⟨S4096x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v5 : Ref sig .tc := ⟨.hbm, 23, rfl⟩
abbrev main_call1_call0_cst : Ref sig .tc := ⟨.hbm, 24, rfl⟩
abbrev main_call1_call0_v0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_0 : Ref sig .tc := ⟨.hbm, 55, rfl⟩
abbrev main_call2_v0 : Ref sig .tc := ⟨.hbm, 56, rfl⟩
abbrev main_v34_1 : Ref sig .tc := ⟨.hbm, 57, rfl⟩
abbrev main_call2_v2 : Ref sig .tc := ⟨.hbm, 58, rfl⟩
abbrev main_v34_0 : Ref sig .tc := ⟨.hbm, 59, rfl⟩
abbrev main_call2_cst : Ref sig .tc := ⟨.hbm, 60, rfl⟩
abbrev main_v34_2 : Ref sig .tc := ⟨.hbm, 61, rfl⟩
abbrev main_cst_1 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_2 : Ref sig .tc := ⟨.hbm, 68, rfl⟩
abbrev main_v40 : Ref sig .tc := ⟨.hbm, 69, rfl⟩
abbrev main_cst_3 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_cst_5 : Ref sig .tc := ⟨.hbm, 76, rfl⟩
abbrev main_v45 : Ref sig .tc := ⟨.hbm, 77, rfl⟩
abbrev main_v46 : Ref sig .tc := ⟨.hbm, 78, rfl⟩
abbrev main_cst_6 : Ref sig .tc := ⟨.hbm, 79, rfl⟩
abbrev main_v47 : Ref sig .tc := ⟨.hbm, 80, rfl⟩
abbrev main_cst_7 : Ref sig .tc := ⟨.hbm, 81, rfl⟩
abbrev main_v48 : Ref sig .tc := ⟨.hbm, 82, rfl⟩
abbrev main_cst_8 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_9 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_10 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_11 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_12 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call3_cst : Ref sig .tc := ⟨.hbm, 122, rfl⟩
abbrev main_call3_v0 : Ref sig .tc := ⟨.hbm, 123, rfl⟩
abbrev main_v83 : Ref sig .tc := ⟨.hbm, 124, rfl⟩
abbrev main_v84 : Ref sig .tc := ⟨.hbm, 125, rfl⟩
abbrev main_cst_13 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_14 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_15 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩

abbrev nD : Nat := 1
abbrev τ : Topo := Topo.v7x

variable {F : FTy → Type} [FloatOps F]
-- ==== Lru.lean ====
abbrev S4096x6152 : Shape := ⟨2, ![4096, 6152]⟩
abbrev S4096x1024 : Shape := ⟨2, ![4096, 1024]⟩
abbrev S1x4x1024 : Shape := ⟨3, ![1, 4, 1024]⟩
abbrev S1x1024 : Shape := ⟨2, ![1, 1024]⟩
abbrev S1x8x128x128 : Shape := ⟨4, ![1, 8, 128, 128]⟩
abbrev S4096x3072 : Shape := ⟨2, ![4096, 3072]⟩
abbrev S4096x8 : Shape := ⟨2, ![4096, 8]⟩
abbrev S4096x8x1 : Shape := ⟨3, ![4096, 8, 1]⟩
abbrev S_ : Shape := ⟨0, ![]⟩
abbrev S4096x8x8 : Shape := ⟨3, ![4096, 8, 8]⟩
abbrev S4096x64 : Shape := ⟨2, ![4096, 64]⟩
abbrev S4096x128 : Shape := ⟨2, ![4096, 128]⟩
abbrev S4096x3200 : Shape := ⟨2, ![4096, 3200]⟩
abbrev S4x1024 : Shape := ⟨2, ![4, 1024]⟩
abbrev S8x1024 : Shape := ⟨2, ![8, 1024]⟩
abbrev S1024 : Shape := ⟨1, ![1024]⟩
abbrev S3x1024 : Shape := ⟨2, ![3, 1024]⟩
abbrev S4099x1024 : Shape := ⟨2, ![4099, 1024]⟩
abbrev S8x128x128 : Shape := ⟨3, ![8, 128, 128]⟩
abbrev S4096x8x128 : Shape := ⟨3, ![4096, 8, 128]⟩
abbrev S4096x8x128x1 : Shape := ⟨4, ![4096, 8, 128, 1]⟩
abbrev S4096x8x128x128 : Shape := ⟨4, ![4096, 8, 128, 128]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4096x4096x1 : Shape := ⟨3, ![4096, 4096, 1]⟩
abbrev S4096x1x1024 : Shape := ⟨3, ![4096, 1, 1024]⟩
abbrev S1x4096x1024 : Shape := ⟨3, ![1, 4096, 1024]⟩
abbrev S4096x4096x1024 : Shape := ⟨3, ![4096, 4096, 1024]⟩
abbrev S256x1024 : Shape := ⟨2, ![256, 1024]⟩
abbrev S256x1 : Shape := ⟨2, ![256, 1]⟩
abbrev S256x128 : Shape := ⟨2, ![256, 128]⟩
abbrev S1x128x128 : Shape := ⟨3, ![1, 128, 128]⟩
abbrev S128x128 : Shape := ⟨2, ![128, 128]⟩
abbrev S248x1024 : Shape := ⟨2, ![248, 1024]⟩
abbrev S16x1024 : Shape := ⟨2, ![16, 1024]⟩
abbrev S240x1024 : Shape := ⟨2, ![240, 1024]⟩
abbrev S32x1024 : Shape := ⟨2, ![32, 1024]⟩
abbrev S224x1024 : Shape := ⟨2, ![224, 1024]⟩
abbrev S64x1024 : Shape := ⟨2, ![64, 1024]⟩
abbrev S192x1024 : Shape := ⟨2, ![192, 1024]⟩
abbrev S128x1024 : Shape := ⟨2, ![128, 1024]⟩
abbrev S264x1024 : Shape := ⟨2, ![264, 1024]⟩

abbrev nBuf : Space → Nat
  | .hbm => 172
  | .vmem => 31
  | .smem => 0
  | _ => 0

abbrev hbmTy0_0 (i : Nat) : BufTy := match i % 128 with
  | 0 => ⟨S4096x6152, .f32⟩
  | 1 => ⟨S4096x1024, .f32⟩
  | 2 => ⟨S1x4x1024, .f32⟩
  | 3 => ⟨S1x1024, .f32⟩
  | 4 => ⟨S1x8x128x128, .f32⟩
  | 5 => ⟨S1x1024, .f32⟩
  | 6 => ⟨S1x8x128x128, .f32⟩
  | 7 => ⟨S1x1024, .f32⟩
  | 8 => ⟨S1x1024, .f32⟩
  | 9 => ⟨S4096x3072, .f32⟩
  | 10 => ⟨S4096x8, .f32⟩
  | 11 => ⟨S4096x8x1, .f32⟩
  | 12 => ⟨S_, .i32⟩
  | 13 => ⟨S_, .f32⟩
  | 14 => ⟨S4096x8x8, .f32⟩
  | 15 => ⟨S4096x64, .f32⟩
  | 16 => ⟨S_, .i32⟩
  | 17 => ⟨S_, .f32⟩
  | 18 => ⟨S4096x128, .f32⟩
  | 19 => ⟨S4096x3200, .f32⟩
  | 20 => ⟨S4x1024, .f32⟩
  | 21 => ⟨S_, .i32⟩
  | 22 => ⟨S_, .f32⟩
  | 23 => ⟨S8x1024, .f32⟩
  | 24 => ⟨S4096x1024, .f32⟩
  | 25 => ⟨S4x1024, .f32⟩
  | 26 => ⟨S1024, .f32⟩
  | 27 => ⟨S_, .f32⟩
  | 28 => ⟨S3x1024, .f32⟩
  | 29 => ⟨S4099x1024, .f32⟩
  | 30 => ⟨S4096x1024, .f32⟩
  | 31 => ⟨S1x1024, .f32⟩
  | 32 => ⟨S1024, .f32⟩
  | 33 => ⟨S1x1024, .f32⟩
  | 34 => ⟨S4096x1024, .f32⟩
  | 35 => ⟨S4096x1024, .f32⟩
  | 36 => ⟨S4096x1024, .f32⟩
  | 37 => ⟨S1x1024, .f32⟩
  | 38 => ⟨S1024, .f32⟩
  | 39 => ⟨S1x1024, .f32⟩
  | 40 => ⟨S4096x1024, .f32⟩
  | 41 => ⟨S4096x1024, .f32⟩
  | 42 => ⟨S4096x1024, .f32⟩
  | 43 => ⟨S4096x1024, .f32⟩
  | 44 => ⟨S1x1024, .f32⟩
  | 45 => ⟨S1024, .f32⟩
  | 46 => ⟨S1x1024, .f32⟩
  | 47 => ⟨S4096x1024, .f32⟩
  | 48 => ⟨S4096x1024, .f32⟩
  | 49 => ⟨S4096x1024, .f32⟩
  | 50 => ⟨S4096x1024, .f32⟩
  | 51 => ⟨S1x1024, .f32⟩
  | 52 => ⟨S1024, .f32⟩
  | 53 => ⟨S1x1024, .f32⟩
  | 54 => ⟨S4096x1024, .f32⟩
  | 55 => ⟨S4096x1024, .f32⟩
  | 56 => ⟨S4096x1024, .f32⟩
  | 57 => ⟨S1x1024, .f32⟩
  | 58 => ⟨S4096x1024, .f32⟩
  | 59 => ⟨S4096x1024, .f32⟩
  | 60 => ⟨S8x128x128, .f32⟩
  | 61 => ⟨S1024, .f32⟩
  | 62 => ⟨S8x128x128, .f32⟩
  | 63 => ⟨S1024, .f32⟩
  | 64 => ⟨S1024, .f32⟩
  | 65 => ⟨S4096x8x128, .f32⟩
  | 66 => ⟨S4096x8x128x1, .f32⟩
  | 67 => ⟨S1x8x128x128, .f32⟩
  | 68 => ⟨S4096x8x128x128, .f32⟩
  | 69 => ⟨S4096x8x128x128, .f32⟩
  | 70 => ⟨S4096x8x128x128, .f32⟩
  | 71 => ⟨S_, .f32⟩
  | 72 => ⟨S4096x8x128, .f32⟩
  | 73 => ⟨S4096x1024, .f32⟩
  | 74 => ⟨S1x1024, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S_, .f32⟩
  | 83 => ⟨S4096x1024, .f32⟩
  | 84 => ⟨S4096x1024, .f32⟩
  | 85 => ⟨S4096x8x128x1, .f32⟩
  | 86 => ⟨S1x8x128x128, .f32⟩
  | 87 => ⟨S4096x8x128x128, .f32⟩
  | 88 => ⟨S4096x8x128x128, .f32⟩
  | 89 => ⟨S4096x8x128x128, .f32⟩
  | 90 => ⟨S_, .f32⟩
  | 91 => ⟨S4096x8x128, .f32⟩
  | 92 => ⟨S4096x1024, .f32⟩
  | 93 => ⟨S1x1024, .f32⟩
  | 94 => ⟨S4096x1024, .f32⟩
  | 95 => ⟨S4096x1024, .f32⟩
  | 96 => ⟨S4096x1024, .f32⟩
  | 97 => ⟨S4096x1024, .f32⟩
  | 98 => ⟨S_, .f32⟩
  | 99 => ⟨S4096x1024, .f32⟩
  | 100 => ⟨S4096x1024, .f32⟩
  | 101 => ⟨S_, .f32⟩
  | 102 => ⟨S4096x1024, .f32⟩
  | 103 => ⟨S4096x1024, .f32⟩
  | 104 => ⟨S_, .f32⟩
  | 105 => ⟨S4096x1024, .f32⟩
  | 106 => ⟨S4096x1024, .f32⟩
  | 107 => ⟨S1024, .f32⟩
  | 108 => ⟨S_, .f32⟩
  | 109 => ⟨S1024, .f32⟩
  | 110 => ⟨S1024, .f32⟩
  | 111 => ⟨S1024, .f32⟩
  | 112 => ⟨S1024, .f32⟩
  | 113 => ⟨S1024, .i1⟩
  | 114 => ⟨S1024, .f32⟩
  | 115 => ⟨S1024, .f32⟩
  | 116 => ⟨S1024, .f32⟩
  | 117 => ⟨S1024, .f32⟩
  | 118 => ⟨S1024, .f32⟩
  | 119 => ⟨S1024, .f32⟩
  | 120 => ⟨S1024, .f32⟩
  | 121 => ⟨S1024, .f32⟩
  | 122 => ⟨S1x1024, .f32⟩
  | 123 => ⟨S4096x1024, .f32⟩
  | 124 => ⟨S4096x1024, .f32⟩
  | 125 => ⟨S_, .f32⟩
  | 126 => ⟨S4096x1024, .f32⟩
  | 127 => ⟨S4096x1024, .f32⟩
  | _ => ⟨S4096x6152, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S4096, .i32⟩
  | 6 => ⟨S1x4096, .i32⟩
  | 7 => ⟨S4096, .i32⟩
  | 8 => ⟨S4096x1, .i32⟩
  | 9 => ⟨S4096x4096, .i32⟩
  | 10 => ⟨S4096x4096, .i32⟩
  | 11 => ⟨S4096x4096, .i1⟩
  | 12 => ⟨S_, .f32⟩
  | 13 => ⟨S_, .f32⟩
  | 14 => ⟨S4096x1024, .f32⟩
  | 15 => ⟨S4096x4096x1, .i1⟩
  | 16 => ⟨S4096x1x1024, .f32⟩
  | 17 => ⟨S1x4096x1024, .f32⟩
  | 18 => ⟨S4096x4096x1024, .f32⟩
  | 19 => ⟨S4096x4096x1024, .f32⟩
  | 20 => ⟨S4096x4096x1024, .f32⟩
  | 21 => ⟨S_, .f32⟩
  | 22 => ⟨S_, .f32⟩
  | 23 => ⟨S4096x4096x1024, .i1⟩
  | 24 => ⟨S4096x4096x1024, .f32⟩
  | 25 => ⟨S4096x4096x1024, .f32⟩
  | 26 => ⟨S4096x4096x1024, .f32⟩
  | 27 => ⟨S1x4096x1024, .f32⟩
  | 28 => ⟨S4096x4096x1024, .f32⟩
  | 29 => ⟨S4096x4096x1024, .f32⟩
  | 30 => ⟨S_, .f32⟩
  | 31 => ⟨S4096x1024, .f32⟩
  | 32 => ⟨S8x128x128, .f32⟩
  | 33 => ⟨S8x128x128, .bf16⟩
  | 34 => ⟨S8x128x128, .f32⟩
  | 35 => ⟨S8x128x128, .bf16⟩
  | 36 => ⟨S4096x1024, .bf16⟩
  | 37 => ⟨S8x128x128, .f32⟩
  | 38 => ⟨S8x128x128, .f32⟩
  | 39 => ⟨S1x1024, .f32⟩
  | 40 => ⟨S1x1024, .f32⟩
  | 41 => ⟨S1x1024, .f32⟩
  | 42 => ⟨S1x1024, .f32⟩
  | 43 => ⟨S8x1024, .f32⟩
  | _ => ⟨S4096x6152, .f32⟩

abbrev hbmTy (i : Nat) : BufTy := match i / 128 with
  | 0 => hbmTy0_0 i
  | 1 => hbmTy0_1 i
  | _ => ⟨S4096x6152, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1024, .f32⟩
  | .local _ .vmem, ⟨10, _⟩ => ⟨S256x1024, .f32⟩
  | .local _ .vmem, ⟨11, _⟩ => ⟨S256x1024, .f32⟩
  | .local _ .vmem, ⟨12, _⟩ => ⟨S8x1024, .f32⟩
  | .local _ .vmem, ⟨13, _⟩ => ⟨S8x128x128, .bf16⟩
  | .local _ .vmem, ⟨14, _⟩ => ⟨S1x1024, .f32⟩
  | .local _ .vmem, ⟨15, _⟩ => ⟨S8x128x128, .bf16⟩
  | .local _ .vmem, ⟨16, _⟩ => ⟨S1x1024, .f32⟩
  | .local _ .vmem, ⟨17, _⟩ => ⟨S1x1024, .f32⟩
  | .local _ .vmem, ⟨18, _⟩ => ⟨S256x1024, .bf16⟩
  | .local _ .vmem, ⟨19, _⟩ => ⟨S256x1024, .bf16⟩
  | .local _ .vmem, ⟨20, _⟩ => ⟨S8x128x128, .f32⟩
  | .local _ .vmem, ⟨21, _⟩ => ⟨S8x128x128, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S8x1024, .f32⟩
  | .local _ .vmem, ⟨27, _⟩ => ⟨S256x1024, .f32⟩
  | .local _ .vmem, ⟨28, _⟩ => ⟨S256x1024, .f32⟩
  | .local _ .vmem, ⟨29, _⟩ => ⟨S8x1024, .f32⟩
  | .local _ .vmem, ⟨30, _⟩ => ⟨S8x1024, .f32⟩
  | _, _ => ⟨S4096x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_call0_v0 : Ref sig .tc := ⟨.hbm, 13, rfl⟩
abbrev main_v3 : Ref sig .tc := ⟨.hbm, 14, rfl⟩
abbrev main_v4 : Ref sig .tc := ⟨.hbm, 15, rfl⟩
abbrev main_c_0 : Ref sig .tc := ⟨.hbm, 16, rfl⟩
abbrev main_call1_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_call2_v0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_2 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_3 : Ref sig .tc := ⟨.hbm, 79, rfl⟩
abbrev main_v62 : Ref sig .tc := ⟨.hbm, 80, rfl⟩
abbrev main_v63 : Ref sig .tc := ⟨.hbm, 81, rfl⟩
abbrev main_cst_4 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_5 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_6 : Ref sig .tc := ⟨.hbm, 98, rfl⟩
abbrev main_v78 : Ref sig .tc := ⟨.hbm, 99, rfl⟩
abbrev main_v79 : Ref sig .tc := ⟨.hbm, 100, rfl⟩
abbrev main_cst_7 : Ref sig .tc := ⟨.hbm, 101, rfl⟩
abbrev main_v80 : Ref sig .tc := ⟨.hbm, 102, rfl⟩
abbrev main_v81 : Ref sig .tc := ⟨.hbm, 103, rfl⟩
abbrev main_cst_8 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_call3_cst : Ref sig .tc := ⟨.hbm, 108, rfl⟩
abbrev main_call3_v0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_v9 : Ref sig .tc := ⟨.hbm, 118, rfl⟩
abbrev main_call3_v10 : Ref sig .tc := ⟨.hbm, 119, rfl⟩
abbrev main_call3_v11 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_9 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_call4_call0_cst : Ref sig .tc := ⟨.hbm, 140, rfl⟩
abbrev main_call4_call0_v0 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_10 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_11 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120_0 : Ref sig .tc := ⟨.hbm, 164, rfl⟩
abbrev main_v120_1 : Ref sig .tc := ⟨.hbm, 165, rfl⟩
abbrev main_v120_2 : Ref sig .tc := ⟨.hbm, 166, rfl⟩
abbrev main_v120_3 : Ref sig .tc := ⟨.hbm, 167, rfl⟩
abbrev main_v120_4 : Ref sig .tc := ⟨.hbm, 168, rfl⟩
abbrev main_v120_5 : Ref sig .tc := ⟨.hbm, 169, rfl⟩
abbrev main_v120_6 : Ref sig .tc := ⟨.hbm, 170, rfl⟩
abbrev main_v120_7 : Ref sig .tc := ⟨.hbm, 171, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg17_0 : Ref sig .tc := ⟨.vmem, 24, rfl⟩
abbrev cc0_stg18_0 : Ref sig .tc := ⟨.vmem, 25, rfl⟩
abbrev cc0_stg19_0 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem17_0 : DmaSem sig := 24
abbrev cc0_sem18_0 : DmaSem sig := 25
abbrev cc0_sem19_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== AttnFwd.lean ====
abbrev S4096x6152 : Shape := ⟨2, ![4096, 6152]⟩
abbrev S1x8 : Shape := ⟨2, ![1, 8]⟩
abbrev S_ : Shape := ⟨0, ![]⟩
abbrev S4096x1024 : Shape := ⟨2, ![4096, 1024]⟩
abbrev S4096x2048 : Shape := ⟨2, ![4096, 2048]⟩
abbrev S4096x3072 : Shape := ⟨2, ![4096, 3072]⟩
abbrev S4096x8 : Shape := ⟨2, ![4096, 8]⟩
abbrev S8 : Shape := ⟨1, ![8]⟩
abbrev S8x4096 : Shape := ⟨2, ![8, 4096]⟩
abbrev S8x4096x1 : Shape := ⟨3, ![8, 4096, 1]⟩
abbrev S8x4096x128 : Shape := ⟨3, ![8, 4096, 128]⟩
abbrev S4096x128 : Shape := ⟨2, ![4096, 128]⟩
abbrev S1024x256 : Shape := ⟨2, ![1024, 256]⟩
abbrev S4096x256 : Shape := ⟨2, ![4096, 256]⟩
abbrev S2x4096x128 : Shape := ⟨3, ![2, 4096, 128]⟩
abbrev S2x1024x128 : Shape := ⟨3, ![2, 1024, 128]⟩
abbrev S1024x128 : Shape := ⟨2, ![1024, 128]⟩
abbrev S2048x128 : Shape := ⟨2, ![2048, 128]⟩
abbrev S1x1024x128 : Shape := ⟨3, ![1, 1024, 128]⟩
abbrev S512x256 : Shape := ⟨2, ![512, 256]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S2048 : Shape := ⟨1, ![2048]⟩
abbrev S2048x1 : Shape := ⟨2, ![2048, 1]⟩

abbrev nBuf : Space → Nat
  | .hbm => 85
  | .vmem => 12
  | .smem => 0
  | _ => 0

abbrev bufTy : (tb : Table) → Fin (tcTables nBuf tb) → BufTy
  | .hbm, ⟨0, _⟩ => ⟨S4096x6152, .f32⟩
  | .hbm, ⟨1, _⟩ => ⟨S1x8, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x2048, .f32⟩
  | .hbm, ⟨11, _⟩ => ⟨S4096x3072, .f32⟩
  | .hbm, ⟨12, _⟩ => ⟨S4096x3072, .bf16⟩
  | .hbm, ⟨13, _⟩ => ⟨S4096x8, .f32⟩
  | .hbm, ⟨14, _⟩ => ⟨S8, .f32⟩
  | .hbm, ⟨15, _⟩ => ⟨S1x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S_, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .i1⟩
  | .hbm, ⟨25, _⟩ => ⟨S4096x8, .f32⟩
  | .hbm, ⟨26, _⟩ => ⟨S4096x8, .f32⟩
  | .hbm, ⟨27, _⟩ => ⟨S4096x8, .f32⟩
  | .hbm, ⟨28, _⟩ => ⟨S4096x8, .f32⟩
  | .hbm, ⟨29, _⟩ => ⟨S4096x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S_, .f32⟩
  | .hbm, ⟨35, _⟩ => ⟨S_, .f32⟩
  | .hbm, ⟨36, _⟩ => ⟨S4096x8, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x128, .f32⟩
  | .hbm, ⟨43, _⟩ => ⟨S4096x128, .i32⟩
  | .hbm, ⟨44, _⟩ => ⟨S8x4096x128, .bf16⟩
  | .hbm, ⟨45, _⟩ => ⟨S8x4096x128, .f32⟩
  | .hbm, ⟨46, _⟩ => ⟨S8x4096x128, .f32⟩
  | .hbm, ⟨47, _⟩ => ⟨S8x4096x128, .bf16⟩
  | .hbm, ⟨48, _⟩ => ⟨S8x4096x128, .f32⟩
  | .hbm, ⟨49, _⟩ => ⟨S8x4096x128, .f32⟩
  | .hbm, ⟨50, _⟩ => ⟨S8x4096x128, .f32⟩
  | .hbm, ⟨51, _⟩ => ⟨S8x4096x128, .bf16⟩
  | .hbm, ⟨52, _⟩ => ⟨S8x4096x128, .f32⟩
  | .hbm, ⟨53, _⟩ => ⟨S_, .i32⟩
  | .hbm, ⟨54, _⟩ => ⟨S4096x128, .i32⟩
  | .hbm, ⟨55, _⟩ => ⟨S4096x128, .i1⟩
  | .hbm, ⟨56, _⟩ => ⟨S_, .i32⟩
  | .hbm, ⟨57, _⟩ => ⟨S4096x128, .i32⟩
  | .hbm, ⟨58, _⟩ => ⟨S4096x128, .i1⟩
  | .hbm, ⟨59, _⟩ => ⟨S4096x128, .i1⟩
  | .hbm, ⟨60, _⟩ => ⟨S_, .f32⟩
  | .hbm, ⟨61, _⟩ => ⟨S_, .f32⟩
  | .hbm, ⟨62, _⟩ => ⟨S4096x128, .f32⟩
  | .hbm, ⟨63, _⟩ => ⟨S4096x128, .f32⟩
  | .hbm, ⟨64, _⟩ => ⟨S4096x128, .f32⟩
  | .hbm, ⟨65, _⟩ => ⟨S_, .i32⟩
  | .hbm, ⟨66, _⟩ => ⟨S4096x128, .i32⟩
  | .hbm, ⟨67, _⟩ => ⟨S4096x128, .i1⟩
  | .hbm, ⟨68, _⟩ => ⟨S4096x128, .f32⟩
  | .hbm, ⟨69, _⟩ => ⟨S8x4096x128, .i1⟩
  | .hbm, ⟨70, _⟩ => ⟨S8x4096x128, .f32⟩
  | .hbm, ⟨71, _⟩ => ⟨S8x4096x128, .f32⟩
  | .hbm, ⟨72, _⟩ => ⟨S_, .i32⟩
  | .hbm, ⟨73, _⟩ => ⟨S4096x128, .i32⟩
  | .hbm, ⟨74, _⟩ => ⟨S4096x128, .i1⟩
  | .hbm, ⟨75, _⟩ => ⟨S8x4096x128, .i1⟩
  | .hbm, ⟨76, _⟩ => ⟨S8x4096x128, .f32⟩
  | .hbm, ⟨77, _⟩ => ⟨S_, .i32⟩
  | .hbm, ⟨78, _⟩ => ⟨S4096x128, .i32⟩
  | .hbm, ⟨79, _⟩ => ⟨S4096x128, .i1⟩
  | .hbm, ⟨80, _⟩ => ⟨S8x4096x128, .i1⟩
  | .hbm, ⟨81, _⟩ => ⟨S8x4096x128, .f32⟩
  | .hbm, ⟨82, _⟩ => ⟨S8x4096x128, .bf16⟩
  | .hbm, ⟨83, _⟩ => ⟨S4096x1024, .f32⟩
  | .hbm, ⟨84, _⟩ => ⟨S8x4096x128, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S2x4096x128, .bf16⟩
  | .local _ .vmem, ⟨7, _⟩ => ⟨S2x4096x128, .bf16⟩
  | .local _ .vmem, ⟨8, _⟩ => ⟨S1024x256, .f32⟩
  | .local _ .vmem, ⟨9, _⟩ => ⟨S1024x256, .f32⟩
  | .local _ .vmem, ⟨10, _⟩ => ⟨S2x1024x128, .bf16⟩
  | .local _ .vmem, ⟨11, _⟩ => ⟨S2x1024x128, .bf16⟩
  | _, _ => ⟨S4096x6152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_call1_call0_cst : Ref sig .tc := ⟨.hbm, 34, rfl⟩
abbrev main_call1_call0_v0 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c : Ref sig .tc := ⟨.hbm, 53, rfl⟩
abbrev main_v32 : Ref sig .tc := ⟨.hbm, 54, rfl⟩
abbrev main_v33 : Ref sig .tc := ⟨.hbm, 55, rfl⟩
abbrev main_c_1 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_2 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_v37 : Ref sig .tc := ⟨.hbm, 64, rfl⟩
abbrev main_c_4 : Ref sig .tc := ⟨.hbm, 65, rfl⟩
abbrev main_v38 : Ref sig .tc := ⟨.hbm, 66, rfl⟩
abbrev main_v39 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v40 : Ref sig .tc := ⟨.hbm, 71, rfl⟩
abbrev main_c_5 : Ref sig .tc := ⟨.hbm, 72, rfl⟩
abbrev main_v41 : Ref sig .tc := ⟨.hbm, 73, rfl⟩
abbrev main_v42 : Ref sig .tc := ⟨.hbm, 74, rfl⟩
abbrev main_call4_v0 : Ref sig .tc := ⟨.hbm, 75, rfl⟩
abbrev main_v43 : Ref sig .tc := ⟨.hbm, 76, rfl⟩
abbrev main_c_6 : Ref sig .tc := ⟨.hbm, 77, rfl⟩
abbrev main_v44 : Ref sig .tc := ⟨.hbm, 78, rfl⟩
abbrev main_v45 : Ref sig .tc := ⟨.hbm, 79, rfl⟩
abbrev main_call5_v0 : Ref sig .tc := ⟨.hbm, 80, rfl⟩
abbrev main_v46 : Ref sig .tc := ⟨.hbm, 81, rfl⟩
abbrev main_v47 : Ref sig .tc := ⟨.hbm, 82, rfl⟩
abbrev main_v48_0 : Ref sig .tc := ⟨.hbm, 83, rfl⟩
abbrev main_v48_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

@[reducible] def k0_t1_loop (i : grid0.Coords) : Scf.Loop 32 :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_6 : BitVec 32 := 1#32
  ⟨c0_i32, v21, c1_i32_6⟩
def k0_mult1 (i : grid0.Coords) (k0_t1 : Fin (k0_t1_loop i).trips) : BitVec 32 :=
  let c0_i32 : BitVec 32 := 0#32
  let c1_i32_6 : BitVec 32 := 1#32
  let arg8 : BitVec 32 := Scf.iv c0_i32 c1_i32_6 k0_t1
  let c1024_i32_70 : BitVec 32 := 1024#32
  let v404 : BitVec 32 := Scalar.muli arg8 c1024_i32_70
  v404
def k0_off1 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c1024_i32_70 : BitVec 32 := 1024#32
  let v404 : BitVec 32 := Scalar.muli arg8 c1024_i32_70
  let v405 : BitVec 32 := v404
  let v406 : Index := Scalar.indexCast v405
  let c0_71 : Index := 0#32
  ![v406.toNat, 0]
def k0_off2 (i : grid0.Coords) (k0_t1 : Fin (k0_t1_loop i).trips) : Fin 3 → Nat :=
  let c0_72 : Index := 0#32
  let c0_i32 : BitVec 32 := 0#32
  let c1_i32_6 : BitVec 32 := 1#32
  let arg8 : BitVec 32 := Scf.iv c0_i32 c1_i32_6 k0_t1
  let c1024_i32_70 : BitVec 32 := 1024#32
  let v404 : BitVec 32 := Scalar.muli arg8 c1024_i32_70
  let v405 : BitVec 32 := v404
  let v409 : Index := Scalar.indexCast v405
  let c0_73 : Index := 0#32
  ![0, v409.toNat, 0]
def k0_off3 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c1024_i32_70 : BitVec 32 := 1024#32
  let v404 : BitVec 32 := Scalar.muli arg8 c1024_i32_70
  let v405 : BitVec 32 := v404
  let v413 : Index := Scalar.indexCast v405
  let c128_74 : Index := 128#32
  ![v413.toNat, 128]
def k0_off4 (i : grid0.Coords) (k0_t1 : Fin (k0_t1_loop i).trips) : Fin 3 → Nat :=
  let c1_75 : Index := 1#32
  let c0_i32 : BitVec 32 := 0#32
  let c1_i32_6 : BitVec 32 := 1#32
  let arg8 : BitVec 32 := Scf.iv c0_i32 c1_i32_6 k0_t1
  let c1024_i32_70 : BitVec 32 := 1024#32
  let v404 : BitVec 32 := Scalar.muli arg8 c1024_i32_70
  let v405 : BitVec 32 := v404
  let v416 : Index := Scalar.indexCast v405
  let c0_76 : Index := 0#32
  ![1, v416.toNat, 0]
@[reducible] def k0_t2_loop (i : grid0.Coords) : Scf.Loop 32 :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let v18 : BitVec 32 := Scalar.addi c0_i32 v17
  let c1_i32_7 : BitVec 32 := 1#32
  ⟨v21, v18, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_7 : BitVec 32 := 1#32
  let arg8 : BitVec 32 := Scf.iv v21 c1_i32_7 k0_t2
  let c1024_i32_70 : BitVec 32 := 1024#32
  let v404 : BitVec 32 := Scalar.muli arg8 c1024_i32_70
  v404
def k0_off5 (i : grid0.Coords) (k0_t2 : Fin (k0_t2_loop i).trips) : Fin 2 → Nat :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_7 : BitVec 32 := 1#32
  let arg8 : BitVec 32 := Scf.iv v21 c1_i32_7 k0_t2
  let c1024_i32_70 : BitVec 32 := 1024#32
  let v404 : BitVec 32 := Scalar.muli arg8 c1024_i32_70
  let v405 : BitVec 32 := v404
  let v406 : Index := Scalar.indexCast v405
  let c0_71 : Index := 0#32
  ![v406.toNat, 0]
def k0_off6 (i : grid0.Coords) (k0_t2 : Fin (k0_t2_loop i).trips) : Fin 3 → Nat :=
  let c0_72 : Index := 0#32
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_7 : BitVec 32 := 1#32
  let arg8 : BitVec 32 := Scf.iv v21 c1_i32_7 k0_t2
  let c1024_i32_70 : BitVec 32 := 1024#32
  let v404 : BitVec 32 := Scalar.muli arg8 c1024_i32_70
  let v405 : BitVec 32 := v404
  let v409 : Index := Scalar.indexCast v405
  let c0_73 : Index := 0#32
  ![0, v409.toNat, 0]
def k0_off7 (i : grid0.Coords) (k0_t2 : Fin (k0_t2_loop i).trips) : Fin 2 → Nat :=
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_7 : BitVec 32 := 1#32
  let arg8 : BitVec 32 := Scf.iv v21 c1_i32_7 k0_t2
  let c1024_i32_70 : BitVec 32 := 1024#32
  let v404 : BitVec 32 := Scalar.muli arg8 c1024_i32_70
  let v405 : BitVec 32 := v404
  let v413 : Index := Scalar.indexCast v405
  let c128_74 : Index := 128#32
  ![v413.toNat, 128]
def k0_off8 (i : grid0.Coords) (k0_t2 : Fin (k0_t2_loop i).trips) : Fin 3 → Nat :=
  let c1_75 : Index := 1#32
  let c0_i32 : BitVec 32 := 0#32
  let arg1 : BitVec 32 := BitVec.ofNat 32 (i 1).val
  let v17 : BitVec 32 := Scalar.subi arg1 c0_i32
  let c1_i32 : BitVec 32 := 1#32
  let v19 : BitVec 32 := Scalar.divsi v17 c1_i32
  let v20 : BitVec 32 := Scalar.muli v19 c1_i32
  let v21 : BitVec 32 := Scalar.addi c0_i32 v20
  let c1_i32_7 : BitVec 32 := 1#32
  let arg8 : BitVec 32 := Scf.iv v21 c1_i32_7 k0_t2
  let c1024_i32_70 : BitVec 32 := 1024#32
  let v404 : BitVec 32 := Scalar.muli arg8 c1024_i32_70
  let v405 : BitVec 32 := v404
  let v416 : Index := Scalar.indexCast v405
  let c0_76 : Index := 0#32
  ![1, v416.toNat, 0]
def k0_mult3 (i : grid0.Coords) : BitVec 32 :=
  let arg1 : BitVec 32 := BitVec.ofNat 32 (i 1).val
  let c1024_i32 : BitVec 32 := 1024#32
  let v24 : BitVec 32 := Scalar.muli arg1 c1024_i32
  v24
def k0_off9 (i : grid0.Coords) : Fin 2 → Nat :=
  let arg1 : BitVec 32 := BitVec.ofNat 32 (i 1).val
  let c1024_i32 : BitVec 32 := 1024#32
  let v24 : BitVec 32 := Scalar.muli arg1 c1024_i32
  let v25 : BitVec 32 := v24
  let v26 : Index := Scalar.indexCast v25
  let c0_8 : Index := 0#32
  ![v26.toNat, 0]
def k0_off10 (i : grid0.Coords) : Fin 3 → Nat :=
  let c0_9 : Index := 0#32
  let arg1 : BitVec 32 := BitVec.ofNat 32 (i 1).val
  let c1024_i32 : BitVec 32 := 1024#32
  let v24 : BitVec 32 := Scalar.muli arg1 c1024_i32
  let v25 : BitVec 32 := v24
  let v29 : Index := Scalar.indexCast v25
  let c0_10 : Index := 0#32
  ![0, v29.toNat, 0]
def k0_off11 (i : grid0.Coords) : Fin 2 → Nat :=
  let arg1 : BitVec 32 := BitVec.ofNat 32 (i 1).val
  let c1024_i32 : BitVec 32 := 1024#32
  let v24 : BitVec 32 := Scalar.muli arg1 c1024_i32
  let v25 : BitVec 32 := v24
  let v33 : Index := Scalar.indexCast v25
  let c128_11 : Index := 128#32
  ![v33.toNat, 128]
def k0_off12 (i : grid0.Coords) : Fin 3 → Nat :=
  let c1 : Index := 1#32
  let arg1 : BitVec 32 := BitVec.ofNat 32 (i 1).val
  let c1024_i32 : BitVec 32 := 1024#32
  let v24 : BitVec 32 := Scalar.muli arg1 c1024_i32
  let v25 : BitVec 32 := v24
  let v36 : Index := Scalar.indexCast v25
  let c0_12 : Index := 0#32
  ![1, v36.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnFwdIdeal.lean ====
variable {F : FTy → Type} [FloatOps F] [Named F]
def κ : String → Option EReal := fun
  | "log2e" => some (((Real.log 2)⁻¹ : ℝ) : EReal)
  | "mask" => some ⊥
  | _ => none
-- ==== AttnFwdRefIdeal.lean ====
abbrev S4096x6152 : Shape := ⟨2, ![4096, 6152]⟩
abbrev S1x8 : Shape := ⟨2, ![1, 8]⟩
abbrev S4096x8 : Shape := ⟨2, ![4096, 8]⟩
abbrev S8 : Shape := ⟨1, ![8]⟩
abbrev S_ : Shape := ⟨0, ![]⟩
abbrev S8x4096 : Shape := ⟨2, ![8, 4096]⟩
abbrev S4096x1024 : Shape := ⟨2, ![4096, 1024]⟩
abbrev S4096x8x128 : Shape := ⟨3, ![4096, 8, 128]⟩
abbrev S8x4096x4096 : Shape := ⟨3, ![8, 4096, 4096]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x4096x1 : Shape := ⟨3, ![8, 4096, 1]⟩
abbrev S8x128x4096 : Shape := ⟨3, ![8, 128, 4096]⟩
abbrev S8x4096x128 : Shape := ⟨3, ![8, 4096, 128]⟩
abbrev S128 : Shape := ⟨1, ![128]⟩
abbrev S1x1x128 : Shape := ⟨3, ![1, 1, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x6152, .f32⟩
  | .hbm, ⟨1, _⟩ => ⟨S1x8, .f32⟩
  | .hbm, ⟨2, _⟩ => ⟨S4096x8, .f32⟩
  | .hbm, ⟨3, _⟩ => ⟨S8, .f32⟩
  | .hbm, ⟨4, _⟩ => ⟨S1x8, .f32⟩
  | .hbm, ⟨5, _⟩ => ⟨S4096x8, .f32⟩
  | .hbm, ⟨6, _⟩ => ⟨S4096x8, .f32⟩
  | .hbm, ⟨7, _⟩ => ⟨S4096x8, .f32⟩
  | .hbm, ⟨8, _⟩ => ⟨S_, .f32⟩
  | .hbm, ⟨9, _⟩ => ⟨S4096x8, .f32⟩
  | .hbm, ⟨10, _⟩ => ⟨S4096x8, .f32⟩
  | .hbm, ⟨11, _⟩ => ⟨S4096x8, .f32⟩
  | .hbm, ⟨12, _⟩ => ⟨S4096x8, .f32⟩
  | .hbm, ⟨13, _⟩ => ⟨S4096x8, .i1⟩
  | .hbm, ⟨14, _⟩ => ⟨S4096x8, .f32⟩
  | .hbm, ⟨15, _⟩ => ⟨S4096x8, .f32⟩
  | .hbm, ⟨16, _⟩ => ⟨S4096x8, .f32⟩
  | .hbm, ⟨17, _⟩ => ⟨S4096x8, .f32⟩
  | .hbm, ⟨18, _⟩ => ⟨S4096x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S_, .f32⟩
  | .hbm, ⟨24, _⟩ => ⟨S_, .f32⟩
  | .hbm, ⟨25, _⟩ => ⟨S4096x8, .f32⟩
  | .hbm, ⟨26, _⟩ => ⟨S8x4096, .f32⟩
  | .hbm, ⟨27, _⟩ => ⟨S4096x1024, .f32⟩
  | .hbm, ⟨28, _⟩ => ⟨S4096x8x128, .f32⟩
  | .hbm, ⟨29, _⟩ => ⟨S4096x1024, .f32⟩
  | .hbm, ⟨30, _⟩ => ⟨S4096x8x128, .f32⟩
  | .hbm, ⟨31, _⟩ => ⟨S4096x1024, .f32⟩
  | .hbm, ⟨32, _⟩ => ⟨S4096x8x128, .f32⟩
  | .hbm, ⟨33, _⟩ => ⟨S8x4096x4096, .f32⟩
  | .hbm, ⟨34, _⟩ => ⟨S_, .f32⟩
  | .hbm, ⟨35, _⟩ => ⟨S_, .f32⟩
  | .hbm, ⟨36, _⟩ => ⟨S8x4096x4096, .f32⟩
  | .hbm, ⟨37, _⟩ => ⟨S8x4096x4096, .f32⟩
  | .hbm, ⟨38, _⟩ => ⟨S8x1x4096, .f32⟩
  | .hbm, ⟨39, _⟩ => ⟨S8x4096x4096, .f32⟩
  | .hbm, ⟨40, _⟩ => ⟨S8x4096x4096, .f32⟩
  | .hbm, ⟨41, _⟩ => ⟨S4096, .i32⟩
  | .hbm, ⟨42, _⟩ => ⟨S1x4096, .i32⟩
  | .hbm, ⟨43, _⟩ => ⟨S4096, .i32⟩
  | .hbm, ⟨44, _⟩ => ⟨S4096x1, .i32⟩
  | .hbm, ⟨45, _⟩ => ⟨S4096x4096, .i32⟩
  | .hbm, ⟨46, _⟩ => ⟨S4096x4096, .i32⟩
  | .hbm, ⟨47, _⟩ => ⟨S4096x4096, .i1⟩
  | .hbm, ⟨48, _⟩ => ⟨S_, .f32⟩
  | .hbm, ⟨49, _⟩ => ⟨S_, .f32⟩
  | .hbm, ⟨50, _⟩ => ⟨S8x4096x4096, .i1⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096, .f32⟩
  | .hbm, ⟨55, _⟩ => ⟨S8x4096x1, .f32⟩
  | .hbm, ⟨56, _⟩ => ⟨S8x4096x4096, .f32⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x128x4096, .f32⟩
  | .hbm, ⟨65, _⟩ => ⟨S4096x8x128, .f32⟩
  | .hbm, ⟨66, _⟩ => ⟨S4096x1024, .f32⟩
  | .hbm, ⟨67, _⟩ => ⟨S8x4096, .f32⟩
  | .hbm, ⟨68, _⟩ => ⟨S8x4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8x4096, .f32⟩
  | .hbm, ⟨73, _⟩ => ⟨S8x4096, .f32⟩
  | .hbm, ⟨74, _⟩ => ⟨S8x4096x1, .f32⟩
  | .hbm, ⟨75, _⟩ => ⟨S8x4096x128, .f32⟩
  | .hbm, ⟨76, _⟩ => ⟨S128, .i32⟩
  | .hbm, ⟨77, _⟩ => ⟨S1x1x128, .i32⟩
  | .hbm, ⟨78, _⟩ => ⟨S_, .i32⟩
  | .hbm, ⟨79, _⟩ => ⟨S1x1x128, .i32⟩
  | .hbm, ⟨80, _⟩ => ⟨S1x1x128, .i1⟩
  | .hbm, ⟨81, _⟩ => ⟨S_, .i32⟩
  | .hbm, ⟨82, _⟩ => ⟨S1x1x128, .i32⟩
  | .hbm, ⟨83, _⟩ => ⟨S1x1x128, .i1⟩
  | .hbm, ⟨84, _⟩ => ⟨S_, .f32⟩
  | .hbm, ⟨85, _⟩ => ⟨S_, .f32⟩
  | .hbm, ⟨86, _⟩ => ⟨S8x4096x128, .i1⟩
  | .hbm, ⟨87, _⟩ => ⟨S8x4096x128, .f32⟩
  | .hbm, ⟨88, _⟩ => ⟨S8x4096x128, .f32⟩
  | .hbm, ⟨89, _⟩ => ⟨S_, .f32⟩
  | .hbm, ⟨90, _⟩ => ⟨S_, .f32⟩
  | .hbm, ⟨91, _⟩ => ⟨S8x4096x128, .i1⟩
  | .hbm, ⟨92, _⟩ => ⟨S8x4096x128, .f32⟩
  | .hbm, ⟨93, _⟩ => ⟨S8x4096x128, .f32⟩
  | .hbm, ⟨94, _⟩ => ⟨S8x4096x128, .bf16⟩
  | _, _ => ⟨S4096x6152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_0 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v28 : Ref sig .tc := ⟨.hbm, 52, rfl⟩
abbrev main_cst_1 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_3 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c : Ref sig .tc := ⟨.hbm, 78, rfl⟩
abbrev main_v51 : Ref sig .tc := ⟨.hbm, 79, rfl⟩
abbrev main_v52 : Ref sig .tc := ⟨.hbm, 80, rfl⟩
abbrev main_c_4 : Ref sig .tc := ⟨.hbm, 81, rfl⟩
abbrev main_v53 : Ref sig .tc := ⟨.hbm, 82, rfl⟩
abbrev main_v54 : Ref sig .tc := ⟨.hbm, 83, rfl⟩
abbrev main_cst_5 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v55 : Ref sig .tc := ⟨.hbm, 88, rfl⟩
abbrev main_cst_6 : Ref sig .tc := ⟨.hbm, 89, rfl⟩
abbrev main_call4_v0 : Ref sig .tc := ⟨.hbm, 90, rfl⟩
abbrev main_call4_v1 : Ref sig .tc := ⟨.hbm, 91, rfl⟩
abbrev main_call4_v2 : Ref sig .tc := ⟨.hbm, 92, rfl⟩
abbrev main_v56 : Ref sig .tc := ⟨.hbm, 93, rfl⟩
abbrev main_v57 : Ref sig .tc := ⟨.hbm, 94, rfl⟩

abbrev nD : Nat := 1
abbrev τ : Topo := Topo.v7x

variable {F : FTy → Type} [FloatOps F]
-- ==== Proj.lean ====
abbrev S1x4096x1024 : Shape := ⟨3, ![1, 4096, 1024]⟩
abbrev S1x1024 : Shape := ⟨2, ![1, 1024]⟩
abbrev S1x1024x6152 : Shape := ⟨3, ![1, 1024, 6152]⟩
abbrev S4096x1024 : Shape := ⟨2, ![4096, 1024]⟩
abbrev S1024x6152 : Shape := ⟨2, ![1024, 6152]⟩
abbrev S6152x1024 : Shape := ⟨2, ![6152, 1024]⟩
abbrev S_ : Shape := ⟨0, ![]⟩
abbrev S8x128 : Shape := ⟨2, ![8, 128]⟩
abbrev S4096x3072 : Shape := ⟨2, ![4096, 3072]⟩
abbrev S512x1024 : Shape := ⟨2, ![512, 1024]⟩
abbrev S3072x1024 : Shape := ⟨2, ![3072, 1024]⟩
abbrev S512x3072 : Shape := ⟨2, ![512, 3072]⟩
abbrev S512 : Shape := ⟨1, ![512]⟩
abbrev S512x1 : Shape := ⟨2, ![512, 1]⟩
abbrev S512x2048 : Shape := ⟨2, ![512, 2048]⟩

abbrev nBuf : Space → Nat
  | .hbm => 11
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6152, .f32⟩
  | .hbm, ⟨3, _⟩ => ⟨S4096x1024, .f32⟩
  | .hbm, ⟨4, _⟩ => ⟨S1024x6152, .f32⟩
  | .hbm, ⟨5, _⟩ => ⟨S6152x1024, .f32⟩
  | .hbm, ⟨6, _⟩ => ⟨S6152x1024, .bf16⟩
  | .hbm, ⟨7, _⟩ => ⟨S_, .f32⟩
  | .hbm, ⟨8, _⟩ => ⟨S8x128, .f32⟩
  | .hbm, ⟨9, _⟩ => ⟨S4096x1024, .bf16⟩
  | .hbm, ⟨10, _⟩ => ⟨S4096x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S8x128, .f32⟩
  | .local _ .vmem, ⟨5, _⟩ => ⟨S512x1024, .bf16⟩
  | .local _ .vmem, ⟨6, _⟩ => ⟨S512x1024, .bf16⟩
  | .local _ .vmem, ⟨7, _⟩ => ⟨S512x3072, .bf16⟩
  | .local _ .vmem, ⟨8, _⟩ => ⟨S512x3072, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjIdeal.lean ====
variable {F : FTy → Type} [FloatOps F] [Named F]
def κ : String → Option EReal := fun
  | "qscale" => some (((Real.sqrt 128)⁻¹ * (Real.log 2)⁻¹ : ℝ) : EReal)
  | _ => none
-- ==== ProjRefIdeal.lean ====
abbrev S1x4096x1024 : Shape := ⟨3, ![1, 4096, 1024]⟩
abbrev S1x1024 : Shape := ⟨2, ![1, 1024]⟩
abbrev S1x1024x6152 : Shape := ⟨3, ![1, 1024, 6152]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x6152 : Shape := ⟨2, ![1024, 6152]⟩
abbrev S4096x6152 : Shape := ⟨2, ![4096, 6152]⟩
abbrev S4096x3072 : Shape := ⟨2, ![4096, 3072]⟩
abbrev S4096x2048 : Shape := ⟨2, ![4096, 2048]⟩

abbrev nBuf : Space → Nat
  | .hbm => 36
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1x1024x6152, .f32⟩
  | .hbm, ⟨3, _⟩ => ⟨S4096x1024, .f32⟩
  | .hbm, ⟨4, _⟩ => ⟨S1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S1024x6152, .f32⟩
  | .hbm, ⟨22, _⟩ => ⟨S4096x6152, .f32⟩
  | .hbm, ⟨23, _⟩ => ⟨S4096x3072, .f32⟩
  | .hbm, ⟨24, _⟩ => ⟨S4096x1024, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .bf16⟩
  | .hbm, ⟨33, _⟩ => ⟨S4096x2048, .f32⟩
  | .hbm, ⟨34, _⟩ => ⟨S4096x3072, .f32⟩
  | .hbm, ⟨35, _⟩ => ⟨S4096x3072, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Residual.lean ====
abbrev S1x4096x1024 : Shape := ⟨3, ![1, 4096, 1024]⟩
abbrev S4096x1024 : Shape := ⟨2, ![4096, 1024]⟩
abbrev S4096x6152 : Shape := ⟨2, ![4096, 6152]⟩
abbrev S1x1024 : Shape := ⟨2, ![1, 1024]⟩
abbrev S1x2048x1024 : Shape := ⟨3, ![1, 2048, 1024]⟩
abbrev S4096x3072 : Shape := ⟨2, ![4096, 3072]⟩
abbrev S4096x8 : Shape := ⟨2, ![4096, 8]⟩
abbrev S4096x8x1 : Shape := ⟨3, ![4096, 8, 1]⟩
abbrev S_ : Shape := ⟨0, ![]⟩
abbrev S4096x8x8 : Shape := ⟨3, ![4096, 8, 8]⟩
abbrev S4096x64 : Shape := ⟨2, ![4096, 64]⟩
abbrev S4096x128 : Shape := ⟨2, ![4096, 128]⟩
abbrev S4096x3200 : Shape := ⟨2, ![4096, 3200]⟩
abbrev S2048x1024 : Shape := ⟨2, ![2048, 1024]⟩
abbrev S4096x2048 : Shape := ⟨2, ![4096, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 26
  | .vmem => 22
  | .smem => 0
  | _ => 0

abbrev bufTy : (tb : Table) → Fin (tcTables nBuf tb) → BufTy
  | .hbm, ⟨0, _⟩ => ⟨S1x4096x1024, .f32⟩
  | .hbm, ⟨1, _⟩ => ⟨S4096x1024, .f32⟩
  | .hbm, ⟨2, _⟩ => ⟨S4096x1024, .f32⟩
  | .hbm, ⟨3, _⟩ => ⟨S4096x6152, .f32⟩
  | .hbm, ⟨4, _⟩ => ⟨S1x1024, .f32⟩
  | .hbm, ⟨5, _⟩ => ⟨S1x1024, .f32⟩
  | .hbm, ⟨6, _⟩ => ⟨S1x2048x1024, .f32⟩
  | .hbm, ⟨7, _⟩ => ⟨S1x1024, .f32⟩
  | .hbm, ⟨8, _⟩ => ⟨S4096x3072, .f32⟩
  | .hbm, ⟨9, _⟩ => ⟨S4096x8, .f32⟩
  | .hbm, ⟨10, _⟩ => ⟨S4096x8x1, .f32⟩
  | .hbm, ⟨11, _⟩ => ⟨S_, .i32⟩
  | .hbm, ⟨12, _⟩ => ⟨S_, .f32⟩
  | .hbm, ⟨13, _⟩ => ⟨S4096x8x8, .f32⟩
  | .hbm, ⟨14, _⟩ => ⟨S4096x64, .f32⟩
  | .hbm, ⟨15, _⟩ => ⟨S_, .i32⟩
  | .hbm, ⟨16, _⟩ => ⟨S_, .f32⟩
  | .hbm, ⟨17, _⟩ => ⟨S4096x128, .f32⟩
  | .hbm, ⟨18, _⟩ => ⟨S4096x3200, .f32⟩
  | .hbm, ⟨19, _⟩ => ⟨S4096x1024, .f32⟩
  | .hbm, ⟨20, _⟩ => ⟨S2048x1024, .f32⟩
  | .hbm, ⟨21, _⟩ => ⟨S2048x1024, .bf16⟩
  | .hbm, ⟨22, _⟩ => ⟨S4096x2048, .bf16⟩
  | .hbm, ⟨23, _⟩ => ⟨S4096x1024, .f32⟩
  | .hbm, ⟨24, _⟩ => ⟨S4096x1024, .f32⟩
  | .hbm, ⟨25, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S2048x1024, .bf16⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ResidualRefIdeal.lean ====
abbrev S1x4096x1024 : Shape := ⟨3, ![1, 4096, 1024]⟩
abbrev S4096x1024 : Shape := ⟨2, ![4096, 1024]⟩
abbrev S4096x6152 : Shape := ⟨2, ![4096, 6152]⟩
abbrev S1x1024 : Shape := ⟨2, ![1, 1024]⟩
abbrev S1x2048x1024 : Shape := ⟨3, ![1, 2048, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S2048x1024 : Shape := ⟨2, ![2048, 1024]⟩

abbrev nBuf : Space → Nat
  | .hbm => 88
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S4096x1024, .f32⟩
  | .hbm, ⟨2, _⟩ => ⟨S4096x1024, .f32⟩
  | .hbm, ⟨3, _⟩ => ⟨S4096x6152, .f32⟩
  | .hbm, ⟨4, _⟩ => ⟨S1x1024, .f32⟩
  | .hbm, ⟨5, _⟩ => ⟨S1x1024, .f32⟩
  | .hbm, ⟨6, _⟩ => ⟨S1x2048x1024, .f32⟩
  | .hbm, ⟨7, _⟩ => ⟨S1x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x2048, .f32⟩
  | .hbm, ⟨65, _⟩ => ⟨S2048x1024, .f32⟩
  | .hbm, ⟨66, _⟩ => ⟨S4096x1024, .f32⟩
  | .hbm, ⟨67, _⟩ => ⟨S4096x1024, .f32⟩
  | .hbm, ⟨68, _⟩ => ⟨S1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096x1024, .f32⟩
  | .hbm, ⟨81, _⟩ => ⟨S4096x1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x2048, .bf16⟩
  | .hbm, ⟨87, _⟩ => ⟨S4096x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_5 : Ref sig .tc := ⟨.hbm, 70, rfl⟩
abbrev main_v40 : Ref sig .tc := ⟨.hbm, 71, rfl⟩
abbrev main_v41 : Ref sig .tc := ⟨.hbm, 72, rfl⟩
abbrev main_cst_6 : Ref sig .tc := ⟨.hbm, 73, rfl⟩
abbrev main_v42 : Ref sig .tc := ⟨.hbm, 74, rfl⟩
abbrev main_v43 : Ref sig .tc := ⟨.hbm, 75, rfl⟩
abbrev main_cst_7 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩

abbrev nD : Nat := 1
abbrev τ : Topo := Topo.v7x

variable {F : FTy → Type} [FloatOps F]
-- ==== Proof.Common.lean ====
/-
  What the value proofs share: the float constants the programs spell, as the reals they denote; the operations of the
  extended reals on real arguments; and what a "every element is a real number" precondition gives.
-/
module

public import Idealize.ShloMosaic.Lib.Pointwise
public import Idealize.ShloMosaic.PureOps.Reduce
public import Idealize.ShloMosaic.PureOps.Ideal.Laws

@[expose] public section

noncomputable section

namespace Cert.Common

open Idealize.ShloMosaic
open scoped BigOperators

/-! ## Constants -/

/-- `1024.0`. -/
theorem lit_1024 : Ideal.ofBits .f32 0x44800000#32 = ((1024 : ℝ) : EReal) := by
  simp [Ideal.ofBits, Ideal.ieee, -EReal.coe_mul]; norm_num

/-- The norms' epsilon, `1e-6` as a float holds it. -/
def eps : ℝ := 8796093 / 8796093022208

theorem eps_pos : 0 < eps := by unfold eps; norm_num

theorem lit_eps : Ideal.ofBits .f32 0x358637BD#32 = (eps : EReal) := by
  unfold eps
  simp [Ideal.ofBits, Ideal.ieee, -EReal.coe_mul]; norm_num

/-- `2.0`. -/
theorem lit_2 : Ideal.ofBits .f32 0x40000000#32 = ((2 : ℝ) : EReal) := by
  simp [Ideal.ofBits, Ideal.ieee, -EReal.coe_mul]; norm_num

/-- `0.5`. -/
theorem lit_half : Ideal.ofBits .f32 0x3F000000#32 = ((1 / 2 : ℝ) : EReal) := by
  simp [Ideal.ofBits, Ideal.ieee, -EReal.coe_mul]; norm_num

/-- `-0.5`. -/
theorem lit_neg_half : Ideal.ofBits .f32 0xBF000000#32 = ((-(1 / 2) : ℝ) : EReal) := by
  simp [Ideal.ofBits, Ideal.ieee, -EReal.coe_mul, -EReal.coe_neg]; norm_num

/-- The float infinity. -/
theorem lit_inf : Ideal.ofBits .f32 0x7F800000#32 = ⊤ := by simp [Ideal.ofBits, Ideal.ieee]

/-- The bfloat16 infinity. -/
theorem lit_inf_bf16 : Ideal.ofBits .bf16 0x7F80#16 = ⊤ := by simp [Ideal.ofBits, Ideal.ieee]

/-! ## Operations on reals -/

theorem coe_sum {ι : Type} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

theorem div_coe {x y : ℝ} (hy : y ≠ 0) : Ideal.div (x : EReal) (y : EReal) = ((x / y : ℝ) : EReal) := by
  rw [Ideal.div_coe hy, ← EReal.coe_mul]; congr 1; ring

theorem rsqrt_coe {x : ℝ} (hx : 0 < x) : Ideal.rsqrt (x : EReal) = (((Real.sqrt x)⁻¹ : ℝ) : EReal) := by
  show (if x < 0 then ⊥ else if x = 0 then ⊤ else _) = _
  rw [if_neg (not_lt.mpr hx.le), if_neg hx.ne']

theorem exp_coe (x : ℝ) : Ideal.exp (x : EReal) = (Real.exp x : EReal) := rfl

theorem tanh_coe (x : ℝ) : Ideal.tanh (x : EReal) = (Real.tanh x : EReal) := rfl

/-! ## Finiteness -/

/-- A number whose absolute value is below infinity is real. -/
theorem real_of_abs_lt_top {x : EReal} (h : max x (-x) < ⊤) : ∃ r : ℝ, x = r := by
  induction x using EReal.rec with
  | bot => simp at h
  | coe r => exact ⟨r, rfl⟩
  | top => simp at h

theorem foldl_andi {ι : Type} (l : List ι) (f : ι → BitVec 1) (b : BitVec 1)
    (h : l.foldl (fun r i => IntOp.andi r (f i)) b = 1#1) : b = 1#1 ∧ ∀ i ∈ l, f i = 1#1 := by
  induction l generalizing b with
  | nil => exact ⟨h, by simp⟩
  | cons a l ih =>
    obtain ⟨h1, h2⟩ := ih _ h
    have : b = 1#1 ∧ f a = 1#1 := by
      have key : ∀ b y : BitVec 1, IntOp.andi b y = 1#1 → b = 1#1 ∧ y = 1#1 := by decide
      exact key _ _ h1
    exact ⟨this.1, fun i hi => by rcases List.mem_cons.mp hi with rfl | hi; exacts [this.2, h2 i hi]⟩

/-- A conjunction over all axes that holds, holds at every element. -/
theorem all_of_reduce {s t u : Shape} {axes : List (Fin s.rank)} (x : IVec s 1) (v : IVec u 1) (h : s.ReducesTo axes t) (hu : 0 < u.numel)
    (ht : ∀ b, t.size b = 1) (j : t.Idx) (hr : Host.reduce IntOp.andi x v h hu j = 1#1) (i : s.Idx) : x i = 1#1 := by
  rw [Host.reduce_eq_foldl] at hr
  refine (foldl_andi _ x _ hr).2 i ?_
  rw [List.mem_filter]
  refine ⟨List.mem_map.mpr ⟨s.rowMajor i, List.mem_finRange _, by simp⟩, decide_eq_true (funext fun b => Fin.ext ?_)⟩
  have := (h.drop i b).isLt; have := (j b).isLt; have := ht b; omega

theorem andi_one {a b : BitVec 1} (h : IntOp.andi a b = 1#1) : a = 1#1 ∧ b = 1#1 := by revert h; revert a b; decide

theorem cmp_olt_one {x y : EReal} (h : Ideal.cmp .olt x y = 1#1) : x < y := by
  by_contra hn
  revert h
  simp [Ideal.cmp, hn]

/-- A scalar's shape. -/
abbrev S0 : Shape := ⟨0, ![]⟩

/-- One conjunct of a finiteness precondition: every element of the array is real. -/
theorem real_of_all {s : Shape} {φ : FTy} {axes : List (Fin s.rank)} (a : FVec Ideal s φ) (b : BitVec φ.bits)
    (hb : S0.BroadcastsInDim s (![] : Fin 0 → Fin s.rank)) (h : s.ReducesTo axes S0) (hu : 0 < S0.numel) (j : S0.Idx)
    (hinf : Ideal.ofBits φ b = ⊤)
    (hr : Host.reduce IntOp.andi (cmpf .olt (Host.absf a) (broadcastInDim s ![] hb (constant S0 φ b))) (constantI S0 1 1#1) h hu j = 1#1) :
    ∀ i, ∃ r : ℝ, a i = (r : EReal) := by
  intro i
  have h1 := all_of_reduce _ _ h hu (fun b => b.elim0) j hr i
  have h2 : Ideal.cmp .olt (max (a i) (-(a i))) (Ideal.ofBits φ b) = 1#1 := h1
  rw [hinf] at h2
  exact real_of_abs_lt_top (cmp_olt_one h2)

/-- The integer zero as a float. -/
theorem sitofp_zero (φ : FTy) (w : ℕ) : (FloatOps.sitofp φ (BitVec.ofNat w 0) : Ideal φ) = 0 := by
  show ((((BitVec.ofNat w 0).toInt : ℤ) : ℝ) : EReal) = 0
  simp

/-! ## Real elements -/

/-- The extended real is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem isReal_sum {ι : Type} (s : Finset ι) (f : ι → EReal) (h : ∀ k, IsReal (f k)) : IsReal (∑ k ∈ s, f k) := by
  choose r hr using h
  exact ⟨∑ k ∈ s, r k, by rw [coe_sum]; exact Finset.sum_congr rfl fun k _ => hr k⟩

/-! ## Sums -/

/-- A sum over an axis cut in two. -/
theorem sum_cut (a b n : ℕ) (h : n = a + b) (f : Fin n → EReal) :
    ∑ k : Fin n, f k = (∑ k : Fin a, f ⟨k.val, by omega⟩) + ∑ k : Fin b, f ⟨a + k.val, by omega⟩ := by
  subst h
  rw [Fin.sum_univ_add]
  rfl

/-- A sum over 128 lanes of which every eighth of the first 64 holds a value and the others zero. -/
theorem sum_spread8 (f : Fin 128 → EReal) (g : Fin 8 → EReal) (h1 : ∀ j : Fin 8, f ⟨8 * j.val, by omega⟩ = g j)
    (h0 : ∀ l : Fin 128, ¬(l.val < 64 ∧ l.val % 8 = 0) → f l = 0) : ∑ l : Fin 128, f l = ∑ j : Fin 8, g j := by
  refine (Finset.sum_of_injOn (fun j : Fin 8 => (⟨8 * j.val, by omega⟩ : Fin 128)) ?_ (fun _ _ => Finset.mem_univ _) ?_ ?_).symm
  · intro a _ b _ hab
    have := congrArg Fin.val hab
    exact Fin.ext (by simpa using this)
  · intro l _ hl
    refine h0 l fun ⟨hlt, hm⟩ => hl ?_
    exact ⟨⟨l.val / 8, by omega⟩, by simp, Fin.ext (by show 8 * (l.val / 8) = l.val; omega)⟩
  · exact fun j _ => (h1 j).symm

end Cert.Common

end
-- ==== Proof.Prenorm.Maths.lean ====
/-
  The gradient of a norm over rows of 1024, on reals: the kernel's closed form and the one differentiation gives.
-/
module

public import proofs.«01_k».proof.Proof.Common

@[expose] public section

noncomputable section

namespace Cert.Proof.Prenorm

open Idealize.ShloMosaic Cert.Common
open scoped BigOperators

/-- The mean square of a row plus epsilon. -/
def msq {n : ℕ} (X : Fin n → ℝ) (N : ℝ) : ℝ := (∑ k, X k * X k) / N + eps

theorem msq_pos {n : ℕ} (X : Fin n → ℝ) {N : ℝ} (hN : 0 < N) : 0 < msq X N :=
  add_pos_of_nonneg_of_pos (div_nonneg (Finset.sum_nonneg fun k _ => mul_self_nonneg _) hN.le) eps_pos

/-- The reciprocal root of a real row's mean square. -/
theorem rstd_real {n : ℕ} (X : Fin n → ℝ) {N : ℝ} (hN : 0 < N) :
    Ideal.rsqrt (Ideal.div (∑ k, (X k : EReal) * (X k : EReal)) (N : EReal) + (eps : EReal))
      = (((Real.sqrt (msq X N))⁻¹ : ℝ) : EReal) := by
  simp only [← EReal.coe_mul, ← coe_sum, div_coe hN.ne', ← EReal.coe_add]
  exact rsqrt_coe (msq_pos X hN)

/-- The norm's row gradient: the cotangent times the gain less the normed row times the mean of their product, times the
    reciprocal root; and the same by the chain rule through the reciprocal root of the mean square. -/
theorem rms_dx {n : ℕ} (X G D : Fin n → ℝ) {N : ℝ} (hN : 0 < N) (dh : EReal) (d : Fin n) (r : ℝ) (hr : r = (Real.sqrt (msq X N))⁻¹) :
    dh + (r : EReal) * ((D d : EReal) * (G d : EReal)
        - (X d : EReal) * (r : EReal) * Ideal.div (∑ k, (D k : EReal) * (G k : EReal) * ((X k : EReal) * (r : EReal))) (N : EReal))
      = dh + (D d : EReal) * (G d : EReal) * (r : EReal)
        + (X d : EReal) * Ideal.div ((∑ k, (X k : EReal) * ((D k : EReal) * (G k : EReal)))
            * (((-(1 / 2) : ℝ) : EReal) * Ideal.div (r : EReal) (msq X N : EReal))) (N : EReal)
        + Ideal.div ((∑ k, (X k : EReal) * ((D k : EReal) * (G k : EReal)))
            * (((-(1 / 2) : ℝ) : EReal) * Ideal.div (r : EReal) (msq X N : EReal))) (N : EReal) * (X d : EReal) := by
  have hp := msq_pos X hN
  have hr2 : r / msq X N = r * r * r := by
    have h1 : Real.sqrt (msq X N) * Real.sqrt (msq X N) = msq X N := Real.mul_self_sqrt hp.le
    have h2 : Real.sqrt (msq X N) ≠ 0 := (Real.sqrt_pos.mpr hp).ne'
    have h3 : r * Real.sqrt (msq X N) = 1 := by rw [hr]; exact inv_mul_cancel₀ h2
    rw [div_eq_iff hp.ne']
    calc r = r * (r * Real.sqrt (msq X N)) * (r * Real.sqrt (msq X N)) := by rw [h3]; ring
      _ = r * r * r * (Real.sqrt (msq X N) * Real.sqrt (msq X N)) := by ring
      _ = r * r * r * msq X N := by rw [h1]
  simp only [← EReal.coe_mul, ← coe_sum, div_coe hN.ne', div_coe hp.ne', ← EReal.coe_sub, add_assoc, ← EReal.coe_add]
  congr 2
  rw [hr2]
  have hs : ∑ k, D k * G k * (X k * r) = r * ∑ k, X k * (D k * G k) := by
    rw [Finset.mul_sum]; exact Finset.sum_congr rfl fun k _ => by ring
  rw [hs]; field_simp; ring

end Cert.Proof.Prenorm

end
-- ==== Proof.Prenorm.Host.lean ====
/-
  The arrays the kernel's region finds, over the program's arguments.
-/
module

public import proofs.«01_k».proof.Proof.Common
public import proofs.«01_k».proof.Proof.Gen.PrenormIdeal.Frame
public import Idealize.ShloMosaic.Lib.Pipeline.ValueKit
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe
open scoped BigOperators

namespace Cert.Proof.Prenorm

open Cert.PrenormIdeal Cert.PrenormIdeal.Gen
open Idealize.ShloMosaic.Pipeline (Dat)

variable (m : (ℓ : Loc nD τ sig) → Buf (Elt Ideal) ℓ)

/-! ## The arrays the region finds, over the arguments -/

theorem v17 (c : Dev nD) (s : Fin 4096) (l : Fin 1024) :
    (V m c main_v17 : FVec Ideal S4096x1024 .f32) (ix2 s l) = (m ((c.tc : Thread nD τ).loc main_arg0) : FVec Ideal S1x4096x1024 .f32) (ix3 0 s l) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  clean_types
  pointwise

theorem v16 (c : Dev nD) (s : Fin 4096) (l : Fin 1024) :
    (V m c main_v16 : FVec Ideal S4096x1024 .f32) (ix2 s l)
      = ∑ x : Fin 3072, (if h : x.val < 1024 then (m ((c.tc : Thread nD τ).loc main_arg4) : FVec Ideal S4096x1024 .bf16) (ix2 s ⟨x.val, h⟩)
        else if h : x.val - 1024 < 1024 then (m ((c.tc : Thread nD τ).loc main_arg5) : FVec Ideal S4096x1024 .bf16) (ix2 s ⟨x.val - 1024, h⟩)
          else (m ((c.tc : Thread nD τ).loc main_arg6) : FVec Ideal S4096x1024 .bf16) (ix2 s ⟨x.val - 1024 - 1024, by omega⟩) : EReal)
        * ((m ((c.tc : Thread nD τ).loc main_arg1) : FVec Ideal S1x1024x6152 .f32) (ix3 0 l ⟨x.val, by omega⟩) : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  clean_types
  pointwise
  after_reads_simp

theorem v21 (c : Dev nD) (s : Fin 4096) (l : Fin 128) :
    (V m c main_v21 : FVec Ideal S4096x128 .bf16) (ix2 s l)
      = if h : l.val < 64 ∧ l.val % 8 = 0 then (m ((c.tc : Thread nD τ).loc main_arg10) : FVec Ideal S4096x8 .bf16) (ix2 s ⟨l.val / 8, by omega⟩) else (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  simp only [StableHlo.TRef.toBuf, StableHlo.TRef.ofBuf, cast_eq]
  clean_types
  pointwise
  split_ifs <;> first | rfl | (exfalso; omega) | exact Cert.Common.sitofp_zero _ _

theorem v11 (c : Dev nD) (s : Fin 3200) (l : Fin 1024) :
    (V m c main_v11 : FVec Ideal S3200x1024 .bf16) (ix2 s l)
      = if h : s.val < 3072 then (m ((c.tc : Thread nD τ).loc main_arg1) : FVec Ideal S1x1024x6152 .f32) (ix3 0 l ⟨3080 + s.val, by omega⟩)
        else if h : s.val - 3072 < 64 ∧ (s.val - 3072) % 8 = 0
          then (m ((c.tc : Thread nD τ).loc main_arg1) : FVec Ideal S1x1024x6152 .f32) (ix3 0 l ⟨3072 + (s.val - 3072) / 8, by omega⟩) else (0 : EReal) := by
  simp only [V, hostOps0, hostOps0_1, hostOps0_2, hostOps0_3, hostOps0_4, hostOps0_5, hostOps0_6, hostOps0_7, hostOps0_8,
    List.flatten_cons, List.flatten_nil, List.append_nil, List.cons_append, List.nil_append]
  after_reads_simp
  simp only [StableHlo.TRef.toBuf, StableHlo.TRef.ofBuf, cast_eq]
  clean_types
  pointwise
  simp only [Cert.Common.sitofp_zero]
  by_cases h1 : s.val < 3072
  · simp only [h1, dif_pos]
  · by_cases h2 : s.val - 3072 < 64
    · have h3 : (s.val - 3072) / 8 < 8 := by omega
      by_cases h4 : (s.val - 3072) % 8 = 0
      · simp only [h1, h2, h3, h4, dif_pos, dif_neg, not_false_eq_true, and_self, zero_lt_one]
      · have h5 : ¬(s.val - 3072) % 8 < 1 := by omega
        simp only [h1, h2, h4, h5, dif_pos, dif_neg, not_false_eq_true, and_false]
    · simp only [h1, h2, dif_neg, not_false_eq_true, false_and]

end Cert.Proof.Prenorm

end
-- ==== Proof.Prenorm.Sums.lean ====
/-
  Sums over the parts of the projection's columns.
-/
module

public import proofs.«01_k».proof.Proof.Common

@[expose] public section

set_option maxRecDepth 16384

noncomputable section

open Idealize.ShloMosaic Cert.Common
open scoped BigOperators

namespace Cert.Proof.Prenorm

/-- A sum over the seven parts of an axis of 6152. -/
theorem sum_parts (a4 a5 a6 a7 a8 a9 : Fin 1024 → EReal) (q : Fin 8 → EReal) (w : Fin 6152 → EReal) :
    ∑ x : Fin 6152, (if h : x.val < 1024 then a4 ⟨x.val, h⟩ else
        if h : x.val - 1024 < 1024 then a5 ⟨x.val - 1024, h⟩ else
        if h : x.val - 1024 - 1024 < 1024 then a6 ⟨x.val - 1024 - 1024, h⟩ else
        if h : x.val - 1024 - 1024 - 1024 < 8 then q ⟨x.val - 1024 - 1024 - 1024, h⟩ else
        if h : x.val - 1024 - 1024 - 1024 - 8 < 1024 then a7 ⟨x.val - 1024 - 1024 - 1024 - 8, h⟩ else
        if h : x.val - 1024 - 1024 - 1024 - 8 - 1024 < 1024 then a8 ⟨x.val - 1024 - 1024 - 1024 - 8 - 1024, h⟩ else
        a9 ⟨x.val - 1024 - 1024 - 1024 - 8 - 1024 - 1024, by omega⟩) * w x
      = ∑ k : Fin 1024, a4 k * w ⟨k.val, by omega⟩
      + (∑ k : Fin 1024, a5 k * w ⟨1024 + k.val, by omega⟩
      + (∑ k : Fin 1024, a6 k * w ⟨2048 + k.val, by omega⟩
      + (∑ k : Fin 8, q k * w ⟨3072 + k.val, by omega⟩
      + (∑ k : Fin 1024, a7 k * w ⟨3080 + k.val, by omega⟩
      + (∑ k : Fin 1024, a8 k * w ⟨4104 + k.val, by omega⟩
      + (∑ k : Fin 1024, a9 k * w ⟨5128 + k.val, by omega⟩)))))) := by
  refine ((sum_cut 1024 5128 6152 rfl _).trans
    (congrArg₂ (· + ·) (Finset.sum_congr rfl fun k _ => ?_) ((sum_cut 1024 4104 5128 rfl _).trans
    (congrArg₂ (· + ·) (Finset.sum_congr rfl fun k _ => ?_) ((sum_cut 1024 3080 4104 rfl _).trans
    (congrArg₂ (· + ·) (Finset.sum_congr rfl fun k _ => ?_) ((sum_cut 8 3072 3080 rfl _).trans
    (congrArg₂ (· + ·) (Finset.sum_congr rfl fun k _ => ?_) ((sum_cut 1024 2048 3072 rfl _).trans
    (congrArg₂ (· + ·) (Finset.sum_congr rfl fun k _ => ?_) ((sum_cut 1024 1024 2048 rfl _).trans
    (congrArg₂ (· + ·) (Finset.sum_congr rfl fun k _ => ?_) (Finset.sum_congr rfl fun k _ => ?_)))))))))))))
  · dsimp only
    split_ifs <;> first | (exfalso; omega) | exact congrArg₂ _ (congrArg a4 (Fin.ext (by dsimp only <;> omega))) (congrArg w (Fin.ext (by dsimp only <;> omega)))
  · dsimp only
    split_ifs <;> first | (exfalso; omega) | exact congrArg₂ _ (congrArg a5 (Fin.ext (by dsimp only <;> omega))) (congrArg w (Fin.ext (by dsimp only <;> omega)))
  · dsimp only
    split_ifs <;> first | (exfalso; omega) | exact congrArg₂ _ (congrArg a6 (Fin.ext (by dsimp only <;> omega))) (congrArg w (Fin.ext (by dsimp only <;> omega)))
  · dsimp only
    split_ifs <;> first | (exfalso; omega) | exact congrArg₂ _ (congrArg q (Fin.ext (by dsimp only <;> omega))) (congrArg w (Fin.ext (by dsimp only <;> omega)))
  · dsimp only
    split_ifs <;> first | (exfalso; omega) | exact congrArg₂ _ (congrArg a7 (Fin.ext (by dsimp only <;> omega))) (congrArg w (Fin.ext (by dsimp only <;> omega)))
  · dsimp only
    split_ifs <;> first | (exfalso; omega) | exact congrArg₂ _ (congrArg a8 (Fin.ext (by dsimp only <;> omega))) (congrArg w (Fin.ext (by dsimp only <;> omega)))
  · dsimp only
    split_ifs <;> first | (exfalso; omega) | exact congrArg₂ _ (congrArg a9 (Fin.ext (by dsimp only <;> omega))) (congrArg w (Fin.ext (by dsimp only <;> omega)))

/-- A sum over the three parts of an axis of 3072. -/
theorem sum_parts3 (a4 a5 a6 : Fin 1024 → EReal) (w : Fin 3072 → EReal) :
    ∑ x : Fin 3072, (if h : x.val < 1024 then a4 ⟨x.val, h⟩ else if h : x.val - 1024 < 1024 then a5 ⟨x.val - 1024, h⟩ else
        a6 ⟨x.val - 1024 - 1024, by omega⟩) * w x
      = ∑ k : Fin 1024, a4 k * w ⟨k.val, by omega⟩ + (∑ k : Fin 1024, a5 k * w ⟨1024 + k.val, by omega⟩
        + ∑ k : Fin 1024, a6 k * w ⟨2048 + k.val, by omega⟩) := by
  refine ((sum_cut 1024 2048 3072 rfl _).trans (congrArg₂ (· + ·) (Finset.sum_congr rfl fun k _ => ?_)
    ((sum_cut 1024 1024 2048 rfl _).trans (congrArg₂ (· + ·) (Finset.sum_congr rfl fun k _ => ?_) (Finset.sum_congr rfl fun k _ => ?_)))))
  · dsimp only
    split_ifs <;> first | (exfalso; omega) | exact congrArg₂ _ (congrArg a4 (Fin.ext (by dsimp only <;> omega))) (congrArg w (Fin.ext (by dsimp only <;> omega)))
  · dsimp only
    split_ifs <;> first | (exfalso; omega) | exact congrArg₂ _ (congrArg a5 (Fin.ext (by dsimp only <;> omega))) (congrArg w (Fin.ext (by dsimp only <;> omega)))
  · dsimp only
    split_ifs <;> first | (exfalso; omega) | exact congrArg₂ _ (congrArg a6 (Fin.ext (by dsimp only <;> omega))) (congrArg w (Fin.ext (by dsimp only <;> omega)))

end Cert.Proof.Prenorm

end
-- ==== Proof.Prenorm.Kernel.lean ====
/-
  The kernel's two result arrays over its windows' arrays, and those arrays over the arguments.
-/
module

public import proofs.«01_k».proof.Proof.Common
public import proofs.«01_k».proof.Proof.Gen.PrenormIdeal.Frame
public import Idealize.ShloMosaic.Lib.Pipeline.ValueKit
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe
open scoped BigOperators

namespace Cert.Proof.Prenorm

open Cert.PrenormIdeal Cert.PrenormIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![0, 0]
    ∧ win0_7.index t = ![t.val, 0] ∧ win0_8.index t = ![0, 0] ∧ win0_10.index t = ![t.val, 0] ∧ win0_11.index t = ![0, 0] :=
  (by decide +kernel : ∀ t : Fin grid0.N, _)

/-- The gradient of the normed rows at row `s`, column `d`, over the windows' arrays. -/
def dxn (A : FVec Ideal S4096x1024 .f32) (Ga Xl Gl : FVec Ideal S4096x1024 .bf16) (Fl : FVec Ideal S4096x128 .bf16)
    (W : FVec Ideal S3200x1024 .bf16) (s : Fin 4096) (d : Fin 1024) : EReal :=
  A (ix2 s d) + ∑ k : Fin 1024, Ga (ix2 s k) * W (ix2 ⟨k.val, by omega⟩ d)
    + ∑ k : Fin 1024, Xl (ix2 s k) * W (ix2 ⟨1024 + k.val, by omega⟩ d)
    + ∑ k : Fin 1024, Gl (ix2 s k) * W (ix2 ⟨2048 + k.val, by omega⟩ d)
    + ∑ k : Fin 128, Fl (ix2 s k) * W (ix2 ⟨3072 + k.val, by omega⟩ d)

/-- The reciprocal root of a row's mean square. -/
def rstd (X : FVec Ideal S4096x1024 .f32) (s : Fin 4096) : EReal :=
  Ideal.rsqrt (Ideal.div (∑ k : Fin 1024, X (ix2 s k) * X (ix2 s k)) (Ideal.ofBits .f32 0x44800000#32) + Ideal.ofBits .f32 0x358637BD#32)

/-- The gradient of the normed rows over the arrays the region finds. -/
def dxnV (c : Dev nD) (s : Fin 4096) (d : Fin 1024) : EReal :=
  dxn (V m c main_v16) (V m c main_arg7) (V m c main_arg8) (V m c main_arg9) (V m c main_v21) (V m c main_v11) s d

/-- The rows' gradient from the gradient `P` of the normed rows, the gradient `Y` through the residual, the rows `X` and the gain `G`. -/
def dxOf (P : Fin 4096 → Fin 1024 → EReal) (X Y : FVec Ideal S4096x1024 .f32) (G : FVec Ideal S1x1024 .f32) (s : Fin 4096)
    (d : Fin 1024) : EReal :=
  Y (ix2 s d) + rstd X s * (P s d * G (ix2 0 d)
    - X (ix2 s d) * rstd X s * Ideal.div (∑ k : Fin 1024, P s k * G (ix2 0 k) * (X (ix2 s k) * rstd X s)) (Ideal.ofBits .f32 0x44800000#32))

/-- The rows' gradient over the arrays the region finds. -/
def dxV (c : Dev nD) (s : Fin 4096) (d : Fin 1024) : EReal :=
  dxOf (dxnV m c) (V m c main_v17) (V m c main_arg3) (V m c main_arg2) s d

/-- The rows' gradient the kernel ends holding. -/
theorem final10 (c : Dev nD) : (dats m 0 c).arrAt 10 cfg0.N = fun i : S4096x1024.Idx => dxV m c (i 0) (i 1) := by
  refine (dats m 0 c).arrAt_eq_of_covers 10 _ (by decide +kernel) fun t hf y => ?_
  blk_simp
  rw [after0_10]
  by_cases h : t.val % 8 = 0
  · rw [outsAt0_A m c t h]
    frame_out
    idx_vars y
    pointwise [k0_pay4, k0_pay1, k0_pay2, k0_pay6, k0_pay7, k0_pay8, dxV, dxOf, dxnV, dxn, rstd]
    blk_point [iblk, V, idx t]
  · rw [outsAt0_B m c t h]
    frame_out
    idx_vars y
    pointwise [k0_pay4, k0_pay1, k0_pay2, k0_pay6, k0_pay7, k0_pay8, dxV, dxOf, dxnV, dxn, rstd]
    blk_point [iblk, V, idx t]

/-- One row's term of the gain's gradient. -/
def dgOf (P : Fin 4096 → Fin 1024 → EReal) (X : FVec Ideal S4096x1024 .f32) (s : Fin 4096) (d : Fin 1024) : EReal :=
  P s d * (X (ix2 s d) * rstd X s)

/-- Row `r` of the rows of point `t`. -/
def rowAt (t : Fin cfg0.N) (r : Fin 512) : Fin 4096 := ⟨t.val * 512 + r.val, by
  have := lt_of_lt_of_eq t.isLt (show cfg0.N = 8 from N_0); omega⟩

/-- A point's part of the gain's gradient. -/
theorem gainPart (c : Dev nD) (t : Fin cfg0.N) (acc : FVec Ideal S1x1024 .f32) (j : S1x1024.Idx) :
    k0_pay3
      (k0_pay6 (iblk m c 1 t) (iblk m c 2 t)
        (View.ld (iblk m c 6 t) (Rect.unit ![0, 0] ![1024, 1024] inb_S3200x1024_S1024x1024_0_0)) (iblk m c 3 t)
        (View.ld (iblk m c 6 t) (Rect.unit ![1024, 0] ![1024, 1024] inb_S3200x1024_S1024x1024_1024_0)) (iblk m c 4 t)
        (View.ld (iblk m c 6 t) (Rect.unit ![2048, 0] ![1024, 1024] inb_S3200x1024_S1024x1024_2048_0)) (iblk m c 5 t)
        (View.ld (iblk m c 6 t) (Rect.unit ![3072, 0] ![128, 1024] inb_S3200x1024_S128x1024_3072_0)))
      (k0_pay7 (iblk m c 0 t)) (k0_pay8 (iblk m c 0 t)) acc j
    = acc j + ∑ r : Fin 512, dgOf (dxnV m c) (V m c main_v17) (rowAt t r) (j 1) := by
  idx_vars j
  pointwise [k0_pay3, k0_pay1, k0_pay2, k0_pay6, k0_pay7, k0_pay8, dgOf, dxnV, dxn, rstd]
  blk_point [iblk, V, idx t, rowAt]

theorem gainZero (j : S1x1024.Idx) : (k0_pay5 : FVec Ideal S1x1024 .f32) j = 0 := by
  idx_vars j
  pointwise [k0_pay5]

theorem final11 (c : Dev nD) : (dats m 0 c).arrAt 11 cfg0.N = fun i : S1x1024.Idx => ∑ s : Fin 4096, dgOf (dxnV m c) (V m c main_v17) s (i 1) := by
  refine (dats m 0 c).arrAt_eq_of_after_last 11 t0_7 (by decide +kernel) _ fun j => ?_
  blk_simp
  rw [after0_11]
  rw [Pipeline.eq_sum_fin_of_reset_step_apply_last (fun n h => (outsAt0 m c n h).2) 8 (fun _ => (0 : EReal))
    (fun t j => ∑ r : Fin 512, dgOf (dxnV m c) (V m c main_v17) (rowAt t r) (j 1))
    (fun t h j => by rw [outsAt0_A m c t h]; frame_out; exact (gainPart m c t _ j).trans (congrArg (· + _) (gainZero j)))
    (fun t h j => by rw [outsAt0_B m c t h]; frame_out; exact gainPart m c t _ j) (le_of_eq N_0) t0_7 rfl j, zero_add]
  exact (Fin.sum_univ_tiles 8 512 rfl fun s : Fin 4096 => dgOf (dxnV m c) (V m c main_v17) s (j 1)).symm

end Cert.Proof.Prenorm

end
-- ==== Proof.Prenorm.Algebraic.lean ====
/-
  The kernel's arrays are the reference's.
-/
module

public import proofs.«01_k».proof.Defs
public import proofs.«01_k».proof.Proof.Prenorm.Maths
public import proofs.«01_k».proof.Proof.Prenorm.Host
public import proofs.«01_k».proof.Proof.Prenorm.Sums
public import proofs.«01_k».proof.Proof.Prenorm.Kernel
public import proofs.«01_k».proof.Proof.Gen.PrenormIdeal.Value
public import proofs.«01_k».proof.Proof.Gen.PrenormRefIdeal
public import proofs.«01_k».proof.Proof.Gen.PrenormRefIdeal.Run
public import proofs.«01_k».proof.Proof.Gen.PrenormRefIdeal.Read
public import proofs.«01_k».proof.Proof.Gen.Pre_prenorm_finite

@[expose] public section

set_option maxRecDepth 16384

noncomputable section

open Idealize.ShloMosaic Idealize.ShloMosaic.TcCoe Cert.Common
open scoped BigOperators

namespace Cert.Proof.Prenorm

open Cert.PrenormIdeal Cert.PrenormIdeal.Gen
open Cert.PrenormRefIdeal.Read

section Reference

variable (x0 : FVec Ideal S1x4096x1024 .f32) (x1 : FVec Ideal S1x1024x6152 .f32) (x2 : FVec Ideal S1x1024 .f32)
  (x3 : FVec Ideal S4096x1024 .f32) (x4 x5 x6 x7 x8 x9 : FVec Ideal S4096x1024 .bf16) (x10 : FVec Ideal S4096x8 .bf16)

/-- The gradient of the normed rows: the seven parts of the projection's gradient, each through its columns. -/
def dxnR (s : Fin 4096) (d : Fin 1024) : EReal :=
  (∑ k : Fin 1024, x4 (ix2 s k) * x1 (ix3 0 d ⟨k.val, by omega⟩) + ∑ k : Fin 1024, x5 (ix2 s k) * x1 (ix3 0 d ⟨1024 + k.val, by omega⟩)
    + ∑ k : Fin 1024, x6 (ix2 s k) * x1 (ix3 0 d ⟨2048 + k.val, by omega⟩))
  + ∑ k : Fin 1024, x7 (ix2 s k) * x1 (ix3 0 d ⟨3080 + k.val, by omega⟩) + ∑ k : Fin 1024, x8 (ix2 s k) * x1 (ix3 0 d ⟨4104 + k.val, by omega⟩)
    + ∑ k : Fin 1024, x9 (ix2 s k) * x1 (ix3 0 d ⟨5128 + k.val, by omega⟩) + ∑ k : Fin 8, x10 (ix2 s k) * x1 (ix3 0 d ⟨3072 + k.val, by omega⟩)

theorem v22 (s : Fin 4096) (d : Fin 1024) :
    (val_main_v22 (F := Ideal) x1 x4 x5 x6 x7 x8 x9 x10 : FVec Ideal S4096x1024 .f32) (ix2 s d) = dxnR x1 x4 x5 x6 x7 x8 x9 x10 s d := by
  pointwise [val_main_v22, val_main_v20, val_main_v1, val_main_v0]
  rw [sum_parts (fun k => x4 (ix2 s k)) (fun k => x5 (ix2 s k)) (fun k => x6 (ix2 s k)) (fun k => x7 (ix2 s k)) (fun k => x8 (ix2 s k))
    (fun k => x9 (ix2 s k)) (fun k => x10 (ix2 s k)) (fun k => x1 (ix3 0 d k))]
  unfold dxnR
  ac_rfl

/-- The gradient of the normed rows the kernel computes, from what its windows' arrays hold. -/
theorem dxn_eq (A : FVec Ideal S4096x1024 .f32) (Fl : FVec Ideal S4096x128 .bf16) (W : FVec Ideal S3200x1024 .bf16)
    (hA : ∀ (s : Fin 4096) (d : Fin 1024), A (ix2 s d) = ∑ x : Fin 3072, (if h : x.val < 1024 then x4 (ix2 s ⟨x.val, h⟩)
        else if h : x.val - 1024 < 1024 then x5 (ix2 s ⟨x.val - 1024, h⟩) else x6 (ix2 s ⟨x.val - 1024 - 1024, by omega⟩) : EReal)
        * x1 (ix3 0 d ⟨x.val, by omega⟩))
    (hF : ∀ (s : Fin 4096) (l : Fin 128), Fl (ix2 s l) = if h : l.val < 64 ∧ l.val % 8 = 0 then x10 (ix2 s ⟨l.val / 8, by omega⟩) else (0 : EReal))
    (hW : ∀ (s : Fin 3200) (d : Fin 1024), W (ix2 s d) = if h : s.val < 3072 then x1 (ix3 0 d ⟨3080 + s.val, by omega⟩)
        else if h : s.val - 3072 < 64 ∧ (s.val - 3072) % 8 = 0 then x1 (ix3 0 d ⟨3072 + (s.val - 3072) / 8, by omega⟩) else (0 : EReal))
    (s : Fin 4096) (d : Fin 1024) : dxn A x7 x8 x9 Fl W s d = dxnR x1 x4 x5 x6 x7 x8 x9 x10 s d := by
  have h16 := (hA s d).trans (sum_parts3 (fun k => x4 (ix2 s k)) (fun k => x5 (ix2 s k)) (fun k => x6 (ix2 s k))
    (fun k => x1 (ix3 0 d ⟨k.val, by omega⟩)))
  have hw : ∀ (n : ℕ) (h : n < 3072), W (ix2 ⟨n, by omega⟩ d) = x1 (ix3 0 d ⟨3080 + n, by omega⟩) := fun n h => by
    rw [hW]; simp only [h, dif_pos]
  have hf : (∑ l : Fin 128, Fl (ix2 s l) * W (ix2 ⟨3072 + l.val, by omega⟩ d))
      = ∑ j : Fin 8, x10 (ix2 s j) * x1 (ix3 0 d ⟨3072 + j.val, by omega⟩) := by
    refine sum_spread8 _ _ (fun j => ?_) (fun l hl => ?_)
    · have e1 : 8 * j.val < 64 ∧ 8 * j.val % 8 = 0 := by omega
      have e2 : ¬(3072 + 8 * j.val < 3072) := by omega
      have e3 : 3072 + 8 * j.val - 3072 = 8 * j.val := by omega
      have e4 : 8 * j.val / 8 = j.val := by omega
      simp only [hF, hW, e1, e2, e3, e4, dif_pos, dif_neg, not_false_eq_true, and_self, Fin.eta]
    · rw [hF, dif_neg hl, zero_mul]
  have h0 : ∀ k : Fin 1024, W (ix2 ⟨k.val, by omega⟩ d) = x1 (ix3 0 d ⟨3080 + k.val, by omega⟩) := fun k => hw _ (by omega)
  have h1 : ∀ k : Fin 1024, W (ix2 ⟨1024 + k.val, by omega⟩ d) = x1 (ix3 0 d ⟨4104 + k.val, by omega⟩) := fun k =>
    (hw _ (by omega)).trans (congrArg (fun i => x1 (ix3 0 d i)) (Fin.ext (by dsimp only <;> omega)))
  have h2 : ∀ k : Fin 1024, W (ix2 ⟨2048 + k.val, by omega⟩ d) = x1 (ix3 0 d ⟨5128 + k.val, by omega⟩) := fun k =>
    (hw _ (by omega)).trans (congrArg (fun i => x1 (ix3 0 d i)) (Fin.ext (by dsimp only <;> omega)))
  unfold dxn dxnR
  rw [h16, hf]
  simp only [h0, h1, h2]
  ac_rfl

theorem isReal_dxnR (h1 : ∀ i, IsReal (x1 i)) (h4 : ∀ i, IsReal (x4 i)) (h5 : ∀ i, IsReal (x5 i)) (h6 : ∀ i, IsReal (x6 i))
    (h7 : ∀ i, IsReal (x7 i)) (h8 : ∀ i, IsReal (x8 i)) (h9 : ∀ i, IsReal (x9 i)) (h10 : ∀ i, IsReal (x10 i)) (s : Fin 4096) (d : Fin 1024) :
    IsReal (dxnR x1 x4 x5 x6 x7 x8 x9 x10 s d) := by
  unfold dxnR
  refine ((((((IsReal.add ?_ ?_).add ?_).add ?_).add ?_).add ?_).add ?_) <;>
    exact isReal_sum _ _ fun k => (by first | exact h4 _ | exact h5 _ | exact h6 _ | exact h7 _ | exact h8 _ | exact h9 _ | exact h10 _ : IsReal _).mul (h1 _)

/-- The reciprocal root of a row's mean square, over the argument. -/
def rstdR (s : Fin 4096) : EReal :=
  Ideal.rsqrt (Ideal.div (∑ x : Fin 1024, x0 (ix3 0 s x) * x0 (ix3 0 s x)) (Ideal.ofBits .f32 0x44800000#32) + Ideal.ofBits .f32 0x358637BD#32)

/-- The reference's rows' gradient is the kernel's formula. -/
theorem ref43 (h0 : ∀ i, IsReal (x0 i)) (h1 : ∀ i, IsReal (x1 i)) (h2 : ∀ i, IsReal (x2 i)) (h4 : ∀ i, IsReal (x4 i)) (h5 : ∀ i, IsReal (x5 i))
    (h6 : ∀ i, IsReal (x6 i)) (h7 : ∀ i, IsReal (x7 i)) (h8 : ∀ i, IsReal (x8 i)) (h9 : ∀ i, IsReal (x9 i)) (h10 : ∀ i, IsReal (x10 i))
    (s : Fin 4096) (d : Fin 1024) :
    (val_main_v43 (F := Ideal) x0 x1 x2 x3 x4 x5 x6 x7 x8 x9 x10 : FVec Ideal S4096x1024 .f32) (ix2 s d)
      = x3 (ix2 s d) + rstdR x0 s * (dxnR x1 x4 x5 x6 x7 x8 x9 x10 s d * x2 (ix2 0 d)
        - x0 (ix3 0 s d) * rstdR x0 s * Ideal.div (∑ k : Fin 1024, dxnR x1 x4 x5 x6 x7 x8 x9 x10 s k * x2 (ix2 0 k) * (x0 (ix3 0 s k) * rstdR x0 s))
            (Ideal.ofBits .f32 0x44800000#32)) := by
  have e : ∀ s d, val_main_v22 (F := Ideal) x1 x4 x5 x6 x7 x8 x9 x10 (ix2 s d) = dxnR x1 x4 x5 x6 x7 x8 x9 x10 s d := v22 x1 x4 x5 x6 x7 x8 x9 x10
  pointwise [val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26, val_main_v14,
    val_main_v13, val_main_v12, val_main_v11, val_main_v10, val_main_v9, val_main_v8, val_main_v7, val_main_v6, val_main_v5, val_main_v4,
    val_main_v3, val_main_v2, val_main_v17, val_main_cst, val_main_cst_0, val_main_cst_1, val_main_cst_2, val_main_cst_5, val_main_cst_6,
    val_main_cst_7, rstdR]
  simp only [e, Finset.univ_unique, Finset.sum_singleton]
  choose X hX using h0
  choose G hG using h2
  choose P hP using isReal_dxnR x1 x4 x5 x6 x7 x8 x9 x10 h1 h4 h5 h6 h7 h8 h9 h10
  simp only [hX, hG, hP, lit_1024, lit_eps, lit_neg_half]
  have hN : (0 : ℝ) < 1024 := by norm_num
  have hm : Ideal.div (∑ x : Fin 1024, (X (ix3 0 s x) : EReal) * (X (ix3 0 s x) : EReal)) ((1024 : ℝ) : EReal) + (eps : EReal)
      = (msq (fun x => X (ix3 0 s x)) 1024 : EReal) := by
    simp only [← EReal.coe_mul, ← coe_sum, div_coe hN.ne', ← EReal.coe_add, msq]
  rw [hm, rsqrt_coe (msq_pos _ hN)]
  exact (rms_dx (fun x => X (ix3 0 s x)) (fun x => G (ix2 0 x)) (fun x => P s x) hN _ d _ rfl).symm

/-- The reference's gain gradient is the kernel's formula. -/
theorem ref44 (d : Fin 1024) :
    (val_main_v44 (F := Ideal) x0 x1 x4 x5 x6 x7 x8 x9 x10 : FVec Ideal S1x1024 .f32) (ix2 0 d)
      = ∑ s : Fin 4096, dxnR x1 x4 x5 x6 x7 x8 x9 x10 s d * (x0 (ix3 0 s d) * rstdR x0 s) := by
  have e : ∀ s d, val_main_v22 (F := Ideal) x1 x4 x5 x6 x7 x8 x9 x10 (ix2 s d) = dxnR x1 x4 x5 x6 x7 x8 x9 x10 s d := v22 x1 x4 x5 x6 x7 x8 x9 x10
  pointwise [val_main_v44, val_main_v28, val_main_v25, val_main_v24, val_main_v23, val_main_v16, val_main_v15, val_main_v11,
    val_main_v10, val_main_v9, val_main_v8, val_main_v7, val_main_v6, val_main_v5, val_main_v4, val_main_v3, val_main_v2, val_main_v17,
    val_main_cst, val_main_cst_0, val_main_cst_1, val_main_cst_3, val_main_cst_4, rstdR]
  simp only [e, Finset.univ_unique, Finset.sum_singleton]
  exact Finset.sum_congr rfl fun s _ => mul_comm _ _

end Reference

/-- The finiteness of the arguments, array by array. -/
theorem reals {m : (ℓ : Loc nD τ sig) → Buf (Elt Ideal) ℓ} (hpre : Cert.Pre_PrenormIdeal_prenorm_finite m) (c : Dev nD) :
    (∀ i, IsReal ((m ((c.tc : Thread nD τ).loc main_arg0) : FVec Ideal S1x4096x1024 .f32) i))
    ∧ (∀ i, IsReal ((m ((c.tc : Thread nD τ).loc main_arg1) : FVec Ideal S1x1024x6152 .f32) i))
    ∧ (∀ i, IsReal ((m ((c.tc : Thread nD τ).loc main_arg2) : FVec Ideal S1x1024 .f32) i))
    ∧ (∀ i, IsReal ((m ((c.tc : Thread nD τ).loc main_arg4) : FVec Ideal S4096x1024 .bf16) i))
    ∧ (∀ i, IsReal ((m ((c.tc : Thread nD τ).loc main_arg5) : FVec Ideal S4096x1024 .bf16) i))
    ∧ (∀ i, IsReal ((m ((c.tc : Thread nD τ).loc main_arg6) : FVec Ideal S4096x1024 .bf16) i))
    ∧ (∀ i, IsReal ((m ((c.tc : Thread nD τ).loc main_arg7) : FVec Ideal S4096x1024 .bf16) i))
    ∧ (∀ i, IsReal ((m ((c.tc : Thread nD τ).loc main_arg8) : FVec Ideal S4096x1024 .bf16) i))
    ∧ (∀ i, IsReal ((m ((c.tc : Thread nD τ).loc main_arg9) : FVec Ideal S4096x1024 .bf16) i))
    ∧ (∀ i, IsReal ((m ((c.tc : Thread nD τ).loc main_arg10) : FVec Ideal S4096x8 .bf16) i)) := by
  obtain ⟨h, r10⟩ := andi_one (congrFun (hpre c) ix0)
  obtain ⟨h, r9⟩ := andi_one h
  obtain ⟨h, r8⟩ := andi_one h
  obtain ⟨h, r7⟩ := andi_one h
  obtain ⟨h, r6⟩ := andi_one h
  obtain ⟨h, r5⟩ := andi_one h
  obtain ⟨h, r4⟩ := andi_one h
  obtain ⟨h, r2⟩ := andi_one h
  obtain ⟨r0, r1⟩ := andi_one h
  exact ⟨real_of_all _ _ _ _ _ _ lit_inf r0, real_of_all _ _ _ _ _ _ lit_inf r1, real_of_all _ _ _ _ _ _ lit_inf r2,
    real_of_all _ _ _ _ _ _ lit_inf_bf16 r4, real_of_all _ _ _ _ _ _ lit_inf_bf16 r5, real_of_all _ _ _ _ _ _ lit_inf_bf16 r6,
    real_of_all _ _ _ _ _ _ lit_inf_bf16 r7, real_of_all _ _ _ _ _ _ lit_inf_bf16 r8, real_of_all _ _ _ _ _ _ lit_inf_bf16 r9,
    real_of_all _ _ _ _ _ _ lit_inf_bf16 r10⟩

/-- The norm's reciprocal root over the argument. -/
theorem rstd_eq (X : FVec Ideal S4096x1024 .f32) (x0 : FVec Ideal S1x4096x1024 .f32)
    (h : ∀ (s : Fin 4096) (l : Fin 1024), X (ix2 s l) = x0 (ix3 0 s l)) (s : Fin 4096) : rstd X s = rstdR x0 s := by
  unfold rstd rstdR
  simp only [h]

/-- The rows' gradient over the argument. -/
theorem dxOf_eq (P : Fin 4096 → Fin 1024 → EReal) (X Y : FVec Ideal S4096x1024 .f32) (G : FVec Ideal S1x1024 .f32)
    (x0 : FVec Ideal S1x4096x1024 .f32) (h : ∀ (s : Fin 4096) (l : Fin 1024), X (ix2 s l) = x0 (ix3 0 s l)) (s : Fin 4096) (d : Fin 1024) :
    dxOf P X Y G s d = Y (ix2 s d) + rstdR x0 s * (P s d * G (ix2 0 d)
        - x0 (ix3 0 s d) * rstdR x0 s * Ideal.div (∑ k : Fin 1024, P s k * G (ix2 0 k) * (x0 (ix3 0 s k) * rstdR x0 s))
            (Ideal.ofBits .f32 0x44800000#32)) := by
  unfold dxOf
  simp only [h, rstd_eq X x0 h]

theorem algebraic : Cert.algebraic_PrenormIdeal_PrenormRefIdeal_pre_prenorm_finite := by
  intro m g m' g' hpre hagree
  refine ⟨_, _, Cert.PrenormIdeal.Value.run_blocks m g, ?_⟩
  refine (θ_run _ _ _).mono (fun r h c => ?_) (Cert.PrenormRefIdeal.Value.run m' g')
  obtain ⟨e0, e1, e2, e3, e4, e5, e6, e7, e8, e9, e10⟩ := hagree c
  obtain ⟨r0, r1, r2, r4, r5, r6, r7, r8, r9, r10⟩ := reals hpre c
  have hd : dxnV m c = dxnR (m ((c.tc : Thread nD τ).loc main_arg1)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) := by
    funext s d
    unfold dxnV
    rw [V_main_arg7, V_main_arg8, V_main_arg9]
    exact dxn_eq _ _ _ _ _ _ _ _ _ _ _ (v16 m c) (v21 m c) (v11 m c) s d
  have hr := rstd_eq _ _ (v17 m c)
  refine ⟨(h c).1.trans ?_, (h c).2.1.trans ?_, (h c).2.2⟩
  · rw [val_main_v43_eq, e0, e1, e2, e3, e4, e5, e6, e7, e8, e9, e10]
    refine Eq.trans ?_ (final10 m c).symm
    funext y
    idx_vars y
    refine (ref43 _ _ _ _ _ _ _ _ _ _ _ r0 r1 r2 r4 r5 r6 r7 r8 r9 r10 _ _).trans ?_
    show _ = dxV m c _ _
    unfold dxV
    rw [hd, V_main_arg3, V_main_arg2]
    exact (dxOf_eq _ _ _ _ _ (v17 m c) _ _).symm
  · refine (val_main_v44_eq _ _ _ _ _ _ _ _ _).trans ?_
    rw [e0, e1, e4, e5, e6, e7, e8, e9, e10]
    refine Eq.trans ?_ (final11 m c).symm
    funext y
    idx_vars y
    refine (congrArg _ (congrArg (fun i : Fin 1 => (ix2 i _ : S1x1024.Idx)) (Subsingleton.elim _ (0 : Fin 1)))).trans ?_
    refine (ref44 _ _ _ _ _ _ _ _ _ _).trans ?_
    show _ = ∑ s : Fin 4096, dgOf (dxnV m c) (V m c main_v17) s _
    unfold dgOf
    rw [hd]
    exact Finset.sum_congr rfl fun s _ => congrArg₂ (· * ·) rfl (congrArg₂ (· * ·) (v17 m c s _).symm (hr s).symm)

end Cert.Proof.Prenorm

end
-- ==== Proof.Forget.Sums.lean ====
/-
  Running sums from the end of an axis: by doubling, in tiles, and as the host writes them.
-/
module

public import proofs.«01_k».proof.Proof.Common
public import Idealize.ShloMosaic.Lib.Routing.OpsOne

@[expose] public section

noncomputable section

open Idealize.ShloMosaic Idealize.ShloMosaic.Routing
open scoped BigOperators

namespace Cert.Proof.Forget

/-- `f` from `r` on, zero past the end. -/
def at0 {N : ℕ} (f : Fin N → EReal) (r : ℕ) : EReal := if h : r < N then f ⟨r, h⟩ else 0

/-- The sum of `n` entries from `r` on. -/
def win {N : ℕ} (f : Fin N → EReal) (n r : ℕ) : EReal := ∑ i ∈ Finset.range n, at0 f (r + i)

theorem win_one {N : ℕ} (f : Fin N → EReal) (r : Fin N) : win f 1 r.val = f r := by
  rw [win, Finset.sum_range_one, at0, dif_pos (by omega)]
  rfl

/-- Twice as many entries: the first half, and the second half where it starts before the end. -/
theorem win_double {N : ℕ} (f : Fin N → EReal) (n r : ℕ) :
    win f (n + n) r = if r + n < N then win f n r + win f n (r + n) else win f n r := by
  have e : win f (n + n) r = win f n r + win f n (r + n) := by
    rw [win, Finset.sum_range_add]
    simp only [win, Nat.add_assoc]
  split
  · exact e
  · rw [e, show win f n (r + n) = 0 from Finset.sum_eq_zero fun i _ => by rw [at0, dif_neg (by omega)], add_zero]

/-- All the entries from `r` on. -/
def rest {N : ℕ} (f : Fin N → EReal) (r : ℕ) : EReal := ∑ k : Fin N, if r ≤ k.val then f k else 0

theorem range_split (g : ℕ → EReal) {N : ℕ} (a b : ℕ) (h : N = a + b) :
    ∑ i ∈ Finset.range N, g i = ∑ i ∈ Finset.range a, g i + ∑ i ∈ Finset.range b, g (a + i) := by
  subst h
  exact Finset.sum_range_add g a b

theorem win_cut {N : ℕ} (f : Fin N → EReal) (r : ℕ) (hr : r ≤ N) : win f N r = ∑ i ∈ Finset.range (N - r), at0 f (r + i) := by
  rw [win, range_split _ (N - r) r (by omega), Finset.sum_eq_zero (s := Finset.range r), add_zero]
  intro i _
  rw [at0, dif_neg (by omega)]

theorem win_all {N : ℕ} (f : Fin N → EReal) (r : ℕ) (hr : r ≤ N) : win f N r = rest f r := by
  have e : rest f r = ∑ k ∈ Finset.range N, if r ≤ k then at0 f k else 0 := by
    rw [rest, ← Fin.sum_univ_eq_sum_range (fun k => if r ≤ k then at0 f k else 0) N]
    exact Finset.sum_congr rfl fun k _ => by rw [at0, dif_pos k.isLt]
  rw [e, win_cut f r hr, range_split (fun k => if r ≤ k then at0 f k else 0) r (N - r) (by omega), Finset.sum_eq_zero (s := Finset.range r), zero_add]
  · exact Finset.sum_congr rfl fun i _ => (if_pos (by omega)).symm
  · intro k hk
    exact if_neg (by have := Finset.mem_range.mp hk; omega)

/-- A left fold of additions is the sum. -/
theorem foldl_add {α : Type} (l : List α) (g : α → EReal) : ∀ b : EReal, l.foldl (fun r n => r + g n) b = b + (l.map g).sum := by
  induction l with
  | nil => intro b; simp
  | cons a l ih => intro b; rw [List.foldl_cons, ih, List.map_cons, List.sum_cons, add_assoc]

/-- The host's running sum from the end of the rows: a window of the whole height, padded high by one less. -/
theorem host_rest {R Rm1 C : ℕ} (hR : Rm1 + 1 = R) (x : FVec Ideal (shape2 R C) .f32) (init : FVec Ideal shape0 .f32) (hinit : init ix0 = 0)
    (h : (shape2 R C).ReduceWindows (![R, 1] : Fin 2 → ℕ) ![1, 1] ![0, 0] ![Rm1, 0] (shape2 R C)) (hu : 0 < shape0.numel) (j : Fin R) (c : Fin C) :
    Host.reduceWindowAdd ![R, 1] ![1, 1] ![0, 0] ![Rm1, 0] x init h hu (ix2 j c) = rest (fun k => x (ix2 k c)) j.val := by
  subst hR
  have hv : init (Shape.Idx.first hu) = (0 : EReal) := (congrArg init (funext fun a => a.elim0)).trans hinit
  have hj := j.isLt
  have hc := c.isLt
  rw [← win_all _ _ (le_of_lt hj)]
  show Host.reduceWindow (· + ·) ![Rm1 + 1, 1] ![1, 1] ![0, 0] ![Rm1, 0] x (fun _ : (⟨0, ![]⟩ : Shape).Idx => init (Shape.Idx.first hu)) h (by decide) (ix2 j c) = _
  rw [hv]
  unfold Host.reduceWindow
  refine (foldl_add _ _ _).trans ?_
  rw [zero_add, win]
  refine Eq.trans (congrArg List.sum (List.map_congr_left (g := fun n => at0 (fun k => x (ix2 k c)) (j.val + n.val)) fun n _ => ?_)) ?_
  · have hw0 : ((shape2 (Rm1 + 1) 1).rowMajor.symm n 0).val = n.val := by rw [symm_col]; rfl
    have hw1 : ((shape2 (Rm1 + 1) 1).rowMajor.symm n 1).val = 0 := by rw [symm_col]; rfl
    rw [at0]
    split
    · next hin =>
      have h0 := (hin 0).2
      change j.val * 1 + ((shape2 (Rm1 + 1) 1).rowMajor.symm n 0).val - 0 < Rm1 + 1 at h0
      rw [hw0] at h0
      rw [dif_pos (by omega)]
      refine congrArg x (funext fun a => Fin.ext ?_)
      match a with
      | ⟨0, _⟩ =>
        show j.val * 1 + ((shape2 (Rm1 + 1) 1).rowMajor.symm n 0).val - 0 = j.val + n.val
        rw [hw0]; omega
      | ⟨1, _⟩ =>
        show c.val * 1 + ((shape2 (Rm1 + 1) 1).rowMajor.symm n 1).val - 0 = c.val
        rw [hw1]; omega
    · next hin =>
      rw [dif_neg fun hlt => hin fun a => by
        match a with
        | ⟨0, _⟩ =>
          show 0 ≤ j.val * 1 + ((shape2 (Rm1 + 1) 1).rowMajor.symm n 0).val
            ∧ j.val * 1 + ((shape2 (Rm1 + 1) 1).rowMajor.symm n 0).val - 0 < Rm1 + 1
          rw [hw0]
          omega
        | ⟨1, _⟩ =>
          show 0 ≤ c.val * 1 + ((shape2 (Rm1 + 1) 1).rowMajor.symm n 1).val ∧ c.val * 1 + ((shape2 (Rm1 + 1) 1).rowMajor.symm n 1).val - 0 < C
          rw [hw1]
          omega]
  · rw [← List.ofFn_eq_map, List.sum_ofFn, Fin.sum_univ_eq_sum_range (fun n => at0 (fun k => x (ix2 k c)) (j.val + n)), numel_col]

/-- The sum from a row of one tile on: the rest of the tile, and the tiles after it. -/
theorem rest_tile {n T : ℕ} (f : Fin (n * T) → EReal) (b : ℕ) (hb : b < n) (r : ℕ) (hr : r < T) :
    rest f (b * T + r) = rest (fun k : Fin T => f ⟨b * T + k.val, by
      have := k.isLt
      calc b * T + k.val < b * T + T := by omega
        _ = (b + 1) * T := by rw [Nat.add_mul, Nat.one_mul]
        _ ≤ n * T := Nat.mul_le_mul_right T hb⟩) r + rest f ((b + 1) * T) := by
  have hle : (b + 1) * T ≤ n * T := Nat.mul_le_mul_right T hb
  have hs : (b + 1) * T = b * T + T := by rw [Nat.add_mul, Nat.one_mul]
  rw [← win_all _ _ (by omega), ← win_all _ _ (by omega), ← win_all _ _ (by omega)]
  rw [win_cut _ _ (by omega), win_cut _ _ (by omega), win_cut _ _ (by omega), range_split _ (T - r) (n * T - (b + 1) * T) (by omega)]
  refine congrArg₂ (· + ·) (Finset.sum_congr rfl fun i hi => ?_) (Finset.sum_congr rfl fun i hi => congrArg _ (by omega))
  have := Finset.mem_range.mp hi
  rw [at0, at0, dif_pos (by omega), dif_pos (by omega)]
  exact congrArg f (Fin.ext (by simp only []; omega))

end Cert.Proof.Forget

end
-- ==== Proof.Forget.Doubling.lean ====
/-
  The kernel's running sum of a block's rows from the end: ten doubling steps.
-/
module

public import proofs.«01_k».proof.Proof.Forget.Sums
public import proofs.«01_k».proof.Proof.Gen.ForgetIdeal.Skeleton
public import Idealize.ShloMosaic.Lib.Pipeline.ValueKit

@[expose] public section

set_option maxRecDepth 16384

noncomputable section

open Idealize.ShloMosaic Idealize.ShloMosaic.TcCoe
open scoped BigOperators

namespace Cert.Proof.Forget

open Cert.ForgetIdeal Cert.ForgetIdeal.Gen

/-- One step: to each row of the first `n`, the row `1024 - n` below it is added. -/
def up (n : BitVec 32) (v : FVec Ideal S1024x128 .f32) : FVec Ideal S1024x128 .f32 :=
  select (broadcastTo S1024x128 (shapeCast S1024x1 (cmpi .slt (iota .tc S1024x1 32 [0] iota_S1024x1_d0_w32) (broadcast S1024x1 n))
    shapeCasts_S1024x1_S1024x1) broadcasts_S1024x1_S1024x128) (addf v (dynamicRotate 0 n none v rotates_S1024x128_d0)) v

theorem up_read (n : BitVec 32) (hn : n.toNat < 1024) (h0 : 0 < n.toNat) (v : FVec Ideal S1024x128 .f32) (r : Fin 1024) (l : Fin 128) :
    up n v (ix2 r l) = if h : r.val + (1024 - n.toNat) < 1024 then v (ix2 r l) + v (ix2 ⟨r.val + (1024 - n.toNat), h⟩ l) else v (ix2 r l) := by
  have hr := r.isLt
  unfold up
  pointwise []
  have c : (BitVec.ofNat 32 r.val).slt n = decide (r.val < n.toNat) := by
    rw [BitVec.slt_eq_decide, BitVec.toInt_eq_toNat_of_lt (by rw [BitVec.toNat_ofNat]; omega), BitVec.toInt_eq_toNat_of_lt (by omega), BitVec.toNat_ofNat,
      Nat.mod_eq_of_lt (by omega)]
    exact decide_eq_decide.mpr Int.ofNat_lt
  simp only [Scalar.select, IntOp.cmpi, c]
  by_cases h : r.val < n.toNat
  · rw [dif_pos (by omega), if_pos (by simp [h])]
    exact congrArg (fun k => v (ix2 r l) + v (ix2 k l)) (Fin.ext (by simp only []; omega))
  · rw [dif_neg (by omega), if_neg (by simp [h])]

/-- A step doubles the number of rows that each row's sum takes. -/
theorem up_win (n : BitVec 32) (d : ℕ) (hn : n.toNat + d = 1024) (h0 : 0 < n.toNat) (hd : 0 < d) (f : Fin 1024 → EReal) (l : Fin 128)
    (v : FVec Ideal S1024x128 .f32) (hv : ∀ r : Fin 1024, v (ix2 r l) = win f d r.val) (r : Fin 1024) :
    up n v (ix2 r l) = win f (d + d) r.val := by
  rw [up_read n (by omega) h0, win_double, hv r]
  by_cases h : r.val + d < 1024
  · rw [dif_pos (by omega), if_pos h, hv]
    exact congrArg (fun k => win f d r.val + win f d k) (by simp only []; omega)
  · rw [dif_neg (by omega), if_neg h]

/-- The ten steps. -/
def tail (v : FVec Ideal S1024x128 .f32) : FVec Ideal S1024x128 .f32 :=
  up 512#32 (up 768#32 (up 896#32 (up 960#32 (up 992#32 (up 1008#32 (up 1016#32 (up 1020#32 (up 1022#32 (up 1023#32 v)))))))))

theorem tail_read (v : FVec Ideal S1024x128 .f32) (r : Fin 1024) (l : Fin 128) : tail v (ix2 r l) = rest (fun k : Fin 1024 => v (ix2 k l)) r.val := by
  rw [← win_all _ _ (le_of_lt r.isLt)]
  have s0 : ∀ r : Fin 1024, v (ix2 r l) = win (fun k : Fin 1024 => v (ix2 k l)) 1 r.val := fun r => (win_one (fun k : Fin 1024 => v (ix2 k l)) r).symm
  have s1 := up_win 1023#32 1 rfl (by decide) (by decide) _ l _ s0
  have s2 := up_win 1022#32 2 rfl (by decide) (by decide) _ l _ s1
  have s3 := up_win 1020#32 4 rfl (by decide) (by decide) _ l _ s2
  have s4 := up_win 1016#32 8 rfl (by decide) (by decide) _ l _ s3
  have s5 := up_win 1008#32 16 rfl (by decide) (by decide) _ l _ s4
  have s6 := up_win 992#32 32 rfl (by decide) (by decide) _ l _ s5
  have s7 := up_win 960#32 64 rfl (by decide) (by decide) _ l _ s6
  have s8 := up_win 896#32 128 rfl (by decide) (by decide) _ l _ s7
  have s9 := up_win 768#32 256 rfl (by decide) (by decide) _ l _ s8
  exact up_win 512#32 512 rfl (by decide) (by decide) _ l _ s9 r

/-- A head's sums over the lanes of `x`, at lane `n` alone. -/
def lane (n : BitVec 32) (x : FVec Ideal S1x1024x128 .f32) : FVec Ideal S1024x128 .f32 :=
  select (cmpi .eq (iota .tc S1024x128 32 [1] iota_S1024x128_d1_w32) (broadcast S1024x128 n))
    (broadcastTo S1024x128 (shapeCast S1024x1 (shapeCast S1024x1 (multiReduction .add [1] S1024
      (shapeCast S1024x128 x shapeCasts_S1x1024x128_S1024x128) 0x00000000#32 reduces_S1024x128_S1024 (.inl rfl) rfl)
      shapeCasts_S1024_S1024x1) shapeCasts_S1024x1_S1024x1) broadcasts_S1024x1_S1024x128)
    (broadcast S1024x128 (Scalar.ofBits .f32 0x00000000#32))

theorem lane_read (n : ℕ) (hn : n < 128) (x : FVec Ideal S1x1024x128 .f32) (r : Fin 1024) (l : Fin 128) :
    lane (BitVec.ofNat 32 n) x (ix2 r l) = if l.val = n then ∑ k : Fin 128, x (ix3 0 r k) else 0 := by
  have hl := l.isLt
  unfold lane
  pointwise []
  simp only [Scalar.select, IntOp.cmpi]
  by_cases h : l.val = n
  · rw [if_pos h, h]
    exact if_pos (by simp)
  · rw [if_neg h]
    refine if_neg fun e => h ?_
    have e' : BitVec.ofNat 32 l.val = BitVec.ofNat 32 n := by
      by_contra hne
      rw [beq_eq_false_iff_ne.mpr hne] at e
      exact absurd e (by decide)
    have := congrArg BitVec.toNat e'
    rwa [BitVec.toNat_ofNat, BitVec.toNat_ofNat, Nat.mod_eq_of_lt (by omega), Nat.mod_eq_of_lt (by omega)] at this

/-- The block's cotangent of the running sums, over the two staged blocks. -/
def dc (x : FVec Ideal S1x64x1024 .f32) (a0 a1 a2 a3 a4 a5 a6 a7 : FVec Ideal S1x1024x128 .f32) : FVec Ideal S1024x128 .f32 :=
  addf (addf (addf (addf (addf (addf (addf (addf (subf (broadcast S1024x128 (Scalar.ofBits .f32 0x00000000#32))
    (transpose S1024x128 [1, 0] (concatenate S128x1024 0 [⟨S64x1024, shapeCast S64x1024 x shapeCasts_S1x64x1024_S64x1024⟩,
      ⟨S64x1024, broadcast S64x1024 (Scalar.ofBits .f32 0x00000000#32)⟩] concatenates_S64x1024_S64x1024_S128x1024_d0) transposes_S128x1024_p1_0_S1024x128))
    (lane 0#32 a0)) (lane 8#32 a1)) (lane 16#32 a2)) (lane 24#32 a3)) (lane 32#32 a4)) (lane 40#32 a5)) (lane 48#32 a6)) (lane 56#32 a7)

theorem dc_read (x : FVec Ideal S1x64x1024 .f32) (a : Fin 8 → FVec Ideal S1x1024x128 .f32) (r : Fin 1024) (l : Fin 128) :
    dc x (a 0) (a 1) (a 2) (a 3) (a 4) (a 5) (a 6) (a 7) (ix2 r l)
      = (if l.val % 8 = 0 then (if h : l.val / 8 < 8 then ∑ k : Fin 128, a ⟨l.val / 8, h⟩ (ix3 0 r k) else 0) else 0)
        - (if h : l.val < 64 then x (ix3 0 ⟨l.val, h⟩ r) else 0) := by
  unfold dc
  have e := fun n hn x => lane_read n hn x r l
  generalize e0 : lane 0#32 (a 0) = b0
  generalize e1 : lane 8#32 (a 1) = b1
  generalize e2 : lane 16#32 (a 2) = b2
  generalize e3 : lane 24#32 (a 3) = b3
  generalize e4 : lane 32#32 (a 4) = b4
  generalize e5 : lane 40#32 (a 5) = b5
  generalize e6 : lane 48#32 (a 6) = b6
  generalize e7 : lane 56#32 (a 7) = b7
  pointwise []
  subst e0 e1 e2 e3 e4 e5 e6 e7
  rw [e 0 (by decide), e 8 (by decide), e 16 (by decide), e 24 (by decide), e 32 (by decide), e 40 (by decide), e 48 (by decide), e 56 (by decide)]
  generalize (if h : l.val < 64 then x (ix3 0 ⟨l.val, h⟩ r) else 0) = w
  have hl := l.isLt
  by_cases h : l.val % 8 = 0
  · rw [if_pos h]
    by_cases h8 : l.val / 8 < 8
    · rw [dif_pos h8]
      obtain ⟨k, hk⟩ : ∃ k : Fin 8, k = ⟨l.val / 8, h8⟩ := ⟨_, rfl⟩
      have hk' : l.val = 8 * k.val := by rw [hk]; simp only []; omega
      rw [← hk, hk']
      fin_cases k <;> simp [sub_eq_add_neg, add_comm]
    · rw [dif_neg h8]
      simp only [show ∀ n < 64, (l.val = n) = False from fun n hn => eq_false (by omega), Nat.reduceLT, if_false, add_zero]
  · rw [if_neg h]
    have ne : ∀ n, n % 8 = 0 → (l.val = n) = False := fun n hn => eq_false (by omega)
    simp only [ne 0 rfl, ne 8 rfl, ne 16 rfl, ne 24 rfl, ne 32 rfl, ne 40 rfl, ne 48 rfl, ne 56 rfl, if_false, add_zero]

/-- A block's running sums: its rows' sums to the end of the block, and the row carried in. -/
def sumsOf (x : FVec Ideal S1x64x1024 .f32) (a0 a1 a2 a3 a4 a5 a6 a7 : FVec Ideal S1x1024x128 .f32) (z : FVec Ideal S1x128 .f32) : FVec Ideal S1024x128 .f32 :=
  shapeCast S1024x128 (addf (tail (dc x a0 a1 a2 a3 a4 a5 a6 a7)) (broadcastTo S1024x128 z broadcasts_S1x128_S1024x128)) shapeCasts_S1024x128_S1024x128

/-- What the block's running sums are over the read values, with the sums carried in. -/
theorem sums_eq (x : FVec Ideal S1x64x1024 .f32) (a0 a1 a2 a3 a4 a5 a6 a7 : FVec Ideal S1x1024x128 .f32) (z : FVec Ideal S1x128 .f32) :
    k0_pay15 (iota .tc S1024x1 32 [0] iota_S1024x1_d0_w32)
      (k0_pay13 (iota .tc S1024x1 32 [0] iota_S1024x1_d0_w32)
        (k0_pay10 (iota .tc S1024x128 32 [1] iota_S1024x128_d1_w32) (k0_pay6 (iota .tc S1024x128 32 [1] iota_S1024x128_d1_w32) (k0_pay4 x a0 a1) k0_pay5 a2 a3 a4)
          (k0_pay7 (iota .tc S1024x128 32 [1] iota_S1024x128_d1_w32)) (k0_pay8 a5) k0_pay9 a6 a7) k0_pay11
        (k0_pay12 (iota .tc S1024x128 32 [1] iota_S1024x128_d1_w32) (k0_pay6 (iota .tc S1024x128 32 [1] iota_S1024x128_d1_w32) (k0_pay4 x a0 a1) k0_pay5 a2 a3 a4)
          (k0_pay7 (iota .tc S1024x128 32 [1] iota_S1024x128_d1_w32)) (k0_pay8 a5) k0_pay9 a6 a7)) k0_pay14 z
    = sumsOf x a0 a1 a2 a3 a4 a5 a6 a7 z := rfl

/-- A block's cotangent of the running sums at row `r`, lane `l`, over the key sums `x` and the heads' query sums `a`. -/
def dcBlk (x : FVec Ideal S1x64x1024 .f32) (a : Fin 8 → FVec Ideal S1x1024x128 .f32) (r : Fin 1024) (l : Fin 128) : EReal :=
  (if l.val % 8 = 0 then (if h : l.val / 8 < 8 then ∑ k : Fin 128, a ⟨l.val / 8, h⟩ (ix3 0 r k) else 0) else 0)
    - (if h : l.val < 64 then x (ix3 0 ⟨l.val, h⟩ r) else 0)

theorem sums_read (x : FVec Ideal S1x64x1024 .f32) (a : Fin 8 → FVec Ideal S1x1024x128 .f32) (z : FVec Ideal S1x128 .f32) (r : Fin 1024) (l : Fin 128) :
    sumsOf x (a 0) (a 1) (a 2) (a 3) (a 4) (a 5) (a 6) (a 7) z (ix2 r l) = rest (fun k => dcBlk x a k l) r.val + z (ix2 0 l) := by
  unfold sumsOf
  have e := tail_read (dc x (a 0) (a 1) (a 2) (a 3) (a 4) (a 5) (a 6) (a 7)) r l
  generalize tail (dc x (a 0) (a 1) (a 2) (a 3) (a 4) (a 5) (a 6) (a 7)) = w at e ⊢
  pointwise []
  rw [e]
  exact congrArg (fun f => rest f r.val + z (ix2 0 l)) (funext fun k => dc_read x a k l)

end Cert.Proof.Forget

end
-- ==== Proof.Forget.Slope.lean ====
/-
  The derivative of `log(sigmoid u)`, as a quotient and through the logarithm itself.
-/
module

public import proofs.«01_k».proof.Proof.Common

@[expose] public section

noncomputable section

open Idealize.ShloMosaic Cert.Common
open scoped BigOperators

namespace Cert.Proof.Forget

/-- The derivative of `log(sigmoid u)` as a quotient. -/
def fac (u : EReal) : EReal := Ideal.div 1 (1 + Ideal.exp (0 - (0 - u)))

/-- The larger of `y` and nothing, and the rest of the logarithm of `1 + exp y`. -/
def soft (y : EReal) : EReal := max y 0 + Ideal.log1p (Ideal.exp (-max y (-y)))

theorem exp_bot : Ideal.exp ⊥ = 0 := rfl

theorem exp_top : Ideal.exp ⊤ = ⊤ := rfl

theorem exp_zero : Ideal.exp 0 = 1 := (exp_coe 0).trans (by rw [Real.exp_zero]; rfl)

theorem log_one : Ideal.log 1 = 0 := by
  refine (if_neg (by norm_num) : Ideal.log ((1 : ℝ) : EReal) = _).trans ?_
  rw [Real.log_one]; rfl

theorem coe_max (x y : ℝ) : ((max x y : ℝ) : EReal) = max (x : EReal) (y : EReal) := EReal.coe_strictMono.monotone.map_max

theorem soft_bot : soft ⊥ = 0 := by
  simp only [soft, Ideal.log1p, EReal.neg_bot, EReal.neg_top, bot_le, max_eq_right, exp_bot, add_zero, log_one]

theorem soft_top : soft ⊤ = ⊤ := by
  simp only [soft, Ideal.log1p, EReal.neg_bot, EReal.neg_top, le_top, max_eq_left, exp_bot, add_zero, log_one]

theorem soft_real (y : ℝ) : soft (y : EReal) = ((Real.log (1 + Real.exp y) : ℝ) : EReal) := by
  have h : soft (y : EReal) = ((max y 0 + Real.log (1 + Real.exp (-|y|)) : ℝ) : EReal) := by
    have ha : max (y : EReal) (-(y : EReal)) = ((|y| : ℝ) : EReal) := by
      rw [← EReal.coe_neg, ← coe_max]; rfl
    have hl : Ideal.log1p (Ideal.exp (-((|y| : ℝ) : EReal))) = ((Real.log (1 + Real.exp (-|y|)) : ℝ) : EReal) := by
      rw [← EReal.coe_neg, exp_coe, Ideal.log1p, ← EReal.coe_one, ← EReal.coe_add]
      exact if_neg (by have := Real.exp_pos (-|y|); linarith)
    rw [soft, ha, hl, ← EReal.coe_zero, ← coe_max, ← EReal.coe_add]
  rw [h]
  congr 1
  rcases le_total 0 y with hy | hy
  · rw [max_eq_left hy, abs_of_nonneg hy]
    have : 1 + Real.exp y = Real.exp y * (1 + Real.exp (-y)) := by
      rw [mul_add, ← Real.exp_add]; simp [add_comm]
    rw [this, Real.log_mul (Real.exp_pos _).ne' (by positivity), Real.log_exp]
  · rw [max_eq_right hy, abs_of_nonpos hy, neg_neg, zero_add]

/-- The derivative through the logarithm is the quotient, at every logit. -/
theorem slope (u : EReal) : Ideal.exp ((if -u = ⊤ then 0 else -u) - if soft (-u) = ⊤ then 0 else soft (-u)) = fac u := by
  induction u with
  | bot => simp [soft_top, fac, exp_bot, exp_zero, Ideal.div]
  | top =>
    simp only [EReal.neg_top, soft_bot, fac, zero_sub, EReal.neg_bot, exp_top]
    rw [show (1 : EReal) + ⊤ = ⊤ from rfl]
    simp [exp_bot, Ideal.div]
  | coe x =>
    have hx := Real.exp_pos x
    have hn : (-(x : EReal)) = ((-x : ℝ) : EReal) := rfl
    rw [hn, soft_real, if_neg (EReal.coe_ne_top _), if_neg (EReal.coe_ne_top _), ← EReal.coe_sub, exp_coe, fac]
    rw [show (0 : EReal) - (0 - (x : EReal)) = ((x : ℝ) : EReal) by
      rw [← EReal.coe_zero, ← EReal.coe_sub, ← EReal.coe_sub]; congr 1; ring]
    rw [exp_coe, ← EReal.coe_one, ← EReal.coe_add, div_coe (by positivity)]
    congr 1
    rw [Real.exp_sub, Real.exp_log (by positivity), Real.exp_neg]
    field_simp
    ring

end Cert.Proof.Forget

end
-- ==== Proof.Forget.Kernel.lean ====
/-
  The kernel's two result arrays over its windows' arrays, and those arrays over the arguments.
-/
module

public import proofs.«01_k».proof.Proof.Forget.Doubling
public import proofs.«01_k».proof.Proof.Forget.Slope
public import proofs.«01_k».proof.Proof.Gen.ForgetIdeal.Frame
public import Idealize.ShloMosaic.Lib.Pipeline.ValueKit
public import Idealize.ShloMosaic.Lib.Claim
public import Idealize.ShloMosaic.Lib.Tactic.CleanTypes
public import Idealize.ShloMosaic.Lib.StableHlo.RunRead
public import Idealize.ShloMosaic.Lib.Pipeline.ReadBack
public import Idealize.ShloMosaic.Lib.WritesUnit

@[expose] public section

set_option maxRecDepth 16384

noncomputable section

open Idealize.ShloMosaic Idealize.ShloMosaic.TcCoe
open scoped BigOperators

namespace Cert.Proof.Forget

open Cert.ForgetIdeal Cert.ForgetIdeal.Gen
open Idealize.ShloMosaic.Pipeline (Dat)

variable (m : (ℓ : Loc nD τ sig) → Buf (Elt Ideal) ℓ)

theorem idx : ∀ t : Fin cfg0.N, win0_0.index t = ![3 - t.val, 0, 0] ∧ win0_1.index t = ![0, 3 - t.val, 0] ∧ win0_2.index t = ![3 - t.val, 24]
    ∧ win0_3.index t = ![0, 0] ∧ win0_4.index t = ![3 - t.val, 0] ∧ win0_5.index t = ![0, 0] :=
  (by decide +kernel : ∀ t : Fin grid0.N, _)

/-- The logits the region finds: the projected rows' column and the bias, at the heads' lanes. -/
theorem v6 (c : Dev nD) (s : Fin 4096) (l : Fin 128) :
    (V m c main_v6 : FVec Ideal S4096x3200 .f32) (ix2 s ⟨3072 + l.val, by omega⟩)
      = if h : l.val < 64 ∧ l.val % 8 = 0 then (m ((c.tc : Thread nD τ).loc main_arg2) : FVec Ideal S4096x6152 .f32) (ix2 s ⟨3072 + l.val / 8, by omega⟩) else (0 : EReal) := by
  simp only [V, hostOps0, hostOps0_1, hostOps0_2, hostOps0_3, hostOps0_4, hostOps0_5, hostOps0_6, hostOps0_7,
    List.flatten_cons, List.flatten_nil, List.append_nil, List.cons_append, List.nil_append]
  after_reads_simp
  simp only [StableHlo.TRef.toBuf, StableHlo.TRef.ofBuf, cast_eq]
  clean_types
  pointwise
  split_ifs <;> first | rfl | (exfalso; omega) | exact Cert.Common.sitofp_zero _ _

theorem v10 (c : Dev nD) (l : Fin 128) :
    (V m c main_v10 : FVec Ideal S1x128 .f32) (ix2 0 l)
      = if h : l.val < 64 ∧ l.val % 8 = 0 then (m ((c.tc : Thread nD τ).loc main_arg3) : FVec Ideal S1x8 .f32) (ix2 0 ⟨l.val / 8, by omega⟩) else (0 : EReal) := by
  simp only [V, hostOps0, hostOps0_1, hostOps0_2, hostOps0_3, hostOps0_4, hostOps0_5, hostOps0_6, hostOps0_7,
    List.flatten_cons, List.flatten_nil, List.append_nil, List.cons_append, List.nil_append]
  after_reads_simp
  simp only [StableHlo.TRef.toBuf, StableHlo.TRef.ofBuf, cast_eq]
  clean_types
  pointwise
  split_ifs <;> first | rfl | (exfalso; omega) | exact Cert.Common.sitofp_zero _ _

/-- The cotangent of the running sums at row `s`, lane `l`: a head's query sums, less the key sums. -/
def dcOf (A : FVec Ideal S4x64x1024 .f32) (B : FVec Ideal S8x4096x128 .f32) (s : Fin 4096) (l : Fin 128) : EReal :=
  (if l.val % 8 = 0 then (if h : l.val / 8 < 8 then ∑ k : Fin 128, B (ix3 ⟨l.val / 8, h⟩ s k) else 0) else 0)
    - (if h : l.val < 64 then A (ix3 ⟨s.val / 1024, by omega⟩ ⟨l.val, h⟩ ⟨s.val % 1024, by omega⟩) else 0)

/-- Row `r` of the rows of point `t`: the points go through the rows from the end. -/
def rowAt (t : Fin cfg0.N) (r : Fin 1024) : Fin 4096 := ⟨(3 - t.val) * 1024 + r.val, by
  have := lt_of_lt_of_eq t.isLt (show cfg0.N = 4 from N_0); omega⟩

/-- The eight heads' blocks of the query sums that point `t` loads. -/
def heads (c : Dev nD) (t : Fin cfg0.N) : Fin 8 → FVec Ideal S1x1024x128 .f32 :=
  ![View.ld (iblk m c 1 t) (Rect.unit ![0, 0, 0] ![1, 1024, 128] inb_S8x1024x128_S1x1024x128_0_0_0),
    View.ld (iblk m c 1 t) (Rect.unit ![1, 0, 0] ![1, 1024, 128] inb_S8x1024x128_S1x1024x128_1_0_0),
    View.ld (iblk m c 1 t) (Rect.unit ![2, 0, 0] ![1, 1024, 128] inb_S8x1024x128_S1x1024x128_2_0_0),
    View.ld (iblk m c 1 t) (Rect.unit ![3, 0, 0] ![1, 1024, 128] inb_S8x1024x128_S1x1024x128_3_0_0),
    View.ld (iblk m c 1 t) (Rect.unit ![4, 0, 0] ![1, 1024, 128] inb_S8x1024x128_S1x1024x128_4_0_0),
    View.ld (iblk m c 1 t) (Rect.unit ![5, 0, 0] ![1, 1024, 128] inb_S8x1024x128_S1x1024x128_5_0_0),
    View.ld (iblk m c 1 t) (Rect.unit ![6, 0, 0] ![1, 1024, 128] inb_S8x1024x128_S1x1024x128_6_0_0),
    View.ld (iblk m c 1 t) (Rect.unit ![7, 0, 0] ![1, 1024, 128] inb_S8x1024x128_S1x1024x128_7_0_0)]

theorem heads_read (c : Dev nD) (t : Fin cfg0.N) (h : Fin 8) (r : Fin 1024) (k : Fin 128) :
    heads m c t h (ix3 0 r k) = (V m c main_arg1 : FVec Ideal S8x4096x128 .f32) (ix3 h (rowAt t r) k) := by
  fin_cases h
  all_goals
    unfold heads
    simp only [Matrix.cons_val]
    pointwise []
    blk_point [iblk, V, idx t, rowAt]

theorem keys_read (c : Dev nD) (t : Fin cfg0.N) (h : Fin 64) (r : Fin 1024) :
    (iblk m c 0 t : FVec Ideal S1x64x1024 .f32) (ix3 0 h r)
      = (V m c main_arg0 : FVec Ideal S4x64x1024 .f32) (ix3 ⟨(rowAt t r).val / 1024, by have := (rowAt t r).isLt; omega⟩ h ⟨(rowAt t r).val % 1024, by omega⟩) := by
  blk_point [iblk, V, idx t, rowAt]

/-- The cotangent over the arrays the region finds. -/
def dcV (c : Dev nD) (s : Fin 4096) (l : Fin 128) : EReal := dcOf (V m c main_arg0) (V m c main_arg1) s l

/-- What a point leaves in its running sums: the sums over the rows from there to the end, given the sum that is carried in. -/
theorem sums_point (c : Dev nD) (t : Fin cfg0.N) (x : FVec Ideal S1x64x1024 .f32) (a0 a1 a2 a3 a4 a5 a6 a7 : FVec Ideal S1x1024x128 .f32)
    (z : FVec Ideal S1x128 .f32) (r : Fin 1024) (l : Fin 128)
    (hx : x = iblk m c 0 t) (ha : ![a0, a1, a2, a3, a4, a5, a6, a7] = heads m c t)
    (hz : z (ix2 0 l) = rest (fun s => dcV m c s l) ((3 - t.val + 1) * 1024)) :
    sumsOf x a0 a1 a2 a3 a4 a5 a6 a7 z (ix2 r l) = rest (fun s => dcV m c s l) (rowAt t r).val := by
  have hb : 3 - t.val < 4 := by omega
  refine (sums_read x ![a0, a1, a2, a3, a4, a5, a6, a7] z r l).trans ?_
  rw [hz]
  refine Eq.trans ?_ (rest_tile (n := 4) (T := 1024) (fun s : Fin 4096 => dcV m c s l) (3 - t.val) hb r.val r.isLt).symm
  refine congrArg (fun f => rest f r.val + rest (fun s => dcV m c s l) ((3 - t.val + 1) * 1024)) (funext fun k => ?_)
  rw [ha, hx]
  simp only [dcBlk, heads_read, keys_read]
  rfl

theorem zero8 (l : Fin 128) : (k0_pay2 : FVec Ideal S8x128 .f32) (ix2 0 l) = 0 := by
  pointwise [k0_pay2]

theorem canon_all (w : FVec Ideal S1024x128 .f32) (L : List (View.Piece (Elt Ideal) S1024x128 .f32)) :
    View.canon (⟨Rect.unit ![0, 0] ![1024, 128] inb_S1024x128_S1024x128_0_0, w⟩ :: L) = w :=
  View.canon_cons_unit_lit _ _ _ (by decide)

theorem canon_all8 (w : FVec Ideal S8x128 .f32) (L : List (View.Piece (Elt Ideal) S8x128 .f32)) :
    View.canon (⟨Rect.unit ![0, 0] ![8, 128] inb_S8x128_S8x128_0_0, w⟩ :: L) = w :=
  View.canon_cons_unit_lit _ _ _ (by decide)

theorem row_emb (l : Fin 128) : (Rect.unit ![0, 0] ![1, 128] inb_S8x128_S1x128_0_0 : Rect S8x128).emb (ix2 0 l : S1x128.Idx) = ix2 0 l := by
  funext a
  refine Fin.ext ?_
  fin_cases a
  · rfl
  · exact (Nat.zero_add _).trans (Nat.one_mul _)

theorem row_emb' (l : Fin 128) : (Rect.unit ![0, 0] ![1, 128] inb_S1024x128_S1x128_0_0 : Rect S1024x128).emb (ix2 0 l : S1x128.Idx) = ix2 0 l := by
  funext a
  refine Fin.ext ?_
  fin_cases a
  · rfl
  · exact (Nat.zero_add _).trans (Nat.one_mul _)

theorem row_last (w : FVec Ideal S1x128 .f32) (L : List (View.Piece (Elt Ideal) S8x128 .f32)) (l : Fin 128) :
    View.canon (⟨Rect.unit ![0, 0] ![1, 128] inb_S8x128_S1x128_0_0, w⟩ :: L) (ix2 0 l) = w (ix2 0 l) :=
  (congrArg _ (row_emb l).symm).trans (View.canon_cons_emb (Rect.unit ![0, 0] ![1, 128] inb_S8x128_S1x128_0_0 : Rect S8x128) w L (ix2 0 l : S1x128.Idx))

theorem row_kept (w : FVec Ideal S1x128 .f32) (l : Fin 128) : k0_pay16 w (ix2 0 l) = w (ix2 0 l) := by
  pointwise [k0_pay16]

theorem row_top (X : FVec Ideal S1024x128 .f32) (l : Fin 128) :
    k0_pay16 (fun j => X ((Rect.unit ![0, 0] ![1, 128] inb_S1024x128_S1x128_0_0 : Rect S1024x128).toLoadRect.idx j)) (ix2 0 l) = X (ix2 0 l) :=
  (row_kept _ l).trans (congrArg X (row_emb' l))

theorem row_first (X : FVec Ideal S8x128 .f32) (l : Fin 128) :
    (fun j : S1x128.Idx => X ((Rect.unit ![0, 0] ![1, 128] inb_S8x128_S1x128_0_0 : Rect S8x128).toLoadRect.idx j)) (ix2 0 l) = X (ix2 0 l) :=
  congrArg X (row_emb l)

theorem rest_end (f : Fin 4096 → EReal) : rest f 4096 = 0 :=
  Finset.sum_eq_zero fun k _ => if_neg (by omega)

/-- The carried row after point `t`: the sum over the point's rows and all the later ones. -/
theorem carried (c : Dev nD) : ∀ (n : ℕ) (hn : n < cfg0.N) (l : Fin 128),
    (outsAt0 m c n hn).2.2 (ix2 0 l) = rest (fun s => dcV m c s l) ((3 - n) * 1024) := by
  intro n
  induction n with
  | zero =>
    intro hn l
    rw [outsAt0_A m c ⟨0, hn⟩ rfl]
    frame_out
    rw [sums_eq, row_last]
    rw [View.readCov_eq_canon', View.readCov_eq_canon', canon_all, canon_all8]
    refine (row_top _ l).trans ((sums_point m c ⟨0, hn⟩ _ _ _ _ _ _ _ _ _ _ 0 l rfl rfl ?_).trans ?_)
    · refine (row_first _ l).trans ((zero8 l).trans ?_)
      exact (rest_end _).symm
    · rfl
  | succ n ih =>
    intro hn l
    have hN := lt_of_lt_of_eq hn (show cfg0.N = 4 from N_0)
    rw [outsAt0_B m c ⟨n + 1, hn⟩ (by simp only []; omega)]
    frame_out
    rw [sums_eq, View.read_writes_cons_unit_of_mem (x := (ix2 0 l : S1x128.Idx)) (heq := rfl) (hx := by intro a; fin_cases a <;> simp [ix2])]
    rw [View.readCov_eq_canon', canon_all, read_unread_whole]
    refine (row_top _ l).trans ((sums_point m c ⟨n + 1, hn⟩ _ _ _ _ _ _ _ _ _ _ 0 l rfl rfl ?_).trans ?_)
    · refine (row_first _ l).trans ((ih _ l).trans ?_)
      refine congrArg (rest fun s => dcV m c s l) ?_
      simp only []
      omega
    · rfl

theorem pay17_read (x : FVec Ideal S1024x128 .f32) (b : FVec Ideal S1x128 .f32) (w : FVec Ideal S1024x128 .f32) (r : Fin 1024) (l : Fin 128) :
    k0_pay17 x b w (ix2 r l) = w (ix2 r l) * fac (x (ix2 r l) + b (ix2 0 l)) := by
  pointwise [k0_pay17, fac]

theorem pay1_read (x : FVec Ideal S1024x128 .f32) (b : FVec Ideal S1x128 .f32) (l : Fin 128) :
    k0_pay1 x b (ix2 0 l) = b (ix2 0 l) + ∑ r : Fin 1024, x (ix2 r l) := by
  pointwise [k0_pay1]

theorem pay3_read (l : Fin 128) : (k0_pay3 : FVec Ideal S1x128 .f32) (ix2 0 l) = 0 := by
  pointwise [k0_pay3]

/-- The row that a point's sums start from: nothing at the first point, the carried row after it. -/
theorem startA (c : Dev nD) (t : Fin cfg0.N) (h : t.val % 4 = 0) (l : Fin 128) :
    (View.whole cc0_scratch1).readCov [(⟨Rect.unit ![0, 0] ![8, 128] inb_S8x128_S8x128_0_0, (k0_pay2 : FVec Ideal S8x128 .f32)⟩ : View.Piece (Elt Ideal) S8x128 .f32)]
      (Rect.unit ![0, 0] ![1, 128] inb_S8x128_S1x128_0_0 : Rect S8x128).toLoadRect (ix2 0 l : S1x128.Idx)
      = rest (fun s => dcV m c s l) ((3 - t.val + 1) * 1024) := by
  have hN := lt_of_lt_of_eq t.isLt (show cfg0.N = 4 from N_0)
  have h0 : t.val = 0 := by omega
  rw [View.readCov_eq_canon', canon_all8, h0]
  exact (row_first _ l).trans ((zero8 l).trans (rest_end _).symm)

theorem startB (c : Dev nD) (t : Fin cfg0.N) (h : ¬ t.val % 4 = 0) (hp : t.val - 1 < cfg0.N) (X : FVec Ideal S8x128 .f32)
    (hX : X = (outsAt0 m c (t.val - 1) hp).2.2) (l : Fin 128) :
    View.ld (Val := Elt Ideal) (e' := .f32) X (Rect.unit ![0, 0] ![1, 128] inb_S8x128_S1x128_0_0 : Rect S8x128) (ix2 0 l : S1x128.Idx)
      = rest (fun s => dcV m c s l) ((3 - t.val + 1) * 1024) := by
  have hN := lt_of_lt_of_eq t.isLt (show cfg0.N = 4 from N_0)
  subst hX
  refine (row_first _ l).trans ((carried m c _ hp l).trans (congrArg (rest fun s => dcV m c s l) ?_))
  omega

/-- The gradient of the logits at row `s`, lane `l`, over the two sums, the logits and the bias. -/
def dflOf (A : FVec Ideal S4x64x1024 .f32) (B : FVec Ideal S8x4096x128 .f32) (L : FVec Ideal S4096x3200 .f32) (b : FVec Ideal S1x128 .f32)
    (s : Fin 4096) (l : Fin 128) : EReal :=
  rest (fun s => dcOf A B s l) s.val * fac (L (ix2 s ⟨3072 + l.val, by omega⟩) + b (ix2 0 l))

def dflV (c : Dev nD) (s : Fin 4096) (l : Fin 128) : EReal := dflOf (V m c main_arg0) (V m c main_arg1) (V m c main_v6) (V m c main_v10) s l

theorem logit_read (c : Dev nD) (t : Fin cfg0.N) (r : Fin 1024) (l : Fin 128) :
    (iblk m c 2 t : FVec Ideal S1024x128 .f32) (ix2 r l) = (V m c main_v6 : FVec Ideal S4096x3200 .f32) (ix2 (rowAt t r) ⟨3072 + l.val, by omega⟩) := by
  blk_point [iblk, V, idx t, rowAt]

theorem bias_read (c : Dev nD) (t : Fin cfg0.N) (l : Fin 128) :
    (iblk m c 3 t : FVec Ideal S1x128 .f32) (ix2 0 l) = (V m c main_v10 : FVec Ideal S1x128 .f32) (ix2 0 l) := by
  blk_point [iblk, V, idx t]

theorem dfl_point (c : Dev nD) (t : Fin cfg0.N) (x : FVec Ideal S1024x128 .f32) (b : FVec Ideal S1x128 .f32) (w : FVec Ideal S1024x128 .f32)
    (hx : x = iblk m c 2 t) (hb : b = iblk m c 3 t) (r : Fin 1024) (l : Fin 128) (hw : w (ix2 r l) = rest (fun s => dcV m c s l) (rowAt t r).val) :
    (k0_pay17 x b w : FVec Ideal S1024x128 .f32) (ix2 r l) = dflV m c (rowAt t r) l := by
  rw [pay17_read, hw, hx, hb, logit_read, bias_read]
  rfl

theorem final4 (c : Dev nD) : (dats m 0 c).arrAt 4 cfg0.N = fun i : S4096x128.Idx => dflV m c (i 0) (i 1) := by
  refine (dats m 0 c).arrAt_eq_of_covers 4 _ (by decide +kernel) fun t hf y => ?_
  blk_simp
  rw [after0_4]
  by_cases h : t.val % 4 = 0
  · rw [outsAt0_A m c t h]
    frame_out
    rw [sums_eq]
    idx_vars y
    refine (dfl_point m c t _ _ _ rfl rfl _ _ (sums_point m c t _ _ _ _ _ _ _ _ _ _ _ _ rfl rfl (startA m c t h _))).trans ?_
    blk_point [idx t, rowAt]
  · rw [outsAt0_B m c t h]
    frame_out
    rw [sums_eq]
    idx_vars y
    refine (dfl_point m c t _ _ _ rfl rfl _ _ (sums_point m c t _ _ _ _ _ _ _ _ _ _ _ _ rfl rfl (startB m c t h _ _ (read_unread_whole _ _ _) _))).trans ?_
    blk_point [idx t, rowAt]

/-- The sum of the gradient over the rows of point `t`. -/
def part (c : Dev nD) (t : Fin cfg0.N) (j : S1x128.Idx) : EReal := ∑ r : Fin 1024, dflV m c (rowAt t r) (j 1)

theorem col_point (c : Dev nD) (t : Fin cfg0.N) (x : FVec Ideal S1024x128 .f32) (b : FVec Ideal S1x128 .f32) (w : FVec Ideal S1024x128 .f32)
    (acc : FVec Ideal S1x128 .f32) (hx : x = iblk m c 2 t) (hb : b = iblk m c 3 t)
    (hw : ∀ r l, w (ix2 r l) = rest (fun s => dcV m c s l) (rowAt t r).val) (j : S1x128.Idx) :
    (k0_pay1 (k0_pay17 x b w) acc : FVec Ideal S1x128 .f32) j = acc j + part m c t j := by
  obtain ⟨l, rfl⟩ : ∃ l, j = ix2 0 l := ⟨j 1, funext fun a => by
    fin_cases a
    · exact Subsingleton.elim (α := Fin 1) _ _
    · rfl⟩
  exact (pay1_read _ _ _).trans (congrArg (acc (ix2 0 l) + ·) (Finset.sum_congr rfl fun r _ => dfl_point m c t _ _ _ hx hb _ _ (hw r l)))

theorem pay3_zero (j : S1x128.Idx) : (k0_pay3 : FVec Ideal S1x128 .f32) j = 0 := by
  pointwise [k0_pay3]

theorem stepA (c : Dev nD) (t : Fin cfg0.N) (h : t.val % 4 = 0) (j : S1x128.Idx) :
    (outsAt0 m c t.val t.isLt).2.1 j = (0 : EReal) + part m c t j := by
  rw [outsAt0_A m c t h]
  frame_out
  rw [sums_eq]
  exact (col_point m c t _ _ _ _ rfl rfl (fun r l => sums_point m c t _ _ _ _ _ _ _ _ _ _ _ _ rfl rfl (startA m c t h _)) j).trans
    (congrArg (· + part m c t j) (pay3_zero j))

theorem stepB (c : Dev nD) (t : Fin cfg0.N) (h : ¬ t.val % 4 = 0) (j : S1x128.Idx) :
    (outsAt0 m c t.val t.isLt).2.1 j = ((outsAt0 m c (t.val - 1) (by omega)).2.1 j : EReal) + part m c t j := by
  rw [outsAt0_B m c t h]
  frame_out
  rw [sums_eq]
  exact col_point m c t _ _ _ _ rfl rfl
    (fun r l => sums_point m c t _ _ _ _ _ _ _ _ _ _ _ _ rfl rfl (startB m c t h _ _ (read_unread_whole _ _ _) _)) j

theorem parts_rev (c : Dev nD) (l : Fin 128) : ∑ p : Fin cfg0.N, ∑ r : Fin 1024, dflV m c (rowAt p r) l
    = ∑ p : Fin 4, ∑ r : Fin 1024, dflV m c ⟨p.val * 1024 + r.val, by omega⟩ l := by
  refine Eq.trans ?_ (Equiv.sum_comp Fin.revPerm fun p : Fin 4 => ∑ r : Fin 1024, dflV m c ⟨p.val * 1024 + r.val, by omega⟩ l)
  refine Finset.sum_congr rfl fun p _ => Finset.sum_congr rfl fun r _ => ?_
  refine congrArg (dflV m c · l) (Fin.ext ?_)
  show (3 - p.val) * 1024 + r.val = (4 - (p.val + 1)) * 1024 + r.val
  omega

theorem final5 (c : Dev nD) : (dats m 0 c).arrAt 5 cfg0.N = fun i : S1x128.Idx => ∑ s : Fin 4096, dflV m c s (i 1) := by
  refine (dats m 0 c).arrAt_eq_of_after_last 5 t0_3 (by decide +kernel) _ fun j => ?_
  blk_simp
  rw [after0_5]
  rw [Pipeline.eq_sum_fin_of_reset_step_apply_last (fun n h => (outsAt0 m c n h).2.1) 4 (fun _ => (0 : EReal)) (fun t j => part m c t j)
    (fun t h j => stepA m c t h j) (fun t h j => stepB m c t h j) (le_of_eq N_0) t0_3 rfl j, zero_add]
  refine Eq.trans ?_ (Fin.sum_univ_tiles 4 1024 rfl fun s => dflV m c s (j 1)).symm
  exact parts_rev m c (j 1)

end Cert.Proof.Forget

end
-- ==== Proof.Forget.Reference.lean ====
/-
  The reference's gradient of the forget logits.
-/
module

public import proofs.«01_k».proof.Proof.Common
public import proofs.«01_k».proof.Proof.Forget.Sums
public import proofs.«01_k».proof.Proof.Forget.Slope
public import proofs.«01_k».proof.Proof.Gen.ForgetRefIdeal
public import proofs.«01_k».proof.Proof.Gen.ForgetRefIdeal.Run
public import proofs.«01_k».proof.Proof.Gen.ForgetRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Cert.Common
open scoped BigOperators

namespace Cert.Proof.Forget

open Cert.ForgetRefIdeal Cert.ForgetRefIdeal.Read

section Reference

variable (x0 : FVec Ideal S4x64x1024 .f32) (x1 : FVec Ideal S8x4096x128 .f32) (x2 : FVec Ideal S4096x6152 .f32) (x3 : FVec Ideal S1x8 .f32)

/-- The logits at row `s`, lane `l`: a head's logit and bias on every eighth lane. -/
theorem ref11 (s : Fin 4096) (l : Fin 128) : (val_main_v11 (F := Ideal) x2 x3 : FVec Ideal S4096x128 .f32) (ix2 s l)
    = (if h : l.val % 8 = 0 ∧ l.val / 8 < 8 then x2 (ix2 s ⟨3072 + l.val / 8, by omega⟩) else (0 : EReal))
      + if h : l.val % 8 = 0 ∧ l.val / 8 < 8 then x3 (ix2 0 ⟨l.val / 8, h.2⟩) else (0 : EReal) := by
  pointwise [val_main_v11, val_main_v8, val_main_v10, val_main_v9, val_main_v7, val_main_cst_1, val_main_cst_2]

theorem ref6 (s : Fin 4096) (l : Fin 128) : (val_main_v6 (F := Ideal) x0 x1 : FVec Ideal S4096x128 .f32) (ix2 s l)
    = (if h : l.val % 8 = 0 ∧ l.val / 8 < 8 then ∑ k : Fin 128, x1 (ix3 ⟨l.val / 8, h.2⟩ s k) else (0 : EReal))
      - if h : l.val < 64 then x0 (ix3 ⟨s.val / 1024, by omega⟩ ⟨l.val, h⟩ ⟨s.val % 1024, by omega⟩) else (0 : EReal) := by
  pointwise [val_main_v6, val_main_v2, val_main_v5, val_main_v4, val_main_v3, val_main_v1, val_main_v0, val_main_cst, val_main_cst_0, val_main_call0_v0, val_main_c]
  simp only [show (FloatOps.sitofp (F := Ideal) FTy.f32 0#32 : EReal) = 0 from sitofp_zero _ _]

theorem ref12 (s : Fin 4096) (l : Fin 128) : (val_main_v12_1 (F := Ideal) x2 x3 : FVec Ideal S4096x128 .f32) (ix2 s l)
    = fac ((val_main_v11 (F := Ideal) x2 x3 : FVec Ideal S4096x128 .f32) (ix2 s l)) := by
  pointwise [val_main_v12_1, val_main_call1_call0_v21, val_main_call1_call0_v20, val_main_call1_call0_v19, val_main_call1_call0_v18,
    val_main_call1_call0_v17, val_main_call1_call0_v16, val_main_call1_call0_v15, val_main_call1_call0_v14, val_main_call1_call0_v13,
    val_main_call1_v1_0, val_main_call1_call0_v11, val_main_call1_call0_v10, val_main_call1_call0_v9, val_main_call1_call0_v8,
    val_main_call1_call0_v7, val_main_call1_call0_v6, val_main_call1_call0_v5, val_main_call1_call0_v4, val_main_call1_call0_v3,
    val_main_call1_call0_v2, val_main_call1_call0_v1, val_main_call1_call0_v0, val_main_call1_v0, val_main_call1_call0_cst,
    val_main_call1_call0_cst_0, val_main_call1_call0_cst_1, val_main_call1_call0_cst_2, val_main_call1_call0_cst_3]
  simp only [ne_eq, not_true_eq_false, if_false, lit_inf]
  exact slope _

theorem ref14 (s : Fin 4096) (l : Fin 128) : (val_main_v14 (F := Ideal) x0 x1 : FVec Ideal S4096x128 .f32) (ix2 s l)
    = rest (fun k => (val_main_v6 (F := Ideal) x0 x1 : FVec Ideal S4096x128 .f32) (ix2 k l)) s.val := by
  unfold val_main_v14
  refine host_rest (R := 4096) (Rm1 := 4095) (C := 128) rfl _ _ ?_ _ _ s l
  pointwise [val_main_call3_call0_v0, val_main_call3_call0_cst]

theorem ref15 (s : Fin 4096) (l : Fin 128) : (val_main_v15 (F := Ideal) x0 x1 x2 x3 : FVec Ideal S4096x128 .f32) (ix2 s l)
    = rest (fun k => (val_main_v6 (F := Ideal) x0 x1 : FVec Ideal S4096x128 .f32) (ix2 k l)) s.val
      * fac ((val_main_v11 (F := Ideal) x2 x3 : FVec Ideal S4096x128 .f32) (ix2 s l)) := by
  rw [← ref14, ← ref12]
  pointwise [val_main_v15, val_main_call4_v1, val_main_call4_v0]
  rw [EReal.neg_mul, neg_neg]

theorem ref17 (l : Fin 128) : (val_main_v17 (F := Ideal) x0 x1 x2 x3 : FVec Ideal S1x128 .f32) (ix2 0 l)
    = ∑ s : Fin 4096, (val_main_v15 (F := Ideal) x0 x1 x2 x3 : FVec Ideal S4096x128 .f32) (ix2 s l) := by
  pointwise [val_main_v17, val_main_v16, val_main_cst_3]

theorem ref18 (s : Fin 4096) (l : Fin 128) : (val_main_v18 (F := Ideal) x0 x1 x2 x3 : FVec Ideal S4096x128 .bf16) (ix2 s l)
    = (val_main_v15 (F := Ideal) x0 x1 x2 x3 : FVec Ideal S4096x128 .f32) (ix2 s l) := by
  unfold val_main_v18
  generalize val_main_v15 (F := Ideal) x0 x1 x2 x3 = w
  pointwise []

end Reference

end Cert.Proof.Forget

end
-- ==== Proof.Forget.Algebraic.lean ====
/-
  The kernel's arrays are the reference's.
-/
module

public import proofs.«01_k».proof.Defs
public import proofs.«01_k».proof.Proof.Forget.Kernel
public import proofs.«01_k».proof.Proof.Forget.Reference
public import proofs.«01_k».proof.Proof.Gen.ForgetIdeal.Value

@[expose] public section

set_option maxRecDepth 16384

noncomputable section

open Idealize.ShloMosaic Idealize.ShloMosaic.TcCoe Cert.Common
open scoped BigOperators

namespace Cert.Proof.Forget

open Cert.ForgetIdeal Cert.ForgetIdeal.Gen
open Cert.ForgetRefIdeal.Read

/-- The kernel's formula over what its windows' arrays hold is the reference's. -/
theorem dfl_eq (x0 : FVec Ideal S4x64x1024 .f32) (x1 : FVec Ideal S8x4096x128 .f32) (x2 : FVec Ideal S4096x6152 .f32) (x3 : FVec Ideal S1x8 .f32)
    (L : FVec Ideal S4096x3200 .f32) (b : FVec Ideal S1x128 .f32)
    (hL : ∀ (s : Fin 4096) (l : Fin 128), L (ix2 s ⟨3072 + l.val, by omega⟩)
      = if h : l.val < 64 ∧ l.val % 8 = 0 then x2 (ix2 s ⟨3072 + l.val / 8, by omega⟩) else (0 : EReal))
    (hb : ∀ l : Fin 128, b (ix2 0 l) = if h : l.val < 64 ∧ l.val % 8 = 0 then x3 (ix2 0 ⟨l.val / 8, by omega⟩) else (0 : EReal))
    (s : Fin 4096) (l : Fin 128) :
    dflOf x0 x1 L b s l = (val_main_v15 (F := Ideal) x0 x1 x2 x3 : FVec Ideal S4096x128 .f32) (ix2 s l) := by
  rw [ref15, dflOf]
  refine congrArg₂ (· * ·) (congrArg (rest · s.val) (funext fun k => ?_)) (congrArg fac ?_)
  · rw [ref6, dcOf]
    by_cases h8 : l.val % 8 = 0
    · simp only [h8, if_true, true_and]
    · simp only [h8, if_false, false_and, dif_neg, not_false_eq_true]
  · rw [ref11, hL, hb]
    by_cases h : l.val < 64 ∧ l.val % 8 = 0
    · have h' : l.val % 8 = 0 ∧ l.val / 8 < 8 := by omega
      simp only [h, h', and_self, dif_pos]
    · have h' : ¬ (l.val % 8 = 0 ∧ l.val / 8 < 8) := by omega
      simp only [h, h', dif_neg, not_false_eq_true]

theorem algebraic : Cert.algebraic_ForgetIdeal_ForgetRefIdeal := by
  intro m g m' g' _ hagree
  refine ⟨_, _, Cert.ForgetIdeal.Value.run_blocks m g, ?_⟩
  refine (θ_run _ _ _).mono (fun r h c => ?_) (Cert.ForgetRefIdeal.Value.run m' g')
  obtain ⟨e0, e1, e2, e3⟩ := hagree c
  have hd : dflV m c = fun s l => (val_main_v15 (F := Ideal) (m ((c.tc : Thread nD τ).loc main_arg0)) (m ((c.tc : Thread nD τ).loc main_arg1))
      (m ((c.tc : Thread nD τ).loc main_arg2)) (m ((c.tc : Thread nD τ).loc main_arg3)) : FVec Ideal S4096x128 .f32) (ix2 s l) := by
    funext s l
    unfold dflV
    rw [V_main_arg0, V_main_arg1]
    exact dfl_eq _ _ _ _ _ _ (v6 m c) (v10 m c) s l
  refine ⟨(h c).1.trans ?_, (h c).2.1.trans ?_, (h c).2.2⟩
  · rw [val_main_v18_eq, e0, e1, e2, e3]
    refine Eq.trans ?_ (final4 m c).symm
    funext y
    idx_vars y
    rw [hd]
    exact ref18 _ _ _ _ _ _
  · rw [val_main_v17_eq, e0, e1, e2, e3]
    refine Eq.trans ?_ (final5 m c).symm
    funext y
    idx_vars y
    refine (congrArg _ (congrArg (fun i : Fin 1 => (ix2 i _ : S1x128.Idx)) (Subsingleton.elim _ (0 : Fin 1)))).trans ?_
    rw [hd]
    exact ref17 _ _ _ _ _

end Cert.Proof.Forget

end
-- ==== Proof.Lru.KeptIdeal.lean ====
/-
  The gated recurrence's backward call keeps its arguments and ends with every counter at zero.

  One run of the kernel's body serves every grid point: each buffer it is handed may hold anything, and it hands each back
  at some contents. The conditional (the first point, which clears the sums) is decided by cases. Nothing is said here of
  what the kernel computes.
-/
module

public import proofs.«01_k».proof.Proof.Gen.LruIdeal.Frame.Runs
public import Idealize.ShloMosaic.Lib.Pipeline.Frame

@[expose] public section

set_option maxRecDepth 16384

noncomputable section

namespace Cert.LruIdeal.Hand

open Cert.LruIdeal Cert.LruIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c` holds the memref whole, at contents that are not named. -/
abbrev some_ (c : Dev nD) {S : Shape} {e : EltTy} (M : Memref sig .tc .vmem S e) : sProp 𝕄 :=
  iprop(∃ d, owns (c : Thread nD τ) M fullShare d)

/-- A buffer held at any contents is held at contents that are not named. -/
theorem give (c : Dev nD) {S : Shape} {e : EltTy} (M : Memref sig .tc .vmem S e) (f : Buf (Elt F) (M.view.loc (c : Thread nD τ))) :
    iprop(M.view.loc (c : Thread nD τ) ↦[M.view.set]{fullShare} f) ⊢ (some_ c M : sProp 𝕄) := by
  unfold some_ owns
  iintro H
  iexists _, _; isplitr; swap; · iexact H
  ipureintro; rfl

/-- Everything the body is handed: the blocks it reads, the blocks it writes, and the buffers kept between points. -/
abbrev held (c : Dev nD) (arg1 : Memref sig .tc .vmem S256x1024 .f32) (arg2 : Memref sig .tc .vmem S8x1024 .f32) (arg3 : Memref sig .tc .vmem S256x1024 .f32) (arg4 : Memref sig .tc .vmem S256x1024 .f32) (arg5 : Memref sig .tc .vmem S8x1024 .f32) (arg6 : Memref sig .tc .vmem S256x1024 .f32) (arg7 : Memref sig .tc .vmem S8x1024 .f32) (arg8 : Memref sig .tc .vmem S8x128x128 .bf16) (arg9 : Memref sig .tc .vmem S1x1024 .f32) (arg10 : Memref sig .tc .vmem S8x128x128 .bf16) (arg11 : Memref sig .tc .vmem S1x1024 .f32) (arg12 : Memref sig .tc .vmem S1x1024 .f32) (arg13 : Memref sig .tc .vmem S256x1024 .bf16) (arg14 : Memref sig .tc .vmem S8x128x128 .f32) (arg15 : Memref sig .tc .vmem S8x128x128 .f32) (arg16 : Memref sig .tc .vmem S1x1024 .f32) (arg17 : Memref sig .tc .vmem S1x1024 .f32) (arg18 : Memref sig .tc .vmem S1x1024 .f32) (arg19 : Memref sig .tc .vmem S1x1024 .f32) (arg20 : Memref sig .tc .vmem S8x1024 .f32) (arg21 : Memref sig .tc .vmem S256x1024 .f32) (arg22 : Memref sig .tc .vmem S256x1024 .f32) (arg23 : Memref sig .tc .vmem S8x1024 .f32) (arg24 : Memref sig .tc .vmem S8x1024 .f32) : sProp 𝕄 :=
  iprop(some_ c arg1 ∗ some_ c arg2 ∗ some_ c arg3 ∗ some_ c arg4 ∗ some_ c arg5 ∗ some_ c arg6 ∗ some_ c arg7 ∗ some_ c arg8 ∗ some_ c arg9 ∗ some_ c arg10 ∗ some_ c arg11 ∗ some_ c arg12 ∗ some_ c arg13 ∗ some_ c arg14 ∗ some_ c arg15 ∗ some_ c arg16 ∗ some_ c arg17 ∗ some_ c arg18 ∗ some_ c arg19 ∗ some_ c arg20 ∗ some_ c arg21 ∗ some_ c arg22 ∗ some_ c arg23 ∗ some_ c arg24)

set_option maxHeartbeats 4000000 in
/-- The body runs to its end from any contents, and hands every buffer back. -/
theorem kernelRun (c : Dev nD) (i : grid0.Coords) (arg1 : Memref sig .tc .vmem S256x1024 .f32) (harg1 : arg1.IsWhole) (arg2 : Memref sig .tc .vmem S8x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S8x1024 .f32) (harg5 : arg5.IsWhole) (arg6 : Memref sig .tc .vmem S256x1024 .f32) (harg6 : arg6.IsWhole) (arg7 : Memref sig .tc .vmem S8x1024 .f32) (harg7 : arg7.IsWhole) (arg8 : Memref sig .tc .vmem S8x128x128 .bf16) (harg8 : arg8.IsWhole) (arg9 : Memref sig .tc .vmem S1x1024 .f32) (harg9 : arg9.IsWhole) (arg10 : Memref sig .tc .vmem S8x128x128 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S256x1024 .bf16) (harg13 : arg13.IsWhole) (arg14 : Memref sig .tc .vmem S8x128x128 .f32) (harg14 : arg14.IsWhole) (arg15 : Memref sig .tc .vmem S8x128x128 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S8x1024 .f32) (harg20 : arg20.IsWhole) (arg21 : Memref sig .tc .vmem S256x1024 .f32) (harg21 : arg21.IsWhole) (arg22 : Memref sig .tc .vmem S256x1024 .f32) (harg22 : arg22.IsWhole) (arg23 : Memref sig .tc .vmem S8x1024 .f32) (harg23 : arg23.IsWhole) (arg24 : Memref sig .tc .vmem S8x1024 .f32) (harg24 : arg24.IsWhole) (K : PUnit → sProp 𝕄) :
    iprop(held c arg1 arg2 arg3 arg4 arg5 arg6 arg7 arg8 arg9 arg10 arg11 arg12 arg13 arg14 arg15 arg16 arg17 arg18 arg19 arg20 arg21 arg22 arg23 arg24 ∗ (held c arg1 arg2 arg3 arg4 arg5 arg6 arg7 arg8 arg9 arg10 arg11 arg12 arg13 arg14 arg15 arg16 arg17 arg18 arg19 arg20 arg21 arg22 arg23 arg24 -∗ K ⟨⟩))
      ⊢ wp frame (wpE (defs₀ (F := F)) Variants.none c none) Set.univ (cc0_lru_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_lru_bwd_eq_skeleton]; unfold cc0_lru_bwd_skel
  simp only [k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold held some_ owns
  by_cases h1 : cond0_0 i
  all_goals
    iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩⟩, Hk⟩
    sl_exec (disch := first | sl_exact h1)
    sl_step
    iapply Hk
    isplitl [H0]; · iapply (give c arg1 _); iexact H0
    isplitl [H1]; · iapply (give c arg2 _); iexact H1
    isplitl [H2]; · iapply (give c arg3 _); iexact H2
    isplitl [H3]; · iapply (give c arg4 _); iexact H3
    isplitl [H4]; · iapply (give c arg5 _); iexact H4
    isplitl [H5]; · iapply (give c arg6 _); iexact H5
    isplitl [H6]; · iapply (give c arg7 _); iexact H6
    isplitl [H7]; · iapply (give c arg8 _); iexact H7
    isplitl [H8]; · iapply (give c arg9 _); iexact H8
    isplitl [H9]; · iapply (give c arg10 _); iexact H9
    isplitl [H10]; · iapply (give c arg11 _); iexact H10
    isplitl [H11]; · iapply (give c arg12 _); iexact H11
    isplitl [H12]; · iapply (give c arg13 _); iexact H12
    isplitl [H13]; · iapply (give c arg14 _); iexact H13
    isplitl [H14]; · iapply (give c arg15 _); iexact H14
    isplitl [H15]; · iapply (give c arg16 _); iexact H15
    isplitl [H16]; · iapply (give c arg17 _); iexact H16
    isplitl [H17]; · iapply (give c arg18 _); iexact H17
    isplitl [H18]; · iapply (give c arg19 _); iexact H18
    isplitl [H19]; · iapply (give c arg20 _); iexact H19
    isplitl [H20]; · iapply (give c arg21 _); iexact H20
    isplitl [H21]; · iapply (give c arg22 _); iexact H21
    isplitl [H22]; · iapply (give c arg23 _); iexact H22
    iapply (give c arg24 _); iexact H23

/-- The proof data: each array as the region finds it; of what the body leaves in a block, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The body at one point, from any contents of its blocks. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns c ((cfg0.win 0).stage (cfg0.slots t 0)) fullShare (Y 0) ∗ owns c ((cfg0.win 1).stage (cfg0.slots t 1)) fullShare (Y 1) ∗ owns c ((cfg0.win 2).stage (cfg0.slots t 2)) fullShare (Y 2) ∗ owns c ((cfg0.win 3).stage (cfg0.slots t 3)) fullShare (Y 3) ∗ owns c ((cfg0.win 4).stage (cfg0.slots t 4)) fullShare (Y 4) ∗ owns c ((cfg0.win 5).stage (cfg0.slots t 5)) fullShare (Y 5) ∗ owns c ((cfg0.win 6).stage (cfg0.slots t 6)) fullShare (Y 6) ∗ owns c ((cfg0.win 7).stage (cfg0.slots t 7)) fullShare (Y 7) ∗ owns c ((cfg0.win 8).stage (cfg0.slots t 8)) fullShare (Y 8) ∗ owns c ((cfg0.win 9).stage (cfg0.slots t 9)) fullShare (Y 9) ∗ owns c ((cfg0.win 10).stage (cfg0.slots t 10)) fullShare (Y 10) ∗ owns c ((cfg0.win 11).stage (cfg0.slots t 11)) fullShare (Y 11) ∗ owns c ((cfg0.win 12).stage (cfg0.slots t 12)) fullShare (Y 12) ∗ owns c ((cfg0.win 13).stage (cfg0.slots t 13)) fullShare (Y 13) ∗ owns c ((cfg0.win 14).stage (cfg0.slots t 14)) fullShare (Y 14) ∗ owns c ((cfg0.win 15).stage (cfg0.slots t 15)) fullShare (Y 15) ∗ owns c ((cfg0.win 16).stage (cfg0.slots t 16)) fullShare (Y 16) ∗ owns c ((cfg0.win 17).stage (cfg0.slots t 17)) fullShare (Y 17) ∗ owns c ((cfg0.win 18).stage (cfg0.slots t 18)) fullShare (Y 18) ∗ owns c ((cfg0.win 19).stage (cfg0.slots t 19)) fullShare (Y 19))
      ⊢ wp frame (wpE (defs₀ (F := F)) Variants.none c none) Set.univ (bodyAt0 t) (fun _ =>
        iprop((rdats m c).Φ t.succ ∗ (rdats m c).owesAt () t.succ
          ∗ (∃ X, ⌜(rdats m c).after 0 t (Y 0) X⌝ ∗ owns c ((cfg0.win 0).stage (cfg0.slots t 0)) fullShare X) ∗ (∃ X, ⌜(rdats m c).after 1 t (Y 1) X⌝ ∗ owns c ((cfg0.win 1).stage (cfg0.slots t 1)) fullShare X) ∗ (∃ X, ⌜(rdats m c).after 2 t (Y 2) X⌝ ∗ owns c ((cfg0.win 2).stage (cfg0.slots t 2)) fullShare X) ∗ (∃ X, ⌜(rdats m c).after 3 t (Y 3) X⌝ ∗ owns c ((cfg0.win 3).stage (cfg0.slots t 3)) fullShare X) ∗ (∃ X, ⌜(rdats m c).after 4 t (Y 4) X⌝ ∗ owns c ((cfg0.win 4).stage (cfg0.slots t 4)) fullShare X) ∗ (∃ X, ⌜(rdats m c).after 5 t (Y 5) X⌝ ∗ owns c ((cfg0.win 5).stage (cfg0.slots t 5)) fullShare X) ∗ (∃ X, ⌜(rdats m c).after 6 t (Y 6) X⌝ ∗ owns c ((cfg0.win 6).stage (cfg0.slots t 6)) fullShare X) ∗ (∃ X, ⌜(rdats m c).after 7 t (Y 7) X⌝ ∗ owns c ((cfg0.win 7).stage (cfg0.slots t 7)) fullShare X) ∗ (∃ X, ⌜(rdats m c).after 8 t (Y 8) X⌝ ∗ owns c ((cfg0.win 8).stage (cfg0.slots t 8)) fullShare X) ∗ (∃ X, ⌜(rdats m c).after 9 t (Y 9) X⌝ ∗ owns c ((cfg0.win 9).stage (cfg0.slots t 9)) fullShare X) ∗ (∃ X, ⌜(rdats m c).after 10 t (Y 10) X⌝ ∗ owns c ((cfg0.win 10).stage (cfg0.slots t 10)) fullShare X) ∗ (∃ X, ⌜(rdats m c).after 11 t (Y 11) X⌝ ∗ owns c ((cfg0.win 11).stage (cfg0.slots t 11)) fullShare X) ∗ (∃ X, ⌜(rdats m c).after 12 t (Y 12) X⌝ ∗ owns c ((cfg0.win 12).stage (cfg0.slots t 12)) fullShare X) ∗ (∃ X, ⌜(rdats m c).after 13 t (Y 13) X⌝ ∗ owns c ((cfg0.win 13).stage (cfg0.slots t 13)) fullShare X) ∗ (∃ X, ⌜(rdats m c).after 14 t (Y 14) X⌝ ∗ owns c ((cfg0.win 14).stage (cfg0.slots t 14)) fullShare X) ∗ (∃ X, ⌜(rdats m c).after 15 t (Y 15) X⌝ ∗ owns c ((cfg0.win 15).stage (cfg0.slots t 15)) fullShare X) ∗ (∃ X, ⌜(rdats m c).after 16 t (Y 16) X⌝ ∗ owns c ((cfg0.win 16).stage (cfg0.slots t 16)) fullShare X) ∗ (∃ X, ⌜(rdats m c).after 17 t (Y 17) X⌝ ∗ owns c ((cfg0.win 17).stage (cfg0.slots t 17)) fullShare X) ∗ (∃ X, ⌜(rdats m c).after 18 t (Y 18) X⌝ ∗ owns c ((cfg0.win 18).stage (cfg0.slots t 18)) fullShare X) ∗ (∃ X, ⌜(rdats m c).after 19 t (Y 19) X⌝ ∗ owns c ((cfg0.win 19).stage (cfg0.slots t 19)) fullShare X))) := by
  unfold bodyAt0
  rw [show (rdats m c).Φ t.succ = Pipeline.ΦA spec0 c from rfl,
    show (rdats m c).owesAt () t.succ = (rdats m c).owesAt () t.castSucc from rfl,
    show (rdats m c).Φ t.castSucc = Pipeline.ΦA spec0 c from rfl, PhiA0_eq]
  iintro ⟨⟨⟨HS0, HS1, HS2, HS3⟩, Hg⟩, HO, H0, H1, H2, H3, H4, H5, H6, H7, H8, H9, H10, H11, H12, H13, H14, H15, H16, H17, H18, H19⟩
  iapply (kernelRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) scM0_2 (Memref.isWhole_whole _) scM0_3 (Memref.isWhole_whole _) _)
  isplitl [HS0 HS1 HS2 HS3 H0 H1 H2 H3 H4 H5 H6 H7 H8 H9 H10 H11 H12 H13 H14 H15 H16 H17 H18 H19]
  · unfold held some_
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]; · iexact HS0
    isplitl [HS1]; · iexact HS1
    isplitl [HS2]; · iexact HS2
    iexact HS3
  unfold held some_
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, HS0, HS1, HS2, HS3⟩
  isplitl [HS0 HS1 HS2 HS3 Hg]
  · isplitr [Hg]; swap; · iexact Hg
    isplitl [HS0]; · iexact HS0
    isplitl [HS1]; · iexact HS1
    isplitl [HS2]; · iexact HS2
    iexact HS3
  isplitl [HO]; · iexact HO
  isplitl [H0]; · (iexists d0; isplitr [H0]; swap; (iexact H0); ipureintro; trivial)
  isplitl [H1]; · (iexists d1; isplitr [H1]; swap; (iexact H1); ipureintro; trivial)
  isplitl [H2]; · (iexists d2; isplitr [H2]; swap; (iexact H2); ipureintro; trivial)
  isplitl [H3]; · (iexists d3; isplitr [H3]; swap; (iexact H3); ipureintro; trivial)
  isplitl [H4]; · (iexists d4; isplitr [H4]; swap; (iexact H4); ipureintro; trivial)
  isplitl [H5]; · (iexists d5; isplitr [H5]; swap; (iexact H5); ipureintro; trivial)
  isplitl [H6]; · (iexists d6; isplitr [H6]; swap; (iexact H6); ipureintro; trivial)
  isplitl [H7]; · (iexists d7; isplitr [H7]; swap; (iexact H7); ipureintro; trivial)
  isplitl [H8]; · (iexists d8; isplitr [H8]; swap; (iexact H8); ipureintro; trivial)
  isplitl [H9]; · (iexists d9; isplitr [H9]; swap; (iexact H9); ipureintro; trivial)
  isplitl [H10]; · (iexists d10; isplitr [H10]; swap; (iexact H10); ipureintro; trivial)
  isplitl [H11]; · (iexists d11; isplitr [H11]; swap; (iexact H11); ipureintro; trivial)
  isplitl [H12]; · (iexists d12; isplitr [H12]; swap; (iexact H12); ipureintro; trivial)
  isplitl [H13]; · (iexists d13; isplitr [H13]; swap; (iexact H13); ipureintro; trivial)
  isplitl [H14]; · (iexists d14; isplitr [H14]; swap; (iexact H14); ipureintro; trivial)
  isplitl [H15]; · (iexists d15; isplitr [H15]; swap; (iexact H15); ipureintro; trivial)
  isplitl [H16]; · (iexists d16; isplitr [H16]; swap; (iexact H16); ipureintro; trivial)
  isplitl [H17]; · (iexists d17; isplitr [H17]; swap; (iexact H17); ipureintro; trivial)
  isplitl [H18]; · (iexists d18; isplitr [H18]; swap; (iexact H18); ipureintro; trivial)
  iexists d19; isplitr [H19]; swap; · iexact H19
  ipureintro; trivial

/-- The body table's row at a point is the body of that point. -/
theorem row (t : Fin cfg0.N) : defs₀ (F := F) .tc cfg0.body (cfg0.bodyArgs t (cfg0.slots t)) = bodyAt0 t := by
  unfold defs₀; rw [Defs.onTc_tc]

set_option maxHeartbeats 4000000 in
/-- The body keeps its promise at every point. -/
theorem body_obligation (c : Dev nD) : (rdats m c).BodyObligation (defs₀ (F := F)) Variants.none () Set.univ := fun t Y _ => by
  rw [bigSep_W0, bigSep_W0, row]
  exact triple_restated (sound_body m c t Y) rfl .rfl fun _ => .rfl

set_option maxHeartbeats 4000000 in
set_option backward.isDefEq.respectTransparency.types false in
/-- The whole run: every input array as the region found it, every counter at zero. -/
theorem run_main :
    θ_run defs (onTc (τ := τ) (main (F := F))) (s₀ m ρ)
      (fun r => RDat.FramePost (cfgs 0) (rdats m) (V m) r ∧ r.2.sem = fun _ => 0) :=
  Pipeline.RDat.θ_run_frame_track_shared (Q' := _) cfgs (0 : Fin 1) launch₀0 defs₀ Variants.none (rdats m) m ρ main
    (hbody := body_obligation m) (hq := fun _ _ _ => rfl)
    (howed := fun _ _ => rfl) (V := V m) (hmain := hmain m Variants.none) (hA := fun _ _ => rfl) (hin := fun _ => .rfl) (hout := fun _ => .rfl)

set_option maxHeartbeats 4000000 in
/-- The arguments end as they began, and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by decide))).trans (V_main_arg0 m c),
      (RDat.FramePost.arr_in h.1 c 5 rfl).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      (RDat.FramePost.arr_in h.1 c 8 rfl).trans (V_main_arg5 m c),
      ((h.1 c).2 main_arg6 (Pipeline.mem_restRefs_of main_arg6 (by decide) (by decide))).trans (V_main_arg6 m c),
      (RDat.FramePost.arr_in h.1 c 10 rfl).trans (V_main_arg7 m c),
      (RDat.FramePost.arr_in h.1 c 11 rfl).trans (V_main_arg8 m c)⟩, h.2⟩) (run_main m ρ)

end Cert.LruIdeal.Hand

end
-- ==== Proof.Attn.KeptIdeal.lean ====
/-
  The attention's backward call keeps its arguments and ends with every counter at zero.

  One run of the kernel's body serves every grid point: each buffer it is handed may hold anything, and it hands each back
  at some contents. The two conditionals (the first and the last column block of a head) are decided by cases, and the loop
  over the later row blocks goes by its invariant. Nothing is said here of what the kernel computes.
-/
module

public import proofs.«01_k».proof.Proof.Gen.AttnIdeal.Frame
public import proofs.«01_k».proof.Proof.Gen.AttnIdeal.Loops
public import proofs.«01_k».proof.Proof.Gen.AttnIdeal.Skeleton
public import Idealize.ShloMosaic.Lib.Pipeline.Frame
public import Idealize.ShloMosaic.Lib.Tactic

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c` holds the memref whole, at contents that are not named. -/
abbrev some_ (c : Dev nD) {S : Shape} {e : EltTy} (M : Memref sig .tc .vmem S e) : sProp 𝕄 :=
  iprop(∃ d, owns (c : Thread nD τ) M fullShare d)

/-- Everything the body is handed: eight blocks it reads, five it writes, and the accumulator kept between points. -/
abbrev held (c : Dev nD) (arg2 : Memref sig .tc .vmem S1024x128 .bf16) (arg3 : Memref sig .tc .vmem S1024x128 .bf16) (arg4 : Memref sig .tc .vmem S1x1024x128 .bf16) (arg5 : Memref sig .tc .vmem S4096x128 .bf16) (arg6 : Memref sig .tc .vmem S1x4096x128 .bf16) (arg7 : Memref sig .tc .vmem S4096x128 .bf16) (arg8 : Memref sig .tc .vmem S1x4096x128 .f32) (arg9 : Memref sig .tc .vmem S8x128 .f32) (arg10 : Memref sig .tc .vmem S4096x128 .bf16) (arg11 : Memref sig .tc .vmem S1024x128 .bf16) (arg12 : Memref sig .tc .vmem S1024x128 .bf16) (arg13 : Memref sig .tc .vmem S1x8x1024 .f32) (arg14 : Memref sig .tc .vmem S1x4096x128 .f32) (arg15 : Memref sig .tc .vmem S4096x128 .f32) : sProp 𝕄 :=
  iprop(some_ c arg2 ∗ some_ c arg3 ∗ some_ c arg4 ∗ some_ c arg5 ∗ some_ c arg6 ∗ some_ c arg7 ∗ some_ c arg8 ∗ some_ c arg9 ∗ some_ c arg10 ∗ some_ c arg11 ∗ some_ c arg12 ∗ some_ c arg13 ∗ some_ c arg14 ∗ some_ c arg15)

set_option maxHeartbeats 2000000 in
/-- The body runs to its end from any contents, and hands every buffer back. -/
theorem kernelRun (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (K : PUnit → sProp 𝕄) :
    iprop(held c arg2 arg3 arg4 arg5 arg6 arg7 arg8 arg9 arg10 arg11 arg12 arg13 arg14 arg15 ∗ (held c arg2 arg3 arg4 arg5 arg6 arg7 arg8 arg9 arg10 arg11 arg12 arg13 arg14 arg15 -∗ K ⟨⟩))
      ⊢ wp frame (wpE (defs₀ (F := F)) Variants.none c none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part2_eq_skeleton, k0_part3_eq_skeleton, k0_part4_eq_skeleton, k0_part5_eq_skeleton,
    k0_part6_eq_skeleton, k0_part7_eq_skeleton, k0_part8_eq_skeleton]
  unfold held some_ owns
  by_cases h1 : Scalar.cmpi .ne (Scalar.extui (Scalar.cmpi .eq (BitVec.ofNat 32 (i 1).val) 0#32) : BitVec 32) 0#32 = 1#1 <;> by_cases h2 : k0_cond2 i = 1#1
  all_goals
    iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩⟩, Hk⟩
    sl_exec (disch := first | sl_exact h1 | sl_exact h2)
    sl_step
    iapply Hk
    isplitl [H0]
    · iexists _, _; isplitr; swap; · iexact H0
      ipureintro; rfl
    isplitl [H1]
    · iexists _, _; isplitr; swap; · iexact H1
      ipureintro; rfl
    isplitl [H2]
    · iexists _, _; isplitr; swap; · iexact H2
      ipureintro; rfl
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

/-- The proof data: each array as the region finds it; of what the body leaves in a block, nothing. -/
def rdats (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The accumulator as a memref. -/
abbrev acc : Memref sig .tc .vmem S4096x128 .f32 := Memref.whole cc0_scratch0

/-- What is kept between points: the accumulator at some contents, and the generator register. -/
theorem kept_eq (c : Dev nD) :
    (Pipeline.ΦA spec0 c : sProp 𝕄) = iprop(some_ c acc ∗ (∃ r, prngReg c r)) := by
  unfold Pipeline.ΦA; rw [scopedRest0_eq]; simp only [some_, acc, owns_whole]; try rfl

/-- The body at one point, from any contents of its blocks. -/
theorem sound_body (c : Dev nD) (t : Fin cfg0.N) (Y : (w : Fin cfg0.W) → (cfg0.win w).block.Idx → Elt F (cfg0.win w).elt) :
    iprop((rdats m c).Φ t.castSucc ∗ (rdats m c).owesAt () t.castSucc
        ∗ owns c ((cfg0.win 0).stage (cfg0.slots t 0)) fullShare (Y 0) ∗ owns c ((cfg0.win 1).stage (cfg0.slots t 1)) fullShare (Y 1) ∗ owns c ((cfg0.win 2).stage (cfg0.slots t 2)) fullShare (Y 2) ∗ owns c ((cfg0.win 3).stage (cfg0.slots t 3)) fullShare (Y 3) ∗ owns c ((cfg0.win 4).stage (cfg0.slots t 4)) fullShare (Y 4) ∗ owns c ((cfg0.win 5).stage (cfg0.slots t 5)) fullShare (Y 5) ∗ owns c ((cfg0.win 6).stage (cfg0.slots t 6)) fullShare (Y 6) ∗ owns c ((cfg0.win 7).stage (cfg0.slots t 7)) fullShare (Y 7) ∗ owns c ((cfg0.win 8).stage (cfg0.slots t 8)) fullShare (Y 8) ∗ owns c ((cfg0.win 9).stage (cfg0.slots t 9)) fullShare (Y 9) ∗ owns c ((cfg0.win 10).stage (cfg0.slots t 10)) fullShare (Y 10) ∗ owns c ((cfg0.win 11).stage (cfg0.slots t 11)) fullShare (Y 11) ∗ owns c ((cfg0.win 12).stage (cfg0.slots t 12)) fullShare (Y 12))
      ⊢ wp frame (wpE (defs₀ (F := F)) Variants.none c none) Set.univ (bodyAt0 t) (fun _ =>
        iprop((rdats m c).Φ t.succ ∗ (rdats m c).owesAt () t.succ
          ∗ (∃ X, ⌜(rdats m c).after 0 t (Y 0) X⌝ ∗ owns c ((cfg0.win 0).stage (cfg0.slots t 0)) fullShare X) ∗ (∃ X, ⌜(rdats m c).after 1 t (Y 1) X⌝ ∗ owns c ((cfg0.win 1).stage (cfg0.slots t 1)) fullShare X) ∗ (∃ X, ⌜(rdats m c).after 2 t (Y 2) X⌝ ∗ owns c ((cfg0.win 2).stage (cfg0.slots t 2)) fullShare X) ∗ (∃ X, ⌜(rdats m c).after 3 t (Y 3) X⌝ ∗ owns c ((cfg0.win 3).stage (cfg0.slots t 3)) fullShare X) ∗ (∃ X, ⌜(rdats m c).after 4 t (Y 4) X⌝ ∗ owns c ((cfg0.win 4).stage (cfg0.slots t 4)) fullShare X) ∗ (∃ X, ⌜(rdats m c).after 5 t (Y 5) X⌝ ∗ owns c ((cfg0.win 5).stage (cfg0.slots t 5)) fullShare X) ∗ (∃ X, ⌜(rdats m c).after 6 t (Y 6) X⌝ ∗ owns c ((cfg0.win 6).stage (cfg0.slots t 6)) fullShare X) ∗ (∃ X, ⌜(rdats m c).after 7 t (Y 7) X⌝ ∗ owns c ((cfg0.win 7).stage (cfg0.slots t 7)) fullShare X) ∗ (∃ X, ⌜(rdats m c).after 8 t (Y 8) X⌝ ∗ owns c ((cfg0.win 8).stage (cfg0.slots t 8)) fullShare X) ∗ (∃ X, ⌜(rdats m c).after 9 t (Y 9) X⌝ ∗ owns c ((cfg0.win 9).stage (cfg0.slots t 9)) fullShare X) ∗ (∃ X, ⌜(rdats m c).after 10 t (Y 10) X⌝ ∗ owns c ((cfg0.win 10).stage (cfg0.slots t 10)) fullShare X) ∗ (∃ X, ⌜(rdats m c).after 11 t (Y 11) X⌝ ∗ owns c ((cfg0.win 11).stage (cfg0.slots t 11)) fullShare X) ∗ (∃ X, ⌜(rdats m c).after 12 t (Y 12) X⌝ ∗ owns c ((cfg0.win 12).stage (cfg0.slots t 12)) fullShare X))) := by
  unfold bodyAt0
  rw [show (rdats m c).Φ t.succ = Pipeline.ΦA spec0 c from rfl,
    show (rdats m c).owesAt () t.succ = (rdats m c).owesAt () t.castSucc from rfl,
    show (rdats m c).Φ t.castSucc = Pipeline.ΦA spec0 c from rfl, kept_eq]
  iintro ⟨⟨HS, Hg⟩, HO, H0, H1, H2, H3, H4, H5, H6, H7, H8, H9, H10, H11, H12⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) acc (Memref.isWhole_whole _) _)
  isplitl [HS H0 H1 H2 H3 H4 H5 H6 H7 H8 H9 H10 H11 H12]
  · unfold held some_
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexact HS
  unfold held some_
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, HS⟩
  isplitl [HS Hg]
  · isplitl [HS]; · iexact HS
    iexact Hg
  isplitl [HO]; · iexact HO
  isplitl [H0]
  · iexists d0; isplitr; · ipureintro; trivial
    iexact H0
  isplitl [H1]
  · iexists d1; isplitr; · ipureintro; trivial
    iexact H1
  isplitl [H2]
  · iexists d2; isplitr; · ipureintro; trivial
    iexact H2
  isplitl [H3]
  · iexists d3; isplitr; · ipureintro; trivial
    iexact H3
  isplitl [H4]
  · iexists d4; isplitr; · ipureintro; trivial
    iexact H4
  isplitl [H5]
  · iexists d5; isplitr; · ipureintro; trivial
    iexact H5
  isplitl [H6]
  · iexists d6; isplitr; · ipureintro; trivial
    iexact H6
  isplitl [H7]
  · iexists d7; isplitr; · ipureintro; trivial
    iexact H7
  isplitl [H8]
  · iexists d8; isplitr; · ipureintro; trivial
    iexact H8
  isplitl [H9]
  · iexists d9; isplitr; · ipureintro; trivial
    iexact H9
  isplitl [H10]
  · iexists d10; isplitr; · ipureintro; trivial
    iexact H10
  isplitl [H11]
  · iexists d11; isplitr; · ipureintro; trivial
    iexact H11
  iexists d12; isplitr; · ipureintro; trivial
  iexact H12

/-- The body table's row at a point is the body of that point. -/
theorem row (t : Fin cfg0.N) : defs₀ (F := F) .tc cfg0.body (cfg0.bodyArgs t (cfg0.slots t)) = bodyAt0 t := by
  unfold defs₀; rw [Defs.onTc_tc]

theorem body_obligation (c : Dev nD) : (rdats m c).BodyObligation (defs₀ (F := F)) Variants.none () Set.univ := fun t Y _ => by
  rw [bigSep_W0, bigSep_W0, row]
  exact triple_restated (sound_body m c t Y) rfl .rfl fun _ => .rfl

set_option backward.isDefEq.respectTransparency.types false in
/-- The whole run: every input array as the region found it, every counter at zero. -/
theorem run_main :
    θ_run defs (onTc (τ := τ) (main (F := F))) (s₀ m ρ)
      (fun r => RDat.FramePost (cfgs 0) (rdats m) (V m) r ∧ r.2.sem = fun _ => 0) :=
  Pipeline.RDat.θ_run_frame_track_shared (Q' := _) cfgs (0 : Fin 1) launch₀0 defs₀ Variants.none (rdats m) m ρ main
    (hbody := body_obligation m) (hq := fun _ _ _ => rfl)
    (howed := fun _ _ => rfl) (V := V m) (hmain := hmain m Variants.none) (hA := fun _ _ => rfl) (hin := fun _ => .rfl) (hout := fun _ => .rfl)

/-- The arguments end as they began, and every counter is back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (RDat.FramePost.arr_in h.1 c 5 rfl).trans (V_main_arg2 m c)⟩, h.2⟩) (run_main m ρ)

end Cert.AttnIdeal.Hand

end
-- ==== Proof.Branch.Rows.lean ====
/-
  One row of the gated norms' gradients, and the kernel's blocks read as such rows.
-/
module

public import proofs.«01_k».proof.Proof.Common
public import proofs.«01_k».proof.Proof.Gen.BranchIdeal.Frame
public import Idealize.ShloMosaic.Lib.Pipeline.ValueKit
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe
open scoped BigOperators

namespace Cert.Proof.Branch

open Cert.BranchIdeal Cert.BranchIdeal.Gen

/-- The reciprocal root of a row's mean square. -/
def rs (x : Fin 1024 → EReal) : EReal :=
  Ideal.rsqrt (Ideal.div (∑ k : Fin 1024, x k * x k) (Ideal.ofBits .f32 0x44800000#32) + Ideal.ofBits .f32 0x358637BD#32)

/-- The sigmoid, by the hyperbolic tangent of half its argument. -/
def sg (g : EReal) : EReal :=
  Ideal.ofBits .f32 0x3F000000#32 * Ideal.tanh (Ideal.ofBits .f32 0x3F000000#32 * g) + Ideal.ofBits .f32 0x3F000000#32

/-- The gradient of the normed row from the gradient `y` of the gated row and the gate's logits `g`. -/
def dn (g y : Fin 1024 → EReal) (d : Fin 1024) : EReal := y d * (g d * sg (g d))

/-- The gradient of the row `x` under the norm with gain `G`. -/
def dv (x g y G : Fin 1024 → EReal) (d : Fin 1024) : EReal :=
  rs x * (dn g y d * G d - x d * rs x * Ideal.div (∑ k : Fin 1024, dn g y k * G k * (x k * rs x)) (Ideal.ofBits .f32 0x44800000#32))

/-- The gradient of the gate's logits. -/
def dg (x g y G : Fin 1024 → EReal) (d : Fin 1024) : EReal :=
  y d * (x d * rs x * G d) * (sg (g d) * (Ideal.ofBits .f32 0x3F800000#32 + g d * (Ideal.ofBits .f32 0x3F800000#32 - sg (g d))))

/-- The row's term of the gain's gradient. -/
def gn (x g y : Fin 1024 → EReal) (d : Fin 1024) : EReal := dn g y d * (x d * rs x)

/-- The row's part of one head's sum of gradient times output. -/
def dl (x g y G : Fin 1024 → EReal) (h : Fin 8) : EReal :=
  ∑ l : Fin 128, dv x g y G ⟨128 * h.val + l.val, by omega⟩ * x ⟨128 * h.val + l.val, by omega⟩

section Blocks

variable (x g : FVec Ideal S256x1024 .f32) (G acc : FVec Ideal S1x1024 .f32) (a : FVec Ideal S256x1024 .bf16)
  (w : FVec Ideal S2048x1024 .bf16) (r : Fin 256) (d : Fin 1024)

/-- The gradient of the first half of the gated row. -/
def ya (r : Fin 256) (k : Fin 1024) : EReal := ∑ l : Fin 1024, a (ix2 r l) * w (ix2 ⟨k.val, by omega⟩ l)

/-- The gradient of the second half of the gated row. -/
def yl (r : Fin 256) (k : Fin 1024) : EReal := ∑ l : Fin 1024, a (ix2 r l) * w (ix2 ⟨1024 + k.val, by omega⟩ l)

/-- Row `r` of a block. -/
def rowOf (r : Fin 256) (k : Fin 1024) : EReal := x (ix2 r k)

/-- The gain's row. -/
def gainOf (k : Fin 1024) : EReal := G (ix2 0 k)

theorem pay15 : k0_pay15 (F := Ideal) G (k0_pay10 x) (k0_pay11 x) (k0_pay14 a w g) (ix2 r d)
    = dv (rowOf x r) (rowOf g r) (ya a w r) (gainOf G) d := by
  pointwise [k0_pay15, k0_pay14, k0_pay12, k0_pay11, k0_pay10, k0_pay9, k0_pay8, k0_pay7, dv, dn, sg, rs, rowOf, ya, gainOf]

theorem pay16 : k0_pay16 (F := Ideal) G (k0_pay10 x) (k0_pay11 x) (k0_pay14 a w g) (ix2 r d)
    = dv (rowOf x r) (rowOf g r) (ya a w r) (gainOf G) d := (by
  unfold k0_pay16
  generalize k0_pay15 (F := Ideal) G (k0_pay10 x) (k0_pay11 x) (k0_pay14 a w g) = p
  pointwise [] : k0_pay16 (F := Ideal) G (k0_pay10 x) (k0_pay11 x) (k0_pay14 a w g) (ix2 r d)
    = k0_pay15 (F := Ideal) G (k0_pay10 x) (k0_pay11 x) (k0_pay14 a w g) (ix2 r d)).trans (pay15 x g G a w r d)

theorem pay17 : k0_pay17 (F := Ideal) (k0_pay9 a w) G (k0_pay11 x) (k0_pay13 g) (ix2 r d)
    = dg (rowOf x r) (rowOf g r) (ya a w r) (gainOf G) d := by
  pointwise [k0_pay17, k0_pay13, k0_pay12, k0_pay11, k0_pay10, k0_pay9, k0_pay8, k0_pay7, dg, sg, rs, rowOf, ya, gainOf]

theorem pay18 : k0_pay18 (F := Ideal) (k0_pay11 x) (k0_pay14 a w g) acc (ix2 0 d)
    = acc (ix2 0 d) + ∑ r : Fin 256, gn (rowOf x r) (rowOf g r) (ya a w r) d := by
  pointwise [k0_pay18, k0_pay14, k0_pay12, k0_pay11, k0_pay10, k0_pay9, k0_pay8, k0_pay7, gn, dn, sg, rs, rowOf, ya]

theorem pay2 : k0_pay2 (F := Ideal) (k0_pay29 g) (k0_pay30 (k0_pay7 a w)) G (k0_pay31 x) (k0_pay32 x) (k0_pay33 g) (ix2 r d)
    = dv (rowOf x r) (rowOf g r) (yl a w r) (gainOf G) d := by
  pointwise [k0_pay2, k0_pay1, k0_pay29, k0_pay30, k0_pay31, k0_pay32, k0_pay33, k0_pay7, dv, dn, sg, rs, rowOf, yl, gainOf]

theorem pay3 : k0_pay3 (F := Ideal) (k0_pay29 g) (k0_pay30 (k0_pay7 a w)) G (k0_pay32 x) (k0_pay33 g) (ix2 r d)
    = dg (rowOf x r) (rowOf g r) (yl a w r) (gainOf G) d := by
  pointwise [k0_pay3, k0_pay29, k0_pay30, k0_pay31, k0_pay32, k0_pay33, k0_pay7, dg, sg, rs, rowOf, yl, gainOf]

theorem pay4 : k0_pay4 (F := Ideal) (k0_pay29 g) (k0_pay30 (k0_pay7 a w)) (k0_pay32 x) (k0_pay33 g) acc (ix2 0 d)
    = acc (ix2 0 d) + ∑ r : Fin 256, gn (rowOf x r) (rowOf g r) (yl a w r) d := by
  pointwise [k0_pay4, k0_pay1, k0_pay29, k0_pay30, k0_pay31, k0_pay32, k0_pay33, k0_pay7, gn, dn, sg, rs, rowOf, yl]

theorem pay19 : k0_pay19 (F := Ideal) x G (k0_pay10 x) (k0_pay11 x) (k0_pay14 a w g) (ix2 r d)
    = dv (rowOf x r) (rowOf g r) (ya a w r) (gainOf G) d * x (ix2 r d) := (by
  unfold k0_pay19
  generalize k0_pay15 (F := Ideal) G (k0_pay10 x) (k0_pay11 x) (k0_pay14 a w g) = p
  pointwise [] : k0_pay19 (F := Ideal) x G (k0_pay10 x) (k0_pay11 x) (k0_pay14 a w g) (ix2 r d)
    = k0_pay15 (F := Ideal) G (k0_pay10 x) (k0_pay11 x) (k0_pay14 a w g) (ix2 r d) * x (ix2 r d)).trans
      (congrArg (· * x (ix2 r d)) (pay15 x g G a w r d))

end Blocks

end Cert.Proof.Branch

end
-- ==== Proof.Branch.Kernel.lean ====
/-
  The kernel's seven result arrays, row by row, over its windows' arrays.
-/
module

public import proofs.«01_k».proof.Proof.Branch.Rows

@[expose] public section

set_option maxRecDepth 16384

noncomputable section

open Idealize.ShloMosaic Idealize.ShloMosaic.TcCoe
open scoped BigOperators

namespace Cert.Proof.Branch

open Cert.BranchIdeal Cert.BranchIdeal.Gen
open Idealize.ShloMosaic.Pipeline (Dat)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 2] ∧ win0_4.index t = ![t.val, 0] ∧ win0_5.index t = ![0, 0] ∧ win0_6.index t = ![0, 0]
    ∧ win0_7.index t = ![0, 0] ∧ win0_8.index t = ![t.val, 0] ∧ win0_9.index t = ![0, t.val, 0] ∧ win0_10.index t = ![t.val, 0]
    ∧ win0_11.index t = ![t.val, 0] ∧ win0_12.index t = ![t.val, 0] ∧ win0_13.index t = ![0, 0] ∧ win0_14.index t = ![0, 0] :=
  (by decide +kernel : ∀ t : Fin grid0.N, _)

/-- Row `r` of the rows of point `t`. -/
def rowAt (t : Fin cfg0.N) (r : Fin 256) : Fin 4096 := ⟨t.val * 256 + r.val, by
  have := lt_of_lt_of_eq t.isLt (show cfg0.N = 16 from N_0); omega⟩

/-- A row of an array. -/
def rowF (X : FVec Ideal S4096x1024 .f32) (s : Fin 4096) (k : Fin 1024) : EReal := X (ix2 s k)

/-- A row of the attention gate's logits. -/
def gateA (Z : FVec Ideal S4096x3200 .f32) (s : Fin 4096) (k : Fin 1024) : EReal := Z (ix2 s ⟨k.val, by omega⟩)

/-- A row of the recurrence gate's logits. -/
def gateL (Z : FVec Ideal S4096x3200 .f32) (s : Fin 4096) (k : Fin 1024) : EReal := Z (ix2 s ⟨2048 + k.val, by omega⟩)

/-- The gradient of the first half of a gated row. -/
def yA (a : FVec Ideal S4096x1024 .bf16) (w : FVec Ideal S2048x1024 .bf16) (s : Fin 4096) (k : Fin 1024) : EReal :=
  ∑ l : Fin 1024, a (ix2 s l) * w (ix2 ⟨k.val, by omega⟩ l)

/-- The gradient of the second half of a gated row. -/
def yL (a : FVec Ideal S4096x1024 .bf16) (w : FVec Ideal S2048x1024 .bf16) (s : Fin 4096) (k : Fin 1024) : EReal :=
  ∑ l : Fin 1024, a (ix2 s l) * w (ix2 ⟨1024 + k.val, by omega⟩ l)

section Reads

variable (c : Dev nD) (t : Fin cfg0.N)

theorem row0 (r : Fin 256) : rowOf (iblk m c 0 t) r = rowF (V m c main_arg0) (rowAt t r) := by
  funext k; unfold rowOf rowF; blk_point [iblk, V, idx t, rowAt]

theorem row1 (r : Fin 256) : rowOf (X0_1 m c t) r = gateA (V m c main_v6) (rowAt t r) := by
  funext k; unfold rowOf gateA X0_1 Pipeline.Window.fill; rw [dif_pos (moved0_1 t _)]; blk_point [iblk, V, idx t, rowAt]

theorem row2 (r : Fin 256) : rowOf (iblk m c 2 t) r = rowF (V m c main_arg1) (rowAt t r) := by
  funext k; unfold rowOf rowF; blk_point [iblk, V, idx t, rowAt]

theorem row3 (r : Fin 256) : rowOf (X0_3 m c t) r = gateL (V m c main_v6) (rowAt t r) := by
  funext k; unfold rowOf gateL X0_3 Pipeline.Window.fill; rw [dif_pos (moved0_3 t _)]; blk_point [iblk, V, idx t, rowAt]

theorem row4a (r : Fin 256) : ya (iblk m c 4 t) (iblk m c 5 t) r = yA (V m c main_arg3) (V m c main_v8) (rowAt t r) := by
  funext k; unfold ya yA; refine Finset.sum_congr rfl fun l _ => ?_; blk_point [iblk, V, idx t, rowAt]

theorem row4l (r : Fin 256) : yl (iblk m c 4 t) (iblk m c 5 t) r = yL (V m c main_arg3) (V m c main_v8) (rowAt t r) := by
  funext k; unfold yl yL; refine Finset.sum_congr rfl fun l _ => ?_; blk_point [iblk, V, idx t, rowAt]

theorem gain6 : gainOf (iblk m c 6 t) = gainOf (V m c main_arg5) := by
  funext k; unfold gainOf; blk_point [iblk, V, idx t]

theorem gain7 : gainOf (iblk m c 7 t) = gainOf (V m c main_arg6) := by
  funext k; unfold gainOf; blk_point [iblk, V, idx t]

end Reads

/-- The attention output's gradient over the arrays the region finds. -/
def doV (c : Dev nD) (s : Fin 4096) : Fin 1024 → EReal :=
  dv (rowF (V m c main_arg0) s) (gateA (V m c main_v6) s) (yA (V m c main_arg3) (V m c main_v8) s) (gainOf (V m c main_arg5))

/-- The attention gate's gradient. -/
def dgaV (c : Dev nD) (s : Fin 4096) : Fin 1024 → EReal :=
  dg (rowF (V m c main_arg0) s) (gateA (V m c main_v6) s) (yA (V m c main_arg3) (V m c main_v8) s) (gainOf (V m c main_arg5))

/-- The recurrence output's gradient. -/
def dhV (c : Dev nD) (s : Fin 4096) : Fin 1024 → EReal :=
  dv (rowF (V m c main_arg1) s) (gateL (V m c main_v6) s) (yL (V m c main_arg3) (V m c main_v8) s) (gainOf (V m c main_arg6))

/-- The recurrence gate's gradient. -/
def dglV (c : Dev nD) (s : Fin 4096) : Fin 1024 → EReal :=
  dg (rowF (V m c main_arg1) s) (gateL (V m c main_v6) s) (yL (V m c main_arg3) (V m c main_v8) s) (gainOf (V m c main_arg6))

/-- The attention gain's gradient's term of row `s`. -/
def gkaV (c : Dev nD) (s : Fin 4096) : Fin 1024 → EReal :=
  gn (rowF (V m c main_arg0) s) (gateA (V m c main_v6) s) (yA (V m c main_arg3) (V m c main_v8) s)

/-- The recurrence gain's gradient's term of row `s`. -/
def gklV (c : Dev nD) (s : Fin 4096) : Fin 1024 → EReal :=
  gn (rowF (V m c main_arg1) s) (gateL (V m c main_v6) s) (yL (V m c main_arg3) (V m c main_v8) s)

/-- The sums of gradient times output, head by head. -/
def dlV (c : Dev nD) (h : Fin 8) (s : Fin 4096) : EReal :=
  dl (rowF (V m c main_arg0) s) (gateA (V m c main_v6) s) (yA (V m c main_arg3) (V m c main_v8) s) (gainOf (V m c main_arg5)) h

theorem at8 (A : Fin 4096 → Fin 1024 → EReal) (t : Fin cfg0.N) (r : Fin 256) (d : Fin 1024) :
    A (rowAt t r) d = A (((View.whole main_v9_0).slice (win0_8.rect t)).emb (ix2 r d) 0)
      (((View.whole main_v9_0).slice (win0_8.rect t)).emb (ix2 r d) 1) := by
  refine congrArg₂ A (Fin.ext ?_) (Fin.ext ?_) <;> blk_point [idx t, rowAt]

/-- The attention output's gradient. -/
theorem final8 (c : Dev nD) : (dats m 0 c).arrAt 8 cfg0.N = fun i : S4096x1024.Idx => doV m c (i 0) (i 1) := by
  refine (dats m 0 c).arrAt_eq_of_covers 8 _ (by decide +kernel) fun t hf y => ?_
  blk_simp
  rw [after0_8]
  by_cases h : t.val % 16 = 0
  · rw [outsAt0_A m c t h]
    frame_out
    idx_vars y
    refine (pay16 _ _ _ _ _ _ _).trans ?_
    rw [row0, row1, row4a, gain6]
    exact at8 (doV m c) t y0 y1
  · rw [outsAt0_B m c t h]
    frame_out
    idx_vars y
    refine (pay16 _ _ _ _ _ _ _).trans ?_
    rw [row0, row1, row4a, gain6]
    exact at8 (doV m c) t y0 y1

theorem at10 (A : Fin 4096 → Fin 1024 → EReal) (t : Fin cfg0.N) (r : Fin 256) (d : Fin 1024) :
    A (rowAt t r) d = A (((View.whole main_v9_2).slice (win0_10.rect t)).emb (ix2 r d) 0)
      (((View.whole main_v9_2).slice (win0_10.rect t)).emb (ix2 r d) 1) := by
  refine congrArg₂ A (Fin.ext ?_) (Fin.ext ?_) <;> blk_point [idx t, rowAt]

/-- The attention gate's gradient. -/
theorem final10 (c : Dev nD) : (dats m 0 c).arrAt 10 cfg0.N = fun i : S4096x1024.Idx => dgaV m c (i 0) (i 1) := by
  refine (dats m 0 c).arrAt_eq_of_covers 10 _ (by decide +kernel) fun t hf y => ?_
  blk_simp
  rw [after0_10]
  by_cases h : t.val % 16 = 0
  · rw [outsAt0_A m c t h]
    frame_out
    idx_vars y
    refine (pay17 _ _ _ _ _ _ _).trans ?_
    rw [row0, row1, row4a, gain6]
    exact at10 (dgaV m c) t y0 y1
  · rw [outsAt0_B m c t h]
    frame_out
    idx_vars y
    refine (pay17 _ _ _ _ _ _ _).trans ?_
    rw [row0, row1, row4a, gain6]
    exact at10 (dgaV m c) t y0 y1

theorem at11 (A : Fin 4096 → Fin 1024 → EReal) (t : Fin cfg0.N) (r : Fin 256) (d : Fin 1024) :
    A (rowAt t r) d = A (((View.whole main_v9_3).slice (win0_11.rect t)).emb (ix2 r d) 0)
      (((View.whole main_v9_3).slice (win0_11.rect t)).emb (ix2 r d) 1) := by
  refine congrArg₂ A (Fin.ext ?_) (Fin.ext ?_) <;> blk_point [idx t, rowAt]

/-- The recurrence output's gradient. -/
theorem final11 (c : Dev nD) : (dats m 0 c).arrAt 11 cfg0.N = fun i : S4096x1024.Idx => dhV m c (i 0) (i 1) := by
  refine (dats m 0 c).arrAt_eq_of_covers 11 _ (by decide +kernel) fun t hf y => ?_
  blk_simp
  rw [after0_11]
  by_cases h : t.val % 16 = 0
  · rw [outsAt0_A m c t h]
    frame_out
    idx_vars y
    refine (pay2 _ _ _ _ _ _ _).trans ?_
    rw [row2, row3, row4l, gain7]
    exact at11 (dhV m c) t y0 y1
  · rw [outsAt0_B m c t h]
    frame_out
    idx_vars y
    refine (pay2 _ _ _ _ _ _ _).trans ?_
    rw [row2, row3, row4l, gain7]
    exact at11 (dhV m c) t y0 y1

theorem at12 (A : Fin 4096 → Fin 1024 → EReal) (t : Fin cfg0.N) (r : Fin 256) (d : Fin 1024) :
    A (rowAt t r) d = A (((View.whole main_v9_4).slice (win0_12.rect t)).emb (ix2 r d) 0)
      (((View.whole main_v9_4).slice (win0_12.rect t)).emb (ix2 r d) 1) := by
  refine congrArg₂ A (Fin.ext ?_) (Fin.ext ?_) <;> blk_point [idx t, rowAt]

/-- The recurrence gate's gradient. -/
theorem final12 (c : Dev nD) : (dats m 0 c).arrAt 12 cfg0.N = fun i : S4096x1024.Idx => dglV m c (i 0) (i 1) := by
  refine (dats m 0 c).arrAt_eq_of_covers 12 _ (by decide +kernel) fun t hf y => ?_
  blk_simp
  rw [after0_12]
  by_cases h : t.val % 16 = 0
  · rw [outsAt0_A m c t h]
    frame_out
    idx_vars y
    refine (pay3 _ _ _ _ _ _ _).trans ?_
    rw [row2, row3, row4l, gain7]
    exact at12 (dglV m c) t y0 y1
  · rw [outsAt0_B m c t h]
    frame_out
    idx_vars y
    refine (pay3 _ _ _ _ _ _ _).trans ?_
    rw [row2, row3, row4l, gain7]
    exact at12 (dglV m c) t y0 y1

theorem zero13 (j : S1x1024.Idx) : (k0_pay5 : FVec Ideal S1x1024 .f32) j = 0 := by
  idx_vars j
  obtain rfl : j0 = 0 := Subsingleton.elim _ _
  pointwise [k0_pay5]

theorem first13 (c : Dev nD) (t : Fin cfg0.N) (h : t.val % 16 = 0) (j : S1x1024.Idx) :
    (outsAt0 m c t.val t.isLt).2.2.2.2.2.1 j = 0 + ∑ r : Fin 256, gkaV m c (rowAt t r) (j 1) := by
  rw [outsAt0_A m c t h]
  frame_out
  idx_vars j
  obtain rfl : j0 = 0 := Subsingleton.elim _ _
  refine (pay18 _ _ _ _ _ _).trans ?_
  rw [zero13]
  simp only [row0, row1, row4a]
  rfl

theorem later13 (c : Dev nD) (t : Fin cfg0.N) (h : ¬ t.val % 16 = 0) (j : S1x1024.Idx) :
    (outsAt0 m c t.val t.isLt).2.2.2.2.2.1 j
      = (outsAt0 m c (t.val - 1) (lt_of_le_of_lt (Nat.sub_le _ _) t.isLt)).2.2.2.2.2.1 j + ∑ r : Fin 256, gkaV m c (rowAt t r) (j 1) := by
  rw [outsAt0_B m c t h]
  frame_out
  idx_vars j
  obtain rfl : j0 = 0 := Subsingleton.elim _ _
  refine (pay18 _ _ _ _ _ _).trans ?_
  simp only [row0, row1, row4a]
  rfl

/-- The attention gain's gradient. -/
theorem final13 (c : Dev nD) : (dats m 0 c).arrAt 13 cfg0.N = fun i : S1x1024.Idx => ∑ s : Fin 4096, gkaV m c s (i 1) := by
  refine (dats m 0 c).arrAt_eq_of_after_last 13 t0_15 (by decide +kernel) _ fun j => ?_
  blk_simp
  rw [after0_13]
  rw [Pipeline.eq_sum_fin_of_reset_step_apply_last (fun n h => (outsAt0 m c n h).2.2.2.2.2.1) 16 (fun _ => (0 : EReal))
    (fun t j => ∑ r : Fin 256, gkaV m c (rowAt t r) (j 1))
    (fun t h j => first13 m c t h j) (fun t h j => later13 m c t h j) (le_of_eq N_0) t0_15 rfl j, zero_add]
  exact (Fin.sum_univ_tiles 16 256 rfl fun s : Fin 4096 => gkaV m c s (j 1)).symm

theorem zero14 (j : S1x1024.Idx) : (k0_pay6 : FVec Ideal S1x1024 .f32) j = 0 := by
  idx_vars j
  obtain rfl : j0 = 0 := Subsingleton.elim _ _
  pointwise [k0_pay6]

theorem first14 (c : Dev nD) (t : Fin cfg0.N) (h : t.val % 16 = 0) (j : S1x1024.Idx) :
    (outsAt0 m c t.val t.isLt).2.2.2.2.2.2 j = 0 + ∑ r : Fin 256, gklV m c (rowAt t r) (j 1) := by
  rw [outsAt0_A m c t h]
  frame_out
  idx_vars j
  obtain rfl : j0 = 0 := Subsingleton.elim _ _
  refine (pay4 _ _ _ _ _ _).trans ?_
  rw [zero14]
  simp only [row2, row3, row4l]
  rfl

theorem later14 (c : Dev nD) (t : Fin cfg0.N) (h : ¬ t.val % 16 = 0) (j : S1x1024.Idx) :
    (outsAt0 m c t.val t.isLt).2.2.2.2.2.2 j
      = (outsAt0 m c (t.val - 1) (lt_of_le_of_lt (Nat.sub_le _ _) t.isLt)).2.2.2.2.2.2 j + ∑ r : Fin 256, gklV m c (rowAt t r) (j 1) := by
  rw [outsAt0_B m c t h]
  frame_out
  idx_vars j
  obtain rfl : j0 = 0 := Subsingleton.elim _ _
  refine (pay4 _ _ _ _ _ _).trans ?_
  simp only [row2, row3, row4l]
  rfl

/-- The recurrence gain's gradient. -/
theorem final14 (c : Dev nD) : (dats m 0 c).arrAt 14 cfg0.N = fun i : S1x1024.Idx => ∑ s : Fin 4096, gklV m c s (i 1) := by
  refine (dats m 0 c).arrAt_eq_of_after_last 14 t0_15 (by decide +kernel) _ fun j => ?_
  blk_simp
  rw [after0_14]
  rw [Pipeline.eq_sum_fin_of_reset_step_apply_last (fun n h => (outsAt0 m c n h).2.2.2.2.2.2) 16 (fun _ => (0 : EReal))
    (fun t j => ∑ r : Fin 256, gklV m c (rowAt t r) (j 1))
    (fun t h j => first14 m c t h j) (fun t h j => later14 m c t h j) (le_of_eq N_0) t0_15 rfl j, zero_add]
  exact (Fin.sum_univ_tiles 16 256 rfl fun s : Fin 4096 => gklV m c s (j 1)).symm

end Cert.Proof.Branch

end
-- ==== Proof.Branch.Reference.lean ====
/-
  The reference's results, row by row, in the kernel's formulas.
-/
module

public import proofs.«01_k».proof.Proof.Common
public import proofs.«01_k».proof.Proof.Prenorm.Maths
public import proofs.«01_k».proof.Proof.Branch.Rows
public import proofs.«01_k».proof.Proof.Gen.BranchRefIdeal
public import proofs.«01_k».proof.Proof.Gen.BranchRefIdeal.Run
public import proofs.«01_k».proof.Proof.Gen.BranchRefIdeal.Read

@[expose] public section

set_option maxRecDepth 16384

noncomputable section

open Idealize.ShloMosaic Idealize.ShloMosaic.TcCoe Cert.Common
open scoped BigOperators

namespace Cert.Proof.Branch

open Cert.BranchRefIdeal.Read Cert.BranchRefIdeal
open Cert.Proof.Prenorm (msq msq_pos rms_dx)

theorem lit_1 : Ideal.ofBits .f32 0x3F800000#32 = ((1 : ℝ) : EReal) := by
  simp [Ideal.ofBits, Ideal.ieee]
  rw [← EReal.coe_mul]
  norm_num

/-- The sigmoid on the reals. -/
def sigm (g : ℝ) : ℝ := 1 / (1 + Real.exp (-g))

theorem one_add_exp (g : ℝ) : (1 + Real.exp (-g)) ≠ 0 := (add_pos one_pos (Real.exp_pos _)).ne'

theorem half_tanh (g : ℝ) : 1 / 2 * Real.tanh (1 / 2 * g) + 1 / 2 = sigm g := by
  unfold sigm
  rw [Real.tanh_eq_sinh_div_cosh, Real.sinh_eq, Real.cosh_eq]
  have h1 : Real.exp (-g) = Real.exp (-(1 / 2 * g)) * Real.exp (-(1 / 2 * g)) := by rw [← Real.exp_add]; congr 1; ring
  have h2 : Real.exp (1 / 2 * g) * Real.exp (-(1 / 2 * g)) = 1 := by rw [← Real.exp_add]; simp
  have h3 := Real.exp_pos (1 / 2 * g)
  have h4 := Real.exp_pos (-(1 / 2 * g))
  rw [h1]
  generalize Real.exp (1 / 2 * g) = a at *
  generalize Real.exp (-(1 / 2 * g)) = b at *
  have h5 : a + b ≠ 0 := (add_pos h3 h4).ne'
  have h6 : 1 + b * b ≠ 0 := (add_pos one_pos (mul_pos h4 h4)).ne'
  field_simp
  linear_combination (2 * b) * h2

theorem sg_coe (g : ℝ) : sg (g : EReal) = (sigm g : EReal) := by
  unfold sg
  rw [lit_half, ← EReal.coe_mul, tanh_coe, ← EReal.coe_mul, ← EReal.coe_add, half_tanh]

theorem logistic_coe (g : ℝ) : Ideal.div ((1 : ℝ) : EReal) (((1 : ℝ) : EReal) + Ideal.exp (-(g : EReal))) = sg (g : EReal) := by
  rw [← EReal.coe_neg, exp_coe, ← EReal.coe_add, div_coe (one_add_exp g), sg_coe, sigm]

/-- The norm's row gradient by the chain rule through the mean square. -/
theorem chain (X G D : Fin 1024 → ℝ) (d : Fin 1024) (R M : EReal) (hM : M = (msq X 1024 : EReal)) (hR : R = Ideal.rsqrt M) :
    (D d : EReal) * (G d : EReal) * R
        + (X d : EReal) * Ideal.div ((∑ k, (X k : EReal) * ((D k : EReal) * (G k : EReal)))
            * (((-(1 / 2) : ℝ) : EReal) * Ideal.div R M)) ((1024 : ℝ) : EReal)
        + Ideal.div ((∑ k, (X k : EReal) * ((D k : EReal) * (G k : EReal)))
            * (((-(1 / 2) : ℝ) : EReal) * Ideal.div R M)) ((1024 : ℝ) : EReal) * (X d : EReal)
      = R * ((D d : EReal) * (G d : EReal)
        - (X d : EReal) * R * Ideal.div (∑ k, (D k : EReal) * (G k : EReal) * ((X k : EReal) * R)) ((1024 : ℝ) : EReal)) := by
  have hN : (0 : ℝ) < 1024 := by norm_num
  subst hR hM
  rw [rsqrt_coe (msq_pos _ hN)]
  have h := rms_dx X G D hN 0 d _ rfl
  rw [zero_add, zero_add] at h
  exact h.symm

theorem mean_real (X : Fin 1024 → ℝ) :
    Ideal.div (∑ x : Fin 1024, (X x : EReal) * (X x : EReal)) ((1024 : ℝ) : EReal) + (eps : EReal) = (msq X 1024 : EReal) := by
  have hN : (0 : ℝ) < 1024 := by norm_num
  simp only [← EReal.coe_mul, ← coe_sum, div_coe hN.ne', ← EReal.coe_add, msq]

/-- The reciprocal root's argument. -/
def ms (x : Fin 1024 → EReal) : EReal :=
  Ideal.div (∑ k : Fin 1024, x k * x k) (Ideal.ofBits .f32 0x44800000#32) + Ideal.ofBits .f32 0x358637BD#32

/-- The mean square's part of the norm's row gradient. -/
def mp (x g y G : Fin 1024 → EReal) : EReal :=
  Ideal.div ((∑ k, x k * (y k * (g k * sg (g k)) * G k)) * (Ideal.ofBits .f32 0xBF000000#32 * Ideal.div (rs x) (ms x)))
    (Ideal.ofBits .f32 0x44800000#32)

theorem isReal_sg {g : EReal} (h : IsReal g) : IsReal (sg g) := by
  obtain ⟨r, rfl⟩ := h; exact ⟨_, sg_coe r⟩

theorem isReal_rs {x : Fin 1024 → EReal} (h : ∀ k, IsReal (x k)) : IsReal (rs x) := by
  choose X hX using h
  unfold rs
  simp only [hX, lit_1024, lit_eps, mean_real]
  exact ⟨_, rsqrt_coe (msq_pos _ (by norm_num))⟩

theorem dv_chain {x g y G : Fin 1024 → EReal} (hx : ∀ k, IsReal (x k)) (hg : ∀ k, IsReal (g k)) (hy : ∀ k, IsReal (y k))
    (hG : ∀ k, IsReal (G k)) (d : Fin 1024) :
    y d * (g d * sg (g d)) * G d * rs x + x d * mp x g y G + mp x g y G * x d = dv x g y G d := by
  have hD : ∀ k, IsReal (dn g y k) := fun k => (hy k).mul ((hg k).mul (isReal_sg (hg k)))
  choose X hX using hx
  choose E hE using hG
  choose D hD using hD
  unfold mp ms dv rs
  have e : ∀ k, y k * (g k * sg (g k)) = D k := hD
  simp only [hX, hE, hD, e, lit_1024, lit_eps, lit_neg_half]
  exact chain X E D d _ _ (mean_real X) rfl

theorem dg_chain {x g y G : Fin 1024 → EReal} (hx : ∀ k, IsReal (x k)) (hg : ∀ k, IsReal (g k)) (hy : ∀ k, IsReal (y k))
    (hG : ∀ k, IsReal (G k)) (d : Fin 1024) :
    x d * rs x * G d * y d * sg (g d) + g d * (x d * rs x * G d * y d) * (sg (g d) * (1 - sg (g d)))
      = dg x g y G d := by
  unfold dg
  obtain ⟨X, hX⟩ := hx d
  obtain ⟨E, hE⟩ := hG d
  obtain ⟨Y, hY⟩ := hy d
  obtain ⟨u, hu⟩ := hg d
  obtain ⟨R, hR⟩ := isReal_rs hx
  obtain ⟨S, hS⟩ := isReal_sg (hg d)
  rw [hS]
  simp only [hX, hE, hY, hR, hu, lit_1, ← EReal.coe_one, ← EReal.coe_mul, ← EReal.coe_sub, ← EReal.coe_add]
  congr 1; ring

variable (x0 x1 : FVec Ideal S4096x1024 .f32) (x2 : FVec Ideal S4096x6152 .f32) (x3 : FVec Ideal S4096x1024 .bf16)
  (x4 : FVec Ideal S1x2048x1024 .f32) (x5 x6 : FVec Ideal S1x1024 .f32)

/-- A row of an argument. -/
def rowR (x : FVec Ideal S4096x1024 .f32) (s : Fin 4096) (k : Fin 1024) : EReal := x (ix2 s k)
/-- The attention gate's logits in the projection. -/
def gaR (s : Fin 4096) (k : Fin 1024) : EReal := x2 (ix2 s ⟨3080 + k.val, by omega⟩)
/-- The recurrence gate's logits in the projection. -/
def glR (s : Fin 4096) (k : Fin 1024) : EReal := x2 (ix2 s ⟨5128 + k.val, by omega⟩)
/-- The gradient of the first half of the gated rows. -/
def yaR (s : Fin 4096) (k : Fin 1024) : EReal := ∑ l : Fin 1024, x3 (ix2 s l) * x4 (ix3 0 ⟨k.val, by omega⟩ l)
/-- The gradient of the second half of the gated rows. -/
def ylR (s : Fin 4096) (k : Fin 1024) : EReal := ∑ l : Fin 1024, x3 (ix2 s l) * x4 (ix3 0 ⟨1024 + k.val, by omega⟩ l)
/-- The gain's row. -/
def gR (x : FVec Ideal S1x1024 .f32) (k : Fin 1024) : EReal := x (ix2 0 k)

theorem v45 (s : Fin 4096) (k : Fin 1024) : (val_main_v45 (F := Ideal) x3 x4 : FVec Ideal S4096x1024 .f32) (ix2 s k) = yaR x3 x4 s k := by
  pointwise [val_main_v45, val_main_v44, val_main_v43, val_main_v41, yaR]

theorem v46 (s : Fin 4096) (k : Fin 1024) : (val_main_v46 (F := Ideal) x3 x4 : FVec Ideal S4096x1024 .f32) (ix2 s k) = ylR x3 x4 s k := by
  pointwise [val_main_v46, val_main_v44, val_main_v43, val_main_v41, ylR]

theorem sigA (h2 : ∀ i, IsReal (x2 i)) (s : Fin 4096) (k : Fin 1024) :
    (val_main_v20_2 (F := Ideal) x2 : FVec Ideal S4096x1024 .f32) (ix2 s k) = sg (gaR x2 s k) := by
  pointwise [val_main_v20_2, val_main_call0_v4, val_main_call0_v3, val_main_call0_v2, val_main_call0_v1, val_main_call0_v0,
    val_main_call0_cst, val_main_call0_cst_0, val_main_v0, gaR]
  obtain ⟨g, hg⟩ := h2 (ix2 s ⟨3080 + k.val, by omega⟩)
  simp only [hg, lit_1]
  exact logistic_coe g

theorem sigL (h2 : ∀ i, IsReal (x2 i)) (s : Fin 4096) (k : Fin 1024) :
    (val_main_v38_2 (F := Ideal) x2 : FVec Ideal S4096x1024 .f32) (ix2 s k) = sg (glR x2 s k) := by
  pointwise [val_main_v38_2, val_main_call1_v4, val_main_call1_v3, val_main_call1_v2, val_main_call1_v1, val_main_call1_v0,
    val_main_call1_cst, val_main_call1_cst_0, val_main_v1, glR]
  obtain ⟨g, hg⟩ := h2 (ix2 s ⟨5128 + k.val, by omega⟩)
  simp only [hg, lit_1]
  exact logistic_coe g

theorem isReal_ya (h3 : ∀ i, IsReal (x3 i)) (h4 : ∀ i, IsReal (x4 i)) (s : Fin 4096) (k : Fin 1024) : IsReal (yaR x3 x4 s k) :=
  isReal_sum _ _ fun l => (h3 _).mul (h4 _)

theorem isReal_yl (h3 : ∀ i, IsReal (x3 i)) (h4 : ∀ i, IsReal (x4 i)) (s : Fin 4096) (k : Fin 1024) : IsReal (ylR x3 x4 s k) :=
  isReal_sum _ _ fun l => (h3 _).mul (h4 _)

/-- The reference's attention output gradient is the kernel's formula. -/
theorem ref92 (h0 : ∀ i, IsReal (x0 i)) (h2 : ∀ i, IsReal (x2 i)) (h3 : ∀ i, IsReal (x3 i)) (h4 : ∀ i, IsReal (x4 i)) (h5 : ∀ i, IsReal (x5 i))
    (s : Fin 4096) (d : Fin 1024) :
    (val_main_v92 (F := Ideal) x0 x2 x3 x4 x5 : FVec Ideal S4096x1024 .f32) (ix2 s d) = dv (rowR x0 s) (gaR x2 s) (yaR x3 x4 s) (gR x5) d := by
  have e1 : ∀ s d, val_main_v45 (F := Ideal) x3 x4 (ix2 s d) = yaR x3 x4 s d := v45 x3 x4
  have e2 : ∀ s d, val_main_v20_2 (F := Ideal) x2 (ix2 s d) = sg (gaR x2 s d) := sigA x2 h2
  have e3 : ∀ s (d : Fin 1024), x2 (ix2 s ⟨3080 + d.val, by omega⟩) = gaR x2 s d := fun _ _ => rfl
  pointwise [val_main_v92, val_main_v91, val_main_v90, val_main_v89, val_main_v88, val_main_v87, val_main_v86, val_main_v85, val_main_v84, val_main_v83, val_main_v82, val_main_v81, val_main_v80, val_main_v79, val_main_v77, val_main_v76, val_main_v71, val_main_v20_0, val_main_v0, val_main_v17, val_main_v2, val_main_v14, val_main_v13, val_main_v12, val_main_v11, val_main_v10, val_main_v9, val_main_v8, val_main_v7, val_main_v6, val_main_v5, val_main_v4, val_main_cst, val_main_cst_0, val_main_cst_1, val_main_cst_2, val_main_cst_14, val_main_cst_15, val_main_cst_16]
  simp only [e1, e2, e3, Finset.univ_unique, Finset.sum_singleton]
  exact dv_chain (x := rowR x0 s) (g := gaR x2 s) (y := yaR x3 x4 s) (G := gR x5) (fun k => h0 _) (fun k => h2 _) (isReal_ya x3 x4 h3 h4 s) (fun k => h5 _) d

/-- The reference's attention gate gradient is the kernel's formula. -/
theorem ref72 (h0 : ∀ i, IsReal (x0 i)) (h2 : ∀ i, IsReal (x2 i)) (h3 : ∀ i, IsReal (x3 i)) (h4 : ∀ i, IsReal (x4 i)) (h5 : ∀ i, IsReal (x5 i))
    (s : Fin 4096) (d : Fin 1024) :
    (val_main_v72 (F := Ideal) x0 x2 x3 x4 x5 : FVec Ideal S4096x1024 .f32) (ix2 s d) = dg (rowR x0 s) (gaR x2 s) (yaR x3 x4 s) (gR x5) d := by
  have e1 : ∀ s d, val_main_v45 (F := Ideal) x3 x4 (ix2 s d) = yaR x3 x4 s d := v45 x3 x4
  have e2 : ∀ s d, val_main_v20_2 (F := Ideal) x2 (ix2 s d) = sg (gaR x2 s d) := sigA x2 h2
  have e3 : ∀ s (d : Fin 1024), x2 (ix2 s ⟨3080 + d.val, by omega⟩) = gaR x2 s d := fun _ _ => rfl
  pointwise [val_main_v72, val_main_v70, val_main_v19, val_main_v18, val_main_v16, val_main_v15, val_main_v20_1, val_main_v0, val_main_v17, val_main_v2, val_main_v11, val_main_v10, val_main_v9, val_main_v8, val_main_v7, val_main_v6, val_main_v5, val_main_v4, val_main_cst, val_main_cst_0, val_main_cst_1, val_main_call3_v0, val_main_call3_v1, val_main_call3_v2, val_main_call0_v7, val_main_call0_v6, val_main_call0_cst_1]
  simp only [e1, e2, e3, Finset.univ_unique, Finset.sum_singleton]
  exact dg_chain (x := rowR x0 s) (g := gaR x2 s) (y := yaR x3 x4 s) (G := gR x5) (fun k => h0 _) (fun k => h2 _) (isReal_ya x3 x4 h3 h4 s) (fun k => h5 _) d

/-- The reference's attention gain gradient is the kernel's sum. -/
theorem ref102 (h2 : ∀ i, IsReal (x2 i)) (d : Fin 1024) :
    (val_main_v102 (F := Ideal) x0 x2 x3 x4 : FVec Ideal S1x1024 .f32) (ix2 0 d) = ∑ s : Fin 4096, gn (rowR x0 s) (gaR x2 s) (yaR x3 x4 s) d := by
  have e1 : ∀ s d, val_main_v45 (F := Ideal) x3 x4 (ix2 s d) = yaR x3 x4 s d := v45 x3 x4
  have e2 : ∀ s d, val_main_v20_2 (F := Ideal) x2 (ix2 s d) = sg (gaR x2 s d) := sigA x2 h2
  have e3 : ∀ s (d : Fin 1024), x2 (ix2 s ⟨3080 + d.val, by omega⟩) = gaR x2 s d := fun _ _ => rfl
  pointwise [val_main_v102, val_main_v78, val_main_v75, val_main_v74, val_main_v73, val_main_v71, val_main_v20_0, val_main_v0, val_main_v16, val_main_v15, val_main_v11, val_main_v10, val_main_v9, val_main_v8, val_main_v7, val_main_v6, val_main_v5, val_main_v4, val_main_cst, val_main_cst_0, val_main_cst_1, val_main_cst_12, val_main_cst_13]
  simp only [e1, e2, e3, Finset.univ_unique, Finset.sum_singleton]
  exact Finset.sum_congr rfl fun s _ => mul_comm _ _

theorem cast97 (s : Fin 4096) (d : Fin 1024) : (val_main_v97 (F := Ideal) x0 x2 x3 x4 x5 : FVec Ideal S4096x1024 .bf16) (ix2 s d)
    = (val_main_v92 (F := Ideal) x0 x2 x3 x4 x5 : FVec Ideal S4096x1024 .f32) (ix2 s d) := by
  unfold val_main_v97
  generalize val_main_v92 (F := Ideal) x0 x2 x3 x4 x5 = w
  pointwise []

theorem cast100 (s : Fin 4096) (d : Fin 1024) : (val_main_v100 (F := Ideal) x0 x2 x3 x4 x5 : FVec Ideal S4096x1024 .bf16) (ix2 s d)
    = (val_main_v72 (F := Ideal) x0 x2 x3 x4 x5 : FVec Ideal S4096x1024 .f32) (ix2 s d) := by
  unfold val_main_v100
  generalize val_main_v72 (F := Ideal) x0 x2 x3 x4 x5 = w
  pointwise []

/-- The reference's recurrence output gradient is the kernel's formula. -/
theorem ref69 (h0 : ∀ i, IsReal (x1 i)) (h2 : ∀ i, IsReal (x2 i)) (h3 : ∀ i, IsReal (x3 i)) (h4 : ∀ i, IsReal (x4 i)) (h5 : ∀ i, IsReal (x6 i))
    (s : Fin 4096) (d : Fin 1024) :
    (val_main_v69 (F := Ideal) x1 x2 x3 x4 x6 : FVec Ideal S4096x1024 .f32) (ix2 s d) = dv (rowR x1 s) (glR x2 s) (ylR x3 x4 s) (gR x6) d := by
  have e1 : ∀ s d, val_main_v46 (F := Ideal) x3 x4 (ix2 s d) = ylR x3 x4 s d := v46 x3 x4
  have e2 : ∀ s d, val_main_v38_2 (F := Ideal) x2 (ix2 s d) = sg (glR x2 s d) := sigL x2 h2
  have e3 : ∀ s (d : Fin 1024), x2 (ix2 s ⟨5128 + d.val, by omega⟩) = glR x2 s d := fun _ _ => rfl
  pointwise [val_main_v69, val_main_v68, val_main_v67, val_main_v66, val_main_v65, val_main_v64, val_main_v63, val_main_v62, val_main_v61, val_main_v60, val_main_v59, val_main_v58, val_main_v57, val_main_v56, val_main_v54, val_main_v53, val_main_v48, val_main_v38_0, val_main_v1, val_main_v35, val_main_v3, val_main_v32, val_main_v31, val_main_v30, val_main_v29, val_main_v28, val_main_v27, val_main_v26, val_main_v25, val_main_v24, val_main_v23, val_main_v22, val_main_cst_3, val_main_cst_4, val_main_cst_5, val_main_cst_6, val_main_cst_9, val_main_cst_10, val_main_cst_11]
  simp only [e1, e2, e3, Finset.univ_unique, Finset.sum_singleton]
  exact dv_chain (x := rowR x1 s) (g := glR x2 s) (y := ylR x3 x4 s) (G := gR x6) (fun k => h0 _) (fun k => h2 _) (isReal_yl x3 x4 h3 h4 s) (fun k => h5 _) d

/-- The reference's recurrence gate gradient is the kernel's formula. -/
theorem ref49 (h0 : ∀ i, IsReal (x1 i)) (h2 : ∀ i, IsReal (x2 i)) (h3 : ∀ i, IsReal (x3 i)) (h4 : ∀ i, IsReal (x4 i)) (h5 : ∀ i, IsReal (x6 i))
    (s : Fin 4096) (d : Fin 1024) :
    (val_main_v49 (F := Ideal) x1 x2 x3 x4 x6 : FVec Ideal S4096x1024 .f32) (ix2 s d) = dg (rowR x1 s) (glR x2 s) (ylR x3 x4 s) (gR x6) d := by
  have e1 : ∀ s d, val_main_v46 (F := Ideal) x3 x4 (ix2 s d) = ylR x3 x4 s d := v46 x3 x4
  have e2 : ∀ s d, val_main_v38_2 (F := Ideal) x2 (ix2 s d) = sg (glR x2 s d) := sigL x2 h2
  have e3 : ∀ s (d : Fin 1024), x2 (ix2 s ⟨5128 + d.val, by omega⟩) = glR x2 s d := fun _ _ => rfl
  pointwise [val_main_v49, val_main_v47, val_main_v37, val_main_v36, val_main_v34, val_main_v33, val_main_v38_1, val_main_v1, val_main_v35, val_main_v3, val_main_v29, val_main_v28, val_main_v27, val_main_v26, val_main_v25, val_main_v24, val_main_v23, val_main_v22, val_main_cst_3, val_main_cst_4, val_main_cst_5, val_main_call2_v0, val_main_call2_v1, val_main_call2_v2, val_main_call1_v7, val_main_call1_v6, val_main_call1_cst_1]
  simp only [e1, e2, e3, Finset.univ_unique, Finset.sum_singleton]
  exact dg_chain (x := rowR x1 s) (g := glR x2 s) (y := ylR x3 x4 s) (G := gR x6) (fun k => h0 _) (fun k => h2 _) (isReal_yl x3 x4 h3 h4 s) (fun k => h5 _) d

/-- The reference's recurrence gain gradient is the kernel's sum. -/
theorem ref103 (h2 : ∀ i, IsReal (x2 i)) (d : Fin 1024) :
    (val_main_v103 (F := Ideal) x1 x2 x3 x4 : FVec Ideal S1x1024 .f32) (ix2 0 d) = ∑ s : Fin 4096, gn (rowR x1 s) (glR x2 s) (ylR x3 x4 s) d := by
  have e1 : ∀ s d, val_main_v46 (F := Ideal) x3 x4 (ix2 s d) = ylR x3 x4 s d := v46 x3 x4
  have e2 : ∀ s d, val_main_v38_2 (F := Ideal) x2 (ix2 s d) = sg (glR x2 s d) := sigL x2 h2
  have e3 : ∀ s (d : Fin 1024), x2 (ix2 s ⟨5128 + d.val, by omega⟩) = glR x2 s d := fun _ _ => rfl
  pointwise [val_main_v103, val_main_v55, val_main_v52, val_main_v51, val_main_v50, val_main_v48, val_main_v38_0, val_main_v1, val_main_v34, val_main_v33, val_main_v29, val_main_v28, val_main_v27, val_main_v26, val_main_v25, val_main_v24, val_main_v23, val_main_v22, val_main_cst_3, val_main_cst_4, val_main_cst_5, val_main_cst_7, val_main_cst_8]
  simp only [e1, e2, e3, Finset.univ_unique, Finset.sum_singleton]
  exact Finset.sum_congr rfl fun s _ => mul_comm _ _

theorem cast101 (s : Fin 4096) (d : Fin 1024) : (val_main_v101 (F := Ideal) x1 x2 x3 x4 x6 : FVec Ideal S4096x1024 .bf16) (ix2 s d)
    = (val_main_v49 (F := Ideal) x1 x2 x3 x4 x6 : FVec Ideal S4096x1024 .f32) (ix2 s d) := by
  unfold val_main_v101
  generalize val_main_v49 (F := Ideal) x1 x2 x3 x4 x6 = w
  pointwise []

/-- The reference's sums of gradient times output, head by head. -/
theorem ref99 (h : Fin 8) (s : Fin 4096) (l : Fin 128) :
    (val_main_v99 (F := Ideal) x0 x2 x3 x4 x5 : FVec Ideal S8x4096x128 .f32) (ix3 h s l)
      = ∑ k : Fin 128, (val_main_v92 (F := Ideal) x0 x2 x3 x4 x5 : FVec Ideal S4096x1024 .f32) (ix2 s ⟨128 * h.val + k.val, by omega⟩)
          * x0 (ix2 s ⟨128 * h.val + k.val, by omega⟩) := by
  unfold val_main_v99 val_main_v98 val_main_v96 val_main_v95 val_main_v94 val_main_v93
  generalize val_main_v92 (F := Ideal) x0 x2 x3 x4 x5 = w
  pointwise [val_main_cst_17]
  refine Finset.sum_congr rfl fun k _ => ?_
  have e : (⟨h.val * 128 + k.val, by omega⟩ : Fin 1024) = ⟨128 * h.val + k.val, by omega⟩ := Fin.ext (by dsimp only; omega)
  rw [e]

end Cert.Proof.Branch

end
-- ==== Proof.Branch.Host.lean ====
/-
  The arrays the region finds, over the arguments.
-/
module

public import proofs.«01_k».proof.Proof.Branch.Kernel
public import proofs.«01_k».proof.Proof.Branch.Reference
public import Idealize.ShloMosaic.Lib.StableHlo.RunRead

@[expose] public section

set_option maxRecDepth 16384

noncomputable section

open Idealize.ShloMosaic Idealize.ShloMosaic.TcCoe Cert.Common
open scoped BigOperators

namespace Cert.Proof.Branch

open Cert.BranchIdeal Cert.BranchIdeal.Gen

variable (m : (ℓ : Loc nD τ sig) → Buf (Elt Ideal) ℓ)

theorem v6 (c : Dev nD) (s : Fin 4096) (l : Fin 3072) :
    (V m c main_v6 : FVec Ideal S4096x3200 .f32) (ix2 s ⟨l.val, by omega⟩)
      = (m ((c.tc : Thread nD τ).loc main_arg2) : FVec Ideal S4096x6152 .f32) (ix2 s ⟨3080 + l.val, by omega⟩) := by
  simp only [V, hostOps0, hostOps0_1, hostOps0_2, hostOps0_3, hostOps0_4,
    List.flatten_cons, List.flatten_nil, List.append_nil, List.cons_append, List.nil_append]
  after_reads_simp
  simp only [StableHlo.TRef.toBuf, StableHlo.TRef.ofBuf, cast_eq]
  clean_types
  have h : l.val < 3072 := l.isLt
  pointwise

theorem v8 (c : Dev nD) (s : Fin 2048) (l : Fin 1024) :
    (V m c main_v8 : FVec Ideal S2048x1024 .bf16) (ix2 s l)
      = (m ((c.tc : Thread nD τ).loc main_arg4) : FVec Ideal S1x2048x1024 .f32) (ix3 0 s l) := by
  simp only [V, hostOps0, hostOps0_1, hostOps0_2, hostOps0_3, hostOps0_4,
    List.flatten_cons, List.flatten_nil, List.append_nil, List.cons_append, List.nil_append]
  after_reads_simp
  clean_types
  pointwise

theorem halves {a : FVec Ideal S4096x1024 .bf16} {w : FVec Ideal S2048x1024 .bf16} {x : FVec Ideal S1x2048x1024 .f32}
    (h : ∀ s l, w (ix2 s l) = x (ix3 0 s l)) : yA a w = yaR a x ∧ yL a w = ylR a x := by
  constructor <;> funext s k
  · exact Finset.sum_congr rfl fun l _ => congrArg (_ * ·) (h _ l)
  · exact Finset.sum_congr rfl fun l _ => congrArg (_ * ·) (h _ l)

theorem gateA_eq (c : Dev nD) : gateA (V m c main_v6) = gaR (m ((c.tc : Thread nD τ).loc main_arg2)) := by
  funext s k
  exact v6 m c s ⟨k.val, by omega⟩

theorem gateL_eq (c : Dev nD) : gateL (V m c main_v6) = glR (m ((c.tc : Thread nD τ).loc main_arg2)) := by
  funext s k
  refine (v6 m c s ⟨2048 + k.val, by omega⟩).trans ?_
  unfold glR
  refine congrArg _ (congrArg (ix2 s) (Fin.ext ?_))
  dsimp only
  omega

theorem yA_eq (c : Dev nD) : yA (V m c main_arg3) (V m c main_v8)
    = yaR (m ((c.tc : Thread nD τ).loc main_arg3)) (m ((c.tc : Thread nD τ).loc main_arg4)) := by
  rw [V_main_arg3]
  exact (halves (v8 m c)).1

theorem yL_eq (c : Dev nD) : yL (V m c main_arg3) (V m c main_v8)
    = ylR (m ((c.tc : Thread nD τ).loc main_arg3)) (m ((c.tc : Thread nD τ).loc main_arg4)) := by
  rw [V_main_arg3]
  exact (halves (v8 m c)).2

end Cert.Proof.Branch

end
-- ==== Proof.Branch.Delta.lean ====
/-
  The kernel's sums of gradient times output, head by head, over its windows' arrays.
-/
module

public import proofs.«01_k».proof.Proof.Branch.Kernel

@[expose] public section

set_option maxRecDepth 16384

noncomputable section

open Idealize.ShloMosaic Idealize.ShloMosaic.TcCoe
open scoped BigOperators

namespace Cert.Proof.Branch

open Cert.BranchIdeal Cert.BranchIdeal.Gen
open Idealize.ShloMosaic.Pipeline (Dat)

variable (m : (ℓ : Loc nD τ sig) → Buf (Elt Ideal) ℓ)

theorem at9 (A : Fin 8 → Fin 4096 → EReal) (t : Fin cfg0.N) (h : Fin 8) (r : Fin 256) (l : Fin 128) :
    A h (rowAt t r) = A (((View.whole main_v9_1).slice (win0_9.rect t)).emb (ix3 h r l) 0)
      (((View.whole main_v9_1).slice (win0_9.rect t)).emb (ix3 h r l) 1) := by
  refine congrArg₂ A (Fin.ext ?_) (Fin.ext ?_) <;> blk_point [idx t, rowAt]

/-- One head's sums of the products' row, in the lanes of its tile. -/
def tile (p : FVec Ideal S256x1024 .f32) (h : Fin 8) (r : Fin 256) : EReal :=
  ∑ l : Fin 128, p (ix2 r ⟨128 * h.val + l.val, by omega⟩)

section Tiles

variable (p : FVec Ideal S256x1024 .f32) (r : Fin 256) (l : Fin 128)

theorem tile23 : k0_pay23 p (ix3 0 r l) = tile p 2 r := by
  pointwise [k0_pay23, tile]

theorem tile24 : k0_pay24 p (ix3 0 r l) = tile p 3 r := by
  pointwise [k0_pay24, tile]

theorem tile25 : k0_pay25 p (ix3 0 r l) = tile p 4 r := by
  pointwise [k0_pay25, tile]

theorem tile26 : k0_pay26 p (ix3 0 r l) = tile p 5 r := by
  pointwise [k0_pay26, tile]

theorem tile27 : k0_pay27 p (ix3 0 r l) = tile p 6 r := by
  pointwise [k0_pay27, tile]

theorem tile28 : k0_pay28 p (ix3 0 r l) = tile p 7 r := by
  pointwise [k0_pay28, tile]

variable (x : FVec Ideal S256x1024 .f32) (G : FVec Ideal S1x1024 .f32) (s : FVec Ideal S256x1 .f32) (u v : FVec Ideal S256x1024 .f32)

theorem tile22 : k0_pay22 (k0_pay21 x G s u v) (ix3 0 r l) = tile (k0_pay19 x G s u v) 1 r := by
  unfold k0_pay21
  generalize k0_pay19 x G s u v = p
  pointwise [k0_pay22, tile]

theorem tile20 : k0_pay20 x G s u v (ix3 0 r l) = tile (k0_pay19 x G s u v) 0 r := by
  unfold k0_pay20
  generalize k0_pay19 x G s u v = p
  pointwise [tile]

end Tiles

theorem tileV (c : Dev nD) (t : Fin cfg0.N) (h : Fin 8) (r : Fin 256) :
    tile (k0_pay19 (iblk m c 0 t) (iblk m c 6 t) (k0_pay10 (iblk m c 0 t)) (k0_pay11 (iblk m c 0 t))
        (k0_pay14 (iblk m c 4 t) (iblk m c 5 t) (X0_1 m c t))) h r = dlV m c h (rowAt t r) := by
  unfold tile dlV dl
  refine Finset.sum_congr rfl fun l _ => (pay19 _ _ _ _ _ _ _).trans ?_
  rw [row0, row1, row4a, gain6]
  exact congrArg (_ * ·) (congrFun (row0 m c t r) _)

theorem at_tile (c : Dev nD) (t : Fin cfg0.N) (y : S8x256x128.Idx) (x : S1x256x128.Idx) (h : Fin 8)
    (h0 : (y 0).val = h.val + (x 0).val) (h1 : (y 1).val = (x 1).val) {q : FVec Ideal S1x256x128 .f32}
    (hq : ∀ r l, q (ix3 0 r l) = dlV m c h (rowAt t r)) : q x = dlV m c (y 0) (rowAt t (y 1)) := by
  idx_vars x
  idx_vars y
  obtain rfl : x0 = 0 := Subsingleton.elim _ _
  have e0 : y0 = h := Fin.ext h0
  have e1 : y1 = x1 := Fin.ext h1
  subst e0 e1
  exact hq _ _

theorem block9 (c : Dev nD) (t : Fin cfg0.N) (y : S8x256x128.Idx) :
    (outsAt0 m c t.val t.isLt).2.1 y = dlV m c (y 0) (rowAt t (y 1)) := by
  by_cases h : t.val % 16 = 0
  · rw [outsAt0_A m c t h]
    frame_out
    clear h
    canon_tiles x h
    · exact at_tile m c t y x 7 h0 h1 (fun r l => (tile28 _ _ _).trans (tileV m c t 7 r))
    · exact at_tile m c t y x 6 h0 h1 (fun r l => (tile27 _ _ _).trans (tileV m c t 6 r))
    · exact at_tile m c t y x 5 h0 h1 (fun r l => (tile26 _ _ _).trans (tileV m c t 5 r))
    · exact at_tile m c t y x 4 h0 h1 (fun r l => (tile25 _ _ _).trans (tileV m c t 4 r))
    · exact at_tile m c t y x 3 h0 h1 (fun r l => (tile24 _ _ _).trans (tileV m c t 3 r))
    · exact at_tile m c t y x 2 h0 h1 (fun r l => (tile23 _ _ _).trans (tileV m c t 2 r))
    · exact at_tile m c t y x 1 h0 h1 (fun r l => (tile22 _ _ _ _ _ _ _).trans (tileV m c t 1 r))
    · exact at_tile m c t y x 0 (h0.trans (Nat.zero_add _).symm) h1 (fun r l => (tile20 _ _ _ _ _ _ _).trans (tileV m c t 0 r))
  · rw [outsAt0_B m c t h]
    frame_out
    clear h
    canon_tiles x h
    · exact at_tile m c t y x 7 h0 h1 (fun r l => (tile28 _ _ _).trans (tileV m c t 7 r))
    · exact at_tile m c t y x 6 h0 h1 (fun r l => (tile27 _ _ _).trans (tileV m c t 6 r))
    · exact at_tile m c t y x 5 h0 h1 (fun r l => (tile26 _ _ _).trans (tileV m c t 5 r))
    · exact at_tile m c t y x 4 h0 h1 (fun r l => (tile25 _ _ _).trans (tileV m c t 4 r))
    · exact at_tile m c t y x 3 h0 h1 (fun r l => (tile24 _ _ _).trans (tileV m c t 3 r))
    · exact at_tile m c t y x 2 h0 h1 (fun r l => (tile23 _ _ _).trans (tileV m c t 2 r))
    · exact at_tile m c t y x 1 h0 h1 (fun r l => (tile22 _ _ _ _ _ _ _).trans (tileV m c t 1 r))
    · exact at_tile m c t y x 0 (h0.trans (Nat.zero_add _).symm) h1 (fun r l => (tile20 _ _ _ _ _ _ _).trans (tileV m c t 0 r))

theorem final9 (c : Dev nD) : (dats m 0 c).arrAt 9 cfg0.N = fun i : S8x4096x128.Idx => dlV m c (i 0) (i 1) := by
  refine (dats m 0 c).arrAt_eq_of_covers 9 _ (by decide +kernel) fun t hf y => ?_
  blk_simp
  rw [after0_9]
  refine (block9 m c t y).trans ?_
  idx_vars y
  exact at9 (dlV m c) t _ _ _

end Cert.Proof.Branch

end
-- ==== Proof.Branch.Algebraic.lean ====
/-
  The kernel's arrays are the reference's.
-/
module

public import proofs.«01_k».proof.Defs
public import proofs.«01_k».proof.Proof.Branch.Host
public import proofs.«01_k».proof.Proof.Branch.Delta
public import proofs.«01_k».proof.Proof.Gen.BranchIdeal.Value
public import proofs.«01_k».proof.Proof.Gen.Pre_branch_finite

@[expose] public section

set_option maxRecDepth 16384

noncomputable section

open Idealize.ShloMosaic Idealize.ShloMosaic.TcCoe Cert.Common
open scoped BigOperators

namespace Cert.Proof.Branch

open Cert.BranchIdeal Cert.BranchIdeal.Gen
open Cert.BranchRefIdeal.Read

/-- The finiteness of the arguments, array by array. -/
theorem reals {m : (ℓ : Loc nD τ sig) → Buf (Elt Ideal) ℓ} (hpre : Cert.Pre_BranchIdeal_branch_finite m) (c : Dev nD) :
    (∀ i, IsReal ((m ((c.tc : Thread nD τ).loc main_arg0) : FVec Ideal S4096x1024 .f32) i))
    ∧ (∀ i, IsReal ((m ((c.tc : Thread nD τ).loc main_arg1) : FVec Ideal S4096x1024 .f32) i))
    ∧ (∀ i, IsReal ((m ((c.tc : Thread nD τ).loc main_arg2) : FVec Ideal S4096x6152 .f32) i))
    ∧ (∀ i, IsReal ((m ((c.tc : Thread nD τ).loc main_arg3) : FVec Ideal S4096x1024 .bf16) i))
    ∧ (∀ i, IsReal ((m ((c.tc : Thread nD τ).loc main_arg4) : FVec Ideal S1x2048x1024 .f32) i))
    ∧ (∀ i, IsReal ((m ((c.tc : Thread nD τ).loc main_arg5) : FVec Ideal S1x1024 .f32) i))
    ∧ (∀ i, IsReal ((m ((c.tc : Thread nD τ).loc main_arg6) : FVec Ideal S1x1024 .f32) i)) := by
  obtain ⟨h, r6⟩ := andi_one (congrFun (hpre c) ix0)
  obtain ⟨h, r5⟩ := andi_one h
  obtain ⟨h, r4⟩ := andi_one h
  obtain ⟨h, r3⟩ := andi_one h
  obtain ⟨h, r2⟩ := andi_one h
  obtain ⟨r0, r1⟩ := andi_one h
  exact ⟨real_of_all _ _ _ _ _ _ lit_inf r0, real_of_all _ _ _ _ _ _ lit_inf r1, real_of_all _ _ _ _ _ _ lit_inf r2, real_of_all _ _ _ _ _ _ lit_inf_bf16 r3, real_of_all _ _ _ _ _ _ lit_inf r4, real_of_all _ _ _ _ _ _ lit_inf r5, real_of_all _ _ _ _ _ _ lit_inf r6⟩

theorem algebraic : Cert.algebraic_BranchIdeal_BranchRefIdeal_pre_branch_finite := by
  intro m g m' g' hpre hagree
  refine ⟨_, _, _, _, _, _, _, Cert.BranchIdeal.Value.run_blocks m g, ?_⟩
  refine (θ_run _ _ _).mono (fun r h c => ?_) (Cert.BranchRefIdeal.Value.run m' g')
  obtain ⟨e0, e1, e2, e3, e4, e5, e6⟩ := hagree c
  obtain ⟨r0, r1, r2, r3, r4, r5, r6⟩ := reals hpre c
  have ga := gateA_eq m c
  have gl := gateL_eq m c
  have ya := yA_eq m c
  have yl := yL_eq m c
  obtain ⟨h0, h1, h2, h3, h4, h5, h6, h7⟩ := h c
  refine ⟨h0.trans ?_, h1.trans ?_, h2.trans ?_, h3.trans ?_, h4.trans ?_, h5.trans ?_, h6.trans ?_, h7⟩
  · rw [val_main_v97_eq, e0, e2, e3, e4, e5]
    refine Eq.trans ?_ (final8 m c).symm
    funext y
    idx_vars y
    refine ((cast97 _ _ _ _ _ _ _).trans (ref92 _ _ _ _ _ r0 r2 r3 r4 r5 _ _)).trans ?_
    show _ = doV m c _ _
    unfold doV
    rw [ga, ya, V_main_arg0, V_main_arg5]
    rfl
  · rw [val_main_v99_eq, e0, e2, e3, e4, e5]
    refine Eq.trans ?_ (final9 m c).symm
    funext y
    idx_vars y
    refine (ref99 _ _ _ _ _ _ _ _).trans ?_
    show _ = dlV m c _ _
    unfold dlV dl
    rw [ga, ya, V_main_arg0, V_main_arg5]
    exact Finset.sum_congr rfl fun k _ => congrArg (· * _) (ref92 _ _ _ _ _ r0 r2 r3 r4 r5 _ _)
  · rw [val_main_v100_eq, e0, e2, e3, e4, e5]
    refine Eq.trans ?_ (final10 m c).symm
    funext y
    idx_vars y
    refine ((cast100 _ _ _ _ _ _ _).trans (ref72 _ _ _ _ _ r0 r2 r3 r4 r5 _ _)).trans ?_
    show _ = dgaV m c _ _
    unfold dgaV
    rw [ga, ya, V_main_arg0, V_main_arg5]
    rfl
  · rw [val_main_v69_eq, e1, e2, e3, e4, e6]
    refine Eq.trans ?_ (final11 m c).symm
    funext y
    idx_vars y
    refine (ref69 _ _ _ _ _ r1 r2 r3 r4 r6 _ _).trans ?_
    show _ = dhV m c _ _
    unfold dhV
    rw [gl, yl, V_main_arg1, V_main_arg6]
    rfl
  · rw [val_main_v101_eq, e1, e2, e3, e4, e6]
    refine Eq.trans ?_ (final12 m c).symm
    funext y
    idx_vars y
    refine ((cast101 _ _ _ _ _ _ _).trans (ref49 _ _ _ _ _ r1 r2 r3 r4 r6 _ _)).trans ?_
    show _ = dglV m c _ _
    unfold dglV
    rw [gl, yl, V_main_arg1, V_main_arg6]
    rfl
  · refine (val_main_v102_eq _ _ _ _).trans ?_
    rw [e0, e2, e3, e4]
    refine Eq.trans ?_ (final13 m c).symm
    funext y
    idx_vars y
    obtain rfl : y0 = 0 := Subsingleton.elim _ _
    refine (ref102 _ _ _ _ r2 _).trans ?_
    show _ = ∑ s : Fin 4096, gkaV m c s _
    unfold gkaV
    rw [ga, ya, V_main_arg0]
    rfl
  · refine (val_main_v103_eq _ _ _ _).trans ?_
    rw [e1, e2, e3, e4]
    refine Eq.trans ?_ (final14 m c).symm
    funext y
    idx_vars y
    obtain rfl : y0 = 0 := Subsingleton.elim _ _
    refine (ref103 _ _ _ _ r2 _).trans ?_
    show _ = ∑ s : Fin 4096, gklV m c s _
    unfold gklV
    rw [gl, yl, V_main_arg1]
    rfl

end Cert.Proof.Branch

end
-- ==== Proof.Head.Rows.lean ====
/-
  One row of the loss and its gradients, and the kernel's blocks read as such rows.
-/
module

public import proofs.«01_k».proof.Proof.Common
public import proofs.«01_k».proof.Proof.Branch.Reference
public import proofs.«01_k».proof.Proof.Gen.HeadIdeal.Frame
public import Idealize.ShloMosaic.Lib.Pipeline.ValueKit
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe
open scoped BigOperators

namespace Cert.Proof.Head

open Cert.HeadIdeal Cert.HeadIdeal.Gen
open Cert.Proof.Branch (rs sg)

/-- The gradient of the row `x` under the norm with gain `G`, from the gradient `D` of the normed row. -/
def nb (x D G : Fin 1024 → EReal) (d : Fin 1024) : EReal :=
  rs x * (D d * G d - x d * rs x * Ideal.div (∑ k : Fin 1024, D k * G k * (x k * rs x)) (Ideal.ofBits .f32 0x44800000#32))

/-- A row of the embedding's projection. -/
def pr (p : Fin 256 → EReal) (E : Fin 256 → Fin 1024 → EReal) (d : Fin 1024) : EReal := ∑ k : Fin 256, p k * E k d

section Row

variable (h x t : Fin 1024 → EReal) (W : Fin 1024 → Fin 1024 → EReal) (kg b : Fin 1024 → EReal) (d : Fin 1024)

/-- The gate of the row `h`. -/
def ga : EReal := sg ((∑ k : Fin 1024, h k * W k d) + b d)

/-- The output row less its target. -/
def df : EReal := h d + ga h W b d * (x d * rs x * kg d) - t d

/-- The gradient of the output row. -/
def dy : EReal := df h x t W kg b d * Ideal.ofBits .f32 0x3A800000#32

/-- The gradient of the gate's logits. -/
def dq : EReal :=
  dy h x t W kg b d * (x d * rs x * kg d) * ga h W b d * (Ideal.ofBits .f32 0x3F800000#32 - ga h W b d)

/-- The gradient of the normed embedding row times its gain. -/
def de : EReal := dy h x t W kg b d * ga h W b d

/-- The gradient of the embedding row. -/
def dp : EReal := nb x (de h x t W kg b) kg d

/-- The gradient of the row `h`. -/
def dh : EReal := dy h x t W kg b d + ∑ k : Fin 1024, dq h x t W kg b k * W d k

/-- The row's mean square error. -/
def ls : EReal := Ideal.div (∑ k : Fin 1024, df h x t W kg b k * df h x t W kg b k) (Ideal.ofBits .f32 0x44800000#32)

end Row

section Blocks

variable (h t m : FVec Ideal S256x1024 .f32) (p : FVec Ideal S256x256 .f32) (W : FVec Ideal S1024x1024 .bf16)
  (E : FVec Ideal S256x1024 .bf16) (kg b pg acc : FVec Ideal S1x1024 .f32) (r : Fin 256) (d : Fin 1024)

/-- Row `r` of a block. -/
def rowOf (x : FVec Ideal S256x1024 .f32) (r : Fin 256) (k : Fin 1024) : EReal := x (ix2 r k)

/-- Row `r` of the projected embedding block. -/
def peOf (r : Fin 256) : Fin 1024 → EReal := pr (fun k => p (ix2 r k)) (fun k d => E (ix2 k d))

/-- The gate's weights. -/
def gateOf (k d : Fin 1024) : EReal := W (ix2 k d)

/-- A gain's row. -/
def gainOf (G : FVec Ideal S1x1024 .f32) (k : Fin 1024) : EReal := G (ix2 0 k)

theorem pay8 : k0_pay8 (F := Ideal) p E (ix2 r d) = peOf p E r d := by
  pointwise [k0_pay8, peOf, pr]

theorem pay10 : k0_pay10 (F := Ideal) p E (ix2 r d) = peOf p E r d * rs (peOf p E r) := by
  have e : ∀ r d, k0_pay8 (F := Ideal) p E (ix2 r d) = peOf p E r d := pay8 p E
  unfold k0_pay10 k0_pay9
  generalize k0_pay8 (F := Ideal) p E = z at e
  pointwise [rs]
  simp only [e]

theorem pay9 : k0_pay9 (F := Ideal) p E (ix2 r 0) = rs (peOf p E r) := by
  have e : ∀ r d, k0_pay8 (F := Ideal) p E (ix2 r d) = peOf p E r d := pay8 p E
  unfold k0_pay9
  generalize k0_pay8 (F := Ideal) p E = z at e
  pointwise [rs]
  simp only [e]

theorem pay11 : k0_pay11 (F := Ideal) p E kg (ix2 r d) = peOf p E r d * rs (peOf p E r) * gainOf kg d := by
  have e : ∀ r d, k0_pay10 (F := Ideal) p E (ix2 r d) = peOf p E r d * rs (peOf p E r) := pay10 p E
  unfold k0_pay11
  generalize k0_pay10 (F := Ideal) p E = z at e
  pointwise [gainOf]
  simp only [e]

theorem pay13 : k0_pay13 (F := Ideal) (k0_pay12 h W b) (Scalar.ofBits .f32 0x3F000000#32) (ix2 r d) = ga (rowOf h r) (gateOf W) (gainOf b) d := by
  pointwise [k0_pay13, k0_pay12, k0_pay7, ga, sg, rowOf, gateOf, gainOf]

theorem pay14 : k0_pay14 (F := Ideal) (k0_pay7 h) (k0_pay11 p E kg) (k0_pay12 h W b) (Scalar.ofBits .f32 0x3F000000#32) t (ix2 r d)
    = df (rowOf h r) (peOf p E r) (rowOf t r) (gateOf W) (gainOf kg) (gainOf b) d := by
  have e : ∀ r d, k0_pay13 (F := Ideal) (k0_pay12 h W b) (Scalar.ofBits .f32 0x3F000000#32) (ix2 r d) = ga (rowOf h r) (gateOf W) (gainOf b) d := pay13 h W b
  have f : ∀ r d, k0_pay11 (F := Ideal) p E kg (ix2 r d) = peOf p E r d * rs (peOf p E r) * gainOf kg d := pay11 p E kg
  unfold k0_pay14
  generalize k0_pay13 (F := Ideal) (k0_pay12 h W b) (Scalar.ofBits .f32 0x3F000000#32) = z at e
  generalize k0_pay11 (F := Ideal) p E kg = y at f
  pointwise [k0_pay7, df, rowOf]
  simp only [e, f]

theorem pay16 : k0_pay16 (F := Ideal) (k0_pay7 h) (k0_pay11 p E kg) (k0_pay12 h W b) (Scalar.ofBits .f32 0x3F000000#32) t (ix2 r d)
    = dy (rowOf h r) (peOf p E r) (rowOf t r) (gateOf W) (gainOf kg) (gainOf b) d := by
  have e := pay14 h t p W E kg b r d
  unfold k0_pay16
  generalize k0_pay14 (F := Ideal) (k0_pay7 h) (k0_pay11 p E kg) (k0_pay12 h W b) (Scalar.ofBits .f32 0x3F000000#32) t = z at e
  pointwise [dy]
  simp only [e]

theorem pay17 : k0_pay17 (F := Ideal) (k0_pay7 h) (k0_pay11 p E kg) (k0_pay12 h W b) (Scalar.ofBits .f32 0x3F000000#32) t (ix2 r d)
    = dq (rowOf h r) (peOf p E r) (rowOf t r) (gateOf W) (gainOf kg) (gainOf b) d := by
  have e := pay16 h t p W E kg b r d
  have f := pay11 p E kg r d
  have g := pay13 h W b r d
  unfold k0_pay17
  generalize k0_pay16 (F := Ideal) (k0_pay7 h) (k0_pay11 p E kg) (k0_pay12 h W b) (Scalar.ofBits .f32 0x3F000000#32) t = z at e
  generalize k0_pay11 (F := Ideal) p E kg = y at f
  generalize k0_pay13 (F := Ideal) (k0_pay12 h W b) (Scalar.ofBits .f32 0x3F000000#32) = w at g
  pointwise [dq]
  simp only [e, f, g]

theorem pay18 : k0_pay18 (F := Ideal) (k0_pay7 h) (k0_pay11 p E kg) (k0_pay12 h W b) (Scalar.ofBits .f32 0x3F000000#32) t (ix2 r d)
    = dq (rowOf h r) (peOf p E r) (rowOf t r) (gateOf W) (gainOf kg) (gainOf b) d := by
  have e := pay17 h t p W E kg b r d
  unfold k0_pay18
  generalize k0_pay17 (F := Ideal) (k0_pay7 h) (k0_pay11 p E kg) (k0_pay12 h W b) (Scalar.ofBits .f32 0x3F000000#32) t = z at e
  pointwise []
  exact e

theorem pay20 : k0_pay20 (F := Ideal) (k0_pay7 h) (k0_pay11 p E kg) (k0_pay12 h W b) (Scalar.ofBits .f32 0x3F000000#32) t (ix2 r d)
    = de (rowOf h r) (peOf p E r) (rowOf t r) (gateOf W) (gainOf kg) (gainOf b) d := by
  have e := pay16 h t p W E kg b r d
  have g := pay13 h W b r d
  unfold k0_pay20
  generalize k0_pay16 (F := Ideal) (k0_pay7 h) (k0_pay11 p E kg) (k0_pay12 h W b) (Scalar.ofBits .f32 0x3F000000#32) t = z at e
  generalize k0_pay13 (F := Ideal) (k0_pay12 h W b) (Scalar.ofBits .f32 0x3F000000#32) = w at g
  pointwise [de]
  simp only [e, g]

theorem pay15 (l : FVec Ideal S1x1 .f32) : k0_pay15 (F := Ideal) (k0_pay7 h) (k0_pay11 p E kg) (k0_pay12 h W b) (Scalar.ofBits .f32 0x3F000000#32) t l (ix2 0 0)
    = l (ix2 0 0) + Ideal.ofBits .f32 0x3F000000#32
      * ∑ r : Fin 256, ls (rowOf h r) (peOf p E r) (rowOf t r) (gateOf W) (gainOf kg) (gainOf b) := by
  have e : ∀ r d, k0_pay14 (F := Ideal) (k0_pay7 h) (k0_pay11 p E kg) (k0_pay12 h W b) (Scalar.ofBits .f32 0x3F000000#32) t (ix2 r d)
    = df (rowOf h r) (peOf p E r) (rowOf t r) (gateOf W) (gainOf kg) (gainOf b) d := pay14 h t p W E kg b
  unfold k0_pay15
  generalize k0_pay14 (F := Ideal) (k0_pay7 h) (k0_pay11 p E kg) (k0_pay12 h W b) (Scalar.ofBits .f32 0x3F000000#32) t = z at e
  pointwise [ls]
  simp only [e]

theorem pay19 : k0_pay19 (F := Ideal) (k0_pay7 h) (k0_pay11 p E kg) (k0_pay12 h W b) (Scalar.ofBits .f32 0x3F000000#32) t acc (ix2 0 d)
    = acc (ix2 0 d) + ∑ r : Fin 256, dq (rowOf h r) (peOf p E r) (rowOf t r) (gateOf W) (gainOf kg) (gainOf b) d := by
  have e : ∀ r d, k0_pay17 (F := Ideal) (k0_pay7 h) (k0_pay11 p E kg) (k0_pay12 h W b) (Scalar.ofBits .f32 0x3F000000#32) t (ix2 r d)
    = dq (rowOf h r) (peOf p E r) (rowOf t r) (gateOf W) (gainOf kg) (gainOf b) d := pay17 h t p W E kg b
  unfold k0_pay19
  generalize k0_pay17 (F := Ideal) (k0_pay7 h) (k0_pay11 p E kg) (k0_pay12 h W b) (Scalar.ofBits .f32 0x3F000000#32) t = z at e
  pointwise []
  simp only [e]

theorem pay21 : k0_pay21 (F := Ideal) (k0_pay10 p E) (k0_pay20 (k0_pay7 h) (k0_pay11 p E kg) (k0_pay12 h W b) (Scalar.ofBits .f32 0x3F000000#32) t) acc (ix2 0 d)
    = acc (ix2 0 d) + ∑ r : Fin 256, de (rowOf h r) (peOf p E r) (rowOf t r) (gateOf W) (gainOf kg) (gainOf b) d
        * (peOf p E r d * rs (peOf p E r)) := by
  have e : ∀ r d, k0_pay20 (F := Ideal) (k0_pay7 h) (k0_pay11 p E kg) (k0_pay12 h W b) (Scalar.ofBits .f32 0x3F000000#32) t (ix2 r d)
    = de (rowOf h r) (peOf p E r) (rowOf t r) (gateOf W) (gainOf kg) (gainOf b) d := pay20 h t p W E kg b
  have f : ∀ r d, k0_pay10 (F := Ideal) p E (ix2 r d) = peOf p E r d * rs (peOf p E r) := pay10 p E
  generalize k0_pay20 (F := Ideal) (k0_pay7 h) (k0_pay11 p E kg) (k0_pay12 h W b) (Scalar.ofBits .f32 0x3F000000#32) t = z at e
  generalize k0_pay10 (F := Ideal) p E = y at f
  pointwise [k0_pay21]
  simp only [e, f]

theorem pay22 : k0_pay22 (F := Ideal) (k0_pay9 p E) (k0_pay10 p E) (k0_pay20 (k0_pay7 h) (k0_pay11 p E kg) (k0_pay12 h W b) (Scalar.ofBits .f32 0x3F000000#32) t) kg (ix2 r d)
    = dp (rowOf h r) (peOf p E r) (rowOf t r) (gateOf W) (gainOf kg) (gainOf b) d := by
  have e : ∀ r d, k0_pay20 (F := Ideal) (k0_pay7 h) (k0_pay11 p E kg) (k0_pay12 h W b) (Scalar.ofBits .f32 0x3F000000#32) t (ix2 r d)
    = de (rowOf h r) (peOf p E r) (rowOf t r) (gateOf W) (gainOf kg) (gainOf b) d := pay20 h t p W E kg b
  have f : ∀ r d, k0_pay10 (F := Ideal) p E (ix2 r d) = peOf p E r d * rs (peOf p E r) := pay10 p E
  have g : ∀ r, k0_pay9 (F := Ideal) p E (ix2 r 0) = rs (peOf p E r) := pay9 p E
  generalize k0_pay20 (F := Ideal) (k0_pay7 h) (k0_pay11 p E kg) (k0_pay12 h W b) (Scalar.ofBits .f32 0x3F000000#32) t = z at e
  generalize k0_pay10 (F := Ideal) p E = y at f
  generalize k0_pay9 (F := Ideal) p E = w at g
  pointwise [k0_pay22, dp, nb]
  simp only [e, f, g]
  rfl

theorem pay23 : k0_pay23 (F := Ideal) (k0_pay16 (k0_pay7 h) (k0_pay11 p E kg) (k0_pay12 h W b) (Scalar.ofBits .f32 0x3F000000#32) t)
      (k0_pay18 (k0_pay7 h) (k0_pay11 p E kg) (k0_pay12 h W b) (Scalar.ofBits .f32 0x3F000000#32) t) W (ix2 r d)
    = dh (rowOf h r) (peOf p E r) (rowOf t r) (gateOf W) (gainOf kg) (gainOf b) d := by
  have e : ∀ r d, k0_pay16 (F := Ideal) (k0_pay7 h) (k0_pay11 p E kg) (k0_pay12 h W b) (Scalar.ofBits .f32 0x3F000000#32) t (ix2 r d)
    = dy (rowOf h r) (peOf p E r) (rowOf t r) (gateOf W) (gainOf kg) (gainOf b) d := pay16 h t p W E kg b
  have f : ∀ r d, k0_pay18 (F := Ideal) (k0_pay7 h) (k0_pay11 p E kg) (k0_pay12 h W b) (Scalar.ofBits .f32 0x3F000000#32) t (ix2 r d)
    = dq (rowOf h r) (peOf p E r) (rowOf t r) (gateOf W) (gainOf kg) (gainOf b) d := pay18 h t p W E kg b
  generalize k0_pay16 (F := Ideal) (k0_pay7 h) (k0_pay11 p E kg) (k0_pay12 h W b) (Scalar.ofBits .f32 0x3F000000#32) t = z at e
  generalize k0_pay18 (F := Ideal) (k0_pay7 h) (k0_pay11 p E kg) (k0_pay12 h W b) (Scalar.ofBits .f32 0x3F000000#32) t = y at f
  pointwise [k0_pay23, dh]
  simp only [e, f]
  rfl

section Mix

variable (z : FVec Ideal S256x1024 .f32) (D : Fin 256 → Fin 1024 → EReal) (hz : ∀ r d, z (ix2 r d) = D r d)
include hz

theorem pay1 : k0_pay1 (F := Ideal) z (k0_pay25 m) acc (ix2 0 d)
    = acc (ix2 0 d) + ∑ r : Fin 256, D r d * (rowOf m r d * rs (rowOf m r)) := by
  pointwise [k0_pay1, k0_pay25, k0_pay24, rs, rowOf]
  simp only [hz]

theorem pay2 : k0_pay2 (F := Ideal) z (k0_pay24 m) (k0_pay25 m) pg (ix2 r d) = nb (rowOf m r) (D r) (gainOf pg) d := by
  pointwise [k0_pay2, k0_pay25, k0_pay24, rs, rowOf, nb, gainOf]
  simp only [hz]

end Mix

end Blocks

end Cert.Proof.Head

end
-- ==== Proof.Head.Kernel.lean ====
/-
  The kernel's eight result arrays, row by row, over its windows' arrays.
-/
module

public import proofs.«01_k».proof.Proof.Head.Rows

@[expose] public section

set_option maxRecDepth 16384

noncomputable section

open Idealize.ShloMosaic Idealize.ShloMosaic.TcCoe
open scoped BigOperators

namespace Cert.Proof.Head

open Cert.HeadIdeal Cert.HeadIdeal.Gen
open Idealize.ShloMosaic.Pipeline (Dat)
open Cert.Proof.Branch (rs)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0]
    ∧ win0_11.index t = ![t.val, 0] ∧ win0_12.index t = ![t.val, 0] ∧ win0_13.index t = ![t.val, 0] ∧ win0_14.index t = ![0, 0]
    ∧ win0_15.index t = ![0, 0] ∧ win0_16.index t = ![0, 0] :=
  (by decide +kernel : ∀ t : Fin grid0.N, _)

/-- Row `r` of the rows of point `t`. -/
def rowAt (t : Fin cfg0.N) (r : Fin 256) : Fin 4096 := ⟨t.val * 256 + r.val, by
  have := lt_of_lt_of_eq t.isLt (show cfg0.N = 16 from N_0); omega⟩

/-- A row of an array. -/
def rowF (X : FVec Ideal S4096x1024 .f32) (s : Fin 4096) (k : Fin 1024) : EReal := X (ix2 s k)

/-- A row of the projected embedding. -/
def peF (p : FVec Ideal S4096x256 .f32) (E : FVec Ideal S256x1024 .bf16) (s : Fin 4096) : Fin 1024 → EReal :=
  pr (fun k => p (ix2 s k)) (fun k d => E (ix2 k d))

section Reads

variable (c : Dev nD) (t : Fin cfg0.N)

theorem row0 (r : Fin 256) : rowOf (iblk m c 0 t) r = rowF (V m c main_v15) (rowAt t r) := by
  funext k; unfold rowOf rowF; blk_point [iblk, V, idx t, rowAt]

theorem emb1 (r l : Fin 256) : (iblk m c 1 t : FVec Ideal S256x256 .f32) (ix2 r l)
    = (V m c main_v16 : FVec Ideal S4096x256 .f32) (ix2 (rowAt t r) l) := by
  blk_point [iblk, V, idx t, rowAt]

theorem wple5 (l : Fin 256) (k : Fin 1024) : (iblk m c 5 t : FVec Ideal S256x1024 .bf16) (ix2 l k)
    = (V m c main_v21 : FVec Ideal S256x1024 .bf16) (ix2 l k) := by
  blk_point [iblk, V, idx t]

theorem row1 (r : Fin 256) : peOf (iblk m c 1 t) (iblk m c 5 t) r = peF (V m c main_v16) (V m c main_v21) (rowAt t r) := by
  funext k; unfold peOf peF pr; exact Finset.sum_congr rfl fun l _ => congrArg₂ (· * ·) (emb1 m c t r l) (wple5 m c t l k)

theorem row2 (r : Fin 256) : rowOf (iblk m c 2 t) r = rowF (V m c main_v17) (rowAt t r) := by
  funext k; unfold rowOf rowF; blk_point [iblk, V, idx t, rowAt]

theorem row3 (r : Fin 256) : rowOf (iblk m c 3 t) r = rowF (V m c main_arg3) (rowAt t r) := by
  funext k; unfold rowOf rowF; blk_point [iblk, V, idx t, rowAt]

theorem gate4 : gateOf (iblk m c 4 t) = gateOf (V m c main_v19) := by
  funext k d; unfold gateOf; blk_point [iblk, V, idx t]

theorem gain6 : gainOf (iblk m c 6 t) = gainOf (V m c main_arg6) := by
  funext k; unfold gainOf; blk_point [iblk, V, idx t]

theorem gain7 : gainOf (iblk m c 7 t) = gainOf (V m c main_arg7) := by
  funext k; unfold gainOf; blk_point [iblk, V, idx t]

theorem gain8 : gainOf (iblk m c 8 t) = gainOf (V m c main_arg8) := by
  funext k; unfold gainOf; blk_point [iblk, V, idx t]

end Reads

/-- The row's mean square error. -/
def lsV (c : Dev nD) (s : Fin 4096) : EReal :=
  ls (rowF (V m c main_v15) s) (peF (V m c main_v16) (V m c main_v21) s) (rowF (V m c main_v17) s) (gateOf (V m c main_v19)) (gainOf (V m c main_arg6)) (gainOf (V m c main_arg7))

/-- The gradient of the gate's logits. -/
def dqV (c : Dev nD) (s : Fin 4096) : Fin 1024 → EReal :=
  dq (rowF (V m c main_v15) s) (peF (V m c main_v16) (V m c main_v21) s) (rowF (V m c main_v17) s) (gateOf (V m c main_v19)) (gainOf (V m c main_arg6)) (gainOf (V m c main_arg7))

/-- The gradient of the normed embedding times its gain. -/
def deV (c : Dev nD) (s : Fin 4096) : Fin 1024 → EReal :=
  de (rowF (V m c main_v15) s) (peF (V m c main_v16) (V m c main_v21) s) (rowF (V m c main_v17) s) (gateOf (V m c main_v19)) (gainOf (V m c main_arg6)) (gainOf (V m c main_arg7))

/-- The gradient of the projected embedding. -/
def dpV (c : Dev nD) (s : Fin 4096) : Fin 1024 → EReal :=
  dp (rowF (V m c main_v15) s) (peF (V m c main_v16) (V m c main_v21) s) (rowF (V m c main_v17) s) (gateOf (V m c main_v19)) (gainOf (V m c main_arg6)) (gainOf (V m c main_arg7))

/-- The gradient of the stream. -/
def dhV (c : Dev nD) (s : Fin 4096) : Fin 1024 → EReal :=
  dh (rowF (V m c main_v15) s) (peF (V m c main_v16) (V m c main_v21) s) (rowF (V m c main_v17) s) (gateOf (V m c main_v19)) (gainOf (V m c main_arg6)) (gainOf (V m c main_arg7))

/-- The gradient of the normed row's input. -/
def dmV (c : Dev nD) (s : Fin 4096) : Fin 1024 → EReal :=
  nb (rowF (V m c main_arg3) s) (dhV m c s) (gainOf (V m c main_arg8))

/-- The embedding gain's gradient's term of row `s`. -/
def gkV (c : Dev nD) (s : Fin 4096) (d : Fin 1024) : EReal :=
  deV m c s d * (peF (V m c main_v16) (V m c main_v21) s d * rs (peF (V m c main_v16) (V m c main_v21) s))

/-- The post-norm gain's gradient's term of row `s`. -/
def ggV (c : Dev nD) (s : Fin 4096) (d : Fin 1024) : EReal :=
  dhV m c s d * (rowF (V m c main_arg3) s d * rs (rowF (V m c main_arg3) s))

theorem stream (c : Dev nD) (t : Fin cfg0.N) (r : Fin 256) (d : Fin 1024) :
    k0_pay23 (F := Ideal) (k0_pay16 (k0_pay7 (iblk m c 0 t)) (k0_pay11 (iblk m c 1 t) (iblk m c 5 t) (iblk m c 6 t))
        (k0_pay12 (iblk m c 0 t) (iblk m c 4 t) (iblk m c 7 t)) (Scalar.ofBits .f32 0x3F000000#32) (iblk m c 2 t))
      (k0_pay18 (k0_pay7 (iblk m c 0 t)) (k0_pay11 (iblk m c 1 t) (iblk m c 5 t) (iblk m c 6 t))
        (k0_pay12 (iblk m c 0 t) (iblk m c 4 t) (iblk m c 7 t)) (Scalar.ofBits .f32 0x3F000000#32) (iblk m c 2 t))
      (iblk m c 4 t) (ix2 r d) = dhV m c (rowAt t r) d := by
  refine (pay23 _ _ _ _ _ _ _ _ _).trans ?_
  rw [row0, row1, row2, gate4, gain6, gain7]
  rfl

theorem at10 (A : Fin 4096 → Fin 1024 → EReal) (t : Fin cfg0.N) (r : Fin 256) (d : Fin 1024) :
    A (rowAt t r) d = A (((View.whole main_v22_1).slice (win0_10.rect t)).emb (ix2 r d) 0)
      (((View.whole main_v22_1).slice (win0_10.rect t)).emb (ix2 r d) 1) := by
  refine congrArg₂ A (Fin.ext ?_) (Fin.ext ?_) <;> blk_point [idx t, rowAt]

/-- The gate's logits' gradient. -/
theorem final10 (c : Dev nD) : (dats m 0 c).arrAt 10 cfg0.N = fun i : S4096x1024.Idx => dqV m c (i 0) (i 1) := by
  refine (dats m 0 c).arrAt_eq_of_covers 10 _ (by decide +kernel) fun t hf y => ?_
  blk_simp
  rw [after0_10]
  by_cases h : t.val % 16 = 0
  · rw [outsAt0_A m c t h]
    frame_out
    idx_vars y
    refine (pay18 _ _ _ _ _ _ _ _ _).trans ?_
    rw [row0, row1, row2, gate4, gain6, gain7]
    exact at10 (dqV m c) t y0 y1
  · rw [outsAt0_B m c t h]
    frame_out
    idx_vars y
    refine (pay18 _ _ _ _ _ _ _ _ _).trans ?_
    rw [row0, row1, row2, gate4, gain6, gain7]
    exact at10 (dqV m c) t y0 y1

theorem at11 (A : Fin 4096 → Fin 1024 → EReal) (t : Fin cfg0.N) (r : Fin 256) (d : Fin 1024) :
    A (rowAt t r) d = A (((View.whole main_v22_2).slice (win0_11.rect t)).emb (ix2 r d) 0)
      (((View.whole main_v22_2).slice (win0_11.rect t)).emb (ix2 r d) 1) := by
  refine congrArg₂ A (Fin.ext ?_) (Fin.ext ?_) <;> blk_point [idx t, rowAt]

/-- The projected embedding's gradient. -/
theorem final11 (c : Dev nD) : (dats m 0 c).arrAt 11 cfg0.N = fun i : S4096x1024.Idx => dpV m c (i 0) (i 1) := by
  refine (dats m 0 c).arrAt_eq_of_covers 11 _ (by decide +kernel) fun t hf y => ?_
  blk_simp
  rw [after0_11]
  by_cases h : t.val % 16 = 0
  · rw [outsAt0_A m c t h]
    frame_out
    idx_vars y
    refine (pay22 _ _ _ _ _ _ _ _ _).trans ?_
    rw [row0, row1, row2, gate4, gain6, gain7]
    exact at11 (dpV m c) t y0 y1
  · rw [outsAt0_B m c t h]
    frame_out
    idx_vars y
    refine (pay22 _ _ _ _ _ _ _ _ _).trans ?_
    rw [row0, row1, row2, gate4, gain6, gain7]
    exact at11 (dpV m c) t y0 y1

theorem at12 (A : Fin 4096 → Fin 1024 → EReal) (t : Fin cfg0.N) (r : Fin 256) (d : Fin 1024) :
    A (rowAt t r) d = A (((View.whole main_v22_3).slice (win0_12.rect t)).emb (ix2 r d) 0)
      (((View.whole main_v22_3).slice (win0_12.rect t)).emb (ix2 r d) 1) := by
  refine congrArg₂ A (Fin.ext ?_) (Fin.ext ?_) <;> blk_point [idx t, rowAt]

/-- The stream's gradient. -/
theorem final12 (c : Dev nD) : (dats m 0 c).arrAt 12 cfg0.N = fun i : S4096x1024.Idx => dhV m c (i 0) (i 1) := by
  refine (dats m 0 c).arrAt_eq_of_covers 12 _ (by decide +kernel) fun t hf y => ?_
  blk_simp
  rw [after0_12]
  by_cases h : t.val % 16 = 0
  · rw [outsAt0_A m c t h]
    frame_out
    idx_vars y
    refine (stream m c t _ _).trans ?_
    exact at12 (dhV m c) t y0 y1
  · rw [outsAt0_B m c t h]
    frame_out
    idx_vars y
    refine (stream m c t _ _).trans ?_
    exact at12 (dhV m c) t y0 y1

theorem at13 (A : Fin 4096 → Fin 1024 → EReal) (t : Fin cfg0.N) (r : Fin 256) (d : Fin 1024) :
    A (rowAt t r) d = A (((View.whole main_v22_4).slice (win0_13.rect t)).emb (ix2 r d) 0)
      (((View.whole main_v22_4).slice (win0_13.rect t)).emb (ix2 r d) 1) := by
  refine congrArg₂ A (Fin.ext ?_) (Fin.ext ?_) <;> blk_point [idx t, rowAt]

/-- The post-norm input's gradient. -/
theorem final13 (c : Dev nD) : (dats m 0 c).arrAt 13 cfg0.N = fun i : S4096x1024.Idx => dmV m c (i 0) (i 1) := by
  refine (dats m 0 c).arrAt_eq_of_covers 13 _ (by decide +kernel) fun t hf y => ?_
  blk_simp
  rw [after0_13]
  by_cases h : t.val % 16 = 0
  · rw [outsAt0_A m c t h]
    frame_out
    idx_vars y
    refine (pay2 _ _ _ _ _ (fun r => dhV m c (rowAt t r)) (stream m c t)).trans ?_
    rw [row3, gain8]
    exact at13 (dmV m c) t y0 y1
  · rw [outsAt0_B m c t h]
    frame_out
    idx_vars y
    refine (pay2 _ _ _ _ _ (fun r => dhV m c (rowAt t r)) (stream m c t)).trans ?_
    rw [row3, gain8]
    exact at13 (dmV m c) t y0 y1

theorem zero14 (j : S1x1024.Idx) : (k0_pay4 : FVec Ideal S1x1024 .f32) j = 0 := by
  idx_vars j
  obtain rfl : j0 = 0 := Subsingleton.elim _ _
  pointwise [k0_pay4]

theorem first14 (c : Dev nD) (t : Fin cfg0.N) (h : t.val % 16 = 0) (j : S1x1024.Idx) :
    (outsAt0 m c t.val t.isLt).2.2.2.2.2.1 j = 0 + ∑ r : Fin 256, gkV m c (rowAt t r) (j 1) := by
  rw [outsAt0_A m c t h]
  frame_out
  idx_vars j
  obtain rfl : j0 = 0 := Subsingleton.elim _ _
  refine (pay21 _ _ _ _ _ _ _ _ _).trans ?_
  rw [zero14]
  simp only [row0, row1, row2, gate4, gain6, gain7]
  rfl

theorem later14 (c : Dev nD) (t : Fin cfg0.N) (h : ¬ t.val % 16 = 0) (j : S1x1024.Idx) :
    (outsAt0 m c t.val t.isLt).2.2.2.2.2.1 j
      = (outsAt0 m c (t.val - 1) (lt_of_le_of_lt (Nat.sub_le _ _) t.isLt)).2.2.2.2.2.1 j + ∑ r : Fin 256, gkV m c (rowAt t r) (j 1) := by
  rw [outsAt0_B m c t h]
  frame_out
  idx_vars j
  obtain rfl : j0 = 0 := Subsingleton.elim _ _
  refine (pay21 _ _ _ _ _ _ _ _ _).trans ?_
  simp only [row0, row1, row2, gate4, gain6, gain7]
  rfl

/-- The embedding gain's gradient. -/
theorem final14 (c : Dev nD) : (dats m 0 c).arrAt 14 cfg0.N = fun i : S1x1024.Idx => ∑ s : Fin 4096, gkV m c s (i 1) := by
  refine (dats m 0 c).arrAt_eq_of_after_last 14 t0_15 (by decide +kernel) _ fun j => ?_
  blk_simp
  rw [after0_14]
  rw [Pipeline.eq_sum_fin_of_reset_step_apply_last (fun n h => (outsAt0 m c n h).2.2.2.2.2.1) 16 (fun _ => (0 : EReal))
    (fun t j => ∑ r : Fin 256, gkV m c (rowAt t r) (j 1))
    (fun t h j => first14 m c t h j) (fun t h j => later14 m c t h j) (le_of_eq N_0) t0_15 rfl j, zero_add]
  exact (Fin.sum_univ_tiles 16 256 rfl fun s : Fin 4096 => gkV m c s (j 1)).symm

theorem zero15 (j : S1x1024.Idx) : (k0_pay5 : FVec Ideal S1x1024 .f32) j = 0 := by
  idx_vars j
  obtain rfl : j0 = 0 := Subsingleton.elim _ _
  pointwise [k0_pay5]

theorem first15 (c : Dev nD) (t : Fin cfg0.N) (h : t.val % 16 = 0) (j : S1x1024.Idx) :
    (outsAt0 m c t.val t.isLt).2.2.2.2.2.2.1 j = 0 + ∑ r : Fin 256, dqV m c (rowAt t r) (j 1) := by
  rw [outsAt0_A m c t h]
  frame_out
  idx_vars j
  obtain rfl : j0 = 0 := Subsingleton.elim _ _
  refine (pay19 _ _ _ _ _ _ _ _ _).trans ?_
  rw [zero15]
  simp only [row0, row1, row2, gate4, gain6, gain7]
  rfl

theorem later15 (c : Dev nD) (t : Fin cfg0.N) (h : ¬ t.val % 16 = 0) (j : S1x1024.Idx) :
    (outsAt0 m c t.val t.isLt).2.2.2.2.2.2.1 j
      = (outsAt0 m c (t.val - 1) (lt_of_le_of_lt (Nat.sub_le _ _) t.isLt)).2.2.2.2.2.2.1 j + ∑ r : Fin 256, dqV m c (rowAt t r) (j 1) := by
  rw [outsAt0_B m c t h]
  frame_out
  idx_vars j
  obtain rfl : j0 = 0 := Subsingleton.elim _ _
  refine (pay19 _ _ _ _ _ _ _ _ _).trans ?_
  simp only [row0, row1, row2, gate4, gain6, gain7]
  rfl

/-- The gate bias's gradient. -/
theorem final15 (c : Dev nD) : (dats m 0 c).arrAt 15 cfg0.N = fun i : S1x1024.Idx => ∑ s : Fin 4096, dqV m c s (i 1) := by
  refine (dats m 0 c).arrAt_eq_of_after_last 15 t0_15 (by decide +kernel) _ fun j => ?_
  blk_simp
  rw [after0_15]
  rw [Pipeline.eq_sum_fin_of_reset_step_apply_last (fun n h => (outsAt0 m c n h).2.2.2.2.2.2.1) 16 (fun _ => (0 : EReal))
    (fun t j => ∑ r : Fin 256, dqV m c (rowAt t r) (j 1))
    (fun t h j => first15 m c t h j) (fun t h j => later15 m c t h j) (le_of_eq N_0) t0_15 rfl j, zero_add]
  exact (Fin.sum_univ_tiles 16 256 rfl fun s : Fin 4096 => dqV m c s (j 1)).symm

theorem zero16 (j : S1x1024.Idx) : (k0_pay6 : FVec Ideal S1x1024 .f32) j = 0 := by
  idx_vars j
  obtain rfl : j0 = 0 := Subsingleton.elim _ _
  pointwise [k0_pay6]

theorem first16 (c : Dev nD) (t : Fin cfg0.N) (h : t.val % 16 = 0) (j : S1x1024.Idx) :
    (outsAt0 m c t.val t.isLt).2.2.2.2.2.2.2 j = 0 + ∑ r : Fin 256, ggV m c (rowAt t r) (j 1) := by
  rw [outsAt0_A m c t h]
  frame_out
  idx_vars j
  obtain rfl : j0 = 0 := Subsingleton.elim _ _
  refine (pay1 _ _ _ _ (fun r => dhV m c (rowAt t r)) (stream m c t)).trans ?_
  rw [zero16]
  simp only [row3]
  rfl

theorem later16 (c : Dev nD) (t : Fin cfg0.N) (h : ¬ t.val % 16 = 0) (j : S1x1024.Idx) :
    (outsAt0 m c t.val t.isLt).2.2.2.2.2.2.2 j
      = (outsAt0 m c (t.val - 1) (lt_of_le_of_lt (Nat.sub_le _ _) t.isLt)).2.2.2.2.2.2.2 j + ∑ r : Fin 256, ggV m c (rowAt t r) (j 1) := by
  rw [outsAt0_B m c t h]
  frame_out
  idx_vars j
  obtain rfl : j0 = 0 := Subsingleton.elim _ _
  refine (pay1 _ _ _ _ (fun r => dhV m c (rowAt t r)) (stream m c t)).trans ?_
  simp only [row3]
  rfl

/-- The post-norm gain's gradient. -/
theorem final16 (c : Dev nD) : (dats m 0 c).arrAt 16 cfg0.N = fun i : S1x1024.Idx => ∑ s : Fin 4096, ggV m c s (i 1) := by
  refine (dats m 0 c).arrAt_eq_of_after_last 16 t0_15 (by decide +kernel) _ fun j => ?_
  blk_simp
  rw [after0_16]
  rw [Pipeline.eq_sum_fin_of_reset_step_apply_last (fun n h => (outsAt0 m c n h).2.2.2.2.2.2.2) 16 (fun _ => (0 : EReal))
    (fun t j => ∑ r : Fin 256, ggV m c (rowAt t r) (j 1))
    (fun t h j => first16 m c t h j) (fun t h j => later16 m c t h j) (le_of_eq N_0) t0_15 rfl j, zero_add]
  exact (Fin.sum_univ_tiles 16 256 rfl fun s : Fin 4096 => ggV m c s (j 1)).symm

theorem zero9 (j : S1x1.Idx) : (k0_pay3 : FVec Ideal S1x1 .f32) j = 0 := by
  idx_vars j
  obtain rfl : j0 = 0 := Subsingleton.elim _ _
  obtain rfl : j1 = 0 := Subsingleton.elim _ _
  pointwise [k0_pay3]

theorem first9 (c : Dev nD) (t : Fin cfg0.N) (h : t.val % 16 = 0) (j : S1x1.Idx) :
    (outsAt0 m c t.val t.isLt).1 j = 0 + Ideal.ofBits .f32 0x3F000000#32 * ∑ r : Fin 256, lsV m c (rowAt t r) := by
  rw [outsAt0_A m c t h]
  frame_out
  idx_vars j
  obtain rfl : j0 = 0 := Subsingleton.elim _ _
  obtain rfl : j1 = 0 := Subsingleton.elim _ _
  refine (pay15 _ _ _ _ _ _ _ _).trans ?_
  rw [zero9]
  simp only [row0, row1, row2, gate4, gain6, gain7]
  rfl

theorem later9 (c : Dev nD) (t : Fin cfg0.N) (h : ¬ t.val % 16 = 0) (j : S1x1.Idx) :
    (outsAt0 m c t.val t.isLt).1 j = (outsAt0 m c (t.val - 1) (lt_of_le_of_lt (Nat.sub_le _ _) t.isLt)).1 j
      + Ideal.ofBits .f32 0x3F000000#32 * ∑ r : Fin 256, lsV m c (rowAt t r) := by
  rw [outsAt0_B m c t h]
  frame_out
  idx_vars j
  obtain rfl : j0 = 0 := Subsingleton.elim _ _
  obtain rfl : j1 = 0 := Subsingleton.elim _ _
  refine (pay15 _ _ _ _ _ _ _ _).trans ?_
  simp only [row0, row1, row2, gate4, gain6, gain7]
  rfl

/-- The loss, block of rows by block of rows. -/
theorem final9 (c : Dev nD) : (dats m 0 c).arrAt 9 cfg0.N = fun _ : S1x1.Idx =>
    ∑ t : Fin 16, Ideal.ofBits .f32 0x3F000000#32 * ∑ r : Fin 256, lsV m c ⟨t.val * 256 + r.val, by omega⟩ := by
  refine (dats m 0 c).arrAt_eq_of_after_last 9 t0_15 (by decide +kernel) _ fun j => ?_
  blk_simp
  rw [after0_9]
  rw [Pipeline.eq_sum_fin_of_reset_step_apply_last (fun n h => (outsAt0 m c n h).1) 16 (fun _ => (0 : EReal))
    (fun t _ => Ideal.ofBits .f32 0x3F000000#32 * ∑ r : Fin 256, lsV m c (rowAt t r))
    (fun t h j => first9 m c t h j) (fun t h j => later9 m c t h j) (le_of_eq N_0) t0_15 rfl j, zero_add]
  rfl

end Cert.Proof.Head

end
-- ==== Proof.Head.Reference.lean ====
/-
  The reference's results, row by row, in the kernel's formulas.
-/
module

public import proofs.«01_k».proof.Proof.Common
public import proofs.«01_k».proof.Proof.Head.Rows
public import proofs.«01_k».proof.Proof.Gen.HeadRefIdeal
public import proofs.«01_k».proof.Proof.Gen.HeadRefIdeal.Run
public import proofs.«01_k».proof.Proof.Gen.HeadRefIdeal.Read

@[expose] public section

set_option maxRecDepth 16384

noncomputable section

open Idealize.ShloMosaic Idealize.ShloMosaic.TcCoe Cert.Common
open scoped BigOperators

namespace Cert.Proof.Head

open Cert.HeadRefIdeal.Read Cert.HeadRefIdeal
open Cert.Proof.Branch (rs sg ms chain mean_real isReal_sg isReal_rs lit_1 logistic_coe)

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem isReal_lit : IsReal (Ideal.ofBits .f32 0x3A800000#32) := by
  refine ⟨1 / 1024, ?_⟩
  simp [Ideal.ofBits, Ideal.ieee]
  norm_num [← EReal.coe_mul]

/-- The mean square's part of the norm's row gradient. -/
def mn (x D G : Fin 1024 → EReal) : EReal :=
  Ideal.div ((∑ k, x k * (D k * G k)) * (Ideal.ofBits .f32 0xBF000000#32 * Ideal.div (rs x) (ms x))) (Ideal.ofBits .f32 0x44800000#32)

theorem nb_chain {x D G : Fin 1024 → EReal} (hx : ∀ k, IsReal (x k)) (hD : ∀ k, IsReal (D k)) (hG : ∀ k, IsReal (G k)) (d : Fin 1024) :
    D d * G d * rs x + x d * mn x D G + mn x D G * x d = nb x D G d := by
  choose X hX using hx
  choose E hE using hG
  choose Y hY using hD
  unfold mn ms nb rs
  simp only [hX, hE, hY, lit_1024, lit_eps, lit_neg_half]
  exact chain X E Y d _ _ (mean_real X) rfl

theorem dy_real {z : EReal} (hz : IsReal z) :
    Ideal.div (Ideal.ofBits .f32 0x3F000000#32) (Ideal.ofBits .f32 0x44800000#32) * (Ideal.ofBits .f32 0x40000000#32 * z)
      = z * Ideal.ofBits .f32 0x3A800000#32 := by
  obtain ⟨a, rfl⟩ := hz
  have e : Ideal.ofBits .f32 0x3A800000#32 = ((1 / 1024 : ℝ) : EReal) := by
    simp [Ideal.ofBits, Ideal.ieee]
    norm_num [← EReal.coe_mul]
  rw [lit_half, lit_1024, lit_2, e, div_coe (by norm_num), ← EReal.coe_mul, ← EReal.coe_mul, ← EReal.coe_mul]
  congr 1
  ring

/-- Halving a sum of real rows block by block of rows. -/
theorem half_tiles {f : Fin 4096 → EReal} (hf : ∀ s, IsReal (f s)) :
    Ideal.ofBits .f32 0x3F000000#32 * ∑ s : Fin 4096, f s
      = ∑ t : Fin 16, Ideal.ofBits .f32 0x3F000000#32 * ∑ r : Fin 256, f ⟨t.val * 256 + r.val, by omega⟩ := by
  choose F hF using hf
  simp only [hF, lit_half, ← coe_sum, ← EReal.coe_mul]
  congr 1
  rw [← Finset.mul_sum]
  congr 1
  exact Fin.sum_univ_tiles 16 256 rfl F

variable (x0 : FVec Ideal S1x4096x1024 .f32) (x1 : FVec Ideal S1x1x4096x256 .f32) (x2 : FVec Ideal S1x4096x1024 .f32)
  (x3 : FVec Ideal S4096x1024 .f32) (x4 : FVec Ideal S1x1024x1024 .f32) (x5 : FVec Ideal S1x256x1024 .f32)
  (x6 x7 x8 : FVec Ideal S1x1024 .f32)

/-- A row of the mixed branches. -/
def rowR (s : Fin 4096) (k : Fin 1024) : EReal := x3 (ix2 s k)
/-- A gain's row. -/
def gR (x : FVec Ideal S1x1024 .f32) (k : Fin 1024) : EReal := x (ix2 0 k)
/-- A row of the stream after the mixed branches' norm. -/
def hR (s : Fin 4096) (d : Fin 1024) : EReal := x0 (ix3 0 s d) + rowR x3 s d * rs (rowR x3 s) * gR x8 d
/-- A row of the projected embedding. -/
def peR (s : Fin 4096) : Fin 1024 → EReal := pr (fun k => x1 (ix4 0 0 s k)) (fun k d => x5 (ix3 0 k d))
/-- A row of the target. -/
def tR (s : Fin 4096) (d : Fin 1024) : EReal := x2 (ix3 0 s d)
/-- The gate's weights. -/
def WR (k d : Fin 1024) : EReal := x4 (ix3 0 k d)

theorem val24 (s : Fin 4096) (d : Fin 1024) : (val_main_v24 (F := Ideal) x0 x3 x8 : FVec Ideal S4096x1024 .f32) (ix2 s d) = hR x0 x3 x8 s d := by
  pointwise [val_main_v24, val_main_v0, val_main_v23, val_main_v20, val_main_v19, val_main_v15, val_main_v14, val_main_v12, val_main_v10, val_main_v9, val_main_v8, val_main_cst_0, val_main_v11, val_main_cst_1, val_main_v13, val_main_cst_2, val_main_v22, val_main_v21, val_main_v7, hR, rs, rowR, gR]

theorem val3 (s : Fin 4096) (d : Fin 1024) : (val_main_v3 (F := Ideal) x1 x5 : FVec Ideal S4096x1024 .f32) (ix2 s d) = peR x1 x5 s d := by
  pointwise [val_main_v3, val_main_v1, val_main_v2, peR, pr]

theorem val35 (s : Fin 4096) : (val_main_v35 (F := Ideal) x1 x5 : FVec Ideal S4096x1 .f32) (ix2 s 0)
    = Ideal.ofBits .f32 0xBF000000#32 * Ideal.div (rs (peR x1 x5 s)) (ms (peR x1 x5 s)) := by
  have e : ∀ s d, val_main_v3 (F := Ideal) x1 x5 (ix2 s d) = peR x1 x5 s d := val3 x1 x5
  unfold val_main_v35 val_main_v33 val_main_v32 val_main_v31 val_main_v29 val_main_v27 val_main_v26 val_main_v25
  generalize val_main_v3 (F := Ideal) x1 x5 = z at e
  pointwise [val_main_v34, val_main_cst_7, val_main_cst_4, val_main_v28, val_main_cst_5, val_main_v30, val_main_cst_6, rs, ms]
  simp only [e]

theorem val32 (s : Fin 4096) : (val_main_v32 (F := Ideal) x1 x5 : FVec Ideal S4096x1 .f32) (ix2 s 0) = rs (peR x1 x5 s) := by
  have e : ∀ s d, val_main_v3 (F := Ideal) x1 x5 (ix2 s d) = peR x1 x5 s d := val3 x1 x5
  unfold val_main_v32 val_main_v31 val_main_v29 val_main_v27 val_main_v26 val_main_v25
  generalize val_main_v3 (F := Ideal) x1 x5 = z at e
  pointwise [val_main_cst_4, val_main_v28, val_main_cst_5, val_main_v30, val_main_cst_6, rs]
  simp only [e]

theorem val37 (s : Fin 4096) (d : Fin 1024) : (val_main_v37 (F := Ideal) x1 x5 : FVec Ideal S4096x1024 .f32) (ix2 s d)
    = peR x1 x5 s d * rs (peR x1 x5 s) := by
  have e := val3 x1 x5 s d
  have f : ∀ s, val_main_v32 (F := Ideal) x1 x5 (ix2 s 0) = _ := val32 x1 x5
  unfold val_main_v37 val_main_v36
  generalize val_main_v3 (F := Ideal) x1 x5 = z at e
  generalize val_main_v32 (F := Ideal) x1 x5 = y at f
  pointwise []
  simp only [e, f]

theorem val40 (s : Fin 4096) (d : Fin 1024) : (val_main_v40 (F := Ideal) x1 x5 x6 : FVec Ideal S4096x1024 .f32) (ix2 s d)
    = peR x1 x5 s d * rs (peR x1 x5 s) * gR x6 d := by
  have e := val37 x1 x5 s d
  unfold val_main_v40 val_main_v39 val_main_v38 val_main_v5
  generalize val_main_v37 (F := Ideal) x1 x5 = z at e
  pointwise [gR]
  simp only [e]

theorem val46 (s : Fin 4096) (d : Fin 1024) : (val_main_v46 (F := Ideal) x0 x3 x4 x7 x8 : FVec Ideal S4096x1024 .f32) (ix2 s d)
    = (∑ k : Fin 1024, hR x0 x3 x8 s k * WR x4 k d) + gR x7 d := by
  have e : ∀ s d, val_main_v24 (F := Ideal) x0 x3 x8 (ix2 s d) = hR x0 x3 x8 s d := val24 x0 x3 x8
  unfold val_main_v46 val_main_v43 val_main_v42
  generalize val_main_v24 (F := Ideal) x0 x3 x8 = z at e
  pointwise [val_main_v4, val_main_cst, val_main_v45, val_main_v44, val_main_v41, val_main_v6, gR, WR]
  simp only [e, add_zero]

section Real

variable (h0 : ∀ i, IsReal (x0 i)) (h1 : ∀ i, IsReal (x1 i)) (h2 : ∀ i, IsReal (x2 i)) (h3 : ∀ i, IsReal (x3 i)) (h4 : ∀ i, IsReal (x4 i))
  (h5 : ∀ i, IsReal (x5 i)) (h6 : ∀ i, IsReal (x6 i)) (h7 : ∀ i, IsReal (x7 i)) (h8 : ∀ i, IsReal (x8 i))

include h0 h3 h8 in
theorem isReal_h (s : Fin 4096) (d : Fin 1024) : IsReal (hR x0 x3 x8 s d) :=
  (h0 _).add (((h3 _).mul (isReal_rs fun _ => h3 _)).mul (h8 _))

include h1 h5 in
theorem isReal_pe (s : Fin 4096) (d : Fin 1024) : IsReal (peR x1 x5 s d) := by
  unfold peR pr
  exact isReal_sum _ _ fun _ => (h1 _).mul (h5 _)

include h0 h3 h4 h7 h8 in
theorem isReal_gate (s : Fin 4096) (d : Fin 1024) : IsReal ((∑ k : Fin 1024, hR x0 x3 x8 s k * WR x4 k d) + gR x7 d) :=
  (isReal_sum _ _ fun _ => (isReal_h x0 x3 x8 h0 h3 h8 _ _).mul (h4 _)).add (h7 _)

include h0 h3 h4 h7 h8 in
theorem isReal_ga (s : Fin 4096) (d : Fin 1024) : IsReal (ga (hR x0 x3 x8 s) (WR x4) (gR x7) d) :=
  isReal_sg (isReal_gate x0 x3 x4 x7 x8 h0 h3 h4 h7 h8 s d)

include h0 h1 h2 h3 h4 h5 h6 h7 h8 in
theorem isReal_df (s : Fin 4096) (d : Fin 1024) : IsReal (df (hR x0 x3 x8 s) (peR x1 x5 s) (tR x2 s) (WR x4) (gR x6) (gR x7) d) :=
  IsReal.sub ((isReal_h x0 x3 x8 h0 h3 h8 s d).add ((isReal_ga x0 x3 x4 x7 x8 h0 h3 h4 h7 h8 s d).mul
    (((isReal_pe x1 x5 h1 h5 s d).mul (isReal_rs (isReal_pe x1 x5 h1 h5 s))).mul (h6 _)))) (h2 _)

include h0 h1 h2 h3 h4 h5 h6 h7 h8 in
theorem isReal_dy (s : Fin 4096) (d : Fin 1024) : IsReal (dy (hR x0 x3 x8 s) (peR x1 x5 s) (tR x2 s) (WR x4) (gR x6) (gR x7) d) :=
  (isReal_df x0 x1 x2 x3 x4 x5 x6 x7 x8 h0 h1 h2 h3 h4 h5 h6 h7 h8 s d).mul isReal_lit

include h0 h1 h2 h3 h4 h5 h6 h7 h8 in
theorem isReal_de (s : Fin 4096) (d : Fin 1024) : IsReal (de (hR x0 x3 x8 s) (peR x1 x5 s) (tR x2 s) (WR x4) (gR x6) (gR x7) d) :=
  (isReal_dy x0 x1 x2 x3 x4 x5 x6 x7 x8 h0 h1 h2 h3 h4 h5 h6 h7 h8 s d).mul (isReal_ga x0 x3 x4 x7 x8 h0 h3 h4 h7 h8 s d)

include h0 h1 h2 h3 h4 h5 h6 h7 h8 in
theorem isReal_dq (s : Fin 4096) (d : Fin 1024) : IsReal (dq (hR x0 x3 x8 s) (peR x1 x5 s) (tR x2 s) (WR x4) (gR x6) (gR x7) d) :=
  ((((isReal_dy x0 x1 x2 x3 x4 x5 x6 x7 x8 h0 h1 h2 h3 h4 h5 h6 h7 h8 s d).mul
    (((isReal_pe x1 x5 h1 h5 s d).mul (isReal_rs (isReal_pe x1 x5 h1 h5 s))).mul (h6 _))).mul (isReal_ga x0 x3 x4 x7 x8 h0 h3 h4 h7 h8 s d)).mul
    (IsReal.sub (lit_1 ▸ isReal_coe _) (isReal_ga x0 x3 x4 x7 x8 h0 h3 h4 h7 h8 s d)))

include h0 h1 h2 h3 h4 h5 h6 h7 h8 in
theorem isReal_dh (s : Fin 4096) (d : Fin 1024) : IsReal (dh (hR x0 x3 x8 s) (peR x1 x5 s) (tR x2 s) (WR x4) (gR x6) (gR x7) d) :=
  (isReal_dy x0 x1 x2 x3 x4 x5 x6 x7 x8 h0 h1 h2 h3 h4 h5 h6 h7 h8 s d).add
    (isReal_sum _ _ fun _ => (isReal_dq x0 x1 x2 x3 x4 x5 x6 x7 x8 h0 h1 h2 h3 h4 h5 h6 h7 h8 s _).mul (h4 _))

include h0 h1 h2 h3 h4 h5 h6 h7 h8 in
theorem isReal_ls (s : Fin 4096) : IsReal (ls (hR x0 x3 x8 s) (peR x1 x5 s) (tR x2 s) (WR x4) (gR x6) (gR x7)) := by
  have h := isReal_df x0 x1 x2 x3 x4 x5 x6 x7 x8 h0 h1 h2 h3 h4 h5 h6 h7 h8 s
  choose X hX using h
  unfold ls
  simp only [hX, lit_1024, ← EReal.coe_mul, ← coe_sum]
  exact ⟨_, div_coe (by norm_num)⟩

include h0 h3 h4 h7 h8 in
theorem val52 (s : Fin 4096) (d : Fin 1024) : (val_main_v52 (F := Ideal) x0 x3 x4 x7 x8 : FVec Ideal S4096x1024 .f32) (ix2 s d)
    = ga (hR x0 x3 x8 s) (WR x4) (gR x7) d := by
  have e := val46 x0 x3 x4 x7 x8 s d
  obtain ⟨g, hg⟩ := isReal_gate x0 x3 x4 x7 x8 h0 h3 h4 h7 h8 s d
  unfold val_main_v52 val_main_v50 val_main_v48 val_main_v47
  generalize val_main_v46 (F := Ideal) x0 x3 x4 x7 x8 = z at e
  pointwise [val_main_v51, val_main_v49, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, hg, lit_1, ga]
  exact logistic_coe g

include h0 h3 h4 h7 h8 in
theorem val55 (s : Fin 4096) (d : Fin 1024) : (val_main_v55 (F := Ideal) x0 x3 x4 x7 x8 : FVec Ideal S4096x1024 .f32) (ix2 s d)
    = ga (hR x0 x3 x8 s) (WR x4) (gR x7) d * (Ideal.ofBits .f32 0x3F800000#32 - ga (hR x0 x3 x8 s) (WR x4) (gR x7) d) := by
  have e := val52 x0 x3 x4 x7 x8 h0 h3 h4 h7 h8 s d
  unfold val_main_v55 val_main_v54
  generalize val_main_v52 (F := Ideal) x0 x3 x4 x7 x8 = z at e
  pointwise [val_main_v53, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, lit_1, EReal.coe_one]

include h0 h3 h4 h7 h8 in
theorem val59 (s : Fin 4096) (d : Fin 1024) : (val_main_v59 (F := Ideal) x0 x1 x2 x3 x4 x5 x6 x7 x8 : FVec Ideal S4096x1024 .f32) (ix2 s d) = df (hR x0 x3 x8 s) (peR x1 x5 s) (tR x2 s) (WR x4) (gR x6) (gR x7) d := by
  have e := val52 x0 x3 x4 x7 x8 h0 h3 h4 h7 h8 s d
  have f := val40 x1 x5 x6 s d
  have g := val24 x0 x3 x8 s d
  unfold val_main_v59 val_main_v57 val_main_v56
  generalize val_main_v52 (F := Ideal) x0 x3 x4 x7 x8 = z at e
  generalize val_main_v40 (F := Ideal) x1 x5 x6 = y at f
  generalize val_main_v24 (F := Ideal) x0 x3 x8 = w at g
  pointwise [val_main_v58, df, tR]
  simp only [e, f, g]

include h0 h3 h4 h7 h8 in
/-- The loss. -/
theorem val67 : (val_main_v67 (F := Ideal) x0 x1 x2 x3 x4 x5 x6 x7 x8 : FVec Ideal S_ .f32) ix0
    = Ideal.ofBits .f32 0x3F000000#32 * ∑ s : Fin 4096, ls (hR x0 x3 x8 s) (peR x1 x5 s) (tR x2 s) (WR x4) (gR x6) (gR x7) := by
  have e : ∀ s d, val_main_v59 (F := Ideal) x0 x1 x2 x3 x4 x5 x6 x7 x8 (ix2 s d) = df (hR x0 x3 x8 s) (peR x1 x5 s) (tR x2 s) (WR x4) (gR x6) (gR x7) d := val59 x0 x1 x2 x3 x4 x5 x6 x7 x8 h0 h3 h4 h7 h8
  unfold val_main_v67 val_main_v66 val_main_v65 val_main_v63 val_main_v60
  generalize val_main_v59 (F := Ideal) x0 x1 x2 x3 x4 x5 x6 x7 x8 = z at e
  pointwise [val_main_v64, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30, ls]
  simp only [e]

include h0 h3 h4 h7 h8 in
theorem val122 : (val_main_v122 (F := Ideal) x0 x1 x2 x3 x4 x5 x6 x7 x8 : FVec Ideal S1x1 .f32) (ix2 0 0)
    = Ideal.ofBits .f32 0x3F000000#32 * ∑ s : Fin 4096, ls (hR x0 x3 x8 s) (peR x1 x5 s) (tR x2 s) (WR x4) (gR x6) (gR x7) := by
  have e := val67 x0 x1 x2 x3 x4 x5 x6 x7 x8 h0 h3 h4 h7 h8
  unfold val_main_v122
  generalize val_main_v67 (F := Ideal) x0 x1 x2 x3 x4 x5 x6 x7 x8 = z at e
  pointwise []
  exact e

include h0 h1 h2 h3 h4 h5 h6 h7 h8 in
theorem val73 (s : Fin 4096) (d : Fin 1024) : (val_main_v73 (F := Ideal) x0 x1 x2 x3 x4 x5 x6 x7 x8 : FVec Ideal S4096x1024 .f32) (ix2 s d) = dy (hR x0 x3 x8 s) (peR x1 x5 s) (tR x2 s) (WR x4) (gR x6) (gR x7) d := by
  have e := val59 x0 x1 x2 x3 x4 x5 x6 x7 x8 h0 h3 h4 h7 h8 s d
  unfold val_main_v73 val_main_v62
  generalize val_main_v59 (F := Ideal) x0 x1 x2 x3 x4 x5 x6 x7 x8 = z at e
  pointwise [val_main_v72, val_main_v71, val_main_v70, val_main_v69, val_main_v68, val_main_v61, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, mul_one]
  exact dy_real (isReal_df x0 x1 x2 x3 x4 x5 x6 x7 x8 h0 h1 h2 h3 h4 h5 h6 h7 h8 s d)

include h0 h1 h2 h3 h4 h5 h6 h7 h8 in
theorem val74 (s : Fin 4096) (d : Fin 1024) : (val_main_v74 (F := Ideal) x0 x1 x2 x3 x4 x5 x6 x7 x8 : FVec Ideal S4096x1024 .f32) (ix2 s d) = de (hR x0 x3 x8 s) (peR x1 x5 s) (tR x2 s) (WR x4) (gR x6) (gR x7) d := by
  have e := val73 x0 x1 x2 x3 x4 x5 x6 x7 x8 h0 h1 h2 h3 h4 h5 h6 h7 h8 s d
  have f := val52 x0 x3 x4 x7 x8 h0 h3 h4 h7 h8 s d
  unfold val_main_v74
  generalize val_main_v73 (F := Ideal) x0 x1 x2 x3 x4 x5 x6 x7 x8 = z at e
  generalize val_main_v52 (F := Ideal) x0 x3 x4 x7 x8 = y at f
  pointwise [de]
  simp only [e, f]
  exact mul_comm _ _

include h0 h1 h2 h3 h4 h5 h6 h7 h8 in
/-- The gate's logits' gradient. -/
theorem val76 (s : Fin 4096) (d : Fin 1024) : (val_main_v76 (F := Ideal) x0 x1 x2 x3 x4 x5 x6 x7 x8 : FVec Ideal S4096x1024 .f32) (ix2 s d) = dq (hR x0 x3 x8 s) (peR x1 x5 s) (tR x2 s) (WR x4) (gR x6) (gR x7) d := by
  have e := val73 x0 x1 x2 x3 x4 x5 x6 x7 x8 h0 h1 h2 h3 h4 h5 h6 h7 h8 s d
  have f := val55 x0 x3 x4 x7 x8 h0 h3 h4 h7 h8 s d
  have g := val40 x1 x5 x6 s d
  unfold val_main_v76 val_main_v75
  generalize val_main_v73 (F := Ideal) x0 x1 x2 x3 x4 x5 x6 x7 x8 = z at e
  generalize val_main_v55 (F := Ideal) x0 x3 x4 x7 x8 = y at f
  generalize val_main_v40 (F := Ideal) x1 x5 x6 = w at g
  pointwise [dq]
  simp only [e, f, g, lit_1, EReal.coe_one]
  exact (mul_assoc (_ : EReal) _ _).symm

include h0 h1 h2 h3 h4 h5 h6 h7 h8 in
/-- The stream's gradient. -/
theorem val81 (s : Fin 4096) (d : Fin 1024) : (val_main_v81 (F := Ideal) x0 x1 x2 x3 x4 x5 x6 x7 x8 : FVec Ideal S4096x1024 .f32) (ix2 s d) = dh (hR x0 x3 x8 s) (peR x1 x5 s) (tR x2 s) (WR x4) (gR x6) (gR x7) d := by
  have e := val73 x0 x1 x2 x3 x4 x5 x6 x7 x8 h0 h1 h2 h3 h4 h5 h6 h7 h8 s d
  have f : ∀ s d, val_main_v76 (F := Ideal) x0 x1 x2 x3 x4 x5 x6 x7 x8 (ix2 s d) = dq (hR x0 x3 x8 s) (peR x1 x5 s) (tR x2 s) (WR x4) (gR x6) (gR x7) d := val76 x0 x1 x2 x3 x4 x5 x6 x7 x8 h0 h1 h2 h3 h4 h5 h6 h7 h8
  unfold val_main_v81 val_main_v80
  generalize val_main_v73 (F := Ideal) x0 x1 x2 x3 x4 x5 x6 x7 x8 = z at e
  generalize val_main_v76 (F := Ideal) x0 x1 x2 x3 x4 x5 x6 x7 x8 = y at f
  pointwise [val_main_v41, dh, WR]
  simp only [e, f]

include h0 h1 h2 h3 h4 h5 h6 h7 h8 in
theorem val123 (s : Fin 4096) (d : Fin 1024) : (val_main_v123 (F := Ideal) x0 x1 x2 x3 x4 x5 x6 x7 x8 : FVec Ideal S4096x1024 .bf16) (ix2 s d) = dq (hR x0 x3 x8 s) (peR x1 x5 s) (tR x2 s) (WR x4) (gR x6) (gR x7) d := by
  have e := val76 x0 x1 x2 x3 x4 x5 x6 x7 x8 h0 h1 h2 h3 h4 h5 h6 h7 h8 s d
  unfold val_main_v123
  generalize val_main_v76 (F := Ideal) x0 x1 x2 x3 x4 x5 x6 x7 x8 = z at e
  pointwise []
  exact e

include h0 h1 h2 h3 h4 h5 h6 h7 h8 in
/-- The gate bias's gradient. -/
theorem val127 (d : Fin 1024) : (val_main_v127 (F := Ideal) x0 x1 x2 x3 x4 x5 x6 x7 x8 : FVec Ideal S1x1024 .f32) (ix2 0 d) = ∑ s : Fin 4096, dq (hR x0 x3 x8 s) (peR x1 x5 s) (tR x2 s) (WR x4) (gR x6) (gR x7) d := by
  have e : ∀ s d, val_main_v76 (F := Ideal) x0 x1 x2 x3 x4 x5 x6 x7 x8 (ix2 s d) = dq (hR x0 x3 x8 s) (peR x1 x5 s) (tR x2 s) (WR x4) (gR x6) (gR x7) d := val76 x0 x1 x2 x3 x4 x5 x6 x7 x8 h0 h1 h2 h3 h4 h5 h6 h7 h8
  unfold val_main_v127 val_main_v79 val_main_v78 val_main_v77
  generalize val_main_v76 (F := Ideal) x0 x1 x2 x3 x4 x5 x6 x7 x8 = z at e
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, Finset.univ_unique, Finset.sum_singleton]

include h0 h1 h2 h3 h4 h5 h6 h7 h8 in
/-- The embedding gain's gradient. -/
theorem val126 (d : Fin 1024) : (val_main_v126 (F := Ideal) x0 x1 x2 x3 x4 x5 x6 x7 x8 : FVec Ideal S1x1024 .f32) (ix2 0 d)
    = ∑ s : Fin 4096, de (hR x0 x3 x8 s) (peR x1 x5 s) (tR x2 s) (WR x4) (gR x6) (gR x7) d * (peR x1 x5 s d * rs (peR x1 x5 s)) := by
  have e : ∀ s d, val_main_v74 (F := Ideal) x0 x1 x2 x3 x4 x5 x6 x7 x8 (ix2 s d) = de (hR x0 x3 x8 s) (peR x1 x5 s) (tR x2 s) (WR x4) (gR x6) (gR x7) d := val74 x0 x1 x2 x3 x4 x5 x6 x7 x8 h0 h1 h2 h3 h4 h5 h6 h7 h8
  have f : ∀ s d, val_main_v37 (F := Ideal) x1 x5 (ix2 s d) = peR x1 x5 s d * rs (peR x1 x5 s) := val37 x1 x5
  unfold val_main_v126 val_main_v87 val_main_v84 val_main_v83 val_main_v82
  generalize val_main_v74 (F := Ideal) x0 x1 x2 x3 x4 x5 x6 x7 x8 = z at e
  generalize val_main_v37 (F := Ideal) x1 x5 = y at f
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, f, Finset.univ_unique, Finset.sum_singleton]
  exact Finset.sum_congr rfl fun s _ => mul_comm _ _

include h0 h1 h2 h3 h4 h5 h6 h7 h8 in
/-- The projected embedding's gradient. -/
theorem val124 (s : Fin 4096) (d : Fin 1024) : (val_main_v124 (F := Ideal) x0 x1 x2 x3 x4 x5 x6 x7 x8 : FVec Ideal S4096x1024 .bf16) (ix2 s d) = dp (hR x0 x3 x8 s) (peR x1 x5 s) (tR x2 s) (WR x4) (gR x6) (gR x7) d := by
  have e : ∀ s d, val_main_v74 (F := Ideal) x0 x1 x2 x3 x4 x5 x6 x7 x8 (ix2 s d) = de (hR x0 x3 x8 s) (peR x1 x5 s) (tR x2 s) (WR x4) (gR x6) (gR x7) d := val74 x0 x1 x2 x3 x4 x5 x6 x7 x8 h0 h1 h2 h3 h4 h5 h6 h7 h8
  have f : ∀ s d, val_main_v3 (F := Ideal) x1 x5 (ix2 s d) = peR x1 x5 s d := val3 x1 x5
  have g : ∀ s (j : Fin 1), val_main_v35 (F := Ideal) x1 x5 (ix2 s j)
      = Ideal.ofBits .f32 0xBF000000#32 * Ideal.div (rs (peR x1 x5 s)) (ms (peR x1 x5 s)) := fun s j => by
    obtain rfl : j = 0 := Subsingleton.elim _ _
    exact val35 x1 x5 s
  have i : ∀ s, val_main_v32 (F := Ideal) x1 x5 (ix2 s 0) = _ := val32 x1 x5
  unfold val_main_v124 val_main_v101 val_main_v100 val_main_v99 val_main_v98 val_main_v97 val_main_v96 val_main_v95 val_main_v93 val_main_v92 val_main_v91 val_main_v90 val_main_v89 val_main_v88 val_main_v86
  generalize val_main_v74 (F := Ideal) x0 x1 x2 x3 x4 x5 x6 x7 x8 = z at e
  generalize val_main_v3 (F := Ideal) x1 x5 = y at f
  generalize val_main_v35 (F := Ideal) x1 x5 = w at g
  generalize val_main_v32 (F := Ideal) x1 x5 = v at i
  pointwise [val_main_v85, val_main_v38, val_main_v5, val_main_v94, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, f, g, i, Finset.univ_unique, Finset.sum_singleton]
  exact nb_chain (x := peR x1 x5 s) (D := de (hR x0 x3 x8 s) (peR x1 x5 s) (tR x2 s) (WR x4) (gR x6) (gR x7)) (G := gR x6) (isReal_pe x1 x5 h1 h5 s) (isReal_de x0 x1 x2 x3 x4 x5 x6 x7 x8 h0 h1 h2 h3 h4 h5 h6 h7 h8 s) (fun _ => h6 _) d

theorem val18 (s : Fin 4096) : (val_main_v18 (F := Ideal) x3 : FVec Ideal S4096x1 .f32) (ix2 s 0)
    = Ideal.ofBits .f32 0xBF000000#32 * Ideal.div (rs (rowR x3 s)) (ms (rowR x3 s)) := by
  pointwise [val_main_v18, val_main_v17, val_main_cst_3, val_main_v16, val_main_v15, val_main_v14, val_main_v12, val_main_v10, val_main_v9, val_main_v8, val_main_cst_0, val_main_v11, val_main_cst_1, val_main_v13, val_main_cst_2, rs, ms, rowR]

theorem val15 (s : Fin 4096) : (val_main_v15 (F := Ideal) x3 : FVec Ideal S4096x1 .f32) (ix2 s 0) = rs (rowR x3 s) := by
  pointwise [val_main_v15, val_main_v14, val_main_v12, val_main_v10, val_main_v9, val_main_v8, val_main_cst_0, val_main_v11, val_main_cst_1, val_main_v13, val_main_cst_2, rs, rowR]

include h0 h1 h2 h3 h4 h5 h6 h7 h8 in
/-- The post-norm gain's gradient. -/
theorem val128 (d : Fin 1024) : (val_main_v128 (F := Ideal) x0 x1 x2 x3 x4 x5 x6 x7 x8 : FVec Ideal S1x1024 .f32) (ix2 0 d)
    = ∑ s : Fin 4096, dh (hR x0 x3 x8 s) (peR x1 x5 s) (tR x2 s) (WR x4) (gR x6) (gR x7) d * (rowR x3 s d * rs (rowR x3 s)) := by
  have e : ∀ s d, val_main_v81 (F := Ideal) x0 x1 x2 x3 x4 x5 x6 x7 x8 (ix2 s d) = dh (hR x0 x3 x8 s) (peR x1 x5 s) (tR x2 s) (WR x4) (gR x6) (gR x7) d := val81 x0 x1 x2 x3 x4 x5 x6 x7 x8 h0 h1 h2 h3 h4 h5 h6 h7 h8
  have f : ∀ s, val_main_v15 (F := Ideal) x3 (ix2 s 0) = _ := val15 x3
  unfold val_main_v128 val_main_v107 val_main_v104 val_main_v103 val_main_v102 val_main_v20 val_main_v19
  generalize val_main_v81 (F := Ideal) x0 x1 x2 x3 x4 x5 x6 x7 x8 = z at e
  generalize val_main_v15 (F := Ideal) x3 = y at f
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, f, Finset.univ_unique, Finset.sum_singleton]
  exact Finset.sum_congr rfl fun s _ => mul_comm _ _

include h0 h1 h2 h3 h4 h5 h6 h7 h8 in
/-- The post-norm input's gradient. -/
theorem val125 (s : Fin 4096) (d : Fin 1024) : (val_main_v125 (F := Ideal) x0 x1 x2 x3 x4 x5 x6 x7 x8 : FVec Ideal S4096x1024 .bf16) (ix2 s d)
    = nb (rowR x3 s) (dh (hR x0 x3 x8 s) (peR x1 x5 s) (tR x2 s) (WR x4) (gR x6) (gR x7)) (gR x8) d := by
  have e : ∀ s d, val_main_v81 (F := Ideal) x0 x1 x2 x3 x4 x5 x6 x7 x8 (ix2 s d) = dh (hR x0 x3 x8 s) (peR x1 x5 s) (tR x2 s) (WR x4) (gR x6) (gR x7) d := val81 x0 x1 x2 x3 x4 x5 x6 x7 x8 h0 h1 h2 h3 h4 h5 h6 h7 h8
  have g : ∀ s (j : Fin 1), val_main_v18 (F := Ideal) x3 (ix2 s j)
      = Ideal.ofBits .f32 0xBF000000#32 * Ideal.div (rs (rowR x3 s)) (ms (rowR x3 s)) := fun s j => by
    obtain rfl : j = 0 := Subsingleton.elim _ _
    exact val18 x3 s
  have i : ∀ s, val_main_v15 (F := Ideal) x3 (ix2 s 0) = _ := val15 x3
  unfold val_main_v125 val_main_v121 val_main_v120 val_main_v119 val_main_v118 val_main_v117 val_main_v116 val_main_v115 val_main_v113 val_main_v112 val_main_v111 val_main_v110 val_main_v109 val_main_v108 val_main_v106
  generalize val_main_v81 (F := Ideal) x0 x1 x2 x3 x4 x5 x6 x7 x8 = z at e
  generalize val_main_v18 (F := Ideal) x3 = w at g
  generalize val_main_v15 (F := Ideal) x3 = v at i
  pointwise [val_main_v105, val_main_v21, val_main_v7, val_main_v114, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, val_main_cst_28, val_main_cst_29, val_main_cst_30]
  simp only [e, g, i, Finset.univ_unique, Finset.sum_singleton]
  exact nb_chain (x := rowR x3 s) (D := dh (hR x0 x3 x8 s) (peR x1 x5 s) (tR x2 s) (WR x4) (gR x6) (gR x7)) (G := gR x8) (fun _ => h3 _) (isReal_dh x0 x1 x2 x3 x4 x5 x6 x7 x8 h0 h1 h2 h3 h4 h5 h6 h7 h8 s) (fun _ => h8 _) d

end Real

end Cert.Proof.Head

end
-- ==== Proof.Head.Host.lean ====
/-
  The arrays the region finds, over the arguments.
-/
module

public import proofs.«01_k».proof.Proof.Head.Kernel
public import proofs.«01_k».proof.Proof.Head.Reference
public import Idealize.ShloMosaic.Lib.StableHlo.RunRead

@[expose] public section

set_option maxRecDepth 16384

noncomputable section

open Idealize.ShloMosaic Idealize.ShloMosaic.TcCoe Cert.Common
open scoped BigOperators

namespace Cert.Proof.Head

open Cert.HeadIdeal Cert.HeadIdeal.Gen
open Cert.Proof.Branch (rs)

variable (m : (ℓ : Loc nD τ sig) → Buf (Elt Ideal) ℓ)

theorem v15 (c : Dev nD) (s : Fin 4096) (d : Fin 1024) :
    (V m c main_v15 : FVec Ideal S4096x1024 .f32) (ix2 s d)
      = hR (m ((c.tc : Thread nD τ).loc main_arg0)) (m ((c.tc : Thread nD τ).loc main_arg3)) (m ((c.tc : Thread nD τ).loc main_arg8)) s d := by
  simp only [V, hostOps0, List.flatten_cons, List.flatten_nil, List.append_nil, List.cons_append, List.nil_append]
  after_reads_simp
  clean_types
  pointwise [hR, rs, rowR, gR]

theorem v16 (c : Dev nD) (s : Fin 4096) (l : Fin 256) :
    (V m c main_v16 : FVec Ideal S4096x256 .f32) (ix2 s l)
      = (m ((c.tc : Thread nD τ).loc main_arg1) : FVec Ideal S1x1x4096x256 .f32) (ix4 0 0 s l) := by
  simp only [V, hostOps0, List.flatten_cons, List.flatten_nil, List.append_nil, List.cons_append, List.nil_append]
  after_reads_simp
  clean_types
  pointwise

theorem v17 (c : Dev nD) (s : Fin 4096) (l : Fin 1024) :
    (V m c main_v17 : FVec Ideal S4096x1024 .f32) (ix2 s l)
      = (m ((c.tc : Thread nD τ).loc main_arg2) : FVec Ideal S1x4096x1024 .f32) (ix3 0 s l) := by
  simp only [V, hostOps0, List.flatten_cons, List.flatten_nil, List.append_nil, List.cons_append, List.nil_append]
  after_reads_simp
  clean_types
  pointwise

theorem v19 (c : Dev nD) (k l : Fin 1024) :
    (V m c main_v19 : FVec Ideal S1024x1024 .bf16) (ix2 k l)
      = (m ((c.tc : Thread nD τ).loc main_arg4) : FVec Ideal S1x1024x1024 .f32) (ix3 0 k l) := by
  simp only [V, hostOps0, List.flatten_cons, List.flatten_nil, List.append_nil, List.cons_append, List.nil_append]
  after_reads_simp
  clean_types
  pointwise

theorem v21 (c : Dev nD) (k : Fin 256) (l : Fin 1024) :
    (V m c main_v21 : FVec Ideal S256x1024 .bf16) (ix2 k l)
      = (m ((c.tc : Thread nD τ).loc main_arg5) : FVec Ideal S1x256x1024 .f32) (ix3 0 k l) := by
  simp only [V, hostOps0, List.flatten_cons, List.flatten_nil, List.append_nil, List.cons_append, List.nil_append]
  after_reads_simp
  clean_types
  pointwise

theorem stream_eq (c : Dev nD) : rowF (V m c main_v15)
    = hR (m ((c.tc : Thread nD τ).loc main_arg0)) (m ((c.tc : Thread nD τ).loc main_arg3)) (m ((c.tc : Thread nD τ).loc main_arg8)) := by
  funext s k
  exact v15 m c s k

theorem projected {p : FVec Ideal S4096x256 .f32} {E : FVec Ideal S256x1024 .bf16} {x : FVec Ideal S1x1x4096x256 .f32}
    {y : FVec Ideal S1x256x1024 .f32} (hp : ∀ s l, p (ix2 s l) = x (ix4 0 0 s l)) (hE : ∀ k l, E (ix2 k l) = y (ix3 0 k l)) :
    peF p E = peR x y := by
  funext s d
  unfold peF peR pr
  exact Finset.sum_congr rfl fun l _ => congrArg₂ (· * ·) (hp s l) (hE l d)

theorem pe_eq (c : Dev nD) : peF (V m c main_v16) (V m c main_v21)
    = peR (m ((c.tc : Thread nD τ).loc main_arg1)) (m ((c.tc : Thread nD τ).loc main_arg5)) :=
  projected (v16 m c) (v21 m c)

theorem target_eq (c : Dev nD) : rowF (V m c main_v17) = tR (m ((c.tc : Thread nD τ).loc main_arg2)) := by
  funext s k
  exact v17 m c s k

theorem gate_eq (c : Dev nD) : gateOf (V m c main_v19) = WR (m ((c.tc : Thread nD τ).loc main_arg4)) := by
  funext k l
  exact v19 m c k l

end Cert.Proof.Head

end
-- ==== Proof.Head.Algebraic.lean ====
/-
  The kernel's arrays are the reference's.
-/
module

public import proofs.«01_k».proof.Defs
public import proofs.«01_k».proof.Proof.Head.Host
public import proofs.«01_k».proof.Proof.Gen.HeadIdeal.Value
public import proofs.«01_k».proof.Proof.Gen.Pre_head_finite

@[expose] public section

set_option maxRecDepth 16384

noncomputable section

open Idealize.ShloMosaic Idealize.ShloMosaic.TcCoe Cert.Common
open scoped BigOperators

namespace Cert.Proof.Head

open Cert.HeadIdeal Cert.HeadIdeal.Gen
open Cert.HeadRefIdeal.Read

/-- The finiteness of the arguments, array by array. -/
theorem reals {m : (ℓ : Loc nD τ sig) → Buf (Elt Ideal) ℓ} (hpre : Cert.Pre_HeadIdeal_head_finite m) (c : Dev nD) :
    (∀ i, IsReal ((m ((c.tc : Thread nD τ).loc main_arg0) : FVec Ideal S1x4096x1024 .f32) i))
    ∧ (∀ i, IsReal ((m ((c.tc : Thread nD τ).loc main_arg1) : FVec Ideal S1x1x4096x256 .f32) i))
    ∧ (∀ i, IsReal ((m ((c.tc : Thread nD τ).loc main_arg2) : FVec Ideal S1x4096x1024 .f32) i))
    ∧ (∀ i, IsReal ((m ((c.tc : Thread nD τ).loc main_arg3) : FVec Ideal S4096x1024 .f32) i))
    ∧ (∀ i, IsReal ((m ((c.tc : Thread nD τ).loc main_arg4) : FVec Ideal S1x1024x1024 .f32) i))
    ∧ (∀ i, IsReal ((m ((c.tc : Thread nD τ).loc main_arg5) : FVec Ideal S1x256x1024 .f32) i))
    ∧ (∀ i, IsReal ((m ((c.tc : Thread nD τ).loc main_arg6) : FVec Ideal S1x1024 .f32) i))
    ∧ (∀ i, IsReal ((m ((c.tc : Thread nD τ).loc main_arg7) : FVec Ideal S1x1024 .f32) i))
    ∧ (∀ i, IsReal ((m ((c.tc : Thread nD τ).loc main_arg8) : FVec Ideal S1x1024 .f32) i)) := by
  obtain ⟨h, r8⟩ := andi_one (congrFun (hpre c) ix0)
  obtain ⟨h, r7⟩ := andi_one h
  obtain ⟨h, r6⟩ := andi_one h
  obtain ⟨h, r5⟩ := andi_one h
  obtain ⟨h, r4⟩ := andi_one h
  obtain ⟨h, r3⟩ := andi_one h
  obtain ⟨h, r2⟩ := andi_one h
  obtain ⟨r0, r1⟩ := andi_one h
  exact ⟨real_of_all _ _ _ _ _ _ lit_inf r0, real_of_all _ _ _ _ _ _ lit_inf r1, real_of_all _ _ _ _ _ _ lit_inf r2, real_of_all _ _ _ _ _ _ lit_inf r3, real_of_all _ _ _ _ _ _ lit_inf r4, real_of_all _ _ _ _ _ _ lit_inf r5, real_of_all _ _ _ _ _ _ lit_inf r6, real_of_all _ _ _ _ _ _ lit_inf r7, real_of_all _ _ _ _ _ _ lit_inf r8⟩

set_option maxHeartbeats 2000000 in
theorem algebraic : Cert.algebraic_HeadIdeal_HeadRefIdeal_pre_head_finite := by
  intro m g m' g' hpre hagree
  refine ⟨_, _, _, _, _, _, _, _, Cert.HeadIdeal.Value.run_blocks m g, ?_⟩
  refine (θ_run _ _ _).mono (fun r h c => ?_) (Cert.HeadRefIdeal.Value.run m' g')
  obtain ⟨e0, e1, e2, e3, e4, e5, e6, e7, e8⟩ := hagree c
  obtain ⟨r0, r1, r2, r3, r4, r5, r6, r7, r8⟩ := reals hpre c
  have hs := stream_eq m c
  have he := pe_eq m c
  have ht := target_eq m c
  have hw := gate_eq m c
  obtain ⟨h0, h1, h2, h3, h4, h5, h6, h7, h8⟩ := h c
  refine ⟨h0.trans ?_, h1.trans ?_, h2.trans ?_, h3.trans ?_, h4.trans ?_, h5.trans ?_, h6.trans ?_, h7.trans ?_, h8⟩
  · refine (val_main_v122_eq _ _).trans ?_
    rw [e0, e1, e2, e3, e4, e5, e6, e7, e8]
    refine Eq.trans ?_ (final9 m c).symm
    funext y
    idx_vars y
    obtain rfl : y0 = 0 := Subsingleton.elim _ _
    obtain rfl : y1 = 0 := Subsingleton.elim _ _
    refine ((val122 _ _ _ _ _ _ _ _ _ r0 r3 r4 r7 r8).trans (half_tiles (isReal_ls _ _ _ _ _ _ _ _ _ r0 r1 r2 r3 r4 r5 r6 r7 r8))).trans ?_
    unfold lsV
    rw [hs, he, ht, hw, V_main_arg6, V_main_arg7]
    rfl
  · refine (val_main_v123_eq _ _).trans ?_
    rw [e0, e1, e2, e3, e4, e5, e6, e7, e8]
    refine Eq.trans ?_ (final10 m c).symm
    funext y
    idx_vars y
    refine (val123 _ _ _ _ _ _ _ _ _ r0 r1 r2 r3 r4 r5 r6 r7 r8 _ _).trans ?_
    show _ = dqV m c _ _
    unfold dqV
    rw [hs, he, ht, hw, V_main_arg6, V_main_arg7]
    rfl
  · refine (val_main_v124_eq _ _).trans ?_
    rw [e0, e1, e2, e3, e4, e5, e6, e7, e8]
    refine Eq.trans ?_ (final11 m c).symm
    funext y
    idx_vars y
    refine (val124 _ _ _ _ _ _ _ _ _ r0 r1 r2 r3 r4 r5 r6 r7 r8 _ _).trans ?_
    show _ = dpV m c _ _
    unfold dpV
    rw [hs, he, ht, hw, V_main_arg6, V_main_arg7]
    rfl
  · refine (val_main_v81_eq _ _).trans ?_
    rw [e0, e1, e2, e3, e4, e5, e6, e7, e8]
    refine Eq.trans ?_ (final12 m c).symm
    funext y
    idx_vars y
    refine (val81 _ _ _ _ _ _ _ _ _ r0 r1 r2 r3 r4 r5 r6 r7 r8 _ _).trans ?_
    show _ = dhV m c _ _
    unfold dhV
    rw [hs, he, ht, hw, V_main_arg6, V_main_arg7]
    rfl
  · refine (val_main_v125_eq _ _).trans ?_
    rw [e0, e1, e2, e3, e4, e5, e6, e7, e8]
    refine Eq.trans ?_ (final13 m c).symm
    funext y
    idx_vars y
    refine (val125 _ _ _ _ _ _ _ _ _ r0 r1 r2 r3 r4 r5 r6 r7 r8 _ _).trans ?_
    show _ = dmV m c _ _
    unfold dmV dhV
    rw [hs, he, ht, hw, V_main_arg6, V_main_arg7, V_main_arg3, V_main_arg8]
    rfl
  · refine (val_main_v126_eq _ _).trans ?_
    rw [e0, e1, e2, e3, e4, e5, e6, e7, e8]
    refine Eq.trans ?_ (final14 m c).symm
    funext y
    idx_vars y
    obtain rfl : y0 = 0 := Subsingleton.elim _ _
    refine (val126 _ _ _ _ _ _ _ _ _ r0 r1 r2 r3 r4 r5 r6 r7 r8 _).trans ?_
    show _ = ∑ s : Fin 4096, gkV m c s _
    unfold gkV deV
    rw [hs, he, ht, hw, V_main_arg6, V_main_arg7]
    rfl
  · refine (val_main_v127_eq _ _).trans ?_
    rw [e0, e1, e2, e3, e4, e5, e6, e7, e8]
    refine Eq.trans ?_ (final15 m c).symm
    funext y
    idx_vars y
    obtain rfl : y0 = 0 := Subsingleton.elim _ _
    refine (val127 _ _ _ _ _ _ _ _ _ r0 r1 r2 r3 r4 r5 r6 r7 r8 _).trans ?_
    show _ = ∑ s : Fin 4096, dqV m c s _
    unfold dqV
    rw [hs, he, ht, hw, V_main_arg6, V_main_arg7]
    rfl
  · refine (val_main_v128_eq _ _).trans ?_
    rw [e0, e1, e2, e3, e4, e5, e6, e7, e8]
    refine Eq.trans ?_ (final16 m c).symm
    funext y
    idx_vars y
    obtain rfl : y0 = 0 := Subsingleton.elim _ _
    refine (val128 _ _ _ _ _ _ _ _ _ r0 r1 r2 r3 r4 r5 r6 r7 r8 _).trans ?_
    show _ = ∑ s : Fin 4096, ggV m c s _
    unfold ggV dhV
    rw [hs, he, ht, hw, V_main_arg6, V_main_arg7, V_main_arg3]
    rfl

end Cert.Proof.Head

end
-- ==== Proof.Attn.Parts.lean ====
/-
  The three kinds of block the attention's backward pass works on, each value it computes there as a formula in the rows
  of its operands.
-/
module

public import proofs.«01_k».proof.Proof.Gen.AttnIdeal.Skeleton
public import proofs.«01_k».proof.Proof.Common

@[expose] public section

set_option maxRecDepth 16384

noncomputable section

open Idealize.ShloMosaic
open scoped BigOperators

namespace Cert.Proof.Attn

open Cert.AttnIdeal Cert.AttnIdeal.Gen

/-- Two to the power of an extended real. -/
def e2 (x : EReal) : EReal := FloatOps.exp2 (F := Ideal) (φ := .f32) x

/-- What one column block of one head works on: keys, values and the keys' bias pieces of the block, the queries, the rows'
    bias pieces, the output's gradients and the rows' sums of the head, and the block's number. -/
structure Ins where
  k : Fin 1024 → Fin 128 → EReal
  v : Fin 1024 → Fin 128 → EReal
  kx : Fin 1024 → Fin 128 → EReal
  q : ℕ → Fin 128 → EReal
  ax : ℕ → Fin 128 → EReal
  o : ℕ → Fin 128 → EReal
  dl : ℕ → Fin 128 → EReal
  j : ℕ

/-- The lane of a column. -/
def lane (u : Fin 1024) : Fin 128 := ⟨u.val % 128, Nat.mod_lt _ (by decide)⟩

/-- The score of row `S` against column `u`. -/
def U (I : Ins) (S : ℕ) (u : Fin 1024) : EReal := ∑ l, I.q S l * I.k u l + ∑ l, I.ax S l * I.kx u l

/-- The weight: nothing above the diagonal. -/
def P (I : Ins) (S : ℕ) (u : Fin 1024) : EReal := if 1024 * I.j + u.val ≤ S then e2 (U I S u) else 0

/-- The score's gradient. -/
def G (I : Ins) (S : ℕ) (u : Fin 1024) : EReal := P I S u * (∑ l, I.o S l * I.v u l - I.dl S (lane u))

variable (I : Ins) {v3 v5 : Vec Ideal S1024x128 .bf16} {v7 : Vec Ideal S1x1024x128 .bf16}
  (h3 : ∀ u l, v3 (ix2 u l) = I.k u l) (h5 : ∀ u l, v5 (ix2 u l) = I.v u l) (h7 : ∀ u l, v7 (ix3 0 u l) = I.kx u l)

/-- The factor of the queries' gradient. -/
def scl : EReal := (Named.named (F := Ideal) κ "scale" 0x3DB504F3#32 : Ideal .f32)

theorem gap_value : (Named.named (F := Ideal) κ "mask" 0xF149F2CA#32 : Ideal .f32) = (⊥ : EReal) :=
  IdealRules.named_const.ideal_named_scalar _ _ _ _ rfl

theorem e2_bot : e2 ⊥ = 0 := by
  rfl

/-- A weight under the mask: the comparison is of whole numbers too small to wrap. -/
theorem weight_masked {a b ca cb : ℕ} (x : EReal) (ha : a < 1024) (hb : b < 1024) (hca : ca < 1024) (hcb : cb < 1024) :
    (FloatOps.exp2 (F := Ideal) (φ := .f32) (Scalar.select (IntOp.cmpi .sge (IntOp.addi (BitVec.ofNat 32 a) (BitVec.ofNat 32 ca))
      (IntOp.addi (BitVec.ofNat 32 b) (BitVec.ofNat 32 cb))) x (Named.named (F := Ideal) κ "mask" 0xF149F2CA#32)) : EReal)
      = if b + cb ≤ a + ca then e2 x else 0 := by
  have hs : IntOp.cmpi .sge (IntOp.addi (BitVec.ofNat 32 a) (BitVec.ofNat 32 ca)) (IntOp.addi (BitVec.ofNat 32 b) (BitVec.ofNat 32 cb))
      = if b + cb ≤ a + ca then 1#1 else 0#1 := by
    have e1 : IntOp.addi (BitVec.ofNat 32 a) (BitVec.ofNat 32 ca) = BitVec.ofNat 32 (a + ca) := by
      simp [IntOp.addi, BitVec.ofNat_add]
    have e3 : IntOp.addi (BitVec.ofNat 32 b) (BitVec.ofNat 32 cb) = BitVec.ofNat 32 (b + cb) := by
      simp [IntOp.addi, BitVec.ofNat_add]
    rw [e1, e3]
    have t1 : (BitVec.ofNat 32 (a + ca)).toInt = ((a + ca : ℕ) : ℤ) := by
      rw [BitVec.toInt_eq_toNat_of_lt] <;> simp [BitVec.toNat_ofNat] <;> omega
    have t2 : (BitVec.ofNat 32 (b + cb)).toInt = ((b + cb : ℕ) : ℤ) := by
      rw [BitVec.toInt_eq_toNat_of_lt] <;> simp [BitVec.toNat_ofNat] <;> omega
    rw [show IntOp.cmpi .sge (BitVec.ofNat 32 (a + ca)) (BitVec.ofNat 32 (b + cb))
      = BitVec.ofBool (decide ((BitVec.ofNat 32 (b + cb)).toInt ≤ (BitVec.ofNat 32 (a + ca)).toInt)) from rfl, t1, t2]
    by_cases h : b + cb ≤ a + ca
    · rw [if_pos h, decide_eq_true (Int.ofNat_le.2 h)]; rfl
    · rw [if_neg h, decide_eq_false (fun h' => h (Int.ofNat_le.1 h'))]; rfl
  rw [hs]
  split_ifs with h
  · simp [Scalar.select, e2]
  · simp only [Scalar.select, gap_value]; exact e2_bot

theorem G_of_later {S : ℕ} {u w : Fin 1024} {l : Fin 128} (hw : w = u) (hl : l = lane u) (hc : 1024 * I.j + u.val ≤ S) :
    e2 (U I S w) * (∑ x, I.o S x * I.v w x - I.dl S l) = G I S u := by
  subst hw hl; simp [G, P, hc]

theorem P_of_later {S : ℕ} {u w : Fin 1024} (hw : w = u) (hc : 1024 * I.j + u.val ≤ S) : e2 (U I S w) = P I S u := by
  subst hw; simp [P, hc]

theorem G_of_diag {S : ℕ} {u w : Fin 1024} {l : Fin 128} (hw : w = u) (hl : l = lane u) {b : Prop} [Decidable b]
    (hc : b ↔ 1024 * I.j + u.val ≤ S) :
    (if b then e2 (U I S w) else 0) * (∑ x, I.o S x * I.v w x - I.dl S l) = G I S u := by
  subst hw hl; simp [G, P, hc]

theorem P_of_diag {S : ℕ} {u w : Fin 1024} (hw : w = u) {b : Prop} [Decidable b] (hc : b ↔ 1024 * I.j + u.val ≤ S) :
    (if b then e2 (U I S w) else 0) = P I S u := by
  subst hw; simp [P, hc]

section Later
variable {B : ℕ} (hB : 1024 * I.j + 1023 ≤ B) {x5 x7 : Vec Ideal S1024x128 .bf16} {x6 : Vec Ideal S1x1024x128 .bf16} {x8 : Vec Ideal S1x1024x128 .f32}
  (hq : ∀ s l, x5 (ix2 s l) = I.q (B + s.val) l) (ho : ∀ s l, x7 (ix2 s l) = I.o (B + s.val) l)
  (ha : ∀ s l, x6 (ix3 0 s l) = I.ax (B + s.val) l) (hd : ∀ s l, x8 (ix3 0 s l) = I.dl (B + s.val) l)

include h3 h7 hq ha in
theorem score_later (s : Fin 1024) (u : Fin 1024) : k0_pay7 (k0_pay43 v3 v7) x5 x6 (ix2 s u) = U I (B + s.val) u := by
  unfold k0_pay7 k0_pay5 k0_pay43 k0_pay41
  pointwise
  simp only [h3, h7, hq, ha]
  rfl

include h5 ho in
theorem dp_later (s : Fin 1024) (u : Fin 1024) : k0_pay8 (k0_pay42 v5) x7 (ix2 s u) = ∑ l, I.o (B + s.val) l * I.v u l := by
  unfold k0_pay8 k0_pay42
  pointwise
  simp only [h5, ho]

include h3 h5 h7 hq ho ha hd hB in
theorem slope_later (s : Fin 1024) (u : Fin 1024) :
    k0_pay104 (k0_pay6 x8) (k0_pay7 (k0_pay43 v3 v7) x5 x6) (k0_pay8 (k0_pay42 v5) x7) (k0_pay10 (k0_pay42 v5) (k0_pay43 v3 v7) x5 x7 x8 x6)
      (k0_pay12 (k0_pay42 v5) (k0_pay43 v3 v7) x5 x7 x8 x6) (k0_pay14 (k0_pay42 v5) (k0_pay43 v3 v7) x5 x7 x8 x6)
      (k0_pay16 (k0_pay42 v5) (k0_pay43 v3 v7) x5 x7 x8 x6) (k0_pay18 (k0_pay42 v5) (k0_pay43 v3 v7) x5 x7 x8 x6)
      (k0_pay20 (k0_pay42 v5) (k0_pay43 v3 v7) x5 x7 x8 x6) (k0_pay21 (k0_pay43 v3 v7) x5 x6) (ix2 s u) = G I (B + s.val) u := by
  have eU := score_later I h3 h7 hq ha
  have eD := dp_later I h5 ho
  unfold k0_pay104 k0_pay102 k0_pay101 k0_pay100 k0_pay21 k0_pay20 k0_pay19 k0_pay18 k0_pay17 k0_pay16 k0_pay15 k0_pay14 k0_pay13 k0_pay12 k0_pay11 k0_pay10 k0_pay9 k0_pay6
  generalize k0_pay7 (k0_pay43 v3 v7) x5 x6 = zu at eU
  generalize k0_pay8 (k0_pay42 v5) x7 = zd at eD
  pointwise
  simp only [eU, eD, hd]
  split_ifs <;> exact G_of_later I (Fin.ext (by simp <;> omega)) (Fin.ext (by simp only [lane]; omega)) (by omega)

include h3 h5 h7 hq ho ha hd hB in
/-- The rows' sums, lane by lane, of the score's gradient. -/
theorem lanes_later (y : Vec Ideal S1x1024x128 .f32) (s : Fin 1024) (l : Fin 128) :
    k0_pay103 (k0_pay6 x8) (k0_pay7 (k0_pay43 v3 v7) x5 x6) (k0_pay8 (k0_pay42 v5) x7) (k0_pay10 (k0_pay42 v5) (k0_pay43 v3 v7) x5 x7 x8 x6)
      (k0_pay12 (k0_pay42 v5) (k0_pay43 v3 v7) x5 x7 x8 x6) (k0_pay14 (k0_pay42 v5) (k0_pay43 v3 v7) x5 x7 x8 x6)
      (k0_pay16 (k0_pay42 v5) (k0_pay43 v3 v7) x5 x7 x8 x6) (k0_pay18 (k0_pay42 v5) (k0_pay43 v3 v7) x5 x7 x8 x6)
      (k0_pay20 (k0_pay42 v5) (k0_pay43 v3 v7) x5 x7 x8 x6) (k0_pay21 (k0_pay43 v3 v7) x5 x6) y (ix3 0 s l)
      = y (ix3 0 s l) + ∑ b : Fin 8, G I (B + s.val) ⟨128 * b.val + l.val, by omega⟩ := by
  have eU := score_later I h3 h7 hq ha
  have eD := dp_later I h5 ho
  unfold k0_pay103 k0_pay102 k0_pay101 k0_pay100 k0_pay21 k0_pay20 k0_pay19 k0_pay18 k0_pay17 k0_pay16 k0_pay15 k0_pay14 k0_pay13 k0_pay12 k0_pay11 k0_pay10 k0_pay9 k0_pay6
  generalize k0_pay7 (k0_pay43 v3 v7) x5 x6 = zu at eU
  generalize k0_pay8 (k0_pay42 v5) x7 = zd at eD
  pointwise
  simp only [eU, eD, hd, Fin.sum_univ_eight]
  refine congrArg₂ (· + ·) rfl ?_
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    exact G_of_later I (Fin.ext (by simp)) (Fin.ext (by simp [lane] <;> omega)) (by simp <;> omega)

include h3 h5 h7 hq ho ha hd hB in
theorem keys_later (y : FVec Ideal S1024x128 .f32) (u : Fin 1024) (d : Fin 128) :
    k0_pay107 y (k0_pay5 x5) (k0_pay6 x8) (k0_pay7 (k0_pay43 v3 v7) x5 x6) (k0_pay8 (k0_pay42 v5) x7) (k0_pay10 (k0_pay42 v5) (k0_pay43 v3 v7) x5 x7 x8 x6)
      (k0_pay12 (k0_pay42 v5) (k0_pay43 v3 v7) x5 x7 x8 x6) (k0_pay14 (k0_pay42 v5) (k0_pay43 v3 v7) x5 x7 x8 x6)
      (k0_pay16 (k0_pay42 v5) (k0_pay43 v3 v7) x5 x7 x8 x6) (k0_pay18 (k0_pay42 v5) (k0_pay43 v3 v7) x5 x7 x8 x6)
      (k0_pay20 (k0_pay42 v5) (k0_pay43 v3 v7) x5 x7 x8 x6) (k0_pay21 (k0_pay43 v3 v7) x5 x6) (ix2 u d)
      = y (ix2 u d) + ∑ s : Fin 1024, G I (B + s.val) u * I.q (B + s.val) d := by
  have e := slope_later I h3 h5 h7 hB hq ho ha hd
  unfold k0_pay107 k0_pay105 k0_pay5
  generalize k0_pay104 (F := Ideal) _ _ _ _ _ _ _ _ _ _ = z at e
  pointwise
  simp only [e, hq]

include h3 h5 h7 hq ho ha hd hB in
theorem cols_later (y : FVec Ideal S8x1024 .f32) (r : Fin 8) (u : Fin 1024) :
    k0_pay109 y (k0_pay6 x8) (k0_pay7 (k0_pay43 v3 v7) x5 x6) (k0_pay8 (k0_pay42 v5) x7) (k0_pay10 (k0_pay42 v5) (k0_pay43 v3 v7) x5 x7 x8 x6)
      (k0_pay12 (k0_pay42 v5) (k0_pay43 v3 v7) x5 x7 x8 x6) (k0_pay14 (k0_pay42 v5) (k0_pay43 v3 v7) x5 x7 x8 x6)
      (k0_pay16 (k0_pay42 v5) (k0_pay43 v3 v7) x5 x7 x8 x6) (k0_pay18 (k0_pay42 v5) (k0_pay43 v3 v7) x5 x7 x8 x6)
      (k0_pay20 (k0_pay42 v5) (k0_pay43 v3 v7) x5 x7 x8 x6) (k0_pay21 (k0_pay43 v3 v7) x5 x6) (ix2 r u)
      = y (ix2 r u) + ∑ x : Fin 128, G I (B + (x.val * 8 + r.val)) u := by
  have e := slope_later I h3 h5 h7 hB hq ho ha hd
  unfold k0_pay109
  generalize k0_pay104 (F := Ideal) _ _ _ _ _ _ _ _ _ _ = z at e
  pointwise
  simp only [e]

include h3 h5 h7 hq ho ha hd hB in
theorem queries_later (y : Vec Ideal S1024x128 .f32) (s : Fin 1024) (d : Fin 128) :
    k0_pay106 (k0_pay41 v3) (k0_pay6 x8) (k0_pay7 (k0_pay43 v3 v7) x5 x6) (k0_pay8 (k0_pay42 v5) x7) (k0_pay10 (k0_pay42 v5) (k0_pay43 v3 v7) x5 x7 x8 x6)
      (k0_pay12 (k0_pay42 v5) (k0_pay43 v3 v7) x5 x7 x8 x6) (k0_pay14 (k0_pay42 v5) (k0_pay43 v3 v7) x5 x7 x8 x6)
      (k0_pay16 (k0_pay42 v5) (k0_pay43 v3 v7) x5 x7 x8 x6) (k0_pay18 (k0_pay42 v5) (k0_pay43 v3 v7) x5 x7 x8 x6)
      (k0_pay20 (k0_pay42 v5) (k0_pay43 v3 v7) x5 x7 x8 x6) (k0_pay21 (k0_pay43 v3 v7) x5 x6) y (ix2 s d)
      = y (ix2 s d) + (∑ u : Fin 1024, G I (B + s.val) u * I.k u d) * scl := by
  have e := slope_later I h3 h5 h7 hB hq ho ha hd
  unfold k0_pay106 k0_pay105 k0_pay41
  generalize k0_pay104 (F := Ideal) _ _ _ _ _ _ _ _ _ _ = z at e
  pointwise
  simp only [e, h3]
  rfl

include h3 h7 hq ho ha hB in
theorem values_later (y : FVec Ideal S1024x128 .f32) (u : Fin 1024) (d : Fin 128) :
    k0_pay108 y x7 (k0_pay7 (k0_pay43 v3 v7) x5 x6) (k0_pay9 (k0_pay43 v3 v7) x5 x6) (k0_pay11 (k0_pay43 v3 v7) x5 x6) (k0_pay13 (k0_pay43 v3 v7) x5 x6)
      (k0_pay15 (k0_pay43 v3 v7) x5 x6) (k0_pay17 (k0_pay43 v3 v7) x5 x6) (k0_pay19 (k0_pay43 v3 v7) x5 x6) (k0_pay21 (k0_pay43 v3 v7) x5 x6) (ix2 u d)
      = y (ix2 u d) + ∑ s : Fin 1024, P I (B + s.val) u * I.o (B + s.val) d := by
  have eU := score_later I h3 h7 hq ha
  unfold k0_pay108 k0_pay101 k0_pay21 k0_pay19 k0_pay17 k0_pay15 k0_pay13 k0_pay11 k0_pay9
  generalize k0_pay7 (k0_pay43 v3 v7) x5 x6 = zu at eU
  pointwise
  simp only [eU, ho]
  refine congrArg₂ (· + ·) rfl (Finset.sum_congr rfl fun s _ => congrArg₂ (· * ·) ?_ rfl)
  split_ifs <;> exact P_of_later I (Fin.ext (by simp <;> omega)) (by omega)

end Later

/-- The rows' numbers and the lanes' numbers within a block. -/
abbrev rowIota : IVec S1024x128 32 := iota .tc S1024x128 32 [0] iota_S1024x128_d0_w32
abbrev laneIota : IVec S1024x128 32 := iota .tc S1024x128 32 [1] iota_S1024x128_d1_w32

section Upper
variable {B : ℕ} (hB : B = 1024 * I.j) {x5 x7 : Vec Ideal S512x128 .bf16} {x6 : Vec Ideal S1x512x128 .bf16} {x8 : Vec Ideal S1x512x128 .f32}
  (hq : ∀ s l, x5 (ix2 s l) = I.q (B + s.val) l) (ho : ∀ s l, x7 (ix2 s l) = I.o (B + s.val) l)
  (ha : ∀ s l, x6 (ix3 0 s l) = I.ax (B + s.val) l) (hd : ∀ s l, x8 (ix3 0 s l) = I.dl (B + s.val) l)

include h3 h7 hq ha in
theorem score_upper (s : Fin 512) (u : Fin 512) : k0_pay49 v3 v7 x5 x6 (ix2 s u) = U I (B + s.val) ⟨u.val, by omega⟩ := by
  unfold k0_pay49 k0_pay47 k0_pay43 k0_pay41
  pointwise
  simp only [h3, h7, hq, ha]
  rfl

include h5 ho in
theorem dp_upper (s : Fin 512) (u : Fin 512) : k0_pay50 v5 x7 (ix2 s u) = ∑ l, I.o (B + s.val) l * I.v ⟨u.val, by omega⟩ l := by
  unfold k0_pay50 k0_pay42
  pointwise
  simp only [h5, ho]

include h3 h5 h7 hq ho ha hd hB in
theorem slope_upper (s : Fin 512) (u : Fin 512) :
    k0_pay63 (k0_pay48 x8) (k0_pay50 v5 x7) (k0_pay53 rowIota laneIota (k0_pay48 x8) (k0_pay50 v5 x7) (k0_pay51 v3 v7 x5 x6)) (k0_pay55 rowIota laneIota (k0_pay48 x8) (k0_pay49 v3 v7 x5 x6) (k0_pay50 v5 x7)) (k0_pay57 rowIota laneIota (k0_pay48 x8) (k0_pay49 v3 v7 x5 x6) (k0_pay50 v5 x7)) (k0_pay58 (k0_pay49 v3 v7 x5 x6)) (k0_pay59 rowIota laneIota) (ix2 s u) = G I (B + s.val) ⟨u.val, by omega⟩ := by
  have eU := score_upper I h3 h7 hq ha
  have eD := dp_upper I h5 ho
  unfold k0_pay63 k0_pay61 k0_pay60 k0_pay59 k0_pay58 k0_pay57 k0_pay56 k0_pay55 k0_pay54 k0_pay53 k0_pay52 k0_pay51 k0_pay48
  generalize k0_pay49 v3 v7 x5 x6 = zu at eU
  generalize k0_pay50 v5 x7 = zd at eD
  pointwise
  split_ifs <;> rw [weight_masked _ (by omega) (by omega) (by omega) (by omega)] <;> simp only [eU, eD, hd] <;>
    exact G_of_diag I (Fin.ext (by simp <;> omega)) (Fin.ext (by simp [lane] <;> omega)) (by simp <;> omega)

include h3 h5 h7 hq ho ha hd hB in
theorem lanes_upper (y : Vec Ideal S1x512x128 .f32) (s : Fin 512) (l : Fin 128) :
    k0_pay62 (k0_pay48 x8) (k0_pay50 v5 x7) (k0_pay53 rowIota laneIota (k0_pay48 x8) (k0_pay50 v5 x7) (k0_pay51 v3 v7 x5 x6)) (k0_pay55 rowIota laneIota (k0_pay48 x8) (k0_pay49 v3 v7 x5 x6) (k0_pay50 v5 x7)) (k0_pay57 rowIota laneIota (k0_pay48 x8) (k0_pay49 v3 v7 x5 x6) (k0_pay50 v5 x7)) (k0_pay58 (k0_pay49 v3 v7 x5 x6)) (k0_pay59 rowIota laneIota) y (ix3 0 s l)
      = y (ix3 0 s l) + ∑ b : Fin 8, G I (B + s.val) ⟨128 * b.val + l.val, by omega⟩ := by
  have eU := score_upper I h3 h7 hq ha
  have eD := dp_upper I h5 ho
  unfold k0_pay62 k0_pay61 k0_pay60 k0_pay59 k0_pay58 k0_pay57 k0_pay56 k0_pay55 k0_pay54 k0_pay53 k0_pay52 k0_pay51 k0_pay48
  generalize k0_pay49 v3 v7 x5 x6 = zu at eU
  generalize k0_pay50 v5 x7 = zd at eD
  pointwise
  have z : ∀ b : Fin 8, 4 ≤ b.val → G I (B + s.val) ⟨128 * b.val + l.val, by omega⟩ = 0 := fun b hb => by
    unfold G P; rw [if_neg (by simp <;> omega), zero_mul]
  rw [Fin.sum_univ_eight, z 4 (by decide), z 5 (by decide), z 6 (by decide), z 7 (by decide)]
  simp only [add_zero]
  repeat rw [weight_masked _ (by omega) (by omega) (by omega) (by omega)]
  simp only [eU, eD, hd]
  refine congrArg₂ (· + ·) rfl ?_
  refine congrArg₂ (· + ·) (congrArg₂ (· + ·) (congrArg₂ (· + ·) ?_ ?_) ?_) ?_ <;>
    exact G_of_diag I (Fin.ext (by simp)) (Fin.ext (by simp [lane] <;> omega)) (by simp <;> omega)

include h3 h5 h7 hq ho ha hd hB in
theorem keys_upper (y : FVec Ideal S1024x128 .f32) (u : Fin 1024) (d : Fin 128) :
    k0_pay68 y (k0_pay47 x5) (k0_pay48 x8) (k0_pay50 v5 x7) (k0_pay53 rowIota laneIota (k0_pay48 x8) (k0_pay50 v5 x7) (k0_pay51 v3 v7 x5 x6)) (k0_pay55 rowIota laneIota (k0_pay48 x8) (k0_pay49 v3 v7 x5 x6) (k0_pay50 v5 x7)) (k0_pay57 rowIota laneIota (k0_pay48 x8) (k0_pay49 v3 v7 x5 x6) (k0_pay50 v5 x7)) (k0_pay58 (k0_pay49 v3 v7 x5 x6)) (k0_pay59 rowIota laneIota) (ix2 u d)
      = y (ix2 u d) + ∑ s : Fin 512, G I (B + s.val) u * I.q (B + s.val) d := by
  have e := slope_upper I h3 h5 h7 hB hq ho ha hd
  unfold k0_pay68 k0_pay64 k0_pay47
  generalize k0_pay63 (F := Ideal) _ _ _ _ _ _ _ = z at e
  pointwise
  simp only [e, hq]
  split_ifs with hu
  · rfl
  · have : ∀ s : Fin 512, G I (B + s.val) u = 0 := fun s => by
      unfold G P; rw [if_neg (by omega), zero_mul]
    simp [this]

include h3 h5 h7 hq ho ha hd hB in
theorem cols_upper (y : FVec Ideal S8x1024 .f32) (r : Fin 8) (u : Fin 1024) :
    k0_pay70 y (k0_pay65 (k0_pay48 x8) (k0_pay50 v5 x7) (k0_pay53 rowIota laneIota (k0_pay48 x8) (k0_pay50 v5 x7) (k0_pay51 v3 v7 x5 x6)) (k0_pay55 rowIota laneIota (k0_pay48 x8) (k0_pay49 v3 v7 x5 x6) (k0_pay50 v5 x7)) (k0_pay57 rowIota laneIota (k0_pay48 x8) (k0_pay49 v3 v7 x5 x6) (k0_pay50 v5 x7)) (k0_pay58 (k0_pay49 v3 v7 x5 x6)) (k0_pay59 rowIota laneIota)) (ix2 r u)
      = y (ix2 r u) + ∑ x : Fin 64, G I (B + (x.val * 8 + r.val)) u := by
  have e := slope_upper I h3 h5 h7 hB hq ho ha hd
  unfold k0_pay70 k0_pay65
  generalize k0_pay63 (F := Ideal) _ _ _ _ _ _ _ = z at e
  pointwise
  simp only [e]
  split_ifs with hu
  · rfl
  · have : ∀ x : Fin 64, G I (B + (x.val * 8 + r.val)) u = 0 := fun s => by
      unfold G P; rw [if_neg (by omega), zero_mul]
    simp [this]

include h3 h5 h7 hq ho ha hd hB in
theorem queries_upper (y : Vec Ideal S512x128 .f32) (s : Fin 512) (d : Fin 128) :
    k0_pay67 (k0_pay41 v3) (k0_pay48 x8) (k0_pay50 v5 x7) (k0_pay53 rowIota laneIota (k0_pay48 x8) (k0_pay50 v5 x7) (k0_pay51 v3 v7 x5 x6)) (k0_pay55 rowIota laneIota (k0_pay48 x8) (k0_pay49 v3 v7 x5 x6) (k0_pay50 v5 x7)) (k0_pay57 rowIota laneIota (k0_pay48 x8) (k0_pay49 v3 v7 x5 x6) (k0_pay50 v5 x7)) (k0_pay58 (k0_pay49 v3 v7 x5 x6)) (k0_pay59 rowIota laneIota) y (ix2 s d)
      = y (ix2 s d) + (∑ u : Fin 1024, G I (B + s.val) u * I.k u d) * scl := by
  have e := slope_upper I h3 h5 h7 hB hq ho ha hd
  unfold k0_pay67 k0_pay64 k0_pay41
  generalize k0_pay63 (F := Ideal) _ _ _ _ _ _ _ = z at e
  pointwise
  simp only [e, h3]
  have hz : ∑ u : Fin 1024, G I (B + s.val) u * I.k u d
      = ∑ u : Fin 512, G I (B + s.val) ⟨u.val, by omega⟩ * I.k ⟨u.val, by omega⟩ d := by
    have := Fin.sum_univ_add (M := EReal) (a := 512) (b := 512) (fun u => G I (B + s.val) u * I.k u d)
    refine this.trans ?_
    have z : ∀ u : Fin 512, G I (B + s.val) (Fin.natAdd 512 u) = 0 := fun u => by
      unfold G P; rw [if_neg (by simp <;> omega), zero_mul]
    simp only [z, zero_mul, Finset.sum_const_zero, add_zero]
    rfl
  rw [hz]
  rfl

include h3 h7 hq ho ha hB in
theorem values_upper (y : FVec Ideal S1024x128 .f32) (u : Fin 1024) (d : Fin 128) :
    k0_pay69 y (k0_pay66 x7 (k0_pay52 rowIota laneIota (k0_pay51 v3 v7 x5 x6)) (k0_pay54 rowIota laneIota (k0_pay49 v3 v7 x5 x6))
      (k0_pay56 rowIota laneIota (k0_pay49 v3 v7 x5 x6)) (k0_pay58 (k0_pay49 v3 v7 x5 x6)) (k0_pay59 rowIota laneIota)) (ix2 u d)
      = y (ix2 u d) + ∑ s : Fin 512, P I (B + s.val) u * I.o (B + s.val) d := by
  have eU := score_upper I h3 h7 hq ha
  unfold k0_pay69 k0_pay66 k0_pay60 k0_pay59 k0_pay58 k0_pay56 k0_pay54 k0_pay52 k0_pay51
  generalize k0_pay49 v3 v7 x5 x6 = zu at eU
  pointwise
  refine congrArg₂ (· + ·) rfl ?_
  by_cases hu : u.val < 512
  · rw [dif_pos hu]
    split_ifs <;> refine Finset.sum_congr rfl fun s _ => congrArg₂ (· * ·) ?_ (ho s d) <;> rw [weight_masked _ (by omega) (by omega) (by omega) (by omega)] <;> simp only [eU] <;>
      exact P_of_diag I (Fin.ext (by simp <;> omega)) (by simp <;> omega)
  · rw [dif_neg hu]
    have : ∀ s : Fin 512, P I (B + s.val) u = 0 := fun s => by
      unfold P; rw [if_neg (by omega)]
    simp [this]

end Upper

section Lower
variable {B : ℕ} (hB : B = 1024 * I.j + 512) {x5 x7 : Vec Ideal S512x128 .bf16} {x6 : Vec Ideal S1x512x128 .bf16} {x8 : Vec Ideal S1x512x128 .f32}
  (hq : ∀ s l, x5 (ix2 s l) = I.q (B + s.val) l) (ho : ∀ s l, x7 (ix2 s l) = I.o (B + s.val) l)
  (ha : ∀ s l, x6 (ix3 0 s l) = I.ax (B + s.val) l) (hd : ∀ s l, x8 (ix3 0 s l) = I.dl (B + s.val) l)

include h3 h7 hq ha in
theorem score_lower (s : Fin 512) (u : Fin 1024) : k0_pay73 (k0_pay43 v3 v7) x5 x6 (ix2 s u) = U I (B + s.val) u := by
  unfold k0_pay73 k0_pay71 k0_pay43 k0_pay41
  pointwise
  simp only [h3, h7, hq, ha]
  rfl

include h5 ho in
theorem dp_lower (s : Fin 512) (u : Fin 1024) : k0_pay74 (k0_pay42 v5) x7 (ix2 s u) = ∑ l, I.o (B + s.val) l * I.v u l := by
  unfold k0_pay74 k0_pay42
  pointwise
  simp only [h5, ho]

include h3 h5 h7 hq ho ha hd hB in
theorem slope_lower (s : Fin 512) (u : Fin 1024) :
    k0_pay94 (k0_pay76 (k0_pay42 v5) (k0_pay43 v3 v7) x5 x7 x8 x6) (k0_pay78 (k0_pay42 v5) (k0_pay43 v3 v7) x5 x7 x8 x6) (k0_pay80 (k0_pay42 v5) (k0_pay43 v3 v7) x5 x7 x8 x6) (k0_pay82 (k0_pay42 v5) (k0_pay43 v3 v7) x5 x7 x8 x6) (k0_pay86 (k0_pay72 x8) (k0_pay74 (k0_pay42 v5) x7) (k0_pay83 (k0_pay43 v3 v7) x5 x6) (k0_pay84 rowIota laneIota) (Named.named κ "mask" 0xF149F2CA#32)) (k0_pay88 rowIota laneIota (k0_pay72 x8) (k0_pay73 (k0_pay43 v3 v7) x5 x6) (k0_pay74 (k0_pay42 v5) x7)) (k0_pay90 rowIota laneIota (k0_pay72 x8) (k0_pay73 (k0_pay43 v3 v7) x5 x6) (k0_pay74 (k0_pay42 v5) x7)) (k0_pay92 rowIota laneIota (k0_pay72 x8) (k0_pay73 (k0_pay43 v3 v7) x5 x6) (k0_pay74 (k0_pay42 v5) x7)) (ix2 s u) = G I (B + s.val) u := by
  have eU := score_lower I h3 h7 hq ha
  have eD := dp_lower I h5 ho
  unfold k0_pay94 k0_pay92 k0_pay91 k0_pay90 k0_pay89 k0_pay88 k0_pay87 k0_pay86 k0_pay85 k0_pay84 k0_pay83 k0_pay82 k0_pay81 k0_pay80 k0_pay79 k0_pay78 k0_pay77 k0_pay76 k0_pay75 k0_pay72
  generalize k0_pay73 (k0_pay43 v3 v7) x5 x6 = zu at eU
  generalize k0_pay74 (k0_pay42 v5) x7 = zd at eD
  pointwise
  split_ifs <;>
    (first
      | rw [weight_masked _ (by omega) (by omega) (by omega) (by omega)]; simp only [eU, eD, hd]
        exact G_of_diag I (Fin.ext (by first | omega | (simp <;> omega))) (Fin.ext (by first | omega | (simp [lane] <;> omega))) (by first | omega | (simp <;> omega))
      | simp only [eU, eD, hd]
        exact G_of_later I (Fin.ext (by first | omega | (simp <;> omega))) (Fin.ext (by first | omega | (simp [lane] <;> omega))) (by first | omega | (simp <;> omega)))

include h3 h5 h7 hq ho ha hd hB in
theorem lanes_lower (y : Vec Ideal S1x512x128 .f32) (s : Fin 512) (l : Fin 128) :
    k0_pay93 (k0_pay76 (k0_pay42 v5) (k0_pay43 v3 v7) x5 x7 x8 x6) (k0_pay78 (k0_pay42 v5) (k0_pay43 v3 v7) x5 x7 x8 x6) (k0_pay80 (k0_pay42 v5) (k0_pay43 v3 v7) x5 x7 x8 x6) (k0_pay82 (k0_pay42 v5) (k0_pay43 v3 v7) x5 x7 x8 x6) (k0_pay86 (k0_pay72 x8) (k0_pay74 (k0_pay42 v5) x7) (k0_pay83 (k0_pay43 v3 v7) x5 x6) (k0_pay84 rowIota laneIota) (Named.named κ "mask" 0xF149F2CA#32)) (k0_pay88 rowIota laneIota (k0_pay72 x8) (k0_pay73 (k0_pay43 v3 v7) x5 x6) (k0_pay74 (k0_pay42 v5) x7)) (k0_pay90 rowIota laneIota (k0_pay72 x8) (k0_pay73 (k0_pay43 v3 v7) x5 x6) (k0_pay74 (k0_pay42 v5) x7)) (k0_pay92 rowIota laneIota (k0_pay72 x8) (k0_pay73 (k0_pay43 v3 v7) x5 x6) (k0_pay74 (k0_pay42 v5) x7)) y (ix3 0 s l)
      = y (ix3 0 s l) + ∑ b : Fin 8, G I (B + s.val) ⟨128 * b.val + l.val, by omega⟩ := by
  have eU := score_lower I h3 h7 hq ha
  have eD := dp_lower I h5 ho
  unfold k0_pay93 k0_pay92 k0_pay91 k0_pay90 k0_pay89 k0_pay88 k0_pay87 k0_pay86 k0_pay85 k0_pay84 k0_pay83 k0_pay82 k0_pay81 k0_pay80 k0_pay79 k0_pay78 k0_pay77 k0_pay76 k0_pay75 k0_pay72
  generalize k0_pay73 (k0_pay43 v3 v7) x5 x6 = zu at eU
  generalize k0_pay74 (k0_pay42 v5) x7 = zd at eD
  pointwise
  rw [Fin.sum_univ_eight]
  refine congrArg₂ (· + ·) rfl ?_
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_ <;>
    (first
      | rw [weight_masked _ (by omega) (by omega) (by omega) (by omega)]; simp only [eU, eD, hd]
        exact G_of_diag I (Fin.ext (by first | omega | (simp <;> omega))) (Fin.ext (by first | omega | (simp [lane] <;> omega))) (by first | omega | (simp <;> omega))
      | simp only [eU, eD, hd]
        exact G_of_later I (Fin.ext (by first | omega | (simp <;> omega))) (Fin.ext (by first | omega | (simp [lane] <;> omega))) (by first | omega | (simp <;> omega)))

include h3 h5 h7 hq ho ha hd hB in
theorem keys_lower (y : FVec Ideal S1024x128 .f32) (u : Fin 1024) (d : Fin 128) :
    k0_pay97 y (k0_pay71 x5) (k0_pay76 (k0_pay42 v5) (k0_pay43 v3 v7) x5 x7 x8 x6) (k0_pay78 (k0_pay42 v5) (k0_pay43 v3 v7) x5 x7 x8 x6) (k0_pay80 (k0_pay42 v5) (k0_pay43 v3 v7) x5 x7 x8 x6) (k0_pay82 (k0_pay42 v5) (k0_pay43 v3 v7) x5 x7 x8 x6) (k0_pay86 (k0_pay72 x8) (k0_pay74 (k0_pay42 v5) x7) (k0_pay83 (k0_pay43 v3 v7) x5 x6) (k0_pay84 rowIota laneIota) (Named.named κ "mask" 0xF149F2CA#32)) (k0_pay88 rowIota laneIota (k0_pay72 x8) (k0_pay73 (k0_pay43 v3 v7) x5 x6) (k0_pay74 (k0_pay42 v5) x7)) (k0_pay90 rowIota laneIota (k0_pay72 x8) (k0_pay73 (k0_pay43 v3 v7) x5 x6) (k0_pay74 (k0_pay42 v5) x7)) (k0_pay92 rowIota laneIota (k0_pay72 x8) (k0_pay73 (k0_pay43 v3 v7) x5 x6) (k0_pay74 (k0_pay42 v5) x7)) (ix2 u d)
      = y (ix2 u d) + ∑ s : Fin 512, G I (B + s.val) u * I.q (B + s.val) d := by
  have e := slope_lower I h3 h5 h7 hB hq ho ha hd
  unfold k0_pay97 k0_pay95 k0_pay71
  generalize k0_pay94 (F := Ideal) _ _ _ _ _ _ _ _ = z at e
  pointwise
  simp only [e, hq]

include h3 h5 h7 hq ho ha hd hB in
theorem cols_lower (y : FVec Ideal S8x1024 .f32) (r : Fin 8) (u : Fin 1024) :
    k0_pay99 y (k0_pay76 (k0_pay42 v5) (k0_pay43 v3 v7) x5 x7 x8 x6) (k0_pay78 (k0_pay42 v5) (k0_pay43 v3 v7) x5 x7 x8 x6) (k0_pay80 (k0_pay42 v5) (k0_pay43 v3 v7) x5 x7 x8 x6) (k0_pay82 (k0_pay42 v5) (k0_pay43 v3 v7) x5 x7 x8 x6) (k0_pay86 (k0_pay72 x8) (k0_pay74 (k0_pay42 v5) x7) (k0_pay83 (k0_pay43 v3 v7) x5 x6) (k0_pay84 rowIota laneIota) (Named.named κ "mask" 0xF149F2CA#32)) (k0_pay88 rowIota laneIota (k0_pay72 x8) (k0_pay73 (k0_pay43 v3 v7) x5 x6) (k0_pay74 (k0_pay42 v5) x7)) (k0_pay90 rowIota laneIota (k0_pay72 x8) (k0_pay73 (k0_pay43 v3 v7) x5 x6) (k0_pay74 (k0_pay42 v5) x7)) (k0_pay92 rowIota laneIota (k0_pay72 x8) (k0_pay73 (k0_pay43 v3 v7) x5 x6) (k0_pay74 (k0_pay42 v5) x7)) (ix2 r u)
      = y (ix2 r u) + ∑ x : Fin 64, G I (B + (x.val * 8 + r.val)) u := by
  have e := slope_lower I h3 h5 h7 hB hq ho ha hd
  unfold k0_pay99
  generalize k0_pay94 (F := Ideal) _ _ _ _ _ _ _ _ = z at e
  pointwise
  simp only [e]

include h3 h5 h7 hq ho ha hd hB in
theorem queries_lower (y : Vec Ideal S512x128 .f32) (s : Fin 512) (d : Fin 128) :
    k0_pay96 (k0_pay41 v3) (k0_pay76 (k0_pay42 v5) (k0_pay43 v3 v7) x5 x7 x8 x6) (k0_pay78 (k0_pay42 v5) (k0_pay43 v3 v7) x5 x7 x8 x6) (k0_pay80 (k0_pay42 v5) (k0_pay43 v3 v7) x5 x7 x8 x6) (k0_pay82 (k0_pay42 v5) (k0_pay43 v3 v7) x5 x7 x8 x6) (k0_pay86 (k0_pay72 x8) (k0_pay74 (k0_pay42 v5) x7) (k0_pay83 (k0_pay43 v3 v7) x5 x6) (k0_pay84 rowIota laneIota) (Named.named κ "mask" 0xF149F2CA#32)) (k0_pay88 rowIota laneIota (k0_pay72 x8) (k0_pay73 (k0_pay43 v3 v7) x5 x6) (k0_pay74 (k0_pay42 v5) x7)) (k0_pay90 rowIota laneIota (k0_pay72 x8) (k0_pay73 (k0_pay43 v3 v7) x5 x6) (k0_pay74 (k0_pay42 v5) x7)) (k0_pay92 rowIota laneIota (k0_pay72 x8) (k0_pay73 (k0_pay43 v3 v7) x5 x6) (k0_pay74 (k0_pay42 v5) x7)) y (ix2 s d)
      = y (ix2 s d) + (∑ u : Fin 1024, G I (B + s.val) u * I.k u d) * scl := by
  have e := slope_lower I h3 h5 h7 hB hq ho ha hd
  unfold k0_pay96 k0_pay95 k0_pay41
  generalize k0_pay94 (F := Ideal) _ _ _ _ _ _ _ _ = z at e
  pointwise
  simp only [e, h3]
  rfl

include h3 h7 hq ho ha hB in
theorem values_lower (y : FVec Ideal S1024x128 .f32) (u : Fin 1024) (d : Fin 128) :
    k0_pay98 y x7 (k0_pay75 (k0_pay43 v3 v7) x5 x6) (k0_pay77 (k0_pay43 v3 v7) x5 x6) (k0_pay79 (k0_pay43 v3 v7) x5 x6) (k0_pay81 (k0_pay43 v3 v7) x5 x6) (k0_pay85 (k0_pay83 (k0_pay43 v3 v7) x5 x6) (k0_pay84 rowIota laneIota) (Named.named κ "mask" 0xF149F2CA#32)) (k0_pay87 rowIota laneIota (k0_pay73 (k0_pay43 v3 v7) x5 x6)) (k0_pay89 rowIota laneIota (k0_pay73 (k0_pay43 v3 v7) x5 x6)) (k0_pay91 rowIota laneIota (k0_pay73 (k0_pay43 v3 v7) x5 x6)) (ix2 u d)
      = y (ix2 u d) + ∑ s : Fin 512, P I (B + s.val) u * I.o (B + s.val) d := by
  have eU := score_lower I h3 h7 hq ha
  unfold k0_pay98 k0_pay91 k0_pay89 k0_pay87 k0_pay85 k0_pay84 k0_pay83 k0_pay81 k0_pay79 k0_pay77 k0_pay75
  generalize k0_pay73 (k0_pay43 v3 v7) x5 x6 = zu at eU
  pointwise
  refine congrArg₂ (· + ·) rfl (Finset.sum_congr rfl fun s _ => congrArg₂ (· * ·) ?_ (ho s d))
  split_ifs <;>
    (first
      | rw [weight_masked _ (by omega) (by omega) (by omega) (by omega)]; simp only [eU]
        exact P_of_diag I (Fin.ext (by first | omega | (simp <;> omega))) (by first | omega | (simp <;> omega))
      | simp only [eU]
        exact P_of_later I (Fin.ext (by first | omega | (simp <;> omega))) (by first | omega | (simp <;> omega)))

end Lower

end Cert.Proof.Attn
-- ==== Proof.Attn.Loop.lean ====
/-
  The loop over the later row blocks of the attention's backward pass: after `k` trips each carried value is its first value
  plus the sum over the rows met, and each row met has taken its sum once.
-/
module

public import proofs.«01_k».proof.Proof.Gen.AttnIdeal.Loops
public import proofs.«01_k».proof.Proof.Attn.Parts
public import Idealize.ShloMosaic.Lib.WritesUnit

@[expose] public section

set_option maxRecDepth 16384

noncomputable section

open Idealize.ShloMosaic Idealize.ShloMosaic.TcCoe
open scoped BigOperators

namespace Cert.Proof.Attn

open Cert.AttnIdeal Cert.AttnIdeal.Gen

/-- A load at an index is the view's contents at the place of that index in the rectangle. -/
theorem load_at {κ : Kind} {sp : Space} {s : Shape} {e : EltTy} (v : View sig κ sp s e) (f : v.ty.Contents (Elt Ideal))
    {off size : Fin s.rank → ℕ} (inb : ∀ a, off a + size a ≤ s.size a) (y : (Rect.unit off size inb).shape.Idx) (z : s.Idx)
    (h : ∀ a, (z a).val = off a + (y a).val) :
    v.readAt (Elt Ideal) (Rect.unit off size inb).toLoadRect f y = v.read (Elt Ideal) f z :=
  congrArg (v.read (Elt Ideal) f) (funext fun a => Fin.ext (by
    show off a + 1 * (y a).val = (z a).val
    rw [h a, Nat.one_mul]))

/-- What two rows' worth of loads of a buffer read. -/
theorem load_rows {n W D : ℕ} {κ : Kind} {sp : Space} {e : EltTy} (v : View sig κ sp ⟨2, ![n, D]⟩ e) (f : v.ty.Contents (Elt Ideal))
    {off : Fin 2 → ℕ} {o : ℕ} (ho : off = ![o, 0]) (inb : ∀ a : Fin 2, off a + (![W, D] : Fin 2 → ℕ) a ≤ (![n, D] : Fin 2 → ℕ) a)
    (s : Fin W) (l : Fin D) (hs : o + s.val < n) :
    v.readAt (Elt Ideal) (Rect.unit (s := ⟨2, ![n, D]⟩) off ![W, D] inb).toLoadRect f (ix2 s l) = v.read (Elt Ideal) f (ix2 ⟨o + s.val, hs⟩ l) := by
  subst ho
  exact load_at v f inb (ix2 s l) (ix2 ⟨o + s.val, hs⟩ l) (Fin.forall_fin_two.mpr ⟨rfl, (Nat.zero_add _).symm⟩)

theorem load_slab {n W D : ℕ} {κ : Kind} {sp : Space} {e : EltTy} (v : View sig κ sp ⟨3, ![1, n, D]⟩ e) (f : v.ty.Contents (Elt Ideal))
    {off : Fin 3 → ℕ} {o : ℕ} (ho : off = ![0, o, 0]) (inb : ∀ a : Fin 3, off a + (![1, W, D] : Fin 3 → ℕ) a ≤ (![1, n, D] : Fin 3 → ℕ) a)
    (s : Fin W) (l : Fin D) (hs : o + s.val < n) :
    v.readAt (Elt Ideal) (Rect.unit (s := ⟨3, ![1, n, D]⟩) off ![1, W, D] inb).toLoadRect f (ix3 0 s l) = v.read (Elt Ideal) f (ix3 0 ⟨o + s.val, hs⟩ l) := by
  subst ho
  exact load_at v f inb (ix3 0 s l) (ix3 0 ⟨o + s.val, hs⟩ l) (by
    intro a; fin_cases a
    · rfl
    · rfl
    · exact (Nat.zero_add _).symm)

/-- Rows of a buffer after a store of some of them. -/
theorem rows_stored {n W D : ℕ} {κ : Kind} {sp : Space} {e : EltTy} (v : View sig κ sp ⟨2, ![n, D]⟩ e) (f : v.ty.Contents (Elt Ideal))
    {off : Fin 2 → ℕ} {o : ℕ} (ho : off = ![o, 0]) (inb : ∀ a : Fin 2, off a + (![W, D] : Fin 2 → ℕ) a ≤ (![n, D] : Fin 2 → ℕ) a)
    (w : (Rect.unit (s := ⟨2, ![n, D]⟩) off ![W, D] inb).shape.Idx → Elt Ideal e) (L : List (View.Piece (Elt Ideal) ⟨2, ![n, D]⟩ e)) (S : Fin n) (l : Fin D) :
    v.read (Elt Ideal) (v.writes (Elt Ideal) f (⟨Rect.unit (s := ⟨2, ![n, D]⟩) off ![W, D] inb, w⟩ :: L)) (ix2 S l)
      = if h : o ≤ S.val ∧ S.val < o + W then w (ix2 ⟨S.val - o, by omega⟩ l) else v.read (Elt Ideal) (v.writes (Elt Ideal) f L) (ix2 S l) := by
  split_ifs with h
  · exact View.read_writes_cons_unit_of_mem v f inb w L (ix2 S l) (ix2 ⟨S.val - o, by omega⟩ l) ho
      (Fin.forall_fin_two.mpr ⟨show S.val = o + (S.val - o) by omega, (Nat.zero_add _).symm⟩)
  · exact View.read_writes_cons_unit_of_not_mem v f inb w L (ix2 S l) ho (0 : Fin 2) (by
      show S.val < o ∨ o + W ≤ S.val; omega)

theorem slab_stored {n W D : ℕ} {κ : Kind} {sp : Space} {e : EltTy} (v : View sig κ sp ⟨3, ![1, n, D]⟩ e) (f : v.ty.Contents (Elt Ideal))
    {off : Fin 3 → ℕ} {o : ℕ} (ho : off = ![0, o, 0]) (inb : ∀ a : Fin 3, off a + (![1, W, D] : Fin 3 → ℕ) a ≤ (![1, n, D] : Fin 3 → ℕ) a)
    (w : (Rect.unit (s := ⟨3, ![1, n, D]⟩) off ![1, W, D] inb).shape.Idx → Elt Ideal e) (L : List (View.Piece (Elt Ideal) ⟨3, ![1, n, D]⟩ e)) (S : Fin n) (l : Fin D) :
    v.read (Elt Ideal) (v.writes (Elt Ideal) f (⟨Rect.unit (s := ⟨3, ![1, n, D]⟩) off ![1, W, D] inb, w⟩ :: L)) (ix3 0 S l)
      = if h : o ≤ S.val ∧ S.val < o + W then w (ix3 0 ⟨S.val - o, by omega⟩ l) else v.read (Elt Ideal) (v.writes (Elt Ideal) f L) (ix3 0 S l) := by
  split_ifs with h
  · exact View.read_writes_cons_unit_of_mem v f inb w L (ix3 0 S l) (ix3 0 ⟨S.val - o, by omega⟩ l) ho (by
      intro a; fin_cases a
      · rfl
      · show S.val = o + (S.val - o); omega
      · exact (Nat.zero_add _).symm)
  · exact View.read_writes_cons_unit_of_not_mem v f inb w L (ix3 0 S l) ho (1 : Fin 3) (by
      show S.val < o ∨ o + W ≤ S.val; omega)

/-- One trip. -/
theorem trip_value (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (arg1 : BitVec 32)  (v126 : FVec Ideal S1024x128 .f32) (v127 : FVec Ideal S1024x128 .f32) (v128 : FVec Ideal S8x1024 .f32) (v131 : BitVec 32) (v134 : FVec Ideal S512x128 .bf16) (v136 : Vec Ideal S512x128 .bf16) (v147 : FVec Ideal S512x128 .f32) (v150 : FVec Ideal S512x128 .f32) (v152 : FVec Ideal S512x128 .f32) (v155 : FVec Ideal S512x128 .f32) (v157 : FVec Ideal S512x128 .f32) (v160 : FVec Ideal S512x128 .f32) (v162 : FVec Ideal S512x128 .f32) (v165 : FVec Ideal S512x128 .f32) (v176 : FVec Ideal S512x128 .f32) (v179 : FVec Ideal S512x128 .f32) (v190 : FVec Ideal S512x128 .f32) (v193 : FVec Ideal S512x128 .f32) (v204 : FVec Ideal S512x128 .f32) (v207 : FVec Ideal S512x128 .f32) (v218 : FVec Ideal S512x128 .f32) (v221 : FVec Ideal S512x128 .f32) (v258 : BitVec 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
    (I : Ins) (hj : I.j = (i 1).val) (v3 v5 : Vec Ideal S1024x128 .bf16) (v7 : Vec Ideal S1x1024x128 .bf16)
    (h3 : ∀ u l, v3 (ix2 u l) = I.k u l) (h5 : ∀ u l, v5 (ix2 u l) = I.v u l) (h7 : ∀ u l, v7 (ix3 0 u l) = I.kx u l)
    (hq : ∀ (S : Fin 4096) l, arg5.view.read (Elt Ideal) X_arg5 (ix2 S l) = I.q S.val l)
    (ha : ∀ (S : Fin 4096) l, arg6.view.read (Elt Ideal) X_arg6 (ix3 0 S l) = I.ax S.val l)
    (ho : ∀ (S : Fin 4096) l, arg7.view.read (Elt Ideal) X_arg7 (ix2 S l) = I.o S.val l)
    (hd : ∀ (S : Fin 4096) l, arg8.view.read (Elt Ideal) X_arg8 (ix3 0 S l) = I.dl S.val l)
    (k : Fin (k0_t1_loop i).trips) (acc : FVec Ideal S1024x128 .f32 × FVec Ideal S1024x128 .f32 × FVec Ideal S8x1024 .f32)
    (G14 : BufTy.Contents (Elt Ideal) arg14.view.ty) (L14 : List (View.Piece (Elt Ideal) S1x4096x128 .f32))
    (G15 : BufTy.Contents (Elt Ideal) arg15.view.ty) (L15 : List (View.Piece (Elt Ideal) S4096x128 .f32))
    (B : ℕ) (hB : B = 1024 * (i 1).val + 1024 * k.val + 1024) (hB' : B + 1024 ≤ 4096) :
    (∀ u d, (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 k acc (arg14.view.writes (Elt Ideal) G14 L14) (arg15.view.writes (Elt Ideal) G15 L15)).1 (ix2 u d)
        = acc.1 (ix2 u d) + ∑ s : Fin 1024, G I (B + s.val) u * I.q (B + s.val) d)
    ∧ (∀ u d, (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 k acc (arg14.view.writes (Elt Ideal) G14 L14) (arg15.view.writes (Elt Ideal) G15 L15)).2.1 (ix2 u d)
        = acc.2.1 (ix2 u d) + ∑ s : Fin 1024, P I (B + s.val) u * I.o (B + s.val) d)
    ∧ (∀ r u, (tripR_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 k acc (arg14.view.writes (Elt Ideal) G14 L14) (arg15.view.writes (Elt Ideal) G15 L15)).2.2 (ix2 r u)
        = acc.2.2 (ix2 r u) + ∑ x : Fin 128, G I (B + (x.val * 8 + r.val)) u)
    ∧ (∀ S l, arg14.view.read (Elt Ideal) (arg14.view.writes (Elt Ideal) G14 ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 k acc (arg14.view.writes (Elt Ideal) G14 L14) (arg15.view.writes (Elt Ideal) G15 L15)).1 ++ L14)) (ix3 0 S l)
        = if B ≤ S.val ∧ S.val < B + 1024 then arg14.view.read (Elt Ideal) (arg14.view.writes (Elt Ideal) G14 L14) (ix3 0 S l) + ∑ b : Fin 8, G I S.val ⟨128 * b.val + l.val, by omega⟩
          else arg14.view.read (Elt Ideal) (arg14.view.writes (Elt Ideal) G14 L14) (ix3 0 S l))
    ∧ (∀ S d, arg15.view.read (Elt Ideal) (arg15.view.writes (Elt Ideal) G15 ((tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 k acc (arg14.view.writes (Elt Ideal) G14 L14) (arg15.view.writes (Elt Ideal) G15 L15)).2 ++ L15)) (ix2 S d)
        = if B ≤ S.val ∧ S.val < B + 1024 then arg15.view.read (Elt Ideal) (arg15.view.writes (Elt Ideal) G15 L15) (ix2 S d) + (∑ u : Fin 1024, G I S.val u * I.k u d) * scl
          else arg15.view.read (Elt Ideal) (arg15.view.writes (Elt Ideal) G15 L15) (ix2 S d)) := by
  have o3 : k0_off3 i k = ![B, 0] := by rw [k0_off3_eq, hB]
  have o4 : k0_off4 i k = ![0, B, 0] := by rw [k0_off4_eq, hB]
  have hlat : 1024 * I.j + 1023 ≤ B := by omega
  have q5 : ∀ s l, View.readAt (Elt Ideal) arg5.view (Rect.unit (s := S4096x128) (k0_off3 i k) S1024x128.size (k0_off3_inb i k)).toLoadRect X_arg5 (ix2 s l) = I.q (B + s.val) l :=
    fun s l => (load_rows arg5.view X_arg5 o3 _ s l (by omega)).trans (hq _ _)
  have q7 : ∀ s l, View.readAt (Elt Ideal) arg7.view (Rect.unit (s := S4096x128) (k0_off3 i k) S1024x128.size (k0_off3_inb i k)).toLoadRect X_arg7 (ix2 s l) = I.o (B + s.val) l :=
    fun s l => (load_rows arg7.view X_arg7 o3 _ s l (by omega)).trans (ho _ _)
  have q6 : ∀ s l, View.readAt (Elt Ideal) arg6.view (Rect.unit (s := S1x4096x128) (k0_off4 i k) S1x1024x128.size (k0_off4_inb i k)).toLoadRect X_arg6 (ix3 0 s l) = I.ax (B + s.val) l :=
    fun s l => (load_slab arg6.view X_arg6 o4 _ s l (by omega)).trans (ha _ _)
  have q8 : ∀ s l, View.readAt (Elt Ideal) arg8.view (Rect.unit (s := S1x4096x128) (k0_off4 i k) S1x1024x128.size (k0_off4_inb i k)).toLoadRect X_arg8 (ix3 0 s l) = I.dl (B + s.val) l :=
    fun s l => (load_slab arg8.view X_arg8 o4 _ s l (by omega)).trans (hd _ _)
  unfold tripR_k0_t1 tripL_k0_t1 trip_k0_t1
  dsimp only
  refine ⟨fun u d => keys_later I h3 h5 h7 hlat q5 q7 q6 q8 acc.1 u d, fun u d => values_later I h3 h7 hlat q5 q7 q6 acc.2.1 u d,
    fun r u => cols_later I h3 h5 h7 hlat q5 q7 q6 q8 acc.2.2 r u, fun S l => ?_, fun S d => ?_⟩
  · refine (slab_stored arg14.view G14 o4 _ _ L14 S l).trans ?_
    split_ifs with h
    · refine (lanes_later I h3 h5 h7 hlat q5 q7 q6 q8 _ ⟨S.val - B, by omega⟩ l).trans ?_
      refine congrArg₂ (· + ·) ((load_slab arg14.view _ o4 _ ⟨S.val - B, by omega⟩ l (by dsimp only; omega)).trans ?_) ?_
      · exact congrArg (fun x => arg14.view.read (Elt Ideal) (arg14.view.writes (Elt Ideal) G14 L14) (ix3 0 x l)) (Fin.ext (by dsimp only; omega))
      · exact Finset.sum_congr rfl fun b _ => congrArg (G I · _) (by dsimp only; omega)
    · rfl
  · refine (rows_stored arg15.view G15 o3 _ _ L15 S d).trans ?_
    split_ifs with h
    · refine (queries_later I h3 h5 h7 hlat q5 q7 q6 q8 _ ⟨S.val - B, by omega⟩ d).trans ?_
      refine congrArg₂ (· + ·) ((load_rows arg15.view _ o3 _ ⟨S.val - B, by omega⟩ d (by dsimp only; omega)).trans ?_) ?_
      · exact congrArg (fun x => arg15.view.read (Elt Ideal) (arg15.view.writes (Elt Ideal) G15 L15) (ix2 x d)) (Fin.ext (by dsimp only; omega))
      · rw [show B + (⟨S.val - B, by omega⟩ : Fin 1024).val = S.val by dsimp only; omega]
    · rfl

theorem trips_eq : ∀ i : grid0.Coords, (k0_t1_loop i).trips = 3 - (i 1).val := by decide +kernel

theorem range_more {f : ℕ → EReal} (a : EReal) (n m : ℕ) :
    a + ∑ s ∈ Finset.range n, f s + ∑ s : Fin m, f (n + s.val) = a + ∑ s ∈ Finset.range (n + m), f s := by
  rw [add_assoc, Finset.sum_range_add, Finset.sum_range (fun x => f (n + x))]

/-- What is so of the state before trip `k`. -/
structure AtTrip (I : Ins) (B k : ℕ) (init now : FVec Ideal S1024x128 .f32 × FVec Ideal S1024x128 .f32 × FVec Ideal S8x1024 .f32)
    (f f' : Fin 4096 → Fin 128 → EReal) (g g' : Fin 4096 → Fin 128 → EReal) : Prop where
  keys : ∀ u d, now.1 (ix2 u d) = init.1 (ix2 u d) + ∑ s ∈ Finset.range (1024 * k), G I (B + s) u * I.q (B + s) d
  values : ∀ u d, now.2.1 (ix2 u d) = init.2.1 (ix2 u d) + ∑ s ∈ Finset.range (1024 * k), P I (B + s) u * I.o (B + s) d
  cols : ∀ r u, now.2.2 (ix2 r u) = init.2.2 (ix2 r u) + ∑ x ∈ Finset.range (128 * k), G I (B + (x * 8 + r.val)) u
  lanes : ∀ S l, f' S l = if B ≤ S.val ∧ S.val < B + 1024 * k then f S l + ∑ b : Fin 8, G I S.val ⟨128 * b.val + l.val, by omega⟩ else f S l
  queries : ∀ S d, g' S d = if B ≤ S.val ∧ S.val < B + 1024 * k then g S d + (∑ u : Fin 1024, G I S.val u * I.k u d) * scl else g S d

/-- The state before every trip. -/
theorem loop_value (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (arg1 : BitVec 32)  (v126 : FVec Ideal S1024x128 .f32) (v127 : FVec Ideal S1024x128 .f32) (v128 : FVec Ideal S8x1024 .f32) (v131 : BitVec 32) (v134 : FVec Ideal S512x128 .bf16) (v136 : Vec Ideal S512x128 .bf16) (v147 : FVec Ideal S512x128 .f32) (v150 : FVec Ideal S512x128 .f32) (v152 : FVec Ideal S512x128 .f32) (v155 : FVec Ideal S512x128 .f32) (v157 : FVec Ideal S512x128 .f32) (v160 : FVec Ideal S512x128 .f32) (v162 : FVec Ideal S512x128 .f32) (v165 : FVec Ideal S512x128 .f32) (v176 : FVec Ideal S512x128 .f32) (v179 : FVec Ideal S512x128 .f32) (v190 : FVec Ideal S512x128 .f32) (v193 : FVec Ideal S512x128 .f32) (v204 : FVec Ideal S512x128 .f32) (v207 : FVec Ideal S512x128 .f32) (v218 : FVec Ideal S512x128 .f32) (v221 : FVec Ideal S512x128 .f32) (v258 : BitVec 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
    (I : Ins) (hj : I.j = (i 1).val) (v3 v5 : Vec Ideal S1024x128 .bf16) (v7 : Vec Ideal S1x1024x128 .bf16)
    (h3 : ∀ u l, v3 (ix2 u l) = I.k u l) (h5 : ∀ u l, v5 (ix2 u l) = I.v u l) (h7 : ∀ u l, v7 (ix3 0 u l) = I.kx u l)
    (hq : ∀ (S : Fin 4096) l, arg5.view.read (Elt Ideal) X_arg5 (ix2 S l) = I.q S.val l)
    (ha : ∀ (S : Fin 4096) l, arg6.view.read (Elt Ideal) X_arg6 (ix3 0 S l) = I.ax S.val l)
    (ho : ∀ (S : Fin 4096) l, arg7.view.read (Elt Ideal) X_arg7 (ix2 S l) = I.o S.val l)
    (hd : ∀ (S : Fin 4096) l, arg8.view.read (Elt Ideal) X_arg8 (ix3 0 S l) = I.dl S.val l)
    (G14 : BufTy.Contents (Elt Ideal) arg14.view.ty) (G15 : BufTy.Contents (Elt Ideal) arg15.view.ty)
    (init : FVec Ideal S1024x128 .f32 × FVec Ideal S1024x128 .f32 × FVec Ideal S8x1024 .f32)
    (B : ℕ) (hB : B = 1024 * (i 1).val + 1024) : ∀ k : ℕ, k ≤ (k0_t1_loop i).trips → AtTrip I B k init
      (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init k).1
      (fun S l => arg14.view.read (Elt Ideal) G14 (ix3 0 S l))
      (fun S l => arg14.view.read (Elt Ideal) (arg14.view.writes (Elt Ideal) G14 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init k).2.1) (ix3 0 S l))
      (fun S d => arg15.view.read (Elt Ideal) G15 (ix2 S d))
      (fun S d => arg15.view.read (Elt Ideal) (arg15.view.writes (Elt Ideal) G15 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init k).2.2) (ix2 S d)) := by
  intro k
  induction k with
  | zero =>
    intro _
    refine ⟨fun u d => ?_, fun u d => ?_, fun r u => ?_, fun S l => ?_, fun S l => ?_⟩
    · show init.1 (ix2 u d) = _; rw [Nat.mul_zero, Finset.range_zero, Finset.sum_empty, add_zero]
    · show init.2.1 (ix2 u d) = _; rw [Nat.mul_zero, Finset.range_zero, Finset.sum_empty, add_zero]
    · show init.2.2 (ix2 r u) = _; rw [Nat.mul_zero, Finset.range_zero, Finset.sum_empty, add_zero]
    · rw [if_neg (by omega)]; rfl
    · rw [if_neg (by omega)]; rfl
  | succ k ih =>
    intro hk
    have ht := trips_eq i
    have e := st_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init ⟨k, hk⟩
    have p := ih (by omega)
    obtain ⟨t1, t2, t3, t4, t5⟩ := trip_value c i arg2 harg2 arg3 harg3 arg4 harg4 arg5 harg5 arg6 harg6 arg7 harg7 arg8 harg8 arg9 harg9 arg10 harg10 arg11 harg11 arg12 harg12 arg13 harg13 arg14 harg14 arg15 harg15 arg1 v126 v127 v128 v131 v134 v136 v147 v150 v152 v155 v157 v160 v162 v165 v176 v179 v190 v193 v204 v207 v218 v221 v258 X_arg5 X_arg6 X_arg7 X_arg8 I hj v3 v5 v7 h3 h5 h7 hq ha ho hd ⟨k, hk⟩ (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init k).1 G14 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init k).2.1 G15 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init k).2.2 (B + 1024 * k) (by show B + 1024 * k = 1024 * (i 1).val + 1024 * k + 1024; omega) (by omega)
    dsimp only at e t1 t2 t3 t4 t5
    rw [e]
    refine ⟨fun u d => ?_, fun u d => ?_, fun r u => ?_, fun S l => ?_, fun S d => ?_⟩
    · refine (t1 u d).trans ?_
      rw [p.keys, Nat.mul_succ, ← range_more]
      simp only [add_assoc]
    · refine (t2 u d).trans ?_
      rw [p.values, Nat.mul_succ, ← range_more]
      simp only [add_assoc]
    · refine (t3 r u).trans ?_
      rw [p.cols, Nat.mul_succ, ← range_more]
      refine congrArg₂ (· + ·) rfl (Finset.sum_congr rfl fun x _ => congrArg (G I · u) (by omega))
    · refine (t4 S l).trans ?_
      have := p.lanes S l
      dsimp only at this
      rw [this]
      split_ifs <;> first | rfl | omega
    · refine (t5 S d).trans ?_
      have := p.queries S d
      dsimp only at this
      rw [this]
      split_ifs <;> first | rfl | omega

end Cert.Proof.Attn
-- ==== Proof.Attn.Run.lean ====
/-
  One run of the attention's backward body, with what it computes: from the blocks it is handed it leaves the keys', the
  values' and the columns' gradients of its column block, and adds to the rows' sums and to the queries' gradients.
-/
module

public import Idealize.ShloMosaic.Lib.VecWindow
import proofs.«01_k».proof.Proof.Gen.AttnIdeal.Frame
public import proofs.«01_k».proof.Proof.Attn.Loop
public import Idealize.ShloMosaic.Lib.Pipeline.Frame
public import Idealize.ShloMosaic.Lib.Tactic

@[expose] public section

set_option maxRecDepth 16384

noncomputable section

open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem

namespace Cert.Proof.Attn

open Cert.AttnIdeal Cert.AttnIdeal.Gen

local notation "𝕄" => MT nD τ sig Unit (Elt Ideal) ℕ (UR sig nD τ) ℕ

/-- What the body works on, of the blocks it is handed. -/
def insOf (d0 d1 : Vec Ideal S1024x128 .bf16) (d2 : Vec Ideal S1x1024x128 .bf16) (d3 : Vec Ideal S4096x128 .bf16) (d4 : Vec Ideal S1x4096x128 .bf16)
    (d5 : Vec Ideal S4096x128 .bf16) (d6 : Vec Ideal S1x4096x128 .f32) (j : ℕ) : Ins where
  k u l := d0 (ix2 u l)
  v u l := d1 (ix2 u l)
  kx u l := d2 (ix3 0 u l)
  q S l := if h : S < 4096 then d3 (ix2 ⟨S, h⟩ l) else 0
  ax S l := if h : S < 4096 then d4 (ix3 0 ⟨S, h⟩ l) else 0
  o S l := if h : S < 4096 then d5 (ix2 ⟨S, h⟩ l) else 0
  dl S l := if h : S < 4096 then d6 (ix3 0 ⟨S, h⟩ l) else 0
  j := j

/-- The factor of the keys' gradient. -/
def nat2 : EReal := (Named.named (F := Ideal) κ "ln2" 0x3F317218#32 : Ideal .f32)

/-- What the body leaves in the blocks it writes and in the accumulator. -/
structure Done (I : Ins) (d8 : Vec Ideal S4096x128 .bf16) (d12 : Vec Ideal S1x4096x128 .f32) (d13 : Vec Ideal S4096x128 .f32)
    (e8 : Vec Ideal S4096x128 .bf16) (e9 e10 : Vec Ideal S1024x128 .bf16) (e11 : Vec Ideal S1x8x1024 .f32) (e12 : Vec Ideal S1x4096x128 .f32)
    (e13 : Vec Ideal S4096x128 .f32) : Prop where
  keys : ∀ u d, e9 (ix2 u d) = (∑ s ∈ Finset.range 4096, G I s u * I.q s d) * nat2
  values : ∀ u d, e10 (ix2 u d) = ∑ s ∈ Finset.range 4096, P I s u * I.o s d
  cols : ∀ r u, e11 (ix3 0 r u) = ∑ s ∈ Finset.range 4096, G I s u
  lanes : ∀ S l, e12 (ix3 0 S l) = (if I.j = 0 then 0 else d12 (ix3 0 S l)) + ∑ b : Fin 8, G I S.val ⟨128 * b.val + l.val, by omega⟩
  queries : ∀ S d, e13 (ix2 S d) = (if I.j = 0 then 0 else d13 (ix2 S d)) + (∑ u : Fin 1024, G I S.val u * I.k u d) * scl
  out : ∀ S d, I.j = 3 → e8 (ix2 S d) = e13 (ix2 S d)
  kept : I.j ≠ 3 → e8 = d8

theorem first_iff : ∀ i : grid0.Coords, Scalar.cmpi .ne (Scalar.extui (Scalar.cmpi .eq (BitVec.ofNat 32 (i 1).val) 0#32) : BitVec 32) 0#32 = 1#1 ↔ (i 1).val = 0 := by
  decide +kernel

theorem last_iff : ∀ i : grid0.Coords, k0_cond2 i = 1#1 ↔ (i 1).val = 3 := by decide +kernel

theorem rows_split {f : ℕ → EReal} {j : ℕ} (hj : j ≤ 3) (h0 : ∀ s, s < 1024 * j → f s = 0) :
    ∑ s ∈ Finset.range 4096, f s
      = ((∑ s : Fin 512, f (1024 * j + s.val)) + ∑ s : Fin 512, f (1024 * j + 512 + s.val))
        + ∑ s ∈ Finset.range (1024 * (3 - j)), f (1024 * j + 1024 + s) := by
  rw [show 4096 = 1024 * j + 512 + 512 + 1024 * (3 - j) by omega, Finset.sum_range_add, Finset.sum_range_add, Finset.sum_range_add,
    Finset.sum_eq_zero (fun s hs => h0 s (Finset.mem_range.1 hs)), zero_add,
    Finset.sum_range (fun x => f (1024 * j + x)), Finset.sum_range (fun x => f (1024 * j + 512 + x))]

/-- Eight residues of the row number make up all the rows. -/
theorem eights {f : ℕ → EReal} (B n : ℕ) :
    ∑ r : Fin 8, ∑ x ∈ Finset.range n, f (B + (x * 8 + r.val)) = ∑ s ∈ Finset.range (8 * n), f (B + s) := by
  induction n with
  | zero => simp
  | succ n ih =>
    rw [Nat.mul_succ, Finset.sum_range_add, ← ih, Finset.sum_range (fun x => f (B + (8 * n + x))), ← Finset.sum_add_distrib]
    refine Finset.sum_congr rfl fun r _ => ?_
    rw [Finset.sum_range_succ, Nat.mul_comm 8 n]

theorem eights_fin {f : ℕ → EReal} (B : ℕ) :
    ∑ r : Fin 8, ∑ x : Fin 64, f (B + (x.val * 8 + r.val)) = ∑ s : Fin 512, f (B + s.val) := by
  have := eights (f := f) B 64
  rw [← Finset.sum_range (fun s => f (B + s)), ← this]
  exact Finset.sum_congr rfl fun r _ => (Finset.sum_range (fun x => f (B + (x * 8 + r.val)))).symm

theorem P_above (I : Ins) {S : ℕ} (u : Fin 1024) (h : S < 1024 * I.j) : P I S u = 0 := if_neg (by omega)

theorem G_above (I : Ins) {S : ℕ} (u : Fin 1024) (h : S < 1024 * I.j) : G I S u = 0 := by
  unfold G; rw [P_above I u h, zero_mul]

theorem pay1_at (a : FVec Ideal S1024x128 .f32) (u : Fin 1024) (d : Fin 128) :
    k0_pay1 a (Named.named (F := Ideal) κ "ln2" 0x3F317218#32) (ix2 u d) = a (ix2 u d) * nat2 := by
  unfold k0_pay1; pointwise; rfl

theorem pay2_at (a : FVec Ideal S1024x128 .f32) (u : Fin 1024) (d : Fin 128) : k0_pay2 a (ix2 u d) = a (ix2 u d) := by
  unfold k0_pay2; pointwise

theorem pay3_at (a : FVec Ideal S8x1024 .f32) (r : Fin 8) (u : Fin 1024) : k0_pay3 a (ix3 0 r u) = ∑ x : Fin 8, a (ix2 x u) := by
  unfold k0_pay3; pointwise

theorem pay4_at (a : Vec Ideal S4096x128 .f32) (u : Fin 4096) (d : Fin 128) : k0_pay4 a (ix2 u d) = a (ix2 u d) := by
  unfold k0_pay4; pointwise

theorem pay39_at (u : Fin 4096) (d : Fin 128) : (k0_pay39 (F := Ideal)) (ix2 u d) = 0 := by
  unfold k0_pay39; pointwise

theorem pay40_at (u : Fin 4096) (d : Fin 128) : (k0_pay40 (F := Ideal)) (ix3 0 u d) = 0 := by
  unfold k0_pay40; pointwise

theorem pay44_at (u : Fin 1024) (d : Fin 128) : (k0_pay44 (F := Ideal)) (ix2 u d) = 0 := by
  unfold k0_pay44; pointwise

theorem pay45_at (u : Fin 1024) (d : Fin 128) : (k0_pay45 (F := Ideal)) (ix2 u d) = 0 := by
  unfold k0_pay45; pointwise

theorem pay46_at (u : Fin 8) (d : Fin 1024) : (k0_pay46 (F := Ideal)) (ix2 u d) = 0 := by
  unfold k0_pay46; pointwise

/-- The carried values after the two halves of the diagonal block and the later blocks. -/
structure Carried (I : Ins) (now : FVec Ideal S1024x128 .f32 × FVec Ideal S1024x128 .f32 × FVec Ideal S8x1024 .f32) : Prop where
  keys : ∀ u d, now.1 (ix2 u d) = ∑ s ∈ Finset.range 4096, G I s u * I.q s d
  values : ∀ u d, now.2.1 (ix2 u d) = ∑ s ∈ Finset.range 4096, P I s u * I.o s d
  cols : ∀ u, ∑ r : Fin 8, now.2.2 (ix2 r u) = ∑ s ∈ Finset.range 4096, G I s u

theorem carried (I : Ins) (hj : I.j ≤ 3) {init now : FVec Ideal S1024x128 .f32 × FVec Ideal S1024x128 .f32 × FVec Ideal S8x1024 .f32}
    {f f' g g' : Fin 4096 → Fin 128 → EReal} (h : AtTrip I (1024 * I.j + 1024) (3 - I.j) init now f f' g g')
    (h1 : ∀ u d, init.1 (ix2 u d) = (∑ s : Fin 512, G I (1024 * I.j + s.val) u * I.q (1024 * I.j + s.val) d)
      + ∑ s : Fin 512, G I (1024 * I.j + 512 + s.val) u * I.q (1024 * I.j + 512 + s.val) d)
    (h2 : ∀ u d, init.2.1 (ix2 u d) = (∑ s : Fin 512, P I (1024 * I.j + s.val) u * I.o (1024 * I.j + s.val) d)
      + ∑ s : Fin 512, P I (1024 * I.j + 512 + s.val) u * I.o (1024 * I.j + 512 + s.val) d)
    (h3 : ∀ r u, init.2.2 (ix2 r u) = (∑ x : Fin 64, G I (1024 * I.j + (x.val * 8 + r.val)) u)
      + ∑ x : Fin 64, G I (1024 * I.j + 512 + (x.val * 8 + r.val)) u) : Carried I now where
  keys u d := by
    rw [h.keys, h1, rows_split (f := fun s => G I s u * I.q s d) hj fun s hs => by rw [G_above I u hs, zero_mul]]
  values u d := by
    rw [h.values, h2, rows_split (f := fun s => P I s u * I.o s d) hj fun s hs => by rw [P_above I u hs, zero_mul]]
  cols u := by
    simp only [h.cols, h3]
    rw [rows_split (f := fun s => G I s u) hj fun s hs => G_above I u hs, Finset.sum_add_distrib, Finset.sum_add_distrib,
      eights_fin (f := fun s => G I s u), eights_fin (f := fun s => G I s u), eights (f := fun s => G I s u)]
    rw [show 8 * (128 * (3 - I.j)) = 1024 * (3 - I.j) by omega]

/-- A buffer's rows, each row from the diagonal on added to once: the rows' sums. -/
theorem lanes_added (I : Ins) (hj : I.j ≤ 3) {init now : FVec Ideal S1024x128 .f32 × FVec Ideal S1024x128 .f32 × FVec Ideal S8x1024 .f32}
    {κ' : Kind} {sp : Space} (v : View sig κ' sp S1x4096x128 .f32) (f : v.ty.Contents (Elt Ideal)) (L Lb : List (View.Piece (Elt Ideal) S1x4096x128 .f32))
    {offA offB : Fin 3 → ℕ} (hA : offA = ![0, 1024 * I.j, 0]) (hB : offB = ![0, 1024 * I.j + 512, 0])
    {inbA : ∀ a, offA a + S1x512x128.size a ≤ S1x4096x128.size a} {inbB : ∀ a, offB a + S1x512x128.size a ≤ S1x4096x128.size a}
    {wA : (Rect.unit (s := S1x4096x128) offA S1x512x128.size inbA).shape.Idx → Elt Ideal .f32} {wB : (Rect.unit (s := S1x4096x128) offB S1x512x128.size inbB).shape.Idx → Elt Ideal .f32}
    {g g' : Fin 4096 → Fin 128 → EReal}
    (h : AtTrip I (1024 * I.j + 1024) (3 - I.j) init now
      (fun S l => v.read (Elt Ideal) (v.writes (Elt Ideal) f (⟨Rect.unit (s := S1x4096x128) offB S1x512x128.size inbB, wB⟩ :: ⟨Rect.unit (s := S1x4096x128) offA S1x512x128.size inbA, wA⟩ :: Lb)) (ix3 0 S l))
      (fun S l => v.read (Elt Ideal) (v.writes (Elt Ideal) (v.writes (Elt Ideal) f (⟨Rect.unit (s := S1x4096x128) offB S1x512x128.size inbB, wB⟩ :: ⟨Rect.unit (s := S1x4096x128) offA S1x512x128.size inbA, wA⟩ :: Lb)) L) (ix3 0 S l))
      g g')
    (base : ℕ → Fin 128 → EReal) (hb : ∀ (S : Fin 4096) l, v.read (Elt Ideal) (v.writes (Elt Ideal) f Lb) (ix3 0 S l) = base S.val l)
    (eA : ∀ (s : Fin 512) l, wA (ix3 0 s l) = base (1024 * I.j + s.val) l + ∑ b : Fin 8, G I (1024 * I.j + s.val) ⟨128 * b.val + l.val, by omega⟩)
    (eB : ∀ (s : Fin 512) l, wB (ix3 0 s l) = base (1024 * I.j + 512 + s.val) l + ∑ b : Fin 8, G I (1024 * I.j + 512 + s.val) ⟨128 * b.val + l.val, by omega⟩)
    (S : Fin 4096) (l : Fin 128) :
    v.read (Elt Ideal) (v.writes (Elt Ideal) f (L ++ (⟨Rect.unit (s := S1x4096x128) offB S1x512x128.size inbB, wB⟩ :: ⟨Rect.unit (s := S1x4096x128) offA S1x512x128.size inbA, wA⟩ :: Lb))) (ix3 0 S l)
      = base S.val l + ∑ b : Fin 8, G I S.val ⟨128 * b.val + l.val, by omega⟩ := by
  rw [View.writes_append]
  refine (h.lanes S l).trans ?_
  have e := (slab_stored v f hB inbB wB (⟨Rect.unit (s := S1x4096x128) offA S1x512x128.size inbA, wA⟩ :: Lb) S l)
  have e' := (slab_stored v f hA inbA wA Lb S l)
  rw [e', hb] at e
  dsimp only
  rw [e]
  split_ifs with c1 c2 c3 c4 c5
  · omega
  · omega
  · rfl
  · exact (eB _ l).trans (by dsimp only; rw [show 1024 * I.j + 512 + (S.val - (1024 * I.j + 512)) = S.val by omega])
  · exact (eA _ l).trans (by dsimp only; rw [show 1024 * I.j + (S.val - 1024 * I.j) = S.val by omega])
  · have z : ∀ b : Fin 8, G I S.val ⟨128 * b.val + l.val, by omega⟩ = 0 := fun b => G_above I _ (by omega)
    simp only [z, Finset.sum_const_zero, add_zero]

/-- A buffer's rows, each row from the diagonal on added to once: the queries' gradients. -/
theorem queries_added (I : Ins) (hj : I.j ≤ 3) {init now : FVec Ideal S1024x128 .f32 × FVec Ideal S1024x128 .f32 × FVec Ideal S8x1024 .f32}
    {κ' : Kind} {sp : Space} (v : View sig κ' sp S4096x128 .f32) (f : v.ty.Contents (Elt Ideal)) (L Lb : List (View.Piece (Elt Ideal) S4096x128 .f32))
    {offA offB : Fin 2 → ℕ} (hA : offA = ![1024 * I.j, 0]) (hB : offB = ![1024 * I.j + 512, 0])
    {inbA : ∀ a, offA a + S512x128.size a ≤ S4096x128.size a} {inbB : ∀ a, offB a + S512x128.size a ≤ S4096x128.size a}
    {wA : (Rect.unit (s := S4096x128) offA S512x128.size inbA).shape.Idx → Elt Ideal .f32} {wB : (Rect.unit (s := S4096x128) offB S512x128.size inbB).shape.Idx → Elt Ideal .f32}
    {g g' : Fin 4096 → Fin 128 → EReal}
    (h : AtTrip I (1024 * I.j + 1024) (3 - I.j) init now g g'
      (fun S l => v.read (Elt Ideal) (v.writes (Elt Ideal) f (⟨Rect.unit (s := S4096x128) offB S512x128.size inbB, wB⟩ :: ⟨Rect.unit (s := S4096x128) offA S512x128.size inbA, wA⟩ :: Lb)) (ix2 S l))
      (fun S l => v.read (Elt Ideal) (v.writes (Elt Ideal) (v.writes (Elt Ideal) f (⟨Rect.unit (s := S4096x128) offB S512x128.size inbB, wB⟩ :: ⟨Rect.unit (s := S4096x128) offA S512x128.size inbA, wA⟩ :: Lb)) L) (ix2 S l)))
    (base : ℕ → Fin 128 → EReal) (hb : ∀ (S : Fin 4096) l, v.read (Elt Ideal) (v.writes (Elt Ideal) f Lb) (ix2 S l) = base S.val l)
    (eA : ∀ (s : Fin 512) l, wA (ix2 s l) = base (1024 * I.j + s.val) l + (∑ u : Fin 1024, G I (1024 * I.j + s.val) u * I.k u l) * scl)
    (eB : ∀ (s : Fin 512) l, wB (ix2 s l) = base (1024 * I.j + 512 + s.val) l + (∑ u : Fin 1024, G I (1024 * I.j + 512 + s.val) u * I.k u l) * scl)
    (S : Fin 4096) (l : Fin 128) :
    v.read (Elt Ideal) (v.writes (Elt Ideal) f (L ++ (⟨Rect.unit (s := S4096x128) offB S512x128.size inbB, wB⟩ :: ⟨Rect.unit (s := S4096x128) offA S512x128.size inbA, wA⟩ :: Lb))) (ix2 S l)
      = base S.val l + (∑ u : Fin 1024, G I S.val u * I.k u l) * scl := by
  rw [View.writes_append]
  refine (h.queries S l).trans ?_
  have e := (rows_stored v f hB inbB wB (⟨Rect.unit (s := S4096x128) offA S512x128.size inbA, wA⟩ :: Lb) S l)
  have e' := (rows_stored v f hA inbA wA Lb S l)
  rw [e', hb] at e
  dsimp only
  rw [e]
  split_ifs with c1 c2 c3 c4 c5
  · omega
  · omega
  · rfl
  · exact (eB _ l).trans (by dsimp only; rw [show 1024 * I.j + 512 + (S.val - (1024 * I.j + 512)) = S.val by omega])
  · exact (eA _ l).trans (by dsimp only; rw [show 1024 * I.j + (S.val - 1024 * I.j) = S.val by omega])
  · have z : ∀ u : Fin 1024, G I S.val u = 0 := fun u => G_above I _ (by omega)
    simp only [z, zero_mul, Finset.sum_const_zero, add_zero]

theorem trips_eq' {I : Ins} {i : grid0.Coords} (hj : I.j = (i 1).val) : (k0_t1_loop i).trips = 3 - I.j := by rw [trips_eq, hj]

/-- The state after the last trip. -/
theorem loop_done (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole) (arg1 : BitVec 32)  (v126 : FVec Ideal S1024x128 .f32) (v127 : FVec Ideal S1024x128 .f32) (v128 : FVec Ideal S8x1024 .f32) (v131 : BitVec 32) (v134 : FVec Ideal S512x128 .bf16) (v136 : Vec Ideal S512x128 .bf16) (v147 : FVec Ideal S512x128 .f32) (v150 : FVec Ideal S512x128 .f32) (v152 : FVec Ideal S512x128 .f32) (v155 : FVec Ideal S512x128 .f32) (v157 : FVec Ideal S512x128 .f32) (v160 : FVec Ideal S512x128 .f32) (v162 : FVec Ideal S512x128 .f32) (v165 : FVec Ideal S512x128 .f32) (v176 : FVec Ideal S512x128 .f32) (v179 : FVec Ideal S512x128 .f32) (v190 : FVec Ideal S512x128 .f32) (v193 : FVec Ideal S512x128 .f32) (v204 : FVec Ideal S512x128 .f32) (v207 : FVec Ideal S512x128 .f32) (v218 : FVec Ideal S512x128 .f32) (v221 : FVec Ideal S512x128 .f32) (v258 : BitVec 32) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty)
    (I : Ins) (hj : I.j = (i 1).val) (v3 v5 : Vec Ideal S1024x128 .bf16) (v7 : Vec Ideal S1x1024x128 .bf16)
    (h3 : ∀ u l, v3 (ix2 u l) = I.k u l) (h5 : ∀ u l, v5 (ix2 u l) = I.v u l) (h7 : ∀ u l, v7 (ix3 0 u l) = I.kx u l)
    (hq : ∀ (S : Fin 4096) l, arg5.view.read (Elt Ideal) X_arg5 (ix2 S l) = I.q S.val l)
    (ha : ∀ (S : Fin 4096) l, arg6.view.read (Elt Ideal) X_arg6 (ix3 0 S l) = I.ax S.val l)
    (ho : ∀ (S : Fin 4096) l, arg7.view.read (Elt Ideal) X_arg7 (ix2 S l) = I.o S.val l)
    (hd : ∀ (S : Fin 4096) l, arg8.view.read (Elt Ideal) X_arg8 (ix3 0 S l) = I.dl S.val l)
    (G14 : BufTy.Contents (Elt Ideal) arg14.view.ty) (G15 : BufTy.Contents (Elt Ideal) arg15.view.ty)
    (init : FVec Ideal S1024x128 .f32 × FVec Ideal S1024x128 .f32 × FVec Ideal S8x1024 .f32)
     :
    AtTrip I (1024 * I.j + 1024) (3 - I.j) init
      (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init (Scf.trips (k0_t1_loop i).lb (k0_t1_loop i).ub (k0_t1_loop i).st)).1
      (fun S l => arg14.view.read (Elt Ideal) G14 (ix3 0 S l))
      (fun S l => arg14.view.read (Elt Ideal) (arg14.view.writes (Elt Ideal) G14 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init (Scf.trips (k0_t1_loop i).lb (k0_t1_loop i).ub (k0_t1_loop i).st)).2.1) (ix3 0 S l))
      (fun S d => arg15.view.read (Elt Ideal) G15 (ix2 S d))
      (fun S d => arg15.view.read (Elt Ideal) (arg15.view.writes (Elt Ideal) G15 (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg1 (k0_pay41 v3) (k0_pay42 v5) (k0_pay43 v3 v7) v126 v127 v128 v131 v134 v136 v147 v150 v152 v155 v157 v160 v162 v165 v176 v179 v190 v193 v204 v207 v218 v221 v258 X_arg5 X_arg6 X_arg7 X_arg8 G14 G15 init (Scf.trips (k0_t1_loop i).lb (k0_t1_loop i).ub (k0_t1_loop i).st)).2.2) (ix2 S d)) :=
  trips_eq' hj ▸ loop_value c i arg2 harg2 arg3 harg3 arg4 harg4 arg5 harg5 arg6 harg6 arg7 harg7 arg8 harg8 arg9 harg9 arg10 harg10 arg11 harg11 arg12 harg12 arg13 harg13 arg14 harg14 arg15 harg15 arg1 v126 v127 v128 v131 v134 v136 v147 v150 v152 v155 v157 v160 v162 v165 v176 v179 v190 v193 v204 v207 v218 v221 v258 X_arg5 X_arg6 X_arg7 X_arg8 I hj v3 v5 v7 h3 h5 h7 hq ha ho hd G14 G15 init (1024 * I.j + 1024) (by rw [hj]) (k0_t1_loop i).trips le_rfl

theorem trips2_eq : ∀ i : grid0.Coords, Scf.trips (k0_t2_loop i).lb (k0_t2_loop i).ub (k0_t2_loop i).st = 0 := by decide +kernel

set_option maxHeartbeats 2000000 in
/-- The body's run. -/
theorem kernelRun (c : Dev nD) (i : grid0.Coords) (arg2 : Memref sig .tc .vmem S1024x128 .bf16) (harg2 : arg2.IsWhole) (arg3 : Memref sig .tc .vmem S1024x128 .bf16) (harg3 : arg3.IsWhole) (arg4 : Memref sig .tc .vmem S1x1024x128 .bf16) (harg4 : arg4.IsWhole) (arg5 : Memref sig .tc .vmem S4096x128 .bf16) (harg5 : arg5.IsWhole) (arg6 : Memref sig .tc .vmem S1x4096x128 .bf16) (harg6 : arg6.IsWhole) (arg7 : Memref sig .tc .vmem S4096x128 .bf16) (harg7 : arg7.IsWhole) (arg8 : Memref sig .tc .vmem S1x4096x128 .f32) (harg8 : arg8.IsWhole) (arg9 : Memref sig .tc .vmem S8x128 .f32) (harg9 : arg9.IsWhole) (arg10 : Memref sig .tc .vmem S4096x128 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1x8x1024 .f32) (harg13 : arg13.IsWhole) (arg14 : Memref sig .tc .vmem S1x4096x128 .f32) (harg14 : arg14.IsWhole) (arg15 : Memref sig .tc .vmem S4096x128 .f32) (harg15 : arg15.IsWhole)
    (d0 : Vec Ideal S1024x128 .bf16) (d1 : Vec Ideal S1024x128 .bf16) (d2 : Vec Ideal S1x1024x128 .bf16) (d3 : Vec Ideal S4096x128 .bf16) (d4 : Vec Ideal S1x4096x128 .bf16) (d5 : Vec Ideal S4096x128 .bf16) (d6 : Vec Ideal S1x4096x128 .f32) (d7 : Vec Ideal S8x128 .f32) (d8 : Vec Ideal S4096x128 .bf16) (d9 : Vec Ideal S1024x128 .bf16) (d10 : Vec Ideal S1024x128 .bf16) (d11 : Vec Ideal S1x8x1024 .f32) (d12 : Vec Ideal S1x4096x128 .f32) (d13 : Vec Ideal S4096x128 .f32) (K : PUnit → sProp 𝕄) :
    iprop(owns (c : Thread nD τ) arg2 fullShare d0 ∗ owns (c : Thread nD τ) arg3 fullShare d1 ∗ owns (c : Thread nD τ) arg4 fullShare d2 ∗ owns (c : Thread nD τ) arg5 fullShare d3 ∗ owns (c : Thread nD τ) arg6 fullShare d4 ∗ owns (c : Thread nD τ) arg7 fullShare d5 ∗ owns (c : Thread nD τ) arg8 fullShare d6 ∗ owns (c : Thread nD τ) arg9 fullShare d7 ∗ owns (c : Thread nD τ) arg10 fullShare d8 ∗ owns (c : Thread nD τ) arg11 fullShare d9 ∗ owns (c : Thread nD τ) arg12 fullShare d10 ∗ owns (c : Thread nD τ) arg13 fullShare d11 ∗ owns (c : Thread nD τ) arg14 fullShare d12 ∗ owns (c : Thread nD τ) arg15 fullShare d13 ∗ (∀ e8 e9 e10 e11 e12 e13, owns (c : Thread nD τ) arg2 fullShare d0 ∗ owns (c : Thread nD τ) arg3 fullShare d1 ∗ owns (c : Thread nD τ) arg4 fullShare d2 ∗ owns (c : Thread nD τ) arg5 fullShare d3 ∗ owns (c : Thread nD τ) arg6 fullShare d4 ∗ owns (c : Thread nD τ) arg7 fullShare d5 ∗ owns (c : Thread nD τ) arg8 fullShare d6 ∗ owns (c : Thread nD τ) arg9 fullShare d7 ∗ owns (c : Thread nD τ) arg10 fullShare e8 ∗ owns (c : Thread nD τ) arg11 fullShare e9 ∗ owns (c : Thread nD τ) arg12 fullShare e10 ∗ owns (c : Thread nD τ) arg13 fullShare e11 ∗ owns (c : Thread nD τ) arg14 fullShare e12 ∗ owns (c : Thread nD τ) arg15 fullShare e13 ∗ ⌜Done (insOf d0 d1 d2 d3 d4 d5 d6 (i 1).val) d8 d12 d13 e8 e9 e10 e11 e12 e13⌝ -∗ K ⟨⟩))
      ⊢ wp frame (wpE (defs₀ (F := Ideal)) Variants.none c none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_attn_bwd_eq_skeleton]; unfold cc0_attn_bwd_skel
  simp only [k0_part2_eq_skeleton, k0_part3_eq_skeleton, k0_part4_eq_skeleton, k0_part5_eq_skeleton,
    k0_part6_eq_skeleton, k0_part7_eq_skeleton, k0_part8_eq_skeleton]
  unfold owns
  by_cases h1 : Scalar.cmpi .ne (Scalar.extui (Scalar.cmpi .eq (BitVec.ofNat 32 (i 1).val) 0#32) : BitVec 32) 0#32 = 1#1 <;> by_cases h2 : k0_cond2 i = 1#1
  · exact absurd (((first_iff i).1 h1).symm.trans ((last_iff i).1 h2)) (by decide)
  ·
    iintro ⟨⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, Hk⟩
    sl_exec (disch := first | sl_exact h1 | sl_exact h2)
    sl_step
    iapply Hk
    isplitl [H0]
    · iexists _; isplitr; swap; · iexact H0
      ipureintro; exact r0
    isplitl [H1]
    · iexists _; isplitr; swap; · iexact H1
      ipureintro; exact r1
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _; isplitr; swap; · iexact H7
      ipureintro; exact r7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    ipureintro
    subst r0 r1 r2 r3 r4 r5 r6
    obtain ⟨I, hI⟩ : ∃ I, I = insOf (arg2.view.read (Elt Ideal) f0) (arg3.view.read (Elt Ideal) f1) (arg4.view.read (Elt Ideal) f2) (arg5.view.read (Elt Ideal) f3)
      (arg6.view.read (Elt Ideal) f4) (arg7.view.read (Elt Ideal) f5) (arg8.view.read (Elt Ideal) f6) (i 1).val := ⟨_, rfl⟩
    rw [← hI]
    have hj : I.j = (i 1).val := by rw [hI]; rfl
    have hj3 : I.j ≤ 3 := by have := (i 1).isLt; rw [hj]; exact Nat.le_of_lt_succ this
    have hk : ∀ (u : Fin 1024) l, arg2.view.read (Elt Ideal) f0 (ix2 u l) = I.k u l := fun u l => by rw [hI]; rfl
    have hv : ∀ (u : Fin 1024) l, arg3.view.read (Elt Ideal) f1 (ix2 u l) = I.v u l := fun u l => by rw [hI]; rfl
    have hx : ∀ (u : Fin 1024) l, arg4.view.read (Elt Ideal) f2 (ix3 0 u l) = I.kx u l := fun u l => by rw [hI]; rfl
    have hq : ∀ (S : Fin 4096) l, arg5.view.read (Elt Ideal) f3 (ix2 S l) = I.q S.val l := fun S l => by rw [hI]; simp only [insOf, S.isLt, dif_pos]
    have ha : ∀ (S : Fin 4096) l, arg6.view.read (Elt Ideal) f4 (ix3 0 S l) = I.ax S.val l := fun S l => by rw [hI]; simp only [insOf, S.isLt, dif_pos]
    have ho : ∀ (S : Fin 4096) l, arg7.view.read (Elt Ideal) f5 (ix2 S l) = I.o S.val l := fun S l => by rw [hI]; simp only [insOf, S.isLt, dif_pos]
    have hd : ∀ (S : Fin 4096) l, arg8.view.read (Elt Ideal) f6 (ix3 0 S l) = I.dl S.val l := fun S l => by rw [hI]; simp only [insOf, S.isLt, dif_pos]
    have o1 : k0_off1 i 0#32 = ![1024 * I.j, 0] := by rw [hj]; exact k0_off1_eq i 0
    have o1' : k0_off1 i 512#32 = ![1024 * I.j + 512, 0] := by rw [hj]; exact k0_off1_eq i 1
    have o2 : k0_off2 i 0#32 = ![0, 1024 * I.j, 0] := by rw [hj]; exact k0_off2_eq i 0
    have o2' : k0_off2 i 512#32 = ![0, 1024 * I.j + 512, 0] := by rw [hj]; exact k0_off2_eq i 1
    have h3 : ∀ u l, View.readAt (Elt Ideal) arg2.view (Rect.unit (s := S1024x128) ![0, 0] ![1024, 128] inb_S1024x128_S1024x128_0_0).toLoadRect f0 (ix2 u l) = I.k u l :=
      fun u l => (congrFun (View.readAt_full arg2.view f0 inb_S1024x128_S1024x128_0_0) _).trans (hk u l)
    have h5 : ∀ u l, View.readAt (Elt Ideal) arg3.view (Rect.unit (s := S1024x128) ![0, 0] ![1024, 128] inb_S1024x128_S1024x128_0_0).toLoadRect f1 (ix2 u l) = I.v u l :=
      fun u l => (congrFun (View.readAt_full arg3.view f1 inb_S1024x128_S1024x128_0_0) _).trans (hv u l)
    have h7 : ∀ u l, View.readAt (Elt Ideal) arg4.view (Rect.unit (s := S1x1024x128) ![0, 0, 0] ![1, 1024, 128] inb_S1x1024x128_S1x1024x128_0_0_0).toLoadRect f2 (ix3 0 u l) = I.kx u l :=
      fun u l => (congrFun (View.readAt_full arg4.view f2 inb_S1x1024x128_S1x1024x128_0_0_0) _).trans (hx u l)
    have q5A : ∀ s l, View.readAt (Elt Ideal) arg5.view (Rect.unit (s := S4096x128) (k0_off1 i 0#32) S512x128.size (k0_off1_inb i 0)).toLoadRect f3 (ix2 s l) = I.q (1024 * I.j + s.val) l :=
      fun s l => (load_rows arg5.view f3 o1 _ s l (by omega)).trans (hq _ _)
    have q7A : ∀ s l, View.readAt (Elt Ideal) arg7.view (Rect.unit (s := S4096x128) (k0_off1 i 0#32) S512x128.size (k0_off1_inb i 0)).toLoadRect f5 (ix2 s l) = I.o (1024 * I.j + s.val) l :=
      fun s l => (load_rows arg7.view f5 o1 _ s l (by omega)).trans (ho _ _)
    have q6A : ∀ s l, View.readAt (Elt Ideal) arg6.view (Rect.unit (s := S1x4096x128) (k0_off2 i 0#32) S1x512x128.size (k0_off2_inb i 0)).toLoadRect f4 (ix3 0 s l) = I.ax (1024 * I.j + s.val) l :=
      fun s l => (load_slab arg6.view f4 o2 _ s l (by omega)).trans (ha _ _)
    have q8A : ∀ s l, View.readAt (Elt Ideal) arg8.view (Rect.unit (s := S1x4096x128) (k0_off2 i 0#32) S1x512x128.size (k0_off2_inb i 0)).toLoadRect f6 (ix3 0 s l) = I.dl (1024 * I.j + s.val) l :=
      fun s l => (load_slab arg8.view f6 o2 _ s l (by omega)).trans (hd _ _)
    have q5B : ∀ s l, View.readAt (Elt Ideal) arg5.view (Rect.unit (s := S4096x128) (k0_off1 i 512#32) S512x128.size (k0_off1_inb i 1)).toLoadRect f3 (ix2 s l) = I.q (1024 * I.j + 512 + s.val) l :=
      fun s l => (load_rows arg5.view f3 o1' _ s l (by omega)).trans (hq _ _)
    have q7B : ∀ s l, View.readAt (Elt Ideal) arg7.view (Rect.unit (s := S4096x128) (k0_off1 i 512#32) S512x128.size (k0_off1_inb i 1)).toLoadRect f5 (ix2 s l) = I.o (1024 * I.j + 512 + s.val) l :=
      fun s l => (load_rows arg7.view f5 o1' _ s l (by omega)).trans (ho _ _)
    have q6B : ∀ s l, View.readAt (Elt Ideal) arg6.view (Rect.unit (s := S1x4096x128) (k0_off2 i 512#32) S1x512x128.size (k0_off2_inb i 1)).toLoadRect f4 (ix3 0 s l) = I.ax (1024 * I.j + 512 + s.val) l :=
      fun s l => (load_slab arg6.view f4 o2' _ s l (by omega)).trans (ha _ _)
    have q8B : ∀ s l, View.readAt (Elt Ideal) arg8.view (Rect.unit (s := S1x4096x128) (k0_off2 i 512#32) S1x512x128.size (k0_off2_inb i 1)).toLoadRect f6 (ix3 0 s l) = I.dl (1024 * I.j + 512 + s.val) l :=
      fun s l => (load_slab arg8.view f6 o2' _ s l (by omega)).trans (hd _ _)

    refine ⟨fun u d => ?_, fun u d => ?_, fun r u => ?_, fun S l => ?_, fun S d => ?_, fun S d h => ?_, fun h => ?_⟩
    · refine (congrFun (View.read_writes_full _ _ _ _ []) _).trans ((pay1_at _ u d).trans (congrArg (· * nat2) ?_))
      skip
      unfold kernelRun.sl.r_43
      rw [trips2_eq i, st_k0_t2.eq_1]
      refine Carried.keys (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u d
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · refine (congrFun (View.read_writes_full _ _ _ _ []) _).trans ((pay2_at _ u d).trans ?_)
      skip
      unfold kernelRun.sl.r_44
      rw [trips2_eq i, st_k0_t2.eq_1]
      refine Carried.values (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u d
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · refine (congrFun (View.read_writes_full _ _ _ _ []) _).trans ((pay3_at _ r u).trans ?_)
      skip
      unfold kernelRun.sl.r_45
      rw [trips2_eq i, st_k0_t2.eq_1]
      refine Carried.cols (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · rw [trips2_eq i, st_k0_t2.eq_1, List.nil_append]
      have hn : I.j = 0 := hj.trans ((first_iff i).1 h1)
      have z : ∀ S l, arg14.view.read (Elt Ideal) (arg14.view.writes (Elt Ideal) arg14.view.junk [⟨Rect.unit (s := S1x4096x128) ![0, 0, 0] S1x4096x128.size inb_S1x4096x128_S1x4096x128_0_0_0, k0_pay40 (F := Ideal)⟩]) (ix3 0 S l) = 0 := fun S l =>
        by refine (congrFun (View.read_writes_full _ _ _ _ []) _).trans ?_; exact pay40_at S l
      refine (lanes_added I hj3 arg14.view _ _ _ o2 o2' (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun s l => 0) (fun S l => z S l) ?_ ?_ S l).trans ?_
      · intro s l
        refine (lanes_upper I h3 h5 h7 rfl q5A q7A q6A q8A _ s l).trans (congrArg (· + _) ?_)
        exact (load_slab arg14.view _ o2 _ s l (by omega)).trans (z _ _)
      · intro s l
        refine (lanes_lower I h3 h5 h7 rfl q5B q7B q6B q8B _ s l).trans (congrArg (· + _) ?_)
        refine (load_slab arg14.view _ o2' _ s l (by omega)).trans ((slab_stored arg14.view _ o2 _ _ _ _ l).trans ?_)
        rw [dif_neg (by dsimp only; omega)]
        exact z _ _
      · rw [if_pos hn]
    · rw [trips2_eq i, st_k0_t2.eq_1, List.nil_append]
      have hn : I.j = 0 := hj.trans ((first_iff i).1 h1)
      have z : ∀ S l, arg15.view.read (Elt Ideal) (arg15.view.writes (Elt Ideal) arg15.view.junk [⟨Rect.unit (s := S4096x128) ![0, 0] S4096x128.size inb_S4096x128_S4096x128_0_0, k0_pay39 (F := Ideal)⟩]) (ix2 S l) = 0 := fun S l =>
        by refine (congrFun (View.read_writes_full _ _ _ _ []) _).trans ?_; exact pay39_at S l
      refine (queries_added I hj3 arg15.view _ _ _ o1 o1' (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun s l => 0) (fun S l => z S l) ?_ ?_ S d).trans ?_
      · intro s l
        refine (queries_upper I h3 h5 h7 rfl q5A q7A q6A q8A _ s l).trans (congrArg (· + _) ?_)
        exact (load_rows arg15.view _ o1 _ s l (by omega)).trans (z _ _)
      · intro s l
        refine (queries_lower I h3 h5 h7 rfl q5B q7B q6B q8B _ s l).trans (congrArg (· + _) ?_)
        refine (load_rows arg15.view _ o1' _ s l (by omega)).trans ((rows_stored arg15.view _ o1 _ _ _ _ l).trans ?_)
        rw [dif_neg (by dsimp only; omega)]
        exact z _ _
      · rw [if_pos hn]
    · exact absurd ((last_iff i).2 (hj.symm.trans h)) h2
    · exact r8
  ·
    iintro ⟨⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, Hk⟩
    sl_exec (disch := first | sl_exact h1 | sl_exact h2)
    sl_step
    iapply Hk
    isplitl [H0]
    · iexists _; isplitr; swap; · iexact H0
      ipureintro; exact r0
    isplitl [H1]
    · iexists _; isplitr; swap; · iexact H1
      ipureintro; exact r1
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _; isplitr; swap; · iexact H7
      ipureintro; exact r7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    ipureintro
    subst r0 r1 r2 r3 r4 r5 r6
    obtain ⟨I, hI⟩ : ∃ I, I = insOf (arg2.view.read (Elt Ideal) f0) (arg3.view.read (Elt Ideal) f1) (arg4.view.read (Elt Ideal) f2) (arg5.view.read (Elt Ideal) f3)
      (arg6.view.read (Elt Ideal) f4) (arg7.view.read (Elt Ideal) f5) (arg8.view.read (Elt Ideal) f6) (i 1).val := ⟨_, rfl⟩
    rw [← hI]
    have hj : I.j = (i 1).val := by rw [hI]; rfl
    have hj3 : I.j ≤ 3 := by have := (i 1).isLt; rw [hj]; exact Nat.le_of_lt_succ this
    have hk : ∀ (u : Fin 1024) l, arg2.view.read (Elt Ideal) f0 (ix2 u l) = I.k u l := fun u l => by rw [hI]; rfl
    have hv : ∀ (u : Fin 1024) l, arg3.view.read (Elt Ideal) f1 (ix2 u l) = I.v u l := fun u l => by rw [hI]; rfl
    have hx : ∀ (u : Fin 1024) l, arg4.view.read (Elt Ideal) f2 (ix3 0 u l) = I.kx u l := fun u l => by rw [hI]; rfl
    have hq : ∀ (S : Fin 4096) l, arg5.view.read (Elt Ideal) f3 (ix2 S l) = I.q S.val l := fun S l => by rw [hI]; simp only [insOf, S.isLt, dif_pos]
    have ha : ∀ (S : Fin 4096) l, arg6.view.read (Elt Ideal) f4 (ix3 0 S l) = I.ax S.val l := fun S l => by rw [hI]; simp only [insOf, S.isLt, dif_pos]
    have ho : ∀ (S : Fin 4096) l, arg7.view.read (Elt Ideal) f5 (ix2 S l) = I.o S.val l := fun S l => by rw [hI]; simp only [insOf, S.isLt, dif_pos]
    have hd : ∀ (S : Fin 4096) l, arg8.view.read (Elt Ideal) f6 (ix3 0 S l) = I.dl S.val l := fun S l => by rw [hI]; simp only [insOf, S.isLt, dif_pos]
    have o1 : k0_off1 i 0#32 = ![1024 * I.j, 0] := by rw [hj]; exact k0_off1_eq i 0
    have o1' : k0_off1 i 512#32 = ![1024 * I.j + 512, 0] := by rw [hj]; exact k0_off1_eq i 1
    have o2 : k0_off2 i 0#32 = ![0, 1024 * I.j, 0] := by rw [hj]; exact k0_off2_eq i 0
    have o2' : k0_off2 i 512#32 = ![0, 1024 * I.j + 512, 0] := by rw [hj]; exact k0_off2_eq i 1
    have h3 : ∀ u l, View.readAt (Elt Ideal) arg2.view (Rect.unit (s := S1024x128) ![0, 0] ![1024, 128] inb_S1024x128_S1024x128_0_0).toLoadRect f0 (ix2 u l) = I.k u l :=
      fun u l => (congrFun (View.readAt_full arg2.view f0 inb_S1024x128_S1024x128_0_0) _).trans (hk u l)
    have h5 : ∀ u l, View.readAt (Elt Ideal) arg3.view (Rect.unit (s := S1024x128) ![0, 0] ![1024, 128] inb_S1024x128_S1024x128_0_0).toLoadRect f1 (ix2 u l) = I.v u l :=
      fun u l => (congrFun (View.readAt_full arg3.view f1 inb_S1024x128_S1024x128_0_0) _).trans (hv u l)
    have h7 : ∀ u l, View.readAt (Elt Ideal) arg4.view (Rect.unit (s := S1x1024x128) ![0, 0, 0] ![1, 1024, 128] inb_S1x1024x128_S1x1024x128_0_0_0).toLoadRect f2 (ix3 0 u l) = I.kx u l :=
      fun u l => (congrFun (View.readAt_full arg4.view f2 inb_S1x1024x128_S1x1024x128_0_0_0) _).trans (hx u l)
    have q5A : ∀ s l, View.readAt (Elt Ideal) arg5.view (Rect.unit (s := S4096x128) (k0_off1 i 0#32) S512x128.size (k0_off1_inb i 0)).toLoadRect f3 (ix2 s l) = I.q (1024 * I.j + s.val) l :=
      fun s l => (load_rows arg5.view f3 o1 _ s l (by omega)).trans (hq _ _)
    have q7A : ∀ s l, View.readAt (Elt Ideal) arg7.view (Rect.unit (s := S4096x128) (k0_off1 i 0#32) S512x128.size (k0_off1_inb i 0)).toLoadRect f5 (ix2 s l) = I.o (1024 * I.j + s.val) l :=
      fun s l => (load_rows arg7.view f5 o1 _ s l (by omega)).trans (ho _ _)
    have q6A : ∀ s l, View.readAt (Elt Ideal) arg6.view (Rect.unit (s := S1x4096x128) (k0_off2 i 0#32) S1x512x128.size (k0_off2_inb i 0)).toLoadRect f4 (ix3 0 s l) = I.ax (1024 * I.j + s.val) l :=
      fun s l => (load_slab arg6.view f4 o2 _ s l (by omega)).trans (ha _ _)
    have q8A : ∀ s l, View.readAt (Elt Ideal) arg8.view (Rect.unit (s := S1x4096x128) (k0_off2 i 0#32) S1x512x128.size (k0_off2_inb i 0)).toLoadRect f6 (ix3 0 s l) = I.dl (1024 * I.j + s.val) l :=
      fun s l => (load_slab arg8.view f6 o2 _ s l (by omega)).trans (hd _ _)
    have q5B : ∀ s l, View.readAt (Elt Ideal) arg5.view (Rect.unit (s := S4096x128) (k0_off1 i 512#32) S512x128.size (k0_off1_inb i 1)).toLoadRect f3 (ix2 s l) = I.q (1024 * I.j + 512 + s.val) l :=
      fun s l => (load_rows arg5.view f3 o1' _ s l (by omega)).trans (hq _ _)
    have q7B : ∀ s l, View.readAt (Elt Ideal) arg7.view (Rect.unit (s := S4096x128) (k0_off1 i 512#32) S512x128.size (k0_off1_inb i 1)).toLoadRect f5 (ix2 s l) = I.o (1024 * I.j + 512 + s.val) l :=
      fun s l => (load_rows arg7.view f5 o1' _ s l (by omega)).trans (ho _ _)
    have q6B : ∀ s l, View.readAt (Elt Ideal) arg6.view (Rect.unit (s := S1x4096x128) (k0_off2 i 512#32) S1x512x128.size (k0_off2_inb i 1)).toLoadRect f4 (ix3 0 s l) = I.ax (1024 * I.j + 512 + s.val) l :=
      fun s l => (load_slab arg6.view f4 o2' _ s l (by omega)).trans (ha _ _)
    have q8B : ∀ s l, View.readAt (Elt Ideal) arg8.view (Rect.unit (s := S1x4096x128) (k0_off2 i 512#32) S1x512x128.size (k0_off2_inb i 1)).toLoadRect f6 (ix3 0 s l) = I.dl (1024 * I.j + 512 + s.val) l :=
      fun s l => (load_slab arg8.view f6 o2' _ s l (by omega)).trans (hd _ _)

    refine ⟨fun u d => ?_, fun u d => ?_, fun r u => ?_, fun S l => ?_, fun S d => ?_, fun S d h => ?_, fun h => ?_⟩
    · refine (congrFun (View.read_writes_full _ _ _ _ []) _).trans ((pay1_at _ u d).trans (congrArg (· * nat2) ?_))
      skip
      unfold kernelRun.sl.r_89
      rw [trips2_eq i, st_k0_t2.eq_1]
      refine Carried.keys (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u d
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · refine (congrFun (View.read_writes_full _ _ _ _ []) _).trans ((pay2_at _ u d).trans ?_)
      skip
      unfold kernelRun.sl.r_90
      rw [trips2_eq i, st_k0_t2.eq_1]
      refine Carried.values (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u d
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · refine (congrFun (View.read_writes_full _ _ _ _ []) _).trans ((pay3_at _ r u).trans ?_)
      skip
      unfold kernelRun.sl.r_91
      rw [trips2_eq i, st_k0_t2.eq_1]
      refine Carried.cols (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · rw [trips2_eq i, st_k0_t2.eq_1, List.nil_append]
      have hn : ¬ I.j = 0 := by rw [hj]; exact fun h => h1 ((first_iff i).2 h)
      refine (lanes_added I hj3 arg14.view f12 _ [] o2 o2' (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun s l => if h : s < 4096 then d12 (ix3 0 ⟨s, h⟩ l) else 0) ?_ ?_ ?_ S l).trans ?_
      · intro S l; rw [dif_pos S.isLt]; exact congrFun r12 _
      · intro s l
        rw [dif_pos (by omega)]
        refine (lanes_upper I h3 h5 h7 rfl q5A q7A q6A q8A _ s l).trans (congrArg (· + _) ?_)
        exact (load_slab arg14.view f12 o2 _ s l (by omega)).trans (congrFun r12 _)
      · intro s l
        rw [dif_pos (by omega)]
        refine (lanes_lower I h3 h5 h7 rfl q5B q7B q6B q8B _ s l).trans (congrArg (· + _) ?_)
        exact (load_slab arg14.view f12 o2' _ s l (by omega)).trans (congrFun r12 _)
      · rw [if_neg hn, dif_pos S.isLt]
    · rw [trips2_eq i, st_k0_t2.eq_1, List.nil_append]
      have hn : ¬ I.j = 0 := by rw [hj]; exact fun h => h1 ((first_iff i).2 h)
      refine (queries_added I hj3 arg15.view f13 _ [] o1 o1' (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun s l => if h : s < 4096 then d13 (ix2 ⟨s, h⟩ l) else 0) ?_ ?_ ?_ S d).trans ?_
      · intro S l; rw [dif_pos S.isLt]; exact congrFun r13 _
      · intro s l
        rw [dif_pos (by omega)]
        refine (queries_upper I h3 h5 h7 rfl q5A q7A q6A q8A _ s l).trans (congrArg (· + _) ?_)
        exact (load_rows arg15.view f13 o1 _ s l (by omega)).trans (congrFun r13 _)
      · intro s l
        rw [dif_pos (by omega)]
        refine (queries_lower I h3 h5 h7 rfl q5B q7B q6B q8B _ s l).trans (congrArg (· + _) ?_)
        exact (load_rows arg15.view f13 o1' _ s l (by omega)).trans (congrFun r13 _)
      · rw [if_neg hn, dif_pos S.isLt]
    · refine (congrFun (View.read_writes_full _ _ _ _ []) _).trans ((pay4_at _ S d).trans ?_)
      skip
      exact congrFun (View.readAt_full _ _ _) _
    · exact absurd (hj.trans ((last_iff i).1 h2)) h
  ·
    iintro ⟨⟨%f0, %r0, H0⟩, ⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, ⟨%f9, %r9, H9⟩, ⟨%f10, %r10, H10⟩, ⟨%f11, %r11, H11⟩, ⟨%f12, %r12, H12⟩, ⟨%f13, %r13, H13⟩, Hk⟩
    sl_exec (disch := first | sl_exact h1 | sl_exact h2)
    sl_step
    iapply Hk
    isplitl [H0]
    · iexists _; isplitr; swap; · iexact H0
      ipureintro; exact r0
    isplitl [H1]
    · iexists _; isplitr; swap; · iexact H1
      ipureintro; exact r1
    isplitl [H2]
    · iexists _; isplitr; swap; · iexact H2
      ipureintro; exact r2
    isplitl [H3]
    · iexists _; isplitr; swap; · iexact H3
      ipureintro; exact r3
    isplitl [H4]
    · iexists _; isplitr; swap; · iexact H4
      ipureintro; exact r4
    isplitl [H5]
    · iexists _; isplitr; swap; · iexact H5
      ipureintro; exact r5
    isplitl [H6]
    · iexists _; isplitr; swap; · iexact H6
      ipureintro; exact r6
    isplitl [H7]
    · iexists _; isplitr; swap; · iexact H7
      ipureintro; exact r7
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    isplitl [H12]
    · iexists _; isplitr; swap; · iexact H12
      ipureintro; rfl
    isplitl [H13]
    · iexists _; isplitr; swap; · iexact H13
      ipureintro; rfl
    ipureintro
    subst r0 r1 r2 r3 r4 r5 r6
    obtain ⟨I, hI⟩ : ∃ I, I = insOf (arg2.view.read (Elt Ideal) f0) (arg3.view.read (Elt Ideal) f1) (arg4.view.read (Elt Ideal) f2) (arg5.view.read (Elt Ideal) f3)
      (arg6.view.read (Elt Ideal) f4) (arg7.view.read (Elt Ideal) f5) (arg8.view.read (Elt Ideal) f6) (i 1).val := ⟨_, rfl⟩
    rw [← hI]
    have hj : I.j = (i 1).val := by rw [hI]; rfl
    have hj3 : I.j ≤ 3 := by have := (i 1).isLt; rw [hj]; exact Nat.le_of_lt_succ this
    have hk : ∀ (u : Fin 1024) l, arg2.view.read (Elt Ideal) f0 (ix2 u l) = I.k u l := fun u l => by rw [hI]; rfl
    have hv : ∀ (u : Fin 1024) l, arg3.view.read (Elt Ideal) f1 (ix2 u l) = I.v u l := fun u l => by rw [hI]; rfl
    have hx : ∀ (u : Fin 1024) l, arg4.view.read (Elt Ideal) f2 (ix3 0 u l) = I.kx u l := fun u l => by rw [hI]; rfl
    have hq : ∀ (S : Fin 4096) l, arg5.view.read (Elt Ideal) f3 (ix2 S l) = I.q S.val l := fun S l => by rw [hI]; simp only [insOf, S.isLt, dif_pos]
    have ha : ∀ (S : Fin 4096) l, arg6.view.read (Elt Ideal) f4 (ix3 0 S l) = I.ax S.val l := fun S l => by rw [hI]; simp only [insOf, S.isLt, dif_pos]
    have ho : ∀ (S : Fin 4096) l, arg7.view.read (Elt Ideal) f5 (ix2 S l) = I.o S.val l := fun S l => by rw [hI]; simp only [insOf, S.isLt, dif_pos]
    have hd : ∀ (S : Fin 4096) l, arg8.view.read (Elt Ideal) f6 (ix3 0 S l) = I.dl S.val l := fun S l => by rw [hI]; simp only [insOf, S.isLt, dif_pos]
    have o1 : k0_off1 i 0#32 = ![1024 * I.j, 0] := by rw [hj]; exact k0_off1_eq i 0
    have o1' : k0_off1 i 512#32 = ![1024 * I.j + 512, 0] := by rw [hj]; exact k0_off1_eq i 1
    have o2 : k0_off2 i 0#32 = ![0, 1024 * I.j, 0] := by rw [hj]; exact k0_off2_eq i 0
    have o2' : k0_off2 i 512#32 = ![0, 1024 * I.j + 512, 0] := by rw [hj]; exact k0_off2_eq i 1
    have h3 : ∀ u l, View.readAt (Elt Ideal) arg2.view (Rect.unit (s := S1024x128) ![0, 0] ![1024, 128] inb_S1024x128_S1024x128_0_0).toLoadRect f0 (ix2 u l) = I.k u l :=
      fun u l => (congrFun (View.readAt_full arg2.view f0 inb_S1024x128_S1024x128_0_0) _).trans (hk u l)
    have h5 : ∀ u l, View.readAt (Elt Ideal) arg3.view (Rect.unit (s := S1024x128) ![0, 0] ![1024, 128] inb_S1024x128_S1024x128_0_0).toLoadRect f1 (ix2 u l) = I.v u l :=
      fun u l => (congrFun (View.readAt_full arg3.view f1 inb_S1024x128_S1024x128_0_0) _).trans (hv u l)
    have h7 : ∀ u l, View.readAt (Elt Ideal) arg4.view (Rect.unit (s := S1x1024x128) ![0, 0, 0] ![1, 1024, 128] inb_S1x1024x128_S1x1024x128_0_0_0).toLoadRect f2 (ix3 0 u l) = I.kx u l :=
      fun u l => (congrFun (View.readAt_full arg4.view f2 inb_S1x1024x128_S1x1024x128_0_0_0) _).trans (hx u l)
    have q5A : ∀ s l, View.readAt (Elt Ideal) arg5.view (Rect.unit (s := S4096x128) (k0_off1 i 0#32) S512x128.size (k0_off1_inb i 0)).toLoadRect f3 (ix2 s l) = I.q (1024 * I.j + s.val) l :=
      fun s l => (load_rows arg5.view f3 o1 _ s l (by omega)).trans (hq _ _)
    have q7A : ∀ s l, View.readAt (Elt Ideal) arg7.view (Rect.unit (s := S4096x128) (k0_off1 i 0#32) S512x128.size (k0_off1_inb i 0)).toLoadRect f5 (ix2 s l) = I.o (1024 * I.j + s.val) l :=
      fun s l => (load_rows arg7.view f5 o1 _ s l (by omega)).trans (ho _ _)
    have q6A : ∀ s l, View.readAt (Elt Ideal) arg6.view (Rect.unit (s := S1x4096x128) (k0_off2 i 0#32) S1x512x128.size (k0_off2_inb i 0)).toLoadRect f4 (ix3 0 s l) = I.ax (1024 * I.j + s.val) l :=
      fun s l => (load_slab arg6.view f4 o2 _ s l (by omega)).trans (ha _ _)
    have q8A : ∀ s l, View.readAt (Elt Ideal) arg8.view (Rect.unit (s := S1x4096x128) (k0_off2 i 0#32) S1x512x128.size (k0_off2_inb i 0)).toLoadRect f6 (ix3 0 s l) = I.dl (1024 * I.j + s.val) l :=
      fun s l => (load_slab arg8.view f6 o2 _ s l (by omega)).trans (hd _ _)
    have q5B : ∀ s l, View.readAt (Elt Ideal) arg5.view (Rect.unit (s := S4096x128) (k0_off1 i 512#32) S512x128.size (k0_off1_inb i 1)).toLoadRect f3 (ix2 s l) = I.q (1024 * I.j + 512 + s.val) l :=
      fun s l => (load_rows arg5.view f3 o1' _ s l (by omega)).trans (hq _ _)
    have q7B : ∀ s l, View.readAt (Elt Ideal) arg7.view (Rect.unit (s := S4096x128) (k0_off1 i 512#32) S512x128.size (k0_off1_inb i 1)).toLoadRect f5 (ix2 s l) = I.o (1024 * I.j + 512 + s.val) l :=
      fun s l => (load_rows arg7.view f5 o1' _ s l (by omega)).trans (ho _ _)
    have q6B : ∀ s l, View.readAt (Elt Ideal) arg6.view (Rect.unit (s := S1x4096x128) (k0_off2 i 512#32) S1x512x128.size (k0_off2_inb i 1)).toLoadRect f4 (ix3 0 s l) = I.ax (1024 * I.j + 512 + s.val) l :=
      fun s l => (load_slab arg6.view f4 o2' _ s l (by omega)).trans (ha _ _)
    have q8B : ∀ s l, View.readAt (Elt Ideal) arg8.view (Rect.unit (s := S1x4096x128) (k0_off2 i 512#32) S1x512x128.size (k0_off2_inb i 1)).toLoadRect f6 (ix3 0 s l) = I.dl (1024 * I.j + 512 + s.val) l :=
      fun s l => (load_slab arg8.view f6 o2' _ s l (by omega)).trans (hd _ _)

    refine ⟨fun u d => ?_, fun u d => ?_, fun r u => ?_, fun S l => ?_, fun S d => ?_, fun S d h => ?_, fun h => ?_⟩
    · refine (congrFun (View.read_writes_full _ _ _ _ []) _).trans ((pay1_at _ u d).trans (congrArg (· * nat2) ?_))
      skip
      unfold kernelRun.sl.r_135
      rw [trips2_eq i, st_k0_t2.eq_1]
      refine Carried.keys (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u d
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · refine (congrFun (View.read_writes_full _ _ _ _ []) _).trans ((pay2_at _ u d).trans ?_)
      skip
      unfold kernelRun.sl.r_136
      rw [trips2_eq i, st_k0_t2.eq_1]
      refine Carried.values (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u d
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · refine (congrFun (View.read_writes_full _ _ _ _ []) _).trans ((pay3_at _ r u).trans ?_)
      skip
      unfold kernelRun.sl.r_137
      rw [trips2_eq i, st_k0_t2.eq_1]
      refine Carried.cols (carried I hj3 (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun u d => ?_) (fun u d => ?_) (fun r u => ?_)) u
      · refine (keys_lower I h3 h5 h7 rfl q5B q7B q6B q8B _ u d).trans (congrArg (· + _) ((keys_upper I h3 h5 h7 rfl q5A q7A q6A q8A _ u d).trans ?_)); rw [pay44_at, zero_add]
      · refine (values_lower I h3 h7 rfl q5B q7B q6B _ u d).trans (congrArg (· + _) ((values_upper I h3 h7 rfl q5A q7A q6A _ u d).trans ?_)); rw [pay45_at, zero_add]
      · refine (cols_lower I h3 h5 h7 rfl q5B q7B q6B q8B _ r u).trans (congrArg (· + _) ((cols_upper I h3 h5 h7 rfl q5A q7A q6A q8A _ r u).trans ?_)); rw [pay46_at, zero_add]
    · rw [trips2_eq i, st_k0_t2.eq_1, List.nil_append]
      have hn : ¬ I.j = 0 := by rw [hj]; exact fun h => h1 ((first_iff i).2 h)
      refine (lanes_added I hj3 arg14.view f12 _ [] o2 o2' (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun s l => if h : s < 4096 then d12 (ix3 0 ⟨s, h⟩ l) else 0) ?_ ?_ ?_ S l).trans ?_
      · intro S l; rw [dif_pos S.isLt]; exact congrFun r12 _
      · intro s l
        rw [dif_pos (by omega)]
        refine (lanes_upper I h3 h5 h7 rfl q5A q7A q6A q8A _ s l).trans (congrArg (· + _) ?_)
        exact (load_slab arg14.view f12 o2 _ s l (by omega)).trans (congrFun r12 _)
      · intro s l
        rw [dif_pos (by omega)]
        refine (lanes_lower I h3 h5 h7 rfl q5B q7B q6B q8B _ s l).trans (congrArg (· + _) ?_)
        exact (load_slab arg14.view f12 o2' _ s l (by omega)).trans (congrFun r12 _)
      · rw [if_neg hn, dif_pos S.isLt]
    · rw [trips2_eq i, st_k0_t2.eq_1, List.nil_append]
      have hn : ¬ I.j = 0 := by rw [hj]; exact fun h => h1 ((first_iff i).2 h)
      refine (queries_added I hj3 arg15.view f13 _ [] o1 o1' (loop_done _ _ _ _ _ _ _ _ _ _ _ _ _ _ _ _ _ _ _ _ _ _ _ _ _ _ _ _ _ _ _ _ _ _ _ _ _ _ _ _ _ _ _ _ _ _ _ _ _ _ _ _ _ _ _ _ _ _ I hj _ _ _ h3 h5 h7 hq ha ho hd _ _ _) (fun s l => if h : s < 4096 then d13 (ix2 ⟨s, h⟩ l) else 0) ?_ ?_ ?_ S d).trans ?_
      · intro S l; rw [dif_pos S.isLt]; exact congrFun r13 _
      · intro s l
        rw [dif_pos (by omega)]
        refine (queries_upper I h3 h5 h7 rfl q5A q7A q6A q8A _ s l).trans (congrArg (· + _) ?_)
        exact (load_rows arg15.view f13 o1 _ s l (by omega)).trans (congrFun r13 _)
      · intro s l
        rw [dif_pos (by omega)]
        refine (queries_lower I h3 h5 h7 rfl q5B q7B q6B q8B _ s l).trans (congrArg (· + _) ?_)
        exact (load_rows arg15.view f13 o1' _ s l (by omega)).trans (congrFun r13 _)
      · rw [if_neg hn, dif_pos S.isLt]
    · exact absurd ((last_iff i).2 (hj.symm.trans h)) h2
    · exact r8

end Cert.Proof.Attn
-- ==== Proof.Attn.Body.lean ====
/-
  The attention's backward call over its grid: what every block holds after every point. The keys', the values' and the
  columns' blocks are written once. The rows' block and the accumulator of the queries' gradients are added to at every
  column block of a head. The queries' block is written at the last column block of a head, and before that it holds anything.
-/
module

public import proofs.«01_k».proof.Proof.Gen.AttnIdeal.Frame
public import proofs.«01_k».proof.Proof.Attn.Run
public import Idealize.ShloMosaic.Lib.Pipeline.DatRel
public import Idealize.ShloMosaic.Lib.Pipeline.ArrRel

@[expose] public section

set_option maxRecDepth 16384

noncomputable section

open Idealize.ShloMosaic Idealize.ShloMosaic.TcCoe Idealize.ShloMosaic.Tactic
open Idealize.SL Idealize.SL.RA Idealize.SL.BI
open scoped Idealize.SL.BI BigOperators
open Idealize.SL.BI.BIBase Idealize.SL.BI.Laws Idealize.SL.ProofMode Idealize.SL.Sem

namespace Cert.Proof.Attn

open Cert.AttnIdeal Cert.AttnIdeal.Gen

local notation "𝕄" => MT nD τ sig Unit (Elt Ideal) ℕ (UR sig nD τ) ℕ

open Idealize.ShloMosaic.Pipeline (RDat)

variable (m : (ℓ : Loc nD τ sig) → Buf (Elt Ideal) ℓ) (ρ : Dev nD → PrngReg)

/-- The column block of a grid point. -/
theorem col_of : ∀ t : Fin cfg0.N, (grid0.coords t 1).val = t.val % 4 := by decide +kernel

/-- What the body reads at a point. -/
def insAt (c : Dev nD) (t : Fin cfg0.N) : Ins :=
  insOf (iblk m c 0 t) (iblk m c 1 t) (iblk m c 2 t) (iblk m c 3 t) (iblk m c 4 t) (iblk m c 5 t) (iblk m c 6 t) (grid0.coords t 1).val

theorem insAt_j (c : Dev nD) (t : Fin cfg0.N) : (insAt m c t).j = t.val % 4 := col_of t

/-- What a point adds to a row's sum. -/
def laneAdd (c : Dev nD) (S : ℕ) (l : Fin 128) (n : ℕ) : EReal :=
  if h : n < 32 then ∑ b : Fin 8, G (insAt m c ⟨n, h⟩) S ⟨128 * b.val + l.val, by omega⟩ else 0

/-- What a point adds to the queries' gradient. -/
def queryAdd (c : Dev nD) (S : ℕ) (d : Fin 128) (n : ℕ) : EReal :=
  if h : n < 32 then (∑ u : Fin 1024, G (insAt m c ⟨n, h⟩) S u * (insAt m c ⟨n, h⟩).k u d) * scl else 0

/-- The sum over the points of a head up to a point. -/
def total (a : ℕ → EReal) (n : ℕ) : EReal := ∑ j ∈ Finset.range (n % 4 + 1), a (n / 4 * 4 + j)

theorem total_first (a : ℕ → EReal) {n : ℕ} (h : n % 4 = 0) : total a n = 0 + a n := by
  unfold total; rw [h, Finset.sum_range_succ, Finset.range_zero, Finset.sum_empty]
  congr 2; omega

theorem total_next (a : ℕ → EReal) {n : ℕ} (h : n % 4 ≠ 0) : total a n = total a (n - 1) + a n := by
  unfold total
  rw [Finset.sum_range_succ]
  have e1 : n - 1 = (n / 4 * 4) + (n % 4 - 1) := by omega
  have e2 : (n - 1) / 4 = n / 4 := by omega
  have e3 : (n - 1) % 4 + 1 = n % 4 := by omega
  have e4 : n / 4 * 4 + n % 4 = n := by omega
  rw [e2, e3, e4]

/-- The block of the queries' gradient at the end of a head. -/
def outQueries (c : Dev nD) (t : Fin cfg0.N) : S4096x128.Idx → EReal := fun x => total (queryAdd m c (x 0).val (x 1)) t.val

/-- The block of the keys' gradient. -/
def outKeys (c : Dev nD) (t : Fin cfg0.N) : S1024x128.Idx → EReal :=
  fun x => (∑ s ∈ Finset.range 4096, G (insAt m c t) s (x 0) * (insAt m c t).q s (x 1)) * nat2

/-- The block of the values' gradient. -/
def outValues (c : Dev nD) (t : Fin cfg0.N) : S1024x128.Idx → EReal :=
  fun x => ∑ s ∈ Finset.range 4096, P (insAt m c t) s (x 0) * (insAt m c t).o s (x 1)

/-- The block of the columns' sums. -/
def outCols (c : Dev nD) (t : Fin cfg0.N) : S1x8x1024.Idx → EReal := fun x => ∑ s ∈ Finset.range 4096, G (insAt m c t) s (x 2)

/-- The block of the rows' sums. -/
def outLanes (c : Dev nD) (t : Fin cfg0.N) : S1x4096x128.Idx → EReal := fun x => total (laneAdd m c (x 1).val (x 2)) t.val

/-- The accumulator as a memref. -/
abbrev acc : Memref sig .tc .vmem S4096x128 .f32 := Memref.whole cc0_scratch0

/-- What the run says of the blocks and of the accumulator. -/
def dat (c : Dev nD) : Pipeline.Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outQueries m c t
    | ⟨9, _⟩ => outKeys m c t
    | ⟨10, _⟩ => outValues m c t
    | ⟨11, _⟩ => outCols m c t
    | ⟨12, _⟩ => outLanes m c t
  Φ t := iprop((∃ d, ⌜t.val % 4 ≠ 0 → ∀ (S : Fin 4096) (l : Fin 128), d (ix2 S l) = total (queryAdd m c S.val l) (t.val - 1)⌝ ∗ owns (c : Thread nD τ) acc fullShare d)
    ∗ (∃ r, prngReg c r))
  q w := Pipeline.shareOf spec0 w
  owed _ := 0

/-- The queries' block is held to its value at the last column block only. -/
abbrev rdats (c : Dev nD) : RDat τ (Elt Ideal) Unit ℕ (UR sig nD τ) ℕ cfg0 c :=
  (dat m c).toRRel (fun w => w == 8) fun w t X => t.val % 4 = 3 → X = (dat m c).after w t

theorem found_0 (c : Dev nD) (t : Fin cfg0.N) {Y} (h : (rdats m c).Finds 0 t Y) : Y = iblk m c 0 t := by
  obtain ⟨d, rfl⟩ := (dat m c).toRRel_finds rfl t Y h
  exact before0_0_of m (dat m c) rfl (fun _ => rfl) t d

theorem found_1 (c : Dev nD) (t : Fin cfg0.N) {Y} (h : (rdats m c).Finds 1 t Y) : Y = iblk m c 1 t := by
  obtain ⟨d, rfl⟩ := (dat m c).toRRel_finds rfl t Y h
  exact before0_1_of m (dat m c) rfl (fun _ => rfl) t d

theorem found_2 (c : Dev nD) (t : Fin cfg0.N) {Y} (h : (rdats m c).Finds 2 t Y) : Y = iblk m c 2 t := by
  obtain ⟨d, rfl⟩ := (dat m c).toRRel_finds rfl t Y h
  exact before0_2_of m (dat m c) rfl (fun _ => rfl) t d

theorem found_3 (c : Dev nD) (t : Fin cfg0.N) {Y} (h : (rdats m c).Finds 3 t Y) : Y = iblk m c 3 t := by
  obtain ⟨d, rfl⟩ := (dat m c).toRRel_finds rfl t Y h
  exact before0_3_of m (dat m c) rfl (fun _ => rfl) t d

theorem found_4 (c : Dev nD) (t : Fin cfg0.N) {Y} (h : (rdats m c).Finds 4 t Y) : Y = iblk m c 4 t := by
  obtain ⟨d, rfl⟩ := (dat m c).toRRel_finds rfl t Y h
  exact before0_4_of m (dat m c) rfl (fun _ => rfl) t d

theorem found_5 (c : Dev nD) (t : Fin cfg0.N) {Y} (h : (rdats m c).Finds 5 t Y) : Y = iblk m c 5 t := by
  obtain ⟨d, rfl⟩ := (dat m c).toRRel_finds rfl t Y h
  exact before0_5_of m (dat m c) rfl (fun _ => rfl) t d

theorem found_6 (c : Dev nD) (t : Fin cfg0.N) {Y} (h : (rdats m c).Finds 6 t Y) : Y = iblk m c 6 t := by
  obtain ⟨d, rfl⟩ := (dat m c).toRRel_finds rfl t Y h
  exact before0_6_of m (dat m c) rfl (fun _ => rfl) t d

theorem found_7 (c : Dev nD) (t : Fin cfg0.N) {Y} (h : (rdats m c).Finds 7 t Y) : Y = iblk m c 7 t := by
  obtain ⟨d, rfl⟩ := (dat m c).toRRel_finds rfl t Y h
  exact before0_7_of m (dat m c) rfl (fun _ => rfl) t d

/-- The rows' block after the first column block of a head is found as the point before left it. -/
theorem found_12 (c : Dev nD) (t : Fin cfg0.N) (ht : t.val % 4 ≠ 0) {Y} (h : (rdats m c).Finds 12 t Y) :
    Y = outLanes m c ⟨t.val - 1, Nat.lt_of_le_of_lt (Nat.sub_le _ _) t.isLt⟩ := by
  obtain ⟨d, rfl⟩ := (dat m c).toRRel_finds rfl t Y h
  have h0 : t.val ≠ 0 := by omega
  have hf : (cfg0.win 12).flush ⟨t.val - 1, Nat.lt_of_le_of_lt (Nat.sub_le _ _) t.isLt⟩ = false := by
    rw [Bool.eq_false_iff]; intro e; have e := (flush0_12 _).1 e; dsimp only at e; omega
  rw [(dat m c).before_of_pos 12 t h0 rfl d, hf]
  rfl

/-- What is kept between points at the grid's ends. -/
theorem kept_eq (c : Dev nD) :
    (Pipeline.ΦA spec0 c : sProp 𝕄) = iprop((∃ d, owns (c : Thread nD τ) acc fullShare d) ∗ (∃ r, prngReg c r)) := by
  unfold Pipeline.ΦA; rw [scopedRest0_eq]; simp only [acc, owns_whole]; try rfl

set_option maxHeartbeats 1000000 in
/-- The body at one point. -/
theorem sound_body (c : Dev nD) (t : Fin cfg0.N) (Y : (w : Fin cfg0.W) → (cfg0.win w).block.Idx → Elt Ideal (cfg0.win w).elt) (hY : ∀ w, (rdats m c).Finds w t (Y w)) :
    iprop((rdats m c).Φ t.castSucc ∗ (rdats m c).owesAt () t.castSucc
        ∗ owns c ((cfg0.win 0).stage (cfg0.slots t 0)) fullShare (Y 0) ∗ owns c ((cfg0.win 1).stage (cfg0.slots t 1)) fullShare (Y 1) ∗ owns c ((cfg0.win 2).stage (cfg0.slots t 2)) fullShare (Y 2) ∗ owns c ((cfg0.win 3).stage (cfg0.slots t 3)) fullShare (Y 3) ∗ owns c ((cfg0.win 4).stage (cfg0.slots t 4)) fullShare (Y 4) ∗ owns c ((cfg0.win 5).stage (cfg0.slots t 5)) fullShare (Y 5) ∗ owns c ((cfg0.win 6).stage (cfg0.slots t 6)) fullShare (Y 6) ∗ owns c ((cfg0.win 7).stage (cfg0.slots t 7)) fullShare (Y 7) ∗ owns c ((cfg0.win 8).stage (cfg0.slots t 8)) fullShare (Y 8) ∗ owns c ((cfg0.win 9).stage (cfg0.slots t 9)) fullShare (Y 9) ∗ owns c ((cfg0.win 10).stage (cfg0.slots t 10)) fullShare (Y 10) ∗ owns c ((cfg0.win 11).stage (cfg0.slots t 11)) fullShare (Y 11) ∗ owns c ((cfg0.win 12).stage (cfg0.slots t 12)) fullShare (Y 12))
      ⊢ wp frame (wpE (defs₀ (F := Ideal)) Variants.none c none) Set.univ (bodyAt0 t) (fun _ =>
        iprop((rdats m c).Φ t.succ ∗ (rdats m c).owesAt () t.succ
          ∗ (∃ X, ⌜(rdats m c).after 0 t (Y 0) X⌝ ∗ owns c ((cfg0.win 0).stage (cfg0.slots t 0)) fullShare X) ∗ (∃ X, ⌜(rdats m c).after 1 t (Y 1) X⌝ ∗ owns c ((cfg0.win 1).stage (cfg0.slots t 1)) fullShare X) ∗ (∃ X, ⌜(rdats m c).after 2 t (Y 2) X⌝ ∗ owns c ((cfg0.win 2).stage (cfg0.slots t 2)) fullShare X) ∗ (∃ X, ⌜(rdats m c).after 3 t (Y 3) X⌝ ∗ owns c ((cfg0.win 3).stage (cfg0.slots t 3)) fullShare X) ∗ (∃ X, ⌜(rdats m c).after 4 t (Y 4) X⌝ ∗ owns c ((cfg0.win 4).stage (cfg0.slots t 4)) fullShare X) ∗ (∃ X, ⌜(rdats m c).after 5 t (Y 5) X⌝ ∗ owns c ((cfg0.win 5).stage (cfg0.slots t 5)) fullShare X) ∗ (∃ X, ⌜(rdats m c).after 6 t (Y 6) X⌝ ∗ owns c ((cfg0.win 6).stage (cfg0.slots t 6)) fullShare X) ∗ (∃ X, ⌜(rdats m c).after 7 t (Y 7) X⌝ ∗ owns c ((cfg0.win 7).stage (cfg0.slots t 7)) fullShare X) ∗ (∃ X, ⌜(rdats m c).after 8 t (Y 8) X⌝ ∗ owns c ((cfg0.win 8).stage (cfg0.slots t 8)) fullShare X) ∗ (∃ X, ⌜(rdats m c).after 9 t (Y 9) X⌝ ∗ owns c ((cfg0.win 9).stage (cfg0.slots t 9)) fullShare X) ∗ (∃ X, ⌜(rdats m c).after 10 t (Y 10) X⌝ ∗ owns c ((cfg0.win 10).stage (cfg0.slots t 10)) fullShare X) ∗ (∃ X, ⌜(rdats m c).after 11 t (Y 11) X⌝ ∗ owns c ((cfg0.win 11).stage (cfg0.slots t 11)) fullShare X) ∗ (∃ X, ⌜(rdats m c).after 12 t (Y 12) X⌝ ∗ owns c ((cfg0.win 12).stage (cfg0.slots t 12)) fullShare X))) := by
  have y0 := found_0 m c t (hY 0)
  have y1 := found_1 m c t (hY 1)
  have y2 := found_2 m c t (hY 2)
  have y3 := found_3 m c t (hY 3)
  have y4 := found_4 m c t (hY 4)
  have y5 := found_5 m c t (hY 5)
  have y6 := found_6 m c t (hY 6)
  have y7 := found_7 m c t (hY 7)
  unfold bodyAt0
  rw [show (rdats m c).owesAt () t.succ = (rdats m c).owesAt () t.castSucc from rfl]
  have e1 : (rdats m c).Φ t.castSucc = iprop((∃ d, ⌜t.val % 4 ≠ 0 → ∀ (S : Fin 4096) (l : Fin 128), d (ix2 S l) = total (queryAdd m c S.val l) (t.val - 1)⌝ ∗ owns (c : Thread nD τ) acc fullShare d)
    ∗ (∃ r, prngReg c r)) := rfl
  have e2 : (rdats m c).Φ t.succ = iprop((∃ d, ⌜(t.val + 1) % 4 ≠ 0 → ∀ (S : Fin 4096) (l : Fin 128), d (ix2 S l) = total (queryAdd m c S.val l) t.val⌝ ∗ owns (c : Thread nD τ) acc fullShare d)
    ∗ (∃ r, prngReg c r)) := rfl
  rw [e1, e2]
  iintro ⟨⟨⟨%d13, %hd, HS⟩, Hg⟩, HO, H0, H1, H2, H3, H4, H5, H6, H7, H8, H9, H10, H11, H12⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) acc (Memref.isWhole_whole _) (Y 0) (Y 1) (Y 2) (Y 3) (Y 4) (Y 5) (Y 6) (Y 7) (Y 8) (Y 9) (Y 10) (Y 11) (Y 12) d13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS]; · iexact HS
  iintro %e8 %e9 %e10 %e11 %e12 %e13 ⟨H0, H1, H2, H3, H4, H5, H6, H7, H8, H9, H10, H11, H12, HS, %D⟩
  have D : Done (insAt m c t) (Y 8) (Y 12) d13 e8 e9 e10 e11 e12 e13 := by
    unfold insAt; rw [← y0, ← y1, ← y2, ← y3, ← y4, ← y5, ← y6]; exact D
  have hj := insAt_j m c t
  have hq : ∀ (S : Fin 4096) (l : Fin 128), e13 (ix2 S l) = total (queryAdd m c S.val l) t.val := fun S l => by
    refine (D.queries S l).trans ?_
    have ea : (∑ u : Fin 1024, G (insAt m c t) S.val u * (insAt m c t).k u l) * scl = queryAdd m c S.val l t.val := by
      unfold queryAdd; rw [dif_pos (show t.val < 32 from t.isLt)]
    rw [ea, hj]
    by_cases h0 : t.val % 4 = 0
    · rw [if_pos h0, total_first _ h0]
    · rw [if_neg h0, total_next _ h0, hd h0]
  isplitl [HS Hg]
  · isplitl [HS]
    · iexists e13; isplitr; · ipureintro; exact fun _ => hq
      iexact HS
    iexact Hg
  isplitl [HO]; · iexact HO
  isplitl [H0]
  · iexists (Y 0); isplitr; · ipureintro; exact y0
    iexact H0
  isplitl [H1]
  · iexists (Y 1); isplitr; · ipureintro; exact y1
    iexact H1
  isplitl [H2]
  · iexists (Y 2); isplitr; · ipureintro; exact y2
    iexact H2
  isplitl [H3]
  · iexists (Y 3); isplitr; · ipureintro; exact y3
    iexact H3
  isplitl [H4]
  · iexists (Y 4); isplitr; · ipureintro; exact y4
    iexact H4
  isplitl [H5]
  · iexists (Y 5); isplitr; · ipureintro; exact y5
    iexact H5
  isplitl [H6]
  · iexists (Y 6); isplitr; · ipureintro; exact y6
    iexact H6
  isplitl [H7]
  · iexists (Y 7); isplitr; · ipureintro; exact y7
    iexact H7
  isplitl [H8]
  · iexists e8; isplitr
    · ipureintro; intro h3; funext x; idx_vars x
      exact (D.out _ _ (hj.trans h3)).trans (hq _ _)
    iexact H8
  isplitl [H9]
  · iexists e9; isplitr
    · ipureintro; funext x; idx_vars x; exact D.keys _ _
    iexact H9
  isplitl [H10]
  · iexists e10; isplitr
    · ipureintro; funext x; idx_vars x; exact D.values _ _
    iexact H10
  isplitl [H11]
  · iexists e11; isplitr
    · ipureintro; funext x; idx_vars x
      have e0 : x0 = (0 : Fin 1) := Subsingleton.elim (α := Fin 1) _ _
      subst e0
      exact D.cols _ _
    iexact H11
  iexists e12; isplitr
  · ipureintro; funext x; idx_vars x
    have e0 : x0 = (0 : Fin 1) := Subsingleton.elim (α := Fin 1) _ _
    subst e0
    refine (D.lanes x1 x2).trans ?_
    show _ = total (laneAdd m c (x1 : Fin 4096).val x2) t.val
    have ea : (∑ b : Fin 8, G (insAt m c t) (x1 : Fin 4096).val ⟨128 * b.val + (x2 : Fin 128).val, by omega⟩) = laneAdd m c (x1 : Fin 4096).val x2 t.val := by
      unfold laneAdd; rw [dif_pos (show t.val < 32 from t.isLt)]
    rw [ea, hj]
    by_cases h0 : t.val % 4 = 0
    · rw [if_pos h0, total_first _ h0]
    · rw [if_neg h0, total_next _ h0, found_12 m c t h0 (hY 12)]
      rfl
  iexact H12

theorem row (t : Fin cfg0.N) : defs₀ (F := Ideal) .tc cfg0.body (cfg0.bodyArgs t (cfg0.slots t)) = bodyAt0 t := by
  unfold defs₀; rw [Defs.onTc_tc]

theorem body_obligation (c : Dev nD) : (rdats m c).BodyObligation (defs₀ (F := Ideal)) Variants.none () Set.univ := fun t Y hY => by
  rw [bigSep_W0, bigSep_W0, row]
  exact triple_restated (sound_body m c t Y hY) rfl .rfl fun _ => .rfl

/-- The accumulator at the start holds anything. -/
theorem enter (c : Dev nD) : (Pipeline.ΦA spec0 c : sProp 𝕄) ⊢ (rdats m c).Φ 0 := by
  rw [kept_eq]
  have e : (rdats m c).Φ 0 = iprop((∃ d, ⌜0 % 4 ≠ 0 → ∀ (S : Fin 4096) (l : Fin 128), d (ix2 S l) = total (queryAdd m c S.val l) (0 - 1)⌝ ∗ owns (c : Thread nD τ) acc fullShare d)
    ∗ (∃ r, prngReg c r)) := rfl
  rw [e]
  iintro ⟨⟨%d, H⟩, Hg⟩
  isplitl [H]
  · iexists d; isplitr; · ipureintro; exact fun h => absurd rfl h
    iexact H
  iexact Hg

/-- And at the end. -/
theorem leave (c : Dev nD) : (rdats m c).Φ (Fin.last cfg0.N) ⊢ (Pipeline.ΦA spec0 c : sProp 𝕄) := by
  rw [kept_eq]
  have e : (rdats m c).Φ (Fin.last cfg0.N) = iprop((∃ d, ⌜32 % 4 ≠ 0 → ∀ (S : Fin 4096) (l : Fin 128), d (ix2 S l) = total (queryAdd m c S.val l) (32 - 1)⌝ ∗ owns (c : Thread nD τ) acc fullShare d)
    ∗ (∃ r, prngReg c r)) := rfl
  rw [e]
  iintro ⟨⟨%d, -, H⟩, Hg⟩
  isplitl [H]
  · iexists d; iexact H
  iexact Hg

set_option backward.isDefEq.respectTransparency.types false in
/-- The whole run. -/
theorem run_main :
    θ_run defs (onTc (τ := τ) (main (F := Ideal))) (s₀ m ρ)
      (fun r => RDat.FramePost (cfgs 0) (rdats m) (V m) r ∧ r.2.sem = fun _ => 0) :=
  Pipeline.RDat.θ_run_frame_track_shared (Q' := _) cfgs (0 : Fin 1) launch₀0 defs₀ Variants.none (rdats m) m ρ main
    (hbody := body_obligation m) (hq := fun _ _ _ => rfl)
    (howed := fun _ _ => rfl) (V := V m) (hmain := hmain m Variants.none) (hA := fun _ _ => rfl) (hin := enter m) (hout := leave m)

end Cert.Proof.Attn
-- ==== Proof.Attn.Final.lean ====
/-
  The arrays the backward pass leaves, element by element, and what its body reads, in the arrays the launch finds.
-/
module

public import proofs.«01_k».proof.Proof.Attn.Body
public import proofs.«01_k».proof.Proof.Gen.AttnIdeal.Points
public import Idealize.ShloMosaic.Lib.Pipeline.Value
public import Idealize.ShloMosaic.Lib.Pipeline.ValueKit

@[expose] public section

set_option maxRecDepth 16384

noncomputable section

open Idealize.ShloMosaic Idealize.ShloMosaic.TcCoe
open scoped BigOperators

namespace Cert.Proof.Attn

open Cert.AttnIdeal Cert.AttnIdeal.Gen
open Idealize.ShloMosaic.Pipeline (Dat RDat)

variable (m : (ℓ : Loc nD τ sig) → Buf (Elt Ideal) ℓ)

theorem idx : ∀ t : Fin cfg0.N, win0_0.index t = ![t.val % 4, 8 + t.val / 4] ∧ win0_1.index t = ![t.val % 4, 16 + t.val / 4]
    ∧ win0_2.index t = ![t.val / 4, t.val % 4, 0] ∧ win0_3.index t = ![0, t.val / 4] ∧ win0_4.index t = ![t.val / 4, 0, 0]
    ∧ win0_5.index t = ![0, t.val / 4] ∧ win0_6.index t = ![t.val / 4, 0, 0] ∧ win0_8.index t = ![0, t.val / 4]
    ∧ win0_9.index t = ![t.val % 4, t.val / 4] ∧ win0_10.index t = ![t.val % 4, t.val / 4]
    ∧ win0_11.index t = ![t.val % 4, t.val / 4, 0] ∧ win0_12.index t = ![t.val / 4, 0, 0] :=
  (by decide +kernel : ∀ t : Fin grid0.N, _)

theorem lt_32 (t : Fin cfg0.N) : t.val < 32 := lt_of_lt_of_eq t.isLt (show cfg0.N = 32 from N_0)

/-- The head of a point. -/
def headOf (t : Fin cfg0.N) : Fin 8 := ⟨t.val / 4, by have := lt_32 t; omega⟩

/-- Column `u` of a point's block. -/
def colAt (t : Fin cfg0.N) (u : Fin 1024) : Fin 4096 := ⟨t.val % 4 * 1024 + u.val, by have := lt_32 t; omega⟩

/-- Place `d` of a point's head. -/
def widAt (t : Fin cfg0.N) (d : Fin 128) : Fin 1024 := ⟨t.val / 4 * 128 + d.val, by have := lt_32 t; omega⟩

/-- The point of a head and a column block. -/
def ptOf (h : ℕ) (j : ℕ) (hh : h < 8) (hj : j < 4) : Fin cfg0.N := ⟨4 * h + j, lt_of_lt_of_eq (by omega) (show cfg0.N = 32 from N_0).symm⟩

/-- A column's place in its block. -/
def inU (s : Fin 4096) : Fin 1024 := ⟨s.val % 1024, Nat.mod_lt _ (by decide)⟩

/-- A place in its head. -/
def inD (n : Fin 1024) : Fin 128 := ⟨n.val % 128, Nat.mod_lt _ (by decide)⟩

/-- The point that writes an element of the keys' gradient. -/
def ptAt (s : Fin 4096) (n : Fin 1024) : Fin cfg0.N := ptOf (n.val / 128) (s.val / 1024) (by omega) (by omega)

theorem ptAt_at (t : Fin cfg0.N) (u : Fin 1024) (d : Fin 128) : ptAt (colAt t u) (widAt t d) = t := by
  refine Fin.ext ?_
  simp only [ptAt, ptOf, colAt, widAt]
  omega

theorem inU_at (t : Fin cfg0.N) (u : Fin 1024) : inU (colAt t u) = u := by
  refine Fin.ext ?_
  simp only [inU, colAt]
  omega

theorem inD_at (t : Fin cfg0.N) (d : Fin 128) : inD (widAt t d) = d := by
  refine Fin.ext ?_
  simp only [inD, widAt]
  omega

/-- The queries' gradient. -/
def queriesV (c : Dev nD) (s : Fin 4096) (n : Fin 1024) : EReal := total (queryAdd m c s.val (inD n)) (4 * (n.val / 128) + 3)

/-- The keys' gradient. -/
def keysV (c : Dev nD) (s : Fin 4096) (n : Fin 1024) : EReal := outKeys m c (ptAt s n) (ix2 (inU s) (inD n))

/-- The values' gradient. -/
def valuesV (c : Dev nD) (s : Fin 4096) (n : Fin 1024) : EReal := outValues m c (ptAt s n) (ix2 (inU s) (inD n))

/-- The columns' sums. -/
def colsV (c : Dev nD) (a : Fin 4) (b : Fin 64) (u : Fin 1024) : EReal :=
  ∑ s ∈ Finset.range 4096, G (insAt m c (ptOf (b.val / 8) a.val (by omega) a.isLt)) s u

/-- The rows' sums. -/
def lanesV (c : Dev nD) (h : Fin 8) (s : Fin 4096) (l : Fin 128) : EReal := total (laneAdd m c s.val l) (4 * h.val + 3)

section Finals

variable {after : (w : Fin cfg0.W) → Fin cfg0.N → (cfg0.win w).block.Idx → Elt Ideal (cfg0.win w).elt} (c : Dev nD)
  (hl : ∀ (w : Fin cfg0.W) (u : Fin cfg0.N), (cfg0.win w).flush u = true → (rdats m c).Leaves w u (after w u))

include hl

theorem left_8 (t : Fin cfg0.N) (hf : (cfg0.win 8).flush t = true) : after 8 t = outQueries m c t := by
  have h := (dat m c).toRRel_leaves rfl (hl 8 t hf)
  exact h ((flush0_8 t).1 hf)

theorem left_9 (t : Fin cfg0.N) (hf : (cfg0.win 9).flush t = true) : after 9 t = outKeys m c t := by
  obtain ⟨_, _, h⟩ := hl 9 t hf
  rw [(dat m c).toRRel_after_of_eq_false rfl] at h
  exact h

theorem left_10 (t : Fin cfg0.N) (hf : (cfg0.win 10).flush t = true) : after 10 t = outValues m c t := by
  obtain ⟨_, _, h⟩ := hl 10 t hf
  rw [(dat m c).toRRel_after_of_eq_false rfl] at h
  exact h

theorem left_11 (t : Fin cfg0.N) (hf : (cfg0.win 11).flush t = true) : after 11 t = outCols m c t := by
  obtain ⟨_, _, h⟩ := hl 11 t hf
  rw [(dat m c).toRRel_after_of_eq_false rfl] at h
  exact h

theorem left_12 (t : Fin cfg0.N) (hf : (cfg0.win 12).flush t = true) : after 12 t = outLanes m c t := by
  obtain ⟨_, _, h⟩ := hl 12 t hf
  rw [(dat m c).toRRel_after_of_eq_false rfl] at h
  exact h

theorem final8 : ((rdats m c).withAfter after).arrAt 8 cfg0.N = fun i : S4096x1024.Idx => queriesV m c (i 0) (i 1) := by
  refine ((rdats m c).withAfter after).arrAt_eq_of_covers 8 _ (by decide +kernel) fun t hf y => ?_
  have e : 4 * (t.val / 4) + 3 = t.val := by have := (flush0_8 t).1 hf; omega
  blk_simp
  rw [RDat.withAfter_after, left_8 m c hl t hf]
  idx_vars y
  have a : outQueries m c t (ix2 y0 y1) = queriesV m c y0 (widAt t y1) := by
    unfold queriesV outQueries
    rw [inD_at, show 4 * ((widAt t y1).val / 128) + 3 = t.val by simp only [widAt]; omega]
    rfl
  refine a.trans (congrArg₂ (queriesV m c) (Fin.ext ?_) (Fin.ext ?_)) <;> blk_point [idx t, widAt]

theorem final9 : ((rdats m c).withAfter after).arrAt 9 cfg0.N = fun i : S4096x1024.Idx => keysV m c (i 0) (i 1) := by
  refine ((rdats m c).withAfter after).arrAt_eq_of_covers 9 _ (by decide +kernel) fun t hf y => ?_
  blk_simp
  rw [RDat.withAfter_after, left_9 m c hl t hf]
  idx_vars y
  have a : outKeys m c t (ix2 y0 y1) = keysV m c (colAt t y0) (widAt t y1) := by
    unfold keysV
    rw [ptAt_at, inU_at, inD_at]
  refine a.trans (congrArg₂ (keysV m c) (Fin.ext ?_) (Fin.ext ?_)) <;> blk_point [idx t, widAt, colAt]

theorem final10 : ((rdats m c).withAfter after).arrAt 10 cfg0.N = fun i : S4096x1024.Idx => valuesV m c (i 0) (i 1) := by
  refine ((rdats m c).withAfter after).arrAt_eq_of_covers 10 _ (by decide +kernel) fun t hf y => ?_
  blk_simp
  rw [RDat.withAfter_after, left_10 m c hl t hf]
  idx_vars y
  have a : outValues m c t (ix2 y0 y1) = valuesV m c (colAt t y0) (widAt t y1) := by
    unfold valuesV
    rw [ptAt_at, inU_at, inD_at]
  refine a.trans (congrArg₂ (valuesV m c) (Fin.ext ?_) (Fin.ext ?_)) <;> blk_point [idx t, widAt, colAt]

theorem colsV_at (t : Fin cfg0.N) (r : Fin 8) (u : Fin 1024) {a : Fin 4} {b : Fin 64} (ha : a.val = t.val % 4) (hb : b.val = t.val / 4 * 8 + r.val) :
    outCols m c t (ix3 0 r u) = colsV m c a b u := by
  unfold colsV outCols
  rw [show ptOf (b.val / 8) a.val (by omega) a.isLt = t from Fin.ext (by simp only [ptOf]; omega)]
  rfl

theorem final11 : ((rdats m c).withAfter after).arrAt 11 cfg0.N = fun i : S4x64x1024.Idx => colsV m c (i 0) (i 1) (i 2) := by
  refine ((rdats m c).withAfter after).arrAt_eq_of_covers 11 _ (by decide +kernel) fun t hf y => ?_
  blk_simp
  rw [RDat.withAfter_after, left_11 m c hl t hf]
  idx_vars y
  obtain rfl : y0 = (0 : Fin 1) := Subsingleton.elim (α := Fin 1) _ _
  refine (colsV_at m c hl t y1 y2 (a := ⟨t.val % 4, by omega⟩) (b := ⟨t.val / 4 * 8 + y1.val, by have := lt_32 t; omega⟩) rfl rfl).trans ?_
  congr 1
  · refine Fin.ext ((show t.val % 4 = t.val % 4 * 1 + (0 : Fin 1).val by simp).trans ?_)
    blk_point [idx t]
  · refine Fin.ext ?_
    blk_point [idx t]
  · refine Fin.ext ?_
    blk_point [idx t]

theorem final12 : ((rdats m c).withAfter after).arrAt 12 cfg0.N = fun i : S8x4096x128.Idx => lanesV m c (i 0) (i 1) (i 2) := by
  refine ((rdats m c).withAfter after).arrAt_eq_of_covers 12 _ (by decide +kernel) fun t hf y => ?_
  have e : 4 * (t.val / 4) + 3 = t.val := by have := (flush0_12 t).1 hf; omega
  blk_simp
  rw [RDat.withAfter_after, left_12 m c hl t hf]
  idx_vars y
  obtain rfl : y0 = (0 : Fin 1) := Subsingleton.elim (α := Fin 1) _ _
  have a : outLanes m c t (ix3 0 y1 y2) = lanesV m c (headOf t) y1 y2 := by
    unfold lanesV outLanes
    rw [show 4 * (headOf t).val + 3 = t.val from e]
    rfl
  refine a.trans ?_
  congr 1
  · refine Fin.ext ((show t.val / 4 = t.val / 4 * 1 + (0 : Fin 1).val by simp).trans ?_)
    blk_point [idx t]
  · refine Fin.ext ?_
    blk_point [idx t]
  · refine Fin.ext ?_
    blk_point [idx t]

end Finals

section Reads

variable (c : Dev nD) (t : Fin cfg0.N)

theorem read_k (u : Fin 1024) (l : Fin 128) :
    (insAt m c t).k u l = (V m c main_v8 : FVec Ideal S4096x3072 .bf16) (ix2 (colAt t u) ⟨1024 + (widAt t l).val, by omega⟩) := by
  show iblk m c 0 t (ix2 u l) = _
  blk_point [iblk, V, idx t, colAt, widAt]

theorem read_v (u : Fin 1024) (l : Fin 128) :
    (insAt m c t).v u l = (V m c main_v8 : FVec Ideal S4096x3072 .bf16) (ix2 (colAt t u) ⟨2048 + (widAt t l).val, by omega⟩) := by
  show iblk m c 1 t (ix2 u l) = _
  blk_point [iblk, V, idx t, colAt, widAt]

theorem read_kx (u : Fin 1024) (l : Fin 128) :
    (insAt m c t).kx u l = (V m c main_v47 : FVec Ideal S8x4096x128 .bf16) (ix3 (headOf t) (colAt t u) l) := by
  show iblk m c 2 t (ix3 0 u l) = _
  blk_point [iblk, V, idx t, colAt, headOf]

theorem read_q (s : Fin 4096) (l : Fin 128) :
    (insAt m c t).q s.val l = (V m c main_v8 : FVec Ideal S4096x3072 .bf16) (ix2 s ⟨(widAt t l).val, by omega⟩) := by
  simp only [insAt, insOf, s.isLt, dif_pos]
  show iblk m c 3 t (ix2 s l) = _
  blk_point [iblk, V, idx t, widAt]

theorem read_ax (s : Fin 4096) (l : Fin 128) :
    (insAt m c t).ax s.val l = (V m c main_v110 : FVec Ideal S8x4096x128 .bf16) (ix3 (headOf t) s l) := by
  simp only [insAt, insOf, s.isLt, dif_pos]
  show iblk m c 4 t (ix3 0 s l) = _
  blk_point [iblk, V, idx t, headOf]

theorem read_o (s : Fin 4096) (l : Fin 128) :
    (insAt m c t).o s.val l = (V m c main_arg2 : FVec Ideal S4096x1024 .bf16) (ix2 s (widAt t l)) := by
  simp only [insAt, insOf, s.isLt, dif_pos]
  show iblk m c 5 t (ix2 s l) = _
  blk_point [iblk, V, idx t, widAt]

theorem read_dl (s : Fin 4096) (l : Fin 128) :
    (insAt m c t).dl s.val l = (V m c main_v117 : FVec Ideal S8x4096x128 .f32) (ix3 (headOf t) s l) := by
  simp only [insAt, insOf, s.isLt, dif_pos]
  show iblk m c 6 t (ix3 0 s l) = _
  blk_point [iblk, V, idx t, headOf]

end Reads

end Cert.Proof.Attn

end
-- ==== Proof.Attn.Softmax.lean ====
/-
  The softmax of one head over the reals, its gradient, and both programs' formulas for it.
-/
module

public import proofs.«01_k».proof.Proof.Common

@[expose] public section

noncomputable section

open Idealize.ShloMosaic Cert.Common
open scoped BigOperators

namespace Cert.Proof.Attn

/-- The largest of real or infinitely small numbers, one of them real, is real. -/
theorem isReal_max {n : ℕ} (f : Fin n → EReal) (h : ∀ k, f k = ⊥ ∨ IsReal (f k)) {k₀ : Fin n} (h₀ : IsReal (f k₀)) :
    IsReal (Finset.univ.fold max ⊥ f) := by
  have e : Finset.univ.fold max ⊥ f = Finset.univ.sup f := rfl
  obtain ⟨k, -, hk⟩ := Finset.exists_mem_eq_sup (Finset.univ : Finset (Fin n)) ⟨k₀, Finset.mem_univ _⟩ f
  rw [e]
  rcases h k with hb | hr
  · have h1 : f k₀ ≤ Finset.univ.sup f := Finset.le_sup (Finset.mem_univ k₀)
    rw [hk, hb, le_bot_iff] at h1
    obtain ⟨r, hr⟩ := h₀
    rw [h1] at hr
    exact absurd hr.symm (EReal.coe_ne_bot r)
  · rw [hk]; exact hr

/-- The real numbers one head of the attention works on. -/
structure HeadOf where
  q : Fin 4096 → Fin 128 → ℝ
  k : Fin 4096 → Fin 128 → ℝ
  v : Fin 4096 → Fin 128 → ℝ
  d : Fin 4096 → Fin 128 → ℝ
  c : Fin 4096 → ℝ

namespace HeadOf

variable (H : HeadOf)

/-- The root of a head's width. -/
def root : ℝ := Real.sqrt 128

theorem root_pos : 0 < root := Real.sqrt_pos.2 (by norm_num)

theorem log2_pos : 0 < Real.log 2 := Real.log_pos (by norm_num)

/-- The scaled product of row `t` with column `u`. -/
def prod (t u : Fin 4096) : ℝ := (∑ i, H.q t i * H.k u i) / root

/-- The score, but for what is the same in the whole row. -/
def x (t u : Fin 4096) : ℝ := H.prod t u - H.c u

/-- The exponentials of a row, shifted by a number. -/
def num (a : ℝ) (t u : Fin 4096) : ℝ := if u ≤ t then Real.exp (H.x t u + a) else 0

/-- The softmax's weights. -/
def w (t u : Fin 4096) : ℝ := H.num 0 t u / ∑ u', H.num 0 t u'

/-- The weights' gradient. -/
def dw (t u : Fin 4096) : ℝ := ∑ i, H.d t i * H.v u i

/-- The scores' gradient. -/
def g (t u : Fin 4096) : ℝ := H.w t u * (H.dw t u - ∑ u', H.w t u' * H.dw t u')

theorem num_nonneg (a : ℝ) (t u : Fin 4096) : 0 ≤ H.num a t u := by
  unfold num; split_ifs
  · exact (Real.exp_pos _).le
  · exact le_rfl

theorem sum_pos (a : ℝ) (t : Fin 4096) : 0 < ∑ u, H.num a t u :=
  Finset.sum_pos' (fun u _ => H.num_nonneg a t u) ⟨t, Finset.mem_univ _, by unfold num; rw [if_pos le_rfl]; exact Real.exp_pos _⟩

theorem num_shift (a : ℝ) (t u : Fin 4096) : H.num a t u = Real.exp a * H.num 0 t u := by
  unfold num; split_ifs
  · rw [add_zero, Real.exp_add, mul_comm]
  · rw [mul_zero]

/-- The weights do not depend on the shift. -/
theorem w_shift (a : ℝ) (t u : Fin 4096) : H.num a t u / ∑ u', H.num a t u' = H.w t u := by
  simp only [H.num_shift a, ← Finset.mul_sum]
  exact mul_div_mul_left _ _ (Real.exp_pos a).ne'

theorem num_eq (a : ℝ) (t u : Fin 4096) : H.num a t u = H.w t u * ∑ u', H.num a t u' := by
  rw [← H.w_shift a, div_mul_cancel₀ _ (H.sum_pos a t).ne']

theorem w_above {t u : Fin 4096} (h : ¬ u ≤ t) : H.w t u = 0 := by
  unfold w num; rw [if_neg h, zero_div]

theorem g_above {t u : Fin 4096} (h : ¬ u ≤ t) : H.g t u = 0 := by
  unfold g; rw [H.w_above h, zero_mul]

/-- The derivative of the quotient of exponential and sum. -/
theorem g_quotient (a : ℝ) (t u : Fin 4096) :
    (H.dw t u / (∑ u', H.num a t u') + -(∑ u', H.dw t u' * (1 / ((∑ u', H.num a t u') * ∑ u', H.num a t u')) * H.num a t u')) * H.num a t u
      = H.g t u := by
  have hp := (H.sum_pos a t).ne'
  have e : ∀ u', H.num a t u' = H.w t u' * ∑ u', H.num a t u' := H.num_eq a t
  have s : ∑ u', H.dw t u' * (1 / ((∑ u', H.num a t u') * ∑ u', H.num a t u')) * H.num a t u'
      = (∑ u', H.w t u' * H.dw t u') / ∑ u', H.num a t u' := by
    rw [Finset.sum_div]
    refine Finset.sum_congr rfl fun u' _ => ?_
    rw [e u']
    generalize ∑ u', H.num a t u' = L at hp ⊢
    field_simp
  rw [s, e u]
  unfold g
  generalize ∑ u', H.num a t u' = L at hp ⊢
  field_simp
  ring

/-- The weight as a power of two of the shifted score. -/
theorem w_power (m : ℝ) {t u : Fin 4096} (h : u ≤ t) :
    Real.rpow 2 ((∑ i, H.q t i / (root * Real.log 2) * H.k u i)
      + ((m + Real.log (∑ u', H.num (-m) t u')) / -Real.log 2 + H.c u / -Real.log 2)) = H.w t u := by
  have hl := log2_pos.ne'
  have hr := root_pos.ne'
  have hp := H.sum_pos (-m) t
  have e1 : ∑ i, H.q t i / (root * Real.log 2) * H.k u i = H.prod t u / Real.log 2 := by
    unfold prod
    rw [Finset.sum_div, Finset.sum_div]
    refine Finset.sum_congr rfl fun i _ => ?_
    field_simp
  rw [Real.rpow_eq_pow, Real.rpow_def_of_pos (by norm_num), e1, ← H.w_shift (-m)]
  have e2 : Real.log 2 * (H.prod t u / Real.log 2 + ((m + Real.log (∑ u', H.num (-m) t u')) / -Real.log 2 + H.c u / -Real.log 2))
      = (H.x t u + -m) - Real.log (∑ u', H.num (-m) t u') := by
    unfold x
    field_simp
    ring
  rw [e2, Real.exp_sub, Real.exp_log hp]
  conv_rhs => rw [num, if_pos h]

/-- The sum of output times its gradient is the weighted sum of the weights' gradients. -/
theorem delta_eq (a : ℝ) (t : Fin 4096) :
    ∑ i, (∑ u, H.num a t u * H.v u i) / (∑ u, H.num a t u) * H.d t i = ∑ u, H.w t u * H.dw t u := by
  have e : ∀ i, (∑ u, H.num a t u * H.v u i) / (∑ u, H.num a t u) * H.d t i = ∑ u, H.w t u * (H.d t i * H.v u i) := fun i => by
    rw [Finset.sum_div, Finset.sum_mul]
    refine Finset.sum_congr rfl fun u _ => ?_
    rw [← H.w_shift a]; ring
  simp only [e]
  rw [Finset.sum_comm]
  refine Finset.sum_congr rfl fun u _ => ?_
  rw [dw, Finset.mul_sum]

/-- The queries' gradient. -/
def dq (t : Fin 4096) (i : Fin 128) : ℝ := ∑ u, H.g t u / root * H.k u i

/-- The keys' gradient. -/
def dk (u : Fin 4096) (i : Fin 128) : ℝ := ∑ t, H.g t u / root * H.q t i

/-- The values' gradient. -/
def dv (u : Fin 4096) (i : Fin 128) : ℝ := ∑ t, H.d t i * H.w t u

/-- The columns' sums of the scores' gradient. -/
def dc (u : Fin 4096) : ℝ := ∑ t, H.g t u

/-- The sums of a row of the scores' gradient over every 128th column. -/
def dr (t : Fin 4096) (l : Fin 128) : ℝ := ∑ b : Fin 32, H.g t ⟨128 * b.val + l.val, by omega⟩

end HeadOf

theorem exp2_coe (x : ℝ) : Ideal.exp2 (x : EReal) = (Real.rpow 2 x : EReal) := rfl

theorem log_coe {x : ℝ} (h : 0 < x) : Ideal.log (x : EReal) = (Real.log x : EReal) := by
  show (if x ≤ 0 then ⊥ else (Real.log x : EReal)) = _
  rw [if_neg (not_le.2 h)]

theorem sqrt_coe {x : ℝ} (h : 0 ≤ x) : Ideal.sqrt (x : EReal) = (Real.sqrt x : EReal) := by
  show (if x < 0 then ⊥ else (Real.sqrt x : EReal)) = _
  rw [if_neg (not_lt.2 h)]

end Cert.Proof.Attn
-- ==== Proof.Attn.Stages.lean ====
/-
  The host operations before the attention backward kernel, in five stages, and what the later stages leave at an index
  over what the earlier ones left.
-/
module

public import proofs.«01_k».proof.Proof.Gen.AttnIdeal.Frame
public import proofs.«01_k».proof.Proof.Gen.AttnRefIdeal.Read
public import proofs.«01_k».proof.Proof.Attn.Softmax
public import Idealize.ShloMosaic.Lib.StableHlo.RunRead
public import Idealize.ShloMosaic.Lib.Tactic.CleanTypes
public import Idealize.ShloMosaic.Lib.Affine
public import Idealize.ShloMosaic.Lib.Pipeline.Value
public import Idealize.ShloMosaic.Lib.Pipeline.ValueKit

@[expose] public section

set_option maxRecDepth 16384

noncomputable section

open Idealize.ShloMosaic Idealize.ShloMosaic.TcCoe Cert.Common
open scoped BigOperators

namespace Cert.Proof.Attn

open Cert.AttnIdeal Cert.AttnIdeal.Gen

variable (m : (ℓ : Loc nD τ sig) → Buf (Elt Ideal) ℓ)

/-- What the buffers hold once the running sums are written. -/
def first (c : Dev nD) : Valuation τ sig (Elt Ideal) := StableHlo.after (List.flatten [hostOps0, hostOps0_1, hostOps0_2]) (fun b => m (c, b))
/-- And once the masked scores are. -/
def second (W : Valuation τ sig (Elt Ideal)) : Valuation τ sig (Elt Ideal) := StableHlo.after (List.flatten [hostOps0_3, hostOps0_4, hostOps0_5, hostOps0_6, hostOps0_7, hostOps0_8, hostOps0_9, hostOps0_10, hostOps0_11, hostOps0_12]) W
/-- And once the exponentials and their sums are. -/
def third (W : Valuation τ sig (Elt Ideal)) : Valuation τ sig (Elt Ideal) := StableHlo.after (hostOps0_13.take 8) W
/-- And once the attention's output and the row biases are. -/
def quot (W : Valuation τ sig (Elt Ideal)) : Valuation τ sig (Elt Ideal) := StableHlo.after ((hostOps0_13.drop 8).take 9) W
/-- And at the launch. -/
def fourth (W : Valuation τ sig (Elt Ideal)) : Valuation τ sig (Elt Ideal) := StableHlo.after (List.flatten [hostOps0_13.drop 17, hostOps0_14, hostOps0_15, hostOps0_16, hostOps0_17, hostOps0_18, hostOps0_19, hostOps0_20, hostOps0_21]) W

theorem V_eq (c : Dev nD) (r : Ref sig .tc) : V m c r = fourth (quot (third (second (first m c)))) (Proc.devRef .tc r) := rfl

/-- An element of an array. -/
abbrev el {s : Shape} {φ : FTy} (A : FVec Ideal s φ) (i : s.Idx) : EReal := A i

/-! ## The lanes that carry the biases -/

/-- What the key side's lanes hold: the bias on lane 0, ones on lanes 3 to 5. -/
def keyLane (x : ℝ) (l : Fin 128) : ℝ := if l.val = 0 then x else if 3 ≤ l.val ∧ l.val < 6 then 1 else 0
/-- What the row side's lanes hold: ones on lanes 0 to 2, the bias on lane 3. -/
def rowLane (y : ℝ) (l : Fin 128) : ℝ := if l.val = 3 then y else if l.val < 3 then 1 else 0

theorem lane_sum (x y : ℝ) : ∑ l, rowLane y l * keyLane x l = y + x := by
  have e : ∀ l : Fin 128, rowLane y l * keyLane x l = (if l = 3 then y else 0) + (if l = 0 then x else 0) := fun l => by
    have h3 : l = 3 ↔ l.val = 3 := Fin.ext_iff
    have h0 : l = 0 ↔ l.val = 0 := Fin.ext_iff
    unfold rowLane keyLane
    simp only [h3, h0]
    split_ifs <;> first | omega | simp
  simp only [e, Finset.sum_add_distrib, Finset.sum_ite_eq', Finset.mem_univ, if_true]

theorem lit_one : Ideal.ofBits .f32 0x3F800000#32 = ((1 : ℝ) : EReal) := by
  simp [Ideal.ofBits, Ideal.ieee, -EReal.coe_mul]; norm_num

theorem lit_zero : Ideal.ofBits .f32 0x00000000#32 = ((0 : ℝ) : EReal) := by
  simp [Ideal.ofBits, Ideal.ieee, -EReal.coe_mul]

theorem lit_bot : Ideal.ofBits .f32 0xFF800000#32 = ⊥ := by simp [Ideal.ofBits, Ideal.ieee]

theorem word_inj {n k : ℕ} (hn : n < 4096) (hk : k < 4096) : BitVec.ofNat 32 n = BitVec.ofNat 32 k ↔ n = k := by
  constructor
  · intro h
    have := congrArg BitVec.toNat h
    simp only [BitVec.toNat_ofNat] at this
    omega
  · rintro rfl; rfl

theorem word_int {n : ℕ} (hn : n < 4096) : (BitVec.ofNat 32 n).toInt = n := by
  rw [BitVec.toInt_eq_toNat_of_lt (by simp only [BitVec.toNat_ofNat]; omega), BitVec.toNat_ofNat]
  omega

theorem pick_eq {α : Type} {n k : ℕ} (hn : n < 4096) (hk : k < 4096) (a b : α) :
    Scalar.select (IntOp.cmpi .eq (BitVec.ofNat 32 n) (BitVec.ofNat 32 k)) a b = if n = k then a else b := by
  unfold Scalar.select
  exact if_congr (IntOp.cmpi_eq.trans (word_inj hn hk)) rfl rfl

theorem pick_le {α : Type} {n k : ℕ} (hn : n < 4096) (hk : k < 4096) (a b : α) :
    Scalar.select (IntOp.cmpi .sle (BitVec.ofNat 32 n) (BitVec.ofNat 32 k)) a b = if n ≤ k then a else b := by
  unfold Scalar.select
  refine if_congr (IntOp.cmpi_sle.trans ?_) rfl rfl
  rw [word_int hn, word_int hk]
  omega

theorem pick_between {α : Type} {n j k : ℕ} (hn : n < 4096) (hj : j < 4096) (hk : k < 4096) (a b : α) :
    Scalar.select (IntOp.andi (IntOp.cmpi .sge (BitVec.ofNat 32 n) (BitVec.ofNat 32 j)) (IntOp.cmpi .slt (BitVec.ofNat 32 n) (BitVec.ofNat 32 k))) a b
      = if j ≤ n ∧ n < k then a else b := by
  unfold Scalar.select
  refine if_congr (IntOp.andi_eq_one.trans (and_congr (IntOp.cmpi_sge.trans ?_) (IntOp.cmpi_slt.trans ?_))) rfl rfl
  · rw [word_int hn, word_int hj]; omega
  · rw [word_int hn, word_int hk]; omega

theorem pieces (x : ℝ) {n k a b : ℕ} (hn : n < 128) (hk : k < 128) (ha : a < 128) (hb : b < 128) :
    Scalar.select (IntOp.cmpi .eq (BitVec.ofNat 32 n) (BitVec.ofNat 32 (k + 2))) ((x : EReal) - x - (x - x))
      (Scalar.select (IntOp.cmpi .eq (BitVec.ofNat 32 n) (BitVec.ofNat 32 (k + 1))) ((x : EReal) - x)
        (Scalar.select (IntOp.cmpi .eq (BitVec.ofNat 32 n) (BitVec.ofNat 32 k)) (x : EReal)
          (Scalar.select (IntOp.andi (IntOp.cmpi .sge (BitVec.ofNat 32 n) (BitVec.ofNat 32 a)) (IntOp.cmpi .slt (BitVec.ofNat 32 n) (BitVec.ofNat 32 b)))
            (1 : EReal) 0)))
      = ((if n = k + 2 then 0 else if n = k + 1 then 0 else if n = k then x else if a ≤ n ∧ n < b then 1 else 0 : ℝ) : EReal) := by
  rw [pick_eq (by omega) (by omega), pick_eq (by omega) (by omega), pick_eq (by omega) (by omega),
    pick_between (by omega) (by omega) (by omega), ← EReal.coe_sub, ← EReal.coe_sub, sub_self, sub_self]
  split_ifs <;> rfl

/-! ## The first stage -/

theorem first_v15 (c : Dev nD) : (second (first m c) (Proc.devRef .tc main_v16) : FVec Ideal S8x4096 .f32)
    = Cert.AttnRefIdeal.Read.val_main_v7 (F := Ideal) (m ((c.tc : Thread nD τ).loc main_arg0)) (m ((c.tc : Thread nD τ).loc main_arg1)) := by
  simp only [el, second, first, hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  rfl

theorem first_v0 (c : Dev nD) : el (s := S_) (φ := .f32) (first m c (Proc.devRef .tc main_v0)) ix0 = Ideal.sqrt (Ideal.ofBits .f32 0x43000000#32) := by
  simp only [el, first, hostOps0, hostOps0_1, hostOps0_2, List.flatten_cons, List.flatten_nil, List.append_nil, List.cons_append, List.nil_append]
  after_reads_simp
  clean_types
  pointwise

theorem first_v1 (c : Dev nD) : el (s := S_) (φ := .f32) (first m c (Proc.devRef .tc main_v1)) ix0 = Ideal.log (Ideal.ofBits .f32 0x40000000#32) := by
  simp only [el, first, hostOps0, hostOps0_1, hostOps0_2, List.flatten_cons, List.flatten_nil, List.append_nil, List.cons_append, List.nil_append]
  after_reads_simp
  clean_types
  pointwise

theorem first_arg0 (c : Dev nD) : first m c (Proc.devRef .tc main_arg0) = m ((c.tc : Thread nD τ).loc main_arg0) := by
  simp only [el, first, hostOps0, hostOps0_1, hostOps0_2, List.flatten_cons, List.flatten_nil, List.append_nil, List.cons_append, List.nil_append]
  after_reads_simp

theorem first_arg2 (c : Dev nD) : quot (third (second (first m c))) (Proc.devRef .tc main_arg2) = m ((c.tc : Thread nD τ).loc main_arg2) := by
  simp only [quot, third, second, first, hostOps0, hostOps0_1, hostOps0_2, hostOps0_3, hostOps0_4, hostOps0_5, hostOps0_6, hostOps0_7, hostOps0_8, hostOps0_9, hostOps0_10, hostOps0_11, hostOps0_12, hostOps0_13, List.flatten_cons, List.flatten_nil, List.append_nil, List.cons_append, List.nil_append, List.take_succ_cons, List.take_zero, List.drop_succ_cons, List.drop_zero]
  after_reads_simp

theorem first_v8 (c : Dev nD) : V m c main_v8 = first m c (Proc.devRef .tc main_v8) := by
  rw [V_eq]
  simp only [el, fourth, quot, third, second, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, List.take_succ_cons, List.take_zero, List.drop_succ_cons, List.drop_zero]
  after_reads_simp

theorem v8_q (c : Dev nD) (s : Fin 4096) (l : Fin 1024) : el (s := S4096x3072) (φ := .bf16) (first m c (Proc.devRef .tc main_v8)) (ix2 s ⟨l.val, by omega⟩)
    = Ideal.div (el (s := S4096x6152) (φ := .f32) (m ((c.tc : Thread nD τ).loc main_arg0)) (ix2 s ⟨l.val, by omega⟩))
        (Ideal.sqrt (Ideal.ofBits .f32 0x43000000#32) * Ideal.log (Ideal.ofBits .f32 0x40000000#32)) := by
  simp only [el, first, hostOps0, hostOps0_1, hostOps0_2, List.flatten_cons, List.flatten_nil, List.append_nil, List.cons_append, List.nil_append]
  after_reads_simp
  clean_types
  have h := l.isLt
  pointwise
  after_reads_simp
  clean_types
  pointwise

theorem v8_kv (c : Dev nD) (s : Fin 4096) (l : Fin 2048) : el (s := S4096x3072) (φ := .bf16) (first m c (Proc.devRef .tc main_v8)) (ix2 s ⟨1024 + l.val, by omega⟩)
    = el (s := S4096x6152) (φ := .f32) (m ((c.tc : Thread nD τ).loc main_arg0)) (ix2 s ⟨1024 + l.val, by omega⟩) := by
  simp only [el, first, hostOps0, hostOps0_1, hostOps0_2, List.flatten_cons, List.flatten_nil, List.append_nil, List.cons_append, List.nil_append]
  after_reads_simp
  clean_types
  have h := l.isLt
  pointwise
  after_reads_simp
  clean_types
  pointwise

/-! ## The second stage -/

variable (W : Valuation τ sig (Elt Ideal))

theorem second_v47 (h : Fin 8) (s : Fin 4096) (l : Fin 128) {x L : ℝ} (hx : el (s := S8x4096) (φ := .f32) (second W (Proc.devRef .tc main_v16)) (ix2 h s) = x)
    (hL : el (s := S_) (φ := .f32) (W (Proc.devRef .tc main_v1)) ix0 = L) (h0 : -L ≠ 0) :
    el (s := S8x4096x128) (φ := .bf16) (second W (Proc.devRef .tc main_v47)) (ix3 h s l) = (keyLane (x / -L) l : EReal) := by
  revert hx
  simp only [el, second, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  simp only [StableHlo.TRef.toBuf, StableHlo.TRef.ofBuf, cast_eq, id_eq, id]
  clean_types
  pointwise
  intro hx
  simp only [el] at hL
  rw [hx, hL, ← EReal.coe_neg, div_coe h0]
  refine (pieces (x / -L) (n := l.val) (k := 0) (a := 3) (b := 6) l.isLt (by omega) (by omega) (by omega)).trans ?_
  unfold keyLane
  congr 1
  split_ifs <;> first | rfl | omega

theorem second_v67 (h : Fin 8) (s u : Fin 4096) : el (s := S8x4096x4096) (φ := .f32) (second W (Proc.devRef .tc main_v67)) (ix3 h s u)
    = if u.val ≤ s.val then Ideal.div (∑ x : Fin 128, el (s := S4096x6152) (φ := .f32) (W (Proc.devRef .tc main_arg0)) (ix2 s ⟨h.val * 128 + x.val, by omega⟩)
          * el (s := S4096x6152) (φ := .f32) (W (Proc.devRef .tc main_arg0)) (ix2 u ⟨1024 + (h.val * 128 + x.val), by omega⟩)) (el (s := S_) (φ := .f32) (W (Proc.devRef .tc main_v0)) ix0)
        - el (s := S8x4096) (φ := .f32) (second W (Proc.devRef .tc main_v16)) (ix2 h u) else ⊥ := by
  simp only [el, second, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  simp only [StableHlo.TRef.toBuf, StableHlo.TRef.ofBuf, cast_eq, id_eq, id]
  clean_types
  pointwise
  rw [← lit_bot]
  exact pick_le u.isLt s.isLt _ _

theorem second_v53 (h : Fin 8) (s : Fin 4096) (i : Fin 128) : el (s := S4096x8x128) (φ := .f32) (second W (Proc.devRef .tc main_v53)) (ix3 s h i)
    = el (s := S4096x6152) (φ := .f32) (W (Proc.devRef .tc main_arg0)) (ix2 s ⟨2048 + (h.val * 128 + i.val), by omega⟩) := by
  simp only [el, second, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp
  clean_types
  pointwise

theorem second_v1 : second W (Proc.devRef .tc main_v1) = W (Proc.devRef .tc main_v1) := by
  simp only [el, second, hostOps0_3, hostOps0_4, hostOps0_5, hostOps0_6, hostOps0_7, hostOps0_8, hostOps0_9, hostOps0_10, hostOps0_11, hostOps0_12, List.flatten_cons, List.flatten_nil, List.append_nil, List.cons_append, List.nil_append]
  after_reads_simp

theorem second_v47_kept : fourth (quot (third (second W))) (Proc.devRef .tc main_v47) = second W (Proc.devRef .tc main_v47) := by
  simp only [el, fourth, quot, third, second, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, List.flatten_cons, List.flatten_nil, List.append_nil, List.cons_append, List.nil_append, List.take_succ_cons, List.take_zero, List.drop_succ_cons, List.drop_zero]
  after_reads_simp

/-! ## The third stage -/

theorem third_v68 (h : Fin 8) (s : Fin 4096) : el (s := S8x4096) (φ := .f32) (third W (Proc.devRef .tc main_v68)) (ix2 h s)
    = Finset.univ.fold max ⊥ (fun u : Fin 4096 => el (s := S8x4096x4096) (φ := .f32) (W (Proc.devRef .tc main_v67)) (ix3 h s u)) := by
  simp only [el, third, hostOps0_13, List.take_succ_cons, List.take_zero, List.drop_succ_cons, List.drop_zero]
  after_reads_simp
  clean_types
  rw [← lit_bot]
  pointwise

theorem third_v72 (h : Fin 8) (s u : Fin 4096) : el (s := S8x4096x4096) (φ := .f32) (third W (Proc.devRef .tc main_v72)) (ix3 h s u)
    = Ideal.exp (el (s := S8x4096x4096) (φ := .f32) (W (Proc.devRef .tc main_v67)) (ix3 h s u) - el (s := S8x4096) (φ := .f32) (third W (Proc.devRef .tc main_v68)) (ix2 h s)) := by
  simp only [el, third, hostOps0_13, List.take_succ_cons, List.take_zero, List.drop_succ_cons, List.drop_zero]
  after_reads_simp
  generalize (Host.reduce FloatOps.maximumf _ _ _ _ : FVec Ideal S8x4096 .f32) = A
  clean_types
  pointwise

theorem third_v73 (h : Fin 8) (s : Fin 4096) : el (s := S8x4096) (φ := .f32) (third W (Proc.devRef .tc main_v73)) (ix2 h s)
    = ∑ u : Fin 4096, el (s := S8x4096x4096) (φ := .f32) (third W (Proc.devRef .tc main_v72)) (ix3 h s u) := by
  simp only [el, third, hostOps0_13, List.take_succ_cons, List.take_zero, List.drop_succ_cons, List.drop_zero]
  after_reads_simp
  generalize (Host.exp _ : FVec Ideal S8x4096x4096 .f32) = A
  clean_types
  pointwise

theorem quot_v77 (h : Fin 8) (s : Fin 4096) (i : Fin 128) : el (s := S8x4096x128) (φ := .f32) (quot W (Proc.devRef .tc main_v77)) (ix3 h s i)
    = Ideal.div (∑ u : Fin 4096, el (s := S8x4096x4096) (φ := .f32) (W (Proc.devRef .tc main_v72)) (ix3 h s u) * el (s := S4096x8x128) (φ := .f32) (W (Proc.devRef .tc main_v53)) (ix3 u h i))
        (el (s := S8x4096) (φ := .f32) (W (Proc.devRef .tc main_v73)) (ix2 h s)) := by
  simp only [el, quot, hostOps0_13, List.take_succ_cons, List.take_zero, List.drop_succ_cons, List.drop_zero]
  after_reads_simp
  clean_types
  pointwise

theorem quot_v82 (h : Fin 8) (s : Fin 4096) : el (s := S8x4096) (φ := .f32) (quot W (Proc.devRef .tc main_v82)) (ix2 h s)
    = Ideal.div (el (s := S8x4096) (φ := .f32) (W (Proc.devRef .tc main_v68)) (ix2 h s) + Ideal.log (el (s := S8x4096) (φ := .f32) (W (Proc.devRef .tc main_v73)) (ix2 h s)))
        (-el (s := S_) (φ := .f32) (W (Proc.devRef .tc main_v1)) ix0) := by
  simp only [el, quot, hostOps0_13, List.take_succ_cons, List.take_zero, List.drop_succ_cons, List.drop_zero]
  after_reads_simp
  clean_types
  pointwise

theorem third_v53 : third W (Proc.devRef .tc main_v53) = W (Proc.devRef .tc main_v53) := by
  simp only [third, hostOps0_13, List.take_succ_cons, List.take_zero, List.drop_succ_cons, List.drop_zero]
  after_reads_simp

theorem third_v1 : third W (Proc.devRef .tc main_v1) = W (Proc.devRef .tc main_v1) := by
  simp only [third, hostOps0_13, List.take_succ_cons, List.take_zero, List.drop_succ_cons, List.drop_zero]
  after_reads_simp

/-! ## The fourth stage -/

theorem fourth_v110 (h : Fin 8) (s : Fin 4096) (l : Fin 128) {y : ℝ} (hy : el (s := S8x4096) (φ := .f32) (W (Proc.devRef .tc main_v82)) (ix2 h s) = y) :
    el (s := S8x4096x128) (φ := .bf16) (fourth W (Proc.devRef .tc main_v110)) (ix3 h s l) = (rowLane y l : EReal) := by
  simp only [el, fourth, hostOps0_13, hostOps0_14, hostOps0_15, hostOps0_16, hostOps0_17, hostOps0_18, hostOps0_19, hostOps0_20, hostOps0_21, List.take_succ_cons, List.take_zero, List.drop_succ_cons, List.drop_zero, List.flatten_cons, List.flatten_nil, List.append_nil, List.cons_append, List.nil_append]
  after_reads_simp
  simp only [StableHlo.TRef.toBuf, StableHlo.TRef.ofBuf, cast_eq, id_eq, id]
  clean_types
  pointwise
  simp only [el] at hy
  rw [hy]
  refine (pieces y (n := l.val) (k := 3) (a := 0) (b := 3) l.isLt (by omega) (by omega) (by omega)).trans ?_
  unfold rowLane
  congr 1
  split_ifs <;> first | rfl | omega

theorem fourth_v117 (h : Fin 8) (s : Fin 4096) (l : Fin 128) : el (s := S8x4096x128) (φ := .f32) (fourth W (Proc.devRef .tc main_v117)) (ix3 h s l)
    = ∑ i : Fin 128, el (s := S8x4096x128) (φ := .f32) (W (Proc.devRef .tc main_v77)) (ix3 h s i) * el (s := S4096x1024) (φ := .bf16) (W (Proc.devRef .tc main_arg2)) (ix2 s ⟨h.val * 128 + i.val, by omega⟩) := by
  simp only [el, fourth, hostOps0_13, hostOps0_14, hostOps0_15, hostOps0_16, hostOps0_17, hostOps0_18, hostOps0_19, hostOps0_20, hostOps0_21, List.take_succ_cons, List.take_zero, List.drop_succ_cons, List.drop_zero, List.flatten_cons, List.flatten_nil, List.append_nil, List.cons_append, List.nil_append]
  after_reads_simp
  clean_types
  pointwise

end Cert.Proof.Attn

end
-- ==== Proof.Attn.Host.lean ====
/-
  What the attention backward kernel's launch finds, when the arguments are real numbers.
-/
module

public import proofs.«01_k».proof.Proof.Attn.Final
public import proofs.«01_k».proof.Proof.Attn.Stages

@[expose] public section

set_option maxRecDepth 16384

noncomputable section

open Idealize.ShloMosaic Idealize.ShloMosaic.TcCoe Cert.Common
open scoped BigOperators

namespace Cert.Proof.Attn

open Cert.AttnIdeal Cert.AttnIdeal.Gen

/-- One head's numbers, over the arguments' and the running sums. -/
def headAt (z : Fin 4096 → Fin 6152 → ℝ) (d : Fin 4096 → Fin 1024 → ℝ) (cs : Fin 8 → Fin 4096 → ℝ) (h : Fin 8) : HeadOf where
  q t i := z t ⟨h.val * 128 + i.val, by omega⟩
  k t i := z t ⟨1024 + (h.val * 128 + i.val), by omega⟩
  v t i := z t ⟨2048 + (h.val * 128 + i.val), by omega⟩
  d t i := d t ⟨h.val * 128 + i.val, by omega⟩
  c := cs h

variable (m : (ℓ : Loc nD τ sig) → Buf (Elt Ideal) ℓ)

/-- The arguments and the running sums of a device are these real numbers. -/
structure Reals (c : Dev nD) (z : Fin 4096 → Fin 6152 → ℝ) (d : Fin 4096 → Fin 1024 → ℝ) (cs : Fin 8 → Fin 4096 → ℝ) : Prop where
  z : ∀ s n, el (s := S4096x6152) (φ := .f32) (m ((c.tc : Thread nD τ).loc main_arg0)) (ix2 s n) = (z s n : EReal)
  d : ∀ s n, el (s := S4096x1024) (φ := .bf16) (m ((c.tc : Thread nD τ).loc main_arg2)) (ix2 s n) = (d s n : EReal)
  cs : ∀ h s, el (s := S8x4096) (φ := .f32) (Cert.AttnRefIdeal.Read.val_main_v7 (F := Ideal) (m ((c.tc : Thread nD τ).loc main_arg0))
    (m ((c.tc : Thread nD τ).loc main_arg1))) (ix2 h s) = (cs h s : EReal)

theorem lit_128 : Ideal.ofBits .f32 0x43000000#32 = ((128 : ℝ) : EReal) := by
  simp [Ideal.ofBits, Ideal.ieee, -EReal.coe_mul]; norm_num

theorem sqrt_lit : Ideal.sqrt (Ideal.ofBits .f32 0x43000000#32) = (HeadOf.root : EReal) := by
  rw [lit_128, sqrt_coe (by norm_num)]; rfl

theorem log_lit : Ideal.log (Ideal.ofBits .f32 0x40000000#32) = (Real.log 2 : EReal) := by
  rw [lit_2, log_coe (by norm_num)]

theorem neg_log2 : -Real.log 2 ≠ 0 := neg_ne_zero.2 HeadOf.log2_pos.ne'

variable {c : Dev nD} {z : Fin 4096 → Fin 6152 → ℝ} {d : Fin 4096 → Fin 1024 → ℝ} {cs : Fin 8 → Fin 4096 → ℝ} (R : Reals m c z d cs)

include R

theorem sums_real (h : Fin 8) (s : Fin 4096) :
    el (s := S8x4096) (φ := .f32) (second (first m c) (Proc.devRef .tc main_v16)) (ix2 h s) = (cs h s : EReal) := by
  rw [first_v15]
  exact R.cs h s

theorem v1_real : el (s := S_) (φ := .f32) (first m c (Proc.devRef .tc main_v1)) ix0 = (Real.log 2 : EReal) := by
  rw [first_v1, log_lit]

theorem scores_real (h : Fin 8) (s u : Fin 4096) :
    el (s := S8x4096x4096) (φ := .f32) (second (first m c) (Proc.devRef .tc main_v67)) (ix3 h s u)
      = if u ≤ s then ((headAt z d cs h).x s u : EReal) else ⊥ := by
  rw [second_v67, first_v0, sqrt_lit, sums_real m R, first_arg0]
  refine if_congr Iff.rfl ?_ rfl
  simp only [R.z, ← EReal.coe_mul, ← coe_sum]
  rw [div_coe HeadOf.root_pos.ne', ← EReal.coe_sub]
  rfl

theorem max_real (h : Fin 8) (s : Fin 4096) :
    ∃ M : ℝ, el (s := S8x4096) (φ := .f32) (third (second (first m c)) (Proc.devRef .tc main_v68)) (ix2 h s) = (M : EReal) := by
  rw [third_v68]
  refine isReal_max _ (fun u => ?_) (k₀ := s) ?_
  · rw [scores_real m R]
    split_ifs
    · exact Or.inr ⟨_, rfl⟩
    · exact Or.inl rfl
  · rw [scores_real m R, if_pos le_rfl]
    exact ⟨_, rfl⟩

section Row
variable {h : Fin 8} {s : Fin 4096} {M : ℝ}
  (hM : el (s := S8x4096) (φ := .f32) (third (second (first m c)) (Proc.devRef .tc main_v68)) (ix2 h s) = (M : EReal))
include hM

theorem exps_real (u : Fin 4096) :
    el (s := S8x4096x4096) (φ := .f32) (third (second (first m c)) (Proc.devRef .tc main_v72)) (ix3 h s u)
      = ((headAt z d cs h).num (-M) s u : EReal) := by
  rw [third_v72, scores_real m R, hM]
  unfold HeadOf.num
  split_ifs
  · rw [← EReal.coe_sub, exp_coe, sub_eq_add_neg]
  · rw [EReal.bot_sub]; rfl

theorem total_real :
    el (s := S8x4096) (φ := .f32) (third (second (first m c)) (Proc.devRef .tc main_v73)) (ix2 h s)
      = ((∑ u, (headAt z d cs h).num (-M) s u : ℝ) : EReal) := by
  rw [third_v73]
  simp only [exps_real m R hM, ← coe_sum]

theorem output_real (i : Fin 128) :
    el (s := S8x4096x128) (φ := .f32) (quot (third (second (first m c))) (Proc.devRef .tc main_v77)) (ix3 h s i)
      = (((∑ u, (headAt z d cs h).num (-M) s u * (headAt z d cs h).v u i) / ∑ u, (headAt z d cs h).num (-M) s u : ℝ) : EReal) := by
  have hv : ∀ u, el (s := S4096x8x128) (φ := .f32) (second (first m c) (Proc.devRef .tc main_v53)) (ix3 u h i) = ((headAt z d cs h).v u i : EReal) :=
    fun u => by rw [second_v53, first_arg0]; exact R.z _ _
  rw [quot_v77, total_real m R hM, third_v53]
  refine (congrArg₂ Ideal.div (Finset.sum_congr rfl fun u _ => congrArg₂ (· * ·) (exps_real m R hM u) (hv u)) rfl).trans ?_
  simp only [← EReal.coe_mul, ← coe_sum]
  rw [div_coe ((headAt z d cs h).sum_pos (-M) s).ne']

theorem rowBias_real :
    el (s := S8x4096) (φ := .f32) (quot (third (second (first m c))) (Proc.devRef .tc main_v82)) (ix2 h s)
      = (((M + Real.log (∑ u, (headAt z d cs h).num (-M) s u)) / -Real.log 2 : ℝ) : EReal) := by
  rw [quot_v82, total_real m R hM, hM, third_v1, second_v1, v1_real m R, log_coe ((headAt z d cs h).sum_pos (-M) s),
    ← EReal.coe_add, ← EReal.coe_neg, div_coe neg_log2]

theorem ax_real (l : Fin 128) :
    el (s := S8x4096x128) (φ := .bf16) (V m c main_v110) (ix3 h s l)
      = (rowLane ((M + Real.log (∑ u, (headAt z d cs h).num (-M) s u)) / -Real.log 2) l : EReal) := by
  rw [V_eq]
  exact fourth_v110 _ h s l (rowBias_real m R hM)

end Row

theorem kx_real (h : Fin 8) (u : Fin 4096) (l : Fin 128) :
    el (s := S8x4096x128) (φ := .bf16) (V m c main_v47) (ix3 h u l) = (keyLane (cs h u / -Real.log 2) l : EReal) := by
  rw [V_eq, second_v47_kept]
  exact second_v47 _ h u l (sums_real m R h u) (v1_real m R) neg_log2

theorem delta_real (h : Fin 8) (s : Fin 4096) (l : Fin 128) :
    el (s := S8x4096x128) (φ := .f32) (V m c main_v117) (ix3 h s l)
      = ((∑ u, (headAt z d cs h).w s u * (headAt z d cs h).dw s u : ℝ) : EReal) := by
  obtain ⟨M, hM⟩ := max_real m R h s
  rw [V_eq, fourth_v117, first_arg2]
  simp only [output_real m R hM, R.d, ← EReal.coe_mul, ← coe_sum]
  exact congrArg _ ((headAt z d cs h).delta_eq (-M) s)

theorem q_real (h : Fin 8) (s : Fin 4096) (i : Fin 128) (n : ℕ) (hn : n = h.val * 128 + i.val) (hb : n < 3072) :
    el (s := S4096x3072) (φ := .bf16) (V m c main_v8) (ix2 s ⟨n, hb⟩) = ((headAt z d cs h).q s i / (HeadOf.root * Real.log 2) : ℝ) := by
  subst hn
  rw [first_v8]
  refine (v8_q m c s ⟨h.val * 128 + i.val, by omega⟩).trans ?_
  rw [R.z, sqrt_lit, log_lit, ← EReal.coe_mul, div_coe (mul_pos HeadOf.root_pos HeadOf.log2_pos).ne']
  rfl

theorem k_real (h : Fin 8) (s : Fin 4096) (i : Fin 128) (n : ℕ) (hn : n = 1024 + (h.val * 128 + i.val)) (hb : n < 3072) :
    el (s := S4096x3072) (φ := .bf16) (V m c main_v8) (ix2 s ⟨n, hb⟩) = ((headAt z d cs h).k s i : EReal) := by
  subst hn
  rw [first_v8]
  refine (v8_kv m c s ⟨h.val * 128 + i.val, by omega⟩).trans ?_
  rw [R.z]
  rfl

theorem v_real (h : Fin 8) (s : Fin 4096) (i : Fin 128) (n : ℕ) (hn : n = 2048 + (h.val * 128 + i.val)) (hb : n < 3072) :
    el (s := S4096x3072) (φ := .bf16) (V m c main_v8) (ix2 s ⟨n, hb⟩) = ((headAt z d cs h).v s i : EReal) := by
  subst hn
  rw [first_v8]
  have e : (⟨2048 + (h.val * 128 + i.val), hb⟩ : Fin 3072) = ⟨1024 + (1024 + (h.val * 128 + i.val)), by omega⟩ := Fin.ext (by simp only; omega)
  rw [e]
  refine (v8_kv m c s ⟨1024 + (h.val * 128 + i.val), by omega⟩).trans ?_
  rw [R.z]
  refine congrArg (fun k => ((z s k : ℝ) : EReal)) (Fin.ext ?_)
  simp only
  omega

end Cert.Proof.Attn

end
-- ==== Proof.Attn.Weights.lean ====
/-
  What the attention backward kernel writes, when the arguments are real numbers: the derivatives of one head's softmax.
-/
module

public import proofs.«01_k».proof.Proof.Attn.Host

@[expose] public section

set_option maxRecDepth 16384

noncomputable section

open Idealize.ShloMosaic Idealize.ShloMosaic.TcCoe Cert.Common
open scoped BigOperators

namespace Cert.Proof.Attn

open Cert.AttnIdeal Cert.AttnIdeal.Gen

theorem block_lt {a b : ℕ} (j : Fin a) (u : Fin b) : j.val * b + u.val < a * b := by
  have h := Nat.mul_le_mul_right b (Nat.succ_le_of_lt j.isLt)
  have := u.isLt
  rw [Nat.succ_mul] at h
  omega

/-- A sum taken block by block. -/
theorem sum_blocks (a b : ℕ) (f : Fin (a * b) → ℝ) : ∑ j : Fin a, ∑ u : Fin b, f ⟨j.val * b + u.val, block_lt j u⟩ = ∑ v, f v := by
  rw [← (finProdFinEquiv (m := a) (n := b)).sum_comp, Fintype.sum_prod_type]
  refine Finset.sum_congr rfl fun j _ => Finset.sum_congr rfl fun u _ => congrArg f (Fin.ext ?_)
  simp only [finProdFinEquiv_apply_val]
  rw [mul_comm, add_comm]

theorem scl_real : scl = ((HeadOf.root⁻¹ : ℝ) : EReal) :=
  IdealRules.named_const.ideal_named_scalar _ _ _ _ rfl

theorem nat2_real : nat2 = ((Real.log 2 : ℝ) : EReal) :=
  IdealRules.named_const.ideal_named_scalar _ _ _ _ rfl

variable (m : (ℓ : Loc nD τ sig) → Buf (Elt Ideal) ℓ)
variable {c : Dev nD} {z : Fin 4096 → Fin 6152 → ℝ} {d : Fin 4096 → Fin 1024 → ℝ} {cs : Fin 8 → Fin 4096 → ℝ} (R : Reals m c z d cs)

include R

section Point
variable (t : Fin cfg0.N)

theorem in_q (s : Fin 4096) (l : Fin 128) :
    (insAt m c t).q s.val l = (((headAt z d cs (headOf t)).q s l / (HeadOf.root * Real.log 2) : ℝ) : EReal) :=
  (read_q m c t s l).trans (q_real m R (headOf t) s l _ rfl _)

theorem in_k (u : Fin 1024) (l : Fin 128) : (insAt m c t).k u l = ((headAt z d cs (headOf t)).k (colAt t u) l : EReal) :=
  (read_k m c t u l).trans (k_real m R (headOf t) (colAt t u) l _ rfl _)

theorem in_v (u : Fin 1024) (l : Fin 128) : (insAt m c t).v u l = ((headAt z d cs (headOf t)).v (colAt t u) l : EReal) :=
  (read_v m c t u l).trans (v_real m R (headOf t) (colAt t u) l _ rfl _)

theorem in_kx (u : Fin 1024) (l : Fin 128) :
    (insAt m c t).kx u l = (keyLane (cs (headOf t) (colAt t u) / -Real.log 2) l : EReal) :=
  (read_kx m c t u l).trans (kx_real m R (headOf t) (colAt t u) l)

theorem in_o (s : Fin 4096) (l : Fin 128) : (insAt m c t).o s.val l = ((headAt z d cs (headOf t)).d s l : EReal) := by
  refine (read_o m c t s l).trans ?_
  rw [V_main_arg2]
  exact R.d s (widAt t l)

theorem in_dl (s : Fin 4096) (l : Fin 128) : (insAt m c t).dl s.val l
    = ((∑ u, (headAt z d cs (headOf t)).w s u * (headAt z d cs (headOf t)).dw s u : ℝ) : EReal) :=
  (read_dl m c t s l).trans (delta_real m R (headOf t) s l)

theorem weight_real (s : Fin 4096) (u : Fin 1024) : P (insAt m c t) s.val u = ((headAt z d cs (headOf t)).w s (colAt t u) : EReal) := by
  obtain ⟨M, hM⟩ := max_real m R (headOf t) s
  have hax : ∀ l, (insAt m c t).ax s.val l = (rowLane ((M + Real.log (∑ u, (headAt z d cs (headOf t)).num (-M) s u)) / -Real.log 2) l : EReal) :=
    fun l => (read_ax m c t s l).trans (ax_real m R hM l)
  have hc : 1024 * (insAt m c t).j + u.val ≤ s.val ↔ colAt t u ≤ s := by
    rw [insAt_j, Fin.le_def]
    show _ ↔ t.val % 4 * 1024 + u.val ≤ s.val
    omega
  unfold P
  by_cases h : colAt t u ≤ s
  · rw [if_pos (hc.2 h)]
    unfold U
    simp only [in_q m R t, in_k m R t, in_kx m R t, hax, ← EReal.coe_mul, ← coe_sum, ← EReal.coe_add]
    rw [lane_sum]
    exact congrArg Real.toEReal ((headAt z d cs (headOf t)).w_power M h)
  · rw [if_neg (fun k => h (hc.1 k)), (headAt z d cs (headOf t)).w_above h]
    rfl

theorem grad_real (s : Fin 4096) (u : Fin 1024) : G (insAt m c t) s.val u = ((headAt z d cs (headOf t)).g s (colAt t u) : EReal) := by
  unfold G
  rw [weight_real m R t s u, in_dl m R t]
  simp only [in_o m R t, in_v m R t, ← EReal.coe_mul, ← coe_sum, ← EReal.coe_sub]
  rfl

end Point

theorem keys_real (s : Fin 4096) (n : Fin 1024) :
    keysV m c s n = ((headAt z d cs ⟨n.val / 128, by omega⟩).dk s (inD n) : EReal) := by
  have hh : headOf (ptAt s n) = ⟨n.val / 128, by omega⟩ := Fin.ext (by simp only [headOf, ptAt, ptOf]; omega)
  have hc : colAt (ptAt s n) (inU s) = s := Fin.ext (by simp only [colAt, ptAt, ptOf, inU]; omega)
  unfold keysV outKeys
  rw [Finset.sum_range, nat2_real]
  show (∑ i : Fin 4096, G (insAt m c (ptAt s n)) i.val (inU s) * (insAt m c (ptAt s n)).q i.val (inD n)) * _ = _
  simp only [grad_real m R, in_q m R, ← EReal.coe_mul, ← coe_sum, hh, hc]
  refine congrArg _ ?_
  have hl := HeadOf.log2_pos.ne'
  have hr := HeadOf.root_pos.ne'
  unfold HeadOf.dk
  rw [Finset.sum_mul]
  refine Finset.sum_congr rfl fun i _ => ?_
  field_simp

theorem values_real (s : Fin 4096) (n : Fin 1024) :
    valuesV m c s n = ((headAt z d cs ⟨n.val / 128, by omega⟩).dv s (inD n) : EReal) := by
  have hh : headOf (ptAt s n) = ⟨n.val / 128, by omega⟩ := Fin.ext (by simp only [headOf, ptAt, ptOf]; omega)
  have hc : colAt (ptAt s n) (inU s) = s := Fin.ext (by simp only [colAt, ptAt, ptOf, inU]; omega)
  unfold valuesV outValues
  rw [Finset.sum_range]
  show (∑ i : Fin 4096, P (insAt m c (ptAt s n)) i.val (inU s) * (insAt m c (ptAt s n)).o i.val (inD n)) = _
  simp only [weight_real m R, in_o m R, ← EReal.coe_mul, ← coe_sum, hh, hc]
  refine congrArg _ ?_
  unfold HeadOf.dv
  exact Finset.sum_congr rfl fun i _ => mul_comm _ _

theorem cols_real (a : Fin 4) (b : Fin 64) (u : Fin 1024) :
    colsV m c a b u = ((headAt z d cs ⟨b.val / 8, by omega⟩).dc ⟨a.val * 1024 + u.val, by omega⟩ : EReal) := by
  have hh : headOf (ptOf (b.val / 8) a.val (by omega) a.isLt) = ⟨b.val / 8, by omega⟩ := Fin.ext (by simp only [headOf, ptOf]; omega)
  have hc : colAt (ptOf (b.val / 8) a.val (by omega) a.isLt) u = ⟨a.val * 1024 + u.val, by omega⟩ :=
    Fin.ext (by simp only [colAt, ptOf]; omega)
  unfold colsV
  rw [Finset.sum_range]
  simp only [grad_real m R, ← coe_sum, hh, hc]
  rfl

theorem queries_real (s : Fin 4096) (n : Fin 1024) :
    queriesV m c s n = ((headAt z d cs ⟨n.val / 128, by omega⟩).dq s (inD n) : EReal) := by
  have e : ∀ j (hj : j < 4), queryAdd m c s.val (inD n) ((4 * (n.val / 128) + 3) / 4 * 4 + j)
      = (((∑ u : Fin 1024, (headAt z d cs ⟨n.val / 128, by omega⟩).g s ⟨j * 1024 + u.val, by omega⟩
          * (headAt z d cs ⟨n.val / 128, by omega⟩).k ⟨j * 1024 + u.val, by omega⟩ (inD n)) * HeadOf.root⁻¹ : ℝ) : EReal) := fun j hj => by
    have ht : (4 * (n.val / 128) + 3) / 4 * 4 + j < 32 := by omega
    have hh : headOf ⟨(4 * (n.val / 128) + 3) / 4 * 4 + j, ht⟩ = ⟨n.val / 128, by omega⟩ := Fin.ext (by simp only [headOf]; omega)
    have hc : ∀ u, colAt ⟨(4 * (n.val / 128) + 3) / 4 * 4 + j, ht⟩ u = ⟨j * 1024 + u.val, by omega⟩ := fun u =>
      Fin.ext (by simp only [colAt]; omega)
    unfold queryAdd
    rw [dif_pos ht, scl_real]
    simp only [grad_real m R, in_k m R, ← EReal.coe_mul, ← coe_sum, hh, hc]
  unfold queriesV total
  rw [show (4 * (n.val / 128) + 3) % 4 + 1 = 4 by omega]
  rw [Finset.sum_range]
  refine (Finset.sum_congr rfl fun j _ => e j.val j.isLt).trans ?_
  rw [← coe_sum, ← Finset.sum_mul]
  refine congrArg Real.toEReal ?_
  refine (congrArg (· * HeadOf.root⁻¹) (sum_blocks 4 1024
    fun u : Fin 4096 => (headAt z d cs ⟨n.val / 128, by omega⟩).g s u * (headAt z d cs ⟨n.val / 128, by omega⟩).k u (inD n))).trans ?_
  unfold HeadOf.dq
  rw [Finset.sum_mul]
  refine Finset.sum_congr rfl fun u _ => ?_
  ring

theorem lanes_real (h : Fin 8) (s : Fin 4096) (l : Fin 128) : lanesV m c h s l = ((headAt z d cs h).dr s l : EReal) := by
  have e : ∀ j (hj : j < 4), laneAdd m c s.val l ((4 * h.val + 3) / 4 * 4 + j)
      = ((∑ b : Fin 8, (headAt z d cs h).g s ⟨128 * (j * 8 + b.val) + l.val, by omega⟩ : ℝ) : EReal) := fun j hj => by
    have ht : (4 * h.val + 3) / 4 * 4 + j < 32 := by omega
    have hh : headOf ⟨(4 * h.val + 3) / 4 * 4 + j, ht⟩ = h := Fin.ext (by simp only [headOf]; omega)
    have hc : ∀ b : Fin 8, colAt ⟨(4 * h.val + 3) / 4 * 4 + j, ht⟩ ⟨128 * b.val + l.val, by omega⟩ = ⟨128 * (j * 8 + b.val) + l.val, by omega⟩ := fun b =>
      Fin.ext (by simp only [colAt]; omega)
    unfold laneAdd
    rw [dif_pos ht]
    simp only [grad_real m R, ← coe_sum, hh, hc]
  unfold lanesV total
  rw [show (4 * h.val + 3) % 4 + 1 = 4 by omega]
  rw [Finset.sum_range]
  refine (Finset.sum_congr rfl fun j _ => e j.val j.isLt).trans ?_
  rw [← coe_sum]
  refine congrArg Real.toEReal ?_
  exact sum_blocks 4 8 fun b : Fin 32 => (headAt z d cs h).g s ⟨128 * b.val + l.val, by omega⟩

end Cert.Proof.Attn

end
-- ==== Proof.Attn.Reference.lean ====
/-
  The attention reference's values, step by step, over its arguments.
-/
module

public import proofs.«01_k».proof.Proof.Gen.AttnRefIdeal
public import proofs.«01_k».proof.Proof.Gen.AttnRefIdeal.Run
public import proofs.«01_k».proof.Proof.Gen.AttnRefIdeal.Read
public import proofs.«01_k».proof.Proof.Attn.Stages

@[expose] public section

set_option maxRecDepth 16384

noncomputable section

open Idealize.ShloMosaic Idealize.ShloMosaic.TcCoe Cert.Common
open scoped BigOperators

namespace Cert.Proof.Attn.Ref

open Cert.AttnRefIdeal Cert.AttnRefIdeal.Read

variable (x0 : FVec Ideal S4096x6152 .f32) (x1 : FVec Ideal S1x8 .f32) (x2 : FVec Ideal S4096x1024 .bf16)

theorem v9_at (s : Fin 4096) (h : Fin 8) (i : Fin 128) : el (s := S4096x8x128) (φ := .f32) (val_main_v9 (F := Ideal) x0) (ix3 s h i)
    = el (s := S4096x6152) (φ := .f32) x0 (ix2 s ⟨h.val * 128 + i.val, by omega⟩) := by
  simp only [el]
  unfold val_main_v9 val_main_v8
  pointwise

theorem v11_at (s : Fin 4096) (h : Fin 8) (i : Fin 128) : el (s := S4096x8x128) (φ := .f32) (val_main_v11 (F := Ideal) x0) (ix3 s h i)
    = el (s := S4096x6152) (φ := .f32) x0 (ix2 s ⟨1024 + (h.val * 128 + i.val), by omega⟩) := by
  simp only [el]
  unfold val_main_v11 val_main_v10
  pointwise

theorem v13_at (s : Fin 4096) (h : Fin 8) (i : Fin 128) : el (s := S4096x8x128) (φ := .f32) (val_main_v13 (F := Ideal) x0) (ix3 s h i)
    = el (s := S4096x6152) (φ := .f32) x0 (ix2 s ⟨2048 + (h.val * 128 + i.val), by omega⟩) := by
  simp only [el]
  unfold val_main_v13 val_main_v12
  pointwise

theorem v4_at (s : Fin 4096) (h : Fin 8) : el (s := S4096x8) (φ := .f32) (val_main_v4 (F := Ideal) x0 x1) (ix2 s h)
    = el (s := S4096x6152) (φ := .f32) x0 (ix2 s ⟨3072 + h.val, by omega⟩) + el (s := S1x8) (φ := .f32) x1 (ix2 0 h) := by
  simp only [el]
  unfold val_main_v4 val_main_v3 val_main_v2 val_main_v1 val_main_v0
  pointwise

theorem v7_at (h : Fin 8) (s : Fin 4096) : el (s := S8x4096) (φ := .f32) (val_main_v7 (F := Ideal) x0 x1) (ix2 h s)
    = el (s := S4096x8) (φ := .f32) (val_main_v6 (F := Ideal) x0 x1) (ix2 s h) := by
  simp only [el]
  unfold val_main_v7
  generalize val_main_v6 (F := Ideal) x0 x1 = X
  pointwise

theorem soft_at (s : Fin 4096) (h : Fin 8) : el (s := S4096x8) (φ := .f32) (val_main_call0_call0_v11 (F := Ideal) x0 x1) (ix2 s h)
    = max (-el (s := S4096x8) (φ := .f32) (val_main_v4 (F := Ideal) x0 x1) (ix2 s h)) 0 + Ideal.log1p (Ideal.exp (-(FloatOps.absf (F := Ideal) (φ := .f32) (-el (s := S4096x8) (φ := .f32) (val_main_v4 (F := Ideal) x0 x1) (ix2 s h))))) := by
  simp only [el]
  unfold val_main_call0_call0_v11 val_main_call0_call0_v10 val_main_call0_call0_v9 val_main_call0_call0_v8 val_main_call0_call0_v7 val_main_call0_call0_v3 val_main_call0_call0_v2 val_main_call0_call0_v1 val_main_call0_call0_v0 val_main_call0_call0_cst val_main_call0_v0
  generalize val_main_v4 (F := Ideal) x0 x1 = X
  pointwise

theorem v34_at (h : Fin 8) (t u : Fin 4096) : el (s := S8x4096x4096) (φ := .f32) (val_main_v34_0 (F := Ideal) x0 x1) (ix3 h t u)
    = if u.val ≤ t.val then Ideal.div (∑ i : Fin 128, el (s := S4096x8x128) (φ := .f32) (val_main_v9 (F := Ideal) x0) (ix3 t h i) * el (s := S4096x8x128) (φ := .f32) (val_main_v11 (F := Ideal) x0) (ix3 u h i)) (Ideal.sqrt (Ideal.ofBits .f32 0x43000000#32))
        + (el (s := S8x4096) (φ := .f32) (val_main_v7 (F := Ideal) x0 x1) (ix2 h t) - el (s := S8x4096) (φ := .f32) (val_main_v7 (F := Ideal) x0 x1) (ix2 h u)) else ⊥ := by
  simp only [el]
  unfold val_main_v34_0 val_main_v34_1 val_main_v33 val_main_v32 val_main_v31 val_main_v30 val_main_v29 val_main_v28 val_main_v27 val_main_call2_v2 val_main_call2_v0 val_main_cst_0 val_main_v26 val_main_v25 val_main_v24 val_main_v23 val_main_v22 val_main_v21 val_main_v20 val_main_v19 val_main_v18 val_main_v17 val_main_cst val_main_v16 val_main_v15 val_main_v14
  generalize val_main_v9 (F := Ideal) x0 = Q
  generalize val_main_v11 (F := Ideal) x0 = K
  generalize val_main_v7 (F := Ideal) x0 x1 = C
  simp only [id]
  pointwise
  rw [← lit_bot]
  exact pick_le u.isLt t.isLt _ _

theorem v35_at (h : Fin 8) (t : Fin 4096) : el (s := S8x4096) (φ := .f32) (val_main_v35 (F := Ideal) x0 x1) (ix2 h t)
    = Finset.univ.fold max ⊥ (fun u : Fin 4096 => el (s := S8x4096x4096) (φ := .f32) (val_main_v34_0 (F := Ideal) x0 x1) (ix3 h t u)) := by
  simp only [el]
  unfold val_main_v35 val_main_cst_1
  generalize val_main_v34_0 (F := Ideal) x0 x1 = X
  rw [← lit_bot]
  pointwise

theorem v42_at (h : Fin 8) (t : Fin 4096) : el (s := S8x4096) (φ := .f32) (val_main_v42 (F := Ideal) x0 x1) (ix2 h t) = max ⊥ (el (s := S8x4096) (φ := .f32) (val_main_v35 (F := Ideal) x0 x1) (ix2 h t)) := by
  simp only [el]
  rw [val_main_v42_apply, val_main_v41_apply, val_main_cst_3_apply, ← lit_bot]
  rfl

theorem v55_at (h : Fin 8) (t u : Fin 4096) : el (s := S8x4096x4096) (φ := .f32) (val_main_v55 (F := Ideal) x0 x1) (ix3 h t u)
    = Ideal.exp (el (s := S8x4096x4096) (φ := .f32) (val_main_v34_0 (F := Ideal) x0 x1) (ix3 h t u) - el (s := S8x4096) (φ := .f32) (val_main_v42 (F := Ideal) x0 x1) (ix2 h t)) := by
  simp only [el]
  unfold val_main_v55 val_main_v54 val_main_v53 val_main_v52
  generalize val_main_v42 (F := Ideal) x0 x1 = M
  generalize val_main_v34_0 (F := Ideal) x0 x1 = X
  pointwise

theorem v56_at (h : Fin 8) (t : Fin 4096) : el (s := S8x4096) (φ := .f32) (val_main_v56 (F := Ideal) x0 x1) (ix2 h t)
    = ∑ u : Fin 4096, el (s := S8x4096x4096) (φ := .f32) (val_main_v55 (F := Ideal) x0 x1) (ix3 h t u) := by
  simp only [el]
  unfold val_main_v56 val_main_cst_9
  generalize val_main_v55 (F := Ideal) x0 x1 = X
  pointwise

theorem v59_at (h : Fin 8) (t u : Fin 4096) : el (s := S8x4096x4096) (φ := .f32) (val_main_v59 (F := Ideal) x0 x1) (ix3 h t u)
    = Ideal.div (el (s := S8x4096x4096) (φ := .f32) (val_main_v55 (F := Ideal) x0 x1) (ix3 h t u)) (el (s := S8x4096) (φ := .f32) (val_main_v56 (F := Ideal) x0 x1) (ix2 h t)) := by
  simp only [el]
  unfold val_main_v59 val_main_v58 val_main_v57
  generalize val_main_v56 (F := Ideal) x0 x1 = L
  generalize val_main_v55 (F := Ideal) x0 x1 = X
  pointwise

theorem v68_at (h : Fin 8) (t u : Fin 4096) : el (s := S8x4096x4096) (φ := .f32) (val_main_v68 (F := Ideal) x0 x2) (ix3 h t u)
    = ∑ i : Fin 128, el (s := S4096x1024) (φ := .bf16) x2 (ix2 t ⟨h.val * 128 + i.val, by omega⟩) * el (s := S4096x8x128) (φ := .f32) (val_main_v13 (F := Ideal) x0) (ix3 u h i) := by
  simp only [el]
  unfold val_main_v68 val_main_v67 val_main_v66 val_main_v65
  generalize val_main_v13 (F := Ideal) x0 = W
  pointwise

theorem v69_at (h : Fin 8) (i : Fin 128) (u : Fin 4096) : el (s := S8x128x4096) (φ := .f32) (val_main_v69 (F := Ideal) x0 x1 x2) (ix3 h i u)
    = ∑ t : Fin 4096, el (s := S4096x1024) (φ := .bf16) x2 (ix2 t ⟨h.val * 128 + i.val, by omega⟩) * el (s := S8x4096x4096) (φ := .f32) (val_main_v59 (F := Ideal) x0 x1) (ix3 h t u) := by
  simp only [el]
  unfold val_main_v69 val_main_v67 val_main_v66 val_main_v65
  generalize val_main_v59 (F := Ideal) x0 x1 = W
  pointwise

theorem v74_at (h : Fin 8) (t : Fin 4096) : el (s := S8x4096) (φ := .f32) (val_main_v74 (F := Ideal) x0 x1 x2) (ix2 h t)
    = ∑ u : Fin 4096, el (s := S8x4096x4096) (φ := .f32) (val_main_v68 (F := Ideal) x0 x2) (ix3 h t u) * Ideal.div 1 (el (s := S8x4096) (φ := .f32) (val_main_v56 (F := Ideal) x0 x1) (ix2 h t) * el (s := S8x4096) (φ := .f32) (val_main_v56 (F := Ideal) x0 x1) (ix2 h t)) * el (s := S8x4096x4096) (φ := .f32) (val_main_v55 (F := Ideal) x0 x1) (ix3 h t u) := by
  simp only [el]
  unfold val_main_v74 val_main_cst_11 val_main_v73 val_main_v72 val_main_v71 val_main_v62 val_main_v61 val_main_cst_10 val_main_v60 val_main_v57
  generalize val_main_v68 (F := Ideal) x0 x2 = D
  generalize val_main_v56 (F := Ideal) x0 x1 = L
  generalize val_main_v55 (F := Ideal) x0 x1 = X
  pointwise

theorem v83_at (h : Fin 8) (t u : Fin 4096) : el (s := S8x4096x4096) (φ := .f32) (val_main_v83 (F := Ideal) x0 x1 x2) (ix3 h t u)
    = if u.val ≤ t.val then (Ideal.div (el (s := S8x4096x4096) (φ := .f32) (val_main_v68 (F := Ideal) x0 x2) (ix3 h t u)) (el (s := S8x4096) (φ := .f32) (val_main_v56 (F := Ideal) x0 x1) (ix2 h t)) + -el (s := S8x4096) (φ := .f32) (val_main_v74 (F := Ideal) x0 x1 x2) (ix2 h t)) * el (s := S8x4096x4096) (φ := .f32) (val_main_v55 (F := Ideal) x0 x1) (ix3 h t u) else 0 := by
  simp only [el]
  unfold val_main_v83 val_main_v82 val_main_v81 val_main_v80 val_main_v79 val_main_cst_12 val_main_v78 val_main_v77 val_main_v76 val_main_v75 val_main_v57 val_main_v34_1 val_main_v33 val_main_v32 val_main_v31 val_main_v30 val_main_v29 val_main_v28 val_main_v27 val_main_call3_v0 val_main_call3_cst
  generalize val_main_v74 (F := Ideal) x0 x1 x2 = T
  generalize val_main_v68 (F := Ideal) x0 x2 = D
  generalize val_main_v56 (F := Ideal) x0 x1 = L
  generalize val_main_v55 (F := Ideal) x0 x1 = X
  pointwise
  simp only [Finset.univ_unique, Finset.sum_singleton]
  exact pick_le u.isLt t.isLt _ _

theorem v91_at (h : Fin 8) (t : Fin 4096) (l : Fin 128) : el (s := S8x4096x128) (φ := .f32) (val_main_v91 (F := Ideal) x0 x1 x2) (ix3 h t l)
    = ∑ b : Fin 32, el (s := S8x4096x4096) (φ := .f32) (val_main_v83 (F := Ideal) x0 x1 x2) (ix3 h t ⟨b.val * 128 + l.val, by omega⟩) := by
  simp only [el]
  unfold val_main_v91 val_main_cst_15 val_main_v86 val_main_v85 val_main_cst_13 val_main_v84
  generalize val_main_v83 (F := Ideal) x0 x1 x2 = X
  pointwise
  simp only [Finset.univ_unique, Finset.sum_singleton]

theorem v84_at (h : Fin 8) (t : Fin 4096) (b : Fin 32) (l : Fin 128) : el (s := S8x4096x32x128) (φ := .f32) (val_main_v84 (F := Ideal) x0 x1 x2) (ix4 h t b l)
    = el (s := S8x4096x4096) (φ := .f32) (val_main_v83 (F := Ideal) x0 x1 x2) (ix3 h t ⟨b.val * 128 + l.val, by omega⟩) := by
  simp only [el]
  unfold val_main_v84
  generalize val_main_v83 (F := Ideal) x0 x1 x2 = X
  pointwise

theorem v88_at (h : Fin 8) (b : Fin 32) (l : Fin 128) : el (s := S8x32x128) (φ := .f32) (val_main_v88 (F := Ideal) x0 x1 x2) (ix3 h b l)
    = ∑ t : Fin 4096, -el (s := S8x4096x4096) (φ := .f32) (val_main_v83 (F := Ideal) x0 x1 x2) (ix3 h t ⟨b.val * 128 + l.val, by omega⟩) := by
  simp only [← v84_at]
  simp only [el]
  rw [val_main_v88_apply, val_main_cst_14_apply]
  refine (congrArg (· + _) (lit_zero.trans EReal.coe_zero)).trans ((zero_add _).trans (Finset.sum_congr rfl fun t _ => ?_))
  rw [val_main_v87_apply, show idx_main_v88 (ix3 h b l) t = ix4 h t b l from funext fun a => by fin_cases a <;> rfl]
  rfl

theorem v90_at (h : Fin 8) (u : Fin 4096) : el (s := S8x4096) (φ := .f32) (val_main_v90 (F := Ideal) x0 x1 x2) (ix2 h u)
    = el (s := S8x32x128) (φ := .f32) (val_main_v88 (F := Ideal) x0 x1 x2) (ix3 h ⟨u.val / 128, by omega⟩ ⟨u.val % 128, by omega⟩) := by
  simp only [el]
  unfold val_main_v90 val_main_v89
  generalize val_main_v88 (F := Ideal) x0 x1 x2 = X
  pointwise

theorem v104_at (s : Fin 4096) (n : Fin 1024) : el (s := S4096x1024) (φ := .bf16) (val_main_v104 (F := Ideal) x0 x1 x2) (ix2 s n)
    = ∑ u : Fin 4096, Ideal.div (el (s := S8x4096x4096) (φ := .f32) (val_main_v83 (F := Ideal) x0 x1 x2) (ix3 ⟨n.val / 128, by omega⟩ s u)) (Ideal.sqrt (Ideal.ofBits .f32 0x43000000#32)) * el (s := S4096x8x128) (φ := .f32) (val_main_v11 (F := Ideal) x0) (ix3 u ⟨n.val / 128, by omega⟩ ⟨n.val % 128, by omega⟩) := by
  simp only [el]
  unfold val_main_v104 val_main_v103 val_main_v97 val_main_v96 val_main_v93 val_main_v92 val_main_v17 val_main_cst
  generalize val_main_v83 (F := Ideal) x0 x1 x2 = X
  generalize val_main_v11 (F := Ideal) x0 = K
  pointwise

theorem v106_at (s : Fin 4096) (n : Fin 1024) : el (s := S4096x1024) (φ := .bf16) (val_main_v106 (F := Ideal) x0 x1 x2) (ix2 s n)
    = ∑ t : Fin 4096, Ideal.div (el (s := S8x4096x4096) (φ := .f32) (val_main_v83 (F := Ideal) x0 x1 x2) (ix3 ⟨n.val / 128, by omega⟩ t s)) (Ideal.sqrt (Ideal.ofBits .f32 0x43000000#32)) * el (s := S4096x8x128) (φ := .f32) (val_main_v9 (F := Ideal) x0) (ix3 t ⟨n.val / 128, by omega⟩ ⟨n.val % 128, by omega⟩) := by
  simp only [el]
  unfold val_main_v106 val_main_v105 val_main_v95 val_main_v94 val_main_v93 val_main_v92 val_main_v17 val_main_cst
  generalize val_main_v83 (F := Ideal) x0 x1 x2 = X
  generalize val_main_v9 (F := Ideal) x0 = Q
  pointwise

theorem v108_at (s : Fin 4096) (n : Fin 1024) : el (s := S4096x1024) (φ := .bf16) (val_main_v108 (F := Ideal) x0 x1 x2) (ix2 s n)
    = el (s := S8x128x4096) (φ := .f32) (val_main_v69 (F := Ideal) x0 x1 x2) (ix3 ⟨n.val / 128, by omega⟩ ⟨n.val % 128, by omega⟩ s) := by
  simp only [el]
  unfold val_main_v108 val_main_v107 val_main_v70
  generalize val_main_v69 (F := Ideal) x0 x1 x2 = X
  pointwise

theorem v109_at (a : Fin 4) (b : Fin 64) (u : Fin 1024) : el (s := S4x64x1024) (φ := .f32) (val_main_v109 (F := Ideal) x0 x1 x2) (ix3 a b u)
    = -el (s := S8x4096) (φ := .f32) (val_main_v90 (F := Ideal) x0 x1 x2) (ix2 ⟨b.val / 8, by omega⟩ ⟨a.val * 1024 + u.val, by omega⟩) := by
  simp only [el]
  unfold val_main_v109 val_main_v102 val_main_v101 val_main_v100 val_main_v99 val_main_v98
  generalize val_main_v90 (F := Ideal) x0 x1 x2 = X
  pointwise

end Cert.Proof.Attn.Ref

end
-- ==== Proof.Attn.RefReal.lean ====
/-
  The attention reference's results at real arguments, head by head.
-/
module

public import proofs.«01_k».proof.Proof.Attn.Host
public import proofs.«01_k».proof.Proof.Attn.Reference

@[expose] public section

set_option maxRecDepth 16384

noncomputable section

open Idealize.ShloMosaic Idealize.ShloMosaic.TcCoe Cert.Common
open scoped BigOperators

namespace Cert.Proof.Attn.Ref

open Cert.AttnRefIdeal Cert.AttnRefIdeal.Read

variable (x0 : FVec Ideal S4096x6152 .f32) (x1 : FVec Ideal S1x8 .f32) (x2 : FVec Ideal S4096x1024 .bf16)

/-! ## The running sums of the gates' logarithms -/

theorem IsReal.neg {x : EReal} (h : IsReal x) : IsReal (-x) := by
  obtain ⟨r, rfl⟩ := h; exact ⟨-r, rfl⟩

theorem IsReal.max {x y : EReal} (hx : IsReal x) (hy : IsReal y) : IsReal (max x y) := by
  rcases max_choice x y with e | e <;> rw [e] <;> assumption

/-- The softplus of a real number is real. -/
theorem soft_real {x : EReal} (hx : IsReal x) :
    IsReal (max (-x) 0 + Ideal.log1p (Ideal.exp (-(FloatOps.absf (F := Ideal) (φ := .f32) (-x))))) := by
  refine IsReal.add (IsReal.max (IsReal.neg hx) isReal_zero) ?_
  have ha : IsReal (FloatOps.absf (F := Ideal) (φ := .f32) (-x)) := IsReal.max (IsReal.neg hx) (IsReal.neg (IsReal.neg hx))
  obtain ⟨r, hr⟩ := IsReal.neg ha
  rw [hr, exp_coe]
  have hp : 0 < 1 + Real.exp r := by positivity
  refine ⟨Real.log (1 + Real.exp r), ?_⟩
  show Ideal.log (1 + (Real.exp r : EReal)) = _
  rw [← EReal.coe_one, ← EReal.coe_add]
  exact log_coe hp

/-- A sum taken from the left of real numbers is real. -/
theorem foldl_real {ι : Type} (l : List ι) (f : ι → EReal) (h : ∀ k, IsReal (f k)) {b : EReal} (hb : IsReal b) :
    IsReal (l.foldl (fun a k => a + f k) b) := by
  induction l generalizing b with
  | nil => exact hb
  | cons k l ih => exact ih (IsReal.add hb (h k))

section Gates
variable (h0 : ∀ s n, IsReal (el (s := S4096x6152) (φ := .f32) x0 (ix2 s n))) (h1 : ∀ n, IsReal (el (s := S1x8) (φ := .f32) x1 (ix2 0 n)))
include h0 h1

theorem v5_real (s : Fin 4096) (h : Fin 8) : IsReal (el (s := S4096x8) (φ := .f32) (val_main_v5 (F := Ideal) x0 x1) (ix2 s h)) := by
  have hv : IsReal (el (s := S4096x8) (φ := .f32) (val_main_v4 (F := Ideal) x0 x1) (ix2 s h)) := by
    rw [v4_at]; exact IsReal.add (h0 _ _) (h1 _)
  have hs := soft_at x0 x1 s h
  simp only [el] at hs ⊢
  rw [val_main_v5_apply, val_main_call0_v1_apply, val_main_call0_call0_v4_apply]
  generalize val_main_call0_call0_v3 (F := Ideal) x0 x1 (ix2 s h) = y
  have hc : FloatOps.cmpf (F := Ideal) (φ := .f32) .une y y = 0#1 := by
    show Ideal.cmp .une y y = 0#1
    simp [Ideal.cmp]
  rw [hc]
  exact IsReal.neg (by show IsReal (val_main_call0_call0_v11 (F := Ideal) x0 x1 (ix2 s h)); rw [hs]; exact soft_real hv)

theorem v7_real (h : Fin 8) (s : Fin 4096) : IsReal (el (s := S8x4096) (φ := .f32) (val_main_v7 (F := Ideal) x0 x1) (ix2 h s)) := by
  rw [v7_at]
  have hv : ∀ i, IsReal (el (s := S4096x8) (φ := .f32) (val_main_v5 (F := Ideal) x0 x1) i) := fun i => by
    idx_vars i
    exact v5_real x0 x1 h0 h1 _ _
  simp only [el] at hv ⊢
  unfold val_main_v6
  generalize val_main_v5 (F := Ideal) x0 x1 = A at hv
  have hb : IsReal (val_main_call1_call0_v0 (F := Ideal) (Shape.Idx.first Gen.h_S_)) := by
    rw [val_main_call1_call0_v0_apply, val_main_call1_call0_cst_apply]
    exact ⟨0, lit_zero⟩
  generalize val_main_call1_call0_v0 (F := Ideal) = B at hb
  unfold Host.reduceWindowAdd
  rw [Ideal.hostReduceWindowAdd_def]
  unfold Ideal.hostReduceWindowAdd Host.reduceWindow
  refine foldl_real _ _ (fun n => ?_) hb
  split_ifs
  · exact hv _
  · exact hb

end Gates

/-! ## One head -/

section Head
variable {z : Fin 4096 → Fin 6152 → ℝ} {d : Fin 4096 → Fin 1024 → ℝ} {cs : Fin 8 → Fin 4096 → ℝ}
  (hz : ∀ s n, el (s := S4096x6152) (φ := .f32) x0 (ix2 s n) = (z s n : EReal))
  (hd : ∀ s n, el (s := S4096x1024) (φ := .bf16) x2 (ix2 s n) = (d s n : EReal))
  (hc : ∀ h s, el (s := S8x4096) (φ := .f32) (val_main_v7 (F := Ideal) x0 x1) (ix2 h s) = (cs h s : EReal))

include hz in
theorem q_at (s : Fin 4096) (h : Fin 8) (i : Fin 128) :
    el (s := S4096x8x128) (φ := .f32) (val_main_v9 (F := Ideal) x0) (ix3 s h i) = ((headAt z d cs h).q s i : EReal) := by
  rw [v9_at, hz]; rfl

include hz in
theorem k_at (s : Fin 4096) (h : Fin 8) (i : Fin 128) :
    el (s := S4096x8x128) (φ := .f32) (val_main_v11 (F := Ideal) x0) (ix3 s h i) = ((headAt z d cs h).k s i : EReal) := by
  rw [v11_at, hz]; rfl

include hz in
theorem v_at (s : Fin 4096) (h : Fin 8) (i : Fin 128) :
    el (s := S4096x8x128) (φ := .f32) (val_main_v13 (F := Ideal) x0) (ix3 s h i) = ((headAt z d cs h).v s i : EReal) := by
  rw [v13_at, hz]; rfl

include hz hd in
theorem dw_at (h : Fin 8) (t u : Fin 4096) :
    el (s := S8x4096x4096) (φ := .f32) (val_main_v68 (F := Ideal) x0 x2) (ix3 h t u) = ((headAt z d cs h).dw t u : EReal) := by
  rw [v68_at]
  simp only [hd, v_at x0 (d := d) (cs := cs) hz, ← EReal.coe_mul, ← coe_sum]
  rfl

include hz hc

theorem score_at (h : Fin 8) (t u : Fin 4096) :
    el (s := S8x4096x4096) (φ := .f32) (val_main_v34_0 (F := Ideal) x0 x1) (ix3 h t u)
      = if u.val ≤ t.val then (((headAt z d cs h).x t u + cs h t : ℝ) : EReal) else ⊥ := by
  rw [v34_at]
  refine if_congr Iff.rfl ?_ rfl
  simp only [q_at x0 (d := d) (cs := cs) hz, k_at x0 (d := d) (cs := cs) hz, hc, sqrt_lit, ← EReal.coe_mul, ← coe_sum]
  rw [div_coe HeadOf.root_pos.ne', ← EReal.coe_sub, ← EReal.coe_add]
  refine congrArg Real.toEReal ?_
  unfold HeadOf.x HeadOf.prod
  show _ = _ / _ - cs h u + cs h t
  ring

theorem shift_at (h : Fin 8) (t : Fin 4096) :
    ∃ M : ℝ, el (s := S8x4096) (φ := .f32) (val_main_v42 (F := Ideal) x0 x1) (ix2 h t) = (M : EReal) := by
  rw [v42_at, v35_at, max_eq_right bot_le]
  refine isReal_max _ (fun u => ?_) (k₀ := t) ?_
  · rw [score_at x0 x1 (d := fun _ _ => 0) hz hc]
    split_ifs
    · exact Or.inr ⟨_, rfl⟩
    · exact Or.inl rfl
  · rw [score_at x0 x1 (d := fun _ _ => 0) hz hc, if_pos le_rfl]
    exact ⟨_, rfl⟩

/-- The exponentials of a row are those of the head at one shift. -/
theorem num_at (h : Fin 8) (t : Fin 4096) : ∃ a : ℝ, ∀ u,
    el (s := S8x4096x4096) (φ := .f32) (val_main_v55 (F := Ideal) x0 x1) (ix3 h t u) = ((headAt z d cs h).num a t u : EReal) := by
  obtain ⟨M, hM⟩ := shift_at x0 x1 hz hc h t
  refine ⟨cs h t - M, fun u => ?_⟩
  rw [v55_at, hM, score_at x0 x1 (d := d) hz hc]
  unfold HeadOf.num
  by_cases k : u.val ≤ t.val
  · rw [if_pos k, if_pos (Fin.le_def.2 k), ← EReal.coe_sub, exp_coe, add_sub_assoc]
  · rw [if_neg k, if_neg (fun e => k (Fin.le_def.1 e)), EReal.bot_sub]
    exact EReal.coe_zero.symm

theorem total_at {h : Fin 8} {t : Fin 4096} {a : ℝ}
    (ha : ∀ u, el (s := S8x4096x4096) (φ := .f32) (val_main_v55 (F := Ideal) x0 x1) (ix3 h t u) = ((headAt z d cs h).num a t u : EReal)) :
    el (s := S8x4096) (φ := .f32) (val_main_v56 (F := Ideal) x0 x1) (ix2 h t) = ((∑ u, (headAt z d cs h).num a t u : ℝ) : EReal) := by
  rw [v56_at]
  simp only [ha, ← coe_sum]

theorem weight_at (h : Fin 8) (t u : Fin 4096) :
    el (s := S8x4096x4096) (φ := .f32) (val_main_v59 (F := Ideal) x0 x1) (ix3 h t u) = ((headAt z d cs h).w t u : EReal) := by
  obtain ⟨a, ha⟩ := num_at x0 x1 (d := d) hz hc h t
  rw [v59_at, ha, total_at x0 x1 hz hc ha, div_coe ((headAt z d cs h).sum_pos a t).ne', (headAt z d cs h).w_shift a]

include hd

theorem grad_at (h : Fin 8) (t u : Fin 4096) :
    el (s := S8x4096x4096) (φ := .f32) (val_main_v83 (F := Ideal) x0 x1 x2) (ix3 h t u) = ((headAt z d cs h).g t u : EReal) := by
  obtain ⟨a, ha⟩ := num_at x0 x1 (d := d) hz hc h t
  rw [v83_at]
  by_cases k : u.val ≤ t.val
  · have hp := (headAt z d cs h).sum_pos a t
    rw [if_pos k, v74_at, ha, total_at x0 x1 hz hc ha, dw_at x0 x2 (cs := cs) hz hd, div_coe hp.ne']
    simp only [ha, dw_at x0 x2 (cs := cs) hz hd]
    rw [← EReal.coe_one, ← EReal.coe_mul, div_coe (mul_pos hp hp).ne']
    simp only [← EReal.coe_mul, ← coe_sum]
    rw [← EReal.coe_neg, ← EReal.coe_add, ← EReal.coe_mul]
    exact congrArg Real.toEReal ((headAt z d cs h).g_quotient a t u)
  · rw [if_neg k, (headAt z d cs h).g_above (fun e => k (Fin.le_def.1 e))]
    exact EReal.coe_zero.symm

theorem queries_at (s : Fin 4096) (n : Fin 1024) :
    el (s := S4096x1024) (φ := .bf16) (val_main_v104 (F := Ideal) x0 x1 x2) (ix2 s n)
      = ((headAt z d cs ⟨n.val / 128, by omega⟩).dq s (inD n) : EReal) := by
  rw [v104_at, sqrt_lit]
  simp only [grad_at x0 x1 x2 hz hd hc, div_coe HeadOf.root_pos.ne', k_at x0 (d := d) (cs := cs) hz, ← EReal.coe_mul, ← coe_sum]
  rfl

theorem keys_at (s : Fin 4096) (n : Fin 1024) :
    el (s := S4096x1024) (φ := .bf16) (val_main_v106 (F := Ideal) x0 x1 x2) (ix2 s n)
      = ((headAt z d cs ⟨n.val / 128, by omega⟩).dk s (inD n) : EReal) := by
  rw [v106_at, sqrt_lit]
  simp only [grad_at x0 x1 x2 hz hd hc, div_coe HeadOf.root_pos.ne', q_at x0 (d := d) (cs := cs) hz, ← EReal.coe_mul, ← coe_sum]
  rfl

theorem values_at (s : Fin 4096) (n : Fin 1024) :
    el (s := S4096x1024) (φ := .bf16) (val_main_v108 (F := Ideal) x0 x1 x2) (ix2 s n)
      = ((headAt z d cs ⟨n.val / 128, by omega⟩).dv s (inD n) : EReal) := by
  rw [v108_at, v69_at]
  simp only [weight_at x0 x1 (d := d) hz hc, hd, ← EReal.coe_mul, ← coe_sum]
  rfl

theorem cols_at (a : Fin 4) (b : Fin 64) (u : Fin 1024) :
    el (s := S4x64x1024) (φ := .f32) (val_main_v109 (F := Ideal) x0 x1 x2) (ix3 a b u)
      = ((headAt z d cs ⟨b.val / 8, by omega⟩).dc ⟨a.val * 1024 + u.val, by omega⟩ : EReal) := by
  have e : ∀ n : Fin 4096, (⟨n.val / 128 * 128 + n.val % 128, by omega⟩ : Fin 4096) = n := fun n => Fin.ext (by show _ / _ * _ + _ = _; omega)
  rw [v109_at, v90_at, v88_at]
  have e' := e ⟨a.val * 1024 + u.val, by omega⟩
  simp only [grad_at x0 x1 x2 hz hd hc, ← EReal.coe_neg, ← coe_sum]
  refine congrArg Real.toEReal ?_
  unfold HeadOf.dc
  rw [Finset.sum_neg_distrib, neg_neg]
  exact Finset.sum_congr rfl fun t _ => congrArg _ e'

theorem lanes_at (h : Fin 8) (s : Fin 4096) (l : Fin 128) :
    el (s := S8x4096x128) (φ := .f32) (val_main_v91 (F := Ideal) x0 x1 x2) (ix3 h s l) = ((headAt z d cs h).dr s l : EReal) := by
  rw [v91_at]
  simp only [grad_at x0 x1 x2 hz hd hc, ← coe_sum]
  refine congrArg Real.toEReal ?_
  unfold HeadOf.dr
  exact Finset.sum_congr rfl fun b _ => congrArg _ (Fin.ext (by show b.val * 128 + l.val = 128 * b.val + l.val; omega))

end Head

end Cert.Proof.Attn.Ref

end
-- ==== Proof.Attn.Algebraic.lean ====
/-
  The kernel's arrays are the attention reference's.
-/
module

public import proofs.«01_k».proof.Defs
public import proofs.«01_k».proof.Proof.Attn.Weights
public import proofs.«01_k».proof.Proof.Attn.RefReal
public import proofs.«01_k».proof.Proof.Gen.Pre_attn_finite

@[expose] public section

set_option maxRecDepth 16384

noncomputable section

open Idealize.ShloMosaic Idealize.ShloMosaic.TcCoe Cert.Common
open scoped BigOperators

namespace Cert.Proof.Attn

open Cert.AttnIdeal Cert.AttnIdeal.Gen
open Cert.AttnRefIdeal.Read

/-- The finiteness of the arguments, array by array. -/
theorem finite {m : (ℓ : Loc nD τ sig) → Buf (Elt Ideal) ℓ} (hpre : Cert.Pre_AttnIdeal_attn_finite m) (c : Dev nD) :
    (∀ i, IsReal ((m ((c.tc : Thread nD τ).loc main_arg0) : FVec Ideal S4096x6152 .f32) i))
    ∧ (∀ i, IsReal ((m ((c.tc : Thread nD τ).loc main_arg1) : FVec Ideal S1x8 .f32) i))
    ∧ (∀ i, IsReal ((m ((c.tc : Thread nD τ).loc main_arg2) : FVec Ideal S4096x1024 .bf16) i)) := by
  obtain ⟨h, r2⟩ := andi_one (congrFun (hpre c) ix0)
  obtain ⟨r0, r1⟩ := andi_one h
  exact ⟨real_of_all _ _ _ _ _ _ lit_inf r0, real_of_all _ _ _ _ _ _ lit_inf r1, real_of_all _ _ _ _ _ _ lit_inf_bf16 r2⟩

/-- The real numbers of a device's arguments and running sums. -/
theorem reals {m : (ℓ : Loc nD τ sig) → Buf (Elt Ideal) ℓ} (hpre : Cert.Pre_AttnIdeal_attn_finite m) (c : Dev nD) :
    ∃ z d cs, Reals m c z d cs := by
  obtain ⟨r0, r1, r2⟩ := finite hpre c
  choose z hz using fun s n => r0 (ix2 s n)
  choose d hd using fun s n => r2 (ix2 s n)
  choose cs hc using fun h s => Ref.v7_real (m ((c.tc : Thread nD τ).loc main_arg0)) (m ((c.tc : Thread nD τ).loc main_arg1))
    (fun s n => r0 (ix2 s n)) (fun n => r1 (ix2 0 n)) h s
  exact ⟨z, d, cs, ⟨hz, hd, hc⟩⟩

theorem algebraic : Cert.algebraic_AttnIdeal_AttnRefIdeal_pre_attn_finite := by
  intro m g m' g' hpre hagree
  refine ⟨fun c => fun i : S4096x1024.Idx => queriesV m c (i 0) (i 1), fun c => fun i : S4096x1024.Idx => keysV m c (i 0) (i 1),
    fun c => fun i : S4096x1024.Idx => valuesV m c (i 0) (i 1), fun c => fun i : S4x64x1024.Idx => colsV m c (i 0) (i 1) (i 2),
    fun c => fun i : S8x4096x128.Idx => lanesV m c (i 0) (i 1) (i 2),
    (θ_run _ _ _).mono (fun r h c => ?_) (run_main m g), ?_⟩
  · obtain ⟨after, hl, ha⟩ := Pipeline.RDat.FramePost.exists_exact h.1 c
    exact ⟨(ha 8).trans (final8 m c hl), (ha 9).trans (final9 m c hl), (ha 10).trans (final10 m c hl), (ha 11).trans (final11 m c hl),
      (ha 12).trans (final12 m c hl),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      (Pipeline.RDat.FramePost.arr_in h.1 c 5 rfl).trans (V_main_arg2 m c)⟩
  refine (θ_run _ _ _).mono (fun r h c => ?_) (Cert.AttnRefIdeal.Value.run m' g')
  obtain ⟨e0, e1, e2⟩ := hagree c
  obtain ⟨z, d, cs, R⟩ := reals hpre c
  obtain ⟨h0, h1, h2, h3, h4, h5⟩ := h c
  refine ⟨h0.trans ?_, h1.trans ?_, h2.trans ?_, h3.trans ?_, h4.trans ?_, h5⟩
  · rw [val_main_v104_eq, e0, e1, e2]
    funext y
    idx_vars y
    exact (Ref.queries_at _ _ _ R.z R.d R.cs _ _).trans (queries_real m R _ _).symm
  · rw [val_main_v106_eq, e0, e1, e2]
    funext y
    idx_vars y
    exact (Ref.keys_at _ _ _ R.z R.d R.cs _ _).trans (keys_real m R _ _).symm
  · rw [val_main_v108_eq, e0, e1, e2]
    funext y
    idx_vars y
    exact (Ref.values_at _ _ _ R.z R.d R.cs _ _).trans (values_real m R _ _).symm
  · rw [val_main_v109_eq, e0, e1, e2]
    funext y
    idx_vars y
    exact (Ref.cols_at _ _ _ R.z R.d R.cs _ _ _).trans (cols_real m R _ _ _).symm
  · rw [val_main_v91_eq, e0, e1, e2]
    funext y
    idx_vars y
    exact (Ref.lanes_at _ _ _ R.z R.d R.cs _ _ _).trans (lanes_real m R _ _ _).symm

end Cert.Proof.Attn

end
-- ==== Proof.Proj.Kernel.lean ====
/-
  The norm and the projection: the kernel's two result arrays, row by row, over its windows' arrays.
-/
module

public import proofs.«01_k».proof.Proof.Common
public import proofs.«01_k».proof.Proof.Gen.ProjIdeal.Frame
public import Idealize.ShloMosaic.Lib.Pipeline.ValueKit
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Cert.Common
open scoped BigOperators

namespace Cert.Proof.Proj

open Cert.ProjIdeal Cert.ProjIdeal.Gen
open Idealize.ShloMosaic.Pipeline (Dat)

/-- The reciprocal root of a row's mean square. -/
def rs (x : Fin 1024 → EReal) : EReal :=
  Ideal.rsqrt (Ideal.div (∑ k : Fin 1024, x k * x k) (Ideal.ofBits .f32 0x44800000#32) + Ideal.ofBits .f32 0x358637BD#32)

/-- The row `x` under the norm with gain `G`. -/
def nrm (x G : Fin 1024 → EReal) (d : Fin 1024) : EReal := x d * rs x * G d

/-- The queries' factor. -/
def qs : EReal := (Named.named (F := Ideal) κ "qscale" 0x3E0293EE#32 : Ideal .f32)

theorem qs_real : qs = (((Real.sqrt 128)⁻¹ * (Real.log 2)⁻¹ : ℝ) : EReal) :=
  IdealRules.named_const.ideal_named_scalar _ _ _ _ rfl

section Blocks

variable (x : FVec Ideal S512x1024 .f32) (G : FVec Ideal S1x1024 .f32) (w : FVec Ideal S3072x1024 .bf16) (r : Fin 512)

/-- Row `r` of a block. -/
def rowOf (r : Fin 512) (k : Fin 1024) : EReal := x (ix2 r k)

/-- The gain's row. -/
def gainOf (k : Fin 1024) : EReal := G (ix2 0 k)

/-- Row `n` of the weights. -/
def wOf (n : Fin 3072) (k : Fin 1024) : EReal := w (ix2 n k)

/-- A normed row times a row of the weights. -/
def dotp (a b : Fin 1024 → EReal) : EReal := ∑ k : Fin 1024, a k * b k

theorem pay1 (d : Fin 1024) : k0_pay1 (F := Ideal) x G (ix2 r d) = nrm (rowOf x r) (gainOf G) d := by
  pointwise [k0_pay1, nrm, rs, rowOf, gainOf]

theorem pay2 (n : Fin 3072) : k0_pay2 (F := Ideal) x G w (ix2 r n) = dotp (nrm (rowOf x r) (gainOf G)) (wOf w n) := by
  have e : ∀ d, k0_pay1 (F := Ideal) x G (ix2 r d) = nrm (rowOf x r) (gainOf G) d := pay1 x G r
  unfold k0_pay2 dotp
  simp only [← e]
  generalize k0_pay1 (F := Ideal) x G = p
  pointwise [wOf]

theorem pay3 (d : Fin 1024) : k0_pay3 (F := Ideal) x G w (ix2 r d)
    = dotp (nrm (rowOf x r) (gainOf G)) (wOf w ⟨d.val, by omega⟩) * qs := by
  rw [← pay2]
  unfold k0_pay3 qs
  generalize k0_pay2 (F := Ideal) x G w = p
  pointwise []

theorem pay4 (d : Fin 2048) : k0_pay4 (F := Ideal) x G w (ix2 r d)
    = dotp (nrm (rowOf x r) (gainOf G)) (wOf w ⟨1024 + d.val, by omega⟩) := by
  rw [← pay2]
  unfold k0_pay4
  generalize k0_pay2 (F := Ideal) x G w = p
  pointwise []

end Blocks

theorem emb_a (ia : ∀ k : Fin 2, (![0, 0] : Fin 2 → ℕ) k + S512x1024.size k ≤ S512x3072.size k) (r : Fin 512) (n : Fin 1024) :
    (Rect.unit ![0, 0] ![512, 1024] ia : Rect S512x3072).emb (ix2 r n : S512x1024.Idx) = ix2 r ⟨n.val, by omega⟩ := by
  funext k
  refine Fin.ext ?_
  fin_cases k
  · exact (Nat.zero_add _).trans (Nat.one_mul _)
  · exact (Nat.zero_add _).trans (Nat.one_mul _)

theorem emb_b (ib : ∀ k : Fin 2, (![0, 1024] : Fin 2 → ℕ) k + S512x2048.size k ≤ S512x3072.size k) (r : Fin 512) (n : Fin 2048) :
    (Rect.unit ![0, 1024] ![512, 2048] ib : Rect S512x3072).emb (ix2 r n : S512x2048.Idx) = ix2 r ⟨1024 + n.val, by omega⟩ := by
  funext k
  refine Fin.ext ?_
  fin_cases k
  · exact (Nat.zero_add _).trans (Nat.one_mul _)
  · exact congrArg (1024 + ·) (Nat.one_mul _)

section Parts

variable (a : FVec Ideal S512x1024 .bf16) (b : FVec Ideal S512x2048 .bf16)
  (ia : ∀ k : Fin 2, (![0, 0] : Fin 2 → ℕ) k + S512x1024.size k ≤ S512x3072.size k)
  (ib : ∀ k : Fin 2, (![0, 1024] : Fin 2 → ℕ) k + S512x2048.size k ≤ S512x3072.size k)

/-- A block whose first `1024` columns and other columns are written apart. -/
def written : FVec Ideal S512x3072 .bf16 :=
  View.canon (Val := Elt Ideal) (s := S512x3072) (e := .bf16)
    ([⟨Rect.unit ![0, 1024] ![512, 2048] ib, b⟩, ⟨Rect.unit ![0, 0] ![512, 1024] ia, a⟩] : List (View.Piece (Elt Ideal) S512x3072 .bf16))

theorem written_a (r : Fin 512) (n : Fin 1024) : written a b ia ib (ix2 r ⟨n.val, by omega⟩) = a (ix2 r n) := by
  unfold written
  refine (View.canon_cons_of_not_mem _ _ fun hm => ?_).trans ?_
  · obtain ⟨j, hj, e⟩ := (LoadRect.mem_set _).1 hm 1
    have e' : n.val = 1024 + 1 * j := e
    omega
  · rw [← emb_a ia r n]
    exact View.canon_cons_emb (Val := Elt Ideal) (e := .bf16) (Rect.unit ![0, 0] ![512, 1024] ia : Rect S512x3072) a [] (ix2 r n)

theorem written_b (r : Fin 512) (n : Fin 2048) : written a b ia ib (ix2 r ⟨1024 + n.val, by omega⟩) = b (ix2 r n) := by
  unfold written
  rw [← emb_b ib r n]
  exact View.canon_cons_emb (Val := Elt Ideal) (e := .bf16) (Rect.unit ![0, 1024] ![512, 2048] ib : Rect S512x3072) b _ (ix2 r n)

theorem two_parts (r : Fin 512) (n : Fin 3072) : written a b ia ib (ix2 r n)
    = if h : n.val < 1024 then a (ix2 r ⟨n.val, h⟩) else b (ix2 r ⟨n.val - 1024, by omega⟩) := by
  split_ifs with h
  · exact written_a a b ia ib r ⟨n.val, h⟩
  · refine (congrArg (fun k => written a b ia ib (ix2 r k)) (Fin.ext ?_)).trans (written_b a b ia ib r ⟨n.val - 1024, by omega⟩)
    show n.val = 1024 + (n.val - 1024)
    omega

end Parts

variable (m : (ℓ : Loc nD τ sig) → Buf (Elt Ideal) ℓ)

theorem idx : ∀ t : Fin cfg0.N, win0_0.index t = ![t.val, 0] ∧ win0_1.index t = ![0, 0] ∧ win0_2.index t = ![0, 0]
    ∧ win0_4.index t = ![t.val, 0] ∧ win0_5.index t = ![t.val, 0] :=
  (by decide +kernel : ∀ t : Fin grid0.N, _)

/-- Row `r` of the rows of point `t`. -/
def rowAt (t : Fin cfg0.N) (r : Fin 512) : Fin 4096 := ⟨t.val * 512 + r.val, by
  have := lt_of_lt_of_eq t.isLt (show cfg0.N = 8 from N_0); omega⟩

/-- A row of an array. -/
def rowF (X : FVec Ideal S4096x1024 .f32) (s : Fin 4096) (k : Fin 1024) : EReal := X (ix2 s k)

/-- A row of the transposed weights. -/
def wRow (X : FVec Ideal S6152x1024 .bf16) (n : Fin 3072) (k : Fin 1024) : EReal := X (ix2 ⟨n.val, by omega⟩ k)

section Reads

variable (c : Dev nD) (t : Fin cfg0.N)

theorem row0 (r : Fin 512) : rowOf (iblk m c 0 t) r = rowF (V m c main_v0) (rowAt t r) := by
  funext k; unfold rowOf rowF; blk_point [iblk, V, idx t, rowAt]

theorem gain1 : gainOf (iblk m c 1 t) = gainOf (V m c main_arg1) := by
  funext k; unfold gainOf; blk_point [iblk, V, idx t]

theorem wrow2 (n : Fin 3072) : wOf (X0_2 m c t) n = wRow (V m c main_v3) n := by
  funext k; unfold wOf wRow X0_2 Pipeline.Window.fill; rw [dif_pos (moved0_2 t _)]; blk_point [iblk, V, idx t]

end Reads

/-- The normed rows over the arrays the region finds. -/
def xnV (c : Dev nD) (s : Fin 4096) : Fin 1024 → EReal := nrm (rowF (V m c main_v0) s) (gainOf (V m c main_arg1))

/-- The projected rows, the queries scaled. -/
def zV (c : Dev nD) (s : Fin 4096) (n : Fin 3072) : EReal :=
  if n.val < 1024 then dotp (xnV m c s) (wRow (V m c main_v3) n) * qs else dotp (xnV m c s) (wRow (V m c main_v3) n)

theorem at4 (A : Fin 4096 → Fin 1024 → EReal) (t : Fin cfg0.N) (r : Fin 512) (d : Fin 1024) :
    A (rowAt t r) d = A (((View.whole main_v5_0).slice (win0_4.rect t)).emb (ix2 r d) 0)
      (((View.whole main_v5_0).slice (win0_4.rect t)).emb (ix2 r d) 1) := by
  refine congrArg₂ A (Fin.ext ?_) (Fin.ext ?_) <;> blk_point [idx t, rowAt]

/-- The normed rows. -/
theorem final4 (c : Dev nD) : (dats m 0 c).arrAt 4 cfg0.N = fun i : S4096x1024.Idx => xnV m c (i 0) (i 1) := by
  refine (dats m 0 c).arrAt_eq_of_covers 4 _ (by decide +kernel) fun t hf y => ?_
  blk_simp
  rw [after0_4]
  unfold outsAt0
  frame_out
  idx_vars y
  refine (pay1 _ _ _ _).trans ?_
  rw [row0, gain1]
  exact at4 (xnV m c) t y0 y1

theorem at5 (A : Fin 4096 → Fin 3072 → EReal) (t : Fin cfg0.N) (r : Fin 512) (d : Fin 3072) :
    A (rowAt t r) d = A (((View.whole main_v5_1).slice (win0_5.rect t)).emb (ix2 r d) 0)
      (((View.whole main_v5_1).slice (win0_5.rect t)).emb (ix2 r d) 1) := by
  refine congrArg₂ A (Fin.ext ?_) (Fin.ext ?_) <;> blk_point [idx t, rowAt]

/-- The projected rows. -/
theorem final5 (c : Dev nD) : (dats m 0 c).arrAt 5 cfg0.N = fun i : S4096x3072.Idx => zV m c (i 0) (i 1) := by
  refine (dats m 0 c).arrAt_eq_of_covers 5 _ (by decide +kernel) fun t hf y => ?_
  blk_simp
  rw [after0_5]
  unfold outsAt0
  frame_out
  idx_vars y
  refine (two_parts _ _ _ _ _ _).trans ?_
  refine Eq.trans ?_ (at5 (zV m c) t y0 y1)
  unfold zV
  split_ifs with h
  · refine (pay3 _ _ _ _ _).trans ?_
    rw [row0, gain1, wrow2]
    rfl
  · refine (pay4 _ _ _ _ _).trans ?_
    rw [row0, gain1, wrow2]
    refine congrArg (fun n => dotp (xnV m c (rowAt t y0)) (wRow (V m c main_v3) n)) (Fin.ext ?_)
    show 1024 + (y1.val - 1024) = y1.val
    omega

end Cert.Proof.Proj

end
-- ==== Proof.Proj.Algebraic.lean ====
/-
  The kernel's normed rows and projected rows are the reference's.
-/
module

public import proofs.«01_k».proof.Defs
public import proofs.«01_k».proof.Proof.Proj.Kernel
public import proofs.«01_k».proof.Proof.Gen.ProjIdeal.Value
public import proofs.«01_k».proof.Proof.Gen.ProjRefIdeal.Run
public import proofs.«01_k».proof.Proof.Gen.ProjRefIdeal.Read

@[expose] public section

set_option maxRecDepth 16384

noncomputable section

open Idealize.ShloMosaic Idealize.ShloMosaic.TcCoe Cert.Common
open scoped BigOperators

namespace Cert.Proof.Proj

open Cert.ProjIdeal Cert.ProjIdeal.Gen
open Cert.ProjRefIdeal.Read

section Reference

variable (x0 : FVec Ideal S1x4096x1024 .f32) (x1 : FVec Ideal S1x1024 .f32) (x2 : FVec Ideal S1x1024x6152 .f32)

/-- A row of the input. -/
def xR (s : Fin 4096) (k : Fin 1024) : EReal := x0 (ix3 0 s k)

/-- A column of the weights. -/
def wR (n : Fin 3072) (k : Fin 1024) : EReal := x2 (ix3 0 k ⟨n.val, by omega⟩)

theorem ref14 (s : Fin 4096) (d : Fin 1024) : val_main_v14 (F := Ideal) x0 x1 (ix2 s d) = nrm (xR x0 s) (gainOf x1) d := by
  pointwise [val_main_v14, val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, nrm, rs, xR, gainOf]

theorem ref24 (s : Fin 4096) (d : Fin 1024) : val_main_v24 (F := Ideal) x0 x1 (ix2 s d) = nrm (xR x0 s) (gainOf x1) d :=
  ref14 x0 x1 s d

theorem ref17 (s : Fin 4096) (n : Fin 3072) :
    val_main_v17 (F := Ideal) x0 x1 x2 (ix2 s n) = dotp (nrm (xR x0 s) (gainOf x1)) (wR x2 n) := by
  have e : ∀ d, val_main_v14 (F := Ideal) x0 x1 (ix2 s d) = nrm (xR x0 s) (gainOf x1) d := ref14 x0 x1 s
  unfold val_main_v17 val_main_v16 dotp
  simp only [← e]
  generalize val_main_v14 (F := Ideal) x0 x1 = p
  pointwise [val_main_v15, wR]

theorem log_lit : Ideal.log (Ideal.ofBits .f32 0x40000000#32) = (Real.log 2 : EReal) := by
  rw [lit_2]
  show (if (2 : ℝ) ≤ 0 then ⊥ else (Real.log 2 : EReal)) = _
  rw [if_neg (by norm_num)]

theorem sqrt_lit : Ideal.sqrt (Ideal.ofBits .f32 0x43000000#32) = (Real.sqrt 128 : EReal) := by
  have h : Ideal.ofBits .f32 0x43000000#32 = ((128 : ℝ) : EReal) := by
    simp [Ideal.ofBits, Ideal.ieee, -EReal.coe_mul]; norm_num
  rw [h]
  show (if (128 : ℝ) < 0 then ⊥ else (Real.sqrt 128 : EReal)) = _
  rw [if_neg (by norm_num)]

/-- Division by the root times the logarithm is the product with the queries' factor. -/
theorem div_qs (a : EReal) :
    Ideal.div a (Ideal.sqrt (Ideal.ofBits .f32 0x43000000#32) * Ideal.log (Ideal.ofBits .f32 0x40000000#32)) = a * qs := by
  have h : Real.sqrt 128 * Real.log 2 ≠ 0 :=
    mul_ne_zero (Real.sqrt_pos.2 (by norm_num)).ne' (Real.log_pos (by norm_num)).ne'
  rw [qs_real, sqrt_lit, log_lit, ← EReal.coe_mul, Ideal.div, if_neg (by exact_mod_cast h), ← EReal.coe_inv, mul_inv]

theorem ref23 (s : Fin 4096) (d : Fin 1024) : val_main_v23 (F := Ideal) x0 x1 x2 (ix2 s d)
    = dotp (nrm (xR x0 s) (gainOf x1)) (wR x2 ⟨d.val, by omega⟩) * qs := by
  rw [← div_qs, ← ref17]
  unfold val_main_v23 val_main_v18
  generalize val_main_v17 (F := Ideal) x0 x1 x2 = p
  pointwise [val_main_v22, val_main_v21, val_main_v20, val_main_v19, val_main_cst_2, val_main_cst_3]

theorem ref25 (s : Fin 4096) (d : Fin 2048) : val_main_v25 (F := Ideal) x0 x1 x2 (ix2 s d)
    = dotp (nrm (xR x0 s) (gainOf x1)) (wR x2 ⟨1024 + d.val, by omega⟩) := by
  rw [← ref17]
  unfold val_main_v25
  generalize val_main_v17 (F := Ideal) x0 x1 x2 = p
  pointwise []

theorem ref27 (s : Fin 4096) (n : Fin 3072) : val_main_v27 (F := Ideal) x0 x1 x2 (ix2 s n)
    = if n.val < 1024 then dotp (nrm (xR x0 s) (gainOf x1)) (wR x2 n) * qs else dotp (nrm (xR x0 s) (gainOf x1)) (wR x2 n) := by
  have ea := ref23 x0 x1 x2 s
  have eb := ref25 x0 x1 x2 s
  unfold val_main_v27 val_main_v26
  generalize val_main_v23 (F := Ideal) x0 x1 x2 = a at *
  generalize val_main_v25 (F := Ideal) x0 x1 x2 = b at *
  split_ifs with h
  · refine Eq.trans ?_ (ea ⟨n.val, h⟩)
    pointwise []
    exact dif_pos h
  · refine Eq.trans ?_ ((eb ⟨n.val - 1024, by omega⟩).trans (congrArg (fun n => dotp (nrm (xR x0 s) (gainOf x1)) (wR x2 n)) (Fin.ext ?_)))
    · pointwise []
      exact dif_neg h
    · show 1024 + (n.val - 1024) = n.val
      omega

end Reference

variable (m : (ℓ : Loc nD τ sig) → Buf (Elt Ideal) ℓ)

theorem v0 (c : Dev nD) (s : Fin 4096) :
    rowF (V m c main_v0) s = xR (m ((c.tc : Thread nD τ).loc main_arg0)) s := by
  funext k
  unfold rowF xR
  simp only [V, hostOps0, List.flatten_cons, List.flatten_nil, List.append_nil, List.cons_append, List.nil_append]
  after_reads_simp
  clean_types
  pointwise

theorem v3 (c : Dev nD) (n : Fin 3072) :
    wRow (V m c main_v3) n = wR (m ((c.tc : Thread nD τ).loc main_arg2)) n := by
  funext k
  unfold wRow wR
  simp only [V, hostOps0, List.flatten_cons, List.flatten_nil, List.append_nil, List.cons_append, List.nil_append]
  after_reads_simp
  clean_types
  have h : n.val < 3072 := n.isLt
  pointwise

theorem algebraic : Cert.algebraic_ProjIdeal_ProjRefIdeal := by
  intro m g m' g' hpre hagree
  refine ⟨_, _, Cert.ProjIdeal.Value.run_blocks m g, ?_⟩
  refine (θ_run _ _ _).mono (fun r h c => ?_) (Cert.ProjRefIdeal.Value.run m' g')
  obtain ⟨e0, e1, e2⟩ := hagree c
  obtain ⟨h0, h1, h2⟩ := h c
  refine ⟨h0.trans ?_, h1.trans ?_, h2⟩
  · rw [val_main_v24_eq, e0, e1]
    refine Eq.trans ?_ (final4 m c).symm
    funext y
    idx_vars y
    refine (ref24 _ _ _ _).trans ?_
    show _ = xnV m c _ _
    unfold xnV
    rw [v0, V_main_arg1]
  · rw [val_main_v27_eq, e0, e1, e2]
    refine Eq.trans ?_ (final5 m c).symm
    funext y
    idx_vars y
    refine (ref27 _ _ _ _ _).trans ?_
    show _ = zV m c _ _
    unfold zV xnV
    rw [v0, v3, V_main_arg1]

end Cert.Proof.Proj

end
-- ==== Proof.Residual.Kernel.lean ====
/-
  The gated norms, the output projection and the residual: the kernel's four result arrays, row by row, over its windows' arrays.
-/
module

public import proofs.«01_k».proof.Proof.Common
public import proofs.«01_k».proof.Proof.Gen.ResidualIdeal.Frame
public import Idealize.ShloMosaic.Lib.Pipeline.ValueKit
public import Idealize.ShloMosaic.Lib.Claim
public import Idealize.ShloMosaic.Lib.Tactic.CleanTypes
public import Idealize.ShloMosaic.Lib.StableHlo.RunRead

@[expose] public section

set_option maxRecDepth 16384

noncomputable section

open Idealize.ShloMosaic Idealize.ShloMosaic.TcCoe Cert.Common
open scoped BigOperators

namespace Cert.Proof.Residual

open Cert.ResidualIdeal Cert.ResidualIdeal.Gen
open Idealize.ShloMosaic.Pipeline (Dat)

/-- The reciprocal root of a row's mean square. -/
def rs (x : Fin 1024 → EReal) : EReal :=
  Ideal.rsqrt (Ideal.div (∑ k : Fin 1024, x k * x k) (Ideal.ofBits .f32 0x44800000#32) + Ideal.ofBits .f32 0x358637BD#32)

/-- The row `x` under the norm with gain `G`. -/
def nrm (x G : Fin 1024 → EReal) (d : Fin 1024) : EReal := x d * rs x * G d

/-- The sigmoid, by the hyperbolic tangent of half its argument. -/
def sg (g : EReal) : EReal :=
  Ideal.ofBits .f32 0x3F000000#32 * Ideal.tanh (Ideal.ofBits .f32 0x3F000000#32 * g) + Ideal.ofBits .f32 0x3F000000#32

/-- The normed row `x` times the gate of the logits `g`. -/
def gated (x G g : Fin 1024 → EReal) (d : Fin 1024) : EReal := nrm x G d * (g d * sg (g d))

/-- Two rows side by side. -/
def side (a b : Fin 1024 → EReal) (n : Fin 2048) : EReal :=
  if h : n.val < 1024 then a ⟨n.val, h⟩ else b ⟨n.val - 1024, by omega⟩

/-- A row times the weights. -/
def mixed (y : Fin 2048 → EReal) (w : Fin 2048 → Fin 1024 → EReal) (d : Fin 1024) : EReal := ∑ n : Fin 2048, y n * w n d

section Blocks

variable (x g : FVec Ideal S256x1024 .f32) (G : FVec Ideal S1x1024 .f32) (y : FVec Ideal S256x2048 .bf16)
  (w : FVec Ideal S2048x1024 .bf16) (r : Fin 256) (d : Fin 1024)

/-- Row `r` of a block. -/
def rowOf (r : Fin 256) (k : Fin 1024) : EReal := x (ix2 r k)

/-- The gain's row. -/
def gainOf (k : Fin 1024) : EReal := G (ix2 0 k)

/-- Row `r` of a block of gated rows. -/
def yOf (r : Fin 256) (n : Fin 2048) : EReal := y (ix2 r n)

/-- The weights. -/
def wOf (n : Fin 2048) (k : Fin 1024) : EReal := w (ix2 n k)

theorem pay3 : k0_pay3 (F := Ideal) x G g (ix2 r d) = gated (rowOf x r) (gainOf G) (rowOf g r) d := by
  pointwise [k0_pay3, gated, nrm, sg, rs, rowOf, gainOf]

theorem pay5 : k0_pay5 (F := Ideal) (k0_pay4 x) G g (ix2 r d) = gated (rowOf x r) (gainOf G) (rowOf g r) d := by
  pointwise [k0_pay5, k0_pay4, gated, nrm, sg, rs, rowOf, gainOf]

theorem pay6 : k0_pay6 (F := Ideal) y w (ix2 r d) = mixed (yOf y r) (wOf w) d := by
  pointwise [k0_pay6, mixed, yOf, wOf]

theorem pay1 : k0_pay1 (F := Ideal) (k0_pay7 y w) (k0_pay8 x) (k0_pay9 G) (ix2 r d)
    = x (ix2 r d) + nrm (mixed (yOf y r) (wOf w)) (gainOf G) d := by
  have e : ∀ d, k0_pay6 (F := Ideal) y w (ix2 r d) = mixed (yOf y r) (wOf w) d := pay6 y w r
  unfold k0_pay7 nrm rs
  simp only [← e]
  generalize k0_pay6 (F := Ideal) y w = p
  pointwise [k0_pay1, k0_pay8, k0_pay9, gainOf]

theorem pay2 : k0_pay2 (F := Ideal) (k0_pay7 y w) (k0_pay8 x) (k0_pay9 G) (ix2 r d)
    = x (ix2 r d) + nrm (mixed (yOf y r) (wOf w)) (gainOf G) d := by
  rw [← pay1]
  unfold k0_pay2
  generalize k0_pay1 (F := Ideal) (k0_pay7 y w) (k0_pay8 x) (k0_pay9 G) = p
  pointwise []

end Blocks

section Parts

variable (a b : FVec Ideal S256x1024 .bf16)
  (ia : ∀ k : Fin 2, (![0, 0] : Fin 2 → ℕ) k + S256x1024.size k ≤ S256x2048.size k)
  (ib : ∀ k : Fin 2, (![0, 1024] : Fin 2 → ℕ) k + S256x1024.size k ≤ S256x2048.size k)

theorem emb_a (r : Fin 256) (n : Fin 1024) :
    (Rect.unit ![0, 0] ![256, 1024] ia : Rect S256x2048).emb (ix2 r n : S256x1024.Idx) = ix2 r ⟨n.val, by omega⟩ := by
  funext k
  refine Fin.ext ?_
  fin_cases k
  · exact (Nat.zero_add _).trans (Nat.one_mul _)
  · exact (Nat.zero_add _).trans (Nat.one_mul _)

theorem emb_b (r : Fin 256) (n : Fin 1024) :
    (Rect.unit ![0, 1024] ![256, 1024] ib : Rect S256x2048).emb (ix2 r n : S256x1024.Idx) = ix2 r ⟨1024 + n.val, by omega⟩ := by
  funext k
  refine Fin.ext ?_
  fin_cases k
  · exact (Nat.zero_add _).trans (Nat.one_mul _)
  · exact congrArg (1024 + ·) (Nat.one_mul _)

/-- A block whose first `1024` columns and other columns are written apart. -/
def written : FVec Ideal S256x2048 .bf16 :=
  View.canon (Val := Elt Ideal) (s := S256x2048) (e := .bf16)
    ([⟨Rect.unit ![0, 1024] ![256, 1024] ib, b⟩, ⟨Rect.unit ![0, 0] ![256, 1024] ia, a⟩] : List (View.Piece (Elt Ideal) S256x2048 .bf16))

theorem written_a (r : Fin 256) (n : Fin 1024) : written a b ia ib (ix2 r ⟨n.val, by omega⟩) = a (ix2 r n) := by
  unfold written
  refine (View.canon_cons_of_not_mem _ _ fun hm => ?_).trans ?_
  · obtain ⟨j, hj, e⟩ := (LoadRect.mem_set _).1 hm 1
    have e' : n.val = 1024 + 1 * j := e
    omega
  · rw [← emb_a ia r n]
    exact View.canon_cons_emb (Val := Elt Ideal) (e := .bf16) (Rect.unit ![0, 0] ![256, 1024] ia : Rect S256x2048) a [] (ix2 r n)

theorem written_b (r : Fin 256) (n : Fin 1024) : written a b ia ib (ix2 r ⟨1024 + n.val, by omega⟩) = b (ix2 r n) := by
  unfold written
  rw [← emb_b ib r n]
  exact View.canon_cons_emb (Val := Elt Ideal) (e := .bf16) (Rect.unit ![0, 1024] ![256, 1024] ib : Rect S256x2048) b _ (ix2 r n)

theorem two_parts (r : Fin 256) (n : Fin 2048) : written a b ia ib (ix2 r n)
    = side (fun k => a (ix2 r k)) (fun k => b (ix2 r k)) n := by
  unfold side
  split_ifs with h
  · exact written_a a b ia ib r ⟨n.val, h⟩
  · refine (congrArg (fun k => written a b ia ib (ix2 r k)) (Fin.ext ?_)).trans (written_b a b ia ib r ⟨n.val - 1024, by omega⟩)
    show n.val = 1024 + (n.val - 1024)
    omega

theorem yOf_written (r : Fin 256) : yOf (written a b ia ib) r = side (fun k => a (ix2 r k)) (fun k => b (ix2 r k)) := by
  funext n
  unfold yOf
  exact two_parts a b ia ib r n

theorem emb_c (ic : ∀ k : Fin 2, (![0, 0] : Fin 2 → ℕ) k + S256x2048.size k ≤ S256x2048.size k) (j : S256x2048.Idx) :
    (Rect.unit ![0, 0] ![256, 2048] ic : Rect S256x2048).emb j = j := by
  funext k
  refine Fin.ext ?_
  fin_cases k
  · exact (Nat.zero_add _).trans (Nat.one_mul _)
  · exact (Nat.zero_add _).trans (Nat.one_mul _)

/-- The block read back after both parts are written. -/
theorem read_back (v : View sig .tc .vmem S256x2048 .bf16)
    (ic : ∀ k : Fin 2, (![0, 0] : Fin 2 → ℕ) k + S256x2048.size k ≤ S256x2048.size k) :
    v.readCov (Val := Elt Ideal) ([⟨Rect.unit ![0, 1024] ![256, 1024] ib, b⟩, ⟨Rect.unit ![0, 0] ![256, 1024] ia, a⟩] : List (View.Piece (Elt Ideal) S256x2048 .bf16))
      (Rect.unit ![0, 0] ![256, 2048] ic).toLoadRect = written a b ia ib := by
  rw [View.readCov_eq_canon']
  unfold written
  generalize ([⟨Rect.unit ![0, 1024] ![256, 1024] ib, b⟩, ⟨Rect.unit ![0, 0] ![256, 1024] ia, a⟩] : List (View.Piece (Elt Ideal) S256x2048 .bf16)) = L
  funext j
  exact congrArg (View.canon L) (emb_c ic j)

theorem side_at (r : Fin 256) (n : Fin 2048) {A B : Fin 1024 → EReal} (ha : ∀ k, a (ix2 r k) = A k) (hb : ∀ k, b (ix2 r k) = B k) :
    View.canon (Val := Elt Ideal) (s := S256x2048) (e := .bf16)
      ([⟨Rect.unit ![0, 1024] ![256, 1024] ib, b⟩, ⟨Rect.unit ![0, 0] ![256, 1024] ia, a⟩] : List (View.Piece (Elt Ideal) S256x2048 .bf16)) (ix2 r n)
      = side A B n := by
  obtain rfl : (fun k => a (ix2 r k)) = A := funext ha
  obtain rfl : (fun k => b (ix2 r k)) = B := funext hb
  exact two_parts a b ia ib r n

end Parts

/-- The block of gated rows. -/
theorem gated_rows (o ga h gl : FVec Ideal S256x1024 .f32) (G H : FVec Ideal S1x1024 .f32)
    (ia : ∀ k : Fin 2, (![0, 0] : Fin 2 → ℕ) k + S256x1024.size k ≤ S256x2048.size k)
    (ib : ∀ k : Fin 2, (![0, 1024] : Fin 2 → ℕ) k + S256x1024.size k ≤ S256x2048.size k) (r : Fin 256) :
    yOf (written (k0_pay3 (F := Ideal) o G ga) (k0_pay5 (F := Ideal) (k0_pay4 h) H gl) ia ib) r
      = side (gated (rowOf o r) (gainOf G) (rowOf ga r)) (gated (rowOf h r) (gainOf H) (rowOf gl r)) := by
  exact (yOf_written _ _ ia ib r).trans (congrArg₂ side (funext (pay3 o ga G r)) (funext (pay5 h gl H r)))

theorem gated_at (o ga h gl : FVec Ideal S256x1024 .f32) (G H : FVec Ideal S1x1024 .f32)
    (ia : ∀ k : Fin 2, (![0, 0] : Fin 2 → ℕ) k + S256x1024.size k ≤ S256x2048.size k)
    (ib : ∀ k : Fin 2, (![0, 1024] : Fin 2 → ℕ) k + S256x1024.size k ≤ S256x2048.size k) (r : Fin 256) (n : Fin 2048) :
    View.canon (Val := Elt Ideal) (s := S256x2048) (e := .bf16)
      ([⟨Rect.unit ![0, 1024] ![256, 1024] ib, k0_pay5 (F := Ideal) (k0_pay4 h) H gl⟩, ⟨Rect.unit ![0, 0] ![256, 1024] ia, k0_pay3 (F := Ideal) o G ga⟩] : List (View.Piece (Elt Ideal) S256x2048 .bf16)) (ix2 r n)
      = side (gated (rowOf o r) (gainOf G) (rowOf ga r)) (gated (rowOf h r) (gainOf H) (rowOf gl r)) n :=
  side_at _ _ ia ib r n (pay3 o ga G r) (pay5 h gl H r)

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 2] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

/-- Row `r` of the rows of point `t`. -/
def rowAt (t : Fin cfg0.N) (r : Fin 256) : Fin 4096 := ⟨t.val * 256 + r.val, by
  have := lt_of_lt_of_eq t.isLt (show cfg0.N = 16 from N_0); omega⟩

/-- A row of an array. -/
def rowF (X : FVec Ideal S4096x1024 .f32) (s : Fin 4096) (k : Fin 1024) : EReal := X (ix2 s k)

/-- A row of the attention gate's logits. -/
def gateA (Z : FVec Ideal S4096x3200 .f32) (s : Fin 4096) (k : Fin 1024) : EReal := Z (ix2 s ⟨k.val, by omega⟩)

/-- A row of the recurrence gate's logits. -/
def gateL (Z : FVec Ideal S4096x3200 .f32) (s : Fin 4096) (k : Fin 1024) : EReal := Z (ix2 s ⟨2048 + k.val, by omega⟩)

section Reads

variable (c : Dev nD) (t : Fin cfg0.N)

theorem row0 (r : Fin 256) : rowOf (iblk m c 0 t) r = rowF (V m c main_v7) (rowAt t r) := by
  funext k; unfold rowOf rowF; blk_point [iblk, V, idx t, rowAt]

theorem row1 (r : Fin 256) : rowOf (iblk m c 1 t) r = rowF (V m c main_arg1) (rowAt t r) := by
  funext k; unfold rowOf rowF; blk_point [iblk, V, idx t, rowAt]

theorem row2 (r : Fin 256) : rowOf (X0_2 m c t) r = gateA (V m c main_v6) (rowAt t r) := by
  funext k; unfold rowOf gateA X0_2 Pipeline.Window.fill; rw [dif_pos (moved0_2 t _)]; blk_point [iblk, V, idx t, rowAt]

theorem row3 (r : Fin 256) : rowOf (iblk m c 3 t) r = rowF (V m c main_arg2) (rowAt t r) := by
  funext k; unfold rowOf rowF; blk_point [iblk, V, idx t, rowAt]

theorem row4 (r : Fin 256) : rowOf (X0_4 m c t) r = gateL (V m c main_v6) (rowAt t r) := by
  funext k; unfold rowOf gateL X0_4 Pipeline.Window.fill; rw [dif_pos (moved0_4 t _)]; blk_point [iblk, V, idx t, rowAt]

theorem gain5 : gainOf (iblk m c 5 t) = gainOf (V m c main_arg4) := by
  funext k; unfold gainOf; blk_point [iblk, V, idx t]

theorem gain6 : gainOf (iblk m c 6 t) = gainOf (V m c main_arg5) := by
  funext k; unfold gainOf; blk_point [iblk, V, idx t]

theorem w7 : wOf (iblk m c 7 t) = wOf (V m c main_v9) := by
  funext n k; unfold wOf; blk_point [iblk, V, idx t]

theorem gain8 : gainOf (iblk m c 8 t) = gainOf (V m c main_arg7) := by
  funext k; unfold gainOf; blk_point [iblk, V, idx t]

end Reads

/-- The gated rows over the arrays the region finds. -/
def yV (c : Dev nD) (s : Fin 4096) : Fin 2048 → EReal :=
  side (gated (rowF (V m c main_arg1) s) (gainOf (V m c main_arg4)) (gateA (V m c main_v6) s))
    (gated (rowF (V m c main_arg2) s) (gainOf (V m c main_arg5)) (gateL (V m c main_v6) s))

/-- The projected rows. -/
def mixV (c : Dev nD) (s : Fin 4096) : Fin 1024 → EReal := mixed (yV m c s) (wOf (V m c main_v9))

/-- The residual rows. -/
def hV (c : Dev nD) (s : Fin 4096) (d : Fin 1024) : EReal :=
  rowF (V m c main_v7) s d + nrm (mixV m c s) (gainOf (V m c main_arg7)) d

theorem at9 (A : Fin 4096 → Fin 2048 → EReal) (t : Fin cfg0.N) (r : Fin 256) (d : Fin 2048) :
    A (rowAt t r) d = A (((View.whole main_v10_0).slice (win0_9.rect t)).emb (ix2 r d) 0)
      (((View.whole main_v10_0).slice (win0_9.rect t)).emb (ix2 r d) 1) := by
  refine congrArg₂ A (Fin.ext ?_) (Fin.ext ?_) <;> blk_point [idx t, rowAt]

/-- The gated rows. -/
theorem final9 (c : Dev nD) : (dats m 0 c).arrAt 9 cfg0.N = fun i : S4096x2048.Idx => yV m c (i 0) (i 1) := by
  refine (dats m 0 c).arrAt_eq_of_covers 9 _ (by decide +kernel) fun t hf y => ?_
  blk_simp
  rw [after0_9]
  unfold outsAt0
  frame_out
  idx_vars y
  rw [gated_at]
  rw [row1, row2, row3, row4, gain5, gain6]
  exact at9 (yV m c) t y0 y1

theorem at10 (A : Fin 4096 → Fin 1024 → EReal) (t : Fin cfg0.N) (r : Fin 256) (d : Fin 1024) :
    A (rowAt t r) d = A (((View.whole main_v10_1).slice (win0_10.rect t)).emb (ix2 r d) 0)
      (((View.whole main_v10_1).slice (win0_10.rect t)).emb (ix2 r d) 1) := by
  refine congrArg₂ A (Fin.ext ?_) (Fin.ext ?_) <;> blk_point [idx t, rowAt]

/-- The projected rows. -/
theorem final10 (c : Dev nD) : (dats m 0 c).arrAt 10 cfg0.N = fun i : S4096x1024.Idx => mixV m c (i 0) (i 1) := by
  refine (dats m 0 c).arrAt_eq_of_covers 10 _ (by decide +kernel) fun t hf y => ?_
  blk_simp
  rw [after0_10]
  unfold outsAt0
  frame_out
  rw [read_back]
  idx_vars y
  refine (pay6 _ _ _ _).trans ?_
  refine Eq.trans ?_ (at10 (mixV m c) t y0 y1)
  rw [w7, gated_rows, row1, row2, row3, row4, gain5, gain6]
  rfl

theorem at11 (A : Fin 4096 → Fin 1024 → EReal) (t : Fin cfg0.N) (r : Fin 256) (d : Fin 1024) :
    A (rowAt t r) d = A (((View.whole main_v10_2).slice (win0_11.rect t)).emb (ix2 r d) 0)
      (((View.whole main_v10_2).slice (win0_11.rect t)).emb (ix2 r d) 1) := by
  refine congrArg₂ A (Fin.ext ?_) (Fin.ext ?_) <;> blk_point [idx t, rowAt]

/-- The residual rows. -/
theorem final11 (c : Dev nD) : (dats m 0 c).arrAt 11 cfg0.N = fun i : S4096x1024.Idx => hV m c (i 0) (i 1) := by
  refine (dats m 0 c).arrAt_eq_of_covers 11 _ (by decide +kernel) fun t hf y => ?_
  blk_simp
  rw [after0_11]
  unfold outsAt0
  frame_out
  rw [read_back]
  idx_vars y
  refine (pay1 _ _ _ _ _ _).trans ?_
  refine Eq.trans ?_ (at11 (hV m c) t y0 y1)
  rw [w7, gain8, gated_rows, row1, row2, row3, row4, gain5, gain6]
  exact congrArg (· + _) (congrFun (row0 m c t y0) y1)

theorem at12 (A : Fin 4096 → Fin 1024 → EReal) (t : Fin cfg0.N) (r : Fin 256) (d : Fin 1024) :
    A (rowAt t r) d = A (((View.whole main_v10_3).slice (win0_12.rect t)).emb (ix2 r d) 0)
      (((View.whole main_v10_3).slice (win0_12.rect t)).emb (ix2 r d) 1) := by
  refine congrArg₂ A (Fin.ext ?_) (Fin.ext ?_) <;> blk_point [idx t, rowAt]

/-- The residual rows again, for the next product. -/
theorem final12 (c : Dev nD) : (dats m 0 c).arrAt 12 cfg0.N = fun i : S4096x1024.Idx => hV m c (i 0) (i 1) := by
  refine (dats m 0 c).arrAt_eq_of_covers 12 _ (by decide +kernel) fun t hf y => ?_
  blk_simp
  rw [after0_12]
  unfold outsAt0
  frame_out
  rw [read_back]
  idx_vars y
  refine (pay2 _ _ _ _ _ _).trans ?_
  refine Eq.trans ?_ (at12 (hV m c) t y0 y1)
  rw [w7, gain8, gated_rows, row1, row2, row3, row4, gain5, gain6]
  exact congrArg (· + _) (congrFun (row0 m c t y0) y1)

end Cert.Proof.Residual

end
-- ==== Proof.Residual.Algebraic.lean ====
/-
  The kernel's gated, projected and residual rows are the reference's.
-/
module

public import proofs.«01_k».proof.Defs
public import proofs.«01_k».proof.Proof.Residual.Kernel
public import proofs.«01_k».proof.Proof.Gen.ResidualIdeal.Value
public import proofs.«01_k».proof.Proof.Gen.ResidualRefIdeal.Run
public import proofs.«01_k».proof.Proof.Gen.ResidualRefIdeal.Read

@[expose] public section

set_option maxRecDepth 16384

noncomputable section

open Idealize.ShloMosaic Idealize.ShloMosaic.TcCoe Cert.Common
open scoped BigOperators

namespace Cert.Proof.Residual

open Cert.ResidualIdeal Cert.ResidualIdeal.Gen
open Cert.ResidualRefIdeal.Read

section Sigmoid

theorem lit_1 : Ideal.ofBits .f32 0x3F800000#32 = ((1 : ℝ) : EReal) := by
  simp [Ideal.ofBits, Ideal.ieee]
  rw [← EReal.coe_mul]
  norm_num

theorem half_tanh (g : ℝ) : 1 / 2 * Real.tanh (1 / 2 * g) + 1 / 2 = 1 / (1 + Real.exp (-g)) := by
  rw [Real.tanh_eq_sinh_div_cosh, Real.sinh_eq, Real.cosh_eq]
  have h1 : Real.exp (-g) = Real.exp (-(1 / 2 * g)) * Real.exp (-(1 / 2 * g)) := by rw [← Real.exp_add]; congr 1; ring
  have h2 : Real.exp (1 / 2 * g) * Real.exp (-(1 / 2 * g)) = 1 := by rw [← Real.exp_add]; simp
  have h3 := Real.exp_pos (1 / 2 * g)
  have h4 := Real.exp_pos (-(1 / 2 * g))
  rw [h1]
  generalize Real.exp (1 / 2 * g) = a at *
  generalize Real.exp (-(1 / 2 * g)) = b at *
  have h5 : a + b ≠ 0 := (add_pos h3 h4).ne'
  have h6 : 1 + b * b ≠ 0 := (add_pos one_pos (mul_pos h4 h4)).ne'
  field_simp
  linear_combination (2 * b) * h2

/-- The quotient form of the sigmoid is the tangent form, at the infinities too. -/
theorem logistic (g : EReal) :
    Ideal.div (Ideal.ofBits .f32 0x3F800000#32) (Ideal.ofBits .f32 0x3F800000#32 + Ideal.exp (-g)) = sg g := by
  unfold sg
  rw [lit_1, lit_half]
  induction g using EReal.rec with
  | bot =>
    rw [EReal.neg_bot, EReal.coe_mul_bot_of_pos (by norm_num)]
    show Ideal.div ((1 : ℝ) : EReal) (((1 : ℝ) : EReal) + ⊤) = ((1 / 2 : ℝ) : EReal) * ((-1 : ℝ) : EReal) + ((1 / 2 : ℝ) : EReal)
    rw [EReal.coe_add_top, Ideal.div, if_neg (by simp), EReal.inv_top, mul_zero, ← EReal.coe_mul, ← EReal.coe_add]
    norm_num
  | coe r =>
    rw [← EReal.coe_neg, exp_coe, ← EReal.coe_add, div_coe (add_pos one_pos (Real.exp_pos _)).ne', ← EReal.coe_mul, tanh_coe,
      ← EReal.coe_mul, ← EReal.coe_add, half_tanh]
  | top =>
    rw [EReal.neg_top, EReal.coe_mul_top_of_pos (by norm_num)]
    show Ideal.div ((1 : ℝ) : EReal) (((1 : ℝ) : EReal) + ((0 : ℝ) : EReal)) = ((1 / 2 : ℝ) : EReal) * ((1 : ℝ) : EReal) + ((1 / 2 : ℝ) : EReal)
    rw [← EReal.coe_add, div_coe (by norm_num), ← EReal.coe_mul, ← EReal.coe_add]
    norm_num

end Sigmoid

section Reference

variable (x0 : FVec Ideal S1x4096x1024 .f32) (x1 x2 : FVec Ideal S4096x1024 .f32) (x3 : FVec Ideal S4096x6152 .f32)
  (x4 x5 : FVec Ideal S1x1024 .f32) (x6 : FVec Ideal S1x2048x1024 .f32) (x7 : FVec Ideal S1x1024 .f32)

/-- A row of the input. -/
def xR (s : Fin 4096) (k : Fin 1024) : EReal := x0 (ix3 0 s k)

/-- A row of the attention gate's logits. -/
def gaR (s : Fin 4096) (k : Fin 1024) : EReal := x3 (ix2 s ⟨3080 + k.val, by omega⟩)

/-- A row of the recurrence gate's logits. -/
def glR (s : Fin 4096) (k : Fin 1024) : EReal := x3 (ix2 s ⟨5128 + k.val, by omega⟩)

/-- The output weights. -/
def wR (n : Fin 2048) (k : Fin 1024) : EReal := x6 (ix3 0 n k)

/-- The gated rows. -/
def yR (s : Fin 4096) : Fin 2048 → EReal :=
  side (gated (rowF x1 s) (gainOf x4) (gaR x3 s)) (gated (rowF x2 s) (gainOf x5) (glR x3 s))

theorem ref13 (s : Fin 4096) (d : Fin 1024) : val_main_v13 (F := Ideal) x1 x4 (ix2 s d) = nrm (rowF x1 s) (gainOf x4) d := by
  pointwise [val_main_v13, val_main_v12, val_main_v11, val_main_v10, val_main_v9, val_main_v8, val_main_v7,
    val_main_v6, val_main_v5, val_main_v4, val_main_v3, val_main_v2, val_main_v1, val_main_v0, val_main_cst, val_main_cst_0,
    val_main_cst_1, nrm, rs, rowF, gainOf]

theorem ref15 (s : Fin 4096) (d : Fin 1024) : val_main_v15 (F := Ideal) x3 (ix2 s d) = gaR x3 s d * sg (gaR x3 s d) := by
  rw [← logistic]
  pointwise [val_main_v15, val_main_call0_v5, val_main_call0_v4, val_main_call0_v3, val_main_call0_v2, val_main_call0_v1,
    val_main_call0_v0, val_main_call0_cst, val_main_call0_cst_0, val_main_v14, gaR]

theorem ref16 (s : Fin 4096) (d : Fin 1024) :
    val_main_v16 (F := Ideal) x1 x3 x4 (ix2 s d) = gated (rowF x1 s) (gainOf x4) (gaR x3 s) d :=
  (val_main_v16_apply _ _ _ _).trans (congrArg₂ (fun a b : EReal => a * b) (ref13 x1 x4 s d) (ref15 x3 s d))

theorem ref30 (s : Fin 4096) (d : Fin 1024) : val_main_v30 (F := Ideal) x2 x5 (ix2 s d) = nrm (rowF x2 s) (gainOf x5) d := by
  pointwise [val_main_v30, val_main_v29, val_main_v28, val_main_v27, val_main_v26, val_main_v25, val_main_v24,
    val_main_v23, val_main_v22, val_main_v21, val_main_v20, val_main_v19, val_main_v18, val_main_v17, val_main_cst_2, val_main_cst_3,
    val_main_cst_4, nrm, rs, rowF, gainOf]

theorem ref32 (s : Fin 4096) (d : Fin 1024) : val_main_v32 (F := Ideal) x3 (ix2 s d) = glR x3 s d * sg (glR x3 s d) := by
  rw [← logistic]
  pointwise [val_main_v32, val_main_call1_v5, val_main_call1_v4, val_main_call1_v3, val_main_call1_v2, val_main_call1_v1,
    val_main_call1_v0, val_main_call1_cst, val_main_call1_cst_0, val_main_v31, glR]

theorem ref33 (s : Fin 4096) (d : Fin 1024) :
    val_main_v33 (F := Ideal) x2 x3 x5 (ix2 s d) = gated (rowF x2 s) (gainOf x5) (glR x3 s) d :=
  (val_main_v33_apply _ _ _ _).trans (congrArg₂ (fun a b : EReal => a * b) (ref30 x2 x5 s d) (ref32 x3 s d))

theorem ref34 (s : Fin 4096) (n : Fin 2048) : val_main_v34 (F := Ideal) x1 x2 x3 x4 x5 (ix2 s n) = yR x1 x2 x3 x4 x5 s n := by
  have ea := ref16 x1 x3 x4 s
  have eb := ref33 x2 x3 x5 s
  unfold val_main_v34 yR side
  generalize val_main_v16 (F := Ideal) x1 x3 x4 = a at *
  generalize val_main_v33 (F := Ideal) x2 x3 x5 = b at *
  split_ifs with h
  · refine Eq.trans ?_ (ea ⟨n.val, h⟩)
    pointwise []
    exact dif_pos h
  · refine Eq.trans ?_ (eb ⟨n.val - 1024, by omega⟩)
    pointwise []
    exact dif_neg h

theorem ref53 (s : Fin 4096) (n : Fin 2048) : val_main_v53 (F := Ideal) x1 x2 x3 x4 x5 (ix2 s n) = yR x1 x2 x3 x4 x5 s n :=
  ref34 x1 x2 x3 x4 x5 s n

theorem ref36 (s : Fin 4096) (d : Fin 1024) :
    val_main_v36 (F := Ideal) x1 x2 x3 x4 x5 x6 (ix2 s d) = mixed (yR x1 x2 x3 x4 x5 s) (wR x6) d := by
  have e : ∀ n, val_main_v34 (F := Ideal) x1 x2 x3 x4 x5 (ix2 s n) = yR x1 x2 x3 x4 x5 s n := ref34 x1 x2 x3 x4 x5 s
  unfold val_main_v36 mixed
  simp only [← e]
  generalize val_main_v34 (F := Ideal) x1 x2 x3 x4 x5 = p
  pointwise [val_main_v35, wR]

theorem ref52 (s : Fin 4096) (d : Fin 1024) : val_main_v52 (F := Ideal) x0 x1 x2 x3 x4 x5 x6 x7 (ix2 s d)
    = xR x0 s d + nrm (mixed (yR x1 x2 x3 x4 x5 s) (wR x6)) (gainOf x7) d := by
  have e : ∀ d, val_main_v36 (F := Ideal) x1 x2 x3 x4 x5 x6 (ix2 s d) = mixed (yR x1 x2 x3 x4 x5 s) (wR x6) d :=
    ref36 x1 x2 x3 x4 x5 x6 s
  unfold val_main_v52 val_main_v51 val_main_v48 val_main_v47 val_main_v46 val_main_v45 val_main_v43 val_main_v41 val_main_v40 val_main_v39 nrm rs
  simp only [← e]
  generalize val_main_v36 (F := Ideal) x1 x2 x3 x4 x5 x6 = p
  pointwise [val_main_v50, val_main_v49, val_main_v44, val_main_v42, val_main_v38, val_main_v37, val_main_cst_5, val_main_cst_6,
    val_main_cst_7, xR, gainOf]

theorem ref54 (s : Fin 4096) (d : Fin 1024) : val_main_v54 (F := Ideal) x0 x1 x2 x3 x4 x5 x6 x7 (ix2 s d)
    = xR x0 s d + nrm (mixed (yR x1 x2 x3 x4 x5 s) (wR x6)) (gainOf x7) d :=
  ref52 x0 x1 x2 x3 x4 x5 x6 x7 s d

end Reference

variable (m : (ℓ : Loc nD τ sig) → Buf (Elt Ideal) ℓ)

theorem v6 (c : Dev nD) (s : Fin 4096) (l : Fin 3072) :
    (V m c main_v6 : FVec Ideal S4096x3200 .f32) (ix2 s ⟨l.val, by omega⟩)
      = (m ((c.tc : Thread nD τ).loc main_arg3) : FVec Ideal S4096x6152 .f32) (ix2 s ⟨3080 + l.val, by omega⟩) := by
  simp only [V, hostOps0, hostOps0_1, hostOps0_2, hostOps0_3, hostOps0_4,
    List.flatten_cons, List.flatten_nil, List.append_nil, List.cons_append, List.nil_append]
  after_reads_simp
  simp only [StableHlo.TRef.toBuf, StableHlo.TRef.ofBuf, cast_eq]
  clean_types
  have h : l.val < 3072 := l.isLt
  pointwise

theorem gateA_eq (c : Dev nD) : gateA (V m c main_v6) = gaR (m ((c.tc : Thread nD τ).loc main_arg3)) := by
  funext s k
  exact v6 m c s ⟨k.val, by omega⟩

theorem gateL_eq (c : Dev nD) : gateL (V m c main_v6) = glR (m ((c.tc : Thread nD τ).loc main_arg3)) := by
  funext s k
  refine (v6 m c s ⟨2048 + k.val, by omega⟩).trans (congrArg (fun n => (m ((c.tc : Thread nD τ).loc main_arg3) : FVec Ideal S4096x6152 .f32) (ix2 s n)) (Fin.ext ?_))
  show 3080 + (2048 + k.val) = 5128 + k.val
  omega

theorem v7 (c : Dev nD) : rowF (V m c main_v7) = xR (m ((c.tc : Thread nD τ).loc main_arg0)) := by
  funext s k
  unfold rowF xR
  simp only [V, hostOps0, hostOps0_1, hostOps0_2, hostOps0_3, hostOps0_4,
    List.flatten_cons, List.flatten_nil, List.append_nil, List.cons_append, List.nil_append]
  after_reads_simp
  clean_types
  pointwise

theorem v9 (c : Dev nD) : wOf (V m c main_v9) = wR (m ((c.tc : Thread nD τ).loc main_arg6)) := by
  funext s k
  unfold wOf wR
  simp only [V, hostOps0, hostOps0_1, hostOps0_2, hostOps0_3, hostOps0_4,
    List.flatten_cons, List.flatten_nil, List.append_nil, List.cons_append, List.nil_append]
  after_reads_simp
  clean_types
  pointwise

theorem yV_eq (c : Dev nD) : yV m c = yR (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) := by
  funext s
  unfold yV yR
  rw [gateA_eq, gateL_eq, V_main_arg1, V_main_arg2, V_main_arg4, V_main_arg5]

theorem algebraic : Cert.algebraic_ResidualIdeal_ResidualRefIdeal := by
  intro m g m' g' hpre hagree
  refine ⟨_, _, _, _, Cert.ResidualIdeal.Value.run_blocks m g, ?_⟩
  refine (θ_run _ _ _).mono (fun r h c => ?_) (Cert.ResidualRefIdeal.Value.run m' g')
  obtain ⟨e0, e1, e2, e3, e4, e5, e6, e7⟩ := hagree c
  obtain ⟨h0, h1, h2, h3, h4⟩ := h c
  refine ⟨h0.trans ?_, h1.trans ?_, h2.trans ?_, h3.trans ?_, h4⟩
  · rw [val_main_v53_eq, e1, e2, e3, e4, e5]
    refine Eq.trans ?_ (final9 m c).symm
    funext y
    idx_vars y
    refine (ref53 _ _ _ _ _ _ _).trans ?_
    show _ = yV m c _ _
    rw [yV_eq]
  · rw [val_main_v36_eq, e1, e2, e3, e4, e5, e6]
    refine Eq.trans ?_ (final10 m c).symm
    funext y
    idx_vars y
    refine (ref36 _ _ _ _ _ _ _ _).trans ?_
    show _ = mixV m c _ _
    unfold mixV
    rw [yV_eq, v9]
  · rw [val_main_v52_eq, e0, e1, e2, e3, e4, e5, e6, e7]
    refine Eq.trans ?_ (final11 m c).symm
    funext y
    idx_vars y
    refine (ref52 _ _ _ _ _ _ _ _ _ _).trans ?_
    show _ = hV m c _ _
    unfold hV mixV
    rw [yV_eq, v9, v7, V_main_arg7]
  · rw [val_main_v54_eq, e0, e1, e2, e3, e4, e5, e6, e7]
    refine Eq.trans ?_ (final12 m c).symm
    funext y
    idx_vars y
    refine (ref54 _ _ _ _ _ _ _ _ _ _).trans ?_
    show _ = hV m c _ _
    unfold hV mixV
    rw [yV_eq, v9, v7, V_main_arg7]

end Cert.Proof.Residual

end
-- ==== Proof.AttnFwd.Rows.lean ====
/-
  A running softmax, row by row: any real shift serves, and what is kept is the weights' sums under that shift.
-/
module

public import proofs.«01_k».proof.Proof.Attn.Weights

@[expose] public section

noncomputable section

open Idealize.ShloMosaic Idealize.ShloMosaic.TcCoe Cert.Common
open scoped BigOperators

namespace Cert.Proof.AttnFwd

open Cert.Proof.Attn (e2 e2_bot isReal_max block_lt sum_blocks)

/-- A score and its power of two: nothing where the score is masked. -/
def Score (x : EReal) (E : ℝ) : Prop := (x = ⊥ ∧ E = 0) ∨ ∃ y : ℝ, x = y ∧ E = Real.exp (y * Real.log 2)

theorem e2_coe (y : ℝ) : e2 (y : EReal) = (Real.exp (y * Real.log 2) : EReal) := by
  have : e2 (y : EReal) = (((2 : ℝ) ^ y : ℝ) : EReal) := rfl
  rw [this, Real.rpow_def_of_pos two_pos, mul_comm]

/-- The factor of a shift. -/
def shift (M : ℝ) : ℝ := Real.exp (-M * Real.log 2)

theorem shift_pos (M : ℝ) : 0 < shift M := Real.exp_pos _

theorem Score.weight {x : EReal} {E : ℝ} (h : Score x E) (M : ℝ) : e2 (x - (M : EReal)) = ((E * shift M : ℝ) : EReal) := by
  obtain ⟨rfl, rfl⟩ | ⟨y, rfl, rfl⟩ := h
  · rw [EReal.bot_sub, e2_bot, zero_mul]; rfl
  · rw [← EReal.coe_sub, e2_coe, shift, ← Real.exp_add]
    congr 2; ring

theorem Score.real_or {x : EReal} {E : ℝ} (h : Score x E) : x = ⊥ ∨ IsReal x := by
  obtain ⟨h, -⟩ | ⟨y, h, -⟩ := h
  · exact Or.inl h
  · exact Or.inr ⟨y, h⟩

/-- What is so of a row after `n` columns. -/
def Row (n : ℕ) (E : ℕ → ℝ) (V : ℕ → Fin 128 → ℝ) (m l a : Fin 128 → EReal) : Prop :=
  (n = 0 ∧ (∀ j, m j = ⊥) ∧ (∀ j, l j = 0) ∧ ∀ d, a d = 0) ∨
  ∃ (M : ℝ) (L : Fin 128 → ℝ), (∀ j, m j = (M : EReal)) ∧ (∀ j, l j = (L j : EReal))
    ∧ ∑ j, L j = (∑ c ∈ Finset.range n, E c) * shift M
    ∧ ∀ d, a d = (((∑ c ∈ Finset.range n, E c * V c d) * shift M : ℝ) : EReal)

theorem Row.scaled {n : ℕ} {E : ℕ → ℝ} {V : ℕ → Fin 128 → ℝ} {m l a m' : Fin 128 → EReal} {X : EReal} (h : Row n E V m l a)
    (hX : IsReal X) (hm : ∀ j, m' j = max (m j) X) :
    ∃ (M : ℝ) (L A : Fin 128 → ℝ), (∀ j, m' j = (M : EReal)) ∧ (∀ j, e2 (m j - m' j) * l j = (L j : EReal))
      ∧ ∑ j, L j = (∑ c ∈ Finset.range n, E c) * shift M
      ∧ (∀ d, e2 (m d - m' d) * a d = (A d : EReal))
      ∧ ∀ d, A d = (∑ c ∈ Finset.range n, E c * V c d) * shift M := by
  obtain ⟨X, rfl⟩ := hX
  obtain ⟨rfl, h1, h2, h3⟩ | ⟨M, L, h1, h2, h3, h4⟩ := h
  · refine ⟨X, fun _ => 0, fun _ => 0, fun j => ?_, fun j => ?_, ?_, fun d => ?_, fun d => ?_⟩
    · rw [hm, h1]; exact max_eq_right bot_le
    · rw [h2, mul_zero]; rfl
    · simp
    · rw [h3, mul_zero]; rfl
    · simp
  · have hM : ∀ j, m' j = ((max M X : ℝ) : EReal) := fun j => by rw [hm, h1]; exact (EReal.coe_strictMono.monotone.map_max).symm
    have hs : ∀ j, e2 (m j - m' j) = ((Real.exp (M * Real.log 2) * shift (max M X) : ℝ) : EReal) := fun j => by
      rw [hM]
      exact Score.weight (E := Real.exp (M * Real.log 2)) (Or.inr ⟨M, h1 j, rfl⟩) _
    have hk : shift M * Real.exp (M * Real.log 2) = 1 := by
      unfold shift
      rw [← Real.exp_add]; simp
    refine ⟨max M X, fun j => Real.exp (M * Real.log 2) * shift (max M X) * L j,
      fun d => Real.exp (M * Real.log 2) * shift (max M X) * ((∑ c ∈ Finset.range n, E c * V c d) * shift M), hM, fun j => ?_, ?_, fun d => ?_, fun d => ?_⟩
    · rw [hs, h2, ← EReal.coe_mul]
    · rw [← Finset.mul_sum, h3]
      linear_combination (∑ c ∈ Finset.range n, E c) * shift (max M X) * hk
    · rw [hs, h4, ← EReal.coe_mul]
    · linear_combination (∑ c ∈ Finset.range n, E c * V c d) * shift (max M X) * hk

theorem Row.step {n : ℕ} {E : ℕ → ℝ} {V : ℕ → Fin 128 → ℝ} {m l a m' l' a' : Fin 128 → EReal} {X : EReal} (h : Row n E V m l a) (k : ℕ)
    (x : Fin (k * 128) → EReal) (v : Fin (k * 128) → Fin 128 → EReal)
    (hx : ∀ c, Score (x c) (E (n + c.val))) (hv : ∀ c d, v c d = (V (n + c.val) d : EReal))
    (hX : IsReal X) (hm : ∀ j, m' j = max (m j) X)
    (hl : ∀ j, l' j = e2 (m j - m' j) * l j + ∑ i : Fin k, e2 (x ⟨i.val * 128 + j.val, block_lt i j⟩ - m' j))
    (ha : ∀ d, a' d = e2 (m d - m' d) * a d + ∑ c, e2 (x c - m' ⟨c.val % 128, Nat.mod_lt _ (by decide)⟩) * v c d) :
    Row (n + k * 128) E V m' l' a' := by
  obtain ⟨M, L, A, h1, h2, h3, h4, h5⟩ := h.scaled hX hm
  refine Or.inr ⟨M, fun j => L j + ∑ i : Fin k, E (n + (i.val * 128 + j.val)) * shift M, h1, fun j => ?_, ?_, fun d => ?_⟩
  · rw [hl, h2, EReal.coe_add, coe_sum]
    refine congrArg₂ (· + ·) rfl (Finset.sum_congr rfl fun i _ => ?_)
    rw [h1]
    exact (hx _).weight M
  · rw [Finset.sum_add_distrib, h3, Finset.sum_range_add, add_mul, Finset.sum_comm, Finset.sum_range (fun c => E (n + c)), Finset.sum_mul (Finset.univ : Finset (Fin (k * 128)))]
    exact congrArg₂ (· + ·) rfl (sum_blocks k 128 fun c => E (n + c.val) * shift M)
  · rw [ha, h4, h5, Finset.sum_range_add, add_mul, EReal.coe_add, Finset.sum_range (fun c => E (n + c) * V (n + c) d), Finset.sum_mul (Finset.univ : Finset (Fin (k * 128))), coe_sum]
    refine congrArg₂ (· + ·) rfl (Finset.sum_congr rfl fun c _ => ?_)
    rw [h1, (hx c).weight M, hv, ← EReal.coe_mul]
    congr 1; ring

/-- A row's quotient and logarithm. -/
theorem Row.done {n : ℕ} {E : ℕ → ℝ} {V : ℕ → Fin 128 → ℝ} {m l a : Fin 128 → EReal} (h : Row n E V m l a) (h0 : 0 < ∑ c ∈ Finset.range n, E c) :
    (∀ d, Ideal.div (a d) (∑ j, l j) = (((∑ c ∈ Finset.range n, E c * V c d) / ∑ c ∈ Finset.range n, E c : ℝ) : EReal))
    ∧ ∀ j, m j + Ideal.log (∑ j, l j) * (((Real.log 2)⁻¹ : ℝ) : EReal) = ((Real.log (∑ c ∈ Finset.range n, E c) / Real.log 2 : ℝ) : EReal) := by
  obtain ⟨rfl, -⟩ | ⟨M, L, h1, h2, h3, h4⟩ := h
  · simp at h0
  have hs : ∑ j, l j = (((∑ c ∈ Finset.range n, E c) * shift M : ℝ) : EReal) := by
    simp only [h2, ← coe_sum, h3]
  have hp := mul_pos h0 (shift_pos M)
  refine ⟨fun d => ?_, fun j => ?_⟩
  · rw [hs, h4, div_coe hp.ne', mul_div_mul_right _ _ (shift_pos M).ne']
  · rw [hs, Cert.Proof.Attn.log_coe hp, h1, ← EReal.coe_mul, ← EReal.coe_add, Real.log_mul h0.ne' (shift_pos M).ne']
    congr 1
    have : Real.log 2 ≠ 0 := (Real.log_pos one_lt_two).ne'
    unfold shift
    rw [Real.log_exp]
    field_simp
    ring

end Cert.Proof.AttnFwd

end
-- ==== Proof.AttnFwd.Units.lean ====
/-
  One unit of the attention forward kernel's running softmax: 512 rows against the blocks of 128 columns it is given.
-/
module

public import proofs.«01_k».proof.Proof.Gen.AttnFwdIdeal.Value
public import proofs.«01_k».proof.Proof.AttnFwd.Rows

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.Proof.Attn (e2 e2_bot isReal_max)

/-- A block of 512 rows and 128 lanes. -/
abbrev Blk := FVec Ideal S512x128 .f32

/-- The maxima after a step, over those before it and the step's. -/
def top (m0 b : Blk) : Blk :=
  maximumf m0 (broadcastTo S512x128 (shapeCast S512x1 (multiReduction .maximumf [1] S512 b 0xFF800000#32 reduces_S512x128_S512 (.inl rfl) rfl)
    shapeCasts_S512_S512x1) broadcasts_S512x1_S512x128)

/-- The weights of a block. -/
def wt (b mn : Blk) : Blk := exp2 (subf b mn)

def max4 (b0 b1 b2 b3 : Blk) : Blk := maximumf (maximumf (maximumf b0 b1) b2) b3
def max8 (b0 b1 b2 b3 b4 b5 b6 b7 : Blk) : Blk := maximumf (maximumf (maximumf (maximumf (max4 b0 b1 b2 b3) b4) b5) b6) b7

def sum4 (m0 l0 mn b0 b1 b2 b3 : Blk) : Blk :=
  addf (mulf (wt m0 mn) l0) (addf (addf (addf (wt b0 mn) (wt b1 mn)) (wt b2 mn)) (wt b3 mn))
def sum8 (m0 l0 mn b0 b1 b2 b3 b4 b5 b6 b7 : Blk) : Blk :=
  addf (mulf (wt m0 mn) l0) (addf (addf (addf (addf (addf (addf (addf (wt b0 mn) (wt b1 mn)) (wt b2 mn)) (wt b3 mn)) (wt b4 mn)) (wt b5 mn)) (wt b6 mn)) (wt b7 mn))

def acc4 (m0 a0 mn b0 b1 b2 b3 : Blk) (v : FVec Ideal S512x128 .bf16) : Blk :=
  addf (mulf (wt m0 mn) a0) (matmul dot_S512x512_S512x128_S512x128_1_0_0_1_n_n none
    (truncf .bf16 (concatenate S512x512 1 [⟨S512x128, wt b0 mn⟩, ⟨S512x128, wt b1 mn⟩, ⟨S512x128, wt b2 mn⟩, ⟨S512x128, wt b3 mn⟩]
      concatenates_S512x128_S512x128_S512x128_S512x128_S512x512_d1) bitsLt_bf16_f32) v (constant S512x128 .f32 0x00000000#32))
def acc8 (m0 a0 mn b0 b1 b2 b3 b4 b5 b6 b7 : Blk) (v : FVec Ideal S1024x128 .bf16) : Blk :=
  addf (mulf (wt m0 mn) a0) (matmul dot_S512x1024_S1024x128_S512x128_1_0_0_1_n_n none
    (truncf .bf16 (concatenate S512x1024 1 [⟨S512x128, wt b0 mn⟩, ⟨S512x128, wt b1 mn⟩, ⟨S512x128, wt b2 mn⟩, ⟨S512x128, wt b3 mn⟩,
        ⟨S512x128, wt b4 mn⟩, ⟨S512x128, wt b5 mn⟩, ⟨S512x128, wt b6 mn⟩, ⟨S512x128, wt b7 mn⟩]
      concatenates_S512x128_S512x128_S512x128_S512x128_S512x128_S512x128_S512x128_S512x128_S512x1024_d1) bitsLt_bf16_f32) v (constant S512x128 .f32 0x00000000#32))

theorem top_at (m0 b : Blk) (r : Fin 512) (l : Fin 128) :
    top m0 b (ix2 r l) = max (m0 (ix2 r l)) (Finset.univ.fold max ⊥ fun j : Fin 128 => (b (ix2 r j) : EReal)) := by
  unfold top
  rw [← Cert.Proof.Attn.lit_bot]
  pointwise

theorem wt_at (b mn : Blk) (r : Fin 512) (l : Fin 128) : wt b mn (ix2 r l) = e2 (b (ix2 r l) - mn (ix2 r l)) := rfl

theorem max4_at (b0 b1 b2 b3 : Blk) (r : Fin 512) (l : Fin 128) :
    max4 b0 b1 b2 b3 (ix2 r l) = max (max (max (b0 (ix2 r l)) (b1 (ix2 r l))) (b2 (ix2 r l))) (b3 (ix2 r l)) := rfl

/-- Eight blocks side by side. -/
def across8 (b0 b1 b2 b3 b4 b5 b6 b7 : Blk) (r : Fin 512) (c : Fin 1024) : EReal :=
  (![b0, b1, b2, b3, b4, b5, b6, b7] ⟨c.val / 128, by omega⟩) (ix2 r ⟨c.val % 128, by omega⟩)
def across4 (b0 b1 b2 b3 : Blk) (r : Fin 512) (c : Fin 512) : EReal :=
  (![b0, b1, b2, b3] ⟨c.val / 128, by omega⟩) (ix2 r ⟨c.val % 128, by omega⟩)

theorem beside8 (b0 b1 b2 b3 b4 b5 b6 b7 : Blk) (r : Fin 512) (c : Fin 1024) :
    concatenate S512x1024 1 [⟨S512x128, b0⟩, ⟨S512x128, b1⟩, ⟨S512x128, b2⟩, ⟨S512x128, b3⟩, ⟨S512x128, b4⟩, ⟨S512x128, b5⟩, ⟨S512x128, b6⟩, ⟨S512x128, b7⟩]
      concatenates_S512x128_S512x128_S512x128_S512x128_S512x128_S512x128_S512x128_S512x128_S512x1024_d1 (ix2 r c)
      = across8 b0 b1 b2 b3 b4 b5 b6 b7 r c :=
  concatenate_ofFn_apply (s₁ := S512x128) (t := S512x1024) 1 ![b0, b1, b2, b3, b4, b5, b6, b7]
    concatenates_S512x128_S512x128_S512x128_S512x128_S512x128_S512x128_S512x128_S512x128_S512x1024_d1 rfl 128 rfl (ix2 r c)
    ⟨c.val / 128, by omega⟩ rfl (ix2 r ⟨c.val % 128, by omega⟩) rfl (by
      intro b hb; fin_cases b
      · rfl
      · exact absurd rfl hb)

theorem beside4 (b0 b1 b2 b3 : Blk) (r : Fin 512) (c : Fin 512) :
    concatenate S512x512 1 [⟨S512x128, b0⟩, ⟨S512x128, b1⟩, ⟨S512x128, b2⟩, ⟨S512x128, b3⟩]
      concatenates_S512x128_S512x128_S512x128_S512x128_S512x512_d1 (ix2 r c)
      = across4 b0 b1 b2 b3 r c :=
  concatenate_ofFn_apply (s₁ := S512x128) (t := S512x512) 1 ![b0, b1, b2, b3]
    concatenates_S512x128_S512x128_S512x128_S512x128_S512x512_d1 rfl 128 rfl (ix2 r c)
    ⟨c.val / 128, by omega⟩ rfl (ix2 r ⟨c.val % 128, by omega⟩) rfl (by
      intro b hb; fin_cases b
      · rfl
      · exact absurd rfl hb)

theorem across8_wt (b0 b1 b2 b3 b4 b5 b6 b7 mn : Blk) (r : Fin 512) (c : Fin 1024) :
    across8 (wt b0 mn) (wt b1 mn) (wt b2 mn) (wt b3 mn) (wt b4 mn) (wt b5 mn) (wt b6 mn) (wt b7 mn) r c
      = e2 (across8 b0 b1 b2 b3 b4 b5 b6 b7 r c - mn (ix2 r ⟨c.val % 128, by omega⟩)) := by
  unfold across8
  generalize (⟨c.val / 128, _⟩ : Fin 8) = k
  fin_cases k <;> rfl

theorem across4_wt (b0 b1 b2 b3 mn : Blk) (r : Fin 512) (c : Fin 512) :
    across4 (wt b0 mn) (wt b1 mn) (wt b2 mn) (wt b3 mn) r c
      = e2 (across4 b0 b1 b2 b3 r c - mn (ix2 r ⟨c.val % 128, by omega⟩)) := by
  unfold across4
  generalize (⟨c.val / 128, _⟩ : Fin 4) = k
  fin_cases k <;> rfl

theorem across8_place (b0 b1 b2 b3 b4 b5 b6 b7 : Blk) (r : Fin 512) (i : Fin 8) (j : Fin 128) :
    across8 b0 b1 b2 b3 b4 b5 b6 b7 r ⟨i.val * 128 + j.val, by omega⟩ = (![b0, b1, b2, b3, b4, b5, b6, b7] i) (ix2 r j) := by
  unfold across8
  have h1 : (⟨(i.val * 128 + j.val) / 128, by omega⟩ : Fin 8) = i := Fin.ext (show (i.val * 128 + j.val) / 128 = i.val by omega)
  have h2 : (⟨(i.val * 128 + j.val) % 128, by omega⟩ : Fin 128) = j := Fin.ext (show (i.val * 128 + j.val) % 128 = j.val by omega)
  simp only [h1, h2]

theorem across4_place (b0 b1 b2 b3 : Blk) (r : Fin 512) (i : Fin 4) (j : Fin 128) :
    across4 b0 b1 b2 b3 r ⟨i.val * 128 + j.val, by omega⟩ = (![b0, b1, b2, b3] i) (ix2 r j) := by
  unfold across4
  have h1 : (⟨(i.val * 128 + j.val) / 128, by omega⟩ : Fin 4) = i := Fin.ext (show (i.val * 128 + j.val) / 128 = i.val by omega)
  have h2 : (⟨(i.val * 128 + j.val) % 128, by omega⟩ : Fin 128) = j := Fin.ext (show (i.val * 128 + j.val) % 128 = j.val by omega)
  simp only [h1, h2]

theorem sum8_at (m0 l0 mn b0 b1 b2 b3 b4 b5 b6 b7 : Blk) (r : Fin 512) (j : Fin 128) :
    sum8 m0 l0 mn b0 b1 b2 b3 b4 b5 b6 b7 (ix2 r j) = e2 (m0 (ix2 r j) - mn (ix2 r j)) * l0 (ix2 r j)
      + ∑ i : Fin 8, e2 (across8 b0 b1 b2 b3 b4 b5 b6 b7 r ⟨i.val * 128 + j.val, by omega⟩ - mn (ix2 r j)) := by
  simp only [across8_place]
  rw [Fin.sum_univ_eight]
  rfl

theorem sum4_at (m0 l0 mn b0 b1 b2 b3 : Blk) (r : Fin 512) (j : Fin 128) :
    sum4 m0 l0 mn b0 b1 b2 b3 (ix2 r j) = e2 (m0 (ix2 r j) - mn (ix2 r j)) * l0 (ix2 r j)
      + ∑ i : Fin 4, e2 (across4 b0 b1 b2 b3 r ⟨i.val * 128 + j.val, by omega⟩ - mn (ix2 r j)) := by
  simp only [across4_place]
  rw [Fin.sum_univ_four]
  rfl

theorem dot8 (w : FVec Ideal S512x1024 .f32) (v : FVec Ideal S1024x128 .bf16) (r : Fin 512) (d : Fin 128) :
    matmul dot_S512x1024_S1024x128_S512x128_1_0_0_1_n_n none (truncf .bf16 w bitsLt_bf16_f32) v (constant S512x128 .f32 0x00000000#32) (ix2 r d)
      = (∑ c : Fin 1024, w (ix2 r c) * v (ix2 c d) : EReal) := by
  pointwise

theorem dot4 (w : FVec Ideal S512x512 .f32) (v : FVec Ideal S512x128 .bf16) (r : Fin 512) (d : Fin 128) :
    matmul dot_S512x512_S512x128_S512x128_1_0_0_1_n_n none (truncf .bf16 w bitsLt_bf16_f32) v (constant S512x128 .f32 0x00000000#32) (ix2 r d)
      = (∑ c : Fin 512, w (ix2 r c) * v (ix2 c d) : EReal) := by
  pointwise

theorem acc8_at (m0 a0 mn b0 b1 b2 b3 b4 b5 b6 b7 : Blk) (v : FVec Ideal S1024x128 .bf16) (r : Fin 512) (d : Fin 128) :
    acc8 m0 a0 mn b0 b1 b2 b3 b4 b5 b6 b7 v (ix2 r d) = e2 (m0 (ix2 r d) - mn (ix2 r d)) * a0 (ix2 r d)
      + ∑ c : Fin 1024, e2 (across8 b0 b1 b2 b3 b4 b5 b6 b7 r c - mn (ix2 r ⟨c.val % 128, by omega⟩)) * v (ix2 c d) := by
  refine (congrArg₂ (· + ·) rfl (dot8 _ v r d)).trans (congrArg₂ (· + ·) rfl (Finset.sum_congr rfl fun c _ => ?_))
  rw [beside8, across8_wt]

theorem acc4_at (m0 a0 mn b0 b1 b2 b3 : Blk) (v : FVec Ideal S512x128 .bf16) (r : Fin 512) (d : Fin 128) :
    acc4 m0 a0 mn b0 b1 b2 b3 v (ix2 r d) = e2 (m0 (ix2 r d) - mn (ix2 r d)) * a0 (ix2 r d)
      + ∑ c : Fin 512, e2 (across4 b0 b1 b2 b3 r c - mn (ix2 r ⟨c.val % 128, by omega⟩)) * v (ix2 c d) := by
  refine (congrArg₂ (· + ·) rfl (dot4 _ v r d)).trans (congrArg₂ (· + ·) rfl (Finset.sum_congr rfl fun c _ => ?_))
  rw [beside4, across4_wt]

/-! ## A unit's step of a row -/

theorem or_max {x y : EReal} (hx : x = ⊥ ∨ IsReal x) (hy : y = ⊥ ∨ IsReal y) : max x y = ⊥ ∨ IsReal (max x y) := by
  rcases max_choice x y with h | h <;> rw [h] <;> assumption

theorem real_max {x y : EReal} (hx : IsReal x) (hy : y = ⊥ ∨ IsReal y) : IsReal (max x y) := by
  obtain rfl | hy := hy
  · rwa [max_eq_left bot_le]
  · rcases max_choice x y with h | h <;> rw [h] <;> assumption

theorem unit8 {n : ℕ} {E : ℕ → ℝ} {V : ℕ → Fin 128 → ℝ} {m0 l0 a0 : Blk} {r : Fin 512} (b0 b1 b2 b3 b4 b5 b6 b7 : Blk) (v : FVec Ideal S1024x128 .bf16)
    (h : Row n E V (fun j => m0 (ix2 r j)) (fun j => l0 (ix2 r j)) (fun j => a0 (ix2 r j)))
    (hx : ∀ c, Score (across8 b0 b1 b2 b3 b4 b5 b6 b7 r c) (E (n + c.val))) (hx0 : IsReal (across8 b0 b1 b2 b3 b4 b5 b6 b7 r 0))
    (hv : ∀ (c : Fin 1024) d, v (ix2 c d) = (V (n + c.val) d : EReal)) :
    Row (n + 1024) E V (fun j => top m0 (max8 b0 b1 b2 b3 b4 b5 b6 b7) (ix2 r j))
      (fun j => sum8 m0 l0 (top m0 (max8 b0 b1 b2 b3 b4 b5 b6 b7)) b0 b1 b2 b3 b4 b5 b6 b7 (ix2 r j))
      (fun j => acc8 m0 a0 (top m0 (max8 b0 b1 b2 b3 b4 b5 b6 b7)) b0 b1 b2 b3 b4 b5 b6 b7 v (ix2 r j)) := by
  have ho : ∀ (i : Fin 8) (j : Fin 128), (![b0, b1, b2, b3, b4, b5, b6, b7] i) (ix2 r j) = (⊥ : EReal) ∨ IsReal ((![b0, b1, b2, b3, b4, b5, b6, b7] i) (ix2 r j)) :=
    fun i j => by rw [← across8_place]; exact (hx _).real_or
  refine h.step 8 (across8 b0 b1 b2 b3 b4 b5 b6 b7 r) (fun c d => v (ix2 c d)) hx hv (isReal_max _ (fun j => ?_) (k₀ := 0) ?_) (top_at m0 _ r)
    (sum8_at m0 l0 _ _ _ _ _ _ _ _ _ r) (acc8_at m0 a0 _ _ _ _ _ _ _ _ _ v r)
  · exact or_max (or_max (or_max (or_max (or_max (or_max (or_max (ho 0 j) (ho 1 j)) (ho 2 j)) (ho 3 j)) (ho 4 j)) (ho 5 j)) (ho 6 j)) (ho 7 j)
  · exact real_max (real_max (real_max (real_max (real_max (real_max (real_max hx0 (ho 1 0)) (ho 2 0)) (ho 3 0)) (ho 4 0)) (ho 5 0)) (ho 6 0)) (ho 7 0)

theorem unit4 {n : ℕ} {E : ℕ → ℝ} {V : ℕ → Fin 128 → ℝ} {m0 l0 a0 : Blk} {r : Fin 512} (b0 b1 b2 b3 : Blk) (v : FVec Ideal S512x128 .bf16)
    (h : Row n E V (fun j => m0 (ix2 r j)) (fun j => l0 (ix2 r j)) (fun j => a0 (ix2 r j)))
    (hx : ∀ c, Score (across4 b0 b1 b2 b3 r c) (E (n + c.val))) (hx0 : IsReal (across4 b0 b1 b2 b3 r 0))
    (hv : ∀ (c : Fin 512) d, v (ix2 c d) = (V (n + c.val) d : EReal)) :
    Row (n + 512) E V (fun j => top m0 (max4 b0 b1 b2 b3) (ix2 r j))
      (fun j => sum4 m0 l0 (top m0 (max4 b0 b1 b2 b3)) b0 b1 b2 b3 (ix2 r j))
      (fun j => acc4 m0 a0 (top m0 (max4 b0 b1 b2 b3)) b0 b1 b2 b3 v (ix2 r j)) := by
  have ho : ∀ (i : Fin 4) (j : Fin 128), (![b0, b1, b2, b3] i) (ix2 r j) = (⊥ : EReal) ∨ IsReal ((![b0, b1, b2, b3] i) (ix2 r j)) :=
    fun i j => by rw [← across4_place]; exact (hx _).real_or
  refine h.step 4 (across4 b0 b1 b2 b3 r) (fun c d => v (ix2 c d)) hx hv (isReal_max _ (fun j => ?_) (k₀ := 0) ?_) (top_at m0 _ r)
    (sum4_at m0 l0 _ _ _ _ _ r) (acc4_at m0 a0 _ _ _ _ _ v r)
  · exact or_max (or_max (or_max (ho 0 j) (ho 1 j)) (ho 2 j)) (ho 3 j)
  · exact real_max (real_max (real_max hx0 (ho 1 0)) (ho 2 0)) (ho 3 0)

/-! ## The four units of a step, and their rows in the carried arrays -/

abbrev Big := FVec Ideal S2048x128 .f32

def part0 (x : Big) : Blk := extractStridedSlice S512x128 ![0, 0] x slices_S2048x128_o0_0_S512x128
def part1 (x : Big) : Blk := extractStridedSlice S512x128 ![512, 0] x slices_S2048x128_o512_0_S512x128
def part2 (x : Big) : Blk := extractStridedSlice S512x128 ![1024, 0] x slices_S2048x128_o1024_0_S512x128
def part3 (x : Big) : Blk := extractStridedSlice S512x128 ![1536, 0] x slices_S2048x128_o1536_0_S512x128

def stack (a b c d : Blk) : Big :=
  concatenate S2048x128 0 [⟨S512x128, a⟩, ⟨S512x128, b⟩, ⟨S512x128, c⟩, ⟨S512x128, d⟩] concatenates_S512x128_S512x128_S512x128_S512x128_S2048x128_d0

theorem stack_at (a b c d : Blk) (k : Fin 4) (r : Fin 512) (j : Fin 128) :
    stack a b c d (ix2 ⟨k.val * 512 + r.val, by omega⟩ j) = (![a, b, c, d] k) (ix2 r j) :=
  concatenate_ofFn_apply (s₁ := S512x128) (t := S2048x128) 0 ![a, b, c, d]
    concatenates_S512x128_S512x128_S512x128_S512x128_S2048x128_d0 rfl 512 rfl (ix2 ⟨k.val * 512 + r.val, by omega⟩ j)
    k (show (k.val * 512 + r.val) / 512 = k.val by omega) (ix2 r j) (show r.val = (k.val * 512 + r.val) % 512 by omega) (by
      intro b hb; fin_cases b
      · exact absurd rfl hb
      · rfl)

theorem parts_at (x : Big) (k : Fin 4) (r : Fin 512) (j : Fin 128) :
    (![part0 x, part1 x, part2 x, part3 x] k) (ix2 r j) = x (ix2 ⟨k.val * 512 + r.val, by omega⟩ j) := by
  fin_cases k
  · exact congrArg x (funext (Fin.forall_fin_two.2 ⟨Fin.ext (by simp), Fin.ext (by simp)⟩))
  · exact congrArg x (funext (Fin.forall_fin_two.2 ⟨Fin.ext (by simp), Fin.ext (by simp)⟩))
  · exact congrArg x (funext (Fin.forall_fin_two.2 ⟨Fin.ext (by simp), Fin.ext (by simp)⟩))
  · exact congrArg x (funext (Fin.forall_fin_two.2 ⟨Fin.ext (by simp), Fin.ext (by simp)⟩))

end Cert.Proof.AttnFwd

end
-- ==== Proof.AttnFwd.Trip.lean ====
/-
  A trip of the attention forward kernel's loop, unit by unit.
-/
module

public import proofs.«01_k».proof.Proof.AttnFwd.Units

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.Proof.Attn (e2 e2_bot isReal_max)

abbrev Wide := FVec Ideal S512x1024 .f32

def col0 (s : Wide) : Blk := extractStridedSlice S512x128 ![0, 0] s slices_S512x1024_o0_0_S512x128
def col1 (s : Wide) : Blk := extractStridedSlice S512x128 ![0, 128] s slices_S512x1024_o0_128_S512x128
def col2 (s : Wide) : Blk := extractStridedSlice S512x128 ![0, 256] s slices_S512x1024_o0_256_S512x128
def col3 (s : Wide) : Blk := extractStridedSlice S512x128 ![0, 384] s slices_S512x1024_o0_384_S512x128
def col4 (s : Wide) : Blk := extractStridedSlice S512x128 ![0, 512] s slices_S512x1024_o0_512_S512x128
def col5 (s : Wide) : Blk := extractStridedSlice S512x128 ![0, 640] s slices_S512x1024_o0_640_S512x128
def col6 (s : Wide) : Blk := extractStridedSlice S512x128 ![0, 768] s slices_S512x1024_o0_768_S512x128
def col7 (s : Wide) : Blk := extractStridedSlice S512x128 ![0, 896] s slices_S512x1024_o0_896_S512x128

theorem across_cols (s : Wide) (r : Fin 512) (c : Fin 1024) :
    across8 (col0 s) (col1 s) (col2 s) (col3 s) (col4 s) (col5 s) (col6 s) (col7 s) r c = s (ix2 r c) := by
  have h : ∀ (i : Fin 8) (j : Fin 128), (![col0 s, col1 s, col2 s, col3 s, col4 s, col5 s, col6 s, col7 s] i) (ix2 r j) = s (ix2 r ⟨i.val * 128 + j.val, by omega⟩) := by
    intro i j
    fin_cases i <;> exact congrArg s (funext (Fin.forall_fin_two.2 ⟨Fin.ext (by simp), Fin.ext (by simp)⟩))
  unfold across8
  rw [h]
  exact congrArg s (congrArg (ix2 r) (Fin.ext (show c.val / 128 * 128 + c.val % 128 = c.val by omega)))

def topW (m : Blk) (s : Wide) : Blk := top m (max8 (col0 s) (col1 s) (col2 s) (col3 s) (col4 s) (col5 s) (col6 s) (col7 s))
def sumW (m l : Blk) (s : Wide) : Blk := sum8 m l (topW m s) (col0 s) (col1 s) (col2 s) (col3 s) (col4 s) (col5 s) (col6 s) (col7 s)
def accW (m a : Blk) (s : Wide) (v : FVec Ideal S1024x128 .bf16) : Blk :=
  acc8 m a (topW m s) (col0 s) (col1 s) (col2 s) (col3 s) (col4 s) (col5 s) (col6 s) (col7 s) v

theorem unitW {n : ℕ} {E : ℕ → ℝ} {V : ℕ → Fin 128 → ℝ} {m0 l0 a0 : Blk} {r : Fin 512} (s : Wide) (v : FVec Ideal S1024x128 .bf16)
    (h : Row n E V (fun j => m0 (ix2 r j)) (fun j => l0 (ix2 r j)) (fun j => a0 (ix2 r j)))
    (hx : ∀ c, Score (s (ix2 r c)) (E (n + c.val))) (hx0 : IsReal (s (ix2 r 0)))
    (hv : ∀ (c : Fin 1024) d, v (ix2 c d) = (V (n + c.val) d : EReal)) :
    Row (n + 1024) E V (fun j => topW m0 s (ix2 r j)) (fun j => sumW m0 l0 s (ix2 r j)) (fun j => accW m0 a0 s v (ix2 r j)) :=
  unit8 _ _ _ _ _ _ _ _ v h (fun c => by rw [across_cols]; exact hx c) (by rw [across_cols]; exact hx0) hv

theorem trip_eq (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S2x4096x128 .bf16) (harg5 : arg5.IsWhole) (arg6 : Memref sig .tc .vmem S1024x256 .f32) (harg6 : arg6.IsWhole) (arg7 : Memref sig .tc .vmem S2x1024x128 .bf16) (harg7 : arg7.IsWhole) (v8 : Vec Ideal S1024x128 .bf16) (v11 : Vec Ideal S1024x128 .bf16) (X_arg3 : BufTy.Contents (Elt Ideal) arg3.view.ty) (X_arg4 : BufTy.Contents (Elt Ideal) arg4.view.ty) (X_arg5 : BufTy.Contents (Elt Ideal) arg5.view.ty)  (k : Fin (k0_t1_loop i).trips) (a b d : Big) :
    tripR_k0_t1 (F := Ideal) Variants.none c none i arg2 harg2 arg3 harg3 arg4 harg4 arg5 harg5 arg6 harg6 arg7 harg7 v8 v11 X_arg3 X_arg4 X_arg5 k (a, b, d)
      = (stack (topW (part0 a) (trip_k0_t1.sl.v427 i arg3 arg5 v8 X_arg3 X_arg5 k)) (topW (part1 a) (trip_k0_t1.sl.v429 i arg3 arg5 v8 X_arg3 X_arg5 k))
          (topW (part2 a) (trip_k0_t1.sl.v431 i arg3 arg5 v11 X_arg3 X_arg5 k)) (topW (part3 a) (trip_k0_t1.sl.v433 i arg3 arg5 v11 X_arg3 X_arg5 k)),
        stack (sumW (part0 a) (part0 b) (trip_k0_t1.sl.v427 i arg3 arg5 v8 X_arg3 X_arg5 k)) (sumW (part1 a) (part1 b) (trip_k0_t1.sl.v429 i arg3 arg5 v8 X_arg3 X_arg5 k))
          (sumW (part2 a) (part2 b) (trip_k0_t1.sl.v431 i arg3 arg5 v11 X_arg3 X_arg5 k)) (sumW (part3 a) (part3 b) (trip_k0_t1.sl.v433 i arg3 arg5 v11 X_arg3 X_arg5 k)),
        stack (accW (part0 a) (part0 d) (trip_k0_t1.sl.v427 i arg3 arg5 v8 X_arg3 X_arg5 k) (trip_k0_t1.sl.v422 i arg4 X_arg4 k))
          (accW (part1 a) (part1 d) (trip_k0_t1.sl.v429 i arg3 arg5 v8 X_arg3 X_arg5 k) (trip_k0_t1.sl.v422 i arg4 X_arg4 k))
          (accW (part2 a) (part2 d) (trip_k0_t1.sl.v431 i arg3 arg5 v11 X_arg3 X_arg5 k) (trip_k0_t1.sl.v425 i arg4 X_arg4 k))
          (accW (part3 a) (part3 d) (trip_k0_t1.sl.v433 i arg3 arg5 v11 X_arg3 X_arg5 k) (trip_k0_t1.sl.v425 i arg4 X_arg4 k))) := by
  unfold tripR_k0_t1 trip_k0_t1
  rfl

end Cert.Proof.AttnFwd

end
-- ==== Proof.AttnFwd.Masked.lean ====
/-
  The attention forward kernel's step on the diagonal: the scores above it are masked.
-/
module

public import proofs.«01_k».proof.Proof.AttnFwd.Trip

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen

abbrev Narrow := FVec Ideal S512x512 .f32

def gap (s : Blk) (r c : IVec S512x128 32) (n : BitVec 32) : Blk :=
  select (cmpi .sge r (addi c (broadcast S512x128 n))) s (broadcast S512x128 (Named.named κ "mask" 0xF149F2CA#32))

def half0 (v : IVec S1024x128 32) : IVec S512x128 32 := extractStridedSlice S512x128 ![0, 0] v slices_S1024x128_o0_0_S512x128
def half1 (v : IVec S1024x128 32) : IVec S512x128 32 := extractStridedSlice S512x128 ![512, 0] v slices_S1024x128_o512_0_S512x128
def near (v : FVec Ideal S1024x128 .bf16) : FVec Ideal S512x128 .bf16 := extractStridedSlice S512x128 ![0, 0] v slices_S1024x128_o0_0_S512x128

def nar0 (v0 v1 : IVec S1024x128 32) (s : Narrow) : Blk := gap (extractStridedSlice S512x128 ![0, 0] s slices_S512x512_o0_0_S512x128) (half0 v1) (half0 v0) 0#32
def nar1 (v0 v1 : IVec S1024x128 32) (s : Narrow) : Blk := gap (extractStridedSlice S512x128 ![0, 128] s slices_S512x512_o0_128_S512x128) (half0 v1) (half0 v0) 128#32
def nar2 (v0 v1 : IVec S1024x128 32) (s : Narrow) : Blk := gap (extractStridedSlice S512x128 ![0, 256] s slices_S512x512_o0_256_S512x128) (half0 v1) (half0 v0) 256#32
def nar3 (v0 v1 : IVec S1024x128 32) (s : Narrow) : Blk := gap (extractStridedSlice S512x128 ![0, 384] s slices_S512x512_o0_384_S512x128) (half0 v1) (half0 v0) 384#32
def wid4 (v0 v1 : IVec S1024x128 32) (s : Wide) : Blk := gap (col4 s) (half1 v1) (half1 v0) 512#32
def wid5 (v0 v1 : IVec S1024x128 32) (s : Wide) : Blk := gap (col5 s) (half1 v1) (half1 v0) 640#32
def wid6 (v0 v1 : IVec S1024x128 32) (s : Wide) : Blk := gap (col6 s) (half1 v1) (half1 v0) 768#32
def wid7 (v0 v1 : IVec S1024x128 32) (s : Wide) : Blk := gap (col7 s) (half1 v1) (half1 v0) 896#32

def topN (v0 v1 : IVec S1024x128 32) (m : Blk) (s : Narrow) : Blk := top m (max4 (nar0 v0 v1 s) (nar1 v0 v1 s) (nar2 v0 v1 s) (nar3 v0 v1 s))
def sumN (v0 v1 : IVec S1024x128 32) (m l : Blk) (s : Narrow) : Blk := sum4 m l (topN v0 v1 m s) (nar0 v0 v1 s) (nar1 v0 v1 s) (nar2 v0 v1 s) (nar3 v0 v1 s)
def accN (v0 v1 : IVec S1024x128 32) (m a : Blk) (s : Narrow) (v : FVec Ideal S1024x128 .bf16) : Blk := acc4 m a (topN v0 v1 m s) (nar0 v0 v1 s) (nar1 v0 v1 s) (nar2 v0 v1 s) (nar3 v0 v1 s) (near v)
def topM (v0 v1 : IVec S1024x128 32) (m : Blk) (s : Wide) : Blk := top m (max8 (col0 s) (col1 s) (col2 s) (col3 s) (wid4 v0 v1 s) (wid5 v0 v1 s) (wid6 v0 v1 s) (wid7 v0 v1 s))
def sumM (v0 v1 : IVec S1024x128 32) (m l : Blk) (s : Wide) : Blk := sum8 m l (topM v0 v1 m s) (col0 s) (col1 s) (col2 s) (col3 s) (wid4 v0 v1 s) (wid5 v0 v1 s) (wid6 v0 v1 s) (wid7 v0 v1 s)
def accM (v0 v1 : IVec S1024x128 32) (m a : Blk) (s : Wide) (v : FVec Ideal S1024x128 .bf16) : Blk := acc8 m a (topM v0 v1 m s) (col0 s) (col1 s) (col2 s) (col3 s) (wid4 v0 v1 s) (wid5 v0 v1 s) (wid6 v0 v1 s) (wid7 v0 v1 s) v

section
variable (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S2x4096x128 .bf16) (harg5 : arg5.IsWhole) (arg6 : Memref sig .tc .vmem S1024x256 .f32) (harg6 : arg6.IsWhole) (arg7 : Memref sig .tc .vmem S2x1024x128 .bf16) (harg7 : arg7.IsWhole)
    (x0 : Vec Ideal S1024x256 .bf16) (x1 : Vec Ideal S4096x256 .bf16) (x2 : Vec Ideal S4096x256 .bf16) (x3 : Vec Ideal S2x4096x128 .bf16)

theorem r17_eq : (kernelRun0_A.sl.r_17 c i arg2 harg2 arg3 harg3 arg4 harg4 arg5 harg5 arg6 harg6 arg7 harg7 x0 x1 x2 x3) = sumN kernelRun0_A.sl.v0 kernelRun0_A.sl.v1 (part0 (kernelRun0_A.sl.r_2 c i arg2 harg2 arg3 harg3 arg4 harg4 arg5 harg5 arg6 harg6 arg7 harg7 x0 x1 x2 x3)) (part0 (kernelRun0_A.sl.r_3 c i arg2 harg2 arg3 harg3 arg4 harg4 arg5 harg5 arg6 harg6 arg7 harg7 x0 x1 x2 x3)) (k0_pay205 (kernelRun0_A.sl.r c arg2 harg2 x0) (kernelRun0_A.sl.r_5 i arg3 harg3 arg5 harg5 x1 x3)) := rfl
theorem r18_eq : (kernelRun0_A.sl.r_18 c i arg2 harg2 arg3 harg3 arg4 harg4 arg5 harg5 arg6 harg6 arg7 harg7 x0 x1 x2 x3) = accN kernelRun0_A.sl.v0 kernelRun0_A.sl.v1 (part0 (kernelRun0_A.sl.r_2 c i arg2 harg2 arg3 harg3 arg4 harg4 arg5 harg5 arg6 harg6 arg7 harg7 x0 x1 x2 x3)) (part0 (kernelRun0_A.sl.r_4 c i arg2 harg2 arg3 harg3 arg4 harg4 arg5 harg5 arg6 harg6 arg7 harg7 x0 x1 x2 x3)) (k0_pay205 (kernelRun0_A.sl.r c arg2 harg2 x0) (kernelRun0_A.sl.r_5 i arg3 harg3 arg5 harg5 x1 x3)) (kernelRun0_A.sl.r_7 i arg4 harg4 x2) := rfl
theorem r39_eq : (kernelRun0_A.sl.r_39 c i arg2 harg2 arg3 harg3 arg4 harg4 arg5 harg5 arg6 harg6 arg7 harg7 x0 x1 x2 x3) = sumM kernelRun0_A.sl.v0 kernelRun0_A.sl.v1 (part1 (kernelRun0_A.sl.r_2 c i arg2 harg2 arg3 harg3 arg4 harg4 arg5 harg5 arg6 harg6 arg7 harg7 x0 x1 x2 x3)) (part1 (kernelRun0_A.sl.r_3 c i arg2 harg2 arg3 harg3 arg4 harg4 arg5 harg5 arg6 harg6 arg7 harg7 x0 x1 x2 x3)) (kernelRun0_A.sl.r_9 c i arg2 harg2 arg3 harg3 arg5 harg5 x0 x1 x3) := rfl
theorem r40_eq : (kernelRun0_A.sl.r_40 c i arg2 harg2 arg3 harg3 arg4 harg4 arg5 harg5 arg6 harg6 arg7 harg7 x0 x1 x2 x3) = accM kernelRun0_A.sl.v0 kernelRun0_A.sl.v1 (part1 (kernelRun0_A.sl.r_2 c i arg2 harg2 arg3 harg3 arg4 harg4 arg5 harg5 arg6 harg6 arg7 harg7 x0 x1 x2 x3)) (part1 (kernelRun0_A.sl.r_4 c i arg2 harg2 arg3 harg3 arg4 harg4 arg5 harg5 arg6 harg6 arg7 harg7 x0 x1 x2 x3)) (kernelRun0_A.sl.r_9 c i arg2 harg2 arg3 harg3 arg5 harg5 x0 x1 x3) (kernelRun0_A.sl.r_7 i arg4 harg4 x2) := rfl
theorem r48_eq : (kernelRun0_A.sl.r_48 c i arg2 harg2 arg3 harg3 arg4 harg4 arg5 harg5 arg6 harg6 arg7 harg7 x0 x1 x2 x3) = sumN kernelRun0_A.sl.v0 kernelRun0_A.sl.v1 (part2 (kernelRun0_A.sl.r_2 c i arg2 harg2 arg3 harg3 arg4 harg4 arg5 harg5 arg6 harg6 arg7 harg7 x0 x1 x2 x3)) (part2 (kernelRun0_A.sl.r_3 c i arg2 harg2 arg3 harg3 arg4 harg4 arg5 harg5 arg6 harg6 arg7 harg7 x0 x1 x2 x3)) (kernelRun0_A.sl.r_10 c i arg2 harg2 arg3 harg3 arg5 harg5 x0 x1 x3) := rfl
theorem r49_eq : (kernelRun0_A.sl.r_49 c i arg2 harg2 arg3 harg3 arg4 harg4 arg5 harg5 arg6 harg6 arg7 harg7 x0 x1 x2 x3) = accN kernelRun0_A.sl.v0 kernelRun0_A.sl.v1 (part2 (kernelRun0_A.sl.r_2 c i arg2 harg2 arg3 harg3 arg4 harg4 arg5 harg5 arg6 harg6 arg7 harg7 x0 x1 x2 x3)) (part2 (kernelRun0_A.sl.r_4 c i arg2 harg2 arg3 harg3 arg4 harg4 arg5 harg5 arg6 harg6 arg7 harg7 x0 x1 x2 x3)) (kernelRun0_A.sl.r_10 c i arg2 harg2 arg3 harg3 arg5 harg5 x0 x1 x3) (kernelRun0_A.sl.r_8 i arg4 harg4 x2) := rfl
theorem r58_eq : (kernelRun0_A.sl.r_58 c i arg2 harg2 arg3 harg3 arg4 harg4 arg5 harg5 arg6 harg6 arg7 harg7 x0 x1 x2 x3) = sumM kernelRun0_A.sl.v0 kernelRun0_A.sl.v1 (part3 (kernelRun0_A.sl.r_2 c i arg2 harg2 arg3 harg3 arg4 harg4 arg5 harg5 arg6 harg6 arg7 harg7 x0 x1 x2 x3)) (part3 (kernelRun0_A.sl.r_3 c i arg2 harg2 arg3 harg3 arg4 harg4 arg5 harg5 arg6 harg6 arg7 harg7 x0 x1 x2 x3)) (kernelRun0_A.sl.r_11 c i arg2 harg2 arg3 harg3 arg5 harg5 x0 x1 x3) := rfl
theorem r59_eq : (kernelRun0_A.sl.r_59 c i arg2 harg2 arg3 harg3 arg4 harg4 arg5 harg5 arg6 harg6 arg7 harg7 x0 x1 x2 x3) = accM kernelRun0_A.sl.v0 kernelRun0_A.sl.v1 (part3 (kernelRun0_A.sl.r_2 c i arg2 harg2 arg3 harg3 arg4 harg4 arg5 harg5 arg6 harg6 arg7 harg7 x0 x1 x2 x3)) (part3 (kernelRun0_A.sl.r_4 c i arg2 harg2 arg3 harg3 arg4 harg4 arg5 harg5 arg6 harg6 arg7 harg7 x0 x1 x2 x3)) (kernelRun0_A.sl.r_11 c i arg2 harg2 arg3 harg3 arg5 harg5 x0 x1 x3) (kernelRun0_A.sl.r_8 i arg4 harg4 x2) := rfl
theorem r60_eq : (kernelRun0_A.sl.r_60 c i arg2 harg2 arg3 harg3 arg4 harg4 arg5 harg5 arg6 harg6 arg7 harg7 x0 x1 x2 x3) = stack (topN kernelRun0_A.sl.v0 kernelRun0_A.sl.v1 (part0 (kernelRun0_A.sl.r_2 c i arg2 harg2 arg3 harg3 arg4 harg4 arg5 harg5 arg6 harg6 arg7 harg7 x0 x1 x2 x3)) (k0_pay205 (kernelRun0_A.sl.r c arg2 harg2 x0) (kernelRun0_A.sl.r_5 i arg3 harg3 arg5 harg5 x1 x3))) (topM kernelRun0_A.sl.v0 kernelRun0_A.sl.v1 (part1 (kernelRun0_A.sl.r_2 c i arg2 harg2 arg3 harg3 arg4 harg4 arg5 harg5 arg6 harg6 arg7 harg7 x0 x1 x2 x3)) (kernelRun0_A.sl.r_9 c i arg2 harg2 arg3 harg3 arg5 harg5 x0 x1 x3)) (topN kernelRun0_A.sl.v0 kernelRun0_A.sl.v1 (part2 (kernelRun0_A.sl.r_2 c i arg2 harg2 arg3 harg3 arg4 harg4 arg5 harg5 arg6 harg6 arg7 harg7 x0 x1 x2 x3)) (kernelRun0_A.sl.r_10 c i arg2 harg2 arg3 harg3 arg5 harg5 x0 x1 x3)) (topM kernelRun0_A.sl.v0 kernelRun0_A.sl.v1 (part3 (kernelRun0_A.sl.r_2 c i arg2 harg2 arg3 harg3 arg4 harg4 arg5 harg5 arg6 harg6 arg7 harg7 x0 x1 x2 x3)) (kernelRun0_A.sl.r_11 c i arg2 harg2 arg3 harg3 arg5 harg5 x0 x1 x3)) := rfl

end

theorem gap_at {a b n : ℕ} (s : Blk) (r c : IVec S512x128 32) (R : Fin 512) (j : Fin 128) (hr : r (ix2 R j) = BitVec.ofNat 32 a) (hc : c (ix2 R j) = BitVec.ofNat 32 b)
    (ha : a < 1024) (hb : b + n < 4096) :
    gap s r c (BitVec.ofNat 32 n) (ix2 R j) = if b + n ≤ a then (s (ix2 R j) : EReal) else ⊥ := by
  have h : gap s r c (BitVec.ofNat 32 n) (ix2 R j)
      = Scalar.select (IntOp.cmpi .sge (r (ix2 R j)) (IntOp.addi (c (ix2 R j)) (BitVec.ofNat 32 n))) (s (ix2 R j)) (Named.named κ "mask" 0xF149F2CA#32) := rfl
  have e1 : IntOp.addi (BitVec.ofNat 32 b) (BitVec.ofNat 32 n) = BitVec.ofNat 32 (b + n) := by
    simp [IntOp.addi, BitVec.ofNat_add]
  rw [h, hr, hc, e1]
  unfold Scalar.select
  refine if_congr (IntOp.cmpi_sge.trans ?_) rfl (IdealRules.named_const.ideal_named_scalar _ _ _ _ rfl)
  rw [Cert.Proof.Attn.word_int hb, Cert.Proof.Attn.word_int (by omega)]
  omega

theorem v0_at (r : Fin 1024) (j : Fin 128) : kernelRun0_A.sl.v0 (ix2 r j) = BitVec.ofNat 32 j.val := by
  unfold kernelRun0_A.sl.v0
  pointwise

theorem v1_at (r : Fin 1024) (j : Fin 128) : kernelRun0_A.sl.v1 (ix2 r j) = BitVec.ofNat 32 r.val := by
  unfold kernelRun0_A.sl.v1
  pointwise

theorem half0_at (v : IVec S1024x128 32) (r : Fin 512) (j : Fin 128) : half0 v (ix2 r j) = v (ix2 ⟨r.val, by omega⟩ j) :=
  congrArg v (funext (Fin.forall_fin_two.2 ⟨Fin.ext (by simp), Fin.ext (by simp)⟩))
theorem half1_at (v : IVec S1024x128 32) (r : Fin 512) (j : Fin 128) : half1 v (ix2 r j) = v (ix2 ⟨512 + r.val, by omega⟩ j) :=
  congrArg v (funext (Fin.forall_fin_two.2 ⟨Fin.ext (by simp), Fin.ext (by simp)⟩))
theorem near_at (v : FVec Ideal S1024x128 .bf16) (r : Fin 512) (j : Fin 128) : near v (ix2 r j) = v (ix2 ⟨r.val, by omega⟩ j) :=
  congrArg v (funext (Fin.forall_fin_two.2 ⟨Fin.ext (by simp), Fin.ext (by simp)⟩))

theorem across_nar (s : Narrow) (r c : Fin 512) :
    across4 (nar0 kernelRun0_A.sl.v0 kernelRun0_A.sl.v1 s) (nar1 kernelRun0_A.sl.v0 kernelRun0_A.sl.v1 s) (nar2 kernelRun0_A.sl.v0 kernelRun0_A.sl.v1 s) (nar3 kernelRun0_A.sl.v0 kernelRun0_A.sl.v1 s) r c = if c.val ≤ r.val then (s (ix2 r c) : EReal) else ⊥ := by
  have h : ∀ (i : Fin 4) (j : Fin 128), (![nar0 kernelRun0_A.sl.v0 kernelRun0_A.sl.v1 s, nar1 kernelRun0_A.sl.v0 kernelRun0_A.sl.v1 s, nar2 kernelRun0_A.sl.v0 kernelRun0_A.sl.v1 s, nar3 kernelRun0_A.sl.v0 kernelRun0_A.sl.v1 s] i) (ix2 r j)
      = if i.val * 128 + j.val ≤ r.val then (s (ix2 r ⟨i.val * 128 + j.val, by omega⟩) : EReal) else ⊥ := by
    intro i j
    have hr : half0 kernelRun0_A.sl.v1 (ix2 r j) = BitVec.ofNat 32 r.val := by rw [half0_at, v1_at]
    have hc : half0 kernelRun0_A.sl.v0 (ix2 r j) = BitVec.ofNat 32 j.val := by rw [half0_at, v0_at]
    fin_cases i <;> refine (gap_at _ _ _ r j hr hc (by omega) (by omega)).trans (if_congr (by simp <;> omega) ?_ rfl) <;>
      exact congrArg s (funext (Fin.forall_fin_two.2 ⟨Fin.ext (by simp), Fin.ext (by simp)⟩))
  unfold across4
  rw [h]
  have e : c.val / 128 * 128 + c.val % 128 = c.val := by omega
  exact if_congr (by dsimp only; omega) (congrArg s (congrArg (ix2 r) (Fin.ext e))) rfl

theorem across_wid (s : Wide) (r : Fin 512) (c : Fin 1024) :
    across8 (col0 s) (col1 s) (col2 s) (col3 s) (wid4 kernelRun0_A.sl.v0 kernelRun0_A.sl.v1 s) (wid5 kernelRun0_A.sl.v0 kernelRun0_A.sl.v1 s) (wid6 kernelRun0_A.sl.v0 kernelRun0_A.sl.v1 s) (wid7 kernelRun0_A.sl.v0 kernelRun0_A.sl.v1 s) r c = if c.val ≤ 512 + r.val then (s (ix2 r c) : EReal) else ⊥ := by
  have h : ∀ (i : Fin 8) (j : Fin 128), (![col0 s, col1 s, col2 s, col3 s, wid4 kernelRun0_A.sl.v0 kernelRun0_A.sl.v1 s, wid5 kernelRun0_A.sl.v0 kernelRun0_A.sl.v1 s, wid6 kernelRun0_A.sl.v0 kernelRun0_A.sl.v1 s, wid7 kernelRun0_A.sl.v0 kernelRun0_A.sl.v1 s] i) (ix2 r j)
      = if i.val * 128 + j.val ≤ 512 + r.val then (s (ix2 r ⟨i.val * 128 + j.val, by omega⟩) : EReal) else ⊥ := by
    intro i j
    have hr : half1 kernelRun0_A.sl.v1 (ix2 r j) = BitVec.ofNat 32 (512 + r.val) := by rw [half1_at, v1_at]
    have hc : half1 kernelRun0_A.sl.v0 (ix2 r j) = BitVec.ofNat 32 j.val := by rw [half1_at, v0_at]
    fin_cases i
    iterate 4
      rw [if_pos (by simp; omega)]
      exact congrArg s (funext (Fin.forall_fin_two.2 ⟨Fin.ext (by simp), Fin.ext (by simp)⟩))
    all_goals
      refine (gap_at _ _ _ r j hr hc (by omega) (by omega)).trans (if_congr (by simp <;> omega) ?_ rfl)
      exact congrArg s (funext (Fin.forall_fin_two.2 ⟨Fin.ext (by simp), Fin.ext (by simp)⟩))
  unfold across8
  rw [h]
  have e : c.val / 128 * 128 + c.val % 128 = c.val := by omega
  exact if_congr (by dsimp only; omega) (congrArg s (congrArg (ix2 r) (Fin.ext e))) rfl

theorem unitN {n : ℕ} {E : ℕ → ℝ} {V : ℕ → Fin 128 → ℝ} {m0 l0 a0 : Blk} {r : Fin 512} (s : Narrow) (v : FVec Ideal S1024x128 .bf16)
    (h : Row n E V (fun j => m0 (ix2 r j)) (fun j => l0 (ix2 r j)) (fun j => a0 (ix2 r j)))
    (hx : ∀ c : Fin 512, Score (if c.val ≤ r.val then s (ix2 r c) else ⊥) (E (n + c.val))) (hx0 : IsReal (s (ix2 r 0)))
    (hv : ∀ (c : Fin 1024) d, v (ix2 c d) = (V (n + c.val) d : EReal)) :
    Row (n + 512) E V (fun j => topN kernelRun0_A.sl.v0 kernelRun0_A.sl.v1 m0 s (ix2 r j)) (fun j => sumN kernelRun0_A.sl.v0 kernelRun0_A.sl.v1 m0 l0 s (ix2 r j)) (fun j => accN kernelRun0_A.sl.v0 kernelRun0_A.sl.v1 m0 a0 s v (ix2 r j)) :=
  unit4 _ _ _ _ (near v) h (fun c => by rw [across_nar]; exact hx c) (by rw [across_nar, if_pos (by simp)]; exact hx0)
    (fun c d => by rw [near_at]; exact hv _ d)

theorem unitM {n : ℕ} {E : ℕ → ℝ} {V : ℕ → Fin 128 → ℝ} {m0 l0 a0 : Blk} {r : Fin 512} (s : Wide) (v : FVec Ideal S1024x128 .bf16)
    (h : Row n E V (fun j => m0 (ix2 r j)) (fun j => l0 (ix2 r j)) (fun j => a0 (ix2 r j)))
    (hx : ∀ c : Fin 1024, Score (if c.val ≤ 512 + r.val then s (ix2 r c) else ⊥) (E (n + c.val))) (hx0 : IsReal (s (ix2 r 0)))
    (hv : ∀ (c : Fin 1024) d, v (ix2 c d) = (V (n + c.val) d : EReal)) :
    Row (n + 1024) E V (fun j => topM kernelRun0_A.sl.v0 kernelRun0_A.sl.v1 m0 s (ix2 r j)) (fun j => sumM kernelRun0_A.sl.v0 kernelRun0_A.sl.v1 m0 l0 s (ix2 r j)) (fun j => accM kernelRun0_A.sl.v0 kernelRun0_A.sl.v1 m0 a0 s v (ix2 r j)) :=
  unit8 _ _ _ _ _ _ _ _ v h (fun c => by rw [across_wid]; exact hx c) (by rw [across_wid, if_pos (by simp)]; exact hx0) hv

end Cert.Proof.AttnFwd

end
-- ==== Proof.AttnFwd.Scores.lean ====
/-
  The scores of the attention forward kernel, and what a pass over the keys keeps so of its running state.
-/
module

public import proofs.«01_k».proof.Proof.AttnFwd.Masked

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.Proof.Attn (keyLane rowLane lane_sum lit_one lit_zero word_int)

/-- A query's lanes beside the ones that pick the key's bias. -/
def qcat (q : Fin 128 → ℝ) (l : Fin 256) : ℝ := if h : l.val < 128 then q ⟨l.val, h⟩ else if l.val < 131 then 1 else 0
/-- A key's lanes beside its bias. -/
def kcat (k : Fin 128 → ℝ) (x : ℝ) (l : Fin 256) : ℝ := if h : l.val < 128 then k ⟨l.val, h⟩ else keyLane x ⟨l.val - 128, by omega⟩

theorem cat_sum (q k : Fin 128 → ℝ) (x : ℝ) : ∑ l, qcat q l * kcat k x l = ∑ l, q l * k l + x := by
  refine (Fin.sum_univ_add (a := 128) (b := 128) (fun l => qcat q l * kcat k x l)).trans (congrArg₂ (· + ·) ?_ ?_)
  · refine Finset.sum_congr rfl fun l _ => ?_
    unfold qcat kcat
    rw [dif_pos (by simp), dif_pos (by simp)]
    rfl
  · refine Eq.trans (Finset.sum_congr rfl fun l _ => ?_) ((lane_sum x 0).trans (zero_add x))
    unfold qcat kcat
    rw [dif_neg (by simp), dif_neg (by simp)]
    have e : (⟨(Fin.natAdd 128 l : Fin (128 + 128)).val - 128, by simp⟩ : Fin 128) = l := Fin.ext (by simp)
    rw [e]
    refine congrArg₂ (· * ·) ?_ rfl
    unfold rowLane
    show (if (128 + l.val) < 131 then (1 : ℝ) else 0) = if l.val = 3 then 0 else if l.val < 3 then 1 else 0
    split_ifs <;> first | rfl | omega

theorem wide_dot (a : FVec Ideal S512x256 .bf16) (b : FVec Ideal S1024x256 .bf16) (r : Fin 512) (c : Fin 1024) :
    matmul dot_S512x256_S1024x256_S512x1024_1_1_0_0_n_n none a b (constant S512x1024 .f32 0x00000000#32) (ix2 r c)
      = ∑ l : Fin 256, (a (ix2 r l) : EReal) * b (ix2 c l) := by
  pointwise

theorem narrow_dot (a : FVec Ideal S512x256 .bf16) (b : FVec Ideal S512x256 .bf16) (r : Fin 512) (c : Fin 512) :
    matmul dot_S512x256_S512x256_S512x512_1_1_0_0_n_n none a b (constant S512x512 .f32 0x00000000#32) (ix2 r c)
      = ∑ l : Fin 256, (a (ix2 r l) : EReal) * b (ix2 c l) := by
  pointwise

theorem ones_at (R : Fin 1024) (l : Fin 128) : (k0_pay172 (F := Ideal) (ix2 R l) : EReal) = ((if l.val < 3 then 1 else 0 : ℝ) : EReal) := by
  unfold k0_pay172
  dsimp only
  pointwise
  have e : (Scalar.select (IntOp.cmpi .slt (BitVec.ofNat 32 l.val) (BitVec.ofNat 32 3)) 1 0 : EReal) = if l.val < 3 then 1 else 0 := by
    unfold Scalar.select
    refine if_congr (IntOp.cmpi_slt.trans ?_) rfl rfl
    rw [word_int (by omega), word_int (by omega)]
    omega
  refine e.trans ?_
  split_ifs <;> simp

theorem join_at (a b : FVec Ideal S1024x128 .bf16) (R : Fin 1024) (l : Fin 256) :
    (concatenate S1024x256 1 [⟨S1024x128, a⟩, ⟨S1024x128, b⟩] concatenates_S1024x128_S1024x128_S1024x256_d1 (ix2 R l) : EReal)
      = if h : l.val < 128 then (a (ix2 R ⟨l.val, h⟩) : EReal) else b (ix2 R ⟨l.val - 128, by omega⟩) := by
  pointwise

theorem same_at (a : FVec Ideal S1024x128 .bf16) (R : Fin 1024) (l : Fin 128) : (shapeCast S1024x128 a shapeCasts_S1024x128_S1024x128 (ix2 R l) : EReal) = a (ix2 R l) := by
  pointwise

theorem flat_at (a : FVec Ideal S1x1024x128 .bf16) (R : Fin 1024) (l : Fin 128) : (shapeCast S1024x128 a shapeCasts_S1x1024x128_S1024x128 (ix2 R l) : EReal) = a (ix3 0 R l) := by
  pointwise

theorem query_at (a : Vec Ideal S1024x128 .bf16) (q : Fin 1024 → Fin 128 → ℝ) (h : ∀ R l, a (ix2 R l) = ((q R l : ℝ) : EReal)) (R : Fin 1024) (l : Fin 256) :
    (k0_pay173 (F := Ideal) a (ix2 R l) : EReal) = (qcat (q R) l : EReal) := by
  refine (join_at _ _ R l).trans ?_
  unfold qcat
  split_ifs with h1 h2
  · exact (same_at _ _ _).trans (h _ _)
  · exact (ones_at _ _).trans (by rw [if_pos (by dsimp only; omega)])
  · exact (ones_at _ _).trans (by rw [if_neg (by dsimp only; omega)])

theorem key_at (a : Vec Ideal S1024x128 .bf16) (b : Vec Ideal S1x1024x128 .bf16) (k : Fin 1024 → Fin 128 → ℝ) (x : Fin 1024 → ℝ)
    (ha : ∀ R l, a (ix2 R l) = ((k R l : ℝ) : EReal)) (hb : ∀ R l, b (ix3 0 R l) = ((keyLane (x R) l : ℝ) : EReal)) (R : Fin 1024) (l : Fin 256) :
    (k0_pay200 (F := Ideal) a b (ix2 R l) : EReal) = (kcat (k R) (x R) l : EReal) := by
  refine (join_at _ _ R l).trans ?_
  unfold kcat
  split_ifs with h1
  · exact (same_at _ _ _).trans (ha _ _)
  · exact (flat_at _ _ _).trans (hb _ _)

def upW (q k : FVec Ideal S1024x256 .bf16) : Wide :=
  matmul dot_S512x256_S1024x256_S512x1024_1_1_0_0_n_n none (extractStridedSlice S512x256 ![0, 0] q slices_S1024x256_o0_0_S512x256) k (constant S512x1024 .f32 0x00000000#32)
def loW (q k : FVec Ideal S1024x256 .bf16) : Wide :=
  matmul dot_S512x256_S1024x256_S512x1024_1_1_0_0_n_n none (extractStridedSlice S512x256 ![512, 0] q slices_S1024x256_o512_0_S512x256) k (constant S512x1024 .f32 0x00000000#32)
def upN (q k : FVec Ideal S1024x256 .bf16) : Narrow :=
  matmul dot_S512x256_S512x256_S512x512_1_1_0_0_n_n none (extractStridedSlice S512x256 ![0, 0] q slices_S1024x256_o0_0_S512x256)
    (extractStridedSlice S512x256 ![0, 0] k slices_S1024x256_o0_0_S512x256) (constant S512x512 .f32 0x00000000#32)

theorem upper_at (q : FVec Ideal S1024x256 .bf16) (r : Fin 512) (l : Fin 256) :
    extractStridedSlice S512x256 ![0, 0] q slices_S1024x256_o0_0_S512x256 (ix2 r l) = q (ix2 ⟨r.val, by omega⟩ l) :=
  congrArg q (funext (Fin.forall_fin_two.2 ⟨Fin.ext (by simp), Fin.ext (by simp)⟩))
theorem lower_at (q : FVec Ideal S1024x256 .bf16) (r : Fin 512) (l : Fin 256) :
    extractStridedSlice S512x256 ![512, 0] q slices_S1024x256_o512_0_S512x256 (ix2 r l) = q (ix2 ⟨512 + r.val, by omega⟩ l) :=
  congrArg q (funext (Fin.forall_fin_two.2 ⟨Fin.ext (by simp), Fin.ext (by simp)⟩))

section
variable {q k : FVec Ideal S1024x256 .bf16} {Q K : Fin 1024 → Fin 128 → ℝ} {X : Fin 1024 → ℝ}
  (hq : ∀ R l, (q (ix2 R l) : EReal) = (qcat (Q R) l : EReal)) (hk : ∀ R l, (k (ix2 R l) : EReal) = (kcat (K R) (X R) l : EReal))

theorem real_sum (q k : Fin 128 → ℝ) (x : ℝ) : ∑ l, (qcat q l : EReal) * (kcat k x l : EReal) = ((∑ l, q l * k l + x : ℝ) : EReal) := by
  refine (Finset.sum_congr rfl fun l _ => (EReal.coe_mul _ _).symm).trans ?_
  rw [← coe_sum, cat_sum]

include hq hk in
theorem upW_at (r : Fin 512) (c : Fin 1024) : (upW q k (ix2 r c) : EReal) = ((∑ l, Q ⟨r.val, by omega⟩ l * K c l + X c : ℝ) : EReal) := by
  refine (wide_dot _ _ r c).trans ((Finset.sum_congr rfl fun l _ => ?_).trans (real_sum _ _ _))
  rw [upper_at, hq, hk]
include hq hk in
theorem loW_at (r : Fin 512) (c : Fin 1024) : (loW q k (ix2 r c) : EReal) = ((∑ l, Q ⟨512 + r.val, by omega⟩ l * K c l + X c : ℝ) : EReal) := by
  refine (wide_dot _ _ r c).trans ((Finset.sum_congr rfl fun l _ => ?_).trans (real_sum _ _ _))
  rw [lower_at, hq, hk]
include hq hk in
theorem upN_at (r c : Fin 512) : (upN q k (ix2 r c) : EReal) = ((∑ l, Q ⟨r.val, by omega⟩ l * K ⟨c.val, by omega⟩ l + X ⟨c.val, by omega⟩ : ℝ) : EReal) := by
  refine (narrow_dot _ _ r c).trans ((Finset.sum_congr rfl fun l _ => ?_).trans (real_sum _ _ _))
  rw [upper_at, upper_at, hq, hk]

end

/-- A lane's place among both heads'. -/
def lane2 (t : Fin 2) (l : Fin 128) : Fin 256 := ⟨128 * t.val + l.val, by omega⟩

/-- What a grid point works on: two heads' queries of a block of rows, and their keys, values and biases. -/
structure Pt where
  j : ℕ
  Q : Fin 2 → Fin 1024 → Fin 128 → ℝ
  K : Fin 2 → ℕ → Fin 128 → ℝ
  V : Fin 2 → ℕ → Fin 128 → ℝ
  X : Fin 2 → ℕ → ℝ

def Pt.score (I : Pt) (t : Fin 2) (R : Fin 1024) (C : ℕ) : ℝ := ∑ l, I.Q t R l * I.K t C l + I.X t C
def Pt.E (I : Pt) (t : Fin 2) (R : Fin 1024) (C : ℕ) : ℝ := if C ≤ 1024 * I.j + R.val then Real.exp (I.score t R C * Real.log 2) else 0

theorem Pt.seen (I : Pt) {t : Fin 2} {R : Fin 1024} {C : ℕ} (h : C ≤ 1024 * I.j + R.val) : Score (I.score t R C : EReal) (I.E t R C) :=
  .inr ⟨_, rfl, by unfold Pt.E; rw [if_pos h]⟩
theorem Pt.unseen (I : Pt) {t : Fin 2} {R : Fin 1024} {C : ℕ} (h : ¬C ≤ 1024 * I.j + R.val) : Score ⊥ (I.E t R C) :=
  .inl ⟨rfl, by unfold Pt.E; rw [if_neg h]⟩

def hd : Fin 4 → Fin 2 := ![0, 0, 1, 1]
def rowOf (k : Fin 4) (r : Fin 512) : Fin 1024 := (![⟨r.val, by omega⟩, ⟨512 + r.val, by omega⟩, ⟨r.val, by omega⟩, ⟨512 + r.val, by omega⟩] : Fin 4 → Fin 1024) k

/-- The four units' running state after keys `0 … n k - 1`. -/
def Held (I : Pt) (n : Fin 4 → ℕ) (M L A : Fin 4 → Blk) : Prop := ∀ (k : Fin 4) (r : Fin 512),
  Row (n k) (I.E (hd k) (rowOf k r)) (I.V (hd k)) (fun j => M k (ix2 r j)) (fun j => L k (ix2 r j)) (fun j => A k (ix2 r j))

def parts (x : Big) : Fin 4 → Blk := ![part0 x, part1 x, part2 x, part3 x]

theorem parts_stack (a b c d : Blk) : parts (stack a b c d) = ![a, b, c, d] := by
  funext k
  refine funext fun y => ?_
  have e : y = ix2 (y 0) (y 1) := funext (Fin.forall_fin_two.2 ⟨rfl, rfl⟩)
  rw [e]
  exact (parts_at _ k (y 0) (y 1)).trans (stack_at a b c d k (y 0) (y 1))

theorem load_at {κ : Kind} {sp : Space} {s : Shape} {e : EltTy} (v : View sig κ sp s e) (f : v.ty.Contents (Elt Ideal))
    {off size : Fin s.rank → ℕ} (inb : ∀ a, off a + size a ≤ s.size a) (y : (Rect.unit off size inb).shape.Idx) (z : s.Idx)
    (h : ∀ a, (z a).val = off a + (y a).val) :
    v.readAt (Elt Ideal) (Rect.unit off size inb).toLoadRect f y = v.read (Elt Ideal) f z :=
  congrArg (v.read (Elt Ideal) f) (funext fun a => Fin.ext (by
    show off a + 1 * (y a).val = (z a).val
    rw [h a, Nat.one_mul]))

section
variable (I : Pt) {arg2 : Memref sig .tc .vmem S1024x256 .bf16} {arg3 : Memref sig .tc .vmem S4096x256 .bf16} {arg4 : Memref sig .tc .vmem S4096x256 .bf16} {arg5 : Memref sig .tc .vmem S2x4096x128 .bf16}
  {X_arg3 : BufTy.Contents (Elt Ideal) arg3.view.ty} {X_arg4 : BufTy.Contents (Elt Ideal) arg4.view.ty} {X_arg5 : BufTy.Contents (Elt Ideal) arg5.view.ty}
  (hK : ∀ t (C : Fin 4096) (l : Fin 128), arg3.view.read (Elt Ideal) X_arg3 (ix2 C (lane2 t l)) = ((I.K t C.val l : ℝ) : EReal))
  (hV : ∀ t (C : Fin 4096) (l : Fin 128), arg4.view.read (Elt Ideal) X_arg4 (ix2 C (lane2 t l)) = ((I.V t C.val l : ℝ) : EReal))
  (hX : ∀ t (C : Fin 4096) (l : Fin 128), arg5.view.read (Elt Ideal) X_arg5 (ix3 t C l) = ((keyLane (I.X t C.val) l : ℝ) : EReal))

/-- A block of keys, of values and of biases, loaded. -/
theorem keys_load {f : Fin 2 → ℕ → Fin 128 → ℝ} {v : View sig .tc .vmem S4096x256 .bf16} {G : v.ty.Contents (Elt Ideal)}
    (h : ∀ t (C : Fin 4096) (l : Fin 128), v.read (Elt Ideal) G (ix2 C (lane2 t l)) = ((f t C.val l : ℝ) : EReal))
    {off : Fin 2 → ℕ} {n : ℕ} (t : Fin 2) (ho : off = ![1024 * n, 128 * t.val]) (hn : n < 4) (inb) (R : Fin 1024) (l : Fin 128) :
    v.readAt (Elt Ideal) (Rect.unit (s := S4096x256) off S1024x128.size inb).toLoadRect G (ix2 R l) = ((f t (1024 * n + R.val) l : ℝ) : EReal) := by
  subst ho
  exact (load_at v G inb (ix2 R l) (ix2 ⟨1024 * n + R.val, by omega⟩ (lane2 t l)) (Fin.forall_fin_two.mpr ⟨rfl, rfl⟩)).trans (h t _ l)

theorem bias_load {f : Fin 2 → ℕ → ℝ} {v : View sig .tc .vmem S2x4096x128 .bf16} {G : v.ty.Contents (Elt Ideal)}
    (h : ∀ t (C : Fin 4096) (l : Fin 128), v.read (Elt Ideal) G (ix3 t C l) = ((keyLane (f t C.val) l : ℝ) : EReal))
    {off : Fin 3 → ℕ} {n : ℕ} (t : Fin 2) (ho : off = ![t.val, 1024 * n, 0]) (hn : n < 4) (inb) (R : Fin 1024) (l : Fin 128) :
    v.readAt (Elt Ideal) (Rect.unit (s := S2x4096x128) off S1x1024x128.size inb).toLoadRect G (ix3 0 R l) = ((keyLane (f t (1024 * n + R.val)) l : ℝ) : EReal) := by
  subst ho
  refine (load_at v G inb (ix3 0 R l) (ix3 t ⟨1024 * n + R.val, by omega⟩ l) ?_).trans (h t _ l)
  intro a
  fin_cases a
  · rfl
  · rfl
  · exact (Nat.zero_add _).symm

end

theorem trips_eq : ∀ i : grid0.Coords, (k0_t1_loop i).trips = (i 1).val := by decide +kernel
theorem no_trips : ∀ i : grid0.Coords, (k0_t2_loop i).trips = 0 := by decide +kernel

theorem off_trip : ∀ (i : grid0.Coords) (k : Fin (k0_t1_loop i).trips), k0_off1 i k = ![1024 * k.val, 128 * (0 : Fin 2).val] ∧ k0_off2 i k = ![(0 : Fin 2).val, 1024 * k.val, 0]
    ∧ k0_off3 i k = ![1024 * k.val, 128 * (1 : Fin 2).val] ∧ k0_off4 i k = ![(1 : Fin 2).val, 1024 * k.val, 0] := by decide +kernel
theorem off_last : ∀ (i : grid0.Coords), k0_off9 i = ![1024 * (i 1).val, 128 * (0 : Fin 2).val] ∧ k0_off10 i = ![(0 : Fin 2).val, 1024 * (i 1).val, 0]
    ∧ k0_off11 i = ![1024 * (i 1).val, 128 * (1 : Fin 2).val] ∧ k0_off12 i = ![(1 : Fin 2).val, 1024 * (i 1).val, 0] := by decide +kernel

section
variable (I : Pt) (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S2x4096x128 .bf16) (harg5 : arg5.IsWhole) (arg6 : Memref sig .tc .vmem S1024x256 .f32) (harg6 : arg6.IsWhole) (arg7 : Memref sig .tc .vmem S2x1024x128 .bf16) (harg7 : arg7.IsWhole) (v8 : Vec Ideal S1024x128 .bf16) (v11 : Vec Ideal S1024x128 .bf16) (X_arg3 : BufTy.Contents (Elt Ideal) arg3.view.ty) (X_arg4 : BufTy.Contents (Elt Ideal) arg4.view.ty) (X_arg5 : BufTy.Contents (Elt Ideal) arg5.view.ty)  (hj : I.j = (i 1).val)
  (hQ0 : ∀ R l, v8 (ix2 R l) = ((I.Q 0 R l : ℝ) : EReal)) (hQ1 : ∀ R l, v11 (ix2 R l) = ((I.Q 1 R l : ℝ) : EReal))
  (hK : ∀ t (C : Fin 4096) (l : Fin 128), arg3.view.read (Elt Ideal) X_arg3 (ix2 C (lane2 t l)) = ((I.K t C.val l : ℝ) : EReal))
  (hV : ∀ t (C : Fin 4096) (l : Fin 128), arg4.view.read (Elt Ideal) X_arg4 (ix2 C (lane2 t l)) = ((I.V t C.val l : ℝ) : EReal))
  (hX : ∀ t (C : Fin 4096) (l : Fin 128), arg5.view.read (Elt Ideal) X_arg5 (ix3 t C l) = ((keyLane (I.X t C.val) l : ℝ) : EReal))

include hj hQ0 hQ1 hK hV hX in
theorem trip_held (k : Fin (k0_t1_loop i).trips) (a b d : Big) (h : Held I (fun _ => 1024 * k.val) (parts a) (parts b) (parts d)) :
    Held I (fun _ => 1024 * k.val + 1024) (parts (tripR_k0_t1 (F := Ideal) Variants.none c none i arg2 harg2 arg3 harg3 arg4 harg4 arg5 harg5 arg6 harg6 arg7 harg7 v8 v11 X_arg3 X_arg4 X_arg5 k (a, b, d)).1)
      (parts (tripR_k0_t1 (F := Ideal) Variants.none c none i arg2 harg2 arg3 harg3 arg4 harg4 arg5 harg5 arg6 harg6 arg7 harg7 v8 v11 X_arg3 X_arg4 X_arg5 k (a, b, d)).2.1)
      (parts (tripR_k0_t1 (F := Ideal) Variants.none c none i arg2 harg2 arg3 harg3 arg4 harg4 arg5 harg5 arg6 harg6 arg7 harg7 v8 v11 X_arg3 X_arg4 X_arg5 k (a, b, d)).2.2) := by
  have ht := trips_eq i
  have hi := (i 1).isLt
  have hi' : (i 1).val < 4 := hi
  have hk := k.isLt
  have hn : k.val < 4 := by omega
  obtain ⟨o1, o2, o3, o4⟩ := off_trip i k
  have q0 := query_at v8 (I.Q 0) hQ0
  have q1 := query_at v11 (I.Q 1) hQ1
  have k0 := key_at _ _ (fun R => I.K 0 (1024 * k.val + R.val)) (fun R => I.X 0 (1024 * k.val + R.val)) (keys_load hK 0 o1 hn (k0_off1_inb i k)) (bias_load hX 0 o2 hn (k0_off2_inb i k))
  have k1 := key_at _ _ (fun R => I.K 1 (1024 * k.val + R.val)) (fun R => I.X 1 (1024 * k.val + R.val)) (keys_load hK 1 o3 hn (k0_off3_inb i k)) (bias_load hX 1 o4 hn (k0_off4_inb i k))
  have w0 : ∀ (C : Fin 1024) l, (trip_k0_t1.sl.v422 i arg4 X_arg4 k (ix2 C l) : EReal) = ((I.V 0 (1024 * k.val + C.val) l : ℝ) : EReal) := fun C l =>
    (same_at _ C l).trans (keys_load hV 0 o1 hn _ C l)
  have w1 : ∀ (C : Fin 1024) l, (trip_k0_t1.sl.v425 i arg4 X_arg4 k (ix2 C l) : EReal) = ((I.V 1 (1024 * k.val + C.val) l : ℝ) : EReal) := fun C l =>
    (same_at _ C l).trans (keys_load hV 1 o3 hn _ C l)
  have s0 : ∀ r C, (trip_k0_t1.sl.v427 i arg3 arg5 v8 X_arg3 X_arg5 k (ix2 r C) : EReal) = (I.score 0 (rowOf 0 r) (1024 * k.val + C.val) : EReal) := fun r C => upW_at q0 k0 r C
  have s1 : ∀ r C, (trip_k0_t1.sl.v429 i arg3 arg5 v8 X_arg3 X_arg5 k (ix2 r C) : EReal) = (I.score 0 (rowOf 1 r) (1024 * k.val + C.val) : EReal) := fun r C => loW_at q0 k0 r C
  have s2 : ∀ r C, (trip_k0_t1.sl.v431 i arg3 arg5 v11 X_arg3 X_arg5 k (ix2 r C) : EReal) = (I.score 1 (rowOf 2 r) (1024 * k.val + C.val) : EReal) := fun r C => upW_at q1 k1 r C
  have s3 : ∀ r C, (trip_k0_t1.sl.v433 i arg3 arg5 v11 X_arg3 X_arg5 k (ix2 r C) : EReal) = (I.score 1 (rowOf 3 r) (1024 * k.val + C.val) : EReal) := fun r C => loW_at q1 k1 r C
  have hs : ∀ (t : Fin 2) (R : Fin 1024) (C : Fin 1024), Score (I.score t R (1024 * k.val + C.val) : EReal) (I.E t R (1024 * k.val + C.val)) := fun t R C =>
    I.seen (by have := C.isLt; rw [hj]; omega)
  rw [trip_eq]
  dsimp only
  rw [parts_stack, parts_stack, parts_stack]
  intro u r
  have hu := h u r
  fin_cases u
  · exact unitW _ _ hu (fun C => by rw [s0]; exact hs _ _ C) ⟨_, s0 r 0⟩ w0
  · exact unitW _ _ hu (fun C => by rw [s1]; exact hs _ _ C) ⟨_, s1 r 0⟩ w0
  · exact unitW _ _ hu (fun C => by rw [s2]; exact hs _ _ C) ⟨_, s2 r 0⟩ w1
  · exact unitW _ _ hu (fun C => by rw [s3]; exact hs _ _ C) ⟨_, s3 r 0⟩ w1

include hj hQ0 hQ1 hK hV hX in
theorem loop_held (init : Big × Big × Big) (h : Held I (fun _ => 0) (parts init.1) (parts init.2.1) (parts init.2.2)) : ∀ k : ℕ, k ≤ (k0_t1_loop i).trips →
    Held I (fun _ => 1024 * k) (parts (st_k0_t1 (F := Ideal) Variants.none c none i arg2 harg2 arg3 harg3 arg4 harg4 arg5 harg5 arg6 harg6 arg7 harg7 v8 v11 X_arg3 X_arg4 X_arg5 init k).1)
      (parts (st_k0_t1 (F := Ideal) Variants.none c none i arg2 harg2 arg3 harg3 arg4 harg4 arg5 harg5 arg6 harg6 arg7 harg7 v8 v11 X_arg3 X_arg4 X_arg5 init k).2.1)
      (parts (st_k0_t1 (F := Ideal) Variants.none c none i arg2 harg2 arg3 harg3 arg4 harg4 arg5 harg5 arg6 harg6 arg7 harg7 v8 v11 X_arg3 X_arg4 X_arg5 init k).2.2) := by
  intro k
  induction k with
  | zero => exact fun _ => h
  | succ k ih =>
    intro hk
    have e := st_k0_t1_succ (F := Ideal) Variants.none c none i arg2 harg2 arg3 harg3 arg4 harg4 arg5 harg5 arg6 harg6 arg7 harg7 v8 v11 X_arg3 X_arg4 X_arg5 init ⟨k, by omega⟩
    dsimp only at e
    rw [e]
    exact trip_held I c i arg2 harg2 arg3 harg3 arg4 harg4 arg5 harg5 arg6 harg6 arg7 harg7 v8 v11 X_arg3 X_arg4 X_arg5 hj hQ0 hQ1 hK hV hX ⟨k, by omega⟩ _ _ _ (ih (by omega))

end

end Cert.Proof.AttnFwd

end
-- ==== Proof.AttnFwd.Point.lean ====
/-
  What a grid point of the attention forward kernel leaves, in real numbers.
-/
module

public import proofs.«01_k».proof.Proof.AttnFwd.Scores
public import Idealize.ShloMosaic.Lib.Pipeline.ValueKit

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.Proof.Attn (keyLane rowLane lit_one lit_zero pieces)

theorem first_held (I : Pt) : Held I (fun _ => 0) (parts (k0_pay175 (F := Ideal))) (parts (k0_pay176 (F := Ideal))) (parts (k0_pay177 (F := Ideal))) := by
  have h1 : ∀ y, (k0_pay175 (F := Ideal) y : EReal) = ⊥ := fun y => IdealRules.named_const.ideal_named_scalar _ _ _ _ rfl
  have h2 : ∀ y, (k0_pay176 (F := Ideal) y : EReal) = 0 := fun y => lit_zero.trans EReal.coe_zero
  have h3 : ∀ y, (k0_pay177 (F := Ideal) y : EReal) = 0 := fun y => lit_zero.trans EReal.coe_zero
  intro u r
  exact .inl ⟨rfl, fun j => (parts_at _ u r j).trans (h1 _), fun j => (parts_at _ u r j).trans (h2 _), fun j => (parts_at _ u r j).trans (h3 _)⟩

def ends (j : ℕ) : Fin 4 → ℕ := ![1024 * j + 512, 1024 * j + 1024, 1024 * j + 512, 1024 * j + 1024]

section
variable (I : Pt) (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S2x4096x128 .bf16) (harg5 : arg5.IsWhole) (arg6 : Memref sig .tc .vmem S1024x256 .f32) (harg6 : arg6.IsWhole) (arg7 : Memref sig .tc .vmem S2x1024x128 .bf16) (harg7 : arg7.IsWhole)
    (x0 : Vec Ideal S1024x256 .bf16) (x1 : Vec Ideal S4096x256 .bf16) (x2 : Vec Ideal S4096x256 .bf16) (x3 : Vec Ideal S2x4096x128 .bf16)
  (hj : I.j = (i 1).val)
  (hQ : ∀ t (R : Fin 1024) (l : Fin 128), x0 (ix2 R (lane2 t l)) = ((I.Q t R l : ℝ) : EReal))
  (hK : ∀ t (C : Fin 4096) (l : Fin 128), x1 (ix2 C (lane2 t l)) = ((I.K t C.val l : ℝ) : EReal))
  (hV : ∀ t (C : Fin 4096) (l : Fin 128), x2 (ix2 C (lane2 t l)) = ((I.V t C.val l : ℝ) : EReal))
  (hX : ∀ t (C : Fin 4096) (l : Fin 128), x3 (ix3 t C l) = ((keyLane (I.X t C.val) l : ℝ) : EReal))

include hj hQ hK hV hX in
theorem seen_held : Held I (fun _ => 1024 * I.j) (parts (kernelRun0_A.sl.r_2 c i arg2 harg2 arg3 harg3 arg4 harg4 arg5 harg5 arg6 harg6 arg7 harg7 x0 x1 x2 x3)) (parts (kernelRun0_A.sl.r_3 c i arg2 harg2 arg3 harg3 arg4 harg4 arg5 harg5 arg6 harg6 arg7 harg7 x0 x1 x2 x3)) (parts (kernelRun0_A.sl.r_4 c i arg2 harg2 arg3 harg3 arg4 harg4 arg5 harg5 arg6 harg6 arg7 harg7 x0 x1 x2 x3)) := by
  have e1 : Scf.trips (k0_t1_loop i).lb (k0_t1_loop i).ub (k0_t1_loop i).st = (i 1).val := trips_eq i
  have e2 : Scf.trips (k0_t2_loop i).lb (k0_t2_loop i).ub (k0_t2_loop i).st = 0 := no_trips i
  unfold kernelRun0_A.sl.r_2 kernelRun0_A.sl.r_3 kernelRun0_A.sl.r_4
  rw [e1, e2, hj]
  refine loop_held I c i arg2 harg2 arg3 harg3 arg4 harg4 arg5 harg5 arg6 harg6 arg7 harg7 (View.readAt (Elt Ideal) arg2.view (Rect.unit (s := S1024x256) ![0, 0] S1024x128.size inb_S1024x256_S1024x128_0_0).toLoadRect (harg2.unread x0)) (View.readAt (Elt Ideal) arg2.view (Rect.unit (s := S1024x256) ![0, 128] S1024x128.size inb_S1024x256_S1024x128_0_128).toLoadRect (harg2.unread x0)) (harg3.unread x1) (harg4.unread x2) (harg5.unread x3) hj ?_ ?_ ?_ ?_ ?_ (k0_pay175, k0_pay176, k0_pay177) (first_held I) (i 1).val (trips_eq i).ge
  · intro R l
    refine (load_at arg2.view _ inb_S1024x256_S1024x128_0_0 (ix2 R l) (ix2 R (lane2 0 l)) (Fin.forall_fin_two.mpr ⟨(Nat.zero_add _).symm, rfl⟩)).trans ?_
    rw [harg2.read_unread]
    exact hQ 0 R l
  · intro R l
    refine (load_at arg2.view _ inb_S1024x256_S1024x128_0_128 (ix2 R l) (ix2 R (lane2 1 l)) (Fin.forall_fin_two.mpr ⟨(Nat.zero_add _).symm, rfl⟩)).trans ?_
    rw [harg2.read_unread]
    exact hQ 1 R l
  · intro t C l; rw [harg3.read_unread]; exact hK t C l
  · intro t C l; rw [harg4.read_unread]; exact hV t C l
  · intro t C l; rw [harg5.read_unread]; exact hX t C l

include hj hQ hK hV hX in
theorem last_held : Held I (ends I.j)
    ![topN kernelRun0_A.sl.v0 kernelRun0_A.sl.v1 (part0 (kernelRun0_A.sl.r_2 c i arg2 harg2 arg3 harg3 arg4 harg4 arg5 harg5 arg6 harg6 arg7 harg7 x0 x1 x2 x3)) (k0_pay205 (kernelRun0_A.sl.r c arg2 harg2 x0) (kernelRun0_A.sl.r_5 i arg3 harg3 arg5 harg5 x1 x3)), topM kernelRun0_A.sl.v0 kernelRun0_A.sl.v1 (part1 (kernelRun0_A.sl.r_2 c i arg2 harg2 arg3 harg3 arg4 harg4 arg5 harg5 arg6 harg6 arg7 harg7 x0 x1 x2 x3)) (kernelRun0_A.sl.r_9 c i arg2 harg2 arg3 harg3 arg5 harg5 x0 x1 x3), topN kernelRun0_A.sl.v0 kernelRun0_A.sl.v1 (part2 (kernelRun0_A.sl.r_2 c i arg2 harg2 arg3 harg3 arg4 harg4 arg5 harg5 arg6 harg6 arg7 harg7 x0 x1 x2 x3)) (kernelRun0_A.sl.r_10 c i arg2 harg2 arg3 harg3 arg5 harg5 x0 x1 x3), topM kernelRun0_A.sl.v0 kernelRun0_A.sl.v1 (part3 (kernelRun0_A.sl.r_2 c i arg2 harg2 arg3 harg3 arg4 harg4 arg5 harg5 arg6 harg6 arg7 harg7 x0 x1 x2 x3)) (kernelRun0_A.sl.r_11 c i arg2 harg2 arg3 harg3 arg5 harg5 x0 x1 x3)]
    ![(kernelRun0_A.sl.r_17 c i arg2 harg2 arg3 harg3 arg4 harg4 arg5 harg5 arg6 harg6 arg7 harg7 x0 x1 x2 x3), (kernelRun0_A.sl.r_39 c i arg2 harg2 arg3 harg3 arg4 harg4 arg5 harg5 arg6 harg6 arg7 harg7 x0 x1 x2 x3), (kernelRun0_A.sl.r_48 c i arg2 harg2 arg3 harg3 arg4 harg4 arg5 harg5 arg6 harg6 arg7 harg7 x0 x1 x2 x3), (kernelRun0_A.sl.r_58 c i arg2 harg2 arg3 harg3 arg4 harg4 arg5 harg5 arg6 harg6 arg7 harg7 x0 x1 x2 x3)]
    ![(kernelRun0_A.sl.r_18 c i arg2 harg2 arg3 harg3 arg4 harg4 arg5 harg5 arg6 harg6 arg7 harg7 x0 x1 x2 x3), (kernelRun0_A.sl.r_40 c i arg2 harg2 arg3 harg3 arg4 harg4 arg5 harg5 arg6 harg6 arg7 harg7 x0 x1 x2 x3), (kernelRun0_A.sl.r_49 c i arg2 harg2 arg3 harg3 arg4 harg4 arg5 harg5 arg6 harg6 arg7 harg7 x0 x1 x2 x3), (kernelRun0_A.sl.r_59 c i arg2 harg2 arg3 harg3 arg4 harg4 arg5 harg5 arg6 harg6 arg7 harg7 x0 x1 x2 x3)] := by
  have h := seen_held I c i arg2 harg2 arg3 harg3 arg4 harg4 arg5 harg5 arg6 harg6 arg7 harg7 x0 x1 x2 x3 hj hQ hK hV hX
  have hi : (i 1).val < 4 := (i 1).isLt
  have hn : I.j < 4 := by omega
  obtain ⟨o1, o2, o3, o4⟩ := off_last i
  rw [← hj] at o1 o2 o3 o4
  have q0 : ∀ R l, (kernelRun0_A.sl.r c arg2 harg2 x0 (ix2 R l) : EReal) = (qcat (I.Q 0 R) l : EReal) := query_at (View.readAt (Elt Ideal) arg2.view (Rect.unit (s := S1024x256) ![0, 0] S1024x128.size inb_S1024x256_S1024x128_0_0).toLoadRect (harg2.unread x0)) (I.Q 0) fun R l => by
    refine (load_at arg2.view _ inb_S1024x256_S1024x128_0_0 (ix2 R l) (ix2 R (lane2 0 l)) (Fin.forall_fin_two.mpr ⟨(Nat.zero_add _).symm, rfl⟩)).trans ?_
    rw [harg2.read_unread]
    exact hQ 0 R l
  have q1 : ∀ R l, (kernelRun0_A.sl.r_1 c arg2 harg2 x0 (ix2 R l) : EReal) = (qcat (I.Q 1 R) l : EReal) := query_at (View.readAt (Elt Ideal) arg2.view (Rect.unit (s := S1024x256) ![0, 128] S1024x128.size inb_S1024x256_S1024x128_0_128).toLoadRect (harg2.unread x0)) (I.Q 1) fun R l => by
    refine (load_at arg2.view _ inb_S1024x256_S1024x128_0_128 (ix2 R l) (ix2 R (lane2 1 l)) (Fin.forall_fin_two.mpr ⟨(Nat.zero_add _).symm, rfl⟩)).trans ?_
    rw [harg2.read_unread]
    exact hQ 1 R l
  have hK' : ∀ t (C : Fin 4096) (l : Fin 128), arg3.view.read (Elt Ideal) (harg3.unread x1) (ix2 C (lane2 t l)) = ((I.K t C.val l : ℝ) : EReal) := by
    intro t C l; rw [harg3.read_unread]; exact hK t C l
  have hV' : ∀ t (C : Fin 4096) (l : Fin 128), arg4.view.read (Elt Ideal) (harg4.unread x2) (ix2 C (lane2 t l)) = ((I.V t C.val l : ℝ) : EReal) := by
    intro t C l; rw [harg4.read_unread]; exact hV t C l
  have hX' : ∀ t (C : Fin 4096) (l : Fin 128), arg5.view.read (Elt Ideal) (harg5.unread x3) (ix3 t C l) = ((keyLane (I.X t C.val) l : ℝ) : EReal) := by
    intro t C l; rw [harg5.read_unread]; exact hX t C l
  have k0 := key_at _ _ (fun R => I.K 0 (1024 * I.j + R.val)) (fun R => I.X 0 (1024 * I.j + R.val)) (keys_load hK' 0 o1 hn (k0_off9_inb i)) (bias_load hX' 0 o2 hn (k0_off10_inb i))
  have k1 := key_at _ _ (fun R => I.K 1 (1024 * I.j + R.val)) (fun R => I.X 1 (1024 * I.j + R.val)) (keys_load hK' 1 o3 hn (k0_off11_inb i)) (bias_load hX' 1 o4 hn (k0_off12_inb i))
  have w0 : ∀ (C : Fin 1024) l, ((kernelRun0_A.sl.r_7 i arg4 harg4 x2) (ix2 C l) : EReal) = ((I.V 0 (1024 * I.j + C.val) l : ℝ) : EReal) := fun C l =>
    (same_at _ C l).trans (keys_load hV' 0 o1 hn _ C l)
  have w1 : ∀ (C : Fin 1024) l, ((kernelRun0_A.sl.r_8 i arg4 harg4 x2) (ix2 C l) : EReal) = ((I.V 1 (1024 * I.j + C.val) l : ℝ) : EReal) := fun C l =>
    (same_at _ C l).trans (keys_load hV' 1 o3 hn _ C l)
  have s0 : ∀ r C, ((k0_pay205 (kernelRun0_A.sl.r c arg2 harg2 x0) (kernelRun0_A.sl.r_5 i arg3 harg3 arg5 harg5 x1 x3)) (ix2 r C) : EReal) = (I.score 0 (rowOf 0 r) (1024 * I.j + C.val) : EReal) := fun r C => upN_at q0 k0 r C
  have s1 : ∀ r C, ((kernelRun0_A.sl.r_9 c i arg2 harg2 arg3 harg3 arg5 harg5 x0 x1 x3) (ix2 r C) : EReal) = (I.score 0 (rowOf 1 r) (1024 * I.j + C.val) : EReal) := fun r C => loW_at q0 k0 r C
  have s2 : ∀ r C, ((kernelRun0_A.sl.r_10 c i arg2 harg2 arg3 harg3 arg5 harg5 x0 x1 x3) (ix2 r C) : EReal) = (I.score 1 (rowOf 2 r) (1024 * I.j + C.val) : EReal) := fun r C => upN_at q1 k1 r C
  have s3 : ∀ r C, ((kernelRun0_A.sl.r_11 c i arg2 harg2 arg3 harg3 arg5 harg5 x0 x1 x3) (ix2 r C) : EReal) = (I.score 1 (rowOf 3 r) (1024 * I.j + C.val) : EReal) := fun r C => loW_at q1 k1 r C
  have hs : ∀ (t : Fin 2) (R : Fin 1024) (C n : ℕ) (x : EReal), n = R.val → x = (I.score t R (1024 * I.j + C) : EReal) → Score (if C ≤ n then x else ⊥) (I.E t R (1024 * I.j + C)) := by
    intro t R C n x hn hx
    split_ifs with h
    · rw [hx]; exact I.seen (by omega)
    · exact I.unseen (by omega)
  rw [r17_eq, r18_eq, r39_eq, r40_eq, r48_eq, r49_eq, r58_eq, r59_eq]
  intro u r
  have hu := h u r
  fin_cases u
  · exact unitN _ _ hu (fun C => hs 0 (rowOf 0 r) C.val _ _ rfl (s0 r C)) ⟨_, s0 r 0⟩ w0
  · exact unitM _ _ hu (fun C => hs 0 (rowOf 1 r) C.val _ _ rfl (s1 r C)) ⟨_, s1 r 0⟩ w0
  · exact unitN _ _ hu (fun C => hs 1 (rowOf 2 r) C.val _ _ rfl (s2 r C)) ⟨_, s2 r 0⟩ w1
  · exact unitM _ _ hu (fun C => hs 1 (rowOf 3 r) C.val _ _ rfl (s3 r C)) ⟨_, s3 r 0⟩ w1

end

/-- The sum of a row's exponentials; its weighted values; and its bias. -/
def Pt.Z (I : Pt) (t : Fin 2) (R : Fin 1024) : ℝ := ∑ C ∈ Finset.range 4096, I.E t R C
def Pt.O (I : Pt) (t : Fin 2) (R : Fin 1024) (d : Fin 128) : ℝ := (∑ C ∈ Finset.range 4096, I.E t R C * I.V t C d) / I.Z t R
def Pt.B (I : Pt) (t : Fin 2) (R : Fin 1024) : ℝ := -(Real.log (I.Z t R) / Real.log 2)

theorem Pt.E_nonneg (I : Pt) (t : Fin 2) (R : Fin 1024) (C : ℕ) : 0 ≤ I.E t R C := by
  unfold Pt.E
  split_ifs
  · exact (Real.exp_pos _).le
  · exact le_rfl

theorem Pt.Z_pos (I : Pt) (t : Fin 2) (R : Fin 1024) : 0 < I.Z t R :=
  Finset.sum_pos' (fun C _ => I.E_nonneg t R C) ⟨0, Finset.mem_range.2 (by omega), by unfold Pt.E; rw [if_pos (Nat.zero_le _)]; exact Real.exp_pos _⟩

theorem Pt.cut (I : Pt) (t : Fin 2) (R : Fin 1024) (f : ℕ → ℝ) {n : ℕ} (hn : n ≤ 4096) (h : 1024 * I.j + R.val < n) :
    ∑ C ∈ Finset.range n, I.E t R C * f C = ∑ C ∈ Finset.range 4096, I.E t R C * f C := by
  refine Finset.sum_subset (Finset.range_mono hn) fun C _ hC => ?_
  have : n ≤ C := by simpa using hC
  unfold Pt.E
  rw [if_neg (by omega), zero_mul]

theorem row_done {I : Pt} {t : Fin 2} {R : Fin 1024} {n : ℕ} {m l a : Fin 128 → EReal} (hn : n ≤ 4096) (h : 1024 * I.j + R.val < n) (hr : Row n (I.E t R) (I.V t) m l a) :
    (∀ d, Ideal.div (a d) (∑ j, l j) = ((I.O t R d : ℝ) : EReal)) ∧ ∀ j, m j + Ideal.log (∑ j, l j) * (((Real.log 2)⁻¹ : ℝ) : EReal) = ((Real.log (I.Z t R) / Real.log 2 : ℝ) : EReal) := by
  have e1 : ∑ C ∈ Finset.range n, I.E t R C = I.Z t R := by
    have := I.cut t R (fun _ => 1) hn h
    simp only [mul_one] at this
    exact this
  have e2 : ∀ d, ∑ C ∈ Finset.range n, I.E t R C * I.V t C d = ∑ C ∈ Finset.range 4096, I.E t R C * I.V t C d := fun d => I.cut t R (fun C => I.V t C d) hn h
  obtain ⟨h1, h2⟩ := hr.done (by rw [e1]; exact I.Z_pos t R)
  refine ⟨fun d => (h1 d).trans ?_, fun j => (h2 j).trans ?_⟩
  · rw [e1, e2]; rfl
  · rw [e1]

theorem total_at (a b c d : Blk) (P : Fin 2048) : (k0_pay292 (F := Ideal) a b c d (ix2 P 0) : EReal) = ∑ j : Fin 128, (stack a b c d (ix2 P j) : EReal) := by
  have e : k0_pay292 (F := Ideal) a b c d = shapeCast S2048x1 (multiReduction .add [1] S2048 (stack a b c d) 0x00000000#32 reduces_S2048x128_S2048 (.inl rfl) rfl) shapeCasts_S2048_S2048x1 := rfl
  rw [e]
  generalize stack a b c d = x
  pointwise

theorem ratio_at (a a' b b' c c' d d' : Blk) (P : Fin 2048) (l : Fin 128) :
    (k0_pay293 (F := Ideal) a a' b b' c c' d d' (ix2 P l) : EReal) = Ideal.div (stack a' b' c' d' (ix2 P l)) (∑ j : Fin 128, (stack a b c d (ix2 P j) : EReal)) := by
  have e : k0_pay293 (F := Ideal) a a' b b' c c' d d' = divf (stack a' b' c' d') (broadcastTo S2048x128 (k0_pay292 a b c d) broadcasts_S2048x1_S2048x128) := rfl
  rw [e, ← total_at]
  generalize stack a' b' c' d' = x
  generalize k0_pay292 (F := Ideal) a b c d = y
  pointwise

theorem lanes_at (a b c d : Blk) (x : Big) (P : Fin 2048) (l : Fin 128) (y : ℝ)
    (h : (x (ix2 P l) : EReal) + Ideal.log (∑ j : Fin 128, (stack a b c d (ix2 P j) : EReal)) * (((Real.log 2)⁻¹ : ℝ) : EReal) = ((y : ℝ) : EReal)) :
    (k0_pay294 (F := Ideal) a b c d x (ix2 P l) : EReal) = ((rowLane (-y) l : ℝ) : EReal) := by
  rw [← total_at] at h
  have en : (Named.named (F := Ideal) κ "log2e" 0x3FB8AA3B#32 : Ideal .f32) = (((Real.log 2)⁻¹ : ℝ) : EReal) := IdealRules.named_const.ideal_named_scalar _ _ _ _ rfl
  unfold k0_pay294
  generalize k0_pay292 (F := Ideal) a b c d = z at h
  rw [en]
  pointwise
  rw [h, show (0 : EReal) - (y : EReal) = ((-y : ℝ) : EReal) by rw [EReal.coe_neg, sub_eq_add_neg, zero_add]]
  refine (pieces (-y) (n := l.val) (k := 3) (a := 0) (b := 3) l.isLt (by omega) (by omega) (by omega)).trans (congrArg _ ?_)
  unfold rowLane
  split_ifs <;> first | rfl | omega

/-- A row's place among both heads'. -/
def row2 (t : Fin 2) (R : Fin 1024) : Fin 2048 := ⟨1024 * t.val + R.val, by omega⟩

theorem place (t : Fin 2) (R : Fin 1024) : ∃ (k : Fin 4) (r : Fin 512), hd k = t ∧ rowOf k r = R ∧ k.val * 512 + r.val = 1024 * t.val + R.val := by
  refine ⟨⟨2 * t.val + R.val / 512, by omega⟩, ⟨R.val % 512, by omega⟩, ?_⟩
  have h2 : R.val / 512 = 0 ∨ R.val / 512 = 1 := by omega
  have ht : t = 0 ∨ t = 1 := by omega
  obtain rfl | rfl := ht <;> obtain h | h := h2
  · have e : (⟨2 * (0 : Fin 2).val + R.val / 512, by omega⟩ : Fin 4) = 0 := Fin.ext (by simp [h])
    rw [e]; exact ⟨rfl, Fin.ext (show R.val % 512 = R.val by omega), by simp; omega⟩
  · have e : (⟨2 * (0 : Fin 2).val + R.val / 512, by omega⟩ : Fin 4) = 1 := Fin.ext (by simp [h])
    rw [e]; exact ⟨rfl, Fin.ext (show 512 + R.val % 512 = R.val by omega), by simp; omega⟩
  · have e : (⟨2 * (1 : Fin 2).val + R.val / 512, by omega⟩ : Fin 4) = 2 := Fin.ext (by simp [h])
    rw [e]; exact ⟨rfl, Fin.ext (show R.val % 512 = R.val by omega), by simp; omega⟩
  · have e : (⟨2 * (1 : Fin 2).val + R.val / 512, by omega⟩ : Fin 4) = 3 := Fin.ext (by simp [h])
    rw [e]; exact ⟨rfl, Fin.ext (show 512 + R.val % 512 = R.val by omega), by simp; omega⟩

section
variable (I : Pt) (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S2x4096x128 .bf16) (harg5 : arg5.IsWhole) (arg6 : Memref sig .tc .vmem S1024x256 .f32) (harg6 : arg6.IsWhole) (arg7 : Memref sig .tc .vmem S2x1024x128 .bf16) (harg7 : arg7.IsWhole)
    (x0 : Vec Ideal S1024x256 .bf16) (x1 : Vec Ideal S4096x256 .bf16) (x2 : Vec Ideal S4096x256 .bf16) (x3 : Vec Ideal S2x4096x128 .bf16)
  (hj : I.j = (i 1).val)
  (hQ : ∀ t (R : Fin 1024) (l : Fin 128), x0 (ix2 R (lane2 t l)) = ((I.Q t R l : ℝ) : EReal))
  (hK : ∀ t (C : Fin 4096) (l : Fin 128), x1 (ix2 C (lane2 t l)) = ((I.K t C.val l : ℝ) : EReal))
  (hV : ∀ t (C : Fin 4096) (l : Fin 128), x2 (ix2 C (lane2 t l)) = ((I.V t C.val l : ℝ) : EReal))
  (hX : ∀ t (C : Fin 4096) (l : Fin 128), x3 (ix3 t C l) = ((keyLane (I.X t C.val) l : ℝ) : EReal))

include hj hQ hK hV hX in
theorem done_at (t : Fin 2) (R : Fin 1024) :
    (∀ d, ((kernelRun0_A.sl.r_61 c i arg2 harg2 arg3 harg3 arg4 harg4 arg5 harg5 arg6 harg6 arg7 harg7 x0 x1 x2 x3) (ix2 (row2 t R) d) : EReal) = ((I.O t R d : ℝ) : EReal))
    ∧ ∀ l, ((kernelRun0_A.sl.r_62 c i arg2 harg2 arg3 harg3 arg4 harg4 arg5 harg5 arg6 harg6 arg7 harg7 x0 x1 x2 x3) (ix2 (row2 t R) l) : EReal) = ((rowLane (I.B t R) l : ℝ) : EReal) := by
  obtain ⟨k, r, rfl, rfl, e⟩ := place t R
  have hi : (i 1).val < 4 := (i 1).isLt
  have h := last_held I c i arg2 harg2 arg3 harg3 arg4 harg4 arg5 harg5 arg6 harg6 arg7 harg7 x0 x1 x2 x3 hj hQ hK hV hX k r
  have hn : ends I.j k ≤ 4096 ∧ 1024 * I.j + (rowOf k r).val < ends I.j k := by
    fin_cases k <;> simp [ends, rowOf] <;> omega
  obtain ⟨h1, h2⟩ := row_done hn.1 hn.2 h
  have eP : row2 (hd k) (rowOf k r) = ⟨k.val * 512 + r.val, by omega⟩ := Fin.ext e.symm
  rw [eP]
  constructor
  · intro d
    refine (ratio_at _ _ _ _ _ _ _ _ _ d).trans ?_
    rw [stack_at, Finset.sum_congr rfl fun j _ => stack_at _ _ _ _ k r j]
    exact h1 d
  · intro l
    refine lanes_at _ _ _ _ _ _ l _ ?_
    rw [r60_eq, stack_at, Finset.sum_congr rfl fun j _ => stack_at _ _ _ _ k r j]
    exact h2 l

end

end Cert.Proof.AttnFwd

end
-- ==== Proof.AttnFwd.Host.lean ====
/-
  What the attention forward kernel's launch finds, when the arguments are real numbers.
-/
module

public import proofs.«01_k».proof.Proof.Gen.AttnFwdIdeal.Frame
public import proofs.«01_k».proof.Proof.Gen.AttnFwdRefIdeal.Read
public import proofs.«01_k».proof.Proof.Attn.Host

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.Proof.Attn (el keyLane pieces HeadOf sqrt_lit log_lit neg_log2)

variable (m : (ℓ : Loc nD τ sig) → Buf (Elt Ideal) ℓ)

/-- What the buffers hold once the queries, keys and values are written. -/
def first (c : Dev nD) : Valuation τ sig (Elt Ideal) := StableHlo.after (List.flatten [hostOps0, hostOps0_1, hostOps0_2]) (fun b => m (c, b))
/-- And at the launch. -/
def second (W : Valuation τ sig (Elt Ideal)) : Valuation τ sig (Elt Ideal) := StableHlo.after (List.flatten [hostOps0_3, hostOps0_4, hostOps0_5, hostOps0_6, hostOps0_7, hostOps0_8, hostOps0_9, hostOps0_10, hostOps0_11]) W

theorem V_eq (c : Dev nD) (r : Ref sig .tc) : V m c r = second (first m c) (Proc.devRef .tc r) := rfl

theorem sums_eq (c : Dev nD) : (second (first m c) (Proc.devRef .tc main_v16) : FVec Ideal S8x4096 .f32)
    = Cert.AttnFwdRefIdeal.Read.val_main_v7 (F := Ideal) (m ((c.tc : Thread nD τ).loc main_arg0)) (m ((c.tc : Thread nD τ).loc main_arg1)) := by
  simp only [el, second, hostOps0_3, hostOps0_4, hostOps0_5, hostOps0_6, hostOps0_7, hostOps0_8, hostOps0_9, hostOps0_10, hostOps0_11, first, hostOps0, hostOps0_1, hostOps0_2, List.flatten_cons, List.flatten_nil, List.append_nil, List.cons_append, List.nil_append]
  after_reads_simp
  rfl

theorem first_v1 (c : Dev nD) : el (s := S_) (φ := .f32) (first m c (Proc.devRef .tc main_v1)) ix0 = Ideal.log (Ideal.ofBits .f32 0x40000000#32) := by
  simp only [el, first, hostOps0, hostOps0_1, hostOps0_2, List.flatten_cons, List.flatten_nil, List.append_nil, List.cons_append, List.nil_append]
  after_reads_simp
  clean_types
  pointwise

theorem first_v8 (c : Dev nD) : V m c main_v8 = first m c (Proc.devRef .tc main_v8) := by
  rw [V_eq]
  simp only [el, second, hostOps0_3, hostOps0_4, hostOps0_5, hostOps0_6, hostOps0_7, hostOps0_8, hostOps0_9, hostOps0_10, hostOps0_11, List.flatten_cons, List.flatten_nil, List.append_nil, List.cons_append, List.nil_append]
  after_reads_simp

theorem v8_q (c : Dev nD) (s : Fin 4096) (l : Fin 1024) : el (s := S4096x3072) (φ := .bf16) (first m c (Proc.devRef .tc main_v8)) (ix2 s ⟨l.val, by omega⟩)
    = Ideal.div (el (s := S4096x6152) (φ := .f32) (m ((c.tc : Thread nD τ).loc main_arg0)) (ix2 s ⟨l.val, by omega⟩))
        (Ideal.sqrt (Ideal.ofBits .f32 0x43000000#32) * Ideal.log (Ideal.ofBits .f32 0x40000000#32)) := by
  simp only [el, first, hostOps0, hostOps0_1, hostOps0_2, List.flatten_cons, List.flatten_nil, List.append_nil, List.cons_append, List.nil_append]
  after_reads_simp
  clean_types
  have h := l.isLt
  pointwise
  after_reads_simp
  clean_types
  pointwise

theorem v8_kv (c : Dev nD) (s : Fin 4096) (l : Fin 2048) : el (s := S4096x3072) (φ := .bf16) (first m c (Proc.devRef .tc main_v8)) (ix2 s ⟨1024 + l.val, by omega⟩)
    = el (s := S4096x6152) (φ := .f32) (m ((c.tc : Thread nD τ).loc main_arg0)) (ix2 s ⟨1024 + l.val, by omega⟩) := by
  simp only [el, first, hostOps0, hostOps0_1, hostOps0_2, List.flatten_cons, List.flatten_nil, List.append_nil, List.cons_append, List.nil_append]
  after_reads_simp
  clean_types
  have h := l.isLt
  pointwise
  after_reads_simp
  clean_types
  pointwise

variable (W : Valuation τ sig (Elt Ideal))

theorem second_v47 (h : Fin 8) (s : Fin 4096) (l : Fin 128) {x L : ℝ} (hx : el (s := S8x4096) (φ := .f32) (second W (Proc.devRef .tc main_v16)) (ix2 h s) = x)
    (hL : el (s := S_) (φ := .f32) (W (Proc.devRef .tc main_v1)) ix0 = L) (h0 : -L ≠ 0) :
    el (s := S8x4096x128) (φ := .bf16) (second W (Proc.devRef .tc main_v47)) (ix3 h s l) = (keyLane (x / -L) l : EReal) := by
  revert hx
  simp only [el, second, hostOps0_3, hostOps0_4, hostOps0_5, hostOps0_6, hostOps0_7, hostOps0_8, hostOps0_9, hostOps0_10, hostOps0_11, List.flatten_cons, List.flatten_nil, List.append_nil, List.cons_append, List.nil_append]
  after_reads_simp
  simp only [StableHlo.TRef.toBuf, StableHlo.TRef.ofBuf, cast_eq, id_eq, id]
  clean_types
  pointwise
  intro hx
  simp only [el] at hL
  rw [hx, hL, ← EReal.coe_neg, div_coe h0]
  refine (pieces (x / -L) (n := l.val) (k := 0) (a := 3) (b := 6) l.isLt (by omega) (by omega) (by omega)).trans ?_
  unfold keyLane
  congr 1
  split_ifs <;> first | rfl | omega

/-- One head's numbers, over the argument's and the running sums. -/
def headAt (z : Fin 4096 → Fin 6152 → ℝ) (cs : Fin 8 → Fin 4096 → ℝ) (h : Fin 8) : HeadOf := Attn.headAt z (fun _ _ => 0) cs h

/-- The argument and the running sums of a device are these real numbers. -/
structure Reals (c : Dev nD) (z : Fin 4096 → Fin 6152 → ℝ) (cs : Fin 8 → Fin 4096 → ℝ) : Prop where
  z : ∀ s n, el (s := S4096x6152) (φ := .f32) (m ((c.tc : Thread nD τ).loc main_arg0)) (ix2 s n) = (z s n : EReal)
  cs : ∀ h s, el (s := S8x4096) (φ := .f32) (Cert.AttnFwdRefIdeal.Read.val_main_v7 (F := Ideal) (m ((c.tc : Thread nD τ).loc main_arg0))
    (m ((c.tc : Thread nD τ).loc main_arg1))) (ix2 h s) = (cs h s : EReal)

variable {c : Dev nD} {z : Fin 4096 → Fin 6152 → ℝ} {cs : Fin 8 → Fin 4096 → ℝ} (R : Reals m c z cs)

include R

theorem sums_real (h : Fin 8) (s : Fin 4096) :
    el (s := S8x4096) (φ := .f32) (second (first m c) (Proc.devRef .tc main_v16)) (ix2 h s) = (cs h s : EReal) := by
  rw [sums_eq]
  exact R.cs h s

theorem v1_real : el (s := S_) (φ := .f32) (first m c (Proc.devRef .tc main_v1)) ix0 = (Real.log 2 : EReal) := by
  rw [first_v1, log_lit]

theorem kx_real (h : Fin 8) (u : Fin 4096) (l : Fin 128) :
    el (s := S8x4096x128) (φ := .bf16) (V m c main_v47) (ix3 h u l) = (keyLane ((headAt z cs h).c u / -Real.log 2) l : EReal) := by
  rw [V_eq]
  exact second_v47 _ h u l (sums_real m R h u) (v1_real m R) neg_log2

theorem q_real (h : Fin 8) (s : Fin 4096) (i : Fin 128) (n : Fin 3072) (hn : n.val = h.val * 128 + i.val) :
    el (s := S4096x3072) (φ := .bf16) (V m c main_v8) (ix2 s n) = ((headAt z cs h).q s i / (HeadOf.root * Real.log 2) : ℝ) := by
  have e : n = ⟨(⟨h.val * 128 + i.val, by omega⟩ : Fin 1024).val, by simp only; omega⟩ := Fin.ext hn
  rw [first_v8, e]
  refine (v8_q m c s ⟨h.val * 128 + i.val, by omega⟩).trans ?_
  rw [R.z, sqrt_lit, log_lit, ← EReal.coe_mul, div_coe (mul_pos HeadOf.root_pos HeadOf.log2_pos).ne']
  rfl

theorem k_real (h : Fin 8) (s : Fin 4096) (i : Fin 128) (n : Fin 3072) (hn : n.val = 1024 + (h.val * 128 + i.val)) :
    el (s := S4096x3072) (φ := .bf16) (V m c main_v8) (ix2 s n) = ((headAt z cs h).k s i : EReal) := by
  have e : n = ⟨1024 + (⟨h.val * 128 + i.val, by omega⟩ : Fin 2048).val, by simp only; omega⟩ := Fin.ext hn
  rw [first_v8, e]
  refine (v8_kv m c s ⟨h.val * 128 + i.val, by omega⟩).trans ?_
  rw [R.z]
  rfl

theorem v_real (h : Fin 8) (s : Fin 4096) (i : Fin 128) (n : Fin 3072) (hn : n.val = 2048 + (h.val * 128 + i.val)) :
    el (s := S4096x3072) (φ := .bf16) (V m c main_v8) (ix2 s n) = ((headAt z cs h).v s i : EReal) := by
  have e : n = ⟨1024 + (⟨1024 + (h.val * 128 + i.val), by omega⟩ : Fin 2048).val, by simp only; omega⟩ := Fin.ext (by simp only; omega)
  rw [first_v8, e]
  refine (v8_kv m c s ⟨1024 + (h.val * 128 + i.val), by omega⟩).trans ?_
  rw [R.z]
  refine congrArg (fun k => ((z s k : ℝ) : EReal)) (Fin.ext ?_)
  simp only
  omega

end Cert.Proof.AttnFwd

end
-- ==== Proof.AttnFwd.Pieces.lean ====
/-
  The arrays the attention forward kernel leaves, in real numbers.
-/
module

public import proofs.«01_k».proof.Proof.AttnFwd.Point
public import proofs.«01_k».proof.Proof.AttnFwd.Host
public import proofs.«01_k».proof.Proof.Gen.AttnFwdIdeal.Points
public import Idealize.ShloMosaic.Lib.Pipeline.Value

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.Proof.Attn (el keyLane rowLane HeadOf)

/-! ## A point's numbers, from two heads -/

/-- What the point of a pair of heads and a block of rows works on. -/
def ptFor (H : Fin 2 → HeadOf) (j : ℕ) (rows : Fin 1024 → Fin 4096) : Pt where
  j := j
  Q t R l := (H t).q (rows R) l / (HeadOf.root * Real.log 2)
  K t C l := if h : C < 4096 then (H t).k ⟨C, h⟩ l else 0
  V t C l := if h : C < 4096 then (H t).v ⟨C, h⟩ l else 0
  X t C := if h : C < 4096 then (H t).c ⟨C, h⟩ / -Real.log 2 else 0

section For
variable (H : Fin 2 → HeadOf) (j : ℕ) (rows : Fin 1024 → Fin 4096)

theorem ptFor_K (t : Fin 2) (C : Fin 4096) (l : Fin 128) : (ptFor H j rows).K t C.val l = (H t).k C l := dif_pos C.isLt
theorem ptFor_V (t : Fin 2) (C : Fin 4096) (l : Fin 128) : (ptFor H j rows).V t C.val l = (H t).v C l := dif_pos C.isLt
theorem ptFor_X (t : Fin 2) (C : Fin 4096) : (ptFor H j rows).X t C.val = (H t).c C / -Real.log 2 := dif_pos C.isLt

variable (hr : ∀ R, (rows R).val = 1024 * j + R.val)
include hr

theorem ptFor_E (t : Fin 2) (R : Fin 1024) (C : Fin 4096) : (ptFor H j rows).E t R C.val = (H t).num 0 (rows R) C := by
  unfold Pt.E HeadOf.num
  refine if_congr (by rw [Fin.le_def, hr]; rfl) (congrArg Real.exp ?_) rfl
  unfold Pt.score HeadOf.x HeadOf.prod
  rw [ptFor_X]
  simp only [ptFor_K]
  show (∑ l, (H t).q (rows R) l / (HeadOf.root * Real.log 2) * (H t).k C l + _) * _ = _
  have hl := HeadOf.log2_pos.ne'
  have hq := HeadOf.root_pos.ne'
  have e1 : ∑ i, (H t).q (rows R) i / (HeadOf.root * Real.log 2) * (H t).k C i = (∑ i, (H t).q (rows R) i * (H t).k C i) / HeadOf.root / Real.log 2 := by
    rw [Finset.sum_div, Finset.sum_div]
    refine Finset.sum_congr rfl fun i _ => ?_
    field_simp
  rw [e1]
  generalize ∑ i, (H t).q (rows R) i * (H t).k C i = P
  field_simp
  ring

theorem ptFor_Z (t : Fin 2) (R : Fin 1024) : (ptFor H j rows).Z t R = ∑ u, (H t).num 0 (rows R) u := by
  unfold Pt.Z
  rw [Finset.sum_range]
  exact Finset.sum_congr rfl fun u _ => ptFor_E H j rows hr t R u

theorem ptFor_O (t : Fin 2) (R : Fin 1024) (d : Fin 128) : (ptFor H j rows).O t R d = ∑ u, (H t).v u d * (H t).w (rows R) u := by
  unfold Pt.O
  rw [ptFor_Z H j rows hr, Finset.sum_range, Finset.sum_div]
  refine Finset.sum_congr rfl fun u _ => ?_
  rw [ptFor_E H j rows hr, ptFor_V]
  unfold HeadOf.w
  ring

theorem ptFor_B (t : Fin 2) (R : Fin 1024) : (ptFor H j rows).B t R = -(Real.log (∑ u, (H t).num 0 (rows R) u) / Real.log 2) := by
  unfold Pt.B
  rw [ptFor_Z H j rows hr]

end For

/-! ## The blocks a point writes, each in two parts -/

theorem emb_cols (t : Fin 2) (ia : ∀ k : Fin 2, (![0, 128 * t.val] : Fin 2 → ℕ) k + S1024x128.size k ≤ S1024x256.size k) (r : Fin 1024) (n : Fin 128) :
    (Rect.unit ![0, 128 * t.val] ![1024, 128] ia : Rect S1024x256).emb (ix2 r n : S1024x128.Idx) = ix2 r (lane2 t n) := by
  funext k
  refine Fin.ext ?_
  fin_cases k
  · exact (Nat.zero_add _).trans (Nat.one_mul _)
  · exact congrArg (128 * t.val + ·) (Nat.one_mul _)

theorem emb_slab (t : Fin 2) (ia : ∀ k : Fin 3, (![t.val, 0, 0] : Fin 3 → ℕ) k + S1x1024x128.size k ≤ S2x1024x128.size k) (r : Fin 1024) (n : Fin 128) :
    (Rect.unit ![t.val, 0, 0] ![1, 1024, 128] ia : Rect S2x1024x128).emb (ix3 0 r n : S1x1024x128.Idx) = ix3 t r n := by
  funext k
  refine Fin.ext ?_
  fin_cases k
  · rfl
  · exact (Nat.zero_add _).trans (Nat.one_mul _)
  · exact (Nat.zero_add _).trans (Nat.one_mul _)

section Cols
variable (a b : FVec Ideal S1024x128 .f32)
  (ia : ∀ k : Fin 2, (![0, 0] : Fin 2 → ℕ) k + S1024x128.size k ≤ S1024x256.size k)
  (ib : ∀ k : Fin 2, (![0, 128] : Fin 2 → ℕ) k + S1024x128.size k ≤ S1024x256.size k)

/-- A block whose two heads' columns are written apart. -/
def cols : FVec Ideal S1024x256 .f32 :=
  View.canon (Val := Elt Ideal) (s := S1024x256) (e := .f32)
    ([⟨Rect.unit ![0, 128] ![1024, 128] ib, b⟩, ⟨Rect.unit ![0, 0] ![1024, 128] ia, a⟩] : List (View.Piece (Elt Ideal) S1024x256 .f32))

theorem cols_a (r : Fin 1024) (n : Fin 128) : cols a b ia ib (ix2 r (lane2 0 n)) = a (ix2 r n) := by
  unfold cols
  refine (View.canon_cons_of_not_mem _ _ fun hm => ?_).trans ?_
  · obtain ⟨j, hj, e⟩ := (LoadRect.mem_set _).1 hm 1
    have e' : 128 * 0 + n.val = 128 + 1 * j := e
    omega
  · refine Eq.trans (congrArg _ (emb_cols 0 ia r n).symm) ?_
    exact View.canon_cons_emb (Val := Elt Ideal) (e := .f32) (Rect.unit ![0, 0] ![1024, 128] ia : Rect S1024x256) a [] (ix2 r n)

theorem cols_b (r : Fin 1024) (n : Fin 128) : cols a b ia ib (ix2 r (lane2 1 n)) = b (ix2 r n) := by
  unfold cols
  refine Eq.trans (congrArg _ (emb_cols 1 ib r n).symm) ?_
  exact View.canon_cons_emb (Val := Elt Ideal) (e := .f32) (Rect.unit ![0, 128] ![1024, 128] ib : Rect S1024x256) b _ (ix2 r n)

end Cols

section Slabs
variable (a b : FVec Ideal S1x1024x128 .bf16)
  (ia : ∀ k : Fin 3, (![0, 0, 0] : Fin 3 → ℕ) k + S1x1024x128.size k ≤ S2x1024x128.size k)
  (ib : ∀ k : Fin 3, (![1, 0, 0] : Fin 3 → ℕ) k + S1x1024x128.size k ≤ S2x1024x128.size k)

/-- A block whose two heads' lanes are written apart. -/
def slabs : FVec Ideal S2x1024x128 .bf16 :=
  View.canon (Val := Elt Ideal) (s := S2x1024x128) (e := .bf16)
    ([⟨Rect.unit ![1, 0, 0] ![1, 1024, 128] ib, b⟩, ⟨Rect.unit ![0, 0, 0] ![1, 1024, 128] ia, a⟩] : List (View.Piece (Elt Ideal) S2x1024x128 .bf16))

theorem slabs_a (r : Fin 1024) (n : Fin 128) : slabs a b ia ib (ix3 0 r n) = a (ix3 0 r n) := by
  unfold slabs
  refine (View.canon_cons_of_not_mem _ _ fun hm => ?_).trans ?_
  · obtain ⟨j, hj, e⟩ := (LoadRect.mem_set _).1 hm 0
    have e' : 0 = 1 + 1 * j := e
    omega
  · refine Eq.trans (congrArg _ (emb_slab 0 ia r n).symm) ?_
    exact View.canon_cons_emb (Val := Elt Ideal) (e := .bf16) (Rect.unit ![0, 0, 0] ![1, 1024, 128] ia : Rect S2x1024x128) a [] (ix3 0 r n)

theorem slabs_b (r : Fin 1024) (n : Fin 128) : slabs a b ia ib (ix3 1 r n) = b (ix3 0 r n) := by
  unfold slabs
  refine Eq.trans (congrArg _ (emb_slab 1 ib r n).symm) ?_
  exact View.canon_cons_emb (Val := Elt Ideal) (e := .bf16) (Rect.unit ![1, 0, 0] ![1, 1024, 128] ib : Rect S2x1024x128) b _ (ix3 0 r n)

end Slabs

theorem pay2_at (x : FVec Ideal S2048x128 .f32) (r : Fin 1024) (n : Fin 128) : (k0_pay2 (F := Ideal) x (ix2 r n) : EReal) = x (ix2 (row2 1 r) n) := by
  unfold k0_pay2 row2
  pointwise
theorem pay3_at (x : FVec Ideal S2048x128 .bf16) (r : Fin 1024) (n : Fin 128) : (k0_pay3 (F := Ideal) x (ix3 0 r n) : EReal) = x (ix2 (row2 1 r) n) := by
  unfold k0_pay3 row2
  pointwise
theorem top_f32 (x : FVec Ideal S2048x128 .f32) (r : Fin 1024) (n : Fin 128) :
    (extractStridedSlice S1024x128 ![0, 0] x slices_S2048x128_o0_0_S1024x128 (ix2 r n) : EReal) = x (ix2 (row2 0 r) n) := by
  unfold row2
  pointwise
theorem top_bf16 (x : FVec Ideal S2048x128 .bf16) (r : Fin 1024) (n : Fin 128) :
    (k0_pay1 (F := Ideal) (extractStridedSlice S1024x128 ![0, 0] x slices_S2048x128_o0_0_S1024x128) (ix3 0 r n) : EReal) = x (ix2 (row2 0 r) n) := by
  unfold k0_pay1 row2
  pointwise

section
variable (I : Pt) (c : Dev nD) (i : grid0.Coords) (arg2 : Memref sig .tc .vmem S1024x256 .bf16) (harg2 : arg2.IsWhole) (arg3 : Memref sig .tc .vmem S4096x256 .bf16) (harg3 : arg3.IsWhole) (arg4 : Memref sig .tc .vmem S4096x256 .bf16) (harg4 : arg4.IsWhole) (arg5 : Memref sig .tc .vmem S2x4096x128 .bf16) (harg5 : arg5.IsWhole) (arg6 : Memref sig .tc .vmem S1024x256 .f32) (harg6 : arg6.IsWhole) (arg7 : Memref sig .tc .vmem S2x1024x128 .bf16) (harg7 : arg7.IsWhole)
    (x0 : Vec Ideal S1024x256 .bf16) (x1 : Vec Ideal S4096x256 .bf16) (x2 : Vec Ideal S4096x256 .bf16) (x3 : Vec Ideal S2x4096x128 .bf16)
  (hj : I.j = (i 1).val)
  (hQ : ∀ t (R : Fin 1024) (l : Fin 128), x0 (ix2 R (lane2 t l)) = ((I.Q t R l : ℝ) : EReal))
  (hK : ∀ t (C : Fin 4096) (l : Fin 128), x1 (ix2 C (lane2 t l)) = ((I.K t C.val l : ℝ) : EReal))
  (hV : ∀ t (C : Fin 4096) (l : Fin 128), x2 (ix2 C (lane2 t l)) = ((I.V t C.val l : ℝ) : EReal))
  (hX : ∀ t (C : Fin 4096) (l : Fin 128), x3 (ix3 t C l) = ((keyLane (I.X t C.val) l : ℝ) : EReal))

include hj hQ hK hV hX

theorem out4_at (t : Fin 2) (R : Fin 1024) (d : Fin 128) :
    ((View.canon (kernelRun0_A c i arg2 harg2 arg3 harg3 arg4 harg4 arg5 harg5 arg6 harg6 arg7 harg7 x0 x1 x2 x3).1 : FVec Ideal S1024x256 .f32) (ix2 R (lane2 t d)) : EReal) = ((I.O t R d : ℝ) : EReal) := by
  refine Eq.trans ?_ ((done_at I c i arg2 harg2 arg3 harg3 arg4 harg4 arg5 harg5 arg6 harg6 arg7 harg7 x0 x1 x2 x3 hj hQ hK hV hX t R).1 d)
  fin_cases t
  · exact (cols_a _ _ inb_S1024x256_S1024x128_0_0 inb_S1024x256_S1024x128_0_128 R d).trans (top_f32 (kernelRun0_A.sl.r_61 c i arg2 harg2 arg3 harg3 arg4 harg4 arg5 harg5 arg6 harg6 arg7 harg7 x0 x1 x2 x3) R d)
  · exact (cols_b _ _ inb_S1024x256_S1024x128_0_0 inb_S1024x256_S1024x128_0_128 R d).trans (pay2_at _ R d)

theorem out5_at (t : Fin 2) (R : Fin 1024) (l : Fin 128) :
    ((View.canon (kernelRun0_A c i arg2 harg2 arg3 harg3 arg4 harg4 arg5 harg5 arg6 harg6 arg7 harg7 x0 x1 x2 x3).2.1 : FVec Ideal S2x1024x128 .bf16) (ix3 t R l) : EReal) = ((rowLane (I.B t R) l : ℝ) : EReal) := by
  refine Eq.trans ?_ ((done_at I c i arg2 harg2 arg3 harg3 arg4 harg4 arg5 harg5 arg6 harg6 arg7 harg7 x0 x1 x2 x3 hj hQ hK hV hX t R).2 l)
  fin_cases t
  · exact (slabs_a _ _ inb_S2x1024x128_S1x1024x128_0_0_0 inb_S2x1024x128_S1x1024x128_1_0_0 R l).trans (top_bf16 (kernelRun0_A.sl.r_62 c i arg2 harg2 arg3 harg3 arg4 harg4 arg5 harg5 arg6 harg6 arg7 harg7 x0 x1 x2 x3) R l)
  · exact (slabs_b _ _ inb_S2x1024x128_S1x1024x128_0_0_0 inb_S2x1024x128_S1x1024x128_1_0_0 R l).trans (pay3_at _ R l)

theorem left4_at (t : Fin 2) (R : Fin 1024) (d : Fin 128) :
    ((out0_A_4 c i arg2 harg2 arg3 harg3 arg4 harg4 arg5 harg5 arg6 harg6 arg7 harg7 x0 x1 x2 x3 (ix2 R (lane2 t d)) : EReal)) = ((I.O t R d : ℝ) : EReal) := by
  unfold out0_A_4
  rw [View.read_writes_junk_eq_canon]
  exact out4_at I c i arg2 harg2 arg3 harg3 arg4 harg4 arg5 harg5 arg6 harg6 arg7 harg7 x0 x1 x2 x3 hj hQ hK hV hX t R d

theorem left5_at (t : Fin 2) (R : Fin 1024) (l : Fin 128) :
    ((out0_A_5 c i arg2 harg2 arg3 harg3 arg4 harg4 arg5 harg5 arg6 harg6 arg7 harg7 x0 x1 x2 x3 (ix3 t R l) : EReal)) = ((rowLane (I.B t R) l : ℝ) : EReal) := by
  unfold out0_A_5
  rw [View.read_writes_junk_eq_canon]
  exact out5_at I c i arg2 harg2 arg3 harg3 arg4 harg4 arg5 harg5 arg6 harg6 arg7 harg7 x0 x1 x2 x3 hj hQ hK hV hX t R l

end

end Cert.Proof.AttnFwd

end
-- ==== Proof.AttnFwd.Final.lean ====
/-
  The arrays the attention forward kernel leaves, in real numbers.
-/
module

public import proofs.«01_k».proof.Proof.AttnFwd.Pieces

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.Proof.Attn (el keyLane rowLane HeadOf)

variable (m : (ℓ : Loc nD τ sig) → Buf (Elt Ideal) ℓ)

theorem idx : ∀ t : Fin cfg0.N, win0_0.index t = ![t.val % 4, t.val / 4] ∧ win0_1.index t = ![0, 4 + t.val / 4] ∧ win0_2.index t = ![0, 8 + t.val / 4]
    ∧ win0_3.index t = ![t.val / 4, 0, 0] ∧ win0_4.index t = ![t.val % 4, t.val / 4] ∧ win0_5.index t = ![t.val / 4, t.val % 4, 0]
    ∧ (grid0.coords t 1).val = t.val % 4 :=
  (by decide +kernel : ∀ t : Fin grid0.N, _)

theorem lt_16 (t : Fin cfg0.N) : t.val < 16 := lt_of_lt_of_eq t.isLt (show cfg0.N = 16 from N_0)

/-- Row `R` of a point's block. -/
def rowAt (t : Fin cfg0.N) (R : Fin 1024) : Fin 4096 := ⟨t.val % 4 * 1024 + R.val, by omega⟩
/-- The heads of a point. -/
def headP (t : Fin cfg0.N) (p : Fin 2) : Fin 8 := ⟨t.val / 4 * 2 + p.val, by have := lt_16 t; omega⟩
/-- Place `n` of a point's pair of heads. -/
def placeAt (t : Fin cfg0.N) (n : Fin 256) : Fin 1024 := ⟨t.val / 4 * 256 + n.val, by have := lt_16 t; omega⟩
def qAt (t : Fin cfg0.N) (n : Fin 256) : Fin 3072 := ⟨t.val / 4 * 256 + n.val, by have := lt_16 t; omega⟩
def kAt (t : Fin cfg0.N) (n : Fin 256) : Fin 3072 := ⟨(4 + t.val / 4) * 256 + n.val, by have := lt_16 t; omega⟩
def vAt (t : Fin cfg0.N) (n : Fin 256) : Fin 3072 := ⟨(8 + t.val / 4) * 256 + n.val, by have := lt_16 t; omega⟩

section Reads
variable (c : Dev nD) (t : Fin cfg0.N)

theorem read_q (R : Fin 1024) (n : Fin 256) : el (s := S1024x256) (φ := .bf16) (iblk m c 0 t) (ix2 R n) = el (s := S4096x3072) (φ := .bf16) (V m c main_v8) (ix2 (rowAt t R) (qAt t n)) := by
  simp only [el]
  blk_point [iblk, V, idx t, rowAt, qAt]
theorem read_k (C : Fin 4096) (n : Fin 256) : el (s := S4096x256) (φ := .bf16) (iblk m c 1 t) (ix2 C n) = el (s := S4096x3072) (φ := .bf16) (V m c main_v8) (ix2 C (kAt t n)) := by
  simp only [el]
  blk_point [iblk, V, idx t, kAt]
theorem read_v (C : Fin 4096) (n : Fin 256) : el (s := S4096x256) (φ := .bf16) (iblk m c 2 t) (ix2 C n) = el (s := S4096x3072) (φ := .bf16) (V m c main_v8) (ix2 C (vAt t n)) := by
  simp only [el]
  blk_point [iblk, V, idx t, vAt]
theorem read_x (p : Fin 2) (C : Fin 4096) (l : Fin 128) : el (s := S2x4096x128) (φ := .bf16) (iblk m c 3 t) (ix3 p C l) = el (s := S8x4096x128) (φ := .bf16) (V m c main_v47) (ix3 (headP t p) C l) := by
  simp only [el]
  blk_point [iblk, V, idx t, headP]
end Reads

variable {c : Dev nD} {z : Fin 4096 → Fin 6152 → ℝ} {cs : Fin 8 → Fin 4096 → ℝ} (Rl : Reals m c z cs)

/-- A point's numbers. -/
def ptAt (z : Fin 4096 → Fin 6152 → ℝ) (cs : Fin 8 → Fin 4096 → ℝ) (t : Fin cfg0.N) : Pt := ptFor (fun p => headAt z cs (headP t p)) (t.val % 4) (rowAt t)

theorem rowAt_val (t : Fin cfg0.N) (R : Fin 1024) : (rowAt t R).val = 1024 * (t.val % 4) + R.val := by simp only [rowAt]; omega

/-- The output: the values weighted by the softmax. -/
def outR (z : Fin 4096 → Fin 6152 → ℝ) (cs : Fin 8 → Fin 4096 → ℝ) (h : Fin 8) (s : Fin 4096) (d : Fin 128) : ℝ :=
  ∑ u, (headAt z cs h).v u d * (headAt z cs h).w s u
/-- The row biases. -/
def biasR (z : Fin 4096 → Fin 6152 → ℝ) (cs : Fin 8 → Fin 4096 → ℝ) (h : Fin 8) (s : Fin 4096) : ℝ :=
  -(Real.log (∑ u, (headAt z cs h).num 0 s u) / Real.log 2)

/-- The head a place belongs to, and where in it. -/
def headN (n : Fin 1024) : Fin 8 := ⟨n.val / 128, by omega⟩
def inN (n : Fin 1024) : Fin 128 := ⟨n.val % 128, Nat.mod_lt _ (by decide)⟩

theorem lane2_of (n : Fin 256) : ∃ (p : Fin 2) (d : Fin 128), n = lane2 p d :=
  ⟨⟨n.val / 128, by omega⟩, ⟨n.val % 128, by omega⟩, Fin.ext (by simp only [lane2]; omega)⟩

theorem head_at (t : Fin cfg0.N) (p : Fin 2) (d : Fin 128) : headN (placeAt t (lane2 p d)) = headP t p :=
  Fin.ext (by simp only [headN, placeAt, lane2, headP]; omega)
theorem in_at (t : Fin cfg0.N) (p : Fin 2) (d : Fin 128) : inN (placeAt t (lane2 p d)) = d :=
  Fin.ext (by simp only [inN, placeAt, lane2]; omega)

section Ins
include Rl
variable (t : Fin cfg0.N)
theorem in_q (p : Fin 2) (R : Fin 1024) (l : Fin 128) : el (s := S1024x256) (φ := .bf16) (iblk m c 0 t) (ix2 R (lane2 p l)) = (((ptAt z cs t).Q p R l : ℝ) : EReal) :=
  (read_q m c t R _).trans (q_real m Rl (headP t p) (rowAt t R) l _ (by simp only [qAt, lane2, headP]; omega))
theorem in_k (p : Fin 2) (C : Fin 4096) (l : Fin 128) : el (s := S4096x256) (φ := .bf16) (iblk m c 1 t) (ix2 C (lane2 p l)) = (((ptAt z cs t).K p C.val l : ℝ) : EReal) := by
  refine (read_k m c t C _).trans ((k_real m Rl (headP t p) C l _ (by simp only [kAt, lane2, headP]; omega)).trans ?_)
  exact congrArg Real.toEReal (ptFor_K (fun p => headAt z cs (headP t p)) (t.val % 4) (rowAt t) p C l).symm
theorem in_v (p : Fin 2) (C : Fin 4096) (l : Fin 128) : el (s := S4096x256) (φ := .bf16) (iblk m c 2 t) (ix2 C (lane2 p l)) = (((ptAt z cs t).V p C.val l : ℝ) : EReal) := by
  refine (read_v m c t C _).trans ((v_real m Rl (headP t p) C l _ (by simp only [vAt, lane2, headP]; omega)).trans ?_)
  exact congrArg Real.toEReal (ptFor_V (fun p => headAt z cs (headP t p)) (t.val % 4) (rowAt t) p C l).symm
theorem in_x (p : Fin 2) (C : Fin 4096) (l : Fin 128) : el (s := S2x4096x128) (φ := .bf16) (iblk m c 3 t) (ix3 p C l) = ((keyLane ((ptAt z cs t).X p C.val) l : ℝ) : EReal) := by
  refine (read_x m c t p C l).trans ((kx_real m Rl (headP t p) C l).trans ?_)
  exact congrArg (fun x => ((keyLane x l : ℝ) : EReal)) (ptFor_X (fun p => headAt z cs (headP t p)) (t.val % 4) (rowAt t) p C).symm
end Ins

theorem at4 (A : Fin 4096 → Fin 1024 → EReal) (t : Fin cfg0.N) (r : Fin 1024) (d : Fin 256) :
    A (rowAt t r) (placeAt t d) = A (((View.whole main_v48_0).slice (win0_4.rect t)).emb (ix2 r d) 0)
      (((View.whole main_v48_0).slice (win0_4.rect t)).emb (ix2 r d) 1) := by
  refine congrArg₂ A (Fin.ext ?_) (Fin.ext ?_) <;> blk_point [idx t, rowAt, placeAt]

theorem at5 (A : Fin 8 → Fin 4096 → Fin 128 → EReal) (t : Fin cfg0.N) (p : Fin 2) (r : Fin 1024) (d : Fin 128) :
    A (headP t p) (rowAt t r) d = A (((View.whole main_v48_1).slice (win0_5.rect t)).emb (ix3 p r d) 0)
      (((View.whole main_v48_1).slice (win0_5.rect t)).emb (ix3 p r d) 1) (((View.whole main_v48_1).slice (win0_5.rect t)).emb (ix3 p r d) 2) := by
  have e0 : headP t p = ((View.whole main_v48_1).slice (win0_5.rect t)).emb (ix3 p r d) 0 := Fin.ext (by blk_point [idx t, headP])
  have e1 : rowAt t r = ((View.whole main_v48_1).slice (win0_5.rect t)).emb (ix3 p r d) 1 := Fin.ext (by blk_point [idx t, rowAt])
  have e2 : d = ((View.whole main_v48_1).slice (win0_5.rect t)).emb (ix3 p r d) 2 := Fin.ext (by blk_point [idx t])
  exact (congrArg₂ (fun a b => A a b d) e0 e1).trans (congrArg (A _ _) e2)

include Rl

set_option maxHeartbeats 4000000 in
theorem final4 : (dats m 0 c).arrAt 4 cfg0.N = fun i : S4096x1024.Idx => ((outR z cs (headN (i 1)) (i 0) (inN (i 1)) : ℝ) : EReal) := by
  refine (dats m 0 c).arrAt_eq_of_covers 4 _ (by decide +kernel) fun t hf y => ?_
  blk_simp
  rw [after0_4]
  unfold outsAt0
  idx_vars y
  obtain ⟨p, d, rfl⟩ := lane2_of y1
  refine (left4_at (ptAt z cs t) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
    (idx t).2.2.2.2.2.2.symm (in_q m Rl t) (in_k m Rl t) (in_v m Rl t) (in_x m Rl t) p y0 d).trans ?_
  refine Eq.trans ?_ (at4 (fun s n => ((outR z cs (headN n) s (inN n) : ℝ) : EReal)) t y0 (lane2 p d))
  simp only [head_at, in_at]
  exact congrArg Real.toEReal (ptFor_O (fun p => headAt z cs (headP t p)) (t.val % 4) (rowAt t) (rowAt_val t) p y0 d)

set_option maxHeartbeats 4000000 in
theorem final5 : (dats m 0 c).arrAt 5 cfg0.N = fun i : S8x4096x128.Idx => ((rowLane (biasR z cs (i 0) (i 1)) (i 2) : ℝ) : EReal) := by
  refine (dats m 0 c).arrAt_eq_of_covers 5 _ (by decide +kernel) fun t hf y => ?_
  blk_simp
  rw [after0_5]
  unfold outsAt0
  idx_vars y
  refine (left5_at (ptAt z cs t) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t)
    (idx t).2.2.2.2.2.2.symm (in_q m Rl t) (in_k m Rl t) (in_v m Rl t) (in_x m Rl t) y0 y1 y2).trans ?_
  refine Eq.trans ?_ (at5 (fun h s l => ((rowLane (biasR z cs h s) l : ℝ) : EReal)) t y0 y1 y2)
  exact congrArg (fun x => ((rowLane x y2 : ℝ) : EReal)) (ptFor_B (fun p => headAt z cs (headP t p)) (t.val % 4) (rowAt t) (rowAt_val t) y0 y1)

end Cert.Proof.AttnFwd

end
-- ==== Proof.AttnFwd.Reference.lean ====
/-
  The attention forward reference's results at real arguments, head by head.
-/
module

public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Attn.RefReal

@[expose] public section

set_option maxRecDepth 16384

noncomputable section

open Idealize.ShloMosaic Idealize.ShloMosaic.TcCoe Cert.Common
open scoped BigOperators

namespace Cert.Proof.AttnFwd.Ref

open Cert.AttnFwdRefIdeal Cert.AttnFwdRefIdeal.Read
open Cert.Proof.Attn (el rowLane lit_one lit_zero lit_bot pick_le word_int word_inj HeadOf headAt sqrt_lit log_lit neg_log2 isReal_max log_coe)

variable (x0 : FVec Ideal S4096x6152 .f32) (x1 : FVec Ideal S1x8 .f32)

theorem v7_eq : val_main_v7 (F := Ideal) x0 x1 = Cert.AttnRefIdeal.Read.val_main_v7 (F := Ideal) x0 x1 := rfl

theorem v9_at (s : Fin 4096) (h : Fin 8) (i : Fin 128) : el (s := S4096x8x128) (φ := .f32) (val_main_v9 (F := Ideal) x0) (ix3 s h i)
    = el (s := S4096x6152) (φ := .f32) x0 (ix2 s ⟨h.val * 128 + i.val, by omega⟩) := by
  simp only [el]
  unfold val_main_v9 val_main_v8
  pointwise

theorem v11_at (s : Fin 4096) (h : Fin 8) (i : Fin 128) : el (s := S4096x8x128) (φ := .f32) (val_main_v11 (F := Ideal) x0) (ix3 s h i)
    = el (s := S4096x6152) (φ := .f32) x0 (ix2 s ⟨1024 + (h.val * 128 + i.val), by omega⟩) := by
  simp only [el]
  unfold val_main_v11 val_main_v10
  pointwise

theorem v13_at (s : Fin 4096) (h : Fin 8) (i : Fin 128) : el (s := S4096x8x128) (φ := .f32) (val_main_v13 (F := Ideal) x0) (ix3 s h i)
    = el (s := S4096x6152) (φ := .f32) x0 (ix2 s ⟨2048 + (h.val * 128 + i.val), by omega⟩) := by
  simp only [el]
  unfold val_main_v13 val_main_v12
  pointwise

theorem v28_at (h : Fin 8) (t u : Fin 4096) : el (s := S8x4096x4096) (φ := .f32) (val_main_v28 (F := Ideal) x0 x1) (ix3 h t u)
    = if u.val ≤ t.val then Ideal.div (∑ i : Fin 128, el (s := S4096x8x128) (φ := .f32) (val_main_v9 (F := Ideal) x0) (ix3 t h i) * el (s := S4096x8x128) (φ := .f32) (val_main_v11 (F := Ideal) x0) (ix3 u h i)) (Ideal.sqrt (Ideal.ofBits .f32 0x43000000#32))
        - el (s := S8x4096) (φ := .f32) (val_main_v7 (F := Ideal) x0 x1) (ix2 h u) else ⊥ := by
  simp only [el]
  unfold val_main_v28 val_main_call2_v2 val_main_call2_v1 val_main_call2_v0 val_main_cst_0 val_main_v27 val_main_v26 val_main_v25 val_main_v24 val_main_v23 val_main_v22 val_main_v21 val_main_v20 val_main_v19 val_main_v18 val_main_v17 val_main_v16 val_main_v15 val_main_cst val_main_v14
  generalize val_main_v9 (F := Ideal) x0 = Q
  generalize val_main_v11 (F := Ideal) x0 = K
  generalize val_main_v7 (F := Ideal) x0 x1 = C
  simp only [id]
  pointwise
  rw [← lit_bot]
  exact pick_le u.isLt t.isLt _ _

theorem v29_at (h : Fin 8) (t : Fin 4096) : el (s := S8x4096) (φ := .f32) (val_main_v29 (F := Ideal) x0 x1) (ix2 h t)
    = Finset.univ.fold max ⊥ (fun u : Fin 4096 => el (s := S8x4096x4096) (φ := .f32) (val_main_v28 (F := Ideal) x0 x1) (ix3 h t u)) := by
  simp only [el]
  unfold val_main_v29 val_main_cst_1
  generalize val_main_v28 (F := Ideal) x0 x1 = X
  rw [← lit_bot]
  pointwise

theorem v33_at (h : Fin 8) (t u : Fin 4096) : el (s := S8x4096x4096) (φ := .f32) (val_main_v33 (F := Ideal) x0 x1) (ix3 h t u)
    = Ideal.exp (el (s := S8x4096x4096) (φ := .f32) (val_main_v28 (F := Ideal) x0 x1) (ix3 h t u) - el (s := S8x4096) (φ := .f32) (val_main_v29 (F := Ideal) x0 x1) (ix2 h t)) := by
  simp only [el]
  unfold val_main_v33 val_main_v32 val_main_v31 val_main_v30
  generalize val_main_v29 (F := Ideal) x0 x1 = M
  generalize val_main_v28 (F := Ideal) x0 x1 = X
  pointwise

theorem v34_at (h : Fin 8) (t : Fin 4096) : el (s := S8x4096) (φ := .f32) (val_main_v34 (F := Ideal) x0 x1) (ix2 h t)
    = ∑ u : Fin 4096, el (s := S8x4096x4096) (φ := .f32) (val_main_v33 (F := Ideal) x0 x1) (ix3 h t u) := by
  simp only [el]
  unfold val_main_v34 val_main_cst_2
  generalize val_main_v33 (F := Ideal) x0 x1 = X
  pointwise

/-- The head a place of the output belongs to. -/
def headN (n : Fin 1024) : Fin 8 := ⟨n.val / 128, by omega⟩
/-- A place in its head. -/
def inN (n : Fin 1024) : Fin 128 := ⟨n.val % 128, Nat.mod_lt _ (by decide)⟩

theorem v38_at (h : Fin 8) (i : Fin 128) (t : Fin 4096) : el (s := S8x128x4096) (φ := .f32) (val_main_v38 (F := Ideal) x0 x1) (ix3 h i t)
    = ∑ u : Fin 4096, el (s := S4096x8x128) (φ := .f32) (val_main_v13 (F := Ideal) x0) (ix3 u h i)
        * Ideal.div (el (s := S8x4096x4096) (φ := .f32) (val_main_v33 (F := Ideal) x0 x1) (ix3 h t u)) (el (s := S8x4096) (φ := .f32) (val_main_v34 (F := Ideal) x0 x1) (ix2 h t)) := by
  simp only [el]
  unfold val_main_v38 val_main_v37 val_main_v36 val_main_v35
  generalize val_main_v34 (F := Ideal) x0 x1 = L
  generalize val_main_v33 (F := Ideal) x0 x1 = X
  generalize val_main_v13 (F := Ideal) x0 = W
  pointwise

theorem v40_at (s : Fin 4096) (n : Fin 1024) : el (s := S4096x1024) (φ := .f32) (val_main_v40 (F := Ideal) x0 x1) (ix2 s n)
    = el (s := S8x128x4096) (φ := .f32) (val_main_v38 (F := Ideal) x0 x1) (ix3 (headN n) (inN n) s) := by
  simp only [el]
  unfold val_main_v40 val_main_v39 headN inN
  generalize val_main_v38 (F := Ideal) x0 x1 = X
  pointwise

theorem v46_at (h : Fin 8) (t : Fin 4096) : el (s := S8x4096) (φ := .f32) (val_main_v46 (F := Ideal) x0 x1) (ix2 h t)
    = Ideal.div (el (s := S8x4096) (φ := .f32) (val_main_v29 (F := Ideal) x0 x1) (ix2 h t) + Ideal.log (el (s := S8x4096) (φ := .f32) (val_main_v34 (F := Ideal) x0 x1) (ix2 h t)))
        (-Ideal.log (Ideal.ofBits .f32 0x40000000#32)) := by
  simp only [el]
  rw [val_main_v46_apply, val_main_v42_apply, val_main_v41_apply, val_main_v45_apply, val_main_v44_apply, val_main_v43_apply, val_main_cst_3_apply]
  generalize val_main_v34 (F := Ideal) x0 x1 (ix2 h t) = L
  generalize val_main_v29 (F := Ideal) x0 x1 (ix2 h t) = M
  generalize (0x40000000#32 : BitVec 32) = w
  rfl

theorem pick_lt {α : Type} {n k : ℕ} (hn : n < 4096) (hk : k < 4096) (a b : α) :
    Scalar.select (IntOp.cmpi .slt (BitVec.ofNat 32 n) (BitVec.ofNat 32 k)) a b = if n < k then a else b := by
  unfold Scalar.select
  refine if_congr (IntOp.cmpi_slt.trans ?_) rfl rfl
  rw [word_int hn, word_int hk]
  omega

theorem pick_lanes (y : ℝ) (l : Fin 128) :
    Scalar.select (IntOp.cmpi .slt (BitVec.ofNat 32 l.val) (BitVec.ofNat 32 3)) (1 : EReal)
      (Scalar.select (IntOp.cmpi .eq (BitVec.ofNat 32 l.val) (BitVec.ofNat 32 3)) (y : EReal) 0) = (rowLane y l : EReal) := by
  rw [pick_lt (by omega) (by omega), Attn.pick_eq (by omega) (by omega)]
  unfold rowLane
  split_ifs <;> first | rfl | omega

theorem v57_at (h : Fin 8) (s : Fin 4096) (l : Fin 128) {y : ℝ} (hy : el (s := S8x4096) (φ := .f32) (val_main_v46 (F := Ideal) x0 x1) (ix2 h s) = (y : EReal)) :
    el (s := S8x4096x128) (φ := .bf16) (val_main_v57 (F := Ideal) x0 x1) (ix3 h s l) = (rowLane y l : EReal) := by
  simp only [el] at hy ⊢
  unfold val_main_v57 val_main_v56 val_main_call4_v2 val_main_call4_v1 val_main_call4_v0 val_main_cst_6 val_main_v55 val_main_call3_v2 val_main_call3_v1 val_main_call3_v0 val_main_cst_5 val_main_v54 val_main_v53 val_main_c_4 val_main_v52 val_main_v51 val_main_c val_main_v50 val_main_v49 val_main_v48 val_main_v47
  generalize val_main_v46 (F := Ideal) x0 x1 = Y at hy ⊢
  simp only [id]
  pointwise
  rw [hy]
  exact pick_lanes y l

section Head
variable {z : Fin 4096 → Fin 6152 → ℝ} {d : Fin 4096 → Fin 1024 → ℝ} {cs : Fin 8 → Fin 4096 → ℝ}
  (hz : ∀ s n, el (s := S4096x6152) (φ := .f32) x0 (ix2 s n) = (z s n : EReal))
  (hc : ∀ h s, el (s := S8x4096) (φ := .f32) (val_main_v7 (F := Ideal) x0 x1) (ix2 h s) = (cs h s : EReal))

include hz in
theorem q_at (s : Fin 4096) (h : Fin 8) (i : Fin 128) :
    el (s := S4096x8x128) (φ := .f32) (val_main_v9 (F := Ideal) x0) (ix3 s h i) = ((headAt z d cs h).q s i : EReal) := by
  rw [v9_at, hz]; rfl

include hz in
theorem k_at (s : Fin 4096) (h : Fin 8) (i : Fin 128) :
    el (s := S4096x8x128) (φ := .f32) (val_main_v11 (F := Ideal) x0) (ix3 s h i) = ((headAt z d cs h).k s i : EReal) := by
  rw [v11_at, hz]; rfl

include hz in
theorem v_at (s : Fin 4096) (h : Fin 8) (i : Fin 128) :
    el (s := S4096x8x128) (φ := .f32) (val_main_v13 (F := Ideal) x0) (ix3 s h i) = ((headAt z d cs h).v s i : EReal) := by
  rw [v13_at, hz]; rfl

include hz hc

theorem score_at (h : Fin 8) (t u : Fin 4096) :
    el (s := S8x4096x4096) (φ := .f32) (val_main_v28 (F := Ideal) x0 x1) (ix3 h t u)
      = if u.val ≤ t.val then (((headAt z d cs h).x t u : ℝ) : EReal) else ⊥ := by
  rw [v28_at]
  refine if_congr Iff.rfl ?_ rfl
  simp only [q_at x0 (d := d) (cs := cs) hz, k_at x0 (d := d) (cs := cs) hz, hc, sqrt_lit, ← EReal.coe_mul, ← coe_sum]
  rw [div_coe HeadOf.root_pos.ne', ← EReal.coe_sub]
  rfl

theorem shift_at (h : Fin 8) (t : Fin 4096) :
    ∃ M : ℝ, el (s := S8x4096) (φ := .f32) (val_main_v29 (F := Ideal) x0 x1) (ix2 h t) = (M : EReal) := by
  rw [v29_at]
  refine isReal_max _ (fun u => ?_) (k₀ := t) ?_
  · rw [score_at x0 x1 (d := fun _ _ => 0) hz hc]
    split_ifs
    · exact Or.inr ⟨_, rfl⟩
    · exact Or.inl rfl
  · rw [score_at x0 x1 (d := fun _ _ => 0) hz hc, if_pos le_rfl]
    exact ⟨_, rfl⟩

section Row
variable {h : Fin 8} {t : Fin 4096} {M : ℝ} (hM : el (s := S8x4096) (φ := .f32) (val_main_v29 (F := Ideal) x0 x1) (ix2 h t) = (M : EReal))
include hM

theorem num_at (u : Fin 4096) :
    el (s := S8x4096x4096) (φ := .f32) (val_main_v33 (F := Ideal) x0 x1) (ix3 h t u) = ((headAt z d cs h).num (-M) t u : EReal) := by
  rw [v33_at, hM, score_at x0 x1 (d := d) hz hc]
  unfold HeadOf.num
  by_cases k : u.val ≤ t.val
  · rw [if_pos k, if_pos (Fin.le_def.2 k), ← EReal.coe_sub, exp_coe, sub_eq_add_neg]
  · rw [if_neg k, if_neg (fun e => k (Fin.le_def.1 e)), EReal.bot_sub]
    exact EReal.coe_zero.symm

theorem total_at :
    el (s := S8x4096) (φ := .f32) (val_main_v34 (F := Ideal) x0 x1) (ix2 h t) = ((∑ u, (headAt z d cs h).num (-M) t u : ℝ) : EReal) := by
  rw [v34_at]
  simp only [num_at x0 x1 (d := d) hz hc hM, ← coe_sum]

end Row

/-- The output: the values weighted by the softmax. -/
theorem output_at (s : Fin 4096) (n : Fin 1024) :
    el (s := S4096x1024) (φ := .f32) (val_main_v40 (F := Ideal) x0 x1) (ix2 s n)
      = ((∑ u, (headAt z d cs (headN n)).v u (inN n) * (headAt z d cs (headN n)).w s u : ℝ) : EReal) := by
  obtain ⟨M, hM⟩ := shift_at x0 x1 hz hc (headN n) s
  rw [v40_at, v38_at, total_at x0 x1 (d := d) hz hc hM]
  simp only [num_at x0 x1 (d := d) hz hc hM, v_at x0 (d := d) (cs := cs) hz, div_coe ((headAt z d cs (headN n)).sum_pos (-M) s).ne',
    (headAt z d cs (headN n)).w_shift (-M), ← EReal.coe_mul, ← coe_sum]

/-- The row biases, as lanes. -/
theorem lanes_at (h : Fin 8) (s : Fin 4096) (l : Fin 128) :
    el (s := S8x4096x128) (φ := .bf16) (val_main_v57 (F := Ideal) x0 x1) (ix3 h s l)
      = (rowLane (-(Real.log (∑ u, (headAt z d cs h).num 0 s u) / Real.log 2)) l : EReal) := by
  obtain ⟨M, hM⟩ := shift_at x0 x1 hz hc h s
  refine v57_at x0 x1 h s l ?_
  rw [v46_at, hM, total_at x0 x1 (d := d) hz hc hM, log_coe ((headAt z d cs h).sum_pos (-M) s), log_lit, ← EReal.coe_add, ← EReal.coe_neg, div_coe neg_log2]
  refine congrArg Real.toEReal ?_
  have e : Real.log (∑ u, (headAt z d cs h).num (-M) s u) = -M + Real.log (∑ u, (headAt z d cs h).num 0 s u) := by
    simp only [(headAt z d cs h).num_shift (-M), ← Finset.mul_sum]
    rw [Real.log_mul (Real.exp_pos _).ne' ((headAt z d cs h).sum_pos 0 s).ne', Real.log_exp]
  rw [e, div_neg, add_neg_cancel_left]

end Head

end Cert.Proof.AttnFwd.Ref

end
-- ==== Proof.AttnFwd.Algebraic.lean ====
/-
  The attention forward kernel's arrays are its reference's.
-/
module

public import proofs.«01_k».proof.Defs
public import proofs.«01_k».proof.Proof.AttnFwd.Final
public import proofs.«01_k».proof.Proof.AttnFwd.Reference
public import proofs.«01_k».proof.Proof.Gen.AttnFwdIdeal.Value
public import proofs.«01_k».proof.Proof.Gen.Pre_attn_fwd_finite

@[expose] public section

set_option maxRecDepth 16384

noncomputable section

open Idealize.ShloMosaic Idealize.ShloMosaic.TcCoe Cert.Common
open scoped BigOperators

namespace Cert.Proof.AttnFwd

open Cert.AttnFwdIdeal Cert.AttnFwdIdeal.Gen
open Cert.AttnFwdRefIdeal.Read

/-- The finiteness of the arguments, array by array. -/
theorem finite {m : (ℓ : Loc nD τ sig) → Buf (Elt Ideal) ℓ} (hpre : Cert.Pre_AttnFwdIdeal_attn_fwd_finite m) (c : Dev nD) :
    (∀ i, IsReal ((m ((c.tc : Thread nD τ).loc main_arg0) : FVec Ideal S4096x6152 .f32) i))
    ∧ (∀ i, IsReal ((m ((c.tc : Thread nD τ).loc main_arg1) : FVec Ideal S1x8 .f32) i)) := by
  obtain ⟨r0, r1⟩ := andi_one (congrFun (hpre c) ix0)
  exact ⟨real_of_all _ _ _ _ _ _ lit_inf r0, real_of_all _ _ _ _ _ _ lit_inf r1⟩

/-- The real numbers of a device's argument and running sums. -/
theorem reals {m : (ℓ : Loc nD τ sig) → Buf (Elt Ideal) ℓ} (hpre : Cert.Pre_AttnFwdIdeal_attn_fwd_finite m) (c : Dev nD) :
    ∃ z cs, Reals m c z cs := by
  obtain ⟨r0, r1⟩ := finite hpre c
  choose z hz using fun s n => r0 (ix2 s n)
  choose cs hc using fun h s => Attn.Ref.v7_real (m ((c.tc : Thread nD τ).loc main_arg0)) (m ((c.tc : Thread nD τ).loc main_arg1))
    (fun s n => r0 (ix2 s n)) (fun n => r1 (ix2 0 n)) h s
  exact ⟨z, cs, ⟨hz, fun h s => by rw [Ref.v7_eq]; exact hc h s⟩⟩

theorem algebraic : Cert.algebraic_AttnFwdIdeal_AttnFwdRefIdeal_pre_attn_fwd_finite := by
  intro m g m' g' hpre hagree
  refine ⟨_, _, Cert.AttnFwdIdeal.Value.run_blocks m g, ?_⟩
  refine (θ_run _ _ _).mono (fun r h c => ?_) (Cert.AttnFwdRefIdeal.Value.run m' g')
  obtain ⟨e0, e1⟩ := hagree c
  obtain ⟨z, cs, R⟩ := reals hpre c
  obtain ⟨h0, h1, h2⟩ := h c
  refine ⟨h0.trans ?_, h1.trans ?_, h2⟩
  · rw [val_main_v40_eq, e0, e1]
    refine Eq.trans ?_ (final4 m R).symm
    funext y
    idx_vars y
    exact Ref.output_at _ _ R.z R.cs _ _
  · rw [val_main_v57_eq, e0, e1]
    refine Eq.trans ?_ (final5 m R).symm
    funext y
    idx_vars y
    exact Ref.lanes_at _ _ R.z R.cs _ _ _

end Cert.Proof.AttnFwd

end
-- ==== Proof.lean ====
module

public import proofs.«01_k».proof.Defs
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormRefIdeal
public import proofs.«01_k».proof.Proof.Gen.Pre_prenorm_finite
public import proofs.«01_k».proof.Proof.Gen.PrenormIdeal.Value
public import proofs.«01_k».proof.Proof.Gen.PrenormRefIdeal.Run
public import proofs.«01_k».proof.Proof.Gen.PrenormRefIdeal.Read
public import proofs.«01_k».proof.Proof.Prenorm.Algebraic
public import proofs.«01_k».proof.Proof.Forget.Algebraic
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetIdeal.Value
public import proofs.«01_k».proof.Proof.Gen.ForgetRefIdeal
public import proofs.«01_k».proof.Proof.Gen.ForgetRefIdeal.Run
public import proofs.«01_k».proof.Proof.Gen.ForgetRefIdeal.Read
public import proofs.«01_k».proof.Proof.Gen.Branch
public import proofs.«01_k».proof.Proof.Gen.Branch.Skeleton
public import proofs.«01_k».proof.Proof.Gen.Branch.Launch
public import proofs.«01_k».proof.Proof.Gen.Branch.Points
public import proofs.«01_k».proof.Proof.Gen.Branch.Frame
public import proofs.«01_k».proof.Proof.Gen.BranchIdeal
public import proofs.«01_k».proof.Proof.Gen.BranchIdeal.Skeleton
public import proofs.«01_k».proof.Proof.Gen.BranchIdeal.Launch
public import proofs.«01_k».proof.Proof.Gen.BranchIdeal.Points
public import proofs.«01_k».proof.Proof.Gen.BranchIdeal.Frame
public import proofs.«01_k».proof.Proof.Gen.BranchIdeal.Value
public import proofs.«01_k».proof.Proof.Gen.BranchRefIdeal
public import proofs.«01_k».proof.Proof.Gen.BranchRefIdeal.Run
public import proofs.«01_k».proof.Proof.Gen.BranchRefIdeal.Read
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.HeadRefIdeal.Read
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwd.Loops
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Loops
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.AttnFwdIdeal.Value
public import proofs.«01_k».proof.Proof.Gen.Pre_attn_fwd_finite
public import proofs.«01_k».proof.Proof.Gen.Proj
public import proofs.«01_k».proof.Proof.Gen.ProjIdeal
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Residual
public import proofs.«01_k».proof.Proof.Gen.ResidualIdeal
public import proofs.«01_k».proof.Proof.Gen.Residual.Frame
public import proofs.«01_k».proof.Proof.Gen.ResidualIdeal.Frame
public import proofs.«01_k».proof.Proof.Gen.ResidualIdeal.Value
public import proofs.«01_k».proof.Proof.Gen.ResidualRefIdeal
public import proofs.«01_k».proof.Proof.Gen.ResidualRefIdeal.Run
public import proofs.«01_k».proof.Proof.Gen.ResidualRefIdeal.Read
public import proofs.«01_k».proof.Proof.Lru.Kept
public import proofs.«01_k».proof.Proof.Lru.KeptIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Attn.Kept
public import proofs.«01_k».proof.Proof.Attn.KeptIdeal
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Branch.Algebraic
public import proofs.«01_k».proof.Proof.Gen.Pre_branch_finite
public import proofs.«01_k».proof.Proof.Gen.Pre_head_finite
public import proofs.«01_k».proof.Proof.Head.Algebraic
public import proofs.«01_k».proof.Proof.Gen.Pre_attn_finite
public import proofs.«01_k».proof.Proof.Attn.Algebraic
public import proofs.«01_k».proof.Proof.Proj.Algebraic
public import proofs.«01_k».proof.Proof.Residual.Algebraic
public import proofs.«01_k».proof.Proof.AttnFwd.Algebraic
public import Idealize.ShloMosaic.Adequacy
public import Idealize.ShloMosaic.Init

@[expose] public section

noncomputable section

namespace Cert.Proof

open Idealize.ShloMosaic Idealize.SL.Sem Cert.Prenorm

theorem prenorm_reference_frame : Cert.quiescent_PrenormRefIdeal := fun m g _ =>
  (θ_run Cert.PrenormRefIdeal.defs _ _).mono
    (fun r h => ⟨fun c => (h c).2.2, Idealize.ShloMosaic.sem_eq_zero_of_no_sems (by decide) r.2⟩)
    (Cert.PrenormRefIdeal.Value.run (F := Ideal) m g)

theorem forget_reference_frame : Cert.quiescent_ForgetRefIdeal := fun m g _ =>
  (θ_run Cert.ForgetRefIdeal.defs _ _).mono
    (fun r h => ⟨fun c => (h c).2.2, Idealize.ShloMosaic.sem_eq_zero_of_no_sems (by decide) r.2⟩)
    (Cert.ForgetRefIdeal.Value.run (F := Ideal) m g)

theorem branch_reference_frame : Cert.quiescent_BranchRefIdeal := fun m g _ =>
  (θ_run Cert.BranchRefIdeal.defs _ _).mono
    (fun r h => ⟨fun c => (h c).2.2.2.2.2.2.2, Idealize.ShloMosaic.sem_eq_zero_of_no_sems (by decide) r.2⟩)
    (Cert.BranchRefIdeal.Value.run (F := Ideal) m g)

theorem head_reference_frame : Cert.quiescent_HeadRefIdeal := fun m g _ =>
  (θ_run Cert.HeadRefIdeal.defs _ _).mono
    (fun r h => ⟨fun c => (h c).2.2.2.2.2.2.2.2, Idealize.ShloMosaic.sem_eq_zero_of_no_sems (by decide) r.2⟩)
    (Cert.HeadRefIdeal.Value.run (F := Ideal) m g)

theorem attn_reference_frame : Cert.quiescent_AttnRefIdeal := fun m g _ =>
  (θ_run Cert.AttnRefIdeal.defs _ _).mono
    (fun r h => ⟨fun c => (h c).2.2.2.2.2, Idealize.ShloMosaic.sem_eq_zero_of_no_sems (by decide) r.2⟩)
    (Cert.AttnRefIdeal.Value.run (F := Ideal) m g)

theorem attnfwd_reference_frame : Cert.quiescent_AttnFwdRefIdeal := fun m g _ =>
  (θ_run Cert.AttnFwdRefIdeal.defs _ _).mono
    (fun r h => ⟨fun c => (h c).2.2, Idealize.ShloMosaic.sem_eq_zero_of_no_sems (by decide) r.2⟩)
    (Cert.AttnFwdRefIdeal.Value.run (F := Ideal) m g)

theorem proj_reference_frame : Cert.quiescent_ProjRefIdeal := fun m g _ =>
  (θ_run Cert.ProjRefIdeal.defs _ _).mono
    (fun r h => ⟨fun c => (h c).2.2, Idealize.ShloMosaic.sem_eq_zero_of_no_sems (by decide) r.2⟩)
    (Cert.ProjRefIdeal.Value.run (F := Ideal) m g)

theorem residual_reference_frame : Cert.quiescent_ResidualRefIdeal := fun m g _ =>
  (θ_run Cert.ResidualRefIdeal.defs _ _).mono
    (fun r h => ⟨fun c => (h c).2.2.2.2, Idealize.ShloMosaic.sem_eq_zero_of_no_sems (by decide) r.2⟩)
    (Cert.ResidualRefIdeal.Value.run (F := Ideal) m g)

theorem claim : Cert.Claim := ⟨Cert.Prenorm.Gen.facts, Cert.PrenormIdeal.Gen.facts, Cert.PrenormRefIdeal.Gen.facts, Cert.Forget.Gen.facts, Cert.ForgetIdeal.Gen.facts, Cert.ForgetRefIdeal.Gen.facts, Cert.Branch.Gen.facts, Cert.BranchIdeal.Gen.facts, Cert.BranchRefIdeal.Gen.facts, Cert.Head.Gen.facts, Cert.HeadIdeal.Gen.facts, Cert.HeadRefIdeal.Gen.facts, Cert.Attn.Gen.facts, Cert.AttnIdeal.Gen.facts, Cert.AttnRefIdeal.Gen.facts, Cert.Lru.Gen.facts, Cert.LruIdeal.Gen.facts, Cert.AttnFwd.Gen.facts, Cert.AttnFwdIdeal.Gen.facts, Cert.AttnFwdRefIdeal.Gen.facts, Cert.Proj.Gen.facts, Cert.ProjIdeal.Gen.facts, Cert.ProjRefIdeal.Gen.facts, Cert.Residual.Gen.facts, Cert.ResidualIdeal.Gen.facts, Cert.ResidualRefIdeal.Gen.facts, Cert.Pre_prenorm_finite.Gen.facts, Cert.Pre_branch_finite.Gen.facts, Cert.Pre_head_finite.Gen.facts, Cert.Pre_attn_finite.Gen.facts, Cert.Pre_attn_fwd_finite.Gen.facts,
  fun m g _ => Cert.Prenorm.Gen.frame m g,
  fun m g _ => Cert.PrenormIdeal.Gen.frame m g,
  fun m g _ => Cert.PrenormIdeal.Gen.frame m g,
  fun m g _ => prenorm_reference_frame m g trivial,
  fun m g _ => prenorm_reference_frame m g trivial,
  fun m g _ => Cert.Forget.Gen.frame m g,
  fun m g _ => Cert.ForgetIdeal.Gen.frame m g,
  fun m g _ => forget_reference_frame m g trivial,
  fun m g _ => Cert.Branch.Gen.frame m g,
  fun m g _ => Cert.BranchIdeal.Gen.frame m g,
  fun m g _ => Cert.BranchIdeal.Gen.frame m g,
  fun m g _ => branch_reference_frame m g trivial,
  fun m g _ => branch_reference_frame m g trivial,
  fun m g _ => Cert.Head.Gen.frame m g,
  fun m g _ => Cert.HeadIdeal.Gen.frame m g,
  fun m g _ => Cert.HeadIdeal.Gen.frame m g,
  fun m g _ => head_reference_frame m g trivial,
  fun m g _ => head_reference_frame m g trivial,
  fun m g _ => Cert.Attn.Hand.frame m g,
  fun m g _ => Cert.AttnIdeal.Hand.frame m g,
  fun m g _ => Cert.AttnIdeal.Hand.frame m g,
  fun m g _ => attn_reference_frame m g trivial,
  fun m g _ => attn_reference_frame m g trivial,
  fun m g _ => Cert.Lru.Hand.frame m g,
  fun m g _ => Cert.LruIdeal.Hand.frame m g,
  fun m g _ => Cert.AttnFwd.Gen.frame m g,
  fun m g _ => Cert.AttnFwdIdeal.Gen.frame m g,
  fun m g _ => Cert.AttnFwdIdeal.Gen.frame m g,
  fun m g _ => attnfwd_reference_frame m g trivial,
  fun m g _ => attnfwd_reference_frame m g trivial,
  fun m g _ => Cert.Proj.Gen.frame m g,
  fun m g _ => Cert.ProjIdeal.Gen.frame m g,
  fun m g _ => proj_reference_frame m g trivial,
  fun m g _ => Cert.Residual.Gen.frame m g,
  fun m g _ => Cert.ResidualIdeal.Gen.frame m g,
  fun m g _ => residual_reference_frame m g trivial,
  trivial,
  Prenorm.algebraic,
  trivial,
  Forget.algebraic,
  trivial,
  Branch.algebraic,
  trivial,
  Head.algebraic,
  ⟨IdealRules.named_const.statement _ _ _ _ _ rfl,
    IdealRules.named_const.statement _ _ _ _ _ rfl,
    IdealRules.named_const.statement _ _ _ _ _ rfl⟩,
  Attn.algebraic,
  trivial,
  ⟨IdealRules.named_const.statement _ _ _ _ _ rfl,
    IdealRules.named_const.statement _ _ _ _ _ rfl⟩,
  AttnFwd.algebraic,
  IdealRules.named_const.statement _ _ _ _ _ rfl,
  Proj.algebraic,
  trivial,
  Residual.algebraic⟩

end Cert.Proof

end
